-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  IdealRules.named_const.Statement Cert.KernelIdeal.κ "neg_inv_ln2" .f32 0xBFB8AA3B#32 ((-((Real.log 2)⁻¹) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v139)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v473) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x768x16x16 : Shape := ⟨4, ![2, 768, 16, 16]⟩
abbrev S2x384x32x32 : Shape := ⟨4, ![2, 384, 32, 32]⟩
abbrev S1536x768 : Shape := ⟨2, ![1536, 768]⟩
abbrev S384 : Shape := ⟨1, ![384]⟩
abbrev S384x768 : Shape := ⟨2, ![384, 768]⟩
abbrev S2x384 : Shape := ⟨2, ![2, 384]⟩
abbrev S2x1536x384 : Shape := ⟨3, ![2, 1536, 384]⟩
abbrev S2x768x3x3 : Shape := ⟨4, ![2, 768, 3, 3]⟩
abbrev S2x768 : Shape := ⟨2, ![2, 768]⟩
abbrev S2x4x56x768 : Shape := ⟨4, ![2, 4, 56, 768]⟩
abbrev S2x4x768x24 : Shape := ⟨4, ![2, 4, 768, 24]⟩
abbrev S2x4x768 : Shape := ⟨3, ![2, 4, 768]⟩
abbrev S2x4x768x16 : Shape := ⟨4, ![2, 4, 768, 16]⟩
abbrev S2x384x768 : Shape := ⟨3, ![2, 384, 768]⟩
abbrev S_ : Shape := ⟨0, ![]⟩

class Facts : Prop where
  bcast_S_S2x768x16x16 : S_.BroadcastsInDim S2x768x16x16 (![] : Fin 0 → Fin S2x768x16x16.rank)
  bcast_S_S2x384x32x32 : S_.BroadcastsInDim S2x384x32x32 (![] : Fin 0 → Fin S2x384x32x32.rank)
  bcast_S_S1536x768 : S_.BroadcastsInDim S1536x768 (![] : Fin 0 → Fin S1536x768.rank)
  bcast_S_S384 : S_.BroadcastsInDim S384 (![] : Fin 0 → Fin S384.rank)
  bcast_S_S384x768 : S_.BroadcastsInDim S384x768 (![] : Fin 0 → Fin S384x768.rank)
  bcast_S_S2x384 : S_.BroadcastsInDim S2x384 (![] : Fin 0 → Fin S2x384.rank)
  bcast_S_S2x1536x384 : S_.BroadcastsInDim S2x1536x384 (![] : Fin 0 → Fin S2x1536x384.rank)
  bcast_S_S2x768x3x3 : S_.BroadcastsInDim S2x768x3x3 (![] : Fin 0 → Fin S2x768x3x3.rank)
  bcast_S_S2x768 : S_.BroadcastsInDim S2x768 (![] : Fin 0 → Fin S2x768.rank)
  bcast_S_S2x4x56x768 : S_.BroadcastsInDim S2x4x56x768 (![] : Fin 0 → Fin S2x4x56x768.rank)
  bcast_S_S2x4x768x24 : S_.BroadcastsInDim S2x4x768x24 (![] : Fin 0 → Fin S2x4x768x24.rank)
  bcast_S_S2x4x768 : S_.BroadcastsInDim S2x4x768 (![] : Fin 0 → Fin S2x4x768.rank)
  bcast_S_S2x4x768x16 : S_.BroadcastsInDim S2x4x768x16 (![] : Fin 0 → Fin S2x4x768x16.rank)
  bcast_S_S2x384x768 : S_.BroadcastsInDim S2x384x768 (![] : Fin 0 → Fin S2x384x768.rank)

variable [Facts]

def fn_part3 {F : FTy → Type} [FloatOps F] (main_arg18 : FVec F S2x768 .f32) (main_arg19 : FVec F S2x384x768 .f32) (main_v2 : IVec S2x768x16x16 1) (main_v5 : IVec S2x384x32x32 1) (main_v8 : IVec S1536x768 1) (main_v11 : IVec S384 1) (main_v14 : IVec S384 1) (main_v17 : IVec S384x768 1) (main_v20 : IVec S384 1) (main_v23 : IVec S2x384 1) (main_v26 : IVec S2x384 1) (main_v29 : IVec S2x1536x384 1) (main_v32 : IVec S2x768x3x3 1) (main_v35 : IVec S2x768 1) (main_v38 : IVec S2x4x56x768 1) (main_v41 : IVec S2x4x768x24 1) (main_v44 : IVec S2x4x768 1) (main_v47 : IVec S2x4x768x16 1) (main_v50 : IVec S2x4x768 1) (main_v53 : IVec S2x768 1) : IVec S2x768x16x16 1 × IVec S2x384x32x32 1 × IVec S1536x768 1 × IVec S384 1 × IVec S384 1 × IVec S384x768 1 × IVec S384 1 × IVec S2x384 1 × IVec S2x384 1 × IVec S2x1536x384 1 × IVec S2x768x3x3 1 × IVec S2x768 1 × IVec S2x4x56x768 1 × IVec S2x4x768x24 1 × IVec S2x4x768 1 × IVec S2x4x768x16 1 × IVec S2x4x768 1 × IVec S2x768 1 × IVec S2x768 1 × IVec S2x384x768 1 :=
  let main_v54 : FVec F S2x768 .f32 := Host.absf main_arg18
  let main_cst_17 : FVec F S_ .f32 := constant S_ .f32 0x7F800000#32
  let main_v55 : FVec F S2x768 .f32 := broadcastInDim S2x768 ![] bcast_S_S2x768 main_cst_17
  let main_v56 : IVec S2x768 1 := cmpf .olt main_v54 main_v55
  let main_v57 : FVec F S2x384x768 .f32 := Host.absf main_arg19
  let main_cst_18 : FVec F S_ .f32 := constant S_ .f32 0x7F800000#32
  let main_v58 : FVec F S2x384x768 .f32 := broadcastInDim S2x384x768 ![] bcast_S_S2x384x768 main_cst_18
  let main_v59 : IVec S2x384x768 1 := cmpf .olt main_v57 main_v58
  (main_v2, main_v5, main_v8, main_v11, main_v14, main_v17, main_v20, main_v23, main_v26, main_v29, main_v32, main_v35, main_v38, main_v41, main_v44, main_v47, main_v50, main_v53, main_v56, main_v59)

def fn_part2 {F : FTy → Type} [FloatOps F] (main_arg12 : FVec F S2x4x56x768 .f32) (main_arg13 : FVec F S2x4x768x24 .f32) (main_arg14 : FVec F S2x4x768 .f32) (main_arg15 : FVec F S2x4x768x16 .f32) (main_arg16 : FVec F S2x4x768 .f32) (main_arg17 : FVec F S2x768 .f32) (main_arg18 : FVec F S2x768 .f32) (main_arg19 : FVec F S2x384x768 .f32) (main_v2 : IVec S2x768x16x16 1) (main_v5 : IVec S2x384x32x32 1) (main_v8 : IVec S1536x768 1) (main_v11 : IVec S384 1) (main_v14 : IVec S384 1) (main_v17 : IVec S384x768 1) (main_v20 : IVec S384 1) (main_v23 : IVec S2x384 1) (main_v26 : IVec S2x384 1) (main_v29 : IVec S2x1536x384 1) (main_v32 : IVec S2x768x3x3 1) (main_v35 : IVec S2x768 1) : IVec S2x768x16x16 1 × IVec S2x384x32x32 1 × IVec S1536x768 1 × IVec S384 1 × IVec S384 1 × IVec S384x768 1 × IVec S384 1 × IVec S2x384 1 × IVec S2x384 1 × IVec S2x1536x384 1 × IVec S2x768x3x3 1 × IVec S2x768 1 × IVec S2x4x56x768 1 × IVec S2x4x768x24 1 × IVec S2x4x768 1 × IVec S2x4x768x16 1 × IVec S2x4x768 1 × IVec S2x768 1 × IVec S2x768 1 × IVec S2x384x768 1 :=
  let main_v36 : FVec F S2x4x56x768 .f32 := Host.absf main_arg12
  let main_cst_11 : FVec F S_ .f32 := constant S_ .f32 0x7F800000#32
  let main_v37 : FVec F S2x4x56x768 .f32 := broadcastInDim S2x4x56x768 ![] bcast_S_S2x4x56x768 main_cst_11
  let main_v38 : IVec S2x4x56x768 1 := cmpf .olt main_v36 main_v37
  let main_v39 : FVec F S2x4x768x24 .f32 := Host.absf main_arg13
  let main_cst_12 : FVec F S_ .f32 := constant S_ .f32 0x7F800000#32
  let main_v40 : FVec F S2x4x768x24 .f32 := broadcastInDim S2x4x768x24 ![] bcast_S_S2x4x768x24 main_cst_12
  let main_v41 : IVec S2x4x768x24 1 := cmpf .olt main_v39 main_v40
  let main_v42 : FVec F S2x4x768 .f32 := Host.absf main_arg14
  let main_cst_13 : FVec F S_ .f32 := constant S_ .f32 0x7F800000#32
  let main_v43 : FVec F S2x4x768 .f32 := broadcastInDim S2x4x768 ![] bcast_S_S2x4x768 main_cst_13
  let main_v44 : IVec S2x4x768 1 := cmpf .olt main_v42 main_v43
  let main_v45 : FVec F S2x4x768x16 .f32 := Host.absf main_arg15
  let main_cst_14 : FVec F S_ .f32 := constant S_ .f32 0x7F800000#32
  let main_v46 : FVec F S2x4x768x16 .f32 := broadcastInDim S2x4x768x16 ![] bcast_S_S2x4x768x16 main_cst_14
  let main_v47 : IVec S2x4x768x16 1 := cmpf .olt main_v45 main_v46
  let main_v48 : FVec F S2x4x768 .f32 := Host.absf main_arg16
  let main_cst_15 : FVec F S_ .f32 := constant S_ .f32 0x7F800000#32
  let main_v49 : FVec F S2x4x768 .f32 := broadcastInDim S2x4x768 ![] bcast_S_S2x4x768 main_cst_15
  let main_v50 : IVec S2x4x768 1 := cmpf .olt main_v48 main_v49
  let main_v51 : FVec F S2x768 .f32 := Host.absf main_arg17
  let main_cst_16 : FVec F S_ .f32 := constant S_ .f32 0x7F800000#32
  let main_v52 : FVec F S2x768 .f32 := broadcastInDim S2x768 ![] bcast_S_S2x768 main_cst_16
  let main_v53 : IVec S2x768 1 := cmpf .olt main_v51 main_v52
  fn_part3 (F := F) main_arg18 main_arg19 main_v2 main_v5 main_v8 main_v11 main_v14 main_v17 main_v20 main_v23 main_v26 main_v29 main_v32 main_v35 main_v38 main_v41 main_v44 main_v47 main_v50 main_v53

def fn_part1 {F : FTy → Type} [FloatOps F] (main_arg6 : FVec F S384 .f32) (main_arg7 : FVec F S2x384 .f32) (main_arg8 : FVec F S2x384 .f32) (main_arg9 : FVec F S2x1536x384 .f32) (main_arg10 : FVec F S2x768x3x3 .f32) (main_arg11 : FVec F S2x768 .f32) (main_arg12 : FVec F S2x4x56x768 .f32) (main_arg13 : FVec F S2x4x768x24 .f32) (main_arg14 : FVec F S2x4x768 .f32) (main_arg15 : FVec F S2x4x768x16 .f32) (main_arg16 : FVec F S2x4x768 .f32) (main_arg17 : FVec F S2x768 .f32) (main_arg18 : FVec F S2x768 .f32) (main_arg19 : FVec F S2x384x768 .f32) (main_v2 : IVec S2x768x16x16 1) (main_v5 : IVec S2x384x32x32 1) (main_v8 : IVec S1536x768 1) (main_v11 : IVec S384 1) (main_v14 : IVec S384 1) (main_v17 : IVec S384x768 1) : IVec S2x768x16x16 1 × IVec S2x384x32x32 1 × IVec S1536x768 1 × IVec S384 1 × IVec S384 1 × IVec S384x768 1 × IVec S384 1 × IVec S2x384 1 × IVec S2x384 1 × IVec S2x1536x384 1 × IVec S2x768x3x3 1 × IVec S2x768 1 × IVec S2x4x56x768 1 × IVec S2x4x768x24 1 × IVec S2x4x768 1 × IVec S2x4x768x16 1 × IVec S2x4x768 1 × IVec S2x768 1 × IVec S2x768 1 × IVec S2x384x768 1 :=
  let main_v18 : FVec F S384 .f32 := Host.absf main_arg6
  let main_cst_5 : FVec F S_ .f32 := constant S_ .f32 0x7F800000#32
  let main_v19 : FVec F S384 .f32 := broadcastInDim S384 ![] bcast_S_S384 main_cst_5
  let main_v20 : IVec S384 1 := cmpf .olt main_v18 main_v19
  let main_v21 : FVec F S2x384 .f32 := Host.absf main_arg7
  let main_cst_6 : FVec F S_ .f32 := constant S_ .f32 0x7F800000#32
  let main_v22 : FVec F S2x384 .f32 := broadcastInDim S2x384 ![] bcast_S_S2x384 main_cst_6
  let main_v23 : IVec S2x384 1 := cmpf .olt main_v21 main_v22
  let main_v24 : FVec F S2x384 .f32 := Host.absf main_arg8
  let main_cst_7 : FVec F S_ .f32 := constant S_ .f32 0x7F800000#32
  let main_v25 : FVec F S2x384 .f32 := broadcastInDim S2x384 ![] bcast_S_S2x384 main_cst_7
  let main_v26 : IVec S2x384 1 := cmpf .olt main_v24 main_v25
  let main_v27 : FVec F S2x1536x384 .f32 := Host.absf main_arg9
  let main_cst_8 : FVec F S_ .f32 := constant S_ .f32 0x7F800000#32
  let main_v28 : FVec F S2x1536x384 .f32 := broadcastInDim S2x1536x384 ![] bcast_S_S2x1536x384 main_cst_8
  let main_v29 : IVec S2x1536x384 1 := cmpf .olt main_v27 main_v28
  let main_v30 : FVec F S2x768x3x3 .f32 := Host.absf main_arg10
  let main_cst_9 : FVec F S_ .f32 := constant S_ .f32 0x7F800000#32
  let main_v31 : FVec F S2x768x3x3 .f32 := broadcastInDim S2x768x3x3 ![] bcast_S_S2x768x3x3 main_cst_9
  let main_v32 : IVec S2x768x3x3 1 := cmpf .olt main_v30 main_v31
  let main_v33 : FVec F S2x768 .f32 := Host.absf main_arg11
  let main_cst_10 : FVec F S_ .f32 := constant S_ .f32 0x7F800000#32
  let main_v34 : FVec F S2x768 .f32 := broadcastInDim S2x768 ![] bcast_S_S2x768 main_cst_10
  let main_v35 : IVec S2x768 1 := cmpf .olt main_v33 main_v34
  fn_part2 (F := F) main_arg12 main_arg13 main_arg14 main_arg15 main_arg16 main_arg17 main_arg18 main_arg19 main_v2 main_v5 main_v8 main_v11 main_v14 main_v17 main_v20 main_v23 main_v26 main_v29 main_v32 main_v35

def fn {F : FTy → Type} [FloatOps F] (main_arg0 : FVec F S2x768x16x16 .f32) (main_arg1 : FVec F S2x384x32x32 .f32) (main_arg2 : FVec F S1536x768 .f32) (main_arg3 : FVec F S384 .f32) (main_arg4 : FVec F S384 .f32) (main_arg5 : FVec F S384x768 .f32) (main_arg6 : FVec F S384 .f32) (main_arg7 : FVec F S2x384 .f32) (main_arg8 : FVec F S2x384 .f32) (main_arg9 : FVec F S2x1536x384 .f32) (main_arg10 : FVec F S2x768x3x3 .f32) (main_arg11 : FVec F S2x768 .f32) (main_arg12 : FVec F S2x4x56x768 .f32) (main_arg13 : FVec F S2x4x768x24 .f32) (main_arg14 : FVec F S2x4x768 .f32) (main_arg15 : FVec F S2x4x768x16 .f32) (main_arg16 : FVec F S2x4x768 .f32) (main_arg17 : FVec F S2x768 .f32) (main_arg18 : FVec F S2x768 .f32) (main_arg19 : FVec F S2x384x768 .f32) : IVec S2x768x16x16 1 × IVec S2x384x32x32 1 × IVec S1536x768 1 × IVec S384 1 × IVec S384 1 × IVec S384x768 1 × IVec S384 1 × IVec S2x384 1 × IVec S2x384 1 × IVec S2x1536x384 1 × IVec S2x768x3x3 1 × IVec S2x768 1 × IVec S2x4x56x768 1 × IVec S2x4x768x24 1 × IVec S2x4x768 1 × IVec S2x4x768x16 1 × IVec S2x4x768 1 × IVec S2x768 1 × IVec S2x768 1 × IVec S2x384x768 1 :=
  let main_v0 : FVec F S2x768x16x16 .f32 := Host.absf main_arg0
  let main_cst : FVec F S_ .f32 := constant S_ .f32 0x7F800000#32
  let main_v1 : FVec F S2x768x16x16 .f32 := broadcastInDim S2x768x16x16 ![] bcast_S_S2x768x16x16 main_cst
  let main_v2 : IVec S2x768x16x16 1 := cmpf .olt main_v0 main_v1
  let main_v3 : FVec F S2x384x32x32 .f32 := Host.absf main_arg1
  let main_cst_0 : FVec F S_ .f32 := constant S_ .f32 0x7F800000#32
  let main_v4 : FVec F S2x384x32x32 .f32 := broadcastInDim S2x384x32x32 ![] bcast_S_S2x384x32x32 main_cst_0
  let main_v5 : IVec S2x384x32x32 1 := cmpf .olt main_v3 main_v4
  let main_v6 : FVec F S1536x768 .f32 := Host.absf main_arg2
  let main_cst_1 : FVec F S_ .f32 := constant S_ .f32 0x7F800000#32
  let main_v7 : FVec F S1536x768 .f32 := broadcastInDim S1536x768 ![] bcast_S_S1536x768 main_cst_1
  let main_v8 : IVec S1536x768 1 := cmpf .olt main_v6 main_v7
  let main_v9 : FVec F S384 .f32 := Host.absf main_arg3
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_v12 : FVec F S384 .f32 := Host.absf main_arg4
  let main_cst_3 : FVec F S_ .f32 := constant S_ .f32 0x7F800000#32
  let main_v13 : FVec F S384 .f32 := broadcastInDim S384 ![] bcast_S_S384 main_cst_3
  let main_v14 : IVec S384 1 := cmpf .olt main_v12 main_v13
  let main_v15 : FVec F S384x768 .f32 := Host.absf main_arg5
  let main_cst_4 : FVec F S_ .f32 := constant S_ .f32 0x7F800000#32
  let main_v16 : FVec F S384x768 .f32 := broadcastInDim S384x768 ![] bcast_S_S384x768 main_cst_4
  let main_v17 : IVec S384x768 1 := cmpf .olt main_v15 main_v16
  fn_part1 (F := F) main_arg6 main_arg7 main_arg8 main_arg9 main_arg10 main_arg11 main_arg12 main_arg13 main_arg14 main_arg15 main_arg16 main_arg17 main_arg18 main_arg19 main_v2 main_v5 main_v8 main_v11 main_v14 main_v17
-- ==== Kernel.lean ====
abbrev S2x768x16x16 : Shape := ⟨4, ![2, 768, 16, 16]⟩
abbrev S2x384x32x32 : Shape := ⟨4, ![2, 384, 32, 32]⟩
abbrev S1536x768 : Shape := ⟨2, ![1536, 768]⟩
abbrev S384 : Shape := ⟨1, ![384]⟩
abbrev S384x768 : Shape := ⟨2, ![384, 768]⟩
abbrev S2x384 : Shape := ⟨2, ![2, 384]⟩
abbrev S2x1536x384 : Shape := ⟨3, ![2, 1536, 384]⟩
abbrev S2x768x3x3 : Shape := ⟨4, ![2, 768, 3, 3]⟩
abbrev S2x768 : Shape := ⟨2, ![2, 768]⟩
abbrev S2x4x56x768 : Shape := ⟨4, ![2, 4, 56, 768]⟩
abbrev S2x4x768x24 : Shape := ⟨4, ![2, 4, 768, 24]⟩
abbrev S2x4x768 : Shape := ⟨3, ![2, 4, 768]⟩
abbrev S2x4x768x16 : Shape := ⟨4, ![2, 4, 768, 16]⟩
abbrev S2x384x768 : Shape := ⟨3, ![2, 384, 768]⟩
abbrev S2x16x16x768 : Shape := ⟨4, ![2, 16, 16, 768]⟩
abbrev S512x768 : Shape := ⟨2, ![512, 768]⟩
abbrev S1x384 : Shape := ⟨2, ![1, 384]⟩
abbrev S512x1536 : Shape := ⟨2, ![512, 1536]⟩
abbrev S512x384 : Shape := ⟨2, ![512, 384]⟩
abbrev S512 : Shape := ⟨1, ![512]⟩
abbrev S512x1 : Shape := ⟨2, ![512, 1]⟩
abbrev S2x16x16x2x2x384 : Shape := ⟨6, ![2, 16, 16, 2, 2, 384]⟩
abbrev S2x16x2x16x2x384 : Shape := ⟨6, ![2, 16, 2, 16, 2, 384]⟩
abbrev S2048x384 : Shape := ⟨2, ![2048, 384]⟩
abbrev S2x32x32x384 : Shape := ⟨4, ![2, 32, 32, 384]⟩
abbrev S384x384 : Shape := ⟨2, ![384, 384]⟩
abbrev S1x1536x384 : Shape := ⟨3, ![1, 1536, 384]⟩
abbrev S1536x384 : Shape := ⟨2, ![1536, 384]⟩
abbrev S2048x768 : Shape := ⟨2, ![2048, 768]⟩
abbrev S256x384 : Shape := ⟨2, ![256, 384]⟩
abbrev S256x768 : Shape := ⟨2, ![256, 768]⟩
abbrev S256 : Shape := ⟨1, ![256]⟩
abbrev S256x1 : Shape := ⟨2, ![256, 1]⟩
abbrev S256x1536 : Shape := ⟨2, ![256, 1536]⟩
abbrev S1x768x3x3 : Shape := ⟨4, ![1, 768, 3, 3]⟩
abbrev S768x3x3 : Shape := ⟨3, ![768, 3, 3]⟩
abbrev S768x9 : Shape := ⟨2, ![768, 9]⟩
abbrev S9x768 : Shape := ⟨2, ![9, 768]⟩
abbrev S1x768 : Shape := ⟨2, ![1, 768]⟩
abbrev S768 : Shape := ⟨1, ![768]⟩
abbrev S2x1024x768 : Shape := ⟨3, ![2, 1024, 768]⟩
abbrev S1x1024x768 : Shape := ⟨3, ![1, 1024, 768]⟩
abbrev S1024x768 : Shape := ⟨2, ![1024, 768]⟩
abbrev S1024x1 : Shape := ⟨2, ![1024, 1]⟩
abbrev S33x768 : Shape := ⟨2, ![33, 768]⟩
abbrev S991x768 : Shape := ⟨2, ![991, 768]⟩
abbrev S32x768 : Shape := ⟨2, ![32, 768]⟩
abbrev S992x768 : Shape := ⟨2, ![992, 768]⟩
abbrev S31x768 : Shape := ⟨2, ![31, 768]⟩
abbrev S993x768 : Shape := ⟨2, ![993, 768]⟩
abbrev S1023x768 : Shape := ⟨2, ![1023, 768]⟩
abbrev S2x32x32x768 : Shape := ⟨4, ![2, 32, 32, 768]⟩
abbrev S2x1x1024x768 : Shape := ⟨4, ![2, 1, 1024, 768]⟩
abbrev S2x2x1024x768 : Shape := ⟨4, ![2, 2, 1024, 768]⟩
abbrev S1x4x56x768 : Shape := ⟨4, ![1, 4, 56, 768]⟩
abbrev S4x56x768 : Shape := ⟨3, ![4, 56, 768]⟩
abbrev S1x4x768x24 : Shape := ⟨4, ![1, 4, 768, 24]⟩
abbrev S4x768x24 : Shape := ⟨3, ![4, 768, 24]⟩
abbrev S1x4x768 : Shape := ⟨3, ![1, 4, 768]⟩
abbrev S4x768 : Shape := ⟨2, ![4, 768]⟩
abbrev S4x1x768 : Shape := ⟨3, ![4, 1, 768]⟩
abbrev S1x4x768x16 : Shape := ⟨4, ![1, 4, 768, 16]⟩
abbrev S4x768x16 : Shape := ⟨3, ![4, 768, 16]⟩
abbrev S4x16x768 : Shape := ⟨3, ![4, 16, 768]⟩
abbrev S2x4x1024x768 : Shape := ⟨4, ![2, 4, 1024, 768]⟩
abbrev S1x1x1024x768 : Shape := ⟨4, ![1, 1, 1024, 768]⟩
abbrev S1x56x768 : Shape := ⟨3, ![1, 56, 768]⟩
abbrev S1x768x24 : Shape := ⟨3, ![1, 768, 24]⟩
abbrev S1x1x768 : Shape := ⟨3, ![1, 1, 768]⟩
abbrev S1x16x768 : Shape := ⟨3, ![1, 16, 768]⟩
abbrev S1024x32 : Shape := ⟨2, ![1024, 32]⟩
abbrev S16x768 : Shape := ⟨2, ![16, 768]⟩
abbrev S56x768 : Shape := ⟨2, ![56, 768]⟩
abbrev S1024x56 : Shape := ⟨2, ![1024, 56]⟩
abbrev S1024x24 : Shape := ⟨2, ![1024, 24]⟩
abbrev S768x24 : Shape := ⟨2, ![768, 24]⟩
abbrev S128x768 : Shape := ⟨2, ![128, 768]⟩
abbrev S128x32 : Shape := ⟨2, ![128, 32]⟩
abbrev S32x128 : Shape := ⟨2, ![32, 128]⟩
abbrev S16x1 : Shape := ⟨2, ![16, 1]⟩
abbrev S1x1x128x768 : Shape := ⟨4, ![1, 1, 128, 768]⟩
abbrev S1x384x768 : Shape := ⟨3, ![1, 384, 768]⟩
abbrev S1024x384 : Shape := ⟨2, ![1024, 384]⟩
abbrev S1024 : Shape := ⟨1, ![1024]⟩

abbrev nBuf : Space → Nat
  | .hbm => 162
  | .vmem => 105
  | .smem => 0
  | _ => 0

abbrev hbmTy0_0 (i : Nat) : BufTy := match i % 128 with
  | 0 => ⟨S2x768x16x16, .f32⟩
  | 1 => ⟨S2x384x32x32, .f32⟩
  | 2 => ⟨S1536x768, .f32⟩
  | 3 => ⟨S384, .f32⟩
  | 4 => ⟨S384, .f32⟩
  | 5 => ⟨S384x768, .f32⟩
  | 6 => ⟨S384, .f32⟩
  | 7 => ⟨S2x384, .f32⟩
  | 8 => ⟨S2x384, .f32⟩
  | 9 => ⟨S2x1536x384, .f32⟩
  | 10 => ⟨S2x768x3x3, .f32⟩
  | 11 => ⟨S2x768, .f32⟩
  | 12 => ⟨S2x4x56x768, .f32⟩
  | 13 => ⟨S2x4x768x24, .f32⟩
  | 14 => ⟨S2x4x768, .f32⟩
  | 15 => ⟨S2x4x768x16, .f32⟩
  | 16 => ⟨S2x4x768, .f32⟩
  | 17 => ⟨S2x768, .f32⟩
  | 18 => ⟨S2x768, .f32⟩
  | 19 => ⟨S2x384x768, .f32⟩
  | 20 => ⟨S2x16x16x768, .f32⟩
  | 21 => ⟨S512x768, .f32⟩
  | 22 => ⟨S1x384, .f32⟩
  | 23 => ⟨S1x384, .f32⟩
  | 24 => ⟨S512x1536, .f32⟩
  | 25 => ⟨S2x16x16x2x2x384, .f32⟩
  | 26 => ⟨S2x16x2x16x2x384, .f32⟩
  | 27 => ⟨S2048x384, .f32⟩
  | 28 => ⟨S2x32x32x384, .f32⟩
  | 29 => ⟨S2048x384, .f32⟩
  | 30 => ⟨S384x384, .f32⟩
  | 31 => ⟨S384x384, .f32⟩
  | 32 => ⟨S1x384, .f32⟩
  | 33 => ⟨S2048x384, .f32⟩
  | 34 => ⟨S1x384, .f32⟩
  | 35 => ⟨S384, .f32⟩
  | 36 => ⟨S1x384, .f32⟩
  | 37 => ⟨S384, .f32⟩
  | 38 => ⟨S1x1536x384, .f32⟩
  | 39 => ⟨S1536x384, .f32⟩
  | 40 => ⟨S1x384, .f32⟩
  | 41 => ⟨S1x384, .f32⟩
  | 42 => ⟨S2048x768, .f32⟩
  | 43 => ⟨S2048x768, .f32⟩
  | 44 => ⟨S1x768x3x3, .f32⟩
  | 45 => ⟨S768x3x3, .f32⟩
  | 46 => ⟨S768x9, .f32⟩
  | 47 => ⟨S9x768, .f32⟩
  | 48 => ⟨S1x768, .f32⟩
  | 49 => ⟨S768, .f32⟩
  | 50 => ⟨S2x1024x768, .f32⟩
  | 51 => ⟨S1x768, .f32⟩
  | 52 => ⟨S2x1024x768, .f32⟩
  | 53 => ⟨S2x32x32x768, .f32⟩
  | 54 => ⟨S2x32x32x768, .f32⟩
  | 55 => ⟨S2x1024x768, .f32⟩
  | 56 => ⟨S2x1x1024x768, .f32⟩
  | 57 => ⟨S2x1x1024x768, .f32⟩
  | 58 => ⟨S2x2x1024x768, .f32⟩
  | 59 => ⟨S1x4x56x768, .f32⟩
  | 60 => ⟨S4x56x768, .f32⟩
  | 61 => ⟨S1x4x768x24, .f32⟩
  | 62 => ⟨S4x768x24, .f32⟩
  | 63 => ⟨S1x4x768, .f32⟩
  | 64 => ⟨S4x768, .f32⟩
  | 65 => ⟨S4x1x768, .f32⟩
  | 66 => ⟨S1x4x768x16, .f32⟩
  | 67 => ⟨S4x768x16, .f32⟩
  | 68 => ⟨S4x16x768, .f32⟩
  | 69 => ⟨S2x4x1024x768, .f32⟩
  | 70 => ⟨S2x1x1024x768, .f32⟩
  | 71 => ⟨S2x1024x768, .f32⟩
  | 72 => ⟨S2x1x1024x768, .f32⟩
  | 73 => ⟨S2x1024x768, .f32⟩
  | 74 => ⟨S2x1024x768, .f32⟩
  | 75 => ⟨S2048x768, .f32⟩
  | 76 => ⟨S2x1x1024x768, .f32⟩
  | 77 => ⟨S2x1024x768, .f32⟩
  | 78 => ⟨S2x1x1024x768, .f32⟩
  | 79 => ⟨S2x1024x768, .f32⟩
  | 80 => ⟨S2x1024x768, .f32⟩
  | 81 => ⟨S2x32x32x768, .f32⟩
  | 82 => ⟨S2x32x32x768, .f32⟩
  | 83 => ⟨S2x1024x768, .f32⟩
  | 84 => ⟨S2048x768, .f32⟩
  | 85 => ⟨S2048x768, .f32⟩
  | 86 => ⟨S1x4x768, .f32⟩
  | 87 => ⟨S4x768, .f32⟩
  | 88 => ⟨S1x768, .f32⟩
  | 89 => ⟨S768, .f32⟩
  | 90 => ⟨S1x768, .f32⟩
  | 91 => ⟨S768, .f32⟩
  | 92 => ⟨S1x384x768, .f32⟩
  | 93 => ⟨S384x768, .f32⟩
  | 94 => ⟨S1x768, .f32⟩
  | 95 => ⟨S1x768, .f32⟩
  | 96 => ⟨S2048x384, .f32⟩
  | 97 => ⟨S1x384, .f32⟩
  | 98 => ⟨S384, .f32⟩
  | 99 => ⟨S1x384, .f32⟩
  | 100 => ⟨S384, .f32⟩
  | 101 => ⟨S1x1536x384, .f32⟩
  | 102 => ⟨S1536x384, .f32⟩
  | 103 => ⟨S1x384, .f32⟩
  | 104 => ⟨S1x384, .f32⟩
  | 105 => ⟨S2048x768, .f32⟩
  | 106 => ⟨S2048x768, .f32⟩
  | 107 => ⟨S1x768x3x3, .f32⟩
  | 108 => ⟨S768x3x3, .f32⟩
  | 109 => ⟨S768x9, .f32⟩
  | 110 => ⟨S9x768, .f32⟩
  | 111 => ⟨S1x768, .f32⟩
  | 112 => ⟨S768, .f32⟩
  | 113 => ⟨S2x1024x768, .f32⟩
  | 114 => ⟨S1x768, .f32⟩
  | 115 => ⟨S2x1024x768, .f32⟩
  | 116 => ⟨S2x32x32x768, .f32⟩
  | 117 => ⟨S2x32x32x768, .f32⟩
  | 118 => ⟨S2x1024x768, .f32⟩
  | 119 => ⟨S2x1x1024x768, .f32⟩
  | 120 => ⟨S2x1x1024x768, .f32⟩
  | 121 => ⟨S2x2x1024x768, .f32⟩
  | 122 => ⟨S1x4x56x768, .f32⟩
  | 123 => ⟨S4x56x768, .f32⟩
  | 124 => ⟨S1x4x768x24, .f32⟩
  | 125 => ⟨S4x768x24, .f32⟩
  | 126 => ⟨S1x4x768, .f32⟩
  | 127 => ⟨S4x768, .f32⟩
  | _ => ⟨S2x768x16x16, .f32⟩

abbrev hbmTy0_1 (i : Nat) : BufTy := match i % 128 with
  | 0 => ⟨S4x1x768, .f32⟩
  | 1 => ⟨S1x4x768x16, .f32⟩
  | 2 => ⟨S4x768x16, .f32⟩
  | 3 => ⟨S4x16x768, .f32⟩
  | 4 => ⟨S2x4x1024x768, .f32⟩
  | 5 => ⟨S2x1x1024x768, .f32⟩
  | 6 => ⟨S2x1024x768, .f32⟩
  | 7 => ⟨S2x1x1024x768, .f32⟩
  | 8 => ⟨S2x1024x768, .f32⟩
  | 9 => ⟨S2x1024x768, .f32⟩
  | 10 => ⟨S2048x768, .f32⟩
  | 11 => ⟨S2x1x1024x768, .f32⟩
  | 12 => ⟨S2x1024x768, .f32⟩
  | 13 => ⟨S2x1x1024x768, .f32⟩
  | 14 => ⟨S2x1024x768, .f32⟩
  | 15 => ⟨S2x1024x768, .f32⟩
  | 16 => ⟨S2x32x32x768, .f32⟩
  | 17 => ⟨S2x32x32x768, .f32⟩
  | 18 => ⟨S2x1024x768, .f32⟩
  | 19 => ⟨S2048x768, .f32⟩
  | 20 => ⟨S2048x768, .f32⟩
  | 21 => ⟨S1x4x768, .f32⟩
  | 22 => ⟨S4x768, .f32⟩
  | 23 => ⟨S1x768, .f32⟩
  | 24 => ⟨S768, .f32⟩
  | 25 => ⟨S1x768, .f32⟩
  | 26 => ⟨S768, .f32⟩
  | 27 => ⟨S1x384x768, .f32⟩
  | 28 => ⟨S384x768, .f32⟩
  | 29 => ⟨S1x768, .f32⟩
  | 30 => ⟨S1x768, .f32⟩
  | 31 => ⟨S2048x384, .f32⟩
  | 32 => ⟨S2x32x32x384, .f32⟩
  | 33 => ⟨S2x384x32x32, .f32⟩
  | _ => ⟨S2x768x16x16, .f32⟩

abbrev hbmTy (i : Nat) : BufTy := match i / 128 with
  | 0 => hbmTy0_0 i
  | 1 => hbmTy0_1 i
  | _ => ⟨S2x768x16x16, .f32⟩

abbrev bufTy : (tb : Table) → Fin (tcTables nBuf tb) → BufTy
  | .hbm, ⟨i, _⟩ => hbmTy i
  | .local _ .vmem, ⟨0, _⟩ => ⟨S512x768, .f32⟩
  | .local _ .vmem, ⟨1, _⟩ => ⟨S1536x768, .f32⟩
  | .local _ .vmem, ⟨2, _⟩ => ⟨S1x384, .f32⟩
  | .local _ .vmem, ⟨3, _⟩ => ⟨S1x384, .f32⟩
  | .local _ .vmem, ⟨4, _⟩ => ⟨S512x1536, .f32⟩
  | .local _ .vmem, ⟨5, _⟩ => ⟨S2048x384, .f32⟩
  | .local _ .vmem, ⟨6, _⟩ => ⟨S2048x384, .f32⟩
  | .local _ .vmem, ⟨7, _⟩ => ⟨S384x384, .f32⟩
  | .local _ .vmem, ⟨8, _⟩ => ⟨S384x384, .f32⟩
  | .local _ .vmem, ⟨9, _⟩ => ⟨S1x384, .f32⟩
  | .local _ .vmem, ⟨10, _⟩ => ⟨S2048x384, .f32⟩
  | .local _ .vmem, ⟨11, _⟩ => ⟨S256x384, .f32⟩
  | .local _ .vmem, ⟨12, _⟩ => ⟨S256x384, .f32⟩
  | .local _ .vmem, ⟨13, _⟩ => ⟨S1x384, .f32⟩
  | .local _ .vmem, ⟨14, _⟩ => ⟨S1x384, .f32⟩
  | .local _ .vmem, ⟨15, _⟩ => ⟨S1536x384, .f32⟩
  | .local _ .vmem, ⟨16, _⟩ => ⟨S256x768, .f32⟩
  | .local _ .vmem, ⟨17, _⟩ => ⟨S256x768, .f32⟩
  | .local _ .vmem, ⟨18, _⟩ => ⟨S256x768, .f32⟩
  | .local _ .vmem, ⟨19, _⟩ => ⟨S256x768, .f32⟩
  | .local _ .vmem, ⟨20, _⟩ => ⟨S1x1024x768, .f32⟩
  | .local _ .vmem, ⟨21, _⟩ => ⟨S1x1024x768, .f32⟩
  | .local _ .vmem, ⟨22, _⟩ => ⟨S9x768, .f32⟩
  | .local _ .vmem, ⟨23, _⟩ => ⟨S1x768, .f32⟩
  | .local _ .vmem, ⟨24, _⟩ => ⟨S1x1024x768, .f32⟩
  | .local _ .vmem, ⟨25, _⟩ => ⟨S1x1024x768, .f32⟩
  | .local _ .vmem, ⟨26, _⟩ => ⟨S1x1x1024x768, .f32⟩
  | .local _ .vmem, ⟨27, _⟩ => ⟨S1x1x1024x768, .f32⟩
  | .local _ .vmem, ⟨28, _⟩ => ⟨S1x56x768, .f32⟩
  | .local _ .vmem, ⟨29, _⟩ => ⟨S1x56x768, .f32⟩
  | .local _ .vmem, ⟨30, _⟩ => ⟨S1x768x24, .f32⟩
  | .local _ .vmem, ⟨31, _⟩ => ⟨S1x768x24, .f32⟩
  | .local _ .vmem, ⟨32, _⟩ => ⟨S1x1x768, .f32⟩
  | .local _ .vmem, ⟨33, _⟩ => ⟨S1x1x768, .f32⟩
  | .local _ .vmem, ⟨34, _⟩ => ⟨S1x16x768, .f32⟩
  | .local _ .vmem, ⟨35, _⟩ => ⟨S1x16x768, .f32⟩
  | .local _ .vmem, ⟨36, _⟩ => ⟨S1x1x1024x768, .f32⟩
  | .local _ .vmem, ⟨37, _⟩ => ⟨S1x1x1024x768, .f32⟩
  | .local _ .vmem, ⟨38, _⟩ => ⟨S1024x768, .f32⟩
  | .local _ .vmem, ⟨39, _⟩ => ⟨S1024x768, .f32⟩
  | .local _ .vmem, ⟨40, _⟩ => ⟨S1024x32, .f32⟩
  | .local _ .vmem, ⟨41, _⟩ => ⟨S16x768, .f32⟩
  | .local _ .vmem, ⟨42, _⟩ => ⟨S1024x768, .f32⟩
  | .local _ .vmem, ⟨43, _⟩ => ⟨S1024x768, .f32⟩
  | .local _ .vmem, ⟨44, _⟩ => ⟨S1024x768, .f32⟩
  | .local _ .vmem, ⟨45, _⟩ => ⟨S1024x768, .f32⟩
  | .local _ .vmem, ⟨46, _⟩ => ⟨S1024x768, .f32⟩
  | .local _ .vmem, ⟨47, _⟩ => ⟨S1024x768, .f32⟩
  | .local _ .vmem, ⟨48, _⟩ => ⟨S4x768, .f32⟩
  | .local _ .vmem, ⟨49, _⟩ => ⟨S1024x768, .f32⟩
  | .local _ .vmem, ⟨50, _⟩ => ⟨S1024x768, .f32⟩
  | .local _ .vmem, ⟨51, _⟩ => ⟨S1024x384, .f32⟩
  | .local _ .vmem, ⟨52, _⟩ => ⟨S1024x384, .f32⟩
  | .local _ .vmem, ⟨53, _⟩ => ⟨S1x768, .f32⟩
  | .local _ .vmem, ⟨54, _⟩ => ⟨S1x768, .f32⟩
  | .local _ .vmem, ⟨55, _⟩ => ⟨S384x768, .f32⟩
  | .local _ .vmem, ⟨56, _⟩ => ⟨S1024x384, .f32⟩
  | .local _ .vmem, ⟨57, _⟩ => ⟨S1024x384, .f32⟩
  | .local _ .vmem, ⟨58, _⟩ => ⟨S256x384, .f32⟩
  | .local _ .vmem, ⟨59, _⟩ => ⟨S256x384, .f32⟩
  | .local _ .vmem, ⟨60, _⟩ => ⟨S1x384, .f32⟩
  | .local _ .vmem, ⟨61, _⟩ => ⟨S1x384, .f32⟩
  | .local _ .vmem, ⟨62, _⟩ => ⟨S1536x384, .f32⟩
  | .local _ .vmem, ⟨63, _⟩ => ⟨S256x768, .f32⟩
  | .local _ .vmem, ⟨64, _⟩ => ⟨S256x768, .f32⟩
  | .local _ .vmem, ⟨65, _⟩ => ⟨S256x768, .f32⟩
  | .local _ .vmem, ⟨66, _⟩ => ⟨S256x768, .f32⟩
  | .local _ .vmem, ⟨67, _⟩ => ⟨S1x1024x768, .f32⟩
  | .local _ .vmem, ⟨68, _⟩ => ⟨S1x1024x768, .f32⟩
  | .local _ .vmem, ⟨69, _⟩ => ⟨S9x768, .f32⟩
  | .local _ .vmem, ⟨70, _⟩ => ⟨S1x768, .f32⟩
  | .local _ .vmem, ⟨71, _⟩ => ⟨S1x1024x768, .f32⟩
  | .local _ .vmem, ⟨72, _⟩ => ⟨S1x1024x768, .f32⟩
  | .local _ .vmem, ⟨73, _⟩ => ⟨S1x1x1024x768, .f32⟩
  | .local _ .vmem, ⟨74, _⟩ => ⟨S1x1x1024x768, .f32⟩
  | .local _ .vmem, ⟨75, _⟩ => ⟨S1x56x768, .f32⟩
  | .local _ .vmem, ⟨76, _⟩ => ⟨S1x56x768, .f32⟩
  | .local _ .vmem, ⟨77, _⟩ => ⟨S1x768x24, .f32⟩
  | .local _ .vmem, ⟨78, _⟩ => ⟨S1x768x24, .f32⟩
  | .local _ .vmem, ⟨79, _⟩ => ⟨S1x1x768, .f32⟩
  | .local _ .vmem, ⟨80, _⟩ => ⟨S1x1x768, .f32⟩
  | .local _ .vmem, ⟨81, _⟩ => ⟨S1x16x768, .f32⟩
  | .local _ .vmem, ⟨82, _⟩ => ⟨S1x16x768, .f32⟩
  | .local _ .vmem, ⟨83, _⟩ => ⟨S1x1x1024x768, .f32⟩
  | .local _ .vmem, ⟨84, _⟩ => ⟨S1x1x1024x768, .f32⟩
  | .local _ .vmem, ⟨85, _⟩ => ⟨S1024x768, .f32⟩
  | .local _ .vmem, ⟨86, _⟩ => ⟨S1024x768, .f32⟩
  | .local _ .vmem, ⟨87, _⟩ => ⟨S1024x32, .f32⟩
  | .local _ .vmem, ⟨88, _⟩ => ⟨S16x768, .f32⟩
  | .local _ .vmem, ⟨89, _⟩ => ⟨S1024x768, .f32⟩
  | .local _ .vmem, ⟨90, _⟩ => ⟨S1024x768, .f32⟩
  | .local _ .vmem, ⟨91, _⟩ => ⟨S1024x768, .f32⟩
  | .local _ .vmem, ⟨92, _⟩ => ⟨S1024x768, .f32⟩
  | .local _ .vmem, ⟨93, _⟩ => ⟨S1024x768, .f32⟩
  | .local _ .vmem, ⟨94, _⟩ => ⟨S1024x768, .f32⟩
  | .local _ .vmem, ⟨95, _⟩ => ⟨S4x768, .f32⟩
  | .local _ .vmem, ⟨96, _⟩ => ⟨S1024x768, .f32⟩
  | .local _ .vmem, ⟨97, _⟩ => ⟨S1024x768, .f32⟩
  | .local _ .vmem, ⟨98, _⟩ => ⟨S1024x384, .f32⟩
  | .local _ .vmem, ⟨99, _⟩ => ⟨S1024x384, .f32⟩
  | .local _ .vmem, ⟨100, _⟩ => ⟨S1x768, .f32⟩
  | .local _ .vmem, ⟨101, _⟩ => ⟨S1x768, .f32⟩
  | .local _ .vmem, ⟨102, _⟩ => ⟨S384x768, .f32⟩
  | .local _ .vmem, ⟨103, _⟩ => ⟨S1024x384, .f32⟩
  | .local _ .vmem, ⟨104, _⟩ => ⟨S1024x384, .f32⟩
  | _, _ => ⟨S2x768x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | _, _ => false

abbrev semScoped : Fin 0 → Bool
  | ⟨_, h⟩ => absurd h (Nat.not_lt_zero _)

abbrev dmaSemScoped : Fin 97 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | _ => false

abbrev sig : RefSig :=
  ofTc nBuf bufTy 0 97 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22_0 : Ref sig .tc := ⟨.hbm, 42, rfl⟩
abbrev main_v22_1 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84_0 : Ref sig .tc := ⟨.hbm, 105, rfl⟩
abbrev main_v84_1 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc4_stg4_0 : Ref sig .tc := ⟨.vmem, 34, rfl⟩
abbrev cc4_stg4_1 : Ref sig .tc := ⟨.vmem, 35, rfl⟩
abbrev cc4_stg5_0 : Ref sig .tc := ⟨.vmem, 36, rfl⟩
abbrev cc4_stg5_1 : Ref sig .tc := ⟨.vmem, 37, rfl⟩
abbrev cc4_scratch0 : Ref sig .tc := ⟨.vmem, 38, rfl⟩
abbrev cc4_scratch1 : Ref sig .tc := ⟨.vmem, 39, rfl⟩
abbrev cc4_scratch2 : Ref sig .tc := ⟨.vmem, 40, rfl⟩
abbrev cc4_scratch3 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg4_1 : Ref sig .tc := ⟨.vmem, 50, rfl⟩
abbrev cc5_stg5_0 : Ref sig .tc := ⟨.vmem, 51, rfl⟩
abbrev cc5_stg5_1 : Ref sig .tc := ⟨.vmem, 52, rfl⟩
abbrev cc5_stg6_0 : Ref sig .tc := ⟨.vmem, 53, rfl⟩
abbrev cc5_stg7_0 : Ref sig .tc := ⟨.vmem, 54, rfl⟩
abbrev cc5_stg8_0 : Ref sig .tc := ⟨.vmem, 55, rfl⟩
abbrev cc5_stg9_0 : Ref sig .tc := ⟨.vmem, 56, rfl⟩
abbrev cc5_stg9_1 : Ref sig .tc := ⟨.vmem, 57, rfl⟩
abbrev cc6_stg0_0 : Ref sig .tc := ⟨.vmem, 58, rfl⟩
abbrev cc6_stg0_1 : Ref sig .tc := ⟨.vmem, 59, rfl⟩
abbrev cc6_stg1_0 : Ref sig .tc := ⟨.vmem, 60, rfl⟩
abbrev cc6_stg2_0 : Ref sig .tc := ⟨.vmem, 61, rfl⟩
abbrev cc6_stg3_0 : Ref sig .tc := ⟨.vmem, 62, rfl⟩
abbrev cc6_stg4_0 : Ref sig .tc := ⟨.vmem, 63, rfl⟩
abbrev cc6_stg4_1 : Ref sig .tc := ⟨.vmem, 64, rfl⟩
abbrev cc6_stg5_0 : Ref sig .tc := ⟨.vmem, 65, rfl⟩
abbrev cc6_stg5_1 : Ref sig .tc := ⟨.vmem, 66, rfl⟩
abbrev cc7_stg0_0 : Ref sig .tc := ⟨.vmem, 67, rfl⟩
abbrev cc7_stg0_1 : Ref sig .tc := ⟨.vmem, 68, rfl⟩
abbrev cc7_stg1_0 : Ref sig .tc := ⟨.vmem, 69, rfl⟩
abbrev cc7_stg2_0 : Ref sig .tc := ⟨.vmem, 70, rfl⟩
abbrev cc7_stg3_0 : Ref sig .tc := ⟨.vmem, 71, rfl⟩
abbrev cc7_stg3_1 : Ref sig .tc := ⟨.vmem, 72, rfl⟩
abbrev cc8_stg0_0 : Ref sig .tc := ⟨.vmem, 73, rfl⟩
abbrev cc8_stg0_1 : Ref sig .tc := ⟨.vmem, 74, rfl⟩
abbrev cc8_stg1_0 : Ref sig .tc := ⟨.vmem, 75, rfl⟩
abbrev cc8_stg1_1 : Ref sig .tc := ⟨.vmem, 76, rfl⟩
abbrev cc8_stg2_0 : Ref sig .tc := ⟨.vmem, 77, rfl⟩
abbrev cc8_stg2_1 : Ref sig .tc := ⟨.vmem, 78, rfl⟩
abbrev cc8_stg3_0 : Ref sig .tc := ⟨.vmem, 79, rfl⟩
abbrev cc8_stg3_1 : Ref sig .tc := ⟨.vmem, 80, rfl⟩
abbrev cc8_stg4_0 : Ref sig .tc := ⟨.vmem, 81, rfl⟩
abbrev cc8_stg4_1 : Ref sig .tc := ⟨.vmem, 82, rfl⟩
abbrev cc8_stg5_0 : Ref sig .tc := ⟨.vmem, 83, rfl⟩
abbrev cc8_stg5_1 : Ref sig .tc := ⟨.vmem, 84, rfl⟩
abbrev cc8_scratch0 : Ref sig .tc := ⟨.vmem, 85, rfl⟩
abbrev cc8_scratch1 : Ref sig .tc := ⟨.vmem, 86, rfl⟩
abbrev cc8_scratch2 : Ref sig .tc := ⟨.vmem, 87, rfl⟩
abbrev cc8_scratch3 : Ref sig .tc := ⟨.vmem, 88, rfl⟩
abbrev cc9_stg0_0 : Ref sig .tc := ⟨.vmem, 89, rfl⟩
abbrev cc9_stg0_1 : Ref sig .tc := ⟨.vmem, 90, rfl⟩
abbrev cc9_stg1_0 : Ref sig .tc := ⟨.vmem, 91, rfl⟩
abbrev cc9_stg1_1 : Ref sig .tc := ⟨.vmem, 92, rfl⟩
abbrev cc9_stg2_0 : Ref sig .tc := ⟨.vmem, 93, rfl⟩
abbrev cc9_stg2_1 : Ref sig .tc := ⟨.vmem, 94, rfl⟩
abbrev cc9_stg3_0 : Ref sig .tc := ⟨.vmem, 95, rfl⟩
abbrev cc9_stg4_0 : Ref sig .tc := ⟨.vmem, 96, rfl⟩
abbrev cc9_stg4_1 : Ref sig .tc := ⟨.vmem, 97, rfl⟩
abbrev cc9_stg5_0 : Ref sig .tc := ⟨.vmem, 98, rfl⟩
abbrev cc9_stg5_1 : Ref sig .tc := ⟨.vmem, 99, rfl⟩
abbrev cc9_stg6_0 : Ref sig .tc := ⟨.vmem, 100, rfl⟩
abbrev cc9_stg7_0 : Ref sig .tc := ⟨.vmem, 101, rfl⟩
abbrev cc9_stg8_0 : Ref sig .tc := ⟨.vmem, 102, rfl⟩
abbrev cc9_stg9_0 : Ref sig .tc := ⟨.vmem, 103, rfl⟩
abbrev cc9_stg9_1 : Ref sig .tc := ⟨.vmem, 104, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem3_1 : DmaSem sig := 33
abbrev cc4_sem4_0 : DmaSem sig := 34
abbrev cc4_sem4_1 : DmaSem sig := 35
abbrev cc4_sem5_0 : DmaSem sig := 36
abbrev cc4_sem5_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc5_sem3_0 : DmaSem sig := 44
abbrev cc5_sem4_0 : DmaSem sig := 45
abbrev cc5_sem4_1 : DmaSem sig := 46
abbrev cc5_sem5_0 : DmaSem sig := 47
abbrev cc5_sem5_1 : DmaSem sig := 48
abbrev cc5_sem6_0 : DmaSem sig := 49
abbrev cc5_sem7_0 : DmaSem sig := 50
abbrev cc5_sem8_0 : DmaSem sig := 51
abbrev cc5_sem9_0 : DmaSem sig := 52
abbrev cc5_sem9_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem4_0 : DmaSem sig := 59
abbrev cc6_sem4_1 : DmaSem sig := 60
abbrev cc6_sem5_0 : DmaSem sig := 61
abbrev cc6_sem5_1 : DmaSem sig := 62
abbrev cc7_sem0_0 : DmaSem sig := 63
abbrev cc7_sem0_1 : DmaSem sig := 64
abbrev cc7_sem1_0 : DmaSem sig := 65
abbrev cc7_sem2_0 : DmaSem sig := 66
abbrev cc7_sem3_0 : DmaSem sig := 67
abbrev cc7_sem3_1 : DmaSem sig := 68
abbrev cc8_sem0_0 : DmaSem sig := 69
abbrev cc8_sem0_1 : DmaSem sig := 70
abbrev cc8_sem1_0 : DmaSem sig := 71
abbrev cc8_sem1_1 : DmaSem sig := 72
abbrev cc8_sem2_0 : DmaSem sig := 73
abbrev cc8_sem2_1 : DmaSem sig := 74
abbrev cc8_sem3_0 : DmaSem sig := 75
abbrev cc8_sem3_1 : DmaSem sig := 76
abbrev cc8_sem4_0 : DmaSem sig := 77
abbrev cc8_sem4_1 : DmaSem sig := 78
abbrev cc8_sem5_0 : DmaSem sig := 79
abbrev cc8_sem5_1 : DmaSem sig := 80
abbrev cc9_sem0_0 : DmaSem sig := 81
abbrev cc9_sem0_1 : DmaSem sig := 82
abbrev cc9_sem1_0 : DmaSem sig := 83
abbrev cc9_sem1_1 : DmaSem sig := 84
abbrev cc9_sem2_0 : DmaSem sig := 85
abbrev cc9_sem2_1 : DmaSem sig := 86
abbrev cc9_sem3_0 : DmaSem sig := 87
abbrev cc9_sem4_0 : DmaSem sig := 88
abbrev cc9_sem4_1 : DmaSem sig := 89
abbrev cc9_sem5_0 : DmaSem sig := 90
abbrev cc9_sem5_1 : DmaSem sig := 91
abbrev cc9_sem6_0 : DmaSem sig := 92
abbrev cc9_sem7_0 : DmaSem sig := 93
abbrev cc9_sem8_0 : DmaSem sig := 94
abbrev cc9_sem9_0 : DmaSem sig := 95
abbrev cc9_sem9_1 : DmaSem sig := 96

abbrev nD : Nat := 1
abbrev τ : Topo := Topo.v7x

variable {F : FTy → Type} [FloatOps F]

abbrev grid0 : Pipeline.Grid := .none

abbrev stage0_0 : Fin 1 → Memref sig .tc .vmem S512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := .none

abbrev stage1_0 : Fin 1 → Memref sig .tc .vmem S2048x384 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2048x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S384x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S384x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S2048x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x384 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1536x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x768 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x768 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![2], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1024x768 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S9x768 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x768 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x1024x768 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![2, 4], ![false, false]⟩

def k4_cond1 (i : grid4.Coords) : BitVec 1 :=
  let arg1 : BitVec 32 := BitVec.ofNat 32 (i 1).val
  let c2_i32 : BitVec 32 := 2#32
  let c0_i32 : BitVec 32 := 0#32
  let v40 : BitVec 1 := Scalar.cmpi .eq c2_i32 c0_i32
  let c1_i32 : BitVec 32 := 1#32
  let v41 : BitVec 32 := Scalar.select v40 c1_i32 c2_i32
  let v42 : BitVec 32 := Scalar.remsi arg1 v41
  let c0_i32_28 : BitVec 32 := 0#32
  let v44 : BitVec 1 := Scalar.cmpi .slt v42 c0_i32_28
  let c0_i32_29 : BitVec 32 := 0#32
  let v45 : BitVec 1 := Scalar.cmpi .slt v41 c0_i32_29
  let v46 : BitVec 1 := Scalar.xori v44 v45
  let c0_i32_27 : BitVec 32 := 0#32
  let v43 : BitVec 1 := Scalar.cmpi .ne v42 c0_i32_27
  let v47 : BitVec 1 := Scalar.andi v46 v43
  let v48 : BitVec 32 := Scalar.addi v42 v41
  let v49 : BitVec 32 := Scalar.select v47 v48 v42
  let c0_i32_30 : BitVec 32 := 0#32
  let v50 : BitVec 1 := Scalar.cmpi .eq v49 c0_i32_30
  let v51 : BitVec 32 := Scalar.extui v50
  let c0_i32_31 : BitVec 32 := 0#32
  let v52 : BitVec 1 := Scalar.cmpi .ne v51 c0_i32_31
  v52

@[reducible] def k4_t1_loop : Scf.Loop 32 :=
  let c0_i32_41 : BitVec 32 := 0#32
  let c8_i32 : BitVec 32 := 8#32
  let v67 : BitVec 32 := Scalar.addi c0_i32_41 c8_i32
  let c1_i32_42 : BitVec 32 := 1#32
  ⟨c0_i32_41, v67, c1_i32_42⟩
def k4_mult1 (k4_t1 : Fin k4_t1_loop.trips) : BitVec 32 :=
  let c0_i32_41 : BitVec 32 := 0#32
  let c1_i32_42 : BitVec 32 := 1#32
  let arg12 : BitVec 32 := Scf.iv c0_i32_41 c1_i32_42 k4_t1
  let c128_i32 : BitVec 32 := 128#32
  let v69 : BitVec 32 := Scalar.muli arg12 c128_i32
  v69
def k4_off1 (k4_t1 : Fin k4_t1_loop.trips) : Fin 2 → Nat :=
  let c0_i32_41 : BitVec 32 := 0#32
  let c1_i32_42 : BitVec 32 := 1#32
  let arg12 : BitVec 32 := Scf.iv c0_i32_41 c1_i32_42 k4_t1
  let c128_i32 : BitVec 32 := 128#32
  let v69 : BitVec 32 := Scalar.muli arg12 c128_i32
  let v70 : BitVec 32 := v69
  let v72 : Index := Scalar.indexCast v70
  let c0_46 : Index := 0#32
  ![v72.toNat, 0]
def k4_off2 (k4_t1 : Fin k4_t1_loop.trips) : Fin 2 → Nat :=
  let c0_i32_41 : BitVec 32 := 0#32
  let c1_i32_42 : BitVec 32 := 1#32
  let arg12 : BitVec 32 := Scf.iv c0_i32_41 c1_i32_42 k4_t1
  let c128_i32 : BitVec 32 := 128#32
  let v69 : BitVec 32 := Scalar.muli arg12 c128_i32
  let v70 : BitVec 32 := v69
  let v76 : Index := Scalar.indexCast v70
  let c0_48 : Index := 0#32
  ![v76.toNat, 0]
def k4_off3 (k4_t1 : Fin k4_t1_loop.trips) : Fin 4 → Nat :=
  let c0_177 : Index := 0#32
  let c0_178 : Index := 0#32
  let c0_i32_41 : BitVec 32 := 0#32
  let c1_i32_42 : BitVec 32 := 1#32
  let arg12 : BitVec 32 := Scf.iv c0_i32_41 c1_i32_42 k4_t1
  let c128_i32 : BitVec 32 := 128#32
  let v69 : BitVec 32 := Scalar.muli arg12 c128_i32
  let v70 : BitVec 32 := v69
  let v2128 : Index := Scalar.indexCast v70
  let c0_179 : Index := 0#32
  ![0, 0, v2128.toNat, 0]
def k4_cond2 (i : grid4.Coords) : BitVec 1 :=
  let arg1 : BitVec 32 := BitVec.ofNat 32 (i 1).val
  let c2_i32_32 : BitVec 32 := 2#32
  let c0_i32_33 : BitVec 32 := 0#32
  let v53 : BitVec 1 := Scalar.cmpi .eq c2_i32_32 c0_i32_33
  let c1_i32_34 : BitVec 32 := 1#32
  let v54 : BitVec 32 := Scalar.select v53 c1_i32_34 c2_i32_32
  let v55 : BitVec 32 := Scalar.remsi arg1 v54
  let c0_i32_36 : BitVec 32 := 0#32
  let v57 : BitVec 1 := Scalar.cmpi .slt v55 c0_i32_36
  let c0_i32_37 : BitVec 32 := 0#32
  let v58 : BitVec 1 := Scalar.cmpi .slt v54 c0_i32_37
  let v59 : BitVec 1 := Scalar.xori v57 v58
  let c0_i32_35 : BitVec 32 := 0#32
  let v56 : BitVec 1 := Scalar.cmpi .ne v55 c0_i32_35
  let v60 : BitVec 1 := Scalar.andi v59 v56
  let v61 : BitVec 32 := Scalar.addi v55 v54
  let v62 : BitVec 32 := Scalar.select v60 v61 v55
  let c1_i32_38 : BitVec 32 := 1#32
  let v63 : BitVec 1 := Scalar.cmpi .eq v62 c1_i32_38
  let v64 : BitVec 32 := Scalar.extui v63
  let c0_i32_39 : BitVec 32 := 0#32
  let v65 : BitVec 1 := Scalar.cmpi .ne v64 c0_i32_39
  v65

@[reducible] def k4_t2_loop : Scf.Loop 32 :=
  let c0_i32_41 : BitVec 32 := 0#32
  let c8_i32 : BitVec 32 := 8#32
  let v67 : BitVec 32 := Scalar.addi c0_i32_41 c8_i32
  let c1_i32_42 : BitVec 32 := 1#32
  ⟨c0_i32_41, v67, c1_i32_42⟩
def k4_mult2 (k4_t2 : Fin k4_t2_loop.trips) : BitVec 32 :=
  let c7_i32 : BitVec 32 := 7#32
  let c0_i32_41 : BitVec 32 := 0#32
  let c1_i32_42 : BitVec 32 := 1#32
  let arg12 : BitVec 32 := Scf.iv c0_i32_41 c1_i32_42 k4_t2
  let v69 : BitVec 32 := Scalar.subi c7_i32 arg12
  let c128_i32 : BitVec 32 := 128#32
  let v70 : BitVec 32 := Scalar.muli v69 c128_i32
  v70
def k4_off4 (k4_t2 : Fin k4_t2_loop.trips) : Fin 2 → Nat :=
  let c7_i32 : BitVec 32 := 7#32
  let c0_i32_41 : BitVec 32 := 0#32
  let c1_i32_42 : BitVec 32 := 1#32
  let arg12 : BitVec 32 := Scf.iv c0_i32_41 c1_i32_42 k4_t2
  let v69 : BitVec 32 := Scalar.subi c7_i32 arg12
  let c128_i32 : BitVec 32 := 128#32
  let v70 : BitVec 32 := Scalar.muli v69 c128_i32
  let v71 : BitVec 32 := v70
  let v73 : Index := Scalar.indexCast v71
  let c0_46 : Index := 0#32
  ![v73.toNat, 0]
def k4_off5 (k4_t2 : Fin k4_t2_loop.trips) : Fin 2 → Nat :=
  let c7_i32 : BitVec 32 := 7#32
  let c0_i32_41 : BitVec 32 := 0#32
  let c1_i32_42 : BitVec 32 := 1#32
  let arg12 : BitVec 32 := Scf.iv c0_i32_41 c1_i32_42 k4_t2
  let v69 : BitVec 32 := Scalar.subi c7_i32 arg12
  let c128_i32 : BitVec 32 := 128#32
  let v70 : BitVec 32 := Scalar.muli v69 c128_i32
  let v71 : BitVec 32 := v70
  let v77 : Index := Scalar.indexCast v71
  let c0_48 : Index := 0#32
  ![v77.toNat, 0]
def k4_off6 (k4_t2 : Fin k4_t2_loop.trips) : Fin 4 → Nat :=
  let c0_177 : Index := 0#32
  let c0_178 : Index := 0#32
  let c7_i32 : BitVec 32 := 7#32
  let c0_i32_41 : BitVec 32 := 0#32
  let c1_i32_42 : BitVec 32 := 1#32
  let arg12 : BitVec 32 := Scf.iv c0_i32_41 c1_i32_42 k4_t2
  let v69 : BitVec 32 := Scalar.subi c7_i32 arg12
  let c128_i32 : BitVec 32 := 128#32
  let v70 : BitVec 32 := Scalar.muli v69 c128_i32
  let v71 : BitVec 32 := v70
  let v2129 : Index := Scalar.indexCast v71
  let c0_179 : Index := 0#32
  ![0, 0, v2129.toNat, 0]
def cc4_transform_0 (i : grid4.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc4_transform_1 (i : grid4.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli v9 c2_i32_3
  let c2_i32_4 : BitVec 32 := 2#32
  let v11 : BitVec 32 := Scalar.divsi arg1 c2_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg1 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  let c0_i32_12 : BitVec 32 := 0#32
  let c0_i32_13 : BitVec 32 := 0#32
  ![v28.toNat, c0_i32_11.toNat, c0_i32_12.toNat]

def cc4_transform_2 (i : grid4.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli v9 c2_i32_3
  let c2_i32_4 : BitVec 32 := 2#32
  let v11 : BitVec 32 := Scalar.divsi arg1 c2_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg1 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  let c0_i32_12 : BitVec 32 := 0#32
  let c0_i32_13 : BitVec 32 := 0#32
  ![v28.toNat, c0_i32_11.toNat, c0_i32_12.toNat]

def cc4_transform_3 (i : grid4.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli v9 c2_i32_3
  let c2_i32_4 : BitVec 32 := 2#32
  let v11 : BitVec 32 := Scalar.divsi arg1 c2_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg1 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  let c0_i32_12 : BitVec 32 := 0#32
  let c0_i32_13 : BitVec 32 := 0#32
  ![v28.toNat, c0_i32_11.toNat, c0_i32_12.toNat]

def cc4_transform_4 (i : grid4.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli v9 c2_i32_3
  let c2_i32_4 : BitVec 32 := 2#32
  let v11 : BitVec 32 := Scalar.divsi arg1 c2_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg1 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  let c0_i32_12 : BitVec 32 := 0#32
  let c0_i32_13 : BitVec 32 := 0#32
  ![v28.toNat, c0_i32_11.toNat, c0_i32_12.toNat]

def cc4_transform_5 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage4_0 : Fin 2 → Memref sig .tc .vmem S1x1x1024x768 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x56x768 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x768x24 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S1x1x768 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S1x16x768 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![false, true]

abbrev stage4_5 : Fin 2 → Memref sig .tc .vmem S1x1x1024x768 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev grid5 : Pipeline.Grid := ⟨1, ![2], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x768 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1024x768 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1024x768 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S4x768 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S1024x768 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S1024x384 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S1x768 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x768 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S384x768 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S1024x384 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x384 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x384 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x384 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1536x384 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S256x768 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S256x768 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![2], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x1024x768 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S9x768 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x768 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S1x1024x768 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨2, ![2, 4], ![false, false]⟩

def k8_cond1 (i : grid8.Coords) : BitVec 1 :=
  let arg1 : BitVec 32 := BitVec.ofNat 32 (i 1).val
  let c2_i32 : BitVec 32 := 2#32
  let c0_i32 : BitVec 32 := 0#32
  let v40 : BitVec 1 := Scalar.cmpi .eq c2_i32 c0_i32
  let c1_i32 : BitVec 32 := 1#32
  let v41 : BitVec 32 := Scalar.select v40 c1_i32 c2_i32
  let v42 : BitVec 32 := Scalar.remsi arg1 v41
  let c0_i32_28 : BitVec 32 := 0#32
  let v44 : BitVec 1 := Scalar.cmpi .slt v42 c0_i32_28
  let c0_i32_29 : BitVec 32 := 0#32
  let v45 : BitVec 1 := Scalar.cmpi .slt v41 c0_i32_29
  let v46 : BitVec 1 := Scalar.xori v44 v45
  let c0_i32_27 : BitVec 32 := 0#32
  let v43 : BitVec 1 := Scalar.cmpi .ne v42 c0_i32_27
  let v47 : BitVec 1 := Scalar.andi v46 v43
  let v48 : BitVec 32 := Scalar.addi v42 v41
  let v49 : BitVec 32 := Scalar.select v47 v48 v42
  let c0_i32_30 : BitVec 32 := 0#32
  let v50 : BitVec 1 := Scalar.cmpi .eq v49 c0_i32_30
  let v51 : BitVec 32 := Scalar.extui v50
  let c0_i32_31 : BitVec 32 := 0#32
  let v52 : BitVec 1 := Scalar.cmpi .ne v51 c0_i32_31
  v52

@[reducible] def k8_t1_loop : Scf.Loop 32 :=
  let c0_i32_41 : BitVec 32 := 0#32
  let c8_i32 : BitVec 32 := 8#32
  let v67 : BitVec 32 := Scalar.addi c0_i32_41 c8_i32
  let c1_i32_42 : BitVec 32 := 1#32
  ⟨c0_i32_41, v67, c1_i32_42⟩
def k8_mult1 (k8_t1 : Fin k8_t1_loop.trips) : BitVec 32 :=
  let c0_i32_41 : BitVec 32 := 0#32
  let c1_i32_42 : BitVec 32 := 1#32
  let arg12 : BitVec 32 := Scf.iv c0_i32_41 c1_i32_42 k8_t1
  let c128_i32 : BitVec 32 := 128#32
  let v69 : BitVec 32 := Scalar.muli arg12 c128_i32
  v69
def k8_off1 (k8_t1 : Fin k8_t1_loop.trips) : Fin 2 → Nat :=
  let c0_i32_41 : BitVec 32 := 0#32
  let c1_i32_42 : BitVec 32 := 1#32
  let arg12 : BitVec 32 := Scf.iv c0_i32_41 c1_i32_42 k8_t1
  let c128_i32 : BitVec 32 := 128#32
  let v69 : BitVec 32 := Scalar.muli arg12 c128_i32
  let v70 : BitVec 32 := v69
  let v72 : Index := Scalar.indexCast v70
  let c0_46 : Index := 0#32
  ![v72.toNat, 0]
def k8_off2 (k8_t1 : Fin k8_t1_loop.trips) : Fin 2 → Nat :=
  let c0_i32_41 : BitVec 32 := 0#32
  let c1_i32_42 : BitVec 32 := 1#32
  let arg12 : BitVec 32 := Scf.iv c0_i32_41 c1_i32_42 k8_t1
  let c128_i32 : BitVec 32 := 128#32
  let v69 : BitVec 32 := Scalar.muli arg12 c128_i32
  let v70 : BitVec 32 := v69
  let v76 : Index := Scalar.indexCast v70
  let c0_48 : Index := 0#32
  ![v76.toNat, 0]
def k8_off3 (k8_t1 : Fin k8_t1_loop.trips) : Fin 4 → Nat :=
  let c0_177 : Index := 0#32
  let c0_178 : Index := 0#32
  let c0_i32_41 : BitVec 32 := 0#32
  let c1_i32_42 : BitVec 32 := 1#32
  let arg12 : BitVec 32 := Scf.iv c0_i32_41 c1_i32_42 k8_t1
  let c128_i32 : BitVec 32 := 128#32
  let v69 : BitVec 32 := Scalar.muli arg12 c128_i32
  let v70 : BitVec 32 := v69
  let v2128 : Index := Scalar.indexCast v70
  let c0_179 : Index := 0#32
  ![0, 0, v2128.toNat, 0]
def k8_cond2 (i : grid8.Coords) : BitVec 1 :=
  let arg1 : BitVec 32 := BitVec.ofNat 32 (i 1).val
  let c2_i32_32 : BitVec 32 := 2#32
  let c0_i32_33 : BitVec 32 := 0#32
  let v53 : BitVec 1 := Scalar.cmpi .eq c2_i32_32 c0_i32_33
  let c1_i32_34 : BitVec 32 := 1#32
  let v54 : BitVec 32 := Scalar.select v53 c1_i32_34 c2_i32_32
  let v55 : BitVec 32 := Scalar.remsi arg1 v54
  let c0_i32_36 : BitVec 32 := 0#32
  let v57 : BitVec 1 := Scalar.cmpi .slt v55 c0_i32_36
  let c0_i32_37 : BitVec 32 := 0#32
  let v58 : BitVec 1 := Scalar.cmpi .slt v54 c0_i32_37
  let v59 : BitVec 1 := Scalar.xori v57 v58
  let c0_i32_35 : BitVec 32 := 0#32
  let v56 : BitVec 1 := Scalar.cmpi .ne v55 c0_i32_35
  let v60 : BitVec 1 := Scalar.andi v59 v56
  let v61 : BitVec 32 := Scalar.addi v55 v54
  let v62 : BitVec 32 := Scalar.select v60 v61 v55
  let c1_i32_38 : BitVec 32 := 1#32
  let v63 : BitVec 1 := Scalar.cmpi .eq v62 c1_i32_38
  let v64 : BitVec 32 := Scalar.extui v63
  let c0_i32_39 : BitVec 32 := 0#32
  let v65 : BitVec 1 := Scalar.cmpi .ne v64 c0_i32_39
  v65

@[reducible] def k8_t2_loop : Scf.Loop 32 :=
  let c0_i32_41 : BitVec 32 := 0#32
  let c8_i32 : BitVec 32 := 8#32
  let v67 : BitVec 32 := Scalar.addi c0_i32_41 c8_i32
  let c1_i32_42 : BitVec 32 := 1#32
  ⟨c0_i32_41, v67, c1_i32_42⟩
def k8_mult2 (k8_t2 : Fin k8_t2_loop.trips) : BitVec 32 :=
  let c7_i32 : BitVec 32 := 7#32
  let c0_i32_41 : BitVec 32 := 0#32
  let c1_i32_42 : BitVec 32 := 1#32
  let arg12 : BitVec 32 := Scf.iv c0_i32_41 c1_i32_42 k8_t2
  let v69 : BitVec 32 := Scalar.subi c7_i32 arg12
  let c128_i32 : BitVec 32 := 128#32
  let v70 : BitVec 32 := Scalar.muli v69 c128_i32
  v70
def k8_off4 (k8_t2 : Fin k8_t2_loop.trips) : Fin 2 → Nat :=
  let c7_i32 : BitVec 32 := 7#32
  let c0_i32_41 : BitVec 32 := 0#32
  let c1_i32_42 : BitVec 32 := 1#32
  let arg12 : BitVec 32 := Scf.iv c0_i32_41 c1_i32_42 k8_t2
  let v69 : BitVec 32 := Scalar.subi c7_i32 arg12
  let c128_i32 : BitVec 32 := 128#32
  let v70 : BitVec 32 := Scalar.muli v69 c128_i32
  let v71 : BitVec 32 := v70
  let v73 : Index := Scalar.indexCast v71
  let c0_46 : Index := 0#32
  ![v73.toNat, 0]
def k8_off5 (k8_t2 : Fin k8_t2_loop.trips) : Fin 2 → Nat :=
  let c7_i32 : BitVec 32 := 7#32
  let c0_i32_41 : BitVec 32 := 0#32
  let c1_i32_42 : BitVec 32 := 1#32
  let arg12 : BitVec 32 := Scf.iv c0_i32_41 c1_i32_42 k8_t2
  let v69 : BitVec 32 := Scalar.subi c7_i32 arg12
  let c128_i32 : BitVec 32 := 128#32
  let v70 : BitVec 32 := Scalar.muli v69 c128_i32
  let v71 : BitVec 32 := v70
  let v77 : Index := Scalar.indexCast v71
  let c0_48 : Index := 0#32
  ![v77.toNat, 0]
def k8_off6 (k8_t2 : Fin k8_t2_loop.trips) : Fin 4 → Nat :=
  let c0_177 : Index := 0#32
  let c0_178 : Index := 0#32
  let c7_i32 : BitVec 32 := 7#32
  let c0_i32_41 : BitVec 32 := 0#32
  let c1_i32_42 : BitVec 32 := 1#32
  let arg12 : BitVec 32 := Scf.iv c0_i32_41 c1_i32_42 k8_t2
  let v69 : BitVec 32 := Scalar.subi c7_i32 arg12
  let c128_i32 : BitVec 32 := 128#32
  let v70 : BitVec 32 := Scalar.muli v69 c128_i32
  let v71 : BitVec 32 := v70
  let v2129 : Index := Scalar.indexCast v71
  let c0_179 : Index := 0#32
  ![0, 0, v2129.toNat, 0]
def cc8_transform_0 (i : grid8.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc8_transform_1 (i : grid8.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli v9 c2_i32_3
  let c2_i32_4 : BitVec 32 := 2#32
  let v11 : BitVec 32 := Scalar.divsi arg1 c2_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg1 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  let c0_i32_12 : BitVec 32 := 0#32
  let c0_i32_13 : BitVec 32 := 0#32
  ![v28.toNat, c0_i32_11.toNat, c0_i32_12.toNat]

def cc8_transform_2 (i : grid8.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli v9 c2_i32_3
  let c2_i32_4 : BitVec 32 := 2#32
  let v11 : BitVec 32 := Scalar.divsi arg1 c2_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg1 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  let c0_i32_12 : BitVec 32 := 0#32
  let c0_i32_13 : BitVec 32 := 0#32
  ![v28.toNat, c0_i32_11.toNat, c0_i32_12.toNat]

def cc8_transform_3 (i : grid8.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli v9 c2_i32_3
  let c2_i32_4 : BitVec 32 := 2#32
  let v11 : BitVec 32 := Scalar.divsi arg1 c2_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg1 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  let c0_i32_12 : BitVec 32 := 0#32
  let c0_i32_13 : BitVec 32 := 0#32
  ![v28.toNat, c0_i32_11.toNat, c0_i32_12.toNat]

def cc8_transform_4 (i : grid8.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli v9 c2_i32_3
  let c2_i32_4 : BitVec 32 := 2#32
  let v11 : BitVec 32 := Scalar.divsi arg1 c2_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg1 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  let c0_i32_12 : BitVec 32 := 0#32
  let c0_i32_13 : BitVec 32 := 0#32
  ![v28.toNat, c0_i32_11.toNat, c0_i32_12.toNat]

def cc8_transform_5 (i : grid8.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage8_0 : Fin 2 → Memref sig .tc .vmem S1x1x1024x768 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S1x56x768 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1x768x24 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![false, true]

abbrev stage8_3 : Fin 2 → Memref sig .tc .vmem S1x1x768 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![false, true]

abbrev stage8_4 : Fin 2 → Memref sig .tc .vmem S1x16x768 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![false, true]

abbrev stage8_5 : Fin 2 → Memref sig .tc .vmem S1x1x1024x768 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true, true]

abbrev grid9 : Pipeline.Grid := ⟨1, ![2], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S1024x768 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1024x768 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S1024x768 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S4x768 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S1024x768 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S1024x384 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 1 → Memref sig .tc .vmem S1x768 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S1x768 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S384x768 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 2 → Memref sig .tc .vmem S1024x384 .f32 := fun | 0 => Memref.whole cc9_stg9_0 | 1 => Memref.whole cc9_stg9_1 | ⟨_ + 2, h⟩ => absurd h (Nat.not_lt.2 (Nat.le_add_left _ _))
abbrev sem9_9 : Fin 2 → DmaSem sig := fun | 0 => cc9_sem9_0 | 1 => cc9_sem9_1 | ⟨_ + 2, h⟩ => absurd h (Nat.not_lt.2 (Nat.le_add_left _ _))
abbrev reads9_9 : Fin grid9.rank → Bool := ![true]
-- ==== KernelIdeal.lean ====
variable {F : FTy → Type} [FloatOps F] [Named F]
def κ : String → Option EReal := fun
  | "neg_inv_ln2" => some ((-((Real.log 2)⁻¹) : ℝ) : EReal)
  | _ => none
-- ==== ReferenceIdeal.lean ====
abbrev S2x768x16x16 : Shape := ⟨4, ![2, 768, 16, 16]⟩
abbrev S2x384x32x32 : Shape := ⟨4, ![2, 384, 32, 32]⟩
abbrev S1536x768 : Shape := ⟨2, ![1536, 768]⟩
abbrev S384 : Shape := ⟨1, ![384]⟩
abbrev S384x768 : Shape := ⟨2, ![384, 768]⟩
abbrev S2x384 : Shape := ⟨2, ![2, 384]⟩
abbrev S2x1536x384 : Shape := ⟨3, ![2, 1536, 384]⟩
abbrev S2x768x3x3 : Shape := ⟨4, ![2, 768, 3, 3]⟩
abbrev S2x768 : Shape := ⟨2, ![2, 768]⟩
abbrev S2x4x56x768 : Shape := ⟨4, ![2, 4, 56, 768]⟩
abbrev S2x4x768x24 : Shape := ⟨4, ![2, 4, 768, 24]⟩
abbrev S2x4x768 : Shape := ⟨3, ![2, 4, 768]⟩
abbrev S2x4x768x16 : Shape := ⟨4, ![2, 4, 768, 16]⟩
abbrev S2x384x768 : Shape := ⟨3, ![2, 384, 768]⟩
abbrev S2x16x16x768 : Shape := ⟨4, ![2, 16, 16, 768]⟩
abbrev S768x1536 : Shape := ⟨2, ![768, 1536]⟩
abbrev S2x16x16x1536 : Shape := ⟨4, ![2, 16, 16, 1536]⟩
abbrev S2x16x16x2x2x384 : Shape := ⟨6, ![2, 16, 16, 2, 2, 384]⟩
abbrev S2x16x2x16x2x384 : Shape := ⟨6, ![2, 16, 2, 16, 2, 384]⟩
abbrev S2x32x32x384 : Shape := ⟨4, ![2, 32, 32, 384]⟩
abbrev S_ : Shape := ⟨0, ![]⟩
abbrev S2x32x32 : Shape := ⟨3, ![2, 32, 32]⟩
abbrev S2x32x32x1 : Shape := ⟨4, ![2, 32, 32, 1]⟩
abbrev S1x1x1x384 : Shape := ⟨4, ![1, 1, 1, 384]⟩
abbrev S2x32x32x768 : Shape := ⟨4, ![2, 32, 32, 768]⟩
abbrev S768x384 : Shape := ⟨2, ![768, 384]⟩
abbrev S1x384 : Shape := ⟨2, ![1, 384]⟩
abbrev S1x1536x384 : Shape := ⟨3, ![1, 1536, 384]⟩
abbrev S1536x384 : Shape := ⟨2, ![1536, 384]⟩
abbrev S1x768x3x3 : Shape := ⟨4, ![1, 768, 3, 3]⟩
abbrev S768x3x3 : Shape := ⟨3, ![768, 3, 3]⟩
abbrev S1x768 : Shape := ⟨2, ![1, 768]⟩
abbrev S768 : Shape := ⟨1, ![768]⟩
abbrev S1x4x56x768 : Shape := ⟨4, ![1, 4, 56, 768]⟩
abbrev S4x56x768 : Shape := ⟨3, ![4, 56, 768]⟩
abbrev S1x4x768x24 : Shape := ⟨4, ![1, 4, 768, 24]⟩
abbrev S4x768x24 : Shape := ⟨3, ![4, 768, 24]⟩
abbrev S1x4x768 : Shape := ⟨3, ![1, 4, 768]⟩
abbrev S4x768 : Shape := ⟨2, ![4, 768]⟩
abbrev S1x4x768x16 : Shape := ⟨4, ![1, 4, 768, 16]⟩
abbrev S4x768x16 : Shape := ⟨3, ![4, 768, 16]⟩
abbrev S1x384x768 : Shape := ⟨3, ![1, 384, 768]⟩
abbrev S384x1536 : Shape := ⟨2, ![384, 1536]⟩
abbrev S2x32x32x1536 : Shape := ⟨4, ![2, 32, 32, 1536]⟩
abbrev S2x768x32x32 : Shape := ⟨4, ![2, 768, 32, 32]⟩
abbrev S2x768x34x34 : Shape := ⟨4, ![2, 768, 34, 34]⟩
abbrev S768x1x1 : Shape := ⟨3, ![768, 1, 1]⟩
abbrev S1x768x1x1 : Shape := ⟨4, ![1, 768, 1, 1]⟩
abbrev S2x768x1024 : Shape := ⟨3, ![2, 768, 1024]⟩
abbrev S2x1x768x1024 : Shape := ⟨4, ![2, 1, 768, 1024]⟩
abbrev S2x4x768x1024 : Shape := ⟨4, ![2, 4, 768, 1024]⟩
abbrev S4x56x2x1024 : Shape := ⟨4, ![4, 56, 2, 1024]⟩
abbrev S2x4x56x1024 : Shape := ⟨4, ![2, 4, 56, 1024]⟩
abbrev S2x4x24x1024 : Shape := ⟨4, ![2, 4, 24, 1024]⟩
abbrev S2x4x16x1024 : Shape := ⟨4, ![2, 4, 16, 1024]⟩
abbrev S4x768x2x1024 : Shape := ⟨4, ![4, 768, 2, 1024]⟩
abbrev S1x4x768x1 : Shape := ⟨4, ![1, 4, 768, 1]⟩
abbrev S8x768x1024 : Shape := ⟨3, ![8, 768, 1024]⟩
abbrev S8x768x16 : Shape := ⟨3, ![8, 768, 16]⟩
abbrev S8x16x1024 : Shape := ⟨3, ![8, 16, 1024]⟩
abbrev S8x768 : Shape := ⟨2, ![8, 768]⟩
abbrev S1024x8x768 : Shape := ⟨3, ![1024, 8, 768]⟩
abbrev S1024x8x16 : Shape := ⟨3, ![1024, 8, 16]⟩
abbrev S1x8x768 : Shape := ⟨3, ![1, 8, 768]⟩
abbrev S1x8x16 : Shape := ⟨3, ![1, 8, 16]⟩
abbrev S8x16 : Shape := ⟨2, ![8, 16]⟩
abbrev S8x768x1 : Shape := ⟨3, ![8, 768, 1]⟩
abbrev S8x1x16 : Shape := ⟨3, ![8, 1, 16]⟩
abbrev S1x1x1x768 : Shape := ⟨4, ![1, 1, 1, 768]⟩

abbrev nBuf : Space → Nat
  | .hbm => 677
  | .vmem => 0
  | .smem => 0
  | _ => 0

abbrev hbmTy0_0 (i : Nat) : BufTy := match i % 128 with
  | 0 => ⟨S2x768x16x16, .f32⟩
  | 1 => ⟨S2x384x32x32, .f32⟩
  | 2 => ⟨S1536x768, .f32⟩
  | 3 => ⟨S384, .f32⟩
  | 4 => ⟨S384, .f32⟩
  | 5 => ⟨S384x768, .f32⟩
  | 6 => ⟨S384, .f32⟩
  | 7 => ⟨S2x384, .f32⟩
  | 8 => ⟨S2x384, .f32⟩
  | 9 => ⟨S2x1536x384, .f32⟩
  | 10 => ⟨S2x768x3x3, .f32⟩
  | 11 => ⟨S2x768, .f32⟩
  | 12 => ⟨S2x4x56x768, .f32⟩
  | 13 => ⟨S2x4x768x24, .f32⟩
  | 14 => ⟨S2x4x768, .f32⟩
  | 15 => ⟨S2x4x768x16, .f32⟩
  | 16 => ⟨S2x4x768, .f32⟩
  | 17 => ⟨S2x768, .f32⟩
  | 18 => ⟨S2x768, .f32⟩
  | 19 => ⟨S2x384x768, .f32⟩
  | 20 => ⟨S2x16x16x768, .f32⟩
  | 21 => ⟨S768x1536, .f32⟩
  | 22 => ⟨S2x16x16x1536, .f32⟩
  | 23 => ⟨S2x16x16x2x2x384, .f32⟩
  | 24 => ⟨S2x16x2x16x2x384, .f32⟩
  | 25 => ⟨S2x32x32x384, .f32⟩
  | 26 => ⟨S_, .f32⟩
  | 27 => ⟨S2x32x32, .f32⟩
  | 28 => ⟨S2x32x32x1, .f32⟩
  | 29 => ⟨S_, .f32⟩
  | 30 => ⟨S2x32x32x1, .f32⟩
  | 31 => ⟨S2x32x32x1, .f32⟩
  | 32 => ⟨S2x32x32x384, .f32⟩
  | 33 => ⟨S2x32x32x384, .f32⟩
  | 34 => ⟨S2x32x32x384, .f32⟩
  | 35 => ⟨S_, .f32⟩
  | 36 => ⟨S2x32x32, .f32⟩
  | 37 => ⟨S2x32x32x1, .f32⟩
  | 38 => ⟨S_, .f32⟩
  | 39 => ⟨S2x32x32x1, .f32⟩
  | 40 => ⟨S2x32x32x1, .f32⟩
  | 41 => ⟨S2x32x32x384, .f32⟩
  | 42 => ⟨S2x32x32x384, .f32⟩
  | 43 => ⟨S_, .f32⟩
  | 44 => ⟨S2x32x32x1, .f32⟩
  | 45 => ⟨S2x32x32x1, .f32⟩
  | 46 => ⟨S2x32x32x1, .f32⟩
  | 47 => ⟨S2x32x32x384, .f32⟩
  | 48 => ⟨S2x32x32x384, .f32⟩
  | 49 => ⟨S1x1x1x384, .f32⟩
  | 50 => ⟨S2x32x32x384, .f32⟩
  | 51 => ⟨S2x32x32x384, .f32⟩
  | 52 => ⟨S1x1x1x384, .f32⟩
  | 53 => ⟨S2x32x32x384, .f32⟩
  | 54 => ⟨S2x32x32x384, .f32⟩
  | 55 => ⟨S2x32x32x384, .f32⟩
  | 56 => ⟨S2x32x32x768, .f32⟩
  | 57 => ⟨S768x384, .f32⟩
  | 58 => ⟨S2x32x32x384, .f32⟩
  | 59 => ⟨S1x1x1x384, .f32⟩
  | 60 => ⟨S2x32x32x384, .f32⟩
  | 61 => ⟨S2x32x32x384, .f32⟩
  | 62 => ⟨S1x384, .f32⟩
  | 63 => ⟨S384, .f32⟩
  | 64 => ⟨S1x384, .f32⟩
  | 65 => ⟨S384, .f32⟩
  | 66 => ⟨S1x1536x384, .f32⟩
  | 67 => ⟨S1536x384, .f32⟩
  | 68 => ⟨S1x768x3x3, .f32⟩
  | 69 => ⟨S768x3x3, .f32⟩
  | 70 => ⟨S1x768, .f32⟩
  | 71 => ⟨S768, .f32⟩
  | 72 => ⟨S1x4x56x768, .f32⟩
  | 73 => ⟨S4x56x768, .f32⟩
  | 74 => ⟨S1x4x768x24, .f32⟩
  | 75 => ⟨S4x768x24, .f32⟩
  | 76 => ⟨S1x4x768, .f32⟩
  | 77 => ⟨S4x768, .f32⟩
  | 78 => ⟨S1x4x768x16, .f32⟩
  | 79 => ⟨S4x768x16, .f32⟩
  | 80 => ⟨S1x4x768, .f32⟩
  | 81 => ⟨S4x768, .f32⟩
  | 82 => ⟨S1x768, .f32⟩
  | 83 => ⟨S768, .f32⟩
  | 84 => ⟨S1x768, .f32⟩
  | 85 => ⟨S768, .f32⟩
  | 86 => ⟨S1x384x768, .f32⟩
  | 87 => ⟨S384x768, .f32⟩
  | 88 => ⟨S_, .f32⟩
  | 89 => ⟨S2x32x32, .f32⟩
  | 90 => ⟨S2x32x32x1, .f32⟩
  | 91 => ⟨S_, .f32⟩
  | 92 => ⟨S2x32x32x1, .f32⟩
  | 93 => ⟨S2x32x32x1, .f32⟩
  | 94 => ⟨S2x32x32x384, .f32⟩
  | 95 => ⟨S2x32x32x384, .f32⟩
  | 96 => ⟨S2x32x32x384, .f32⟩
  | 97 => ⟨S_, .f32⟩
  | 98 => ⟨S2x32x32, .f32⟩
  | 99 => ⟨S2x32x32x1, .f32⟩
  | 100 => ⟨S_, .f32⟩
  | 101 => ⟨S2x32x32x1, .f32⟩
  | 102 => ⟨S2x32x32x1, .f32⟩
  | 103 => ⟨S2x32x32x384, .f32⟩
  | 104 => ⟨S2x32x32x384, .f32⟩
  | 105 => ⟨S_, .f32⟩
  | 106 => ⟨S2x32x32x1, .f32⟩
  | 107 => ⟨S2x32x32x1, .f32⟩
  | 108 => ⟨S2x32x32x1, .f32⟩
  | 109 => ⟨S2x32x32x384, .f32⟩
  | 110 => ⟨S2x32x32x384, .f32⟩
  | 111 => ⟨S1x1x1x384, .f32⟩
  | 112 => ⟨S2x32x32x384, .f32⟩
  | 113 => ⟨S2x32x32x384, .f32⟩
  | 114 => ⟨S1x1x1x384, .f32⟩
  | 115 => ⟨S2x32x32x384, .f32⟩
  | 116 => ⟨S2x32x32x384, .f32⟩
  | 117 => ⟨S384x1536, .f32⟩
  | 118 => ⟨S2x32x32x1536, .f32⟩
  | 119 => ⟨S2x32x32x768, .f32⟩
  | 120 => ⟨S2x32x32x768, .f32⟩
  | 121 => ⟨S2x768x32x32, .f32⟩
  | 122 => ⟨S_, .i32⟩
  | 123 => ⟨S_, .f32⟩
  | 124 => ⟨S2x768x34x34, .f32⟩
  | 125 => ⟨S768x1x1, .f32⟩
  | 126 => ⟨S768, .f32⟩
  | 127 => ⟨S1x768x1x1, .f32⟩
  | _ => ⟨S2x768x16x16, .f32⟩

abbrev hbmTy0_1 (i : Nat) : BufTy := match i % 128 with
  | 0 => ⟨S2x768x32x32, .f32⟩
  | 1 => ⟨S2x768x32x32, .f32⟩
  | 2 => ⟨S2x768x32x32, .f32⟩
  | 3 => ⟨S_, .f32⟩
  | 4 => ⟨S2x768x32x32, .f32⟩
  | 5 => ⟨S2x768x32x32, .f32⟩
  | 6 => ⟨S768x1x1, .f32⟩
  | 7 => ⟨S768, .f32⟩
  | 8 => ⟨S1x768x1x1, .f32⟩
  | 9 => ⟨S2x768x32x32, .f32⟩
  | 10 => ⟨S2x768x32x32, .f32⟩
  | 11 => ⟨S2x768x32x32, .f32⟩
  | 12 => ⟨S2x768x32x32, .f32⟩
  | 13 => ⟨S768x1x1, .f32⟩
  | 14 => ⟨S768, .f32⟩
  | 15 => ⟨S1x768x1x1, .f32⟩
  | 16 => ⟨S2x768x32x32, .f32⟩
  | 17 => ⟨S2x768x32x32, .f32⟩
  | 18 => ⟨S2x768x32x32, .f32⟩
  | 19 => ⟨S2x768x32x32, .f32⟩
  | 20 => ⟨S768x1x1, .f32⟩
  | 21 => ⟨S768, .f32⟩
  | 22 => ⟨S1x768x1x1, .f32⟩
  | 23 => ⟨S2x768x32x32, .f32⟩
  | 24 => ⟨S2x768x32x32, .f32⟩
  | 25 => ⟨S2x768x32x32, .f32⟩
  | 26 => ⟨S2x768x32x32, .f32⟩
  | 27 => ⟨S768x1x1, .f32⟩
  | 28 => ⟨S768, .f32⟩
  | 29 => ⟨S1x768x1x1, .f32⟩
  | 30 => ⟨S2x768x32x32, .f32⟩
  | 31 => ⟨S2x768x32x32, .f32⟩
  | 32 => ⟨S2x768x32x32, .f32⟩
  | 33 => ⟨S2x768x32x32, .f32⟩
  | 34 => ⟨S768x1x1, .f32⟩
  | 35 => ⟨S768, .f32⟩
  | 36 => ⟨S1x768x1x1, .f32⟩
  | 37 => ⟨S2x768x32x32, .f32⟩
  | 38 => ⟨S2x768x32x32, .f32⟩
  | 39 => ⟨S2x768x32x32, .f32⟩
  | 40 => ⟨S2x768x32x32, .f32⟩
  | 41 => ⟨S768x1x1, .f32⟩
  | 42 => ⟨S768, .f32⟩
  | 43 => ⟨S1x768x1x1, .f32⟩
  | 44 => ⟨S2x768x32x32, .f32⟩
  | 45 => ⟨S2x768x32x32, .f32⟩
  | 46 => ⟨S2x768x32x32, .f32⟩
  | 47 => ⟨S2x768x32x32, .f32⟩
  | 48 => ⟨S768x1x1, .f32⟩
  | 49 => ⟨S768, .f32⟩
  | 50 => ⟨S1x768x1x1, .f32⟩
  | 51 => ⟨S2x768x32x32, .f32⟩
  | 52 => ⟨S2x768x32x32, .f32⟩
  | 53 => ⟨S2x768x32x32, .f32⟩
  | 54 => ⟨S2x768x32x32, .f32⟩
  | 55 => ⟨S768x1x1, .f32⟩
  | 56 => ⟨S768, .f32⟩
  | 57 => ⟨S1x768x1x1, .f32⟩
  | 58 => ⟨S2x768x32x32, .f32⟩
  | 59 => ⟨S2x768x32x32, .f32⟩
  | 60 => ⟨S2x768x32x32, .f32⟩
  | 61 => ⟨S2x768x32x32, .f32⟩
  | 62 => ⟨S1x768x1x1, .f32⟩
  | 63 => ⟨S2x768x32x32, .f32⟩
  | 64 => ⟨S2x768x32x32, .f32⟩
  | 65 => ⟨S2x768x32x32, .f32⟩
  | 66 => ⟨S2x768x32x32, .f32⟩
  | 67 => ⟨S_, .f32⟩
  | 68 => ⟨S2x768x32x32, .f32⟩
  | 69 => ⟨S2x768x32x32, .f32⟩
  | 70 => ⟨S_, .f32⟩
  | 71 => ⟨S2x768x32x32, .f32⟩
  | 72 => ⟨S2x768x32x32, .f32⟩
  | 73 => ⟨S2x768x32x32, .f32⟩
  | 74 => ⟨S2x768x1024, .f32⟩
  | 75 => ⟨S2x768x32x32, .f32⟩
  | 76 => ⟨S2x768x1024, .f32⟩
  | 77 => ⟨S2x768x1024, .f32⟩
  | 78 => ⟨S2x768x1024, .f32⟩
  | 79 => ⟨S2x1x768x1024, .f32⟩
  | 80 => ⟨S2x1x768x1024, .f32⟩
  | 81 => ⟨S2x1x768x1024, .f32⟩
  | 82 => ⟨S2x1x768x1024, .f32⟩
  | 83 => ⟨S2x4x768x1024, .f32⟩
  | 84 => ⟨S4x56x2x1024, .f32⟩
  | 85 => ⟨S2x4x56x1024, .f32⟩
  | 86 => ⟨S2x4x24x1024, .f32⟩
  | 87 => ⟨S2x4x16x1024, .f32⟩
  | 88 => ⟨S2x4x16x1024, .f32⟩
  | 89 => ⟨S4x768x2x1024, .f32⟩
  | 90 => ⟨S2x4x768x1024, .f32⟩
  | 91 => ⟨S1x4x768x1, .f32⟩
  | 92 => ⟨S2x4x768x1024, .f32⟩
  | 93 => ⟨S2x4x768x1024, .f32⟩
  | 94 => ⟨S_, .f32⟩
  | 95 => ⟨S2x4x768x1024, .f32⟩
  | 96 => ⟨S2x4x768x1024, .f32⟩
  | 97 => ⟨S2x4x768x1024, .f32⟩
  | 98 => ⟨S2x4x768x1024, .f32⟩
  | 99 => ⟨S2x4x768x1024, .i1⟩
  | 100 => ⟨S2x4x768x1024, .f32⟩
  | 101 => ⟨S2x4x768x1024, .f32⟩
  | 102 => ⟨S2x4x768x1024, .f32⟩
  | 103 => ⟨S2x4x768x1024, .f32⟩
  | 104 => ⟨S2x4x768x1024, .f32⟩
  | 105 => ⟨S2x4x768x1024, .f32⟩
  | 106 => ⟨S2x4x768x1024, .f32⟩
  | 107 => ⟨S2x4x768x1024, .f32⟩
  | 108 => ⟨S4x768x16, .f32⟩
  | 109 => ⟨S4x768x16, .f32⟩
  | 110 => ⟨S8x768x1024, .f32⟩
  | 111 => ⟨S8x768x1024, .f32⟩
  | 112 => ⟨S2x4x768x16, .f32⟩
  | 113 => ⟨S8x768x16, .f32⟩
  | 114 => ⟨S8x16x1024, .f32⟩
  | 115 => ⟨S8x16x1024, .f32⟩
  | 116 => ⟨S2x4x768, .f32⟩
  | 117 => ⟨S8x768, .f32⟩
  | 118 => ⟨S_, .f32⟩
  | 119 => ⟨S8x768x16, .f32⟩
  | 120 => ⟨S1024x8x768, .f32⟩
  | 121 => ⟨S1024x8x768, .f32⟩
  | 122 => ⟨S1024x8x16, .f32⟩
  | 123 => ⟨S1024x8x16, .f32⟩
  | 124 => ⟨S_, .f32⟩
  | 125 => ⟨S1024x8x768, .f32⟩
  | 126 => ⟨S_, .i32⟩
  | 127 => ⟨S1024x8x768, .f32⟩
  | _ => ⟨S2x768x16x16, .f32⟩

abbrev hbmTy0_2 (i : Nat) : BufTy := match i % 128 with
  | 0 => ⟨S1024x8x768, .f32⟩
  | 1 => ⟨S1024x8x16, .f32⟩
  | 2 => ⟨S1024x8x16, .f32⟩
  | 3 => ⟨S8x768x16, .f32⟩
  | 4 => ⟨S_, .i32⟩
  | 5 => ⟨S8x768x16, .f32⟩
  | 6 => ⟨S1024x8x768, .f32⟩
  | 7 => ⟨S_, .i32⟩
  | 8 => ⟨S_, .i1⟩
  | 9 => ⟨S_, .i32⟩
  | 10 => ⟨S_, .i32⟩
  | 11 => ⟨S1x8x768, .f32⟩
  | 12 => ⟨S8x768, .f32⟩
  | 13 => ⟨S_, .i32⟩
  | 14 => ⟨S_, .i32⟩
  | 15 => ⟨S1x8x768, .f32⟩
  | 16 => ⟨S8x768, .f32⟩
  | 17 => ⟨S_, .i32⟩
  | 18 => ⟨S_, .i32⟩
  | 19 => ⟨S1x8x16, .f32⟩
  | 20 => ⟨S8x16, .f32⟩
  | 21 => ⟨S_, .i32⟩
  | 22 => ⟨S_, .i32⟩
  | 23 => ⟨S1x8x16, .f32⟩
  | 24 => ⟨S8x16, .f32⟩
  | 25 => ⟨S8x768x1, .f32⟩
  | 26 => ⟨S8x768x16, .f32⟩
  | 27 => ⟨S8x768x16, .f32⟩
  | 28 => ⟨S8x768x16, .f32⟩
  | 29 => ⟨S8x768x16, .f32⟩
  | 30 => ⟨S8x768, .f32⟩
  | 31 => ⟨S8x768x1, .f32⟩
  | 32 => ⟨S8x1x16, .f32⟩
  | 33 => ⟨S8x768x16, .f32⟩
  | 34 => ⟨S8x768x16, .f32⟩
  | 35 => ⟨S8x768x16, .f32⟩
  | 36 => ⟨S8x768x16, .f32⟩
  | 37 => ⟨S8x768, .f32⟩
  | 38 => ⟨S1x8x768, .f32⟩
  | 39 => ⟨S_, .i32⟩
  | 40 => ⟨S_, .i32⟩
  | 41 => ⟨S1024x8x768, .f32⟩
  | 42 => ⟨S_, .i32⟩
  | 43 => ⟨S_, .i32⟩
  | 44 => ⟨S8x768x1024, .f32⟩
  | 45 => ⟨S8x768x1, .f32⟩
  | 46 => ⟨S8x768x1024, .f32⟩
  | 47 => ⟨S8x768x1024, .f32⟩
  | 48 => ⟨S8x768x1024, .f32⟩
  | 49 => ⟨S2x4x768x1024, .f32⟩
  | 50 => ⟨S2x1x768x1024, .f32⟩
  | 51 => ⟨S2x768x1024, .f32⟩
  | 52 => ⟨S2x1x768x1024, .f32⟩
  | 53 => ⟨S2x768x1024, .f32⟩
  | 54 => ⟨S2x768x32x32, .f32⟩
  | 55 => ⟨S2x768x32x32, .f32⟩
  | 56 => ⟨S2x768x1024, .f32⟩
  | 57 => ⟨S2x768x1024, .f32⟩
  | 58 => ⟨S2x1x768x1024, .f32⟩
  | 59 => ⟨S2x1x768x1024, .f32⟩
  | 60 => ⟨S2x768x1024, .f32⟩
  | 61 => ⟨S2x768x1024, .f32⟩
  | 62 => ⟨S2x1x768x1024, .f32⟩
  | 63 => ⟨S2x1x768x1024, .f32⟩
  | 64 => ⟨S2x768x1024, .f32⟩
  | 65 => ⟨S2x768x32x32, .f32⟩
  | 66 => ⟨S2x768x32x32, .f32⟩
  | 67 => ⟨S2x768x1024, .f32⟩
  | 68 => ⟨S2x768x1024, .f32⟩
  | 69 => ⟨S2x768x32x32, .f32⟩
  | 70 => ⟨S2x32x32x768, .f32⟩
  | 71 => ⟨S_, .f32⟩
  | 72 => ⟨S2x32x32, .f32⟩
  | 73 => ⟨S2x32x32x1, .f32⟩
  | 74 => ⟨S_, .f32⟩
  | 75 => ⟨S2x32x32x1, .f32⟩
  | 76 => ⟨S2x32x32x1, .f32⟩
  | 77 => ⟨S2x32x32x768, .f32⟩
  | 78 => ⟨S2x32x32x768, .f32⟩
  | 79 => ⟨S2x32x32x768, .f32⟩
  | 80 => ⟨S_, .f32⟩
  | 81 => ⟨S2x32x32, .f32⟩
  | 82 => ⟨S2x32x32x1, .f32⟩
  | 83 => ⟨S_, .f32⟩
  | 84 => ⟨S2x32x32x1, .f32⟩
  | 85 => ⟨S2x32x32x1, .f32⟩
  | 86 => ⟨S2x32x32x768, .f32⟩
  | 87 => ⟨S2x32x32x768, .f32⟩
  | 88 => ⟨S_, .f32⟩
  | 89 => ⟨S2x32x32x1, .f32⟩
  | 90 => ⟨S2x32x32x1, .f32⟩
  | 91 => ⟨S2x32x32x1, .f32⟩
  | 92 => ⟨S2x32x32x768, .f32⟩
  | 93 => ⟨S2x32x32x768, .f32⟩
  | 94 => ⟨S1x1x1x768, .f32⟩
  | 95 => ⟨S2x32x32x768, .f32⟩
  | 96 => ⟨S2x32x32x768, .f32⟩
  | 97 => ⟨S1x1x1x768, .f32⟩
  | 98 => ⟨S2x32x32x768, .f32⟩
  | 99 => ⟨S2x32x32x768, .f32⟩
  | 100 => ⟨S2x32x32x768, .f32⟩
  | 101 => ⟨S2x32x32x768, .f32⟩
  | 102 => ⟨S_, .f32⟩
  | 103 => ⟨S2x32x32x768, .f32⟩
  | 104 => ⟨S2x32x32x768, .f32⟩
  | 105 => ⟨S_, .f32⟩
  | 106 => ⟨S2x32x32x768, .f32⟩
  | 107 => ⟨S2x32x32x768, .f32⟩
  | 108 => ⟨S2x32x32x768, .f32⟩
  | 109 => ⟨S2x32x32x768, .f32⟩
  | 110 => ⟨S768x384, .f32⟩
  | 111 => ⟨S2x32x32x384, .f32⟩
  | 112 => ⟨S2x32x32x384, .f32⟩
  | 113 => ⟨S1x384, .f32⟩
  | 114 => ⟨S384, .f32⟩
  | 115 => ⟨S1x384, .f32⟩
  | 116 => ⟨S384, .f32⟩
  | 117 => ⟨S1x1536x384, .f32⟩
  | 118 => ⟨S1536x384, .f32⟩
  | 119 => ⟨S1x768x3x3, .f32⟩
  | 120 => ⟨S768x3x3, .f32⟩
  | 121 => ⟨S1x768, .f32⟩
  | 122 => ⟨S768, .f32⟩
  | 123 => ⟨S1x4x56x768, .f32⟩
  | 124 => ⟨S4x56x768, .f32⟩
  | 125 => ⟨S1x4x768x24, .f32⟩
  | 126 => ⟨S4x768x24, .f32⟩
  | 127 => ⟨S1x4x768, .f32⟩
  | _ => ⟨S2x768x16x16, .f32⟩

abbrev hbmTy0_3 (i : Nat) : BufTy := match i % 128 with
  | 0 => ⟨S4x768, .f32⟩
  | 1 => ⟨S1x4x768x16, .f32⟩
  | 2 => ⟨S4x768x16, .f32⟩
  | 3 => ⟨S1x4x768, .f32⟩
  | 4 => ⟨S4x768, .f32⟩
  | 5 => ⟨S1x768, .f32⟩
  | 6 => ⟨S768, .f32⟩
  | 7 => ⟨S1x768, .f32⟩
  | 8 => ⟨S768, .f32⟩
  | 9 => ⟨S1x384x768, .f32⟩
  | 10 => ⟨S384x768, .f32⟩
  | 11 => ⟨S_, .f32⟩
  | 12 => ⟨S2x32x32, .f32⟩
  | 13 => ⟨S2x32x32x1, .f32⟩
  | 14 => ⟨S_, .f32⟩
  | 15 => ⟨S2x32x32x1, .f32⟩
  | 16 => ⟨S2x32x32x1, .f32⟩
  | 17 => ⟨S2x32x32x384, .f32⟩
  | 18 => ⟨S2x32x32x384, .f32⟩
  | 19 => ⟨S2x32x32x384, .f32⟩
  | 20 => ⟨S_, .f32⟩
  | 21 => ⟨S2x32x32, .f32⟩
  | 22 => ⟨S2x32x32x1, .f32⟩
  | 23 => ⟨S_, .f32⟩
  | 24 => ⟨S2x32x32x1, .f32⟩
  | 25 => ⟨S2x32x32x1, .f32⟩
  | 26 => ⟨S2x32x32x384, .f32⟩
  | 27 => ⟨S2x32x32x384, .f32⟩
  | 28 => ⟨S_, .f32⟩
  | 29 => ⟨S2x32x32x1, .f32⟩
  | 30 => ⟨S2x32x32x1, .f32⟩
  | 31 => ⟨S2x32x32x1, .f32⟩
  | 32 => ⟨S2x32x32x384, .f32⟩
  | 33 => ⟨S2x32x32x384, .f32⟩
  | 34 => ⟨S1x1x1x384, .f32⟩
  | 35 => ⟨S2x32x32x384, .f32⟩
  | 36 => ⟨S2x32x32x384, .f32⟩
  | 37 => ⟨S1x1x1x384, .f32⟩
  | 38 => ⟨S2x32x32x384, .f32⟩
  | 39 => ⟨S2x32x32x384, .f32⟩
  | 40 => ⟨S384x1536, .f32⟩
  | 41 => ⟨S2x32x32x1536, .f32⟩
  | 42 => ⟨S2x32x32x768, .f32⟩
  | 43 => ⟨S2x32x32x768, .f32⟩
  | 44 => ⟨S2x768x32x32, .f32⟩
  | 45 => ⟨S_, .i32⟩
  | 46 => ⟨S_, .f32⟩
  | 47 => ⟨S2x768x34x34, .f32⟩
  | 48 => ⟨S768x1x1, .f32⟩
  | 49 => ⟨S768, .f32⟩
  | 50 => ⟨S1x768x1x1, .f32⟩
  | 51 => ⟨S2x768x32x32, .f32⟩
  | 52 => ⟨S2x768x32x32, .f32⟩
  | 53 => ⟨S2x768x32x32, .f32⟩
  | 54 => ⟨S_, .f32⟩
  | 55 => ⟨S2x768x32x32, .f32⟩
  | 56 => ⟨S2x768x32x32, .f32⟩
  | 57 => ⟨S768x1x1, .f32⟩
  | 58 => ⟨S768, .f32⟩
  | 59 => ⟨S1x768x1x1, .f32⟩
  | 60 => ⟨S2x768x32x32, .f32⟩
  | 61 => ⟨S2x768x32x32, .f32⟩
  | 62 => ⟨S2x768x32x32, .f32⟩
  | 63 => ⟨S2x768x32x32, .f32⟩
  | 64 => ⟨S768x1x1, .f32⟩
  | 65 => ⟨S768, .f32⟩
  | 66 => ⟨S1x768x1x1, .f32⟩
  | 67 => ⟨S2x768x32x32, .f32⟩
  | 68 => ⟨S2x768x32x32, .f32⟩
  | 69 => ⟨S2x768x32x32, .f32⟩
  | 70 => ⟨S2x768x32x32, .f32⟩
  | 71 => ⟨S768x1x1, .f32⟩
  | 72 => ⟨S768, .f32⟩
  | 73 => ⟨S1x768x1x1, .f32⟩
  | 74 => ⟨S2x768x32x32, .f32⟩
  | 75 => ⟨S2x768x32x32, .f32⟩
  | 76 => ⟨S2x768x32x32, .f32⟩
  | 77 => ⟨S2x768x32x32, .f32⟩
  | 78 => ⟨S768x1x1, .f32⟩
  | 79 => ⟨S768, .f32⟩
  | 80 => ⟨S1x768x1x1, .f32⟩
  | 81 => ⟨S2x768x32x32, .f32⟩
  | 82 => ⟨S2x768x32x32, .f32⟩
  | 83 => ⟨S2x768x32x32, .f32⟩
  | 84 => ⟨S2x768x32x32, .f32⟩
  | 85 => ⟨S768x1x1, .f32⟩
  | 86 => ⟨S768, .f32⟩
  | 87 => ⟨S1x768x1x1, .f32⟩
  | 88 => ⟨S2x768x32x32, .f32⟩
  | 89 => ⟨S2x768x32x32, .f32⟩
  | 90 => ⟨S2x768x32x32, .f32⟩
  | 91 => ⟨S2x768x32x32, .f32⟩
  | 92 => ⟨S768x1x1, .f32⟩
  | 93 => ⟨S768, .f32⟩
  | 94 => ⟨S1x768x1x1, .f32⟩
  | 95 => ⟨S2x768x32x32, .f32⟩
  | 96 => ⟨S2x768x32x32, .f32⟩
  | 97 => ⟨S2x768x32x32, .f32⟩
  | 98 => ⟨S2x768x32x32, .f32⟩
  | 99 => ⟨S768x1x1, .f32⟩
  | 100 => ⟨S768, .f32⟩
  | 101 => ⟨S1x768x1x1, .f32⟩
  | 102 => ⟨S2x768x32x32, .f32⟩
  | 103 => ⟨S2x768x32x32, .f32⟩
  | 104 => ⟨S2x768x32x32, .f32⟩
  | 105 => ⟨S2x768x32x32, .f32⟩
  | 106 => ⟨S768x1x1, .f32⟩
  | 107 => ⟨S768, .f32⟩
  | 108 => ⟨S1x768x1x1, .f32⟩
  | 109 => ⟨S2x768x32x32, .f32⟩
  | 110 => ⟨S2x768x32x32, .f32⟩
  | 111 => ⟨S2x768x32x32, .f32⟩
  | 112 => ⟨S2x768x32x32, .f32⟩
  | 113 => ⟨S1x768x1x1, .f32⟩
  | 114 => ⟨S2x768x32x32, .f32⟩
  | 115 => ⟨S2x768x32x32, .f32⟩
  | 116 => ⟨S2x768x32x32, .f32⟩
  | 117 => ⟨S2x768x32x32, .f32⟩
  | 118 => ⟨S_, .f32⟩
  | 119 => ⟨S2x768x32x32, .f32⟩
  | 120 => ⟨S2x768x32x32, .f32⟩
  | 121 => ⟨S_, .f32⟩
  | 122 => ⟨S2x768x32x32, .f32⟩
  | 123 => ⟨S2x768x32x32, .f32⟩
  | 124 => ⟨S2x768x32x32, .f32⟩
  | 125 => ⟨S2x768x1024, .f32⟩
  | 126 => ⟨S2x768x32x32, .f32⟩
  | 127 => ⟨S2x768x1024, .f32⟩
  | _ => ⟨S2x768x16x16, .f32⟩

abbrev hbmTy0_4 (i : Nat) : BufTy := match i % 128 with
  | 0 => ⟨S2x768x1024, .f32⟩
  | 1 => ⟨S2x768x1024, .f32⟩
  | 2 => ⟨S2x1x768x1024, .f32⟩
  | 3 => ⟨S2x1x768x1024, .f32⟩
  | 4 => ⟨S2x1x768x1024, .f32⟩
  | 5 => ⟨S2x1x768x1024, .f32⟩
  | 6 => ⟨S2x4x768x1024, .f32⟩
  | 7 => ⟨S4x56x2x1024, .f32⟩
  | 8 => ⟨S2x4x56x1024, .f32⟩
  | 9 => ⟨S2x4x24x1024, .f32⟩
  | 10 => ⟨S2x4x16x1024, .f32⟩
  | 11 => ⟨S2x4x16x1024, .f32⟩
  | 12 => ⟨S4x768x2x1024, .f32⟩
  | 13 => ⟨S2x4x768x1024, .f32⟩
  | 14 => ⟨S1x4x768x1, .f32⟩
  | 15 => ⟨S2x4x768x1024, .f32⟩
  | 16 => ⟨S2x4x768x1024, .f32⟩
  | 17 => ⟨S_, .f32⟩
  | 18 => ⟨S2x4x768x1024, .f32⟩
  | 19 => ⟨S2x4x768x1024, .f32⟩
  | 20 => ⟨S2x4x768x1024, .f32⟩
  | 21 => ⟨S2x4x768x1024, .f32⟩
  | 22 => ⟨S2x4x768x1024, .i1⟩
  | 23 => ⟨S2x4x768x1024, .f32⟩
  | 24 => ⟨S2x4x768x1024, .f32⟩
  | 25 => ⟨S2x4x768x1024, .f32⟩
  | 26 => ⟨S2x4x768x1024, .f32⟩
  | 27 => ⟨S2x4x768x1024, .f32⟩
  | 28 => ⟨S2x4x768x1024, .f32⟩
  | 29 => ⟨S2x4x768x1024, .f32⟩
  | 30 => ⟨S2x4x768x1024, .f32⟩
  | 31 => ⟨S4x768x16, .f32⟩
  | 32 => ⟨S4x768x16, .f32⟩
  | 33 => ⟨S8x768x1024, .f32⟩
  | 34 => ⟨S8x768x1024, .f32⟩
  | 35 => ⟨S2x4x768x16, .f32⟩
  | 36 => ⟨S8x768x16, .f32⟩
  | 37 => ⟨S8x16x1024, .f32⟩
  | 38 => ⟨S8x16x1024, .f32⟩
  | 39 => ⟨S2x4x768, .f32⟩
  | 40 => ⟨S8x768, .f32⟩
  | 41 => ⟨S_, .f32⟩
  | 42 => ⟨S8x768x16, .f32⟩
  | 43 => ⟨S1024x8x768, .f32⟩
  | 44 => ⟨S1024x8x768, .f32⟩
  | 45 => ⟨S1024x8x16, .f32⟩
  | 46 => ⟨S1024x8x16, .f32⟩
  | 47 => ⟨S_, .f32⟩
  | 48 => ⟨S1024x8x768, .f32⟩
  | 49 => ⟨S_, .i32⟩
  | 50 => ⟨S1024x8x768, .f32⟩
  | 51 => ⟨S1024x8x768, .f32⟩
  | 52 => ⟨S1024x8x16, .f32⟩
  | 53 => ⟨S1024x8x16, .f32⟩
  | 54 => ⟨S8x768x16, .f32⟩
  | 55 => ⟨S_, .i32⟩
  | 56 => ⟨S8x768x16, .f32⟩
  | 57 => ⟨S1024x8x768, .f32⟩
  | 58 => ⟨S_, .i32⟩
  | 59 => ⟨S_, .i1⟩
  | 60 => ⟨S_, .i32⟩
  | 61 => ⟨S_, .i32⟩
  | 62 => ⟨S1x8x768, .f32⟩
  | 63 => ⟨S8x768, .f32⟩
  | 64 => ⟨S_, .i32⟩
  | 65 => ⟨S_, .i32⟩
  | 66 => ⟨S1x8x768, .f32⟩
  | 67 => ⟨S8x768, .f32⟩
  | 68 => ⟨S_, .i32⟩
  | 69 => ⟨S_, .i32⟩
  | 70 => ⟨S1x8x16, .f32⟩
  | 71 => ⟨S8x16, .f32⟩
  | 72 => ⟨S_, .i32⟩
  | 73 => ⟨S_, .i32⟩
  | 74 => ⟨S1x8x16, .f32⟩
  | 75 => ⟨S8x16, .f32⟩
  | 76 => ⟨S8x768x1, .f32⟩
  | 77 => ⟨S8x768x16, .f32⟩
  | 78 => ⟨S8x768x16, .f32⟩
  | 79 => ⟨S8x768x16, .f32⟩
  | 80 => ⟨S8x768x16, .f32⟩
  | 81 => ⟨S8x768, .f32⟩
  | 82 => ⟨S8x768x1, .f32⟩
  | 83 => ⟨S8x1x16, .f32⟩
  | 84 => ⟨S8x768x16, .f32⟩
  | 85 => ⟨S8x768x16, .f32⟩
  | 86 => ⟨S8x768x16, .f32⟩
  | 87 => ⟨S8x768x16, .f32⟩
  | 88 => ⟨S8x768, .f32⟩
  | 89 => ⟨S1x8x768, .f32⟩
  | 90 => ⟨S_, .i32⟩
  | 91 => ⟨S_, .i32⟩
  | 92 => ⟨S1024x8x768, .f32⟩
  | 93 => ⟨S_, .i32⟩
  | 94 => ⟨S_, .i32⟩
  | 95 => ⟨S8x768x1024, .f32⟩
  | 96 => ⟨S8x768x1, .f32⟩
  | 97 => ⟨S8x768x1024, .f32⟩
  | 98 => ⟨S8x768x1024, .f32⟩
  | 99 => ⟨S8x768x1024, .f32⟩
  | 100 => ⟨S2x4x768x1024, .f32⟩
  | 101 => ⟨S2x1x768x1024, .f32⟩
  | 102 => ⟨S2x768x1024, .f32⟩
  | 103 => ⟨S2x1x768x1024, .f32⟩
  | 104 => ⟨S2x768x1024, .f32⟩
  | 105 => ⟨S2x768x32x32, .f32⟩
  | 106 => ⟨S2x768x32x32, .f32⟩
  | 107 => ⟨S2x768x1024, .f32⟩
  | 108 => ⟨S2x768x1024, .f32⟩
  | 109 => ⟨S2x1x768x1024, .f32⟩
  | 110 => ⟨S2x1x768x1024, .f32⟩
  | 111 => ⟨S2x768x1024, .f32⟩
  | 112 => ⟨S2x768x1024, .f32⟩
  | 113 => ⟨S2x1x768x1024, .f32⟩
  | 114 => ⟨S2x1x768x1024, .f32⟩
  | 115 => ⟨S2x768x1024, .f32⟩
  | 116 => ⟨S2x768x32x32, .f32⟩
  | 117 => ⟨S2x768x32x32, .f32⟩
  | 118 => ⟨S2x768x1024, .f32⟩
  | 119 => ⟨S2x768x1024, .f32⟩
  | 120 => ⟨S2x768x32x32, .f32⟩
  | 121 => ⟨S2x32x32x768, .f32⟩
  | 122 => ⟨S_, .f32⟩
  | 123 => ⟨S2x32x32, .f32⟩
  | 124 => ⟨S2x32x32x1, .f32⟩
  | 125 => ⟨S_, .f32⟩
  | 126 => ⟨S2x32x32x1, .f32⟩
  | 127 => ⟨S2x32x32x1, .f32⟩
  | _ => ⟨S2x768x16x16, .f32⟩

abbrev hbmTy0_5 (i : Nat) : BufTy := match i % 128 with
  | 0 => ⟨S2x32x32x768, .f32⟩
  | 1 => ⟨S2x32x32x768, .f32⟩
  | 2 => ⟨S2x32x32x768, .f32⟩
  | 3 => ⟨S_, .f32⟩
  | 4 => ⟨S2x32x32, .f32⟩
  | 5 => ⟨S2x32x32x1, .f32⟩
  | 6 => ⟨S_, .f32⟩
  | 7 => ⟨S2x32x32x1, .f32⟩
  | 8 => ⟨S2x32x32x1, .f32⟩
  | 9 => ⟨S2x32x32x768, .f32⟩
  | 10 => ⟨S2x32x32x768, .f32⟩
  | 11 => ⟨S_, .f32⟩
  | 12 => ⟨S2x32x32x1, .f32⟩
  | 13 => ⟨S2x32x32x1, .f32⟩
  | 14 => ⟨S2x32x32x1, .f32⟩
  | 15 => ⟨S2x32x32x768, .f32⟩
  | 16 => ⟨S2x32x32x768, .f32⟩
  | 17 => ⟨S1x1x1x768, .f32⟩
  | 18 => ⟨S2x32x32x768, .f32⟩
  | 19 => ⟨S2x32x32x768, .f32⟩
  | 20 => ⟨S1x1x1x768, .f32⟩
  | 21 => ⟨S2x32x32x768, .f32⟩
  | 22 => ⟨S2x32x32x768, .f32⟩
  | 23 => ⟨S2x32x32x768, .f32⟩
  | 24 => ⟨S2x32x32x768, .f32⟩
  | 25 => ⟨S_, .f32⟩
  | 26 => ⟨S2x32x32x768, .f32⟩
  | 27 => ⟨S2x32x32x768, .f32⟩
  | 28 => ⟨S_, .f32⟩
  | 29 => ⟨S2x32x32x768, .f32⟩
  | 30 => ⟨S2x32x32x768, .f32⟩
  | 31 => ⟨S2x32x32x768, .f32⟩
  | 32 => ⟨S2x32x32x768, .f32⟩
  | 33 => ⟨S768x384, .f32⟩
  | 34 => ⟨S2x32x32x384, .f32⟩
  | 35 => ⟨S2x32x32x384, .f32⟩
  | 36 => ⟨S2x384x32x32, .f32⟩
  | _ => ⟨S2x768x16x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2x768x16x16, .f32⟩

abbrev bufTy : (tb : Table) → Fin (tcTables nBuf tb) → BufTy
  | .hbm, ⟨i, _⟩ => hbmTy i
  | _, _ => ⟨S2x768x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst : Ref sig .tc := ⟨.hbm, 26, rfl⟩
abbrev main_v6 : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_3 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_4 : Ref sig .tc := ⟨.hbm, 88, rfl⟩
abbrev main_v63 : Ref sig .tc := ⟨.hbm, 89, rfl⟩
abbrev main_v64 : Ref sig .tc := ⟨.hbm, 90, rfl⟩
abbrev main_cst_5 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_6 : Ref sig .tc := ⟨.hbm, 97, rfl⟩
abbrev main_v70 : Ref sig .tc := ⟨.hbm, 98, rfl⟩
abbrev main_v71 : Ref sig .tc := ⟨.hbm, 99, rfl⟩
abbrev main_cst_7 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_8 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_c : Ref sig .tc := ⟨.hbm, 122, rfl⟩
abbrev main_call0_v0 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_9 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_call1_v0 : Ref sig .tc := ⟨.hbm, 193, rfl⟩
abbrev main_call1_v1 : Ref sig .tc := ⟨.hbm, 194, rfl⟩
abbrev main_call1_cst : Ref sig .tc := ⟨.hbm, 195, rfl⟩
abbrev main_call1_v2 : Ref sig .tc := ⟨.hbm, 196, rfl⟩
abbrev main_call1_v3 : Ref sig .tc := ⟨.hbm, 197, rfl⟩
abbrev main_call1_cst_0 : Ref sig .tc := ⟨.hbm, 198, rfl⟩
abbrev main_call1_v4 : Ref sig .tc := ⟨.hbm, 199, rfl⟩
abbrev main_call1_v5 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_call2_cst : Ref sig .tc := ⟨.hbm, 222, rfl⟩
abbrev main_call2_v0 : Ref sig .tc := ⟨.hbm, 223, rfl⟩
abbrev main_call2_v1 : Ref sig .tc := ⟨.hbm, 224, rfl⟩
abbrev main_call2_v2 : Ref sig .tc := ⟨.hbm, 225, rfl⟩
abbrev main_call2_v3 : Ref sig .tc := ⟨.hbm, 226, rfl⟩
abbrev main_call2_v4 : Ref sig .tc := ⟨.hbm, 227, rfl⟩
abbrev main_call2_v5 : Ref sig .tc := ⟨.hbm, 228, rfl⟩
abbrev main_call2_v6 : Ref sig .tc := ⟨.hbm, 229, rfl⟩
abbrev main_call2_v7 : Ref sig .tc := ⟨.hbm, 230, rfl⟩
abbrev main_call2_v8 : Ref sig .tc := ⟨.hbm, 231, rfl⟩
abbrev main_call2_v9 : Ref sig .tc := ⟨.hbm, 232, rfl⟩
abbrev main_call2_v10 : Ref sig .tc := ⟨.hbm, 233, rfl⟩
abbrev main_call2_v11 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_cst_10 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_cst_11 : Ref sig .tc := ⟨.hbm, 252, rfl⟩
abbrev main_v197 : Ref sig .tc := ⟨.hbm, 253, rfl⟩
abbrev main_c_12 : Ref sig .tc := ⟨.hbm, 254, rfl⟩
abbrev main_v198_0 : Ref sig .tc := ⟨.hbm, 255, rfl⟩
abbrev main_v198_1 : Ref sig .tc := ⟨.hbm, 256, rfl⟩
abbrev main_v198_2 : Ref sig .tc := ⟨.hbm, 257, rfl⟩
abbrev main_v198_3 : Ref sig .tc := ⟨.hbm, 258, rfl⟩
abbrev main_v198_4 : Ref sig .tc := ⟨.hbm, 259, rfl⟩
abbrev main_v198_5 : Ref sig .tc := ⟨.hbm, 260, rfl⟩
abbrev main_v198_6 : Ref sig .tc := ⟨.hbm, 261, rfl⟩
abbrev main_v198_7 : Ref sig .tc := ⟨.hbm, 262, rfl⟩
abbrev main_while0c_c_40 : Ref sig .tc := ⟨.hbm, 263, rfl⟩
abbrev main_while0c_v474 : Ref sig .tc := ⟨.hbm, 264, rfl⟩
abbrev main_while0b_call3_c : Ref sig .tc := ⟨.hbm, 265, rfl⟩
abbrev main_while0b_call3_c_0 : Ref sig .tc := ⟨.hbm, 266, rfl⟩
abbrev main_while0b_call3_v0 : Ref sig .tc := ⟨.hbm, 267, rfl⟩
abbrev main_while0b_v474 : Ref sig .tc := ⟨.hbm, 268, rfl⟩
abbrev main_while0b_call4_c : Ref sig .tc := ⟨.hbm, 269, rfl⟩
abbrev main_while0b_call4_c_0 : Ref sig .tc := ⟨.hbm, 270, rfl⟩
abbrev main_while0b_call4_v0 : Ref sig .tc := ⟨.hbm, 271, rfl⟩
abbrev main_while0b_v475 : Ref sig .tc := ⟨.hbm, 272, rfl⟩
abbrev main_while0b_call5_c : Ref sig .tc := ⟨.hbm, 273, rfl⟩
abbrev main_while0b_call5_c_0 : Ref sig .tc := ⟨.hbm, 274, rfl⟩
abbrev main_while0b_call5_v0 : Ref sig .tc := ⟨.hbm, 275, rfl⟩
abbrev main_while0b_v476 : Ref sig .tc := ⟨.hbm, 276, rfl⟩
abbrev main_while0b_call6_c : Ref sig .tc := ⟨.hbm, 277, rfl⟩
abbrev main_while0b_call6_c_0 : Ref sig .tc := ⟨.hbm, 278, rfl⟩
abbrev main_while0b_call6_v0 : Ref sig .tc := ⟨.hbm, 279, rfl⟩
abbrev main_while0b_v477 : Ref sig .tc := ⟨.hbm, 280, rfl⟩
abbrev main_while0b_v478 : Ref sig .tc := ⟨.hbm, 281, rfl⟩
abbrev main_while0b_v479 : Ref sig .tc := ⟨.hbm, 282, rfl⟩
abbrev main_while0b_v480 : Ref sig .tc := ⟨.hbm, 283, rfl⟩
abbrev main_while0b_v481 : Ref sig .tc := ⟨.hbm, 284, rfl⟩
abbrev main_while0b_v482 : Ref sig .tc := ⟨.hbm, 285, rfl⟩
abbrev main_while0b_v483 : Ref sig .tc := ⟨.hbm, 286, rfl⟩
abbrev main_while0b_v484 : Ref sig .tc := ⟨.hbm, 287, rfl⟩
abbrev main_while0b_v485 : Ref sig .tc := ⟨.hbm, 288, rfl⟩
abbrev main_while0b_v486 : Ref sig .tc := ⟨.hbm, 289, rfl⟩
abbrev main_while0b_v487 : Ref sig .tc := ⟨.hbm, 290, rfl⟩
abbrev main_while0b_v488 : Ref sig .tc := ⟨.hbm, 291, rfl⟩
abbrev main_while0b_v489 : Ref sig .tc := ⟨.hbm, 292, rfl⟩
abbrev main_while0b_v490 : Ref sig .tc := ⟨.hbm, 293, rfl⟩
abbrev main_while0b_call7_v0 : Ref sig .tc := ⟨.hbm, 294, rfl⟩
abbrev main_while0b_call7_c : Ref sig .tc := ⟨.hbm, 295, rfl⟩
abbrev main_while0b_call7_c_0 : Ref sig .tc := ⟨.hbm, 296, rfl⟩
abbrev main_while0b_v491 : Ref sig .tc := ⟨.hbm, 297, rfl⟩
abbrev main_while0b_c_40 : Ref sig .tc := ⟨.hbm, 298, rfl⟩
abbrev main_while0b_v492 : Ref sig .tc := ⟨.hbm, 299, rfl⟩
abbrev main_v199 : Ref sig .tc := ⟨.hbm, 300, rfl⟩
abbrev main_v200 : Ref sig .tc := ⟨.hbm, 301, rfl⟩
abbrev main_v201 : Ref sig .tc := ⟨.hbm, 302, rfl⟩
abbrev main_v202 : Ref sig .tc := ⟨.hbm, 303, rfl⟩
abbrev main_v203 : Ref sig .tc := ⟨.hbm, 304, rfl⟩
abbrev main_v204 : Ref sig .tc := ⟨.hbm, 305, rfl⟩
abbrev main_v205 : Ref sig .tc := ⟨.hbm, 306, rfl⟩
abbrev main_v206 : Ref sig .tc := ⟨.hbm, 307, rfl⟩
abbrev main_v207 : Ref sig .tc := ⟨.hbm, 308, rfl⟩
abbrev main_v208 : Ref sig .tc := ⟨.hbm, 309, rfl⟩
abbrev main_v209 : Ref sig .tc := ⟨.hbm, 310, rfl⟩
abbrev main_v210 : Ref sig .tc := ⟨.hbm, 311, rfl⟩
abbrev main_v211 : Ref sig .tc := ⟨.hbm, 312, rfl⟩
abbrev main_v212 : Ref sig .tc := ⟨.hbm, 313, rfl⟩
abbrev main_v213 : Ref sig .tc := ⟨.hbm, 314, rfl⟩
abbrev main_v214 : Ref sig .tc := ⟨.hbm, 315, rfl⟩
abbrev main_v215 : Ref sig .tc := ⟨.hbm, 316, rfl⟩
abbrev main_v216 : Ref sig .tc := ⟨.hbm, 317, rfl⟩
abbrev main_v217 : Ref sig .tc := ⟨.hbm, 318, rfl⟩
abbrev main_v218 : Ref sig .tc := ⟨.hbm, 319, rfl⟩
abbrev main_v219 : Ref sig .tc := ⟨.hbm, 320, rfl⟩
abbrev main_v220 : Ref sig .tc := ⟨.hbm, 321, rfl⟩
abbrev main_v221 : Ref sig .tc := ⟨.hbm, 322, rfl⟩
abbrev main_v222 : Ref sig .tc := ⟨.hbm, 323, rfl⟩
abbrev main_v223 : Ref sig .tc := ⟨.hbm, 324, rfl⟩
abbrev main_v224 : Ref sig .tc := ⟨.hbm, 325, rfl⟩
abbrev main_v225 : Ref sig .tc := ⟨.hbm, 326, rfl⟩
abbrev main_cst_13 : Ref sig .tc := ⟨.hbm, 327, rfl⟩
abbrev main_v226 : Ref sig .tc := ⟨.hbm, 328, rfl⟩
abbrev main_v227 : Ref sig .tc := ⟨.hbm, 329, rfl⟩
abbrev main_cst_14 : Ref sig .tc := ⟨.hbm, 330, rfl⟩
abbrev main_v228 : Ref sig .tc := ⟨.hbm, 331, rfl⟩
abbrev main_v229 : Ref sig .tc := ⟨.hbm, 332, rfl⟩
abbrev main_v230 : Ref sig .tc := ⟨.hbm, 333, rfl⟩
abbrev main_v231 : Ref sig .tc := ⟨.hbm, 334, rfl⟩
abbrev main_v232 : Ref sig .tc := ⟨.hbm, 335, rfl⟩
abbrev main_cst_15 : Ref sig .tc := ⟨.hbm, 336, rfl⟩
abbrev main_v233 : Ref sig .tc := ⟨.hbm, 337, rfl⟩
abbrev main_v234 : Ref sig .tc := ⟨.hbm, 338, rfl⟩
abbrev main_cst_16 : Ref sig .tc := ⟨.hbm, 339, rfl⟩
abbrev main_v235 : Ref sig .tc := ⟨.hbm, 340, rfl⟩
abbrev main_v236 : Ref sig .tc := ⟨.hbm, 341, rfl⟩
abbrev main_v237 : Ref sig .tc := ⟨.hbm, 342, rfl⟩
abbrev main_v238 : Ref sig .tc := ⟨.hbm, 343, rfl⟩
abbrev main_cst_17 : Ref sig .tc := ⟨.hbm, 344, rfl⟩
abbrev main_v239 : Ref sig .tc := ⟨.hbm, 345, rfl⟩
abbrev main_v240 : Ref sig .tc := ⟨.hbm, 346, rfl⟩
abbrev main_v241 : Ref sig .tc := ⟨.hbm, 347, rfl⟩
abbrev main_v242 : Ref sig .tc := ⟨.hbm, 348, rfl⟩
abbrev main_v243 : Ref sig .tc := ⟨.hbm, 349, rfl⟩
abbrev main_v244 : Ref sig .tc := ⟨.hbm, 350, rfl⟩
abbrev main_v245 : Ref sig .tc := ⟨.hbm, 351, rfl⟩
abbrev main_v246 : Ref sig .tc := ⟨.hbm, 352, rfl⟩
abbrev main_v247 : Ref sig .tc := ⟨.hbm, 353, rfl⟩
abbrev main_v248 : Ref sig .tc := ⟨.hbm, 354, rfl⟩
abbrev main_v249 : Ref sig .tc := ⟨.hbm, 355, rfl⟩
abbrev main_call8_v0 : Ref sig .tc := ⟨.hbm, 356, rfl⟩
abbrev main_call8_v1 : Ref sig .tc := ⟨.hbm, 357, rfl⟩
abbrev main_call8_cst : Ref sig .tc := ⟨.hbm, 358, rfl⟩
abbrev main_call8_v2 : Ref sig .tc := ⟨.hbm, 359, rfl⟩
abbrev main_call8_v3 : Ref sig .tc := ⟨.hbm, 360, rfl⟩
abbrev main_call8_cst_0 : Ref sig .tc := ⟨.hbm, 361, rfl⟩
abbrev main_call8_v4 : Ref sig .tc := ⟨.hbm, 362, rfl⟩
abbrev main_call8_v5 : Ref sig .tc := ⟨.hbm, 363, rfl⟩
abbrev main_v250 : Ref sig .tc := ⟨.hbm, 364, rfl⟩
abbrev main_v251 : Ref sig .tc := ⟨.hbm, 365, rfl⟩
abbrev main_v252 : Ref sig .tc := ⟨.hbm, 366, rfl⟩
abbrev main_v253 : Ref sig .tc := ⟨.hbm, 367, rfl⟩
abbrev main_v254 : Ref sig .tc := ⟨.hbm, 368, rfl⟩
abbrev main_v255 : Ref sig .tc := ⟨.hbm, 369, rfl⟩
abbrev main_v256 : Ref sig .tc := ⟨.hbm, 370, rfl⟩
abbrev main_v257 : Ref sig .tc := ⟨.hbm, 371, rfl⟩
abbrev main_v258 : Ref sig .tc := ⟨.hbm, 372, rfl⟩
abbrev main_v259 : Ref sig .tc := ⟨.hbm, 373, rfl⟩
abbrev main_v260 : Ref sig .tc := ⟨.hbm, 374, rfl⟩
abbrev main_v261 : Ref sig .tc := ⟨.hbm, 375, rfl⟩
abbrev main_v262 : Ref sig .tc := ⟨.hbm, 376, rfl⟩
abbrev main_v263 : Ref sig .tc := ⟨.hbm, 377, rfl⟩
abbrev main_v264 : Ref sig .tc := ⟨.hbm, 378, rfl⟩
abbrev main_v265 : Ref sig .tc := ⟨.hbm, 379, rfl⟩
abbrev main_v266 : Ref sig .tc := ⟨.hbm, 380, rfl⟩
abbrev main_v267 : Ref sig .tc := ⟨.hbm, 381, rfl⟩
abbrev main_v268 : Ref sig .tc := ⟨.hbm, 382, rfl⟩
abbrev main_v269 : Ref sig .tc := ⟨.hbm, 383, rfl⟩
abbrev main_v270 : Ref sig .tc := ⟨.hbm, 384, rfl⟩
abbrev main_v271 : Ref sig .tc := ⟨.hbm, 385, rfl⟩
abbrev main_v272 : Ref sig .tc := ⟨.hbm, 386, rfl⟩
abbrev main_v273 : Ref sig .tc := ⟨.hbm, 387, rfl⟩
abbrev main_v274 : Ref sig .tc := ⟨.hbm, 388, rfl⟩
abbrev main_v275 : Ref sig .tc := ⟨.hbm, 389, rfl⟩
abbrev main_v276 : Ref sig .tc := ⟨.hbm, 390, rfl⟩
abbrev main_v277 : Ref sig .tc := ⟨.hbm, 391, rfl⟩
abbrev main_v278 : Ref sig .tc := ⟨.hbm, 392, rfl⟩
abbrev main_v279 : Ref sig .tc := ⟨.hbm, 393, rfl⟩
abbrev main_v280 : Ref sig .tc := ⟨.hbm, 394, rfl⟩
abbrev main_cst_18 : Ref sig .tc := ⟨.hbm, 395, rfl⟩
abbrev main_v281 : Ref sig .tc := ⟨.hbm, 396, rfl⟩
abbrev main_v282 : Ref sig .tc := ⟨.hbm, 397, rfl⟩
abbrev main_cst_19 : Ref sig .tc := ⟨.hbm, 398, rfl⟩
abbrev main_v283 : Ref sig .tc := ⟨.hbm, 399, rfl⟩
abbrev main_v284 : Ref sig .tc := ⟨.hbm, 400, rfl⟩
abbrev main_v285 : Ref sig .tc := ⟨.hbm, 401, rfl⟩
abbrev main_v286 : Ref sig .tc := ⟨.hbm, 402, rfl⟩
abbrev main_v287 : Ref sig .tc := ⟨.hbm, 403, rfl⟩
abbrev main_cst_20 : Ref sig .tc := ⟨.hbm, 404, rfl⟩
abbrev main_v288 : Ref sig .tc := ⟨.hbm, 405, rfl⟩
abbrev main_v289 : Ref sig .tc := ⟨.hbm, 406, rfl⟩
abbrev main_cst_21 : Ref sig .tc := ⟨.hbm, 407, rfl⟩
abbrev main_v290 : Ref sig .tc := ⟨.hbm, 408, rfl⟩
abbrev main_v291 : Ref sig .tc := ⟨.hbm, 409, rfl⟩
abbrev main_v292 : Ref sig .tc := ⟨.hbm, 410, rfl⟩
abbrev main_v293 : Ref sig .tc := ⟨.hbm, 411, rfl⟩
abbrev main_cst_22 : Ref sig .tc := ⟨.hbm, 412, rfl⟩
abbrev main_v294 : Ref sig .tc := ⟨.hbm, 413, rfl⟩
abbrev main_v295 : Ref sig .tc := ⟨.hbm, 414, rfl⟩
abbrev main_v296 : Ref sig .tc := ⟨.hbm, 415, rfl⟩
abbrev main_v297 : Ref sig .tc := ⟨.hbm, 416, rfl⟩
abbrev main_v298 : Ref sig .tc := ⟨.hbm, 417, rfl⟩
abbrev main_v299 : Ref sig .tc := ⟨.hbm, 418, rfl⟩
abbrev main_v300 : Ref sig .tc := ⟨.hbm, 419, rfl⟩
abbrev main_v301 : Ref sig .tc := ⟨.hbm, 420, rfl⟩
abbrev main_v302 : Ref sig .tc := ⟨.hbm, 421, rfl⟩
abbrev main_v303 : Ref sig .tc := ⟨.hbm, 422, rfl⟩
abbrev main_v304 : Ref sig .tc := ⟨.hbm, 423, rfl⟩
abbrev main_v305 : Ref sig .tc := ⟨.hbm, 424, rfl⟩
abbrev main_v306 : Ref sig .tc := ⟨.hbm, 425, rfl⟩
abbrev main_v307 : Ref sig .tc := ⟨.hbm, 426, rfl⟩
abbrev main_v308 : Ref sig .tc := ⟨.hbm, 427, rfl⟩
abbrev main_v309 : Ref sig .tc := ⟨.hbm, 428, rfl⟩
abbrev main_c_23 : Ref sig .tc := ⟨.hbm, 429, rfl⟩
abbrev main_call9_v0 : Ref sig .tc := ⟨.hbm, 430, rfl⟩
abbrev main_v310 : Ref sig .tc := ⟨.hbm, 431, rfl⟩
abbrev main_v311 : Ref sig .tc := ⟨.hbm, 432, rfl⟩
abbrev main_v312 : Ref sig .tc := ⟨.hbm, 433, rfl⟩
abbrev main_v313 : Ref sig .tc := ⟨.hbm, 434, rfl⟩
abbrev main_v314 : Ref sig .tc := ⟨.hbm, 435, rfl⟩
abbrev main_v315 : Ref sig .tc := ⟨.hbm, 436, rfl⟩
abbrev main_v316 : Ref sig .tc := ⟨.hbm, 437, rfl⟩
abbrev main_cst_24 : Ref sig .tc := ⟨.hbm, 438, rfl⟩
abbrev main_v317 : Ref sig .tc := ⟨.hbm, 439, rfl⟩
abbrev main_v318 : Ref sig .tc := ⟨.hbm, 440, rfl⟩
abbrev main_v319 : Ref sig .tc := ⟨.hbm, 441, rfl⟩
abbrev main_v320 : Ref sig .tc := ⟨.hbm, 442, rfl⟩
abbrev main_v321 : Ref sig .tc := ⟨.hbm, 443, rfl⟩
abbrev main_v322 : Ref sig .tc := ⟨.hbm, 444, rfl⟩
abbrev main_v323 : Ref sig .tc := ⟨.hbm, 445, rfl⟩
abbrev main_v324 : Ref sig .tc := ⟨.hbm, 446, rfl⟩
abbrev main_v325 : Ref sig .tc := ⟨.hbm, 447, rfl⟩
abbrev main_v326 : Ref sig .tc := ⟨.hbm, 448, rfl⟩
abbrev main_v327 : Ref sig .tc := ⟨.hbm, 449, rfl⟩
abbrev main_v328 : Ref sig .tc := ⟨.hbm, 450, rfl⟩
abbrev main_v329 : Ref sig .tc := ⟨.hbm, 451, rfl⟩
abbrev main_v330 : Ref sig .tc := ⟨.hbm, 452, rfl⟩
abbrev main_v331 : Ref sig .tc := ⟨.hbm, 453, rfl⟩
abbrev main_v332 : Ref sig .tc := ⟨.hbm, 454, rfl⟩
abbrev main_v333 : Ref sig .tc := ⟨.hbm, 455, rfl⟩
abbrev main_v334 : Ref sig .tc := ⟨.hbm, 456, rfl⟩
abbrev main_v335 : Ref sig .tc := ⟨.hbm, 457, rfl⟩
abbrev main_v336 : Ref sig .tc := ⟨.hbm, 458, rfl⟩
abbrev main_v337 : Ref sig .tc := ⟨.hbm, 459, rfl⟩
abbrev main_v338 : Ref sig .tc := ⟨.hbm, 460, rfl⟩
abbrev main_v339 : Ref sig .tc := ⟨.hbm, 461, rfl⟩
abbrev main_v340 : Ref sig .tc := ⟨.hbm, 462, rfl⟩
abbrev main_v341 : Ref sig .tc := ⟨.hbm, 463, rfl⟩
abbrev main_v342 : Ref sig .tc := ⟨.hbm, 464, rfl⟩
abbrev main_v343 : Ref sig .tc := ⟨.hbm, 465, rfl⟩
abbrev main_v344 : Ref sig .tc := ⟨.hbm, 466, rfl⟩
abbrev main_v345 : Ref sig .tc := ⟨.hbm, 467, rfl⟩
abbrev main_v346 : Ref sig .tc := ⟨.hbm, 468, rfl⟩
abbrev main_v347 : Ref sig .tc := ⟨.hbm, 469, rfl⟩
abbrev main_v348 : Ref sig .tc := ⟨.hbm, 470, rfl⟩
abbrev main_v349 : Ref sig .tc := ⟨.hbm, 471, rfl⟩
abbrev main_v350 : Ref sig .tc := ⟨.hbm, 472, rfl⟩
abbrev main_v351 : Ref sig .tc := ⟨.hbm, 473, rfl⟩
abbrev main_v352 : Ref sig .tc := ⟨.hbm, 474, rfl⟩
abbrev main_v353 : Ref sig .tc := ⟨.hbm, 475, rfl⟩
abbrev main_v354 : Ref sig .tc := ⟨.hbm, 476, rfl⟩
abbrev main_v355 : Ref sig .tc := ⟨.hbm, 477, rfl⟩
abbrev main_v356 : Ref sig .tc := ⟨.hbm, 478, rfl⟩
abbrev main_v357 : Ref sig .tc := ⟨.hbm, 479, rfl⟩
abbrev main_v358 : Ref sig .tc := ⟨.hbm, 480, rfl⟩
abbrev main_v359 : Ref sig .tc := ⟨.hbm, 481, rfl⟩
abbrev main_v360 : Ref sig .tc := ⟨.hbm, 482, rfl⟩
abbrev main_v361 : Ref sig .tc := ⟨.hbm, 483, rfl⟩
abbrev main_v362 : Ref sig .tc := ⟨.hbm, 484, rfl⟩
abbrev main_v363 : Ref sig .tc := ⟨.hbm, 485, rfl⟩
abbrev main_v364 : Ref sig .tc := ⟨.hbm, 486, rfl⟩
abbrev main_v365 : Ref sig .tc := ⟨.hbm, 487, rfl⟩
abbrev main_v366 : Ref sig .tc := ⟨.hbm, 488, rfl⟩
abbrev main_v367 : Ref sig .tc := ⟨.hbm, 489, rfl⟩
abbrev main_v368 : Ref sig .tc := ⟨.hbm, 490, rfl⟩
abbrev main_v369 : Ref sig .tc := ⟨.hbm, 491, rfl⟩
abbrev main_v370 : Ref sig .tc := ⟨.hbm, 492, rfl⟩
abbrev main_v371 : Ref sig .tc := ⟨.hbm, 493, rfl⟩
abbrev main_v372 : Ref sig .tc := ⟨.hbm, 494, rfl⟩
abbrev main_v373 : Ref sig .tc := ⟨.hbm, 495, rfl⟩
abbrev main_v374 : Ref sig .tc := ⟨.hbm, 496, rfl⟩
abbrev main_v375 : Ref sig .tc := ⟨.hbm, 497, rfl⟩
abbrev main_v376 : Ref sig .tc := ⟨.hbm, 498, rfl⟩
abbrev main_v377 : Ref sig .tc := ⟨.hbm, 499, rfl⟩
abbrev main_call10_v0 : Ref sig .tc := ⟨.hbm, 500, rfl⟩
abbrev main_call10_v1 : Ref sig .tc := ⟨.hbm, 501, rfl⟩
abbrev main_call10_cst : Ref sig .tc := ⟨.hbm, 502, rfl⟩
abbrev main_call10_v2 : Ref sig .tc := ⟨.hbm, 503, rfl⟩
abbrev main_call10_v3 : Ref sig .tc := ⟨.hbm, 504, rfl⟩
abbrev main_call10_cst_0 : Ref sig .tc := ⟨.hbm, 505, rfl⟩
abbrev main_call10_v4 : Ref sig .tc := ⟨.hbm, 506, rfl⟩
abbrev main_call10_v5 : Ref sig .tc := ⟨.hbm, 507, rfl⟩
abbrev main_v378 : Ref sig .tc := ⟨.hbm, 508, rfl⟩
abbrev main_v379 : Ref sig .tc := ⟨.hbm, 509, rfl⟩
abbrev main_v380 : Ref sig .tc := ⟨.hbm, 510, rfl⟩
abbrev main_v381 : Ref sig .tc := ⟨.hbm, 511, rfl⟩
abbrev main_v382 : Ref sig .tc := ⟨.hbm, 512, rfl⟩
abbrev main_v383 : Ref sig .tc := ⟨.hbm, 513, rfl⟩
abbrev main_v384 : Ref sig .tc := ⟨.hbm, 514, rfl⟩
abbrev main_v385 : Ref sig .tc := ⟨.hbm, 515, rfl⟩
abbrev main_v386 : Ref sig .tc := ⟨.hbm, 516, rfl⟩
abbrev main_v387 : Ref sig .tc := ⟨.hbm, 517, rfl⟩
abbrev main_v388 : Ref sig .tc := ⟨.hbm, 518, rfl⟩
abbrev main_v389 : Ref sig .tc := ⟨.hbm, 519, rfl⟩
abbrev main_v390 : Ref sig .tc := ⟨.hbm, 520, rfl⟩
abbrev main_v391 : Ref sig .tc := ⟨.hbm, 521, rfl⟩
abbrev main_v392 : Ref sig .tc := ⟨.hbm, 522, rfl⟩
abbrev main_v393 : Ref sig .tc := ⟨.hbm, 523, rfl⟩
abbrev main_v394 : Ref sig .tc := ⟨.hbm, 524, rfl⟩
abbrev main_v395 : Ref sig .tc := ⟨.hbm, 525, rfl⟩
abbrev main_v396 : Ref sig .tc := ⟨.hbm, 526, rfl⟩
abbrev main_v397 : Ref sig .tc := ⟨.hbm, 527, rfl⟩
abbrev main_v398 : Ref sig .tc := ⟨.hbm, 528, rfl⟩
abbrev main_call11_cst : Ref sig .tc := ⟨.hbm, 529, rfl⟩
abbrev main_call11_v0 : Ref sig .tc := ⟨.hbm, 530, rfl⟩
abbrev main_call11_v1 : Ref sig .tc := ⟨.hbm, 531, rfl⟩
abbrev main_call11_v2 : Ref sig .tc := ⟨.hbm, 532, rfl⟩
abbrev main_call11_v3 : Ref sig .tc := ⟨.hbm, 533, rfl⟩
abbrev main_call11_v4 : Ref sig .tc := ⟨.hbm, 534, rfl⟩
abbrev main_call11_v5 : Ref sig .tc := ⟨.hbm, 535, rfl⟩
abbrev main_call11_v6 : Ref sig .tc := ⟨.hbm, 536, rfl⟩
abbrev main_call11_v7 : Ref sig .tc := ⟨.hbm, 537, rfl⟩
abbrev main_call11_v8 : Ref sig .tc := ⟨.hbm, 538, rfl⟩
abbrev main_call11_v9 : Ref sig .tc := ⟨.hbm, 539, rfl⟩
abbrev main_call11_v10 : Ref sig .tc := ⟨.hbm, 540, rfl⟩
abbrev main_call11_v11 : Ref sig .tc := ⟨.hbm, 541, rfl⟩
abbrev main_v399 : Ref sig .tc := ⟨.hbm, 542, rfl⟩
abbrev main_v400 : Ref sig .tc := ⟨.hbm, 543, rfl⟩
abbrev main_v401 : Ref sig .tc := ⟨.hbm, 544, rfl⟩
abbrev main_v402 : Ref sig .tc := ⟨.hbm, 545, rfl⟩
abbrev main_v403 : Ref sig .tc := ⟨.hbm, 546, rfl⟩
abbrev main_v404 : Ref sig .tc := ⟨.hbm, 547, rfl⟩
abbrev main_v405 : Ref sig .tc := ⟨.hbm, 548, rfl⟩
abbrev main_v406 : Ref sig .tc := ⟨.hbm, 549, rfl⟩
abbrev main_v407 : Ref sig .tc := ⟨.hbm, 550, rfl⟩
abbrev main_v408 : Ref sig .tc := ⟨.hbm, 551, rfl⟩
abbrev main_v409 : Ref sig .tc := ⟨.hbm, 552, rfl⟩
abbrev main_cst_25 : Ref sig .tc := ⟨.hbm, 553, rfl⟩
abbrev main_v410 : Ref sig .tc := ⟨.hbm, 554, rfl⟩
abbrev main_v411 : Ref sig .tc := ⟨.hbm, 555, rfl⟩
abbrev main_v412 : Ref sig .tc := ⟨.hbm, 556, rfl⟩
abbrev main_v413 : Ref sig .tc := ⟨.hbm, 557, rfl⟩
abbrev main_v414 : Ref sig .tc := ⟨.hbm, 558, rfl⟩
abbrev main_cst_26 : Ref sig .tc := ⟨.hbm, 559, rfl⟩
abbrev main_v415 : Ref sig .tc := ⟨.hbm, 560, rfl⟩
abbrev main_c_27 : Ref sig .tc := ⟨.hbm, 561, rfl⟩
abbrev main_v416_0 : Ref sig .tc := ⟨.hbm, 562, rfl⟩
abbrev main_v416_1 : Ref sig .tc := ⟨.hbm, 563, rfl⟩
abbrev main_v416_2 : Ref sig .tc := ⟨.hbm, 564, rfl⟩
abbrev main_v416_3 : Ref sig .tc := ⟨.hbm, 565, rfl⟩
abbrev main_v416_4 : Ref sig .tc := ⟨.hbm, 566, rfl⟩
abbrev main_v416_5 : Ref sig .tc := ⟨.hbm, 567, rfl⟩
abbrev main_v416_6 : Ref sig .tc := ⟨.hbm, 568, rfl⟩
abbrev main_v416_7 : Ref sig .tc := ⟨.hbm, 569, rfl⟩
abbrev main_while1c_c_40 : Ref sig .tc := ⟨.hbm, 570, rfl⟩
abbrev main_while1c_v474 : Ref sig .tc := ⟨.hbm, 571, rfl⟩
abbrev main_while1b_call12_c : Ref sig .tc := ⟨.hbm, 572, rfl⟩
abbrev main_while1b_call12_c_0 : Ref sig .tc := ⟨.hbm, 573, rfl⟩
abbrev main_while1b_call12_v0 : Ref sig .tc := ⟨.hbm, 574, rfl⟩
abbrev main_while1b_v474 : Ref sig .tc := ⟨.hbm, 575, rfl⟩
abbrev main_while1b_call13_c : Ref sig .tc := ⟨.hbm, 576, rfl⟩
abbrev main_while1b_call13_c_0 : Ref sig .tc := ⟨.hbm, 577, rfl⟩
abbrev main_while1b_call13_v0 : Ref sig .tc := ⟨.hbm, 578, rfl⟩
abbrev main_while1b_v475 : Ref sig .tc := ⟨.hbm, 579, rfl⟩
abbrev main_while1b_call14_c : Ref sig .tc := ⟨.hbm, 580, rfl⟩
abbrev main_while1b_call14_c_0 : Ref sig .tc := ⟨.hbm, 581, rfl⟩
abbrev main_while1b_call14_v0 : Ref sig .tc := ⟨.hbm, 582, rfl⟩
abbrev main_while1b_v476 : Ref sig .tc := ⟨.hbm, 583, rfl⟩
abbrev main_while1b_call15_c : Ref sig .tc := ⟨.hbm, 584, rfl⟩
abbrev main_while1b_call15_c_0 : Ref sig .tc := ⟨.hbm, 585, rfl⟩
abbrev main_while1b_call15_v0 : Ref sig .tc := ⟨.hbm, 586, rfl⟩
abbrev main_while1b_v477 : Ref sig .tc := ⟨.hbm, 587, rfl⟩
abbrev main_while1b_v478 : Ref sig .tc := ⟨.hbm, 588, rfl⟩
abbrev main_while1b_v479 : Ref sig .tc := ⟨.hbm, 589, rfl⟩
abbrev main_while1b_v480 : Ref sig .tc := ⟨.hbm, 590, rfl⟩
abbrev main_while1b_v481 : Ref sig .tc := ⟨.hbm, 591, rfl⟩
abbrev main_while1b_v482 : Ref sig .tc := ⟨.hbm, 592, rfl⟩
abbrev main_while1b_v483 : Ref sig .tc := ⟨.hbm, 593, rfl⟩
abbrev main_while1b_v484 : Ref sig .tc := ⟨.hbm, 594, rfl⟩
abbrev main_while1b_v485 : Ref sig .tc := ⟨.hbm, 595, rfl⟩
abbrev main_while1b_v486 : Ref sig .tc := ⟨.hbm, 596, rfl⟩
abbrev main_while1b_v487 : Ref sig .tc := ⟨.hbm, 597, rfl⟩
abbrev main_while1b_v488 : Ref sig .tc := ⟨.hbm, 598, rfl⟩
abbrev main_while1b_v489 : Ref sig .tc := ⟨.hbm, 599, rfl⟩
abbrev main_while1b_v490 : Ref sig .tc := ⟨.hbm, 600, rfl⟩
abbrev main_while1b_call16_v0 : Ref sig .tc := ⟨.hbm, 601, rfl⟩
abbrev main_while1b_call16_c : Ref sig .tc := ⟨.hbm, 602, rfl⟩
abbrev main_while1b_call16_c_0 : Ref sig .tc := ⟨.hbm, 603, rfl⟩
abbrev main_while1b_v491 : Ref sig .tc := ⟨.hbm, 604, rfl⟩
abbrev main_while1b_c_40 : Ref sig .tc := ⟨.hbm, 605, rfl⟩
abbrev main_while1b_v492 : Ref sig .tc := ⟨.hbm, 606, rfl⟩
abbrev main_v417 : Ref sig .tc := ⟨.hbm, 607, rfl⟩
abbrev main_v418 : Ref sig .tc := ⟨.hbm, 608, rfl⟩
abbrev main_v419 : Ref sig .tc := ⟨.hbm, 609, rfl⟩
abbrev main_v420 : Ref sig .tc := ⟨.hbm, 610, rfl⟩
abbrev main_v421 : Ref sig .tc := ⟨.hbm, 611, rfl⟩
abbrev main_v422 : Ref sig .tc := ⟨.hbm, 612, rfl⟩
abbrev main_v423 : Ref sig .tc := ⟨.hbm, 613, rfl⟩
abbrev main_v424 : Ref sig .tc := ⟨.hbm, 614, rfl⟩
abbrev main_v425 : Ref sig .tc := ⟨.hbm, 615, rfl⟩
abbrev main_v426 : Ref sig .tc := ⟨.hbm, 616, rfl⟩
abbrev main_v427 : Ref sig .tc := ⟨.hbm, 617, rfl⟩
abbrev main_v428 : Ref sig .tc := ⟨.hbm, 618, rfl⟩
abbrev main_v429 : Ref sig .tc := ⟨.hbm, 619, rfl⟩
abbrev main_v430 : Ref sig .tc := ⟨.hbm, 620, rfl⟩
abbrev main_v431 : Ref sig .tc := ⟨.hbm, 621, rfl⟩
abbrev main_v432 : Ref sig .tc := ⟨.hbm, 622, rfl⟩
abbrev main_v433 : Ref sig .tc := ⟨.hbm, 623, rfl⟩
abbrev main_v434 : Ref sig .tc := ⟨.hbm, 624, rfl⟩
abbrev main_v435 : Ref sig .tc := ⟨.hbm, 625, rfl⟩
abbrev main_v436 : Ref sig .tc := ⟨.hbm, 626, rfl⟩
abbrev main_v437 : Ref sig .tc := ⟨.hbm, 627, rfl⟩
abbrev main_v438 : Ref sig .tc := ⟨.hbm, 628, rfl⟩
abbrev main_v439 : Ref sig .tc := ⟨.hbm, 629, rfl⟩
abbrev main_v440 : Ref sig .tc := ⟨.hbm, 630, rfl⟩
abbrev main_v441 : Ref sig .tc := ⟨.hbm, 631, rfl⟩
abbrev main_v442 : Ref sig .tc := ⟨.hbm, 632, rfl⟩
abbrev main_v443 : Ref sig .tc := ⟨.hbm, 633, rfl⟩
abbrev main_cst_28 : Ref sig .tc := ⟨.hbm, 634, rfl⟩
abbrev main_v444 : Ref sig .tc := ⟨.hbm, 635, rfl⟩
abbrev main_v445 : Ref sig .tc := ⟨.hbm, 636, rfl⟩
abbrev main_cst_29 : Ref sig .tc := ⟨.hbm, 637, rfl⟩
abbrev main_v446 : Ref sig .tc := ⟨.hbm, 638, rfl⟩
abbrev main_v447 : Ref sig .tc := ⟨.hbm, 639, rfl⟩
abbrev main_v448 : Ref sig .tc := ⟨.hbm, 640, rfl⟩
abbrev main_v449 : Ref sig .tc := ⟨.hbm, 641, rfl⟩
abbrev main_v450 : Ref sig .tc := ⟨.hbm, 642, rfl⟩
abbrev main_cst_30 : Ref sig .tc := ⟨.hbm, 643, rfl⟩
abbrev main_v451 : Ref sig .tc := ⟨.hbm, 644, rfl⟩
abbrev main_v452 : Ref sig .tc := ⟨.hbm, 645, rfl⟩
abbrev main_cst_31 : Ref sig .tc := ⟨.hbm, 646, rfl⟩
abbrev main_v453 : Ref sig .tc := ⟨.hbm, 647, rfl⟩
abbrev main_v454 : Ref sig .tc := ⟨.hbm, 648, rfl⟩
abbrev main_v455 : Ref sig .tc := ⟨.hbm, 649, rfl⟩
abbrev main_v456 : Ref sig .tc := ⟨.hbm, 650, rfl⟩
abbrev main_cst_32 : Ref sig .tc := ⟨.hbm, 651, rfl⟩
abbrev main_v457 : Ref sig .tc := ⟨.hbm, 652, rfl⟩
abbrev main_v458 : Ref sig .tc := ⟨.hbm, 653, rfl⟩
abbrev main_v459 : Ref sig .tc := ⟨.hbm, 654, rfl⟩
abbrev main_v460 : Ref sig .tc := ⟨.hbm, 655, rfl⟩
abbrev main_v461 : Ref sig .tc := ⟨.hbm, 656, rfl⟩
abbrev main_v462 : Ref sig .tc := ⟨.hbm, 657, rfl⟩
abbrev main_v463 : Ref sig .tc := ⟨.hbm, 658, rfl⟩
abbrev main_v464 : Ref sig .tc := ⟨.hbm, 659, rfl⟩
abbrev main_v465 : Ref sig .tc := ⟨.hbm, 660, rfl⟩
abbrev main_v466 : Ref sig .tc := ⟨.hbm, 661, rfl⟩
abbrev main_v467 : Ref sig .tc := ⟨.hbm, 662, rfl⟩
abbrev main_call17_v0 : Ref sig .tc := ⟨.hbm, 663, rfl⟩
abbrev main_call17_v1 : Ref sig .tc := ⟨.hbm, 664, rfl⟩
abbrev main_call17_cst : Ref sig .tc := ⟨.hbm, 665, rfl⟩
abbrev main_call17_v2 : Ref sig .tc := ⟨.hbm, 666, rfl⟩
abbrev main_call17_v3 : Ref sig .tc := ⟨.hbm, 667, rfl⟩
abbrev main_call17_cst_0 : Ref sig .tc := ⟨.hbm, 668, rfl⟩
abbrev main_call17_v4 : Ref sig .tc := ⟨.hbm, 669, rfl⟩
abbrev main_call17_v5 : Ref sig .tc := ⟨.hbm, 670, rfl⟩
abbrev main_v468 : Ref sig .tc := ⟨.hbm, 671, rfl⟩
abbrev main_v469 : Ref sig .tc := ⟨.hbm, 672, rfl⟩
abbrev main_v470 : Ref sig .tc := ⟨.hbm, 673, rfl⟩
abbrev main_v471 : Ref sig .tc := ⟨.hbm, 674, rfl⟩
abbrev main_v472 : Ref sig .tc := ⟨.hbm, 675, rfl⟩
abbrev main_v473 : Ref sig .tc := ⟨.hbm, 676, rfl⟩

abbrev nD : Nat := 1
abbrev τ : Topo := Topo.v7x

variable {F : FTy → Type} [FloatOps F]

abbrev main_while0_count : Scf.Loop 32 := ⟨0#32, 1024#32, 1#32⟩

abbrev main_while1_count : Scf.Loop 32 := ⟨0#32, 1024#32, 1#32⟩
-- ==== Proof.RefOps.lean ====
/-
  The reference's host operations as lists, one per stage of the network (patch expansion, its normalization, the skip
  projection, then per layer: weight slices, normalization, input projection, convolution, activation, the four scan
  orders, the projections to the scan's inputs, the time scan, the merge of the orders, normalization, output), and
  what the launch of the program asks of them.
-/
module

public import proofs.«01_k».proof.Proof.Gen.ReferenceIdeal
public import Idealize.ShloMosaic.Lib.StableHlo.RunLoop
public import Idealize.ShloMosaic.Lib.StableHlo.RunRead

@[expose] public section

set_option maxRecDepth 16384

noncomputable section

namespace Cert.Proof.Ref

open Cert.ReferenceIdeal Cert.ReferenceIdeal.Gen
open Idealize.ShloMosaic Idealize.ShloMosaic.TcCoe Idealize.ShloMosaic.Tactic
open Idealize.SL Idealize.SL.Sem

variable {F : FTy → Type} [FloatOps F]

/-- Stage A1: 6 operations. -/
def opsA1 : List (HloOp τ sig (Elt F)) :=
  [ StableHlo.unary main_arg0 main_v0 ((transpose S2x16x16x768 [0, 2, 3, 1] · transposes_S2x768x16x16_S2x16x16x768_0_2_3_1) : (⟨S2x768x16x16, .f32⟩ : BufTy).Contents (Elt F) → (⟨S2x16x16x768, .f32⟩ : BufTy).Contents (Elt F)),
    StableHlo.unary main_arg2 main_v1 ((transpose S768x1536 [1, 0] · transposes_S1536x768_S768x1536_1_0) : (⟨S1536x768, .f32⟩ : BufTy).Contents (Elt F) → (⟨S768x1536, .f32⟩ : BufTy).Contents (Elt F)),
    StableHlo.binary main_v0 main_v1 main_v2 ((fun l r => Host.dotGeneral dot_S2x16x16x768_S768x1536_S2x16x16x1536_3_0_012_1_n_n none l r) : (⟨S2x16x16x768, .f32⟩ : BufTy).Contents (Elt F) → (⟨S768x1536, .f32⟩ : BufTy).Contents (Elt F) → (⟨S2x16x16x1536, .f32⟩ : BufTy).Contents (Elt F)),
    StableHlo.reshape main_v2 main_v3 (rfl : (.f32 : EltTy) = .f32) shapeCasts_S2x16x16x1536_S2x16x16x2x2x384,
    StableHlo.unary main_v3 main_v4 ((transpose S2x16x2x16x2x384 [0, 1, 3, 2, 4, 5] · transposes_S2x16x16x2x2x384_S2x16x2x16x2x384_0_1_3_2_4_5) : (⟨S2x16x16x2x2x384, .f32⟩ : BufTy).Contents (Elt F) → (⟨S2x16x2x16x2x384, .f32⟩ : BufTy).Contents (Elt F)),
    StableHlo.reshape main_v4 main_v5 (rfl : (.f32 : EltTy) = .f32) shapeCasts_S2x16x2x16x2x384_S2x32x32x384 ]

/-- Stage A1 touches the tensor core's references only. -/
theorem opsA1_sub : (opsA1 : List (HloOp τ sig (Elt F))).Forall fun op => op.bufs ⊆ StableHlo.tcRefs τ sig :=
  ⟨StableHlo.unary_bufs_sub .., StableHlo.unary_bufs_sub .., StableHlo.binary_bufs_sub .., StableHlo.reshape_bufs_sub .., StableHlo.unary_bufs_sub .., StableHlo.reshape_bufs_sub ..⟩

/-- Stage A2: 29 operations. -/
def opsA2 : List (HloOp τ sig (Elt F)) :=
  [ StableHlo.nullary main_cst (constant S_ .f32 0x00000000#32),
    StableHlo.binary main_v5 main_cst main_v6 ((fun x v => Host.reduceAdd x v reducesTo_S2x32x32x384_S2x32x32_d3 h_S_) : (⟨S2x32x32x384, .f32⟩ : BufTy).Contents (Elt F) → (⟨S_, .f32⟩ : BufTy).Contents (Elt F) → (⟨S2x32x32, .f32⟩ : BufTy).Contents (Elt F)),
    StableHlo.unary main_v6 main_v7 (broadcastInDim S2x32x32x1 ![0, 1, 2] bcast_S2x32x32_S2x32x32x1_0_1_2 : (⟨S2x32x32, .f32⟩ : BufTy).Contents (Elt F) → (⟨S2x32x32x1, .f32⟩ : BufTy).Contents (Elt F)),
    StableHlo.nullary main_cst_0 (constant S_ .f32 0x43C00000#32),
    StableHlo.unary main_cst_0 main_v8 (broadcastInDim S2x32x32x1 ![] bcast_S_S2x32x32x1 : (⟨S_, .f32⟩ : BufTy).Contents (Elt F) → (⟨S2x32x32x1, .f32⟩ : BufTy).Contents (Elt F)),
    StableHlo.binary main_v7 main_v8 main_v9 (Host.divf : (⟨S2x32x32x1, .f32⟩ : BufTy).Contents (Elt F) → (⟨S2x32x32x1, .f32⟩ : BufTy).Contents (Elt F) → (⟨S2x32x32x1, .f32⟩ : BufTy).Contents (Elt F)),
    StableHlo.unary main_v9 main_v10 (broadcastInDim S2x32x32x384 ![0, 1, 2, 3] bcast_S2x32x32x1_S2x32x32x384_0_1_2_3 : (⟨S2x32x32x1, .f32⟩ : BufTy).Contents (Elt F) → (⟨S2x32x32x384, .f32⟩ : BufTy).Contents (Elt F)),
    StableHlo.binary main_v5 main_v10 main_v11 (subf : (⟨S2x32x32x384, .f32⟩ : BufTy).Contents (Elt F) → (⟨S2x32x32x384, .f32⟩ : BufTy).Contents (Elt F) → (⟨S2x32x32x384, .f32⟩ : BufTy).Contents (Elt F)),
    StableHlo.binary main_v11 main_v11 main_v12 (mulf : (⟨S2x32x32x384, .f32⟩ : BufTy).Contents (Elt F) → (⟨S2x32x32x384, .f32⟩ : BufTy).Contents (Elt F) → (⟨S2x32x32x384, .f32⟩ : BufTy).Contents (Elt F)),
    StableHlo.nullary main_cst_1 (constant S_ .f32 0x00000000#32),
    StableHlo.binary main_v12 main_cst_1 main_v13 ((fun x v => Host.reduceAdd x v reducesTo_S2x32x32x384_S2x32x32_d3 h_S_) : (⟨S2x32x32x384, .f32⟩ : BufTy).Contents (Elt F) → (⟨S_, .f32⟩ : BufTy).Contents (Elt F) → (⟨S2x32x32, .f32⟩ : BufTy).Contents (Elt F)),
    StableHlo.unary main_v13 main_v14 (broadcastInDim S2x32x32x1 ![0, 1, 2] bcast_S2x32x32_S2x32x32x1_0_1_2 : (⟨S2x32x32, .f32⟩ : BufTy).Contents (Elt F) → (⟨S2x32x32x1, .f32⟩ : BufTy).Contents (Elt F)),
    StableHlo.nullary main_cst_2 (constant S_ .f32 0x43C00000#32),
    StableHlo.unary main_cst_2 main_v15 (broadcastInDim S2x32x32x1 ![] bcast_S_S2x32x32x1 : (⟨S_, .f32⟩ : BufTy).Contents (Elt F) → (⟨S2x32x32x1, .f32⟩ : BufTy).Contents (Elt F)),
    StableHlo.binary main_v14 main_v15 main_v16 (Host.divf : (⟨S2x32x32x1, .f32⟩ : BufTy).Contents (Elt F) → (⟨S2x32x32x1, .f32⟩ : BufTy).Contents (Elt F) → (⟨S2x32x32x1, .f32⟩ : BufTy).Contents (Elt F)),
    StableHlo.unary main_v9 main_v17 (broadcastInDim S2x32x32x384 ![0, 1, 2, 3] bcast_S2x32x32x1_S2x32x32x384_0_1_2_3 : (⟨S2x32x32x1, .f32⟩ : BufTy).Contents (Elt F) → (⟨S2x32x32x384, .f32⟩ : BufTy).Contents (Elt F)),
    StableHlo.binary main_v5 main_v17 main_v18 (subf : (⟨S2x32x32x384, .f32⟩ : BufTy).Contents (Elt F) → (⟨S2x32x32x384, .f32⟩ : BufTy).Contents (Elt F) → (⟨S2x32x32x384, .f32⟩ : BufTy).Contents (Elt F)),
    StableHlo.nullary main_cst_3 (constant S_ .f32 0x3727C5AC#32),
    StableHlo.unary main_cst_3 main_v19 (broadcastInDim S2x32x32x1 ![] bcast_S_S2x32x32x1 : (⟨S_, .f32⟩ : BufTy).Contents (Elt F) → (⟨S2x32x32x1, .f32⟩ : BufTy).Contents (Elt F)),
    StableHlo.binary main_v16 main_v19 main_v20 (addf : (⟨S2x32x32x1, .f32⟩ : BufTy).Contents (Elt F) → (⟨S2x32x32x1, .f32⟩ : BufTy).Contents (Elt F) → (⟨S2x32x32x1, .f32⟩ : BufTy).Contents (Elt F)),
    StableHlo.unary main_v20 main_v21 (Host.rsqrt : (⟨S2x32x32x1, .f32⟩ : BufTy).Contents (Elt F) → (⟨S2x32x32x1, .f32⟩ : BufTy).Contents (Elt F)),
    StableHlo.unary main_v21 main_v22 (broadcastInDim S2x32x32x384 ![0, 1, 2, 3] bcast_S2x32x32x1_S2x32x32x384_0_1_2_3 : (⟨S2x32x32x1, .f32⟩ : BufTy).Contents (Elt F) → (⟨S2x32x32x384, .f32⟩ : BufTy).Contents (Elt F)),
    StableHlo.binary main_v18 main_v22 main_v23 (mulf : (⟨S2x32x32x384, .f32⟩ : BufTy).Contents (Elt F) → (⟨S2x32x32x384, .f32⟩ : BufTy).Contents (Elt F) → (⟨S2x32x32x384, .f32⟩ : BufTy).Contents (Elt F)),
    StableHlo.unary main_arg3 main_v24 (broadcastInDim S1x1x1x384 ![3] bcast_S384_S1x1x1x384_3 : (⟨S384, .f32⟩ : BufTy).Contents (Elt F) → (⟨S1x1x1x384, .f32⟩ : BufTy).Contents (Elt F)),
    StableHlo.unary main_v24 main_v25 (broadcastInDim S2x32x32x384 ![0, 1, 2, 3] bcast_S1x1x1x384_S2x32x32x384_0_1_2_3 : (⟨S1x1x1x384, .f32⟩ : BufTy).Contents (Elt F) → (⟨S2x32x32x384, .f32⟩ : BufTy).Contents (Elt F)),
    StableHlo.binary main_v23 main_v25 main_v26 (mulf : (⟨S2x32x32x384, .f32⟩ : BufTy).Contents (Elt F) → (⟨S2x32x32x384, .f32⟩ : BufTy).Contents (Elt F) → (⟨S2x32x32x384, .f32⟩ : BufTy).Contents (Elt F)),
    StableHlo.unary main_arg4 main_v27 (broadcastInDim S1x1x1x384 ![3] bcast_S384_S1x1x1x384_3 : (⟨S384, .f32⟩ : BufTy).Contents (Elt F) → (⟨S1x1x1x384, .f32⟩ : BufTy).Contents (Elt F)),
    StableHlo.unary main_v27 main_v28 (broadcastInDim S2x32x32x384 ![0, 1, 2, 3] bcast_S1x1x1x384_S2x32x32x384_0_1_2_3 : (⟨S1x1x1x384, .f32⟩ : BufTy).Contents (Elt F) → (⟨S2x32x32x384, .f32⟩ : BufTy).Contents (Elt F)),
    StableHlo.binary main_v26 main_v28 main_v29 (addf : (⟨S2x32x32x384, .f32⟩ : BufTy).Contents (Elt F) → (⟨S2x32x32x384, .f32⟩ : BufTy).Contents (Elt F) → (⟨S2x32x32x384, .f32⟩ : BufTy).Contents (Elt F)) ]

/-- Stage A2 touches the tensor core's references only. -/
theorem opsA2_sub : (opsA2 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

/-- Stage A3: 7 operations. -/
def opsA3 : List (HloOp τ sig (Elt F)) :=
  [ StableHlo.unary main_arg1 main_v30 ((transpose S2x32x32x384 [0, 2, 3, 1] · transposes_S2x384x32x32_S2x32x32x384_0_2_3_1) : (⟨S2x384x32x32, .f32⟩ : BufTy).Contents (Elt F) → (⟨S2x32x32x384, .f32⟩ : BufTy).Contents (Elt F)),
    StableHlo.binary main_v29 main_v30 main_v31 ((fun a b => concatenate S2x32x32x768 3 [⟨S2x32x32x384, a⟩, ⟨S2x32x32x384, b⟩] concatenates_S2x32x32x384_S2x32x32x384_S2x32x32x768_d3) : (⟨S2x32x32x384, .f32⟩ : BufTy).Contents (Elt F) → (⟨S2x32x32x384, .f32⟩ : BufTy).Contents (Elt F) → (⟨S2x32x32x768, .f32⟩ : BufTy).Contents (Elt F)),
    StableHlo.unary main_arg5 main_v32 ((transpose S768x384 [1, 0] · transposes_S384x768_S768x384_1_0) : (⟨S384x768, .f32⟩ : BufTy).Contents (Elt F) → (⟨S768x384, .f32⟩ : BufTy).Contents (Elt F)),
    StableHlo.binary main_v31 main_v32 main_v33 ((fun l r => Host.dotGeneral dot_S2x32x32x768_S768x384_S2x32x32x384_3_0_012_1_n_n none l r) : (⟨S2x32x32x768, .f32⟩ : BufTy).Contents (Elt F) → (⟨S768x384, .f32⟩ : BufTy).Contents (Elt F) → (⟨S2x32x32x384, .f32⟩ : BufTy).Contents (Elt F)),
    StableHlo.unary main_arg6 main_v34 (broadcastInDim S1x1x1x384 ![3] bcast_S384_S1x1x1x384_3 : (⟨S384, .f32⟩ : BufTy).Contents (Elt F) → (⟨S1x1x1x384, .f32⟩ : BufTy).Contents (Elt F)),
    StableHlo.unary main_v34 main_v35 (broadcastInDim S2x32x32x384 ![0, 1, 2, 3] bcast_S1x1x1x384_S2x32x32x384_0_1_2_3 : (⟨S1x1x1x384, .f32⟩ : BufTy).Contents (Elt F) → (⟨S2x32x32x384, .f32⟩ : BufTy).Contents (Elt F)),
    StableHlo.binary main_v33 main_v35 main_v36 (addf : (⟨S2x32x32x384, .f32⟩ : BufTy).Contents (Elt F) → (⟨S2x32x32x384, .f32⟩ : BufTy).Contents (Elt F) → (⟨S2x32x32x384, .f32⟩ : BufTy).Contents (Elt F)) ]

/-- Stage A3 touches the tensor core's references only. -/
theorem opsA3_sub : (opsA3 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.unary_bufs_sub .., StableHlo.unary_bufs_sub .., StableHlo.binary_bufs_sub ..⟩

/-- Stage L0_1: 26 operations. -/
def opsL0_1 : List (HloOp τ sig (Elt F)) :=
  [ StableHlo.unary main_arg7 main_v37 ((extractStridedSlice S1x384 ![0, 0] · slices_S2x384_S1x384_0_0) : (⟨S2x384, .f32⟩ : BufTy).Contents (Elt F) → (⟨S1x384, .f32⟩ : BufTy).Contents (Elt F)),
    StableHlo.reshape main_v37 main_v38 (rfl : (.f32 : EltTy) = .f32) shapeCasts_S1x384_S384,
    StableHlo.unary main_arg8 main_v39 ((extractStridedSlice S1x384 ![0, 0] · slices_S2x384_S1x384_0_0) : (⟨S2x384, .f32⟩ : BufTy).Contents (Elt F) → (⟨S1x384, .f32⟩ : BufTy).Contents (Elt F)),
    StableHlo.reshape main_v39 main_v40 (rfl : (.f32 : EltTy) = .f32) shapeCasts_S1x384_S384,
    StableHlo.unary main_arg9 main_v41 ((extractStridedSlice S1x1536x384 ![0, 0, 0] · slices_S2x1536x384_S1x1536x384_0_0_0) : (⟨S2x1536x384, .f32⟩ : BufTy).Contents (Elt F) → (⟨S1x1536x384, .f32⟩ : BufTy).Contents (Elt F)),
    StableHlo.reshape main_v41 main_v42 (rfl : (.f32 : EltTy) = .f32) shapeCasts_S1x1536x384_S1536x384,
    StableHlo.unary main_arg10 main_v43 ((extractStridedSlice S1x768x3x3 ![0, 0, 0, 0] · slices_S2x768x3x3_S1x768x3x3_0_0_0_0) : (⟨S2x768x3x3, .f32⟩ : BufTy).Contents (Elt F) → (⟨S1x768x3x3, .f32⟩ : BufTy).Contents (Elt F)),
    StableHlo.reshape main_v43 main_v44 (rfl : (.f32 : EltTy) = .f32) shapeCasts_S1x768x3x3_S768x3x3,
    StableHlo.unary main_arg11 main_v45 ((extractStridedSlice S1x768 ![0, 0] · slices_S2x768_S1x768_0_0) : (⟨S2x768, .f32⟩ : BufTy).Contents (Elt F) → (⟨S1x768, .f32⟩ : BufTy).Contents (Elt F)),
    StableHlo.reshape main_v45 main_v46 (rfl : (.f32 : EltTy) = .f32) shapeCasts_S1x768_S768,
    StableHlo.unary main_arg12 main_v47 ((extractStridedSlice S1x4x56x768 ![0, 0, 0, 0] · slices_S2x4x56x768_S1x4x56x768_0_0_0_0) : (⟨S2x4x56x768, .f32⟩ : BufTy).Contents (Elt F) → (⟨S1x4x56x768, .f32⟩ : BufTy).Contents (Elt F)),
    StableHlo.reshape main_v47 main_v48 (rfl : (.f32 : EltTy) = .f32) shapeCasts_S1x4x56x768_S4x56x768,
    StableHlo.unary main_arg13 main_v49 ((extractStridedSlice S1x4x768x24 ![0, 0, 0, 0] · slices_S2x4x768x24_S1x4x768x24_0_0_0_0) : (⟨S2x4x768x24, .f32⟩ : BufTy).Contents (Elt F) → (⟨S1x4x768x24, .f32⟩ : BufTy).Contents (Elt F)),
    StableHlo.reshape main_v49 main_v50 (rfl : (.f32 : EltTy) = .f32) shapeCasts_S1x4x768x24_S4x768x24,
    StableHlo.unary main_arg14 main_v51 ((extractStridedSlice S1x4x768 ![0, 0, 0] · slices_S2x4x768_S1x4x768_0_0_0) : (⟨S2x4x768, .f32⟩ : BufTy).Contents (Elt F) → (⟨S1x4x768, .f32⟩ : BufTy).Contents (Elt F)),
    StableHlo.reshape main_v51 main_v52 (rfl : (.f32 : EltTy) = .f32) shapeCasts_S1x4x768_S4x768,
    StableHlo.unary main_arg15 main_v53 ((extractStridedSlice S1x4x768x16 ![0, 0, 0, 0] · slices_S2x4x768x16_S1x4x768x16_0_0_0_0) : (⟨S2x4x768x16, .f32⟩ : BufTy).Contents (Elt F) → (⟨S1x4x768x16, .f32⟩ : BufTy).Contents (Elt F)),
    StableHlo.reshape main_v53 main_v54 (rfl : (.f32 : EltTy) = .f32) shapeCasts_S1x4x768x16_S4x768x16,
    StableHlo.unary main_arg16 main_v55 ((extractStridedSlice S1x4x768 ![0, 0, 0] · slices_S2x4x768_S1x4x768_0_0_0) : (⟨S2x4x768, .f32⟩ : BufTy).Contents (Elt F) → (⟨S1x4x768, .f32⟩ : BufTy).Contents (Elt F)),
    StableHlo.reshape main_v55 main_v56 (rfl : (.f32 : EltTy) = .f32) shapeCasts_S1x4x768_S4x768,
    StableHlo.unary main_arg17 main_v57 ((extractStridedSlice S1x768 ![0, 0] · slices_S2x768_S1x768_0_0) : (⟨S2x768, .f32⟩ : BufTy).Contents (Elt F) → (⟨S1x768, .f32⟩ : BufTy).Contents (Elt F)),
    StableHlo.reshape main_v57 main_v58 (rfl : (.f32 : EltTy) = .f32) shapeCasts_S1x768_S768,
    StableHlo.unary main_arg18 main_v59 ((extractStridedSlice S1x768 ![0, 0] · slices_S2x768_S1x768_0_0) : (⟨S2x768, .f32⟩ : BufTy).Contents (Elt F) → (⟨S1x768, .f32⟩ : BufTy).Contents (Elt F)),
    StableHlo.reshape main_v59 main_v60 (rfl : (.f32 : EltTy) = .f32) shapeCasts_S1x768_S768,
    StableHlo.unary main_arg19 main_v61 ((extractStridedSlice S1x384x768 ![0, 0, 0] · slices_S2x384x768_S1x384x768_0_0_0) : (⟨S2x384x768, .f32⟩ : BufTy).Contents (Elt F) → (⟨S1x384x768, .f32⟩ : BufTy).Contents (Elt F)),
    StableHlo.reshape main_v61 main_v62 (rfl : (.f32 : EltTy) = .f32) shapeCasts_S1x384x768_S384x768 ]

/-- Stage L0_1 touches the tensor core's references only. -/
theorem opsL0_1_sub : (opsL0_1 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub ..⟩

/-- Stage L0_2: 29 operations. -/
def opsL0_2 : List (HloOp τ sig (Elt F)) :=
  [ StableHlo.nullary main_cst_4 (constant S_ .f32 0x00000000#32),
    StableHlo.binary main_v36 main_cst_4 main_v63 ((fun x v => Host.reduceAdd x v reducesTo_S2x32x32x384_S2x32x32_d3 h_S_) : (⟨S2x32x32x384, .f32⟩ : BufTy).Contents (Elt F) → (⟨S_, .f32⟩ : BufTy).Contents (Elt F) → (⟨S2x32x32, .f32⟩ : BufTy).Contents (Elt F)),
    StableHlo.unary main_v63 main_v64 (broadcastInDim S2x32x32x1 ![0, 1, 2] bcast_S2x32x32_S2x32x32x1_0_1_2 : (⟨S2x32x32, .f32⟩ : BufTy).Contents (Elt F) → (⟨S2x32x32x1, .f32⟩ : BufTy).Contents (Elt F)),
    StableHlo.nullary main_cst_5 (constant S_ .f32 0x43C00000#32),
    StableHlo.unary main_cst_5 main_v65 (broadcastInDim S2x32x32x1 ![] bcast_S_S2x32x32x1 : (⟨S_, .f32⟩ : BufTy).Contents (Elt F) → (⟨S2x32x32x1, .f32⟩ : BufTy).Contents (Elt F)),
    StableHlo.binary main_v64 main_v65 main_v66 (Host.divf : (⟨S2x32x32x1, .f32⟩ : BufTy).Contents (Elt F) → (⟨S2x32x32x1, .f32⟩ : BufTy).Contents (Elt F) → (⟨S2x32x32x1, .f32⟩ : BufTy).Contents (Elt F)),
    StableHlo.unary main_v66 main_v67 (broadcastInDim S2x32x32x384 ![0, 1, 2, 3] bcast_S2x32x32x1_S2x32x32x384_0_1_2_3 : (⟨S2x32x32x1, .f32⟩ : BufTy).Contents (Elt F) → (⟨S2x32x32x384, .f32⟩ : BufTy).Contents (Elt F)),
    StableHlo.binary main_v36 main_v67 main_v68 (subf : (⟨S2x32x32x384, .f32⟩ : BufTy).Contents (Elt F) → (⟨S2x32x32x384, .f32⟩ : BufTy).Contents (Elt F) → (⟨S2x32x32x384, .f32⟩ : BufTy).Contents (Elt F)),
    StableHlo.binary main_v68 main_v68 main_v69 (mulf : (⟨S2x32x32x384, .f32⟩ : BufTy).Contents (Elt F) → (⟨S2x32x32x384, .f32⟩ : BufTy).Contents (Elt F) → (⟨S2x32x32x384, .f32⟩ : BufTy).Contents (Elt F)),
    StableHlo.nullary main_cst_6 (constant S_ .f32 0x00000000#32),
    StableHlo.binary main_v69 main_cst_6 main_v70 ((fun x v => Host.reduceAdd x v reducesTo_S2x32x32x384_S2x32x32_d3 h_S_) : (⟨S2x32x32x384, .f32⟩ : BufTy).Contents (Elt F) → (⟨S_, .f32⟩ : BufTy).Contents (Elt F) → (⟨S2x32x32, .f32⟩ : BufTy).Contents (Elt F)),
    StableHlo.unary main_v70 main_v71 (broadcastInDim S2x32x32x1 ![0, 1, 2] bcast_S2x32x32_S2x32x32x1_0_1_2 : (⟨S2x32x32, .f32⟩ : BufTy).Contents (Elt F) → (⟨S2x32x32x1, .f32⟩ : BufTy).Contents (Elt F)),
    StableHlo.nullary main_cst_7 (constant S_ .f32 0x43C00000#32),
    StableHlo.unary main_cst_7 main_v72 (broadcastInDim S2x32x32x1 ![] bcast_S_S2x32x32x1 : (⟨S_, .f32⟩ : BufTy).Contents (Elt F) → (⟨S2x32x32x1, .f32⟩ : BufTy).Contents (Elt F)),
    StableHlo.binary main_v71 main_v72 main_v73 (Host.divf : (⟨S2x32x32x1, .f32⟩ : BufTy).Contents (Elt F) → (⟨S2x32x32x1, .f32⟩ : BufTy).Contents (Elt F) → (⟨S2x32x32x1, .f32⟩ : BufTy).Contents (Elt F)),
    StableHlo.unary main_v66 main_v74 (broadcastInDim S2x32x32x384 ![0, 1, 2, 3] bcast_S2x32x32x1_S2x32x32x384_0_1_2_3 : (⟨S2x32x32x1, .f32⟩ : BufTy).Contents (Elt F) → (⟨S2x32x32x384, .f32⟩ : BufTy).Contents (Elt F)),
    StableHlo.binary main_v36 main_v74 main_v75 (subf : (⟨S2x32x32x384, .f32⟩ : BufTy).Contents (Elt F) → (⟨S2x32x32x384, .f32⟩ : BufTy).Contents (Elt F) → (⟨S2x32x32x384, .f32⟩ : BufTy).Contents (Elt F)),
    StableHlo.nullary main_cst_8 (constant S_ .f32 0x3727C5AC#32),
    StableHlo.unary main_cst_8 main_v76 (broadcastInDim S2x32x32x1 ![] bcast_S_S2x32x32x1 : (⟨S_, .f32⟩ : BufTy).Contents (Elt F) → (⟨S2x32x32x1, .f32⟩ : BufTy).Contents (Elt F)),
    StableHlo.binary main_v73 main_v76 main_v77 (addf : (⟨S2x32x32x1, .f32⟩ : BufTy).Contents (Elt F) → (⟨S2x32x32x1, .f32⟩ : BufTy).Contents (Elt F) → (⟨S2x32x32x1, .f32⟩ : BufTy).Contents (Elt F)),
    StableHlo.unary main_v77 main_v78 (Host.rsqrt : (⟨S2x32x32x1, .f32⟩ : BufTy).Contents (Elt F) → (⟨S2x32x32x1, .f32⟩ : BufTy).Contents (Elt F)),
    StableHlo.unary main_v78 main_v79 (broadcastInDim S2x32x32x384 ![0, 1, 2, 3] bcast_S2x32x32x1_S2x32x32x384_0_1_2_3 : (⟨S2x32x32x1, .f32⟩ : BufTy).Contents (Elt F) → (⟨S2x32x32x384, .f32⟩ : BufTy).Contents (Elt F)),
    StableHlo.binary main_v75 main_v79 main_v80 (mulf : (⟨S2x32x32x384, .f32⟩ : BufTy).Contents (Elt F) → (⟨S2x32x32x384, .f32⟩ : BufTy).Contents (Elt F) → (⟨S2x32x32x384, .f32⟩ : BufTy).Contents (Elt F)),
    StableHlo.unary main_v38 main_v81 (broadcastInDim S1x1x1x384 ![3] bcast_S384_S1x1x1x384_3 : (⟨S384, .f32⟩ : BufTy).Contents (Elt F) → (⟨S1x1x1x384, .f32⟩ : BufTy).Contents (Elt F)),
    StableHlo.unary main_v81 main_v82 (broadcastInDim S2x32x32x384 ![0, 1, 2, 3] bcast_S1x1x1x384_S2x32x32x384_0_1_2_3 : (⟨S1x1x1x384, .f32⟩ : BufTy).Contents (Elt F) → (⟨S2x32x32x384, .f32⟩ : BufTy).Contents (Elt F)),
    StableHlo.binary main_v80 main_v82 main_v83 (mulf : (⟨S2x32x32x384, .f32⟩ : BufTy).Contents (Elt F) → (⟨S2x32x32x384, .f32⟩ : BufTy).Contents (Elt F) → (⟨S2x32x32x384, .f32⟩ : BufTy).Contents (Elt F)),
    StableHlo.unary main_v40 main_v84 (broadcastInDim S1x1x1x384 ![3] bcast_S384_S1x1x1x384_3 : (⟨S384, .f32⟩ : BufTy).Contents (Elt F) → (⟨S1x1x1x384, .f32⟩ : BufTy).Contents (Elt F)),
    StableHlo.unary main_v84 main_v85 (broadcastInDim S2x32x32x384 ![0, 1, 2, 3] bcast_S1x1x1x384_S2x32x32x384_0_1_2_3 : (⟨S1x1x1x384, .f32⟩ : BufTy).Contents (Elt F) → (⟨S2x32x32x384, .f32⟩ : BufTy).Contents (Elt F)),
    StableHlo.binary main_v83 main_v85 main_v86 (addf : (⟨S2x32x32x384, .f32⟩ : BufTy).Contents (Elt F) → (⟨S2x32x32x384, .f32⟩ : BufTy).Contents (Elt F) → (⟨S2x32x32x384, .f32⟩ : BufTy).Contents (Elt F)) ]

/-- Stage L0_2 touches the tensor core's references only. -/
theorem opsL0_2_sub : (opsL0_2 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

/-- Stage L0_3: 5 operations. -/
def opsL0_3 : List (HloOp τ sig (Elt F)) :=
  [ StableHlo.unary main_v42 main_v87 ((transpose S384x1536 [1, 0] · transposes_S1536x384_S384x1536_1_0) : (⟨S1536x384, .f32⟩ : BufTy).Contents (Elt F) → (⟨S384x1536, .f32⟩ : BufTy).Contents (Elt F)),
    StableHlo.binary main_v86 main_v87 main_v88 ((fun l r => Host.dotGeneral dot_S2x32x32x384_S384x1536_S2x32x32x1536_3_0_012_1_n_n none l r) : (⟨S2x32x32x384, .f32⟩ : BufTy).Contents (Elt F) → (⟨S384x1536, .f32⟩ : BufTy).Contents (Elt F) → (⟨S2x32x32x1536, .f32⟩ : BufTy).Contents (Elt F)),
    StableHlo.unary main_v88 main_v89 ((extractStridedSlice S2x32x32x768 ![0, 0, 0, 0] · slices_S2x32x32x1536_S2x32x32x768_0_0_0_0) : (⟨S2x32x32x1536, .f32⟩ : BufTy).Contents (Elt F) → (⟨S2x32x32x768, .f32⟩ : BufTy).Contents (Elt F)),
    StableHlo.unary main_v88 main_v90 ((extractStridedSlice S2x32x32x768 ![0, 0, 0, 768] · slices_S2x32x32x1536_S2x32x32x768_0_0_0_768) : (⟨S2x32x32x1536, .f32⟩ : BufTy).Contents (Elt F) → (⟨S2x32x32x768, .f32⟩ : BufTy).Contents (Elt F)),
    StableHlo.unary main_v89 main_v91 ((transpose S2x768x32x32 [0, 3, 1, 2] · transposes_S2x32x32x768_S2x768x32x32_0_3_1_2) : (⟨S2x32x32x768, .f32⟩ : BufTy).Contents (Elt F) → (⟨S2x768x32x32, .f32⟩ : BufTy).Contents (Elt F)) ]

/-- Stage L0_3 touches the tensor core's references only. -/
theorem opsL0_3_sub : (opsL0_3 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub ..⟩

/-- Stage L0_4: 71 operations. -/
def opsL0_4 : List (HloOp τ sig (Elt F)) :=
  [ StableHlo.nullary main_c (constantI S_ 32 0#32),
    StableHlo.unary main_c main_call0_v0 ((sitofp .f32) : (⟨S_, .i32⟩ : BufTy).Contents (Elt F) → (⟨S_, .f32⟩ : BufTy).Contents (Elt F)),
    StableHlo.binary main_v91 main_call0_v0 main_v92 ((fun x v => pad S2x768x34x34 ![0, 0, 1, 1] ![0, 0, 1, 1] ![0, 0, 0, 0] x v pads_S2x768x32x32_S2x768x34x34_000_000_110_110 h_S_) : (⟨S2x768x32x32, .f32⟩ : BufTy).Contents (Elt F) → (⟨S_, .f32⟩ : BufTy).Contents (Elt F) → (⟨S2x768x34x34, .f32⟩ : BufTy).Contents (Elt F)),
    StableHlo.unary main_v44 main_v93 ((extractStridedSlice S768x1x1 ![0, 0, 0] · slices_S768x3x3_S768x1x1_0_0_0) : (⟨S768x3x3, .f32⟩ : BufTy).Contents (Elt F) → (⟨S768x1x1, .f32⟩ : BufTy).Contents (Elt F)),
    StableHlo.reshape main_v93 main_v94 (rfl : (.f32 : EltTy) = .f32) shapeCasts_S768x1x1_S768,
    StableHlo.unary main_v94 main_v95 (broadcastInDim S1x768x1x1 ![1] bcast_S768_S1x768x1x1_1 : (⟨S768, .f32⟩ : BufTy).Contents (Elt F) → (⟨S1x768x1x1, .f32⟩ : BufTy).Contents (Elt F)),
    StableHlo.unary main_v92 main_v96 ((extractStridedSlice S2x768x32x32 ![0, 0, 0, 0] · slices_S2x768x34x34_S2x768x32x32_0_0_0_0) : (⟨S2x768x34x34, .f32⟩ : BufTy).Contents (Elt F) → (⟨S2x768x32x32, .f32⟩ : BufTy).Contents (Elt F)),
    StableHlo.unary main_v95 main_v97 (broadcastInDim S2x768x32x32 ![0, 1, 2, 3] bcast_S1x768x1x1_S2x768x32x32_0_1_2_3 : (⟨S1x768x1x1, .f32⟩ : BufTy).Contents (Elt F) → (⟨S2x768x32x32, .f32⟩ : BufTy).Contents (Elt F)),
    StableHlo.binary main_v97 main_v96 main_v98 (mulf : (⟨S2x768x32x32, .f32⟩ : BufTy).Contents (Elt F) → (⟨S2x768x32x32, .f32⟩ : BufTy).Contents (Elt F) → (⟨S2x768x32x32, .f32⟩ : BufTy).Contents (Elt F)),
    StableHlo.nullary main_cst_9 (constant S_ .f32 0x00000000#32),
    StableHlo.unary main_cst_9 main_v99 (broadcastInDim S2x768x32x32 ![] bcast_S_S2x768x32x32 : (⟨S_, .f32⟩ : BufTy).Contents (Elt F) → (⟨S2x768x32x32, .f32⟩ : BufTy).Contents (Elt F)),
    StableHlo.binary main_v99 main_v98 main_v100 (addf : (⟨S2x768x32x32, .f32⟩ : BufTy).Contents (Elt F) → (⟨S2x768x32x32, .f32⟩ : BufTy).Contents (Elt F) → (⟨S2x768x32x32, .f32⟩ : BufTy).Contents (Elt F)),
    StableHlo.unary main_v44 main_v101 ((extractStridedSlice S768x1x1 ![0, 0, 1] · slices_S768x3x3_S768x1x1_0_0_1) : (⟨S768x3x3, .f32⟩ : BufTy).Contents (Elt F) → (⟨S768x1x1, .f32⟩ : BufTy).Contents (Elt F)),
    StableHlo.reshape main_v101 main_v102 (rfl : (.f32 : EltTy) = .f32) shapeCasts_S768x1x1_S768,
    StableHlo.unary main_v102 main_v103 (broadcastInDim S1x768x1x1 ![1] bcast_S768_S1x768x1x1_1 : (⟨S768, .f32⟩ : BufTy).Contents (Elt F) → (⟨S1x768x1x1, .f32⟩ : BufTy).Contents (Elt F)),
    StableHlo.unary main_v92 main_v104 ((extractStridedSlice S2x768x32x32 ![0, 0, 0, 1] · slices_S2x768x34x34_S2x768x32x32_0_0_0_1) : (⟨S2x768x34x34, .f32⟩ : BufTy).Contents (Elt F) → (⟨S2x768x32x32, .f32⟩ : BufTy).Contents (Elt F)),
    StableHlo.unary main_v103 main_v105 (broadcastInDim S2x768x32x32 ![0, 1, 2, 3] bcast_S1x768x1x1_S2x768x32x32_0_1_2_3 : (⟨S1x768x1x1, .f32⟩ : BufTy).Contents (Elt F) → (⟨S2x768x32x32, .f32⟩ : BufTy).Contents (Elt F)),
    StableHlo.binary main_v105 main_v104 main_v106 (mulf : (⟨S2x768x32x32, .f32⟩ : BufTy).Contents (Elt F) → (⟨S2x768x32x32, .f32⟩ : BufTy).Contents (Elt F) → (⟨S2x768x32x32, .f32⟩ : BufTy).Contents (Elt F)),
    StableHlo.binary main_v100 main_v106 main_v107 (addf : (⟨S2x768x32x32, .f32⟩ : BufTy).Contents (Elt F) → (⟨S2x768x32x32, .f32⟩ : BufTy).Contents (Elt F) → (⟨S2x768x32x32, .f32⟩ : BufTy).Contents (Elt F)),
    StableHlo.unary main_v44 main_v108 ((extractStridedSlice S768x1x1 ![0, 0, 2] · slices_S768x3x3_S768x1x1_0_0_2) : (⟨S768x3x3, .f32⟩ : BufTy).Contents (Elt F) → (⟨S768x1x1, .f32⟩ : BufTy).Contents (Elt F)),
    StableHlo.reshape main_v108 main_v109 (rfl : (.f32 : EltTy) = .f32) shapeCasts_S768x1x1_S768,
    StableHlo.unary main_v109 main_v110 (broadcastInDim S1x768x1x1 ![1] bcast_S768_S1x768x1x1_1 : (⟨S768, .f32⟩ : BufTy).Contents (Elt F) → (⟨S1x768x1x1, .f32⟩ : BufTy).Contents (Elt F)),
    StableHlo.unary main_v92 main_v111 ((extractStridedSlice S2x768x32x32 ![0, 0, 0, 2] · slices_S2x768x34x34_S2x768x32x32_0_0_0_2) : (⟨S2x768x34x34, .f32⟩ : BufTy).Contents (Elt F) → (⟨S2x768x32x32, .f32⟩ : BufTy).Contents (Elt F)),
    StableHlo.unary main_v110 main_v112 (broadcastInDim S2x768x32x32 ![0, 1, 2, 3] bcast_S1x768x1x1_S2x768x32x32_0_1_2_3 : (⟨S1x768x1x1, .f32⟩ : BufTy).Contents (Elt F) → (⟨S2x768x32x32, .f32⟩ : BufTy).Contents (Elt F)),
    StableHlo.binary main_v112 main_v111 main_v113 (mulf : (⟨S2x768x32x32, .f32⟩ : BufTy).Contents (Elt F) → (⟨S2x768x32x32, .f32⟩ : BufTy).Contents (Elt F) → (⟨S2x768x32x32, .f32⟩ : BufTy).Contents (Elt F)),
    StableHlo.binary main_v107 main_v113 main_v114 (addf : (⟨S2x768x32x32, .f32⟩ : BufTy).Contents (Elt F) → (⟨S2x768x32x32, .f32⟩ : BufTy).Contents (Elt F) → (⟨S2x768x32x32, .f32⟩ : BufTy).Contents (Elt F)),
    StableHlo.unary main_v44 main_v115 ((extractStridedSlice S768x1x1 ![0, 1, 0] · slices_S768x3x3_S768x1x1_0_1_0) : (⟨S768x3x3, .f32⟩ : BufTy).Contents (Elt F) → (⟨S768x1x1, .f32⟩ : BufTy).Contents (Elt F)),
    StableHlo.reshape main_v115 main_v116 (rfl : (.f32 : EltTy) = .f32) shapeCasts_S768x1x1_S768,
    StableHlo.unary main_v116 main_v117 (broadcastInDim S1x768x1x1 ![1] bcast_S768_S1x768x1x1_1 : (⟨S768, .f32⟩ : BufTy).Contents (Elt F) → (⟨S1x768x1x1, .f32⟩ : BufTy).Contents (Elt F)),
    StableHlo.unary main_v92 main_v118 ((extractStridedSlice S2x768x32x32 ![0, 0, 1, 0] · slices_S2x768x34x34_S2x768x32x32_0_0_1_0) : (⟨S2x768x34x34, .f32⟩ : BufTy).Contents (Elt F) → (⟨S2x768x32x32, .f32⟩ : BufTy).Contents (Elt F)),
    StableHlo.unary main_v117 main_v119 (broadcastInDim S2x768x32x32 ![0, 1, 2, 3] bcast_S1x768x1x1_S2x768x32x32_0_1_2_3 : (⟨S1x768x1x1, .f32⟩ : BufTy).Contents (Elt F) → (⟨S2x768x32x32, .f32⟩ : BufTy).Contents (Elt F)),
    StableHlo.binary main_v119 main_v118 main_v120 (mulf : (⟨S2x768x32x32, .f32⟩ : BufTy).Contents (Elt F) → (⟨S2x768x32x32, .f32⟩ : BufTy).Contents (Elt F) → (⟨S2x768x32x32, .f32⟩ : BufTy).Contents (Elt F)),
    StableHlo.binary main_v114 main_v120 main_v121 (addf : (⟨S2x768x32x32, .f32⟩ : BufTy).Contents (Elt F) → (⟨S2x768x32x32, .f32⟩ : BufTy).Contents (Elt F) → (⟨S2x768x32x32, .f32⟩ : BufTy).Contents (Elt F)),
    StableHlo.unary main_v44 main_v122 ((extractStridedSlice S768x1x1 ![0, 1, 1] · slices_S768x3x3_S768x1x1_0_1_1) : (⟨S768x3x3, .f32⟩ : BufTy).Contents (Elt F) → (⟨S768x1x1, .f32⟩ : BufTy).Contents (Elt F)),
    StableHlo.reshape main_v122 main_v123 (rfl : (.f32 : EltTy) = .f32) shapeCasts_S768x1x1_S768,
    StableHlo.unary main_v123 main_v124 (broadcastInDim S1x768x1x1 ![1] bcast_S768_S1x768x1x1_1 : (⟨S768, .f32⟩ : BufTy).Contents (Elt F) → (⟨S1x768x1x1, .f32⟩ : BufTy).Contents (Elt F)),
    StableHlo.unary main_v92 main_v125 ((extractStridedSlice S2x768x32x32 ![0, 0, 1, 1] · slices_S2x768x34x34_S2x768x32x32_0_0_1_1) : (⟨S2x768x34x34, .f32⟩ : BufTy).Contents (Elt F) → (⟨S2x768x32x32, .f32⟩ : BufTy).Contents (Elt F)),
    StableHlo.unary main_v124 main_v126 (broadcastInDim S2x768x32x32 ![0, 1, 2, 3] bcast_S1x768x1x1_S2x768x32x32_0_1_2_3 : (⟨S1x768x1x1, .f32⟩ : BufTy).Contents (Elt F) → (⟨S2x768x32x32, .f32⟩ : BufTy).Contents (Elt F)),
    StableHlo.binary main_v126 main_v125 main_v127 (mulf : (⟨S2x768x32x32, .f32⟩ : BufTy).Contents (Elt F) → (⟨S2x768x32x32, .f32⟩ : BufTy).Contents (Elt F) → (⟨S2x768x32x32, .f32⟩ : BufTy).Contents (Elt F)),
    StableHlo.binary main_v121 main_v127 main_v128 (addf : (⟨S2x768x32x32, .f32⟩ : BufTy).Contents (Elt F) → (⟨S2x768x32x32, .f32⟩ : BufTy).Contents (Elt F) → (⟨S2x768x32x32, .f32⟩ : BufTy).Contents (Elt F)),
    StableHlo.unary main_v44 main_v129 ((extractStridedSlice S768x1x1 ![0, 1, 2] · slices_S768x3x3_S768x1x1_0_1_2) : (⟨S768x3x3, .f32⟩ : BufTy).Contents (Elt F) → (⟨S768x1x1, .f32⟩ : BufTy).Contents (Elt F)),
    StableHlo.reshape main_v129 main_v130 (rfl : (.f32 : EltTy) = .f32) shapeCasts_S768x1x1_S768,
    StableHlo.unary main_v130 main_v131 (broadcastInDim S1x768x1x1 ![1] bcast_S768_S1x768x1x1_1 : (⟨S768, .f32⟩ : BufTy).Contents (Elt F) → (⟨S1x768x1x1, .f32⟩ : BufTy).Contents (Elt F)),
    StableHlo.unary main_v92 main_v132 ((extractStridedSlice S2x768x32x32 ![0, 0, 1, 2] · slices_S2x768x34x34_S2x768x32x32_0_0_1_2) : (⟨S2x768x34x34, .f32⟩ : BufTy).Contents (Elt F) → (⟨S2x768x32x32, .f32⟩ : BufTy).Contents (Elt F)),
    StableHlo.unary main_v131 main_v133 (broadcastInDim S2x768x32x32 ![0, 1, 2, 3] bcast_S1x768x1x1_S2x768x32x32_0_1_2_3 : (⟨S1x768x1x1, .f32⟩ : BufTy).Contents (Elt F) → (⟨S2x768x32x32, .f32⟩ : BufTy).Contents (Elt F)),
    StableHlo.binary main_v133 main_v132 main_v134 (mulf : (⟨S2x768x32x32, .f32⟩ : BufTy).Contents (Elt F) → (⟨S2x768x32x32, .f32⟩ : BufTy).Contents (Elt F) → (⟨S2x768x32x32, .f32⟩ : BufTy).Contents (Elt F)),
    StableHlo.binary main_v128 main_v134 main_v135 (addf : (⟨S2x768x32x32, .f32⟩ : BufTy).Contents (Elt F) → (⟨S2x768x32x32, .f32⟩ : BufTy).Contents (Elt F) → (⟨S2x768x32x32, .f32⟩ : BufTy).Contents (Elt F)),
    StableHlo.unary main_v44 main_v136 ((extractStridedSlice S768x1x1 ![0, 2, 0] · slices_S768x3x3_S768x1x1_0_2_0) : (⟨S768x3x3, .f32⟩ : BufTy).Contents (Elt F) → (⟨S768x1x1, .f32⟩ : BufTy).Contents (Elt F)),
    StableHlo.reshape main_v136 main_v137 (rfl : (.f32 : EltTy) = .f32) shapeCasts_S768x1x1_S768,
    StableHlo.unary main_v137 main_v138 (broadcastInDim S1x768x1x1 ![1] bcast_S768_S1x768x1x1_1 : (⟨S768, .f32⟩ : BufTy).Contents (Elt F) → (⟨S1x768x1x1, .f32⟩ : BufTy).Contents (Elt F)),
    StableHlo.unary main_v92 main_v139 ((extractStridedSlice S2x768x32x32 ![0, 0, 2, 0] · slices_S2x768x34x34_S2x768x32x32_0_0_2_0) : (⟨S2x768x34x34, .f32⟩ : BufTy).Contents (Elt F) → (⟨S2x768x32x32, .f32⟩ : BufTy).Contents (Elt F)),
    StableHlo.unary main_v138 main_v140 (broadcastInDim S2x768x32x32 ![0, 1, 2, 3] bcast_S1x768x1x1_S2x768x32x32_0_1_2_3 : (⟨S1x768x1x1, .f32⟩ : BufTy).Contents (Elt F) → (⟨S2x768x32x32, .f32⟩ : BufTy).Contents (Elt F)),
    StableHlo.binary main_v140 main_v139 main_v141 (mulf : (⟨S2x768x32x32, .f32⟩ : BufTy).Contents (Elt F) → (⟨S2x768x32x32, .f32⟩ : BufTy).Contents (Elt F) → (⟨S2x768x32x32, .f32⟩ : BufTy).Contents (Elt F)),
    StableHlo.binary main_v135 main_v141 main_v142 (addf : (⟨S2x768x32x32, .f32⟩ : BufTy).Contents (Elt F) → (⟨S2x768x32x32, .f32⟩ : BufTy).Contents (Elt F) → (⟨S2x768x32x32, .f32⟩ : BufTy).Contents (Elt F)),
    StableHlo.unary main_v44 main_v143 ((extractStridedSlice S768x1x1 ![0, 2, 1] · slices_S768x3x3_S768x1x1_0_2_1) : (⟨S768x3x3, .f32⟩ : BufTy).Contents (Elt F) → (⟨S768x1x1, .f32⟩ : BufTy).Contents (Elt F)),
    StableHlo.reshape main_v143 main_v144 (rfl : (.f32 : EltTy) = .f32) shapeCasts_S768x1x1_S768,
    StableHlo.unary main_v144 main_v145 (broadcastInDim S1x768x1x1 ![1] bcast_S768_S1x768x1x1_1 : (⟨S768, .f32⟩ : BufTy).Contents (Elt F) → (⟨S1x768x1x1, .f32⟩ : BufTy).Contents (Elt F)),
    StableHlo.unary main_v92 main_v146 ((extractStridedSlice S2x768x32x32 ![0, 0, 2, 1] · slices_S2x768x34x34_S2x768x32x32_0_0_2_1) : (⟨S2x768x34x34, .f32⟩ : BufTy).Contents (Elt F) → (⟨S2x768x32x32, .f32⟩ : BufTy).Contents (Elt F)),
    StableHlo.unary main_v145 main_v147 (broadcastInDim S2x768x32x32 ![0, 1, 2, 3] bcast_S1x768x1x1_S2x768x32x32_0_1_2_3 : (⟨S1x768x1x1, .f32⟩ : BufTy).Contents (Elt F) → (⟨S2x768x32x32, .f32⟩ : BufTy).Contents (Elt F)),
    StableHlo.binary main_v147 main_v146 main_v148 (mulf : (⟨S2x768x32x32, .f32⟩ : BufTy).Contents (Elt F) → (⟨S2x768x32x32, .f32⟩ : BufTy).Contents (Elt F) → (⟨S2x768x32x32, .f32⟩ : BufTy).Contents (Elt F)),
    StableHlo.binary main_v142 main_v148 main_v149 (addf : (⟨S2x768x32x32, .f32⟩ : BufTy).Contents (Elt F) → (⟨S2x768x32x32, .f32⟩ : BufTy).Contents (Elt F) → (⟨S2x768x32x32, .f32⟩ : BufTy).Contents (Elt F)),
    StableHlo.unary main_v44 main_v150 ((extractStridedSlice S768x1x1 ![0, 2, 2] · slices_S768x3x3_S768x1x1_0_2_2) : (⟨S768x3x3, .f32⟩ : BufTy).Contents (Elt F) → (⟨S768x1x1, .f32⟩ : BufTy).Contents (Elt F)),
    StableHlo.reshape main_v150 main_v151 (rfl : (.f32 : EltTy) = .f32) shapeCasts_S768x1x1_S768,
    StableHlo.unary main_v151 main_v152 (broadcastInDim S1x768x1x1 ![1] bcast_S768_S1x768x1x1_1 : (⟨S768, .f32⟩ : BufTy).Contents (Elt F) → (⟨S1x768x1x1, .f32⟩ : BufTy).Contents (Elt F)),
    StableHlo.unary main_v92 main_v153 ((extractStridedSlice S2x768x32x32 ![0, 0, 2, 2] · slices_S2x768x34x34_S2x768x32x32_0_0_2_2) : (⟨S2x768x34x34, .f32⟩ : BufTy).Contents (Elt F) → (⟨S2x768x32x32, .f32⟩ : BufTy).Contents (Elt F)),
    StableHlo.unary main_v152 main_v154 (broadcastInDim S2x768x32x32 ![0, 1, 2, 3] bcast_S1x768x1x1_S2x768x32x32_0_1_2_3 : (⟨S1x768x1x1, .f32⟩ : BufTy).Contents (Elt F) → (⟨S2x768x32x32, .f32⟩ : BufTy).Contents (Elt F)),
    StableHlo.binary main_v154 main_v153 main_v155 (mulf : (⟨S2x768x32x32, .f32⟩ : BufTy).Contents (Elt F) → (⟨S2x768x32x32, .f32⟩ : BufTy).Contents (Elt F) → (⟨S2x768x32x32, .f32⟩ : BufTy).Contents (Elt F)),
    StableHlo.binary main_v149 main_v155 main_v156 (addf : (⟨S2x768x32x32, .f32⟩ : BufTy).Contents (Elt F) → (⟨S2x768x32x32, .f32⟩ : BufTy).Contents (Elt F) → (⟨S2x768x32x32, .f32⟩ : BufTy).Contents (Elt F)),
    StableHlo.unary main_v46 main_v157 (broadcastInDim S1x768x1x1 ![1] bcast_S768_S1x768x1x1_1 : (⟨S768, .f32⟩ : BufTy).Contents (Elt F) → (⟨S1x768x1x1, .f32⟩ : BufTy).Contents (Elt F)),
    StableHlo.unary main_v157 main_v158 (broadcastInDim S2x768x32x32 ![0, 1, 2, 3] bcast_S1x768x1x1_S2x768x32x32_0_1_2_3 : (⟨S1x768x1x1, .f32⟩ : BufTy).Contents (Elt F) → (⟨S2x768x32x32, .f32⟩ : BufTy).Contents (Elt F)),
    StableHlo.binary main_v156 main_v158 main_v159 (addf : (⟨S2x768x32x32, .f32⟩ : BufTy).Contents (Elt F) → (⟨S2x768x32x32, .f32⟩ : BufTy).Contents (Elt F) → (⟨S2x768x32x32, .f32⟩ : BufTy).Contents (Elt F)) ]

/-- Stage L0_4 touches the tensor core's references only. -/
theorem opsL0_4_sub : (opsL0_4 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩

/-- Stage L0_5: 9 operations. -/
def opsL0_5 : List (HloOp τ sig (Elt F)) :=
  [ StableHlo.unary main_v159 main_call1_v0 (Host.negf : (⟨S2x768x32x32, .f32⟩ : BufTy).Contents (Elt F) → (⟨S2x768x32x32, .f32⟩ : BufTy).Contents (Elt F)),
    StableHlo.unary main_call1_v0 main_call1_v1 (Host.exp : (⟨S2x768x32x32, .f32⟩ : BufTy).Contents (Elt F) → (⟨S2x768x32x32, .f32⟩ : BufTy).Contents (Elt F)),
    StableHlo.nullary main_call1_cst (constant S_ .f32 0x3F800000#32),
    StableHlo.unary main_call1_cst main_call1_v2 ((broadcastInDim S2x768x32x32 ![] bcast_S_S2x768x32x32) : (⟨S_, .f32⟩ : BufTy).Contents (Elt F) → (⟨S2x768x32x32, .f32⟩ : BufTy).Contents (Elt F)),
    StableHlo.binary main_call1_v2 main_call1_v1 main_call1_v3 (addf : (⟨S2x768x32x32, .f32⟩ : BufTy).Contents (Elt F) → (⟨S2x768x32x32, .f32⟩ : BufTy).Contents (Elt F) → (⟨S2x768x32x32, .f32⟩ : BufTy).Contents (Elt F)),
    StableHlo.nullary main_call1_cst_0 (constant S_ .f32 0x3F800000#32),
    StableHlo.unary main_call1_cst_0 main_call1_v4 ((broadcastInDim S2x768x32x32 ![] bcast_S_S2x768x32x32) : (⟨S_, .f32⟩ : BufTy).Contents (Elt F) → (⟨S2x768x32x32, .f32⟩ : BufTy).Contents (Elt F)),
    StableHlo.binary main_call1_v4 main_call1_v3 main_call1_v5 (Host.divf : (⟨S2x768x32x32, .f32⟩ : BufTy).Contents (Elt F) → (⟨S2x768x32x32, .f32⟩ : BufTy).Contents (Elt F) → (⟨S2x768x32x32, .f32⟩ : BufTy).Contents (Elt F)),
    StableHlo.binary main_v159 main_call1_v5 main_v160 (mulf : (⟨S2x768x32x32, .f32⟩ : BufTy).Contents (Elt F) → (⟨S2x768x32x32, .f32⟩ : BufTy).Contents (Elt F) → (⟨S2x768x32x32, .f32⟩ : BufTy).Contents (Elt F)) ]

/-- Stage L0_5 touches the tensor core's references only. -/
theorem opsL0_5_sub : (opsL0_5 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩

/-- Stage L0_6: 10 operations. -/
def opsL0_6 : List (HloOp τ sig (Elt F)) :=
  [ StableHlo.reshape main_v160 main_v161 (rfl : (.f32 : EltTy) = .f32) shapeCasts_S2x768x32x32_S2x768x1024,
    StableHlo.unary main_v160 main_v162 ((transpose S2x768x32x32 [0, 1, 3, 2] · transposes_S2x768x32x32_S2x768x32x32_0_1_3_2) : (⟨S2x768x32x32, .f32⟩ : BufTy).Contents (Elt F) → (⟨S2x768x32x32, .f32⟩ : BufTy).Contents (Elt F)),
    StableHlo.reshape main_v162 main_v163 (rfl : (.f32 : EltTy) = .f32) shapeCasts_S2x768x32x32_S2x768x1024,
    StableHlo.unary main_v161 main_v164 (Host.reverse [2] : (⟨S2x768x1024, .f32⟩ : BufTy).Contents (Elt F) → (⟨S2x768x1024, .f32⟩ : BufTy).Contents (Elt F)),
    StableHlo.unary main_v163 main_v165 (Host.reverse [2] : (⟨S2x768x1024, .f32⟩ : BufTy).Contents (Elt F) → (⟨S2x768x1024, .f32⟩ : BufTy).Contents (Elt F)),
    StableHlo.unary main_v161 main_v166 (broadcastInDim S2x1x768x1024 ![0, 2, 3] bcast_S2x768x1024_S2x1x768x1024_0_2_3 : (⟨S2x768x1024, .f32⟩ : BufTy).Contents (Elt F) → (⟨S2x1x768x1024, .f32⟩ : BufTy).Contents (Elt F)),
    StableHlo.unary main_v163 main_v167 (broadcastInDim S2x1x768x1024 ![0, 2, 3] bcast_S2x768x1024_S2x1x768x1024_0_2_3 : (⟨S2x768x1024, .f32⟩ : BufTy).Contents (Elt F) → (⟨S2x1x768x1024, .f32⟩ : BufTy).Contents (Elt F)),
    StableHlo.unary main_v164 main_v168 (broadcastInDim S2x1x768x1024 ![0, 2, 3] bcast_S2x768x1024_S2x1x768x1024_0_2_3 : (⟨S2x768x1024, .f32⟩ : BufTy).Contents (Elt F) → (⟨S2x1x768x1024, .f32⟩ : BufTy).Contents (Elt F)),
    StableHlo.unary main_v165 main_v169 (broadcastInDim S2x1x768x1024 ![0, 2, 3] bcast_S2x768x1024_S2x1x768x1024_0_2_3 : (⟨S2x768x1024, .f32⟩ : BufTy).Contents (Elt F) → (⟨S2x1x768x1024, .f32⟩ : BufTy).Contents (Elt F)),
    StableHlo.nary ![main_v166, main_v167, main_v168, main_v169] main_v170 (fun u => (concatenate S2x4x768x1024 1 [⟨S2x1x768x1024, (u 0 : (⟨S2x1x768x1024, .f32⟩ : BufTy).Contents (Elt F))⟩, ⟨S2x1x768x1024, (u 1 : (⟨S2x1x768x1024, .f32⟩ : BufTy).Contents (Elt F))⟩, ⟨S2x1x768x1024, (u 2 : (⟨S2x1x768x1024, .f32⟩ : BufTy).Contents (Elt F))⟩, ⟨S2x1x768x1024, (u 3 : (⟨S2x1x768x1024, .f32⟩ : BufTy).Contents (Elt F))⟩] concatenates_S2x1x768x1024_S2x1x768x1024_S2x1x768x1024_S2x1x768x1024_S2x4x768x1024_d1 : (⟨S2x4x768x1024, .f32⟩ : BufTy).Contents (Elt F))) ]

/-- Stage L0_6 touches the tensor core's references only. -/
theorem opsL0_6_sub : (opsL0_6 : List (HloOp τ sig (Elt F))).Forall fun op => op.bufs ⊆ StableHlo.tcRefs τ sig :=
  ⟨StableHlo.reshape_bufs_sub .., StableHlo.unary_bufs_sub .., StableHlo.reshape_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub ..⟩

/-- Stage L0_7: 5 operations. -/
def opsL0_7 : List (HloOp τ sig (Elt F)) :=
  [ StableHlo.binary main_v48 main_v170 main_v171 ((fun l r => Host.dotGeneral dot_S4x56x768_S2x4x768x1024_S4x56x2x1024_2_2_1_03_0_1 none l r) : (⟨S4x56x768, .f32⟩ : BufTy).Contents (Elt F) → (⟨S2x4x768x1024, .f32⟩ : BufTy).Contents (Elt F) → (⟨S4x56x2x1024, .f32⟩ : BufTy).Contents (Elt F)),
    StableHlo.unary main_v171 main_v172 ((transpose S2x4x56x1024 [2, 0, 1, 3] · transposes_S4x56x2x1024_S2x4x56x1024_2_0_1_3) : (⟨S4x56x2x1024, .f32⟩ : BufTy).Contents (Elt F) → (⟨S2x4x56x1024, .f32⟩ : BufTy).Contents (Elt F)),
    StableHlo.unary main_v172 main_v173 ((extractStridedSlice S2x4x24x1024 ![0, 0, 0, 0] · slices_S2x4x56x1024_S2x4x24x1024_0_0_0_0) : (⟨S2x4x56x1024, .f32⟩ : BufTy).Contents (Elt F) → (⟨S2x4x24x1024, .f32⟩ : BufTy).Contents (Elt F)),
    StableHlo.unary main_v172 main_v174 ((extractStridedSlice S2x4x16x1024 ![0, 0, 24, 0] · slices_S2x4x56x1024_S2x4x16x1024_0_0_24_0) : (⟨S2x4x56x1024, .f32⟩ : BufTy).Contents (Elt F) → (⟨S2x4x16x1024, .f32⟩ : BufTy).Contents (Elt F)),
    StableHlo.unary main_v172 main_v175 ((extractStridedSlice S2x4x16x1024 ![0, 0, 40, 0] · slices_S2x4x56x1024_S2x4x16x1024_0_0_40_0) : (⟨S2x4x56x1024, .f32⟩ : BufTy).Contents (Elt F) → (⟨S2x4x16x1024, .f32⟩ : BufTy).Contents (Elt F)) ]

/-- Stage L0_7 touches the tensor core's references only. -/
theorem opsL0_7_sub : (opsL0_7 : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.unary_bufs_sub ..⟩

/-- Stage L0_8: 19 operations. -/
def opsL0_8 : List (HloOp τ sig (Elt F)) :=
  [ StableHlo.binary main_v50 main_v173 main_v176 ((fun l r => Host.dotGeneral dot_S4x768x24_S2x4x24x1024_S4x768x2x1024_2_2_1_03_0_1 none l r) : (⟨S4x768x24, .f32⟩ : BufTy).Contents (Elt F) → (⟨S2x4x24x1024, .f32⟩ : BufTy).Contents (Elt F) → (⟨S4x768x2x1024, .f32⟩ : BufTy).Contents (Elt F)),
    StableHlo.unary main_v176 main_v177 ((transpose S2x4x768x1024 [2, 0, 1, 3] · transposes_S4x768x2x1024_S2x4x768x1024_2_0_1_3) : (⟨S4x768x2x1024, .f32⟩ : BufTy).Contents (Elt F) → (⟨S2x4x768x1024, .f32⟩ : BufTy).Contents (Elt F)),
    StableHlo.unary main_v52 main_v178 (broadcastInDim S1x4x768x1 ![1, 2] bcast_S4x768_S1x4x768x1_1_2 : (⟨S4x768, .f32⟩ : BufTy).Contents (Elt F) → (⟨S1x4x768x1, .f32⟩ : BufTy).Contents (Elt F)),
    StableHlo.unary main_v178 main_v179 (broadcastInDim S2x4x768x1024 ![0, 1, 2, 3] bcast_S1x4x768x1_S2x4x768x1024_0_1_2_3 : (⟨S1x4x768x1, .f32⟩ : BufTy).Contents (Elt F) → (⟨S2x4x768x1024, .f32⟩ : BufTy).Contents (Elt F)),
    StableHlo.binary main_v177 main_v179 main_v180 (addf : (⟨S2x4x768x1024, .f32⟩ : BufTy).Contents (Elt F) → (⟨S2x4x768x1024, .f32⟩ : BufTy).Contents (Elt F) → (⟨S2x4x768x1024, .f32⟩ : BufTy).Contents (Elt F)),
    StableHlo.nullary main_call2_cst (constant S_ .f32 0x00000000#32),
    StableHlo.unary main_call2_cst main_call2_v0 ((broadcastInDim S2x4x768x1024 ![] bcast_S_S2x4x768x1024) : (⟨S_, .f32⟩ : BufTy).Contents (Elt F) → (⟨S2x4x768x1024, .f32⟩ : BufTy).Contents (Elt F)),
    StableHlo.binary main_v180 main_call2_v0 main_call2_v1 (maximumf : (⟨S2x4x768x1024, .f32⟩ : BufTy).Contents (Elt F) → (⟨S2x4x768x1024, .f32⟩ : BufTy).Contents (Elt F) → (⟨S2x4x768x1024, .f32⟩ : BufTy).Contents (Elt F)),
    StableHlo.unary main_call2_cst main_call2_v2 ((broadcastInDim S2x4x768x1024 ![] bcast_S_S2x4x768x1024) : (⟨S_, .f32⟩ : BufTy).Contents (Elt F) → (⟨S2x4x768x1024, .f32⟩ : BufTy).Contents (Elt F)),
    StableHlo.binary main_v180 main_call2_v2 main_call2_v3 (subf : (⟨S2x4x768x1024, .f32⟩ : BufTy).Contents (Elt F) → (⟨S2x4x768x1024, .f32⟩ : BufTy).Contents (Elt F) → (⟨S2x4x768x1024, .f32⟩ : BufTy).Contents (Elt F)),
    StableHlo.binary main_call2_v3 main_call2_v3 main_call2_v4 ((cmpf .une) : (⟨S2x4x768x1024, .f32⟩ : BufTy).Contents (Elt F) → (⟨S2x4x768x1024, .f32⟩ : BufTy).Contents (Elt F) → (⟨S2x4x768x1024, .i1⟩ : BufTy).Contents (Elt F)),
    StableHlo.unary main_call2_cst main_call2_v5 ((broadcastInDim S2x4x768x1024 ![] bcast_S_S2x4x768x1024) : (⟨S_, .f32⟩ : BufTy).Contents (Elt F) → (⟨S2x4x768x1024, .f32⟩ : BufTy).Contents (Elt F)),
    StableHlo.binary main_v180 main_call2_v5 main_call2_v6 (addf : (⟨S2x4x768x1024, .f32⟩ : BufTy).Contents (Elt F) → (⟨S2x4x768x1024, .f32⟩ : BufTy).Contents (Elt F) → (⟨S2x4x768x1024, .f32⟩ : BufTy).Contents (Elt F)),
    StableHlo.unary main_call2_v3 main_call2_v7 (Host.absf : (⟨S2x4x768x1024, .f32⟩ : BufTy).Contents (Elt F) → (⟨S2x4x768x1024, .f32⟩ : BufTy).Contents (Elt F)),
    StableHlo.unary main_call2_v7 main_call2_v8 (Host.negf : (⟨S2x4x768x1024, .f32⟩ : BufTy).Contents (Elt F) → (⟨S2x4x768x1024, .f32⟩ : BufTy).Contents (Elt F)),
    StableHlo.unary main_call2_v8 main_call2_v9 (Host.exp : (⟨S2x4x768x1024, .f32⟩ : BufTy).Contents (Elt F) → (⟨S2x4x768x1024, .f32⟩ : BufTy).Contents (Elt F)),
    StableHlo.unary main_call2_v9 main_call2_v10 (Host.log1p : (⟨S2x4x768x1024, .f32⟩ : BufTy).Contents (Elt F) → (⟨S2x4x768x1024, .f32⟩ : BufTy).Contents (Elt F)),
    StableHlo.binary main_call2_v1 main_call2_v10 main_call2_v11 (addf : (⟨S2x4x768x1024, .f32⟩ : BufTy).Contents (Elt F) → (⟨S2x4x768x1024, .f32⟩ : BufTy).Contents (Elt F) → (⟨S2x4x768x1024, .f32⟩ : BufTy).Contents (Elt F)),
    StableHlo.ternary main_call2_v4 main_call2_v6 main_call2_v11 main_v181 (select : (⟨S2x4x768x1024, .i1⟩ : BufTy).Contents (Elt F) → (⟨S2x4x768x1024, .f32⟩ : BufTy).Contents (Elt F) → (⟨S2x4x768x1024, .f32⟩ : BufTy).Contents (Elt F) → (⟨S2x4x768x1024, .f32⟩ : BufTy).Contents (Elt F)) ]

/-- Stage L0_8 touches the tensor core's references only. -/
theorem opsL0_8_sub : (opsL0_8 : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub ..⟩

/-- Stage L0_9: 27 operations. -/
def opsL0_9 : List (HloOp τ sig (Elt F)) :=
  [ StableHlo.unary main_v54 main_v182 (Host.exp : (⟨S4x768x16, .f32⟩ : BufTy).Contents (Elt F) → (⟨S4x768x16, .f32⟩ : BufTy).Contents (Elt F)),
    StableHlo.unary main_v182 main_v183 (Host.negf : (⟨S4x768x16, .f32⟩ : BufTy).Contents (Elt F) → (⟨S4x768x16, .f32⟩ : BufTy).Contents (Elt F)),
    StableHlo.reshape main_v170 main_v184 (rfl : (.f32 : EltTy) = .f32) shapeCasts_S2x4x768x1024_S8x768x1024,
    StableHlo.reshape main_v181 main_v185 (rfl : (.f32 : EltTy) = .f32) shapeCasts_S2x4x768x1024_S8x768x1024,
    StableHlo.unary main_v183 main_v186 (broadcastInDim S2x4x768x16 ![1, 2, 3] bcast_S4x768x16_S2x4x768x16_1_2_3 : (⟨S4x768x16, .f32⟩ : BufTy).Contents (Elt F) → (⟨S2x4x768x16, .f32⟩ : BufTy).Contents (Elt F)),
    StableHlo.reshape main_v186 main_v187 (rfl : (.f32 : EltTy) = .f32) shapeCasts_S2x4x768x16_S8x768x16,
    StableHlo.reshape main_v174 main_v188 (rfl : (.f32 : EltTy) = .f32) shapeCasts_S2x4x16x1024_S8x16x1024,
    StableHlo.reshape main_v175 main_v189 (rfl : (.f32 : EltTy) = .f32) shapeCasts_S2x4x16x1024_S8x16x1024,
    StableHlo.unary main_v56 main_v190 (broadcastInDim S2x4x768 ![1, 2] bcast_S4x768_S2x4x768_1_2 : (⟨S4x768, .f32⟩ : BufTy).Contents (Elt F) → (⟨S2x4x768, .f32⟩ : BufTy).Contents (Elt F)),
    StableHlo.reshape main_v190 main_v191 (rfl : (.f32 : EltTy) = .f32) shapeCasts_S2x4x768_S8x768,
    StableHlo.nullary main_cst_10 (constant S_ .f32 0x00000000#32),
    StableHlo.unary main_cst_10 main_v192 (broadcastInDim S8x768x16 ![] bcast_S_S8x768x16 : (⟨S_, .f32⟩ : BufTy).Contents (Elt F) → (⟨S8x768x16, .f32⟩ : BufTy).Contents (Elt F)),
    StableHlo.unary main_v185 main_v193 ((transpose S1024x8x768 [2, 0, 1] · transposes_S8x768x1024_S1024x8x768_2_0_1) : (⟨S8x768x1024, .f32⟩ : BufTy).Contents (Elt F) → (⟨S1024x8x768, .f32⟩ : BufTy).Contents (Elt F)),
    StableHlo.unary main_v184 main_v194 ((transpose S1024x8x768 [2, 0, 1] · transposes_S8x768x1024_S1024x8x768_2_0_1) : (⟨S8x768x1024, .f32⟩ : BufTy).Contents (Elt F) → (⟨S1024x8x768, .f32⟩ : BufTy).Contents (Elt F)),
    StableHlo.unary main_v188 main_v195 ((transpose S1024x8x16 [2, 0, 1] · transposes_S8x16x1024_S1024x8x16_2_0_1) : (⟨S8x16x1024, .f32⟩ : BufTy).Contents (Elt F) → (⟨S1024x8x16, .f32⟩ : BufTy).Contents (Elt F)),
    StableHlo.unary main_v189 main_v196 ((transpose S1024x8x16 [2, 0, 1] · transposes_S8x16x1024_S1024x8x16_2_0_1) : (⟨S8x16x1024, .f32⟩ : BufTy).Contents (Elt F) → (⟨S1024x8x16, .f32⟩ : BufTy).Contents (Elt F)),
    StableHlo.nullary main_cst_11 (constant S_ .f32 0x00000000#32),
    StableHlo.unary main_cst_11 main_v197 (broadcastInDim S1024x8x768 ![] bcast_S_S1024x8x768 : (⟨S_, .f32⟩ : BufTy).Contents (Elt F) → (⟨S1024x8x768, .f32⟩ : BufTy).Contents (Elt F)),
    StableHlo.nullary main_c_12 (constantI S_ 32 0#32),
    StableHlo.unary main_v193 main_v198_0 id,
    StableHlo.unary main_v194 main_v198_1 id,
    StableHlo.unary main_v195 main_v198_2 id,
    StableHlo.unary main_v196 main_v198_3 id,
    StableHlo.unary main_v187 main_v198_4 id,
    StableHlo.unary main_c_12 main_v198_5 id,
    StableHlo.unary main_v192 main_v198_6 id,
    StableHlo.unary main_v197 main_v198_7 id ]

/-- Stage L0_9 touches the tensor core's references only. -/
theorem opsL0_9_sub : (opsL0_9 : List (HloOp τ sig (Elt F))).Forall fun op => op.bufs ⊆ StableHlo.tcRefs τ sig :=
  ⟨StableHlo.unary_bufs_sub .., StableHlo.unary_bufs_sub .., StableHlo.reshape_bufs_sub .., StableHlo.reshape_bufs_sub .., StableHlo.unary_bufs_sub .., StableHlo.reshape_bufs_sub .., StableHlo.reshape_bufs_sub .., StableHlo.reshape_bufs_sub .., StableHlo.unary_bufs_sub .., StableHlo.reshape_bufs_sub .., StableHlo.nullary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- Stage L0_10: 6 operations. -/
def opsL0_10 : List (HloOp τ sig (Elt F)) :=
  [ StableHlo.unary main_v198_7 main_v199 ((transpose S8x768x1024 [1, 2, 0] · transposes_S1024x8x768_S8x768x1024_1_2_0) : (⟨S1024x8x768, .f32⟩ : BufTy).Contents (Elt F) → (⟨S8x768x1024, .f32⟩ : BufTy).Contents (Elt F)),
    StableHlo.unary main_v191 main_v200 (broadcastInDim S8x768x1 ![0, 1] bcast_S8x768_S8x768x1_0_1 : (⟨S8x768, .f32⟩ : BufTy).Contents (Elt F) → (⟨S8x768x1, .f32⟩ : BufTy).Contents (Elt F)),
    StableHlo.unary main_v200 main_v201 (broadcastInDim S8x768x1024 ![0, 1, 2] bcast_S8x768x1_S8x768x1024_0_1_2 : (⟨S8x768x1, .f32⟩ : BufTy).Contents (Elt F) → (⟨S8x768x1024, .f32⟩ : BufTy).Contents (Elt F)),
    StableHlo.binary main_v201 main_v184 main_v202 (mulf : (⟨S8x768x1024, .f32⟩ : BufTy).Contents (Elt F) → (⟨S8x768x1024, .f32⟩ : BufTy).Contents (Elt F) → (⟨S8x768x1024, .f32⟩ : BufTy).Contents (Elt F)),
    StableHlo.binary main_v199 main_v202 main_v203 (addf : (⟨S8x768x1024, .f32⟩ : BufTy).Contents (Elt F) → (⟨S8x768x1024, .f32⟩ : BufTy).Contents (Elt F) → (⟨S8x768x1024, .f32⟩ : BufTy).Contents (Elt F)),
    StableHlo.reshape main_v203 main_v204 (rfl : (.f32 : EltTy) = .f32) shapeCasts_S8x768x1024_S2x4x768x1024 ]

/-- Stage L0_10 touches the tensor core's references only. -/
theorem opsL0_10_sub : (opsL0_10 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.binary_bufs_sub .., StableHlo.reshape_bufs_sub ..⟩

/-- Stage L0_11: 21 operations. -/
def opsL0_11 : List (HloOp τ sig (Elt F)) :=
  [ StableHlo.unary main_v204 main_v205 ((extractStridedSlice S2x1x768x1024 ![0, 0, 0, 0] · slices_S2x4x768x1024_S2x1x768x1024_0_0_0_0) : (⟨S2x4x768x1024, .f32⟩ : BufTy).Contents (Elt F) → (⟨S2x1x768x1024, .f32⟩ : BufTy).Contents (Elt F)),
    StableHlo.reshape main_v205 main_v206 (rfl : (.f32 : EltTy) = .f32) shapeCasts_S2x1x768x1024_S2x768x1024,
    StableHlo.unary main_v204 main_v207 ((extractStridedSlice S2x1x768x1024 ![0, 1, 0, 0] · slices_S2x4x768x1024_S2x1x768x1024_0_1_0_0) : (⟨S2x4x768x1024, .f32⟩ : BufTy).Contents (Elt F) → (⟨S2x1x768x1024, .f32⟩ : BufTy).Contents (Elt F)),
    StableHlo.reshape main_v207 main_v208 (rfl : (.f32 : EltTy) = .f32) shapeCasts_S2x1x768x1024_S2x768x1024,
    StableHlo.reshape main_v208 main_v209 (rfl : (.f32 : EltTy) = .f32) shapeCasts_S2x768x1024_S2x768x32x32,
    StableHlo.unary main_v209 main_v210 ((transpose S2x768x32x32 [0, 1, 3, 2] · transposes_S2x768x32x32_S2x768x32x32_0_1_3_2) : (⟨S2x768x32x32, .f32⟩ : BufTy).Contents (Elt F) → (⟨S2x768x32x32, .f32⟩ : BufTy).Contents (Elt F)),
    StableHlo.reshape main_v210 main_v211 (rfl : (.f32 : EltTy) = .f32) shapeCasts_S2x768x32x32_S2x768x1024,
    StableHlo.binary main_v206 main_v211 main_v212 (addf : (⟨S2x768x1024, .f32⟩ : BufTy).Contents (Elt F) → (⟨S2x768x1024, .f32⟩ : BufTy).Contents (Elt F) → (⟨S2x768x1024, .f32⟩ : BufTy).Contents (Elt F)),
    StableHlo.unary main_v204 main_v213 ((extractStridedSlice S2x1x768x1024 ![0, 2, 0, 0] · slices_S2x4x768x1024_S2x1x768x1024_0_2_0_0) : (⟨S2x4x768x1024, .f32⟩ : BufTy).Contents (Elt F) → (⟨S2x1x768x1024, .f32⟩ : BufTy).Contents (Elt F)),
    StableHlo.unary main_v213 main_v214 (Host.reverse [3] : (⟨S2x1x768x1024, .f32⟩ : BufTy).Contents (Elt F) → (⟨S2x1x768x1024, .f32⟩ : BufTy).Contents (Elt F)),
    StableHlo.reshape main_v214 main_v215 (rfl : (.f32 : EltTy) = .f32) shapeCasts_S2x1x768x1024_S2x768x1024,
    StableHlo.binary main_v212 main_v215 main_v216 (addf : (⟨S2x768x1024, .f32⟩ : BufTy).Contents (Elt F) → (⟨S2x768x1024, .f32⟩ : BufTy).Contents (Elt F) → (⟨S2x768x1024, .f32⟩ : BufTy).Contents (Elt F)),
    StableHlo.unary main_v204 main_v217 ((extractStridedSlice S2x1x768x1024 ![0, 3, 0, 0] · slices_S2x4x768x1024_S2x1x768x1024_0_3_0_0) : (⟨S2x4x768x1024, .f32⟩ : BufTy).Contents (Elt F) → (⟨S2x1x768x1024, .f32⟩ : BufTy).Contents (Elt F)),
    StableHlo.unary main_v217 main_v218 (Host.reverse [3] : (⟨S2x1x768x1024, .f32⟩ : BufTy).Contents (Elt F) → (⟨S2x1x768x1024, .f32⟩ : BufTy).Contents (Elt F)),
    StableHlo.reshape main_v218 main_v219 (rfl : (.f32 : EltTy) = .f32) shapeCasts_S2x1x768x1024_S2x768x1024,
    StableHlo.reshape main_v219 main_v220 (rfl : (.f32 : EltTy) = .f32) shapeCasts_S2x768x1024_S2x768x32x32,
    StableHlo.unary main_v220 main_v221 ((transpose S2x768x32x32 [0, 1, 3, 2] · transposes_S2x768x32x32_S2x768x32x32_0_1_3_2) : (⟨S2x768x32x32, .f32⟩ : BufTy).Contents (Elt F) → (⟨S2x768x32x32, .f32⟩ : BufTy).Contents (Elt F)),
    StableHlo.reshape main_v221 main_v222 (rfl : (.f32 : EltTy) = .f32) shapeCasts_S2x768x32x32_S2x768x1024,
    StableHlo.binary main_v216 main_v222 main_v223 (addf : (⟨S2x768x1024, .f32⟩ : BufTy).Contents (Elt F) → (⟨S2x768x1024, .f32⟩ : BufTy).Contents (Elt F) → (⟨S2x768x1024, .f32⟩ : BufTy).Contents (Elt F)),
    StableHlo.reshape main_v223 main_v224 (rfl : (.f32 : EltTy) = .f32) shapeCasts_S2x768x1024_S2x768x32x32,
    StableHlo.unary main_v224 main_v225 ((transpose S2x32x32x768 [0, 2, 3, 1] · transposes_S2x768x32x32_S2x32x32x768_0_2_3_1) : (⟨S2x768x32x32, .f32⟩ : BufTy).Contents (Elt F) → (⟨S2x32x32x768, .f32⟩ : BufTy).Contents (Elt F)) ]

/-- Stage L0_11 touches the tensor core's references only. -/
theorem opsL0_11_sub : (opsL0_11 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.reshape_bufs_sub .., StableHlo.unary_bufs_sub .., StableHlo.reshape_bufs_sub .., StableHlo.binary_bufs_sub .., StableHlo.unary_bufs_sub .., StableHlo.unary_bufs_sub .., StableHlo.reshape_bufs_sub .., StableHlo.binary_bufs_sub .., StableHlo.unary_bufs_sub .., StableHlo.unary_bufs_sub .., StableHlo.reshape_bufs_sub .., StableHlo.reshape_bufs_sub .., StableHlo.unary_bufs_sub .., StableHlo.reshape_bufs_sub .., StableHlo.binary_bufs_sub .., StableHlo.reshape_bufs_sub .., StableHlo.unary_bufs_sub ..⟩

/-- Stage L0_12: 29 operations. -/
def opsL0_12 : List (HloOp τ sig (Elt F)) :=
  [ StableHlo.nullary main_cst_13 (constant S_ .f32 0x00000000#32),
    StableHlo.binary main_v225 main_cst_13 main_v226 ((fun x v => Host.reduceAdd x v reducesTo_S2x32x32x768_S2x32x32_d3 h_S_) : (⟨S2x32x32x768, .f32⟩ : BufTy).Contents (Elt F) → (⟨S_, .f32⟩ : BufTy).Contents (Elt F) → (⟨S2x32x32, .f32⟩ : BufTy).Contents (Elt F)),
    StableHlo.unary main_v226 main_v227 (broadcastInDim S2x32x32x1 ![0, 1, 2] bcast_S2x32x32_S2x32x32x1_0_1_2 : (⟨S2x32x32, .f32⟩ : BufTy).Contents (Elt F) → (⟨S2x32x32x1, .f32⟩ : BufTy).Contents (Elt F)),
    StableHlo.nullary main_cst_14 (constant S_ .f32 0x44400000#32),
    StableHlo.unary main_cst_14 main_v228 (broadcastInDim S2x32x32x1 ![] bcast_S_S2x32x32x1 : (⟨S_, .f32⟩ : BufTy).Contents (Elt F) → (⟨S2x32x32x1, .f32⟩ : BufTy).Contents (Elt F)),
    StableHlo.binary main_v227 main_v228 main_v229 (Host.divf : (⟨S2x32x32x1, .f32⟩ : BufTy).Contents (Elt F) → (⟨S2x32x32x1, .f32⟩ : BufTy).Contents (Elt F) → (⟨S2x32x32x1, .f32⟩ : BufTy).Contents (Elt F)),
    StableHlo.unary main_v229 main_v230 (broadcastInDim S2x32x32x768 ![0, 1, 2, 3] bcast_S2x32x32x1_S2x32x32x768_0_1_2_3 : (⟨S2x32x32x1, .f32⟩ : BufTy).Contents (Elt F) → (⟨S2x32x32x768, .f32⟩ : BufTy).Contents (Elt F)),
    StableHlo.binary main_v225 main_v230 main_v231 (subf : (⟨S2x32x32x768, .f32⟩ : BufTy).Contents (Elt F) → (⟨S2x32x32x768, .f32⟩ : BufTy).Contents (Elt F) → (⟨S2x32x32x768, .f32⟩ : BufTy).Contents (Elt F)),
    StableHlo.binary main_v231 main_v231 main_v232 (mulf : (⟨S2x32x32x768, .f32⟩ : BufTy).Contents (Elt F) → (⟨S2x32x32x768, .f32⟩ : BufTy).Contents (Elt F) → (⟨S2x32x32x768, .f32⟩ : BufTy).Contents (Elt F)),
    StableHlo.nullary main_cst_15 (constant S_ .f32 0x00000000#32),
    StableHlo.binary main_v232 main_cst_15 main_v233 ((fun x v => Host.reduceAdd x v reducesTo_S2x32x32x768_S2x32x32_d3 h_S_) : (⟨S2x32x32x768, .f32⟩ : BufTy).Contents (Elt F) → (⟨S_, .f32⟩ : BufTy).Contents (Elt F) → (⟨S2x32x32, .f32⟩ : BufTy).Contents (Elt F)),
    StableHlo.unary main_v233 main_v234 (broadcastInDim S2x32x32x1 ![0, 1, 2] bcast_S2x32x32_S2x32x32x1_0_1_2 : (⟨S2x32x32, .f32⟩ : BufTy).Contents (Elt F) → (⟨S2x32x32x1, .f32⟩ : BufTy).Contents (Elt F)),
    StableHlo.nullary main_cst_16 (constant S_ .f32 0x44400000#32),
    StableHlo.unary main_cst_16 main_v235 (broadcastInDim S2x32x32x1 ![] bcast_S_S2x32x32x1 : (⟨S_, .f32⟩ : BufTy).Contents (Elt F) → (⟨S2x32x32x1, .f32⟩ : BufTy).Contents (Elt F)),
    StableHlo.binary main_v234 main_v235 main_v236 (Host.divf : (⟨S2x32x32x1, .f32⟩ : BufTy).Contents (Elt F) → (⟨S2x32x32x1, .f32⟩ : BufTy).Contents (Elt F) → (⟨S2x32x32x1, .f32⟩ : BufTy).Contents (Elt F)),
    StableHlo.unary main_v229 main_v237 (broadcastInDim S2x32x32x768 ![0, 1, 2, 3] bcast_S2x32x32x1_S2x32x32x768_0_1_2_3 : (⟨S2x32x32x1, .f32⟩ : BufTy).Contents (Elt F) → (⟨S2x32x32x768, .f32⟩ : BufTy).Contents (Elt F)),
    StableHlo.binary main_v225 main_v237 main_v238 (subf : (⟨S2x32x32x768, .f32⟩ : BufTy).Contents (Elt F) → (⟨S2x32x32x768, .f32⟩ : BufTy).Contents (Elt F) → (⟨S2x32x32x768, .f32⟩ : BufTy).Contents (Elt F)),
    StableHlo.nullary main_cst_17 (constant S_ .f32 0x3727C5AC#32),
    StableHlo.unary main_cst_17 main_v239 (broadcastInDim S2x32x32x1 ![] bcast_S_S2x32x32x1 : (⟨S_, .f32⟩ : BufTy).Contents (Elt F) → (⟨S2x32x32x1, .f32⟩ : BufTy).Contents (Elt F)),
    StableHlo.binary main_v236 main_v239 main_v240 (addf : (⟨S2x32x32x1, .f32⟩ : BufTy).Contents (Elt F) → (⟨S2x32x32x1, .f32⟩ : BufTy).Contents (Elt F) → (⟨S2x32x32x1, .f32⟩ : BufTy).Contents (Elt F)),
    StableHlo.unary main_v240 main_v241 (Host.rsqrt : (⟨S2x32x32x1, .f32⟩ : BufTy).Contents (Elt F) → (⟨S2x32x32x1, .f32⟩ : BufTy).Contents (Elt F)),
    StableHlo.unary main_v241 main_v242 (broadcastInDim S2x32x32x768 ![0, 1, 2, 3] bcast_S2x32x32x1_S2x32x32x768_0_1_2_3 : (⟨S2x32x32x1, .f32⟩ : BufTy).Contents (Elt F) → (⟨S2x32x32x768, .f32⟩ : BufTy).Contents (Elt F)),
    StableHlo.binary main_v238 main_v242 main_v243 (mulf : (⟨S2x32x32x768, .f32⟩ : BufTy).Contents (Elt F) → (⟨S2x32x32x768, .f32⟩ : BufTy).Contents (Elt F) → (⟨S2x32x32x768, .f32⟩ : BufTy).Contents (Elt F)),
    StableHlo.unary main_v58 main_v244 (broadcastInDim S1x1x1x768 ![3] bcast_S768_S1x1x1x768_3 : (⟨S768, .f32⟩ : BufTy).Contents (Elt F) → (⟨S1x1x1x768, .f32⟩ : BufTy).Contents (Elt F)),
    StableHlo.unary main_v244 main_v245 (broadcastInDim S2x32x32x768 ![0, 1, 2, 3] bcast_S1x1x1x768_S2x32x32x768_0_1_2_3 : (⟨S1x1x1x768, .f32⟩ : BufTy).Contents (Elt F) → (⟨S2x32x32x768, .f32⟩ : BufTy).Contents (Elt F)),
    StableHlo.binary main_v243 main_v245 main_v246 (mulf : (⟨S2x32x32x768, .f32⟩ : BufTy).Contents (Elt F) → (⟨S2x32x32x768, .f32⟩ : BufTy).Contents (Elt F) → (⟨S2x32x32x768, .f32⟩ : BufTy).Contents (Elt F)),
    StableHlo.unary main_v60 main_v247 (broadcastInDim S1x1x1x768 ![3] bcast_S768_S1x1x1x768_3 : (⟨S768, .f32⟩ : BufTy).Contents (Elt F) → (⟨S1x1x1x768, .f32⟩ : BufTy).Contents (Elt F)),
    StableHlo.unary main_v247 main_v248 (broadcastInDim S2x32x32x768 ![0, 1, 2, 3] bcast_S1x1x1x768_S2x32x32x768_0_1_2_3 : (⟨S1x1x1x768, .f32⟩ : BufTy).Contents (Elt F) → (⟨S2x32x32x768, .f32⟩ : BufTy).Contents (Elt F)),
    StableHlo.binary main_v246 main_v248 main_v249 (addf : (⟨S2x32x32x768, .f32⟩ : BufTy).Contents (Elt F) → (⟨S2x32x32x768, .f32⟩ : BufTy).Contents (Elt F) → (⟨S2x32x32x768, .f32⟩ : BufTy).Contents (Elt F)) ]

/-- Stage L0_12 touches the tensor core's references only. -/
theorem opsL0_12_sub : (opsL0_12 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

/-- Stage L0_13: 13 operations. -/
def opsL0_13 : List (HloOp τ sig (Elt F)) :=
  [ StableHlo.unary main_v90 main_call8_v0 (Host.negf : (⟨S2x32x32x768, .f32⟩ : BufTy).Contents (Elt F) → (⟨S2x32x32x768, .f32⟩ : BufTy).Contents (Elt F)),
    StableHlo.unary main_call8_v0 main_call8_v1 (Host.exp : (⟨S2x32x32x768, .f32⟩ : BufTy).Contents (Elt F) → (⟨S2x32x32x768, .f32⟩ : BufTy).Contents (Elt F)),
    StableHlo.nullary main_call8_cst (constant S_ .f32 0x3F800000#32),
    StableHlo.unary main_call8_cst main_call8_v2 ((broadcastInDim S2x32x32x768 ![] bcast_S_S2x32x32x768) : (⟨S_, .f32⟩ : BufTy).Contents (Elt F) → (⟨S2x32x32x768, .f32⟩ : BufTy).Contents (Elt F)),
    StableHlo.binary main_call8_v2 main_call8_v1 main_call8_v3 (addf : (⟨S2x32x32x768, .f32⟩ : BufTy).Contents (Elt F) → (⟨S2x32x32x768, .f32⟩ : BufTy).Contents (Elt F) → (⟨S2x32x32x768, .f32⟩ : BufTy).Contents (Elt F)),
    StableHlo.nullary main_call8_cst_0 (constant S_ .f32 0x3F800000#32),
    StableHlo.unary main_call8_cst_0 main_call8_v4 ((broadcastInDim S2x32x32x768 ![] bcast_S_S2x32x32x768) : (⟨S_, .f32⟩ : BufTy).Contents (Elt F) → (⟨S2x32x32x768, .f32⟩ : BufTy).Contents (Elt F)),
    StableHlo.binary main_call8_v4 main_call8_v3 main_call8_v5 (Host.divf : (⟨S2x32x32x768, .f32⟩ : BufTy).Contents (Elt F) → (⟨S2x32x32x768, .f32⟩ : BufTy).Contents (Elt F) → (⟨S2x32x32x768, .f32⟩ : BufTy).Contents (Elt F)),
    StableHlo.binary main_v90 main_call8_v5 main_v250 (mulf : (⟨S2x32x32x768, .f32⟩ : BufTy).Contents (Elt F) → (⟨S2x32x32x768, .f32⟩ : BufTy).Contents (Elt F) → (⟨S2x32x32x768, .f32⟩ : BufTy).Contents (Elt F)),
    StableHlo.binary main_v249 main_v250 main_v251 (mulf : (⟨S2x32x32x768, .f32⟩ : BufTy).Contents (Elt F) → (⟨S2x32x32x768, .f32⟩ : BufTy).Contents (Elt F) → (⟨S2x32x32x768, .f32⟩ : BufTy).Contents (Elt F)),
    StableHlo.unary main_v62 main_v252 ((transpose S768x384 [1, 0] · transposes_S384x768_S768x384_1_0) : (⟨S384x768, .f32⟩ : BufTy).Contents (Elt F) → (⟨S768x384, .f32⟩ : BufTy).Contents (Elt F)),
    StableHlo.binary main_v251 main_v252 main_v253 ((fun l r => Host.dotGeneral dot_S2x32x32x768_S768x384_S2x32x32x384_3_0_012_1_n_n none l r) : (⟨S2x32x32x768, .f32⟩ : BufTy).Contents (Elt F) → (⟨S768x384, .f32⟩ : BufTy).Contents (Elt F) → (⟨S2x32x32x384, .f32⟩ : BufTy).Contents (Elt F)),
    StableHlo.binary main_v36 main_v253 main_v254 (addf : (⟨S2x32x32x384, .f32⟩ : BufTy).Contents (Elt F) → (⟨S2x32x32x384, .f32⟩ : BufTy).Contents (Elt F) → (⟨S2x32x32x384, .f32⟩ : BufTy).Contents (Elt F)) ]

/-- Stage L0_13 touches the tensor core's references only. -/
theorem opsL0_13_sub : (opsL0_13 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.binary_bufs_sub ..⟩

/-- Stage Z: 1 operations. -/
def opsZ : List (HloOp τ sig (Elt F)) :=
  [ StableHlo.unary main_v472 main_v473 ((transpose S2x384x32x32 [0, 3, 1, 2] · transposes_S2x32x32x384_S2x384x32x32_0_3_1_2) : (⟨S2x32x32x384, .f32⟩ : BufTy).Contents (Elt F) → (⟨S2x384x32x32, .f32⟩ : BufTy).Contents (Elt F)) ]

/-- Stage Z touches the tensor core's references only. -/
theorem opsZ_sub : (opsZ : List (HloOp τ sig (Elt F))).Forall fun op => op.bufs ⊆ StableHlo.tcRefs τ sig :=
  StableHlo.unary_bufs_sub ..

/-- Stage W0_cond: 2 operations. -/
def opsW0_cond : List (HloOp τ sig (Elt F)) :=
  [ StableHlo.nullary main_while0c_c_40 (constantI S_ 32 1024#32),
    StableHlo.binary main_v198_5 main_while0c_c_40 main_while0c_v474 (cmpi .slt : (⟨S_, .i32⟩ : BufTy).Contents (Elt F) → (⟨S_, .i32⟩ : BufTy).Contents (Elt F) → (⟨S_, .i1⟩ : BufTy).Contents (Elt F)) ]

/-- Stage W0_cond touches the tensor core's references only. -/
theorem opsW0_cond_sub : (opsW0_cond : List (HloOp τ sig (Elt F))).Forall fun op => op.bufs ⊆ StableHlo.tcRefs τ sig :=
  ⟨StableHlo.nullary_bufs_sub .., StableHlo.binary_bufs_sub ..⟩

/-- Stage W0_body: 38 operations. -/
def opsW0_body : List (HloOp τ sig (Elt F)) :=
  [ StableHlo.nullary main_while0b_call3_c (constantI S_ 32 0#32),
    StableHlo.nullary main_while0b_call3_c_0 (constantI S_ 32 0#32),
    StableHlo.TRef.unaryIndexed (.of main_v198_0 : StableHlo.TRef sig ⟨S1024x8x768, .f32⟩) ![(.of main_v198_5 : StableHlo.TRef sig ⟨S_, .i32⟩), (.of main_while0b_call3_c : StableHlo.TRef sig ⟨S_, .i32⟩), (.of main_while0b_call3_c_0 : StableHlo.TRef sig ⟨S_, .i32⟩)] (.of main_while0b_call3_v0 : StableHlo.TRef sig ⟨S1x8x768, .f32⟩) (fun x i => Host.dynamicSlice S1x8x768 x (fun k => (i k (Shape.Idx.first h_S_)).toInt) sliceFits_S1024x8x768_S1x8x768),
    StableHlo.reshape main_while0b_call3_v0 main_while0b_v474 (rfl : (.f32 : EltTy) = .f32) shapeCasts_S1x8x768_S8x768,
    StableHlo.nullary main_while0b_call4_c (constantI S_ 32 0#32),
    StableHlo.nullary main_while0b_call4_c_0 (constantI S_ 32 0#32),
    StableHlo.TRef.unaryIndexed (.of main_v198_1 : StableHlo.TRef sig ⟨S1024x8x768, .f32⟩) ![(.of main_v198_5 : StableHlo.TRef sig ⟨S_, .i32⟩), (.of main_while0b_call4_c : StableHlo.TRef sig ⟨S_, .i32⟩), (.of main_while0b_call4_c_0 : StableHlo.TRef sig ⟨S_, .i32⟩)] (.of main_while0b_call4_v0 : StableHlo.TRef sig ⟨S1x8x768, .f32⟩) (fun x i => Host.dynamicSlice S1x8x768 x (fun k => (i k (Shape.Idx.first h_S_)).toInt) sliceFits_S1024x8x768_S1x8x768),
    StableHlo.reshape main_while0b_call4_v0 main_while0b_v475 (rfl : (.f32 : EltTy) = .f32) shapeCasts_S1x8x768_S8x768,
    StableHlo.nullary main_while0b_call5_c (constantI S_ 32 0#32),
    StableHlo.nullary main_while0b_call5_c_0 (constantI S_ 32 0#32),
    StableHlo.TRef.unaryIndexed (.of main_v198_2 : StableHlo.TRef sig ⟨S1024x8x16, .f32⟩) ![(.of main_v198_5 : StableHlo.TRef sig ⟨S_, .i32⟩), (.of main_while0b_call5_c : StableHlo.TRef sig ⟨S_, .i32⟩), (.of main_while0b_call5_c_0 : StableHlo.TRef sig ⟨S_, .i32⟩)] (.of main_while0b_call5_v0 : StableHlo.TRef sig ⟨S1x8x16, .f32⟩) (fun x i => Host.dynamicSlice S1x8x16 x (fun k => (i k (Shape.Idx.first h_S_)).toInt) sliceFits_S1024x8x16_S1x8x16),
    StableHlo.reshape main_while0b_call5_v0 main_while0b_v476 (rfl : (.f32 : EltTy) = .f32) shapeCasts_S1x8x16_S8x16,
    StableHlo.nullary main_while0b_call6_c (constantI S_ 32 0#32),
    StableHlo.nullary main_while0b_call6_c_0 (constantI S_ 32 0#32),
    StableHlo.TRef.unaryIndexed (.of main_v198_3 : StableHlo.TRef sig ⟨S1024x8x16, .f32⟩) ![(.of main_v198_5 : StableHlo.TRef sig ⟨S_, .i32⟩), (.of main_while0b_call6_c : StableHlo.TRef sig ⟨S_, .i32⟩), (.of main_while0b_call6_c_0 : StableHlo.TRef sig ⟨S_, .i32⟩)] (.of main_while0b_call6_v0 : StableHlo.TRef sig ⟨S1x8x16, .f32⟩) (fun x i => Host.dynamicSlice S1x8x16 x (fun k => (i k (Shape.Idx.first h_S_)).toInt) sliceFits_S1024x8x16_S1x8x16),
    StableHlo.reshape main_while0b_call6_v0 main_while0b_v477 (rfl : (.f32 : EltTy) = .f32) shapeCasts_S1x8x16_S8x16,
    StableHlo.unary main_while0b_v474 main_while0b_v478 (broadcastInDim S8x768x1 ![0, 1] bcast_S8x768_S8x768x1_0_1 : (⟨S8x768, .f32⟩ : BufTy).Contents (Elt F) → (⟨S8x768x1, .f32⟩ : BufTy).Contents (Elt F)),
    StableHlo.unary main_while0b_v478 main_while0b_v479 (broadcastInDim S8x768x16 ![0, 1, 2] bcast_S8x768x1_S8x768x16_0_1_2 : (⟨S8x768x1, .f32⟩ : BufTy).Contents (Elt F) → (⟨S8x768x16, .f32⟩ : BufTy).Contents (Elt F)),
    StableHlo.binary main_while0b_v479 main_v198_4 main_while0b_v480 (mulf : (⟨S8x768x16, .f32⟩ : BufTy).Contents (Elt F) → (⟨S8x768x16, .f32⟩ : BufTy).Contents (Elt F) → (⟨S8x768x16, .f32⟩ : BufTy).Contents (Elt F)),
    StableHlo.unary main_while0b_v480 main_while0b_v481 (Host.exp : (⟨S8x768x16, .f32⟩ : BufTy).Contents (Elt F) → (⟨S8x768x16, .f32⟩ : BufTy).Contents (Elt F)),
    StableHlo.binary main_while0b_v481 main_v198_6 main_while0b_v482 (mulf : (⟨S8x768x16, .f32⟩ : BufTy).Contents (Elt F) → (⟨S8x768x16, .f32⟩ : BufTy).Contents (Elt F) → (⟨S8x768x16, .f32⟩ : BufTy).Contents (Elt F)),
    StableHlo.binary main_while0b_v474 main_while0b_v475 main_while0b_v483 (mulf : (⟨S8x768, .f32⟩ : BufTy).Contents (Elt F) → (⟨S8x768, .f32⟩ : BufTy).Contents (Elt F) → (⟨S8x768, .f32⟩ : BufTy).Contents (Elt F)),
    StableHlo.unary main_while0b_v483 main_while0b_v484 (broadcastInDim S8x768x1 ![0, 1] bcast_S8x768_S8x768x1_0_1 : (⟨S8x768, .f32⟩ : BufTy).Contents (Elt F) → (⟨S8x768x1, .f32⟩ : BufTy).Contents (Elt F)),
    StableHlo.unary main_while0b_v476 main_while0b_v485 (broadcastInDim S8x1x16 ![0, 2] bcast_S8x16_S8x1x16_0_2 : (⟨S8x16, .f32⟩ : BufTy).Contents (Elt F) → (⟨S8x1x16, .f32⟩ : BufTy).Contents (Elt F)),
    StableHlo.unary main_while0b_v484 main_while0b_v486 (broadcastInDim S8x768x16 ![0, 1, 2] bcast_S8x768x1_S8x768x16_0_1_2 : (⟨S8x768x1, .f32⟩ : BufTy).Contents (Elt F) → (⟨S8x768x16, .f32⟩ : BufTy).Contents (Elt F)),
    StableHlo.unary main_while0b_v485 main_while0b_v487 (broadcastInDim S8x768x16 ![0, 1, 2] bcast_S8x1x16_S8x768x16_0_1_2 : (⟨S8x1x16, .f32⟩ : BufTy).Contents (Elt F) → (⟨S8x768x16, .f32⟩ : BufTy).Contents (Elt F)),
    StableHlo.binary main_while0b_v486 main_while0b_v487 main_while0b_v488 (mulf : (⟨S8x768x16, .f32⟩ : BufTy).Contents (Elt F) → (⟨S8x768x16, .f32⟩ : BufTy).Contents (Elt F) → (⟨S8x768x16, .f32⟩ : BufTy).Contents (Elt F)),
    StableHlo.binary main_while0b_v482 main_while0b_v488 main_while0b_v489 (addf : (⟨S8x768x16, .f32⟩ : BufTy).Contents (Elt F) → (⟨S8x768x16, .f32⟩ : BufTy).Contents (Elt F) → (⟨S8x768x16, .f32⟩ : BufTy).Contents (Elt F)),
    StableHlo.binary main_while0b_v489 main_while0b_v477 main_while0b_v490 ((fun l r => Host.dotGeneral dot_S8x768x16_S8x16_S8x768_2_1_1_n_0_0 none l r) : (⟨S8x768x16, .f32⟩ : BufTy).Contents (Elt F) → (⟨S8x16, .f32⟩ : BufTy).Contents (Elt F) → (⟨S8x768, .f32⟩ : BufTy).Contents (Elt F)),
    StableHlo.unary main_while0b_v490 main_while0b_call7_v0 ((broadcastInDim S1x8x768 ![1, 2] bcast_S8x768_S1x8x768_1_2) : (⟨S8x768, .f32⟩ : BufTy).Contents (Elt F) → (⟨S1x8x768, .f32⟩ : BufTy).Contents (Elt F)),
    StableHlo.nullary main_while0b_call7_c (constantI S_ 32 0#32),
    StableHlo.nullary main_while0b_call7_c_0 (constantI S_ 32 0#32),
    StableHlo.TRef.binaryIndexed (.of main_v198_7 : StableHlo.TRef sig ⟨S1024x8x768, .f32⟩) (.of main_while0b_call7_v0 : StableHlo.TRef sig ⟨S1x8x768, .f32⟩) ![(.of main_v198_5 : StableHlo.TRef sig ⟨S_, .i32⟩), (.of main_while0b_call7_c : StableHlo.TRef sig ⟨S_, .i32⟩), (.of main_while0b_call7_c_0 : StableHlo.TRef sig ⟨S_, .i32⟩)] (.of main_while0b_v491 : StableHlo.TRef sig ⟨S1024x8x768, .f32⟩) (fun x u i => Host.dynamicUpdateSlice x u (fun k => (i k (Shape.Idx.first h_S_)).toInt) updateFits_S1024x8x768_S1x8x768),
    StableHlo.nullary main_while0b_c_40 (constantI S_ 32 1#32),
    StableHlo.binary main_v198_5 main_while0b_c_40 main_while0b_v492 (addi : (⟨S_, .i32⟩ : BufTy).Contents (Elt F) → (⟨S_, .i32⟩ : BufTy).Contents (Elt F) → (⟨S_, .i32⟩ : BufTy).Contents (Elt F)),
    StableHlo.unary main_while0b_v492 main_v198_5 id,
    StableHlo.unary main_while0b_v489 main_v198_6 id,
    StableHlo.unary main_while0b_v491 main_v198_7 id ]

/-- Stage W0_body touches the tensor core's references only. -/
theorem opsW0_body_sub : (opsW0_body : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.unaryIndexed_bufs_sub .., StableHlo.reshape_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.binary_bufs_sub .., StableHlo.unary_bufs_sub .., StableHlo.nullary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub ..⟩

end Cert.Proof.Ref
-- ==== Proof.RefOps1.lean ====
/-
  The reference's host operations of layer 1 as lists, one per stage of the network (patch expansion, its normalization, the skip
  projection, then per layer: weight slices, normalization, input projection, convolution, activation, the four scan
  orders, the projections to the scan's inputs, the time scan, the merge of the orders, normalization, output), and
  what the launch of the program asks of them.
-/
module

public import proofs.«01_k».proof.Proof.Gen.ReferenceIdeal
public import Idealize.ShloMosaic.Lib.StableHlo.RunLoop
public import Idealize.ShloMosaic.Lib.StableHlo.RunRead

@[expose] public section

set_option maxRecDepth 16384

noncomputable section

namespace Cert.Proof.Ref

open Cert.ReferenceIdeal Cert.ReferenceIdeal.Gen
open Idealize.ShloMosaic Idealize.ShloMosaic.TcCoe Idealize.ShloMosaic.Tactic
open Idealize.SL Idealize.SL.Sem

variable {F : FTy → Type} [FloatOps F]

/-- Stage L1_1: 26 operations. -/
def opsL1_1 : List (HloOp τ sig (Elt F)) :=
  [ StableHlo.unary main_arg7 main_v255 ((extractStridedSlice S1x384 ![1, 0] · slices_S2x384_S1x384_1_0) : (⟨S2x384, .f32⟩ : BufTy).Contents (Elt F) → (⟨S1x384, .f32⟩ : BufTy).Contents (Elt F)),
    StableHlo.reshape main_v255 main_v256 (rfl : (.f32 : EltTy) = .f32) shapeCasts_S1x384_S384,
    StableHlo.unary main_arg8 main_v257 ((extractStridedSlice S1x384 ![1, 0] · slices_S2x384_S1x384_1_0) : (⟨S2x384, .f32⟩ : BufTy).Contents (Elt F) → (⟨S1x384, .f32⟩ : BufTy).Contents (Elt F)),
    StableHlo.reshape main_v257 main_v258 (rfl : (.f32 : EltTy) = .f32) shapeCasts_S1x384_S384,
    StableHlo.unary main_arg9 main_v259 ((extractStridedSlice S1x1536x384 ![1, 0, 0] · slices_S2x1536x384_S1x1536x384_1_0_0) : (⟨S2x1536x384, .f32⟩ : BufTy).Contents (Elt F) → (⟨S1x1536x384, .f32⟩ : BufTy).Contents (Elt F)),
    StableHlo.reshape main_v259 main_v260 (rfl : (.f32 : EltTy) = .f32) shapeCasts_S1x1536x384_S1536x384,
    StableHlo.unary main_arg10 main_v261 ((extractStridedSlice S1x768x3x3 ![1, 0, 0, 0] · slices_S2x768x3x3_S1x768x3x3_1_0_0_0) : (⟨S2x768x3x3, .f32⟩ : BufTy).Contents (Elt F) → (⟨S1x768x3x3, .f32⟩ : BufTy).Contents (Elt F)),
    StableHlo.reshape main_v261 main_v262 (rfl : (.f32 : EltTy) = .f32) shapeCasts_S1x768x3x3_S768x3x3,
    StableHlo.unary main_arg11 main_v263 ((extractStridedSlice S1x768 ![1, 0] · slices_S2x768_S1x768_1_0) : (⟨S2x768, .f32⟩ : BufTy).Contents (Elt F) → (⟨S1x768, .f32⟩ : BufTy).Contents (Elt F)),
    StableHlo.reshape main_v263 main_v264 (rfl : (.f32 : EltTy) = .f32) shapeCasts_S1x768_S768,
    StableHlo.unary main_arg12 main_v265 ((extractStridedSlice S1x4x56x768 ![1, 0, 0, 0] · slices_S2x4x56x768_S1x4x56x768_1_0_0_0) : (⟨S2x4x56x768, .f32⟩ : BufTy).Contents (Elt F) → (⟨S1x4x56x768, .f32⟩ : BufTy).Contents (Elt F)),
    StableHlo.reshape main_v265 main_v266 (rfl : (.f32 : EltTy) = .f32) shapeCasts_S1x4x56x768_S4x56x768,
    StableHlo.unary main_arg13 main_v267 ((extractStridedSlice S1x4x768x24 ![1, 0, 0, 0] · slices_S2x4x768x24_S1x4x768x24_1_0_0_0) : (⟨S2x4x768x24, .f32⟩ : BufTy).Contents (Elt F) → (⟨S1x4x768x24, .f32⟩ : BufTy).Contents (Elt F)),
    StableHlo.reshape main_v267 main_v268 (rfl : (.f32 : EltTy) = .f32) shapeCasts_S1x4x768x24_S4x768x24,
    StableHlo.unary main_arg14 main_v269 ((extractStridedSlice S1x4x768 ![1, 0, 0] · slices_S2x4x768_S1x4x768_1_0_0) : (⟨S2x4x768, .f32⟩ : BufTy).Contents (Elt F) → (⟨S1x4x768, .f32⟩ : BufTy).Contents (Elt F)),
    StableHlo.reshape main_v269 main_v270 (rfl : (.f32 : EltTy) = .f32) shapeCasts_S1x4x768_S4x768,
    StableHlo.unary main_arg15 main_v271 ((extractStridedSlice S1x4x768x16 ![1, 0, 0, 0] · slices_S2x4x768x16_S1x4x768x16_1_0_0_0) : (⟨S2x4x768x16, .f32⟩ : BufTy).Contents (Elt F) → (⟨S1x4x768x16, .f32⟩ : BufTy).Contents (Elt F)),
    StableHlo.reshape main_v271 main_v272 (rfl : (.f32 : EltTy) = .f32) shapeCasts_S1x4x768x16_S4x768x16,
    StableHlo.unary main_arg16 main_v273 ((extractStridedSlice S1x4x768 ![1, 0, 0] · slices_S2x4x768_S1x4x768_1_0_0) : (⟨S2x4x768, .f32⟩ : BufTy).Contents (Elt F) → (⟨S1x4x768, .f32⟩ : BufTy).Contents (Elt F)),
    StableHlo.reshape main_v273 main_v274 (rfl : (.f32 : EltTy) = .f32) shapeCasts_S1x4x768_S4x768,
    StableHlo.unary main_arg17 main_v275 ((extractStridedSlice S1x768 ![1, 0] · slices_S2x768_S1x768_1_0) : (⟨S2x768, .f32⟩ : BufTy).Contents (Elt F) → (⟨S1x768, .f32⟩ : BufTy).Contents (Elt F)),
    StableHlo.reshape main_v275 main_v276 (rfl : (.f32 : EltTy) = .f32) shapeCasts_S1x768_S768,
    StableHlo.unary main_arg18 main_v277 ((extractStridedSlice S1x768 ![1, 0] · slices_S2x768_S1x768_1_0) : (⟨S2x768, .f32⟩ : BufTy).Contents (Elt F) → (⟨S1x768, .f32⟩ : BufTy).Contents (Elt F)),
    StableHlo.reshape main_v277 main_v278 (rfl : (.f32 : EltTy) = .f32) shapeCasts_S1x768_S768,
    StableHlo.unary main_arg19 main_v279 ((extractStridedSlice S1x384x768 ![1, 0, 0] · slices_S2x384x768_S1x384x768_1_0_0) : (⟨S2x384x768, .f32⟩ : BufTy).Contents (Elt F) → (⟨S1x384x768, .f32⟩ : BufTy).Contents (Elt F)),
    StableHlo.reshape main_v279 main_v280 (rfl : (.f32 : EltTy) = .f32) shapeCasts_S1x384x768_S384x768 ]

/-- Stage L1_1 touches the tensor core's references only. -/
theorem opsL1_1_sub : (opsL1_1 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub ..⟩

/-- Stage L1_2: 29 operations. -/
def opsL1_2 : List (HloOp τ sig (Elt F)) :=
  [ StableHlo.nullary main_cst_18 (constant S_ .f32 0x00000000#32),
    StableHlo.binary main_v254 main_cst_18 main_v281 ((fun x v => Host.reduceAdd x v reducesTo_S2x32x32x384_S2x32x32_d3 h_S_) : (⟨S2x32x32x384, .f32⟩ : BufTy).Contents (Elt F) → (⟨S_, .f32⟩ : BufTy).Contents (Elt F) → (⟨S2x32x32, .f32⟩ : BufTy).Contents (Elt F)),
    StableHlo.unary main_v281 main_v282 (broadcastInDim S2x32x32x1 ![0, 1, 2] bcast_S2x32x32_S2x32x32x1_0_1_2 : (⟨S2x32x32, .f32⟩ : BufTy).Contents (Elt F) → (⟨S2x32x32x1, .f32⟩ : BufTy).Contents (Elt F)),
    StableHlo.nullary main_cst_19 (constant S_ .f32 0x43C00000#32),
    StableHlo.unary main_cst_19 main_v283 (broadcastInDim S2x32x32x1 ![] bcast_S_S2x32x32x1 : (⟨S_, .f32⟩ : BufTy).Contents (Elt F) → (⟨S2x32x32x1, .f32⟩ : BufTy).Contents (Elt F)),
    StableHlo.binary main_v282 main_v283 main_v284 (Host.divf : (⟨S2x32x32x1, .f32⟩ : BufTy).Contents (Elt F) → (⟨S2x32x32x1, .f32⟩ : BufTy).Contents (Elt F) → (⟨S2x32x32x1, .f32⟩ : BufTy).Contents (Elt F)),
    StableHlo.unary main_v284 main_v285 (broadcastInDim S2x32x32x384 ![0, 1, 2, 3] bcast_S2x32x32x1_S2x32x32x384_0_1_2_3 : (⟨S2x32x32x1, .f32⟩ : BufTy).Contents (Elt F) → (⟨S2x32x32x384, .f32⟩ : BufTy).Contents (Elt F)),
    StableHlo.binary main_v254 main_v285 main_v286 (subf : (⟨S2x32x32x384, .f32⟩ : BufTy).Contents (Elt F) → (⟨S2x32x32x384, .f32⟩ : BufTy).Contents (Elt F) → (⟨S2x32x32x384, .f32⟩ : BufTy).Contents (Elt F)),
    StableHlo.binary main_v286 main_v286 main_v287 (mulf : (⟨S2x32x32x384, .f32⟩ : BufTy).Contents (Elt F) → (⟨S2x32x32x384, .f32⟩ : BufTy).Contents (Elt F) → (⟨S2x32x32x384, .f32⟩ : BufTy).Contents (Elt F)),
    StableHlo.nullary main_cst_20 (constant S_ .f32 0x00000000#32),
    StableHlo.binary main_v287 main_cst_20 main_v288 ((fun x v => Host.reduceAdd x v reducesTo_S2x32x32x384_S2x32x32_d3 h_S_) : (⟨S2x32x32x384, .f32⟩ : BufTy).Contents (Elt F) → (⟨S_, .f32⟩ : BufTy).Contents (Elt F) → (⟨S2x32x32, .f32⟩ : BufTy).Contents (Elt F)),
    StableHlo.unary main_v288 main_v289 (broadcastInDim S2x32x32x1 ![0, 1, 2] bcast_S2x32x32_S2x32x32x1_0_1_2 : (⟨S2x32x32, .f32⟩ : BufTy).Contents (Elt F) → (⟨S2x32x32x1, .f32⟩ : BufTy).Contents (Elt F)),
    StableHlo.nullary main_cst_21 (constant S_ .f32 0x43C00000#32),
    StableHlo.unary main_cst_21 main_v290 (broadcastInDim S2x32x32x1 ![] bcast_S_S2x32x32x1 : (⟨S_, .f32⟩ : BufTy).Contents (Elt F) → (⟨S2x32x32x1, .f32⟩ : BufTy).Contents (Elt F)),
    StableHlo.binary main_v289 main_v290 main_v291 (Host.divf : (⟨S2x32x32x1, .f32⟩ : BufTy).Contents (Elt F) → (⟨S2x32x32x1, .f32⟩ : BufTy).Contents (Elt F) → (⟨S2x32x32x1, .f32⟩ : BufTy).Contents (Elt F)),
    StableHlo.unary main_v284 main_v292 (broadcastInDim S2x32x32x384 ![0, 1, 2, 3] bcast_S2x32x32x1_S2x32x32x384_0_1_2_3 : (⟨S2x32x32x1, .f32⟩ : BufTy).Contents (Elt F) → (⟨S2x32x32x384, .f32⟩ : BufTy).Contents (Elt F)),
    StableHlo.binary main_v254 main_v292 main_v293 (subf : (⟨S2x32x32x384, .f32⟩ : BufTy).Contents (Elt F) → (⟨S2x32x32x384, .f32⟩ : BufTy).Contents (Elt F) → (⟨S2x32x32x384, .f32⟩ : BufTy).Contents (Elt F)),
    StableHlo.nullary main_cst_22 (constant S_ .f32 0x3727C5AC#32),
    StableHlo.unary main_cst_22 main_v294 (broadcastInDim S2x32x32x1 ![] bcast_S_S2x32x32x1 : (⟨S_, .f32⟩ : BufTy).Contents (Elt F) → (⟨S2x32x32x1, .f32⟩ : BufTy).Contents (Elt F)),
    StableHlo.binary main_v291 main_v294 main_v295 (addf : (⟨S2x32x32x1, .f32⟩ : BufTy).Contents (Elt F) → (⟨S2x32x32x1, .f32⟩ : BufTy).Contents (Elt F) → (⟨S2x32x32x1, .f32⟩ : BufTy).Contents (Elt F)),
    StableHlo.unary main_v295 main_v296 (Host.rsqrt : (⟨S2x32x32x1, .f32⟩ : BufTy).Contents (Elt F) → (⟨S2x32x32x1, .f32⟩ : BufTy).Contents (Elt F)),
    StableHlo.unary main_v296 main_v297 (broadcastInDim S2x32x32x384 ![0, 1, 2, 3] bcast_S2x32x32x1_S2x32x32x384_0_1_2_3 : (⟨S2x32x32x1, .f32⟩ : BufTy).Contents (Elt F) → (⟨S2x32x32x384, .f32⟩ : BufTy).Contents (Elt F)),
    StableHlo.binary main_v293 main_v297 main_v298 (mulf : (⟨S2x32x32x384, .f32⟩ : BufTy).Contents (Elt F) → (⟨S2x32x32x384, .f32⟩ : BufTy).Contents (Elt F) → (⟨S2x32x32x384, .f32⟩ : BufTy).Contents (Elt F)),
    StableHlo.unary main_v256 main_v299 (broadcastInDim S1x1x1x384 ![3] bcast_S384_S1x1x1x384_3 : (⟨S384, .f32⟩ : BufTy).Contents (Elt F) → (⟨S1x1x1x384, .f32⟩ : BufTy).Contents (Elt F)),
    StableHlo.unary main_v299 main_v300 (broadcastInDim S2x32x32x384 ![0, 1, 2, 3] bcast_S1x1x1x384_S2x32x32x384_0_1_2_3 : (⟨S1x1x1x384, .f32⟩ : BufTy).Contents (Elt F) → (⟨S2x32x32x384, .f32⟩ : BufTy).Contents (Elt F)),
    StableHlo.binary main_v298 main_v300 main_v301 (mulf : (⟨S2x32x32x384, .f32⟩ : BufTy).Contents (Elt F) → (⟨S2x32x32x384, .f32⟩ : BufTy).Contents (Elt F) → (⟨S2x32x32x384, .f32⟩ : BufTy).Contents (Elt F)),
    StableHlo.unary main_v258 main_v302 (broadcastInDim S1x1x1x384 ![3] bcast_S384_S1x1x1x384_3 : (⟨S384, .f32⟩ : BufTy).Contents (Elt F) → (⟨S1x1x1x384, .f32⟩ : BufTy).Contents (Elt F)),
    StableHlo.unary main_v302 main_v303 (broadcastInDim S2x32x32x384 ![0, 1, 2, 3] bcast_S1x1x1x384_S2x32x32x384_0_1_2_3 : (⟨S1x1x1x384, .f32⟩ : BufTy).Contents (Elt F) → (⟨S2x32x32x384, .f32⟩ : BufTy).Contents (Elt F)),
    StableHlo.binary main_v301 main_v303 main_v304 (addf : (⟨S2x32x32x384, .f32⟩ : BufTy).Contents (Elt F) → (⟨S2x32x32x384, .f32⟩ : BufTy).Contents (Elt F) → (⟨S2x32x32x384, .f32⟩ : BufTy).Contents (Elt F)) ]

/-- Stage L1_2 touches the tensor core's references only. -/
theorem opsL1_2_sub : (opsL1_2 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

/-- Stage L1_3: 5 operations. -/
def opsL1_3 : List (HloOp τ sig (Elt F)) :=
  [ StableHlo.unary main_v260 main_v305 ((transpose S384x1536 [1, 0] · transposes_S1536x384_S384x1536_1_0) : (⟨S1536x384, .f32⟩ : BufTy).Contents (Elt F) → (⟨S384x1536, .f32⟩ : BufTy).Contents (Elt F)),
    StableHlo.binary main_v304 main_v305 main_v306 ((fun l r => Host.dotGeneral dot_S2x32x32x384_S384x1536_S2x32x32x1536_3_0_012_1_n_n none l r) : (⟨S2x32x32x384, .f32⟩ : BufTy).Contents (Elt F) → (⟨S384x1536, .f32⟩ : BufTy).Contents (Elt F) → (⟨S2x32x32x1536, .f32⟩ : BufTy).Contents (Elt F)),
    StableHlo.unary main_v306 main_v307 ((extractStridedSlice S2x32x32x768 ![0, 0, 0, 0] · slices_S2x32x32x1536_S2x32x32x768_0_0_0_0) : (⟨S2x32x32x1536, .f32⟩ : BufTy).Contents (Elt F) → (⟨S2x32x32x768, .f32⟩ : BufTy).Contents (Elt F)),
    StableHlo.unary main_v306 main_v308 ((extractStridedSlice S2x32x32x768 ![0, 0, 0, 768] · slices_S2x32x32x1536_S2x32x32x768_0_0_0_768) : (⟨S2x32x32x1536, .f32⟩ : BufTy).Contents (Elt F) → (⟨S2x32x32x768, .f32⟩ : BufTy).Contents (Elt F)),
    StableHlo.unary main_v307 main_v309 ((transpose S2x768x32x32 [0, 3, 1, 2] · transposes_S2x32x32x768_S2x768x32x32_0_3_1_2) : (⟨S2x32x32x768, .f32⟩ : BufTy).Contents (Elt F) → (⟨S2x768x32x32, .f32⟩ : BufTy).Contents (Elt F)) ]

/-- Stage L1_3 touches the tensor core's references only. -/
theorem opsL1_3_sub : (opsL1_3 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub ..⟩

/-- Stage L1_4: 71 operations. -/
def opsL1_4 : List (HloOp τ sig (Elt F)) :=
  [ StableHlo.nullary main_c_23 (constantI S_ 32 0#32),
    StableHlo.unary main_c_23 main_call9_v0 ((sitofp .f32) : (⟨S_, .i32⟩ : BufTy).Contents (Elt F) → (⟨S_, .f32⟩ : BufTy).Contents (Elt F)),
    StableHlo.binary main_v309 main_call9_v0 main_v310 ((fun x v => pad S2x768x34x34 ![0, 0, 1, 1] ![0, 0, 1, 1] ![0, 0, 0, 0] x v pads_S2x768x32x32_S2x768x34x34_000_000_110_110 h_S_) : (⟨S2x768x32x32, .f32⟩ : BufTy).Contents (Elt F) → (⟨S_, .f32⟩ : BufTy).Contents (Elt F) → (⟨S2x768x34x34, .f32⟩ : BufTy).Contents (Elt F)),
    StableHlo.unary main_v262 main_v311 ((extractStridedSlice S768x1x1 ![0, 0, 0] · slices_S768x3x3_S768x1x1_0_0_0) : (⟨S768x3x3, .f32⟩ : BufTy).Contents (Elt F) → (⟨S768x1x1, .f32⟩ : BufTy).Contents (Elt F)),
    StableHlo.reshape main_v311 main_v312 (rfl : (.f32 : EltTy) = .f32) shapeCasts_S768x1x1_S768,
    StableHlo.unary main_v312 main_v313 (broadcastInDim S1x768x1x1 ![1] bcast_S768_S1x768x1x1_1 : (⟨S768, .f32⟩ : BufTy).Contents (Elt F) → (⟨S1x768x1x1, .f32⟩ : BufTy).Contents (Elt F)),
    StableHlo.unary main_v310 main_v314 ((extractStridedSlice S2x768x32x32 ![0, 0, 0, 0] · slices_S2x768x34x34_S2x768x32x32_0_0_0_0) : (⟨S2x768x34x34, .f32⟩ : BufTy).Contents (Elt F) → (⟨S2x768x32x32, .f32⟩ : BufTy).Contents (Elt F)),
    StableHlo.unary main_v313 main_v315 (broadcastInDim S2x768x32x32 ![0, 1, 2, 3] bcast_S1x768x1x1_S2x768x32x32_0_1_2_3 : (⟨S1x768x1x1, .f32⟩ : BufTy).Contents (Elt F) → (⟨S2x768x32x32, .f32⟩ : BufTy).Contents (Elt F)),
    StableHlo.binary main_v315 main_v314 main_v316 (mulf : (⟨S2x768x32x32, .f32⟩ : BufTy).Contents (Elt F) → (⟨S2x768x32x32, .f32⟩ : BufTy).Contents (Elt F) → (⟨S2x768x32x32, .f32⟩ : BufTy).Contents (Elt F)),
    StableHlo.nullary main_cst_24 (constant S_ .f32 0x00000000#32),
    StableHlo.unary main_cst_24 main_v317 (broadcastInDim S2x768x32x32 ![] bcast_S_S2x768x32x32 : (⟨S_, .f32⟩ : BufTy).Contents (Elt F) → (⟨S2x768x32x32, .f32⟩ : BufTy).Contents (Elt F)),
    StableHlo.binary main_v317 main_v316 main_v318 (addf : (⟨S2x768x32x32, .f32⟩ : BufTy).Contents (Elt F) → (⟨S2x768x32x32, .f32⟩ : BufTy).Contents (Elt F) → (⟨S2x768x32x32, .f32⟩ : BufTy).Contents (Elt F)),
    StableHlo.unary main_v262 main_v319 ((extractStridedSlice S768x1x1 ![0, 0, 1] · slices_S768x3x3_S768x1x1_0_0_1) : (⟨S768x3x3, .f32⟩ : BufTy).Contents (Elt F) → (⟨S768x1x1, .f32⟩ : BufTy).Contents (Elt F)),
    StableHlo.reshape main_v319 main_v320 (rfl : (.f32 : EltTy) = .f32) shapeCasts_S768x1x1_S768,
    StableHlo.unary main_v320 main_v321 (broadcastInDim S1x768x1x1 ![1] bcast_S768_S1x768x1x1_1 : (⟨S768, .f32⟩ : BufTy).Contents (Elt F) → (⟨S1x768x1x1, .f32⟩ : BufTy).Contents (Elt F)),
    StableHlo.unary main_v310 main_v322 ((extractStridedSlice S2x768x32x32 ![0, 0, 0, 1] · slices_S2x768x34x34_S2x768x32x32_0_0_0_1) : (⟨S2x768x34x34, .f32⟩ : BufTy).Contents (Elt F) → (⟨S2x768x32x32, .f32⟩ : BufTy).Contents (Elt F)),
    StableHlo.unary main_v321 main_v323 (broadcastInDim S2x768x32x32 ![0, 1, 2, 3] bcast_S1x768x1x1_S2x768x32x32_0_1_2_3 : (⟨S1x768x1x1, .f32⟩ : BufTy).Contents (Elt F) → (⟨S2x768x32x32, .f32⟩ : BufTy).Contents (Elt F)),
    StableHlo.binary main_v323 main_v322 main_v324 (mulf : (⟨S2x768x32x32, .f32⟩ : BufTy).Contents (Elt F) → (⟨S2x768x32x32, .f32⟩ : BufTy).Contents (Elt F) → (⟨S2x768x32x32, .f32⟩ : BufTy).Contents (Elt F)),
    StableHlo.binary main_v318 main_v324 main_v325 (addf : (⟨S2x768x32x32, .f32⟩ : BufTy).Contents (Elt F) → (⟨S2x768x32x32, .f32⟩ : BufTy).Contents (Elt F) → (⟨S2x768x32x32, .f32⟩ : BufTy).Contents (Elt F)),
    StableHlo.unary main_v262 main_v326 ((extractStridedSlice S768x1x1 ![0, 0, 2] · slices_S768x3x3_S768x1x1_0_0_2) : (⟨S768x3x3, .f32⟩ : BufTy).Contents (Elt F) → (⟨S768x1x1, .f32⟩ : BufTy).Contents (Elt F)),
    StableHlo.reshape main_v326 main_v327 (rfl : (.f32 : EltTy) = .f32) shapeCasts_S768x1x1_S768,
    StableHlo.unary main_v327 main_v328 (broadcastInDim S1x768x1x1 ![1] bcast_S768_S1x768x1x1_1 : (⟨S768, .f32⟩ : BufTy).Contents (Elt F) → (⟨S1x768x1x1, .f32⟩ : BufTy).Contents (Elt F)),
    StableHlo.unary main_v310 main_v329 ((extractStridedSlice S2x768x32x32 ![0, 0, 0, 2] · slices_S2x768x34x34_S2x768x32x32_0_0_0_2) : (⟨S2x768x34x34, .f32⟩ : BufTy).Contents (Elt F) → (⟨S2x768x32x32, .f32⟩ : BufTy).Contents (Elt F)),
    StableHlo.unary main_v328 main_v330 (broadcastInDim S2x768x32x32 ![0, 1, 2, 3] bcast_S1x768x1x1_S2x768x32x32_0_1_2_3 : (⟨S1x768x1x1, .f32⟩ : BufTy).Contents (Elt F) → (⟨S2x768x32x32, .f32⟩ : BufTy).Contents (Elt F)),
    StableHlo.binary main_v330 main_v329 main_v331 (mulf : (⟨S2x768x32x32, .f32⟩ : BufTy).Contents (Elt F) → (⟨S2x768x32x32, .f32⟩ : BufTy).Contents (Elt F) → (⟨S2x768x32x32, .f32⟩ : BufTy).Contents (Elt F)),
    StableHlo.binary main_v325 main_v331 main_v332 (addf : (⟨S2x768x32x32, .f32⟩ : BufTy).Contents (Elt F) → (⟨S2x768x32x32, .f32⟩ : BufTy).Contents (Elt F) → (⟨S2x768x32x32, .f32⟩ : BufTy).Contents (Elt F)),
    StableHlo.unary main_v262 main_v333 ((extractStridedSlice S768x1x1 ![0, 1, 0] · slices_S768x3x3_S768x1x1_0_1_0) : (⟨S768x3x3, .f32⟩ : BufTy).Contents (Elt F) → (⟨S768x1x1, .f32⟩ : BufTy).Contents (Elt F)),
    StableHlo.reshape main_v333 main_v334 (rfl : (.f32 : EltTy) = .f32) shapeCasts_S768x1x1_S768,
    StableHlo.unary main_v334 main_v335 (broadcastInDim S1x768x1x1 ![1] bcast_S768_S1x768x1x1_1 : (⟨S768, .f32⟩ : BufTy).Contents (Elt F) → (⟨S1x768x1x1, .f32⟩ : BufTy).Contents (Elt F)),
    StableHlo.unary main_v310 main_v336 ((extractStridedSlice S2x768x32x32 ![0, 0, 1, 0] · slices_S2x768x34x34_S2x768x32x32_0_0_1_0) : (⟨S2x768x34x34, .f32⟩ : BufTy).Contents (Elt F) → (⟨S2x768x32x32, .f32⟩ : BufTy).Contents (Elt F)),
    StableHlo.unary main_v335 main_v337 (broadcastInDim S2x768x32x32 ![0, 1, 2, 3] bcast_S1x768x1x1_S2x768x32x32_0_1_2_3 : (⟨S1x768x1x1, .f32⟩ : BufTy).Contents (Elt F) → (⟨S2x768x32x32, .f32⟩ : BufTy).Contents (Elt F)),
    StableHlo.binary main_v337 main_v336 main_v338 (mulf : (⟨S2x768x32x32, .f32⟩ : BufTy).Contents (Elt F) → (⟨S2x768x32x32, .f32⟩ : BufTy).Contents (Elt F) → (⟨S2x768x32x32, .f32⟩ : BufTy).Contents (Elt F)),
    StableHlo.binary main_v332 main_v338 main_v339 (addf : (⟨S2x768x32x32, .f32⟩ : BufTy).Contents (Elt F) → (⟨S2x768x32x32, .f32⟩ : BufTy).Contents (Elt F) → (⟨S2x768x32x32, .f32⟩ : BufTy).Contents (Elt F)),
    StableHlo.unary main_v262 main_v340 ((extractStridedSlice S768x1x1 ![0, 1, 1] · slices_S768x3x3_S768x1x1_0_1_1) : (⟨S768x3x3, .f32⟩ : BufTy).Contents (Elt F) → (⟨S768x1x1, .f32⟩ : BufTy).Contents (Elt F)),
    StableHlo.reshape main_v340 main_v341 (rfl : (.f32 : EltTy) = .f32) shapeCasts_S768x1x1_S768,
    StableHlo.unary main_v341 main_v342 (broadcastInDim S1x768x1x1 ![1] bcast_S768_S1x768x1x1_1 : (⟨S768, .f32⟩ : BufTy).Contents (Elt F) → (⟨S1x768x1x1, .f32⟩ : BufTy).Contents (Elt F)),
    StableHlo.unary main_v310 main_v343 ((extractStridedSlice S2x768x32x32 ![0, 0, 1, 1] · slices_S2x768x34x34_S2x768x32x32_0_0_1_1) : (⟨S2x768x34x34, .f32⟩ : BufTy).Contents (Elt F) → (⟨S2x768x32x32, .f32⟩ : BufTy).Contents (Elt F)),
    StableHlo.unary main_v342 main_v344 (broadcastInDim S2x768x32x32 ![0, 1, 2, 3] bcast_S1x768x1x1_S2x768x32x32_0_1_2_3 : (⟨S1x768x1x1, .f32⟩ : BufTy).Contents (Elt F) → (⟨S2x768x32x32, .f32⟩ : BufTy).Contents (Elt F)),
    StableHlo.binary main_v344 main_v343 main_v345 (mulf : (⟨S2x768x32x32, .f32⟩ : BufTy).Contents (Elt F) → (⟨S2x768x32x32, .f32⟩ : BufTy).Contents (Elt F) → (⟨S2x768x32x32, .f32⟩ : BufTy).Contents (Elt F)),
    StableHlo.binary main_v339 main_v345 main_v346 (addf : (⟨S2x768x32x32, .f32⟩ : BufTy).Contents (Elt F) → (⟨S2x768x32x32, .f32⟩ : BufTy).Contents (Elt F) → (⟨S2x768x32x32, .f32⟩ : BufTy).Contents (Elt F)),
    StableHlo.unary main_v262 main_v347 ((extractStridedSlice S768x1x1 ![0, 1, 2] · slices_S768x3x3_S768x1x1_0_1_2) : (⟨S768x3x3, .f32⟩ : BufTy).Contents (Elt F) → (⟨S768x1x1, .f32⟩ : BufTy).Contents (Elt F)),
    StableHlo.reshape main_v347 main_v348 (rfl : (.f32 : EltTy) = .f32) shapeCasts_S768x1x1_S768,
    StableHlo.unary main_v348 main_v349 (broadcastInDim S1x768x1x1 ![1] bcast_S768_S1x768x1x1_1 : (⟨S768, .f32⟩ : BufTy).Contents (Elt F) → (⟨S1x768x1x1, .f32⟩ : BufTy).Contents (Elt F)),
    StableHlo.unary main_v310 main_v350 ((extractStridedSlice S2x768x32x32 ![0, 0, 1, 2] · slices_S2x768x34x34_S2x768x32x32_0_0_1_2) : (⟨S2x768x34x34, .f32⟩ : BufTy).Contents (Elt F) → (⟨S2x768x32x32, .f32⟩ : BufTy).Contents (Elt F)),
    StableHlo.unary main_v349 main_v351 (broadcastInDim S2x768x32x32 ![0, 1, 2, 3] bcast_S1x768x1x1_S2x768x32x32_0_1_2_3 : (⟨S1x768x1x1, .f32⟩ : BufTy).Contents (Elt F) → (⟨S2x768x32x32, .f32⟩ : BufTy).Contents (Elt F)),
    StableHlo.binary main_v351 main_v350 main_v352 (mulf : (⟨S2x768x32x32, .f32⟩ : BufTy).Contents (Elt F) → (⟨S2x768x32x32, .f32⟩ : BufTy).Contents (Elt F) → (⟨S2x768x32x32, .f32⟩ : BufTy).Contents (Elt F)),
    StableHlo.binary main_v346 main_v352 main_v353 (addf : (⟨S2x768x32x32, .f32⟩ : BufTy).Contents (Elt F) → (⟨S2x768x32x32, .f32⟩ : BufTy).Contents (Elt F) → (⟨S2x768x32x32, .f32⟩ : BufTy).Contents (Elt F)),
    StableHlo.unary main_v262 main_v354 ((extractStridedSlice S768x1x1 ![0, 2, 0] · slices_S768x3x3_S768x1x1_0_2_0) : (⟨S768x3x3, .f32⟩ : BufTy).Contents (Elt F) → (⟨S768x1x1, .f32⟩ : BufTy).Contents (Elt F)),
    StableHlo.reshape main_v354 main_v355 (rfl : (.f32 : EltTy) = .f32) shapeCasts_S768x1x1_S768,
    StableHlo.unary main_v355 main_v356 (broadcastInDim S1x768x1x1 ![1] bcast_S768_S1x768x1x1_1 : (⟨S768, .f32⟩ : BufTy).Contents (Elt F) → (⟨S1x768x1x1, .f32⟩ : BufTy).Contents (Elt F)),
    StableHlo.unary main_v310 main_v357 ((extractStridedSlice S2x768x32x32 ![0, 0, 2, 0] · slices_S2x768x34x34_S2x768x32x32_0_0_2_0) : (⟨S2x768x34x34, .f32⟩ : BufTy).Contents (Elt F) → (⟨S2x768x32x32, .f32⟩ : BufTy).Contents (Elt F)),
    StableHlo.unary main_v356 main_v358 (broadcastInDim S2x768x32x32 ![0, 1, 2, 3] bcast_S1x768x1x1_S2x768x32x32_0_1_2_3 : (⟨S1x768x1x1, .f32⟩ : BufTy).Contents (Elt F) → (⟨S2x768x32x32, .f32⟩ : BufTy).Contents (Elt F)),
    StableHlo.binary main_v358 main_v357 main_v359 (mulf : (⟨S2x768x32x32, .f32⟩ : BufTy).Contents (Elt F) → (⟨S2x768x32x32, .f32⟩ : BufTy).Contents (Elt F) → (⟨S2x768x32x32, .f32⟩ : BufTy).Contents (Elt F)),
    StableHlo.binary main_v353 main_v359 main_v360 (addf : (⟨S2x768x32x32, .f32⟩ : BufTy).Contents (Elt F) → (⟨S2x768x32x32, .f32⟩ : BufTy).Contents (Elt F) → (⟨S2x768x32x32, .f32⟩ : BufTy).Contents (Elt F)),
    StableHlo.unary main_v262 main_v361 ((extractStridedSlice S768x1x1 ![0, 2, 1] · slices_S768x3x3_S768x1x1_0_2_1) : (⟨S768x3x3, .f32⟩ : BufTy).Contents (Elt F) → (⟨S768x1x1, .f32⟩ : BufTy).Contents (Elt F)),
    StableHlo.reshape main_v361 main_v362 (rfl : (.f32 : EltTy) = .f32) shapeCasts_S768x1x1_S768,
    StableHlo.unary main_v362 main_v363 (broadcastInDim S1x768x1x1 ![1] bcast_S768_S1x768x1x1_1 : (⟨S768, .f32⟩ : BufTy).Contents (Elt F) → (⟨S1x768x1x1, .f32⟩ : BufTy).Contents (Elt F)),
    StableHlo.unary main_v310 main_v364 ((extractStridedSlice S2x768x32x32 ![0, 0, 2, 1] · slices_S2x768x34x34_S2x768x32x32_0_0_2_1) : (⟨S2x768x34x34, .f32⟩ : BufTy).Contents (Elt F) → (⟨S2x768x32x32, .f32⟩ : BufTy).Contents (Elt F)),
    StableHlo.unary main_v363 main_v365 (broadcastInDim S2x768x32x32 ![0, 1, 2, 3] bcast_S1x768x1x1_S2x768x32x32_0_1_2_3 : (⟨S1x768x1x1, .f32⟩ : BufTy).Contents (Elt F) → (⟨S2x768x32x32, .f32⟩ : BufTy).Contents (Elt F)),
    StableHlo.binary main_v365 main_v364 main_v366 (mulf : (⟨S2x768x32x32, .f32⟩ : BufTy).Contents (Elt F) → (⟨S2x768x32x32, .f32⟩ : BufTy).Contents (Elt F) → (⟨S2x768x32x32, .f32⟩ : BufTy).Contents (Elt F)),
    StableHlo.binary main_v360 main_v366 main_v367 (addf : (⟨S2x768x32x32, .f32⟩ : BufTy).Contents (Elt F) → (⟨S2x768x32x32, .f32⟩ : BufTy).Contents (Elt F) → (⟨S2x768x32x32, .f32⟩ : BufTy).Contents (Elt F)),
    StableHlo.unary main_v262 main_v368 ((extractStridedSlice S768x1x1 ![0, 2, 2] · slices_S768x3x3_S768x1x1_0_2_2) : (⟨S768x3x3, .f32⟩ : BufTy).Contents (Elt F) → (⟨S768x1x1, .f32⟩ : BufTy).Contents (Elt F)),
    StableHlo.reshape main_v368 main_v369 (rfl : (.f32 : EltTy) = .f32) shapeCasts_S768x1x1_S768,
    StableHlo.unary main_v369 main_v370 (broadcastInDim S1x768x1x1 ![1] bcast_S768_S1x768x1x1_1 : (⟨S768, .f32⟩ : BufTy).Contents (Elt F) → (⟨S1x768x1x1, .f32⟩ : BufTy).Contents (Elt F)),
    StableHlo.unary main_v310 main_v371 ((extractStridedSlice S2x768x32x32 ![0, 0, 2, 2] · slices_S2x768x34x34_S2x768x32x32_0_0_2_2) : (⟨S2x768x34x34, .f32⟩ : BufTy).Contents (Elt F) → (⟨S2x768x32x32, .f32⟩ : BufTy).Contents (Elt F)),
    StableHlo.unary main_v370 main_v372 (broadcastInDim S2x768x32x32 ![0, 1, 2, 3] bcast_S1x768x1x1_S2x768x32x32_0_1_2_3 : (⟨S1x768x1x1, .f32⟩ : BufTy).Contents (Elt F) → (⟨S2x768x32x32, .f32⟩ : BufTy).Contents (Elt F)),
    StableHlo.binary main_v372 main_v371 main_v373 (mulf : (⟨S2x768x32x32, .f32⟩ : BufTy).Contents (Elt F) → (⟨S2x768x32x32, .f32⟩ : BufTy).Contents (Elt F) → (⟨S2x768x32x32, .f32⟩ : BufTy).Contents (Elt F)),
    StableHlo.binary main_v367 main_v373 main_v374 (addf : (⟨S2x768x32x32, .f32⟩ : BufTy).Contents (Elt F) → (⟨S2x768x32x32, .f32⟩ : BufTy).Contents (Elt F) → (⟨S2x768x32x32, .f32⟩ : BufTy).Contents (Elt F)),
    StableHlo.unary main_v264 main_v375 (broadcastInDim S1x768x1x1 ![1] bcast_S768_S1x768x1x1_1 : (⟨S768, .f32⟩ : BufTy).Contents (Elt F) → (⟨S1x768x1x1, .f32⟩ : BufTy).Contents (Elt F)),
    StableHlo.unary main_v375 main_v376 (broadcastInDim S2x768x32x32 ![0, 1, 2, 3] bcast_S1x768x1x1_S2x768x32x32_0_1_2_3 : (⟨S1x768x1x1, .f32⟩ : BufTy).Contents (Elt F) → (⟨S2x768x32x32, .f32⟩ : BufTy).Contents (Elt F)),
    StableHlo.binary main_v374 main_v376 main_v377 (addf : (⟨S2x768x32x32, .f32⟩ : BufTy).Contents (Elt F) → (⟨S2x768x32x32, .f32⟩ : BufTy).Contents (Elt F) → (⟨S2x768x32x32, .f32⟩ : BufTy).Contents (Elt F)) ]

/-- Stage L1_4 touches the tensor core's references only. -/
theorem opsL1_4_sub : (opsL1_4 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩

/-- Stage L1_5: 9 operations. -/
def opsL1_5 : List (HloOp τ sig (Elt F)) :=
  [ StableHlo.unary main_v377 main_call10_v0 (Host.negf : (⟨S2x768x32x32, .f32⟩ : BufTy).Contents (Elt F) → (⟨S2x768x32x32, .f32⟩ : BufTy).Contents (Elt F)),
    StableHlo.unary main_call10_v0 main_call10_v1 (Host.exp : (⟨S2x768x32x32, .f32⟩ : BufTy).Contents (Elt F) → (⟨S2x768x32x32, .f32⟩ : BufTy).Contents (Elt F)),
    StableHlo.nullary main_call10_cst (constant S_ .f32 0x3F800000#32),
    StableHlo.unary main_call10_cst main_call10_v2 ((broadcastInDim S2x768x32x32 ![] bcast_S_S2x768x32x32) : (⟨S_, .f32⟩ : BufTy).Contents (Elt F) → (⟨S2x768x32x32, .f32⟩ : BufTy).Contents (Elt F)),
    StableHlo.binary main_call10_v2 main_call10_v1 main_call10_v3 (addf : (⟨S2x768x32x32, .f32⟩ : BufTy).Contents (Elt F) → (⟨S2x768x32x32, .f32⟩ : BufTy).Contents (Elt F) → (⟨S2x768x32x32, .f32⟩ : BufTy).Contents (Elt F)),
    StableHlo.nullary main_call10_cst_0 (constant S_ .f32 0x3F800000#32),
    StableHlo.unary main_call10_cst_0 main_call10_v4 ((broadcastInDim S2x768x32x32 ![] bcast_S_S2x768x32x32) : (⟨S_, .f32⟩ : BufTy).Contents (Elt F) → (⟨S2x768x32x32, .f32⟩ : BufTy).Contents (Elt F)),
    StableHlo.binary main_call10_v4 main_call10_v3 main_call10_v5 (Host.divf : (⟨S2x768x32x32, .f32⟩ : BufTy).Contents (Elt F) → (⟨S2x768x32x32, .f32⟩ : BufTy).Contents (Elt F) → (⟨S2x768x32x32, .f32⟩ : BufTy).Contents (Elt F)),
    StableHlo.binary main_v377 main_call10_v5 main_v378 (mulf : (⟨S2x768x32x32, .f32⟩ : BufTy).Contents (Elt F) → (⟨S2x768x32x32, .f32⟩ : BufTy).Contents (Elt F) → (⟨S2x768x32x32, .f32⟩ : BufTy).Contents (Elt F)) ]

/-- Stage L1_5 touches the tensor core's references only. -/
theorem opsL1_5_sub : (opsL1_5 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩

/-- Stage L1_6: 10 operations. -/
def opsL1_6 : List (HloOp τ sig (Elt F)) :=
  [ StableHlo.reshape main_v378 main_v379 (rfl : (.f32 : EltTy) = .f32) shapeCasts_S2x768x32x32_S2x768x1024,
    StableHlo.unary main_v378 main_v380 ((transpose S2x768x32x32 [0, 1, 3, 2] · transposes_S2x768x32x32_S2x768x32x32_0_1_3_2) : (⟨S2x768x32x32, .f32⟩ : BufTy).Contents (Elt F) → (⟨S2x768x32x32, .f32⟩ : BufTy).Contents (Elt F)),
    StableHlo.reshape main_v380 main_v381 (rfl : (.f32 : EltTy) = .f32) shapeCasts_S2x768x32x32_S2x768x1024,
    StableHlo.unary main_v379 main_v382 (Host.reverse [2] : (⟨S2x768x1024, .f32⟩ : BufTy).Contents (Elt F) → (⟨S2x768x1024, .f32⟩ : BufTy).Contents (Elt F)),
    StableHlo.unary main_v381 main_v383 (Host.reverse [2] : (⟨S2x768x1024, .f32⟩ : BufTy).Contents (Elt F) → (⟨S2x768x1024, .f32⟩ : BufTy).Contents (Elt F)),
    StableHlo.unary main_v379 main_v384 (broadcastInDim S2x1x768x1024 ![0, 2, 3] bcast_S2x768x1024_S2x1x768x1024_0_2_3 : (⟨S2x768x1024, .f32⟩ : BufTy).Contents (Elt F) → (⟨S2x1x768x1024, .f32⟩ : BufTy).Contents (Elt F)),
    StableHlo.unary main_v381 main_v385 (broadcastInDim S2x1x768x1024 ![0, 2, 3] bcast_S2x768x1024_S2x1x768x1024_0_2_3 : (⟨S2x768x1024, .f32⟩ : BufTy).Contents (Elt F) → (⟨S2x1x768x1024, .f32⟩ : BufTy).Contents (Elt F)),
    StableHlo.unary main_v382 main_v386 (broadcastInDim S2x1x768x1024 ![0, 2, 3] bcast_S2x768x1024_S2x1x768x1024_0_2_3 : (⟨S2x768x1024, .f32⟩ : BufTy).Contents (Elt F) → (⟨S2x1x768x1024, .f32⟩ : BufTy).Contents (Elt F)),
    StableHlo.unary main_v383 main_v387 (broadcastInDim S2x1x768x1024 ![0, 2, 3] bcast_S2x768x1024_S2x1x768x1024_0_2_3 : (⟨S2x768x1024, .f32⟩ : BufTy).Contents (Elt F) → (⟨S2x1x768x1024, .f32⟩ : BufTy).Contents (Elt F)),
    StableHlo.nary ![main_v384, main_v385, main_v386, main_v387] main_v388 (fun u => (concatenate S2x4x768x1024 1 [⟨S2x1x768x1024, (u 0 : (⟨S2x1x768x1024, .f32⟩ : BufTy).Contents (Elt F))⟩, ⟨S2x1x768x1024, (u 1 : (⟨S2x1x768x1024, .f32⟩ : BufTy).Contents (Elt F))⟩, ⟨S2x1x768x1024, (u 2 : (⟨S2x1x768x1024, .f32⟩ : BufTy).Contents (Elt F))⟩, ⟨S2x1x768x1024, (u 3 : (⟨S2x1x768x1024, .f32⟩ : BufTy).Contents (Elt F))⟩] concatenates_S2x1x768x1024_S2x1x768x1024_S2x1x768x1024_S2x1x768x1024_S2x4x768x1024_d1 : (⟨S2x4x768x1024, .f32⟩ : BufTy).Contents (Elt F))) ]

/-- Stage L1_6 touches the tensor core's references only. -/
theorem opsL1_6_sub : (opsL1_6 : List (HloOp τ sig (Elt F))).Forall fun op => op.bufs ⊆ StableHlo.tcRefs τ sig :=
  ⟨StableHlo.reshape_bufs_sub .., StableHlo.unary_bufs_sub .., StableHlo.reshape_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub ..⟩

/-- Stage L1_7: 5 operations. -/
def opsL1_7 : List (HloOp τ sig (Elt F)) :=
  [ StableHlo.binary main_v266 main_v388 main_v389 ((fun l r => Host.dotGeneral dot_S4x56x768_S2x4x768x1024_S4x56x2x1024_2_2_1_03_0_1 none l r) : (⟨S4x56x768, .f32⟩ : BufTy).Contents (Elt F) → (⟨S2x4x768x1024, .f32⟩ : BufTy).Contents (Elt F) → (⟨S4x56x2x1024, .f32⟩ : BufTy).Contents (Elt F)),
    StableHlo.unary main_v389 main_v390 ((transpose S2x4x56x1024 [2, 0, 1, 3] · transposes_S4x56x2x1024_S2x4x56x1024_2_0_1_3) : (⟨S4x56x2x1024, .f32⟩ : BufTy).Contents (Elt F) → (⟨S2x4x56x1024, .f32⟩ : BufTy).Contents (Elt F)),
    StableHlo.unary main_v390 main_v391 ((extractStridedSlice S2x4x24x1024 ![0, 0, 0, 0] · slices_S2x4x56x1024_S2x4x24x1024_0_0_0_0) : (⟨S2x4x56x1024, .f32⟩ : BufTy).Contents (Elt F) → (⟨S2x4x24x1024, .f32⟩ : BufTy).Contents (Elt F)),
    StableHlo.unary main_v390 main_v392 ((extractStridedSlice S2x4x16x1024 ![0, 0, 24, 0] · slices_S2x4x56x1024_S2x4x16x1024_0_0_24_0) : (⟨S2x4x56x1024, .f32⟩ : BufTy).Contents (Elt F) → (⟨S2x4x16x1024, .f32⟩ : BufTy).Contents (Elt F)),
    StableHlo.unary main_v390 main_v393 ((extractStridedSlice S2x4x16x1024 ![0, 0, 40, 0] · slices_S2x4x56x1024_S2x4x16x1024_0_0_40_0) : (⟨S2x4x56x1024, .f32⟩ : BufTy).Contents (Elt F) → (⟨S2x4x16x1024, .f32⟩ : BufTy).Contents (Elt F)) ]

/-- Stage L1_7 touches the tensor core's references only. -/
theorem opsL1_7_sub : (opsL1_7 : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.unary_bufs_sub ..⟩

/-- Stage L1_8: 19 operations. -/
def opsL1_8 : List (HloOp τ sig (Elt F)) :=
  [ StableHlo.binary main_v268 main_v391 main_v394 ((fun l r => Host.dotGeneral dot_S4x768x24_S2x4x24x1024_S4x768x2x1024_2_2_1_03_0_1 none l r) : (⟨S4x768x24, .f32⟩ : BufTy).Contents (Elt F) → (⟨S2x4x24x1024, .f32⟩ : BufTy).Contents (Elt F) → (⟨S4x768x2x1024, .f32⟩ : BufTy).Contents (Elt F)),
    StableHlo.unary main_v394 main_v395 ((transpose S2x4x768x1024 [2, 0, 1, 3] · transposes_S4x768x2x1024_S2x4x768x1024_2_0_1_3) : (⟨S4x768x2x1024, .f32⟩ : BufTy).Contents (Elt F) → (⟨S2x4x768x1024, .f32⟩ : BufTy).Contents (Elt F)),
    StableHlo.unary main_v270 main_v396 (broadcastInDim S1x4x768x1 ![1, 2] bcast_S4x768_S1x4x768x1_1_2 : (⟨S4x768, .f32⟩ : BufTy).Contents (Elt F) → (⟨S1x4x768x1, .f32⟩ : BufTy).Contents (Elt F)),
    StableHlo.unary main_v396 main_v397 (broadcastInDim S2x4x768x1024 ![0, 1, 2, 3] bcast_S1x4x768x1_S2x4x768x1024_0_1_2_3 : (⟨S1x4x768x1, .f32⟩ : BufTy).Contents (Elt F) → (⟨S2x4x768x1024, .f32⟩ : BufTy).Contents (Elt F)),
    StableHlo.binary main_v395 main_v397 main_v398 (addf : (⟨S2x4x768x1024, .f32⟩ : BufTy).Contents (Elt F) → (⟨S2x4x768x1024, .f32⟩ : BufTy).Contents (Elt F) → (⟨S2x4x768x1024, .f32⟩ : BufTy).Contents (Elt F)),
    StableHlo.nullary main_call11_cst (constant S_ .f32 0x00000000#32),
    StableHlo.unary main_call11_cst main_call11_v0 ((broadcastInDim S2x4x768x1024 ![] bcast_S_S2x4x768x1024) : (⟨S_, .f32⟩ : BufTy).Contents (Elt F) → (⟨S2x4x768x1024, .f32⟩ : BufTy).Contents (Elt F)),
    StableHlo.binary main_v398 main_call11_v0 main_call11_v1 (maximumf : (⟨S2x4x768x1024, .f32⟩ : BufTy).Contents (Elt F) → (⟨S2x4x768x1024, .f32⟩ : BufTy).Contents (Elt F) → (⟨S2x4x768x1024, .f32⟩ : BufTy).Contents (Elt F)),
    StableHlo.unary main_call11_cst main_call11_v2 ((broadcastInDim S2x4x768x1024 ![] bcast_S_S2x4x768x1024) : (⟨S_, .f32⟩ : BufTy).Contents (Elt F) → (⟨S2x4x768x1024, .f32⟩ : BufTy).Contents (Elt F)),
    StableHlo.binary main_v398 main_call11_v2 main_call11_v3 (subf : (⟨S2x4x768x1024, .f32⟩ : BufTy).Contents (Elt F) → (⟨S2x4x768x1024, .f32⟩ : BufTy).Contents (Elt F) → (⟨S2x4x768x1024, .f32⟩ : BufTy).Contents (Elt F)),
    StableHlo.binary main_call11_v3 main_call11_v3 main_call11_v4 ((cmpf .une) : (⟨S2x4x768x1024, .f32⟩ : BufTy).Contents (Elt F) → (⟨S2x4x768x1024, .f32⟩ : BufTy).Contents (Elt F) → (⟨S2x4x768x1024, .i1⟩ : BufTy).Contents (Elt F)),
    StableHlo.unary main_call11_cst main_call11_v5 ((broadcastInDim S2x4x768x1024 ![] bcast_S_S2x4x768x1024) : (⟨S_, .f32⟩ : BufTy).Contents (Elt F) → (⟨S2x4x768x1024, .f32⟩ : BufTy).Contents (Elt F)),
    StableHlo.binary main_v398 main_call11_v5 main_call11_v6 (addf : (⟨S2x4x768x1024, .f32⟩ : BufTy).Contents (Elt F) → (⟨S2x4x768x1024, .f32⟩ : BufTy).Contents (Elt F) → (⟨S2x4x768x1024, .f32⟩ : BufTy).Contents (Elt F)),
    StableHlo.unary main_call11_v3 main_call11_v7 (Host.absf : (⟨S2x4x768x1024, .f32⟩ : BufTy).Contents (Elt F) → (⟨S2x4x768x1024, .f32⟩ : BufTy).Contents (Elt F)),
    StableHlo.unary main_call11_v7 main_call11_v8 (Host.negf : (⟨S2x4x768x1024, .f32⟩ : BufTy).Contents (Elt F) → (⟨S2x4x768x1024, .f32⟩ : BufTy).Contents (Elt F)),
    StableHlo.unary main_call11_v8 main_call11_v9 (Host.exp : (⟨S2x4x768x1024, .f32⟩ : BufTy).Contents (Elt F) → (⟨S2x4x768x1024, .f32⟩ : BufTy).Contents (Elt F)),
    StableHlo.unary main_call11_v9 main_call11_v10 (Host.log1p : (⟨S2x4x768x1024, .f32⟩ : BufTy).Contents (Elt F) → (⟨S2x4x768x1024, .f32⟩ : BufTy).Contents (Elt F)),
    StableHlo.binary main_call11_v1 main_call11_v10 main_call11_v11 (addf : (⟨S2x4x768x1024, .f32⟩ : BufTy).Contents (Elt F) → (⟨S2x4x768x1024, .f32⟩ : BufTy).Contents (Elt F) → (⟨S2x4x768x1024, .f32⟩ : BufTy).Contents (Elt F)),
    StableHlo.ternary main_call11_v4 main_call11_v6 main_call11_v11 main_v399 (select : (⟨S2x4x768x1024, .i1⟩ : BufTy).Contents (Elt F) → (⟨S2x4x768x1024, .f32⟩ : BufTy).Contents (Elt F) → (⟨S2x4x768x1024, .f32⟩ : BufTy).Contents (Elt F) → (⟨S2x4x768x1024, .f32⟩ : BufTy).Contents (Elt F)) ]

/-- Stage L1_8 touches the tensor core's references only. -/
theorem opsL1_8_sub : (opsL1_8 : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub ..⟩

/-- Stage L1_9: 27 operations. -/
def opsL1_9 : List (HloOp τ sig (Elt F)) :=
  [ StableHlo.unary main_v272 main_v400 (Host.exp : (⟨S4x768x16, .f32⟩ : BufTy).Contents (Elt F) → (⟨S4x768x16, .f32⟩ : BufTy).Contents (Elt F)),
    StableHlo.unary main_v400 main_v401 (Host.negf : (⟨S4x768x16, .f32⟩ : BufTy).Contents (Elt F) → (⟨S4x768x16, .f32⟩ : BufTy).Contents (Elt F)),
    StableHlo.reshape main_v388 main_v402 (rfl : (.f32 : EltTy) = .f32) shapeCasts_S2x4x768x1024_S8x768x1024,
    StableHlo.reshape main_v399 main_v403 (rfl : (.f32 : EltTy) = .f32) shapeCasts_S2x4x768x1024_S8x768x1024,
    StableHlo.unary main_v401 main_v404 (broadcastInDim S2x4x768x16 ![1, 2, 3] bcast_S4x768x16_S2x4x768x16_1_2_3 : (⟨S4x768x16, .f32⟩ : BufTy).Contents (Elt F) → (⟨S2x4x768x16, .f32⟩ : BufTy).Contents (Elt F)),
    StableHlo.reshape main_v404 main_v405 (rfl : (.f32 : EltTy) = .f32) shapeCasts_S2x4x768x16_S8x768x16,
    StableHlo.reshape main_v392 main_v406 (rfl : (.f32 : EltTy) = .f32) shapeCasts_S2x4x16x1024_S8x16x1024,
    StableHlo.reshape main_v393 main_v407 (rfl : (.f32 : EltTy) = .f32) shapeCasts_S2x4x16x1024_S8x16x1024,
    StableHlo.unary main_v274 main_v408 (broadcastInDim S2x4x768 ![1, 2] bcast_S4x768_S2x4x768_1_2 : (⟨S4x768, .f32⟩ : BufTy).Contents (Elt F) → (⟨S2x4x768, .f32⟩ : BufTy).Contents (Elt F)),
    StableHlo.reshape main_v408 main_v409 (rfl : (.f32 : EltTy) = .f32) shapeCasts_S2x4x768_S8x768,
    StableHlo.nullary main_cst_25 (constant S_ .f32 0x00000000#32),
    StableHlo.unary main_cst_25 main_v410 (broadcastInDim S8x768x16 ![] bcast_S_S8x768x16 : (⟨S_, .f32⟩ : BufTy).Contents (Elt F) → (⟨S8x768x16, .f32⟩ : BufTy).Contents (Elt F)),
    StableHlo.unary main_v403 main_v411 ((transpose S1024x8x768 [2, 0, 1] · transposes_S8x768x1024_S1024x8x768_2_0_1) : (⟨S8x768x1024, .f32⟩ : BufTy).Contents (Elt F) → (⟨S1024x8x768, .f32⟩ : BufTy).Contents (Elt F)),
    StableHlo.unary main_v402 main_v412 ((transpose S1024x8x768 [2, 0, 1] · transposes_S8x768x1024_S1024x8x768_2_0_1) : (⟨S8x768x1024, .f32⟩ : BufTy).Contents (Elt F) → (⟨S1024x8x768, .f32⟩ : BufTy).Contents (Elt F)),
    StableHlo.unary main_v406 main_v413 ((transpose S1024x8x16 [2, 0, 1] · transposes_S8x16x1024_S1024x8x16_2_0_1) : (⟨S8x16x1024, .f32⟩ : BufTy).Contents (Elt F) → (⟨S1024x8x16, .f32⟩ : BufTy).Contents (Elt F)),
    StableHlo.unary main_v407 main_v414 ((transpose S1024x8x16 [2, 0, 1] · transposes_S8x16x1024_S1024x8x16_2_0_1) : (⟨S8x16x1024, .f32⟩ : BufTy).Contents (Elt F) → (⟨S1024x8x16, .f32⟩ : BufTy).Contents (Elt F)),
    StableHlo.nullary main_cst_26 (constant S_ .f32 0x00000000#32),
    StableHlo.unary main_cst_26 main_v415 (broadcastInDim S1024x8x768 ![] bcast_S_S1024x8x768 : (⟨S_, .f32⟩ : BufTy).Contents (Elt F) → (⟨S1024x8x768, .f32⟩ : BufTy).Contents (Elt F)),
    StableHlo.nullary main_c_27 (constantI S_ 32 0#32),
    StableHlo.unary main_v411 main_v416_0 id,
    StableHlo.unary main_v412 main_v416_1 id,
    StableHlo.unary main_v413 main_v416_2 id,
    StableHlo.unary main_v414 main_v416_3 id,
    StableHlo.unary main_v405 main_v416_4 id,
    StableHlo.unary main_c_27 main_v416_5 id,
    StableHlo.unary main_v410 main_v416_6 id,
    StableHlo.unary main_v415 main_v416_7 id ]

/-- Stage L1_9 touches the tensor core's references only. -/
theorem opsL1_9_sub : (opsL1_9 : List (HloOp τ sig (Elt F))).Forall fun op => op.bufs ⊆ StableHlo.tcRefs τ sig :=
  ⟨StableHlo.unary_bufs_sub .., StableHlo.unary_bufs_sub .., StableHlo.reshape_bufs_sub .., StableHlo.reshape_bufs_sub .., StableHlo.unary_bufs_sub .., StableHlo.reshape_bufs_sub .., StableHlo.reshape_bufs_sub .., StableHlo.reshape_bufs_sub .., StableHlo.unary_bufs_sub .., StableHlo.reshape_bufs_sub .., StableHlo.nullary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- Stage L1_10: 6 operations. -/
def opsL1_10 : List (HloOp τ sig (Elt F)) :=
  [ StableHlo.unary main_v416_7 main_v417 ((transpose S8x768x1024 [1, 2, 0] · transposes_S1024x8x768_S8x768x1024_1_2_0) : (⟨S1024x8x768, .f32⟩ : BufTy).Contents (Elt F) → (⟨S8x768x1024, .f32⟩ : BufTy).Contents (Elt F)),
    StableHlo.unary main_v409 main_v418 (broadcastInDim S8x768x1 ![0, 1] bcast_S8x768_S8x768x1_0_1 : (⟨S8x768, .f32⟩ : BufTy).Contents (Elt F) → (⟨S8x768x1, .f32⟩ : BufTy).Contents (Elt F)),
    StableHlo.unary main_v418 main_v419 (broadcastInDim S8x768x1024 ![0, 1, 2] bcast_S8x768x1_S8x768x1024_0_1_2 : (⟨S8x768x1, .f32⟩ : BufTy).Contents (Elt F) → (⟨S8x768x1024, .f32⟩ : BufTy).Contents (Elt F)),
    StableHlo.binary main_v419 main_v402 main_v420 (mulf : (⟨S8x768x1024, .f32⟩ : BufTy).Contents (Elt F) → (⟨S8x768x1024, .f32⟩ : BufTy).Contents (Elt F) → (⟨S8x768x1024, .f32⟩ : BufTy).Contents (Elt F)),
    StableHlo.binary main_v417 main_v420 main_v421 (addf : (⟨S8x768x1024, .f32⟩ : BufTy).Contents (Elt F) → (⟨S8x768x1024, .f32⟩ : BufTy).Contents (Elt F) → (⟨S8x768x1024, .f32⟩ : BufTy).Contents (Elt F)),
    StableHlo.reshape main_v421 main_v422 (rfl : (.f32 : EltTy) = .f32) shapeCasts_S8x768x1024_S2x4x768x1024 ]

/-- Stage L1_10 touches the tensor core's references only. -/
theorem opsL1_10_sub : (opsL1_10 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.binary_bufs_sub .., StableHlo.reshape_bufs_sub ..⟩

/-- Stage L1_11: 21 operations. -/
def opsL1_11 : List (HloOp τ sig (Elt F)) :=
  [ StableHlo.unary main_v422 main_v423 ((extractStridedSlice S2x1x768x1024 ![0, 0, 0, 0] · slices_S2x4x768x1024_S2x1x768x1024_0_0_0_0) : (⟨S2x4x768x1024, .f32⟩ : BufTy).Contents (Elt F) → (⟨S2x1x768x1024, .f32⟩ : BufTy).Contents (Elt F)),
    StableHlo.reshape main_v423 main_v424 (rfl : (.f32 : EltTy) = .f32) shapeCasts_S2x1x768x1024_S2x768x1024,
    StableHlo.unary main_v422 main_v425 ((extractStridedSlice S2x1x768x1024 ![0, 1, 0, 0] · slices_S2x4x768x1024_S2x1x768x1024_0_1_0_0) : (⟨S2x4x768x1024, .f32⟩ : BufTy).Contents (Elt F) → (⟨S2x1x768x1024, .f32⟩ : BufTy).Contents (Elt F)),
    StableHlo.reshape main_v425 main_v426 (rfl : (.f32 : EltTy) = .f32) shapeCasts_S2x1x768x1024_S2x768x1024,
    StableHlo.reshape main_v426 main_v427 (rfl : (.f32 : EltTy) = .f32) shapeCasts_S2x768x1024_S2x768x32x32,
    StableHlo.unary main_v427 main_v428 ((transpose S2x768x32x32 [0, 1, 3, 2] · transposes_S2x768x32x32_S2x768x32x32_0_1_3_2) : (⟨S2x768x32x32, .f32⟩ : BufTy).Contents (Elt F) → (⟨S2x768x32x32, .f32⟩ : BufTy).Contents (Elt F)),
    StableHlo.reshape main_v428 main_v429 (rfl : (.f32 : EltTy) = .f32) shapeCasts_S2x768x32x32_S2x768x1024,
    StableHlo.binary main_v424 main_v429 main_v430 (addf : (⟨S2x768x1024, .f32⟩ : BufTy).Contents (Elt F) → (⟨S2x768x1024, .f32⟩ : BufTy).Contents (Elt F) → (⟨S2x768x1024, .f32⟩ : BufTy).Contents (Elt F)),
    StableHlo.unary main_v422 main_v431 ((extractStridedSlice S2x1x768x1024 ![0, 2, 0, 0] · slices_S2x4x768x1024_S2x1x768x1024_0_2_0_0) : (⟨S2x4x768x1024, .f32⟩ : BufTy).Contents (Elt F) → (⟨S2x1x768x1024, .f32⟩ : BufTy).Contents (Elt F)),
    StableHlo.unary main_v431 main_v432 (Host.reverse [3] : (⟨S2x1x768x1024, .f32⟩ : BufTy).Contents (Elt F) → (⟨S2x1x768x1024, .f32⟩ : BufTy).Contents (Elt F)),
    StableHlo.reshape main_v432 main_v433 (rfl : (.f32 : EltTy) = .f32) shapeCasts_S2x1x768x1024_S2x768x1024,
    StableHlo.binary main_v430 main_v433 main_v434 (addf : (⟨S2x768x1024, .f32⟩ : BufTy).Contents (Elt F) → (⟨S2x768x1024, .f32⟩ : BufTy).Contents (Elt F) → (⟨S2x768x1024, .f32⟩ : BufTy).Contents (Elt F)),
    StableHlo.unary main_v422 main_v435 ((extractStridedSlice S2x1x768x1024 ![0, 3, 0, 0] · slices_S2x4x768x1024_S2x1x768x1024_0_3_0_0) : (⟨S2x4x768x1024, .f32⟩ : BufTy).Contents (Elt F) → (⟨S2x1x768x1024, .f32⟩ : BufTy).Contents (Elt F)),
    StableHlo.unary main_v435 main_v436 (Host.reverse [3] : (⟨S2x1x768x1024, .f32⟩ : BufTy).Contents (Elt F) → (⟨S2x1x768x1024, .f32⟩ : BufTy).Contents (Elt F)),
    StableHlo.reshape main_v436 main_v437 (rfl : (.f32 : EltTy) = .f32) shapeCasts_S2x1x768x1024_S2x768x1024,
    StableHlo.reshape main_v437 main_v438 (rfl : (.f32 : EltTy) = .f32) shapeCasts_S2x768x1024_S2x768x32x32,
    StableHlo.unary main_v438 main_v439 ((transpose S2x768x32x32 [0, 1, 3, 2] · transposes_S2x768x32x32_S2x768x32x32_0_1_3_2) : (⟨S2x768x32x32, .f32⟩ : BufTy).Contents (Elt F) → (⟨S2x768x32x32, .f32⟩ : BufTy).Contents (Elt F)),
    StableHlo.reshape main_v439 main_v440 (rfl : (.f32 : EltTy) = .f32) shapeCasts_S2x768x32x32_S2x768x1024,
    StableHlo.binary main_v434 main_v440 main_v441 (addf : (⟨S2x768x1024, .f32⟩ : BufTy).Contents (Elt F) → (⟨S2x768x1024, .f32⟩ : BufTy).Contents (Elt F) → (⟨S2x768x1024, .f32⟩ : BufTy).Contents (Elt F)),
    StableHlo.reshape main_v441 main_v442 (rfl : (.f32 : EltTy) = .f32) shapeCasts_S2x768x1024_S2x768x32x32,
    StableHlo.unary main_v442 main_v443 ((transpose S2x32x32x768 [0, 2, 3, 1] · transposes_S2x768x32x32_S2x32x32x768_0_2_3_1) : (⟨S2x768x32x32, .f32⟩ : BufTy).Contents (Elt F) → (⟨S2x32x32x768, .f32⟩ : BufTy).Contents (Elt F)) ]

/-- Stage L1_11 touches the tensor core's references only. -/
theorem opsL1_11_sub : (opsL1_11 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.reshape_bufs_sub .., StableHlo.unary_bufs_sub .., StableHlo.reshape_bufs_sub .., StableHlo.binary_bufs_sub .., StableHlo.unary_bufs_sub .., StableHlo.unary_bufs_sub .., StableHlo.reshape_bufs_sub .., StableHlo.binary_bufs_sub .., StableHlo.unary_bufs_sub .., StableHlo.unary_bufs_sub .., StableHlo.reshape_bufs_sub .., StableHlo.reshape_bufs_sub .., StableHlo.unary_bufs_sub .., StableHlo.reshape_bufs_sub .., StableHlo.binary_bufs_sub .., StableHlo.reshape_bufs_sub .., StableHlo.unary_bufs_sub ..⟩

/-- Stage L1_12: 29 operations. -/
def opsL1_12 : List (HloOp τ sig (Elt F)) :=
  [ StableHlo.nullary main_cst_28 (constant S_ .f32 0x00000000#32),
    StableHlo.binary main_v443 main_cst_28 main_v444 ((fun x v => Host.reduceAdd x v reducesTo_S2x32x32x768_S2x32x32_d3 h_S_) : (⟨S2x32x32x768, .f32⟩ : BufTy).Contents (Elt F) → (⟨S_, .f32⟩ : BufTy).Contents (Elt F) → (⟨S2x32x32, .f32⟩ : BufTy).Contents (Elt F)),
    StableHlo.unary main_v444 main_v445 (broadcastInDim S2x32x32x1 ![0, 1, 2] bcast_S2x32x32_S2x32x32x1_0_1_2 : (⟨S2x32x32, .f32⟩ : BufTy).Contents (Elt F) → (⟨S2x32x32x1, .f32⟩ : BufTy).Contents (Elt F)),
    StableHlo.nullary main_cst_29 (constant S_ .f32 0x44400000#32),
    StableHlo.unary main_cst_29 main_v446 (broadcastInDim S2x32x32x1 ![] bcast_S_S2x32x32x1 : (⟨S_, .f32⟩ : BufTy).Contents (Elt F) → (⟨S2x32x32x1, .f32⟩ : BufTy).Contents (Elt F)),
    StableHlo.binary main_v445 main_v446 main_v447 (Host.divf : (⟨S2x32x32x1, .f32⟩ : BufTy).Contents (Elt F) → (⟨S2x32x32x1, .f32⟩ : BufTy).Contents (Elt F) → (⟨S2x32x32x1, .f32⟩ : BufTy).Contents (Elt F)),
    StableHlo.unary main_v447 main_v448 (broadcastInDim S2x32x32x768 ![0, 1, 2, 3] bcast_S2x32x32x1_S2x32x32x768_0_1_2_3 : (⟨S2x32x32x1, .f32⟩ : BufTy).Contents (Elt F) → (⟨S2x32x32x768, .f32⟩ : BufTy).Contents (Elt F)),
    StableHlo.binary main_v443 main_v448 main_v449 (subf : (⟨S2x32x32x768, .f32⟩ : BufTy).Contents (Elt F) → (⟨S2x32x32x768, .f32⟩ : BufTy).Contents (Elt F) → (⟨S2x32x32x768, .f32⟩ : BufTy).Contents (Elt F)),
    StableHlo.binary main_v449 main_v449 main_v450 (mulf : (⟨S2x32x32x768, .f32⟩ : BufTy).Contents (Elt F) → (⟨S2x32x32x768, .f32⟩ : BufTy).Contents (Elt F) → (⟨S2x32x32x768, .f32⟩ : BufTy).Contents (Elt F)),
    StableHlo.nullary main_cst_30 (constant S_ .f32 0x00000000#32),
    StableHlo.binary main_v450 main_cst_30 main_v451 ((fun x v => Host.reduceAdd x v reducesTo_S2x32x32x768_S2x32x32_d3 h_S_) : (⟨S2x32x32x768, .f32⟩ : BufTy).Contents (Elt F) → (⟨S_, .f32⟩ : BufTy).Contents (Elt F) → (⟨S2x32x32, .f32⟩ : BufTy).Contents (Elt F)),
    StableHlo.unary main_v451 main_v452 (broadcastInDim S2x32x32x1 ![0, 1, 2] bcast_S2x32x32_S2x32x32x1_0_1_2 : (⟨S2x32x32, .f32⟩ : BufTy).Contents (Elt F) → (⟨S2x32x32x1, .f32⟩ : BufTy).Contents (Elt F)),
    StableHlo.nullary main_cst_31 (constant S_ .f32 0x44400000#32),
    StableHlo.unary main_cst_31 main_v453 (broadcastInDim S2x32x32x1 ![] bcast_S_S2x32x32x1 : (⟨S_, .f32⟩ : BufTy).Contents (Elt F) → (⟨S2x32x32x1, .f32⟩ : BufTy).Contents (Elt F)),
    StableHlo.binary main_v452 main_v453 main_v454 (Host.divf : (⟨S2x32x32x1, .f32⟩ : BufTy).Contents (Elt F) → (⟨S2x32x32x1, .f32⟩ : BufTy).Contents (Elt F) → (⟨S2x32x32x1, .f32⟩ : BufTy).Contents (Elt F)),
    StableHlo.unary main_v447 main_v455 (broadcastInDim S2x32x32x768 ![0, 1, 2, 3] bcast_S2x32x32x1_S2x32x32x768_0_1_2_3 : (⟨S2x32x32x1, .f32⟩ : BufTy).Contents (Elt F) → (⟨S2x32x32x768, .f32⟩ : BufTy).Contents (Elt F)),
    StableHlo.binary main_v443 main_v455 main_v456 (subf : (⟨S2x32x32x768, .f32⟩ : BufTy).Contents (Elt F) → (⟨S2x32x32x768, .f32⟩ : BufTy).Contents (Elt F) → (⟨S2x32x32x768, .f32⟩ : BufTy).Contents (Elt F)),
    StableHlo.nullary main_cst_32 (constant S_ .f32 0x3727C5AC#32),
    StableHlo.unary main_cst_32 main_v457 (broadcastInDim S2x32x32x1 ![] bcast_S_S2x32x32x1 : (⟨S_, .f32⟩ : BufTy).Contents (Elt F) → (⟨S2x32x32x1, .f32⟩ : BufTy).Contents (Elt F)),
    StableHlo.binary main_v454 main_v457 main_v458 (addf : (⟨S2x32x32x1, .f32⟩ : BufTy).Contents (Elt F) → (⟨S2x32x32x1, .f32⟩ : BufTy).Contents (Elt F) → (⟨S2x32x32x1, .f32⟩ : BufTy).Contents (Elt F)),
    StableHlo.unary main_v458 main_v459 (Host.rsqrt : (⟨S2x32x32x1, .f32⟩ : BufTy).Contents (Elt F) → (⟨S2x32x32x1, .f32⟩ : BufTy).Contents (Elt F)),
    StableHlo.unary main_v459 main_v460 (broadcastInDim S2x32x32x768 ![0, 1, 2, 3] bcast_S2x32x32x1_S2x32x32x768_0_1_2_3 : (⟨S2x32x32x1, .f32⟩ : BufTy).Contents (Elt F) → (⟨S2x32x32x768, .f32⟩ : BufTy).Contents (Elt F)),
    StableHlo.binary main_v456 main_v460 main_v461 (mulf : (⟨S2x32x32x768, .f32⟩ : BufTy).Contents (Elt F) → (⟨S2x32x32x768, .f32⟩ : BufTy).Contents (Elt F) → (⟨S2x32x32x768, .f32⟩ : BufTy).Contents (Elt F)),
    StableHlo.unary main_v276 main_v462 (broadcastInDim S1x1x1x768 ![3] bcast_S768_S1x1x1x768_3 : (⟨S768, .f32⟩ : BufTy).Contents (Elt F) → (⟨S1x1x1x768, .f32⟩ : BufTy).Contents (Elt F)),
    StableHlo.unary main_v462 main_v463 (broadcastInDim S2x32x32x768 ![0, 1, 2, 3] bcast_S1x1x1x768_S2x32x32x768_0_1_2_3 : (⟨S1x1x1x768, .f32⟩ : BufTy).Contents (Elt F) → (⟨S2x32x32x768, .f32⟩ : BufTy).Contents (Elt F)),
    StableHlo.binary main_v461 main_v463 main_v464 (mulf : (⟨S2x32x32x768, .f32⟩ : BufTy).Contents (Elt F) → (⟨S2x32x32x768, .f32⟩ : BufTy).Contents (Elt F) → (⟨S2x32x32x768, .f32⟩ : BufTy).Contents (Elt F)),
    StableHlo.unary main_v278 main_v465 (broadcastInDim S1x1x1x768 ![3] bcast_S768_S1x1x1x768_3 : (⟨S768, .f32⟩ : BufTy).Contents (Elt F) → (⟨S1x1x1x768, .f32⟩ : BufTy).Contents (Elt F)),
    StableHlo.unary main_v465 main_v466 (broadcastInDim S2x32x32x768 ![0, 1, 2, 3] bcast_S1x1x1x768_S2x32x32x768_0_1_2_3 : (⟨S1x1x1x768, .f32⟩ : BufTy).Contents (Elt F) → (⟨S2x32x32x768, .f32⟩ : BufTy).Contents (Elt F)),
    StableHlo.binary main_v464 main_v466 main_v467 (addf : (⟨S2x32x32x768, .f32⟩ : BufTy).Contents (Elt F) → (⟨S2x32x32x768, .f32⟩ : BufTy).Contents (Elt F) → (⟨S2x32x32x768, .f32⟩ : BufTy).Contents (Elt F)) ]

/-- Stage L1_12 touches the tensor core's references only. -/
theorem opsL1_12_sub : (opsL1_12 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

/-- Stage L1_13: 13 operations. -/
def opsL1_13 : List (HloOp τ sig (Elt F)) :=
  [ StableHlo.unary main_v308 main_call17_v0 (Host.negf : (⟨S2x32x32x768, .f32⟩ : BufTy).Contents (Elt F) → (⟨S2x32x32x768, .f32⟩ : BufTy).Contents (Elt F)),
    StableHlo.unary main_call17_v0 main_call17_v1 (Host.exp : (⟨S2x32x32x768, .f32⟩ : BufTy).Contents (Elt F) → (⟨S2x32x32x768, .f32⟩ : BufTy).Contents (Elt F)),
    StableHlo.nullary main_call17_cst (constant S_ .f32 0x3F800000#32),
    StableHlo.unary main_call17_cst main_call17_v2 ((broadcastInDim S2x32x32x768 ![] bcast_S_S2x32x32x768) : (⟨S_, .f32⟩ : BufTy).Contents (Elt F) → (⟨S2x32x32x768, .f32⟩ : BufTy).Contents (Elt F)),
    StableHlo.binary main_call17_v2 main_call17_v1 main_call17_v3 (addf : (⟨S2x32x32x768, .f32⟩ : BufTy).Contents (Elt F) → (⟨S2x32x32x768, .f32⟩ : BufTy).Contents (Elt F) → (⟨S2x32x32x768, .f32⟩ : BufTy).Contents (Elt F)),
    StableHlo.nullary main_call17_cst_0 (constant S_ .f32 0x3F800000#32),
    StableHlo.unary main_call17_cst_0 main_call17_v4 ((broadcastInDim S2x32x32x768 ![] bcast_S_S2x32x32x768) : (⟨S_, .f32⟩ : BufTy).Contents (Elt F) → (⟨S2x32x32x768, .f32⟩ : BufTy).Contents (Elt F)),
    StableHlo.binary main_call17_v4 main_call17_v3 main_call17_v5 (Host.divf : (⟨S2x32x32x768, .f32⟩ : BufTy).Contents (Elt F) → (⟨S2x32x32x768, .f32⟩ : BufTy).Contents (Elt F) → (⟨S2x32x32x768, .f32⟩ : BufTy).Contents (Elt F)),
    StableHlo.binary main_v308 main_call17_v5 main_v468 (mulf : (⟨S2x32x32x768, .f32⟩ : BufTy).Contents (Elt F) → (⟨S2x32x32x768, .f32⟩ : BufTy).Contents (Elt F) → (⟨S2x32x32x768, .f32⟩ : BufTy).Contents (Elt F)),
    StableHlo.binary main_v467 main_v468 main_v469 (mulf : (⟨S2x32x32x768, .f32⟩ : BufTy).Contents (Elt F) → (⟨S2x32x32x768, .f32⟩ : BufTy).Contents (Elt F) → (⟨S2x32x32x768, .f32⟩ : BufTy).Contents (Elt F)),
    StableHlo.unary main_v280 main_v470 ((transpose S768x384 [1, 0] · transposes_S384x768_S768x384_1_0) : (⟨S384x768, .f32⟩ : BufTy).Contents (Elt F) → (⟨S768x384, .f32⟩ : BufTy).Contents (Elt F)),
    StableHlo.binary main_v469 main_v470 main_v471 ((fun l r => Host.dotGeneral dot_S2x32x32x768_S768x384_S2x32x32x384_3_0_012_1_n_n none l r) : (⟨S2x32x32x768, .f32⟩ : BufTy).Contents (Elt F) → (⟨S768x384, .f32⟩ : BufTy).Contents (Elt F) → (⟨S2x32x32x384, .f32⟩ : BufTy).Contents (Elt F)),
    StableHlo.binary main_v254 main_v471 main_v472 (addf : (⟨S2x32x32x384, .f32⟩ : BufTy).Contents (Elt F) → (⟨S2x32x32x384, .f32⟩ : BufTy).Contents (Elt F) → (⟨S2x32x32x384, .f32⟩ : BufTy).Contents (Elt F)) ]

/-- Stage L1_13 touches the tensor core's references only. -/
theorem opsL1_13_sub : (opsL1_13 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.binary_bufs_sub ..⟩

/-- Stage W1_cond: 2 operations. -/
def opsW1_cond : List (HloOp τ sig (Elt F)) :=
  [ StableHlo.nullary main_while1c_c_40 (constantI S_ 32 1024#32),
    StableHlo.binary main_v416_5 main_while1c_c_40 main_while1c_v474 (cmpi .slt : (⟨S_, .i32⟩ : BufTy).Contents (Elt F) → (⟨S_, .i32⟩ : BufTy).Contents (Elt F) → (⟨S_, .i1⟩ : BufTy).Contents (Elt F)) ]

/-- Stage W1_cond touches the tensor core's references only. -/
theorem opsW1_cond_sub : (opsW1_cond : List (HloOp τ sig (Elt F))).Forall fun op => op.bufs ⊆ StableHlo.tcRefs τ sig :=
  ⟨StableHlo.nullary_bufs_sub .., StableHlo.binary_bufs_sub ..⟩

/-- Stage W1_body: 38 operations. -/
def opsW1_body : List (HloOp τ sig (Elt F)) :=
  [ StableHlo.nullary main_while1b_call12_c (constantI S_ 32 0#32),
    StableHlo.nullary main_while1b_call12_c_0 (constantI S_ 32 0#32),
    StableHlo.TRef.unaryIndexed (.of main_v416_0 : StableHlo.TRef sig ⟨S1024x8x768, .f32⟩) ![(.of main_v416_5 : StableHlo.TRef sig ⟨S_, .i32⟩), (.of main_while1b_call12_c : StableHlo.TRef sig ⟨S_, .i32⟩), (.of main_while1b_call12_c_0 : StableHlo.TRef sig ⟨S_, .i32⟩)] (.of main_while1b_call12_v0 : StableHlo.TRef sig ⟨S1x8x768, .f32⟩) (fun x i => Host.dynamicSlice S1x8x768 x (fun k => (i k (Shape.Idx.first h_S_)).toInt) sliceFits_S1024x8x768_S1x8x768),
    StableHlo.reshape main_while1b_call12_v0 main_while1b_v474 (rfl : (.f32 : EltTy) = .f32) shapeCasts_S1x8x768_S8x768,
    StableHlo.nullary main_while1b_call13_c (constantI S_ 32 0#32),
    StableHlo.nullary main_while1b_call13_c_0 (constantI S_ 32 0#32),
    StableHlo.TRef.unaryIndexed (.of main_v416_1 : StableHlo.TRef sig ⟨S1024x8x768, .f32⟩) ![(.of main_v416_5 : StableHlo.TRef sig ⟨S_, .i32⟩), (.of main_while1b_call13_c : StableHlo.TRef sig ⟨S_, .i32⟩), (.of main_while1b_call13_c_0 : StableHlo.TRef sig ⟨S_, .i32⟩)] (.of main_while1b_call13_v0 : StableHlo.TRef sig ⟨S1x8x768, .f32⟩) (fun x i => Host.dynamicSlice S1x8x768 x (fun k => (i k (Shape.Idx.first h_S_)).toInt) sliceFits_S1024x8x768_S1x8x768),
    StableHlo.reshape main_while1b_call13_v0 main_while1b_v475 (rfl : (.f32 : EltTy) = .f32) shapeCasts_S1x8x768_S8x768,
    StableHlo.nullary main_while1b_call14_c (constantI S_ 32 0#32),
    StableHlo.nullary main_while1b_call14_c_0 (constantI S_ 32 0#32),
    StableHlo.TRef.unaryIndexed (.of main_v416_2 : StableHlo.TRef sig ⟨S1024x8x16, .f32⟩) ![(.of main_v416_5 : StableHlo.TRef sig ⟨S_, .i32⟩), (.of main_while1b_call14_c : StableHlo.TRef sig ⟨S_, .i32⟩), (.of main_while1b_call14_c_0 : StableHlo.TRef sig ⟨S_, .i32⟩)] (.of main_while1b_call14_v0 : StableHlo.TRef sig ⟨S1x8x16, .f32⟩) (fun x i => Host.dynamicSlice S1x8x16 x (fun k => (i k (Shape.Idx.first h_S_)).toInt) sliceFits_S1024x8x16_S1x8x16),
    StableHlo.reshape main_while1b_call14_v0 main_while1b_v476 (rfl : (.f32 : EltTy) = .f32) shapeCasts_S1x8x16_S8x16,
    StableHlo.nullary main_while1b_call15_c (constantI S_ 32 0#32),
    StableHlo.nullary main_while1b_call15_c_0 (constantI S_ 32 0#32),
    StableHlo.TRef.unaryIndexed (.of main_v416_3 : StableHlo.TRef sig ⟨S1024x8x16, .f32⟩) ![(.of main_v416_5 : StableHlo.TRef sig ⟨S_, .i32⟩), (.of main_while1b_call15_c : StableHlo.TRef sig ⟨S_, .i32⟩), (.of main_while1b_call15_c_0 : StableHlo.TRef sig ⟨S_, .i32⟩)] (.of main_while1b_call15_v0 : StableHlo.TRef sig ⟨S1x8x16, .f32⟩) (fun x i => Host.dynamicSlice S1x8x16 x (fun k => (i k (Shape.Idx.first h_S_)).toInt) sliceFits_S1024x8x16_S1x8x16),
    StableHlo.reshape main_while1b_call15_v0 main_while1b_v477 (rfl : (.f32 : EltTy) = .f32) shapeCasts_S1x8x16_S8x16,
    StableHlo.unary main_while1b_v474 main_while1b_v478 (broadcastInDim S8x768x1 ![0, 1] bcast_S8x768_S8x768x1_0_1 : (⟨S8x768, .f32⟩ : BufTy).Contents (Elt F) → (⟨S8x768x1, .f32⟩ : BufTy).Contents (Elt F)),
    StableHlo.unary main_while1b_v478 main_while1b_v479 (broadcastInDim S8x768x16 ![0, 1, 2] bcast_S8x768x1_S8x768x16_0_1_2 : (⟨S8x768x1, .f32⟩ : BufTy).Contents (Elt F) → (⟨S8x768x16, .f32⟩ : BufTy).Contents (Elt F)),
    StableHlo.binary main_while1b_v479 main_v416_4 main_while1b_v480 (mulf : (⟨S8x768x16, .f32⟩ : BufTy).Contents (Elt F) → (⟨S8x768x16, .f32⟩ : BufTy).Contents (Elt F) → (⟨S8x768x16, .f32⟩ : BufTy).Contents (Elt F)),
    StableHlo.unary main_while1b_v480 main_while1b_v481 (Host.exp : (⟨S8x768x16, .f32⟩ : BufTy).Contents (Elt F) → (⟨S8x768x16, .f32⟩ : BufTy).Contents (Elt F)),
    StableHlo.binary main_while1b_v481 main_v416_6 main_while1b_v482 (mulf : (⟨S8x768x16, .f32⟩ : BufTy).Contents (Elt F) → (⟨S8x768x16, .f32⟩ : BufTy).Contents (Elt F) → (⟨S8x768x16, .f32⟩ : BufTy).Contents (Elt F)),
    StableHlo.binary main_while1b_v474 main_while1b_v475 main_while1b_v483 (mulf : (⟨S8x768, .f32⟩ : BufTy).Contents (Elt F) → (⟨S8x768, .f32⟩ : BufTy).Contents (Elt F) → (⟨S8x768, .f32⟩ : BufTy).Contents (Elt F)),
    StableHlo.unary main_while1b_v483 main_while1b_v484 (broadcastInDim S8x768x1 ![0, 1] bcast_S8x768_S8x768x1_0_1 : (⟨S8x768, .f32⟩ : BufTy).Contents (Elt F) → (⟨S8x768x1, .f32⟩ : BufTy).Contents (Elt F)),
    StableHlo.unary main_while1b_v476 main_while1b_v485 (broadcastInDim S8x1x16 ![0, 2] bcast_S8x16_S8x1x16_0_2 : (⟨S8x16, .f32⟩ : BufTy).Contents (Elt F) → (⟨S8x1x16, .f32⟩ : BufTy).Contents (Elt F)),
    StableHlo.unary main_while1b_v484 main_while1b_v486 (broadcastInDim S8x768x16 ![0, 1, 2] bcast_S8x768x1_S8x768x16_0_1_2 : (⟨S8x768x1, .f32⟩ : BufTy).Contents (Elt F) → (⟨S8x768x16, .f32⟩ : BufTy).Contents (Elt F)),
    StableHlo.unary main_while1b_v485 main_while1b_v487 (broadcastInDim S8x768x16 ![0, 1, 2] bcast_S8x1x16_S8x768x16_0_1_2 : (⟨S8x1x16, .f32⟩ : BufTy).Contents (Elt F) → (⟨S8x768x16, .f32⟩ : BufTy).Contents (Elt F)),
    StableHlo.binary main_while1b_v486 main_while1b_v487 main_while1b_v488 (mulf : (⟨S8x768x16, .f32⟩ : BufTy).Contents (Elt F) → (⟨S8x768x16, .f32⟩ : BufTy).Contents (Elt F) → (⟨S8x768x16, .f32⟩ : BufTy).Contents (Elt F)),
    StableHlo.binary main_while1b_v482 main_while1b_v488 main_while1b_v489 (addf : (⟨S8x768x16, .f32⟩ : BufTy).Contents (Elt F) → (⟨S8x768x16, .f32⟩ : BufTy).Contents (Elt F) → (⟨S8x768x16, .f32⟩ : BufTy).Contents (Elt F)),
    StableHlo.binary main_while1b_v489 main_while1b_v477 main_while1b_v490 ((fun l r => Host.dotGeneral dot_S8x768x16_S8x16_S8x768_2_1_1_n_0_0 none l r) : (⟨S8x768x16, .f32⟩ : BufTy).Contents (Elt F) → (⟨S8x16, .f32⟩ : BufTy).Contents (Elt F) → (⟨S8x768, .f32⟩ : BufTy).Contents (Elt F)),
    StableHlo.unary main_while1b_v490 main_while1b_call16_v0 ((broadcastInDim S1x8x768 ![1, 2] bcast_S8x768_S1x8x768_1_2) : (⟨S8x768, .f32⟩ : BufTy).Contents (Elt F) → (⟨S1x8x768, .f32⟩ : BufTy).Contents (Elt F)),
    StableHlo.nullary main_while1b_call16_c (constantI S_ 32 0#32),
    StableHlo.nullary main_while1b_call16_c_0 (constantI S_ 32 0#32),
    StableHlo.TRef.binaryIndexed (.of main_v416_7 : StableHlo.TRef sig ⟨S1024x8x768, .f32⟩) (.of main_while1b_call16_v0 : StableHlo.TRef sig ⟨S1x8x768, .f32⟩) ![(.of main_v416_5 : StableHlo.TRef sig ⟨S_, .i32⟩), (.of main_while1b_call16_c : StableHlo.TRef sig ⟨S_, .i32⟩), (.of main_while1b_call16_c_0 : StableHlo.TRef sig ⟨S_, .i32⟩)] (.of main_while1b_v491 : StableHlo.TRef sig ⟨S1024x8x768, .f32⟩) (fun x u i => Host.dynamicUpdateSlice x u (fun k => (i k (Shape.Idx.first h_S_)).toInt) updateFits_S1024x8x768_S1x8x768),
    StableHlo.nullary main_while1b_c_40 (constantI S_ 32 1#32),
    StableHlo.binary main_v416_5 main_while1b_c_40 main_while1b_v492 (addi : (⟨S_, .i32⟩ : BufTy).Contents (Elt F) → (⟨S_, .i32⟩ : BufTy).Contents (Elt F) → (⟨S_, .i32⟩ : BufTy).Contents (Elt F)),
    StableHlo.unary main_while1b_v492 main_v416_5 id,
    StableHlo.unary main_while1b_v489 main_v416_6 id,
    StableHlo.unary main_while1b_v491 main_v416_7 id ]

/-- Stage W1_body touches the tensor core's references only. -/
theorem opsW1_body_sub : (opsW1_body : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.unaryIndexed_bufs_sub .., StableHlo.reshape_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.binary_bufs_sub .., StableHlo.unary_bufs_sub .., StableHlo.nullary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub ..⟩

end Cert.Proof.Ref
-- ==== Proof.RefRun.lean ====
/-
  The run of the reference: @main is stretches of host operations, the time scan of layer 0, more stretches, the time
  scan of layer 1, and the last stretches. The two scans are counted host loops of 1024 trips; each becomes one segment
  of the launch (`StableHlo.loopSeg`), the stretches around them the segments of `StableHlo.segsOf`.
-/
module

public import proofs.«01_k».proof.Proof.RefOps
public import proofs.«01_k».proof.Proof.RefOps1
public import Idealize.ShloMosaic.Lib.Pipeline.RegionsLoop
public import Idealize.ShloMosaic.Lib.Scf.ExitTest

@[expose] public section

set_option maxRecDepth 100000

noncomputable section

namespace Cert.Proof.Ref

open Cert.ReferenceIdeal Cert.ReferenceIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held afterL atTrip Plain LoopCond segsOf segsOf_prog segsOf_chains segsOf_M_T loopSeg loopSeg_T launchContents
  wp_hlo_within nullary_bufs_sub binary_bufs_sub)
open Idealize.ShloMosaic.Pipeline (CSeg Ticket PCfg ucRefs sub_ucRefs)

variable {F : FTy → Type} [FloatOps F]

local notation "𝕄" => MT nD τ sig Unit (Elt F) ℕ (Option PUnit) ℕ

/-! ## The stretches -/

/-- The stretches before the first scan. -/
abbrev pre0 : List (List (HloOp τ sig (Elt F))) :=
  [opsA1, opsA2, opsA3, opsL0_1, opsL0_2, opsL0_3, opsL0_4, opsL0_5, opsL0_6, opsL0_7, opsL0_8, opsL0_9]
/-- The stretches between the two scans. -/
abbrev mid0 : List (List (HloOp τ sig (Elt F))) :=
  [opsL0_10, opsL0_11, opsL0_12, opsL0_13, opsL1_1, opsL1_2, opsL1_3, opsL1_4, opsL1_5, opsL1_6, opsL1_7, opsL1_8, opsL1_9]
/-- The stretches after the second scan. -/
abbrev post0 : List (List (HloOp τ sig (Elt F))) := [opsL1_10, opsL1_11, opsL1_12, opsL1_13, opsZ]

/-- No stretch before the first scan allocates, and each touches the tensor core's references only. -/
theorem pre0_plain : Plain (pre0 (F := F)) :=
  .cons opsA1_sub <| .cons opsA2_sub <| .cons opsA3_sub <| .cons opsL0_1_sub <| .cons opsL0_2_sub <| .cons opsL0_3_sub <|
  .cons opsL0_4_sub <| .cons opsL0_5_sub <| .cons opsL0_6_sub <| .cons opsL0_7_sub <| .cons opsL0_8_sub <| .cons opsL0_9_sub .nil
/-- The same between the scans. -/
theorem mid0_plain : Plain (mid0 (F := F)) :=
  .cons opsL0_10_sub <| .cons opsL0_11_sub <| .cons opsL0_12_sub <| .cons opsL0_13_sub <|
  .cons opsL1_1_sub <| .cons opsL1_2_sub <| .cons opsL1_3_sub <| .cons opsL1_4_sub <| .cons opsL1_5_sub <|
  .cons opsL1_6_sub <| .cons opsL1_7_sub <| .cons opsL1_8_sub <| .cons opsL1_9_sub .nil
/-- The same after the second scan. -/
theorem post0_plain : Plain (post0 (F := F)) :=
  .cons opsL1_10_sub <| .cons opsL1_11_sub <| .cons opsL1_12_sub <| .cons opsL1_13_sub <| .cons opsZ_sub .nil
/-- The same of the two scans' bodies. -/
theorem W0_plain : Plain [opsW0_body (F := F)] := .cons opsW0_body_sub .nil
/-- The second scan's body touches memory only through its operations. -/
theorem W1_plain : Plain [opsW1_body (F := F)] := .cons opsW1_body_sub .nil

/-- @main is its stretches and the two loops' entries, in order. -/
theorem main_items (c : Dev nD) : main (F := F) c = Pipeline.chain
    ((pre0.map fun ops => (StableHlo.seq ops : Prog _ PUnit)) ++ HostLoop.enter 0 :: ((mid0.map fun ops => (StableHlo.seq ops : Prog _ PUnit))
      ++ HostLoop.enter 1 :: (post0.map fun ops => (StableHlo.seq ops : Prog _ PUnit)))) := by
  chain_rfl

/-- The first scan's body is its one stretch. -/
theorem body0_items : main_while0_body (F := F) = Pipeline.chain ([opsW0_body].map fun ops => (StableHlo.seq ops : Prog _ PUnit)) := by
  chain_rfl
/-- The second scan's body is its one stretch. -/
theorem body1_items : main_while1_body (F := F) = Pipeline.chain ([opsW1_body].map fun ops => (StableHlo.seq ops : Prog _ PUnit)) := by
  chain_rfl

/-! ## The contents at each point -/

variable (m : (ℓ : Loc nD τ sig) → Buf (Elt F) ℓ)

/-- Every buffer at the first scan's entry, -/
def E0 (c : Dev nD) : Valuation τ sig (Elt F) := afterL pre0 (launchContents m c)
/-- before the `k`-th run of the first scan's condition, -/
def K0 : ℕ → Dev nD → Valuation τ sig (Elt F) := atTrip opsW0_cond [opsW0_body] (E0 m)
/-- at the second scan's entry, -/
def E1 (c : Dev nD) : Valuation τ sig (Elt F) := afterL mid0 (after opsW0_cond (K0 m 1024 c))
/-- before the `k`-th run of the second scan's condition, -/
def K1 : ℕ → Dev nD → Valuation τ sig (Elt F) := atTrip opsW1_cond [opsW1_body] (E1 m)
/-- and at the end. -/
def E2 (c : Dev nD) : Valuation τ sig (Elt F) := afterL post0 (after opsW1_cond (K1 m 1024 c))

/-- The first scan's counter before its `k`-th condition is `k`. -/
theorem K0_ctr (c : Dev nD) : ∀ k, K0 m k c main_v198_5 = fun _ => (BitVec.ofNat 32 k : BitVec 32)
  | 0 => by
    show after (opsL0_9 (F := F)) _ (Proc.devRef .tc main_v198_5) = _
    after_reads_simp
    rfl
  | k + 1 => by
    show after opsW0_body (after opsW0_cond (K0 m k c)) (Proc.devRef .tc main_v198_5) = _
    after_reads_simp
    rw [K0_ctr c k]
    funext i
    show BitVec.ofNat 32 k + 1#32 = BitVec.ofNat 32 (k + 1)
    rw [BitVec.ofNat_add]

/-- The second scan's counter before its `k`-th condition is `k`. -/
theorem K1_ctr (c : Dev nD) : ∀ k, K1 m k c main_v416_5 = fun _ => (BitVec.ofNat 32 k : BitVec 32)
  | 0 => by
    show after (opsL1_9 (F := F)) _ (Proc.devRef .tc main_v416_5) = _
    after_reads_simp
    rfl
  | k + 1 => by
    show after opsW1_body (after opsW1_cond (K1 m k c)) (Proc.devRef .tc main_v416_5) = _
    after_reads_simp
    rw [K1_ctr c k]
    funext i
    show BitVec.ofNat 32 k + 1#32 = BitVec.ofNat 32 (k + 1)
    rw [BitVec.ofNat_add]

/-! ## The launch -/

/-- Nothing is admitted, there is no ticket and no level: the program has no kernel region. -/
abbrev adm : (p : Fin 0) → (pcfgs (F := F) p).Adm := fun p => p.elim0
/-- No region is entered, so no ticket is needed, -/
abbrev tk : Fin 0 → Ticket (Ix := Unit) (Name := ℕ) (U := Option PUnit) (Lvl := ℕ) (nD := nD) (τ := τ) (pcfgs (F := F)) adm := fun j => j.elim0
/-- no semaphore carries a name, -/
abbrev L : GSem nD τ sig → Finset Unit := fun _ => ∅
/-- and every level is zero. -/
abbrev lv : GSem nD τ sig → Unit → ℕ := fun _ _ => 0
/-- No staging cell: the map of cells is injective vacuously. -/
theorem cellInj : Function.Injective (Pipeline.cellOf (nD := nD) (τ := τ) (Pipeline.pin (pcfgs (F := F)) adm)) :=
  fun k => k.1.elim0
/-- What rides along beside the buffers. -/
abbrev Rw (c : Dev nD) : sProp 𝕄 := iprop(∃ W, owes (c : Thread nD τ) (0 : CellTallies nD τ sig Unit) W)

set_option backward.isDefEq.respectTransparency false in
/-- The first scan's condition reads `1` exactly while the counter is below 1024. -/
theorem cond0 : LoopCond (pcfgs (F := F)) defs₀ Variants.none loops Rw main_while0_cond opsW0_cond [opsW0_body] (E0 m) 1024 := fun k hk c bd => by
  have hctr := K0_ctr m c k
  unfold K0 at hctr
  simp only [main_while0_cond, bind_pure]
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip opsW0_cond [opsW0_body] (E0 m) k c) main_v198_5 HostLoop.idx0)
        (HloOp.result _ (atTrip opsW0_cond [opsW0_body] (E0 m) k c) main_while0c_c_40 HostLoop.idx0) = 1#1) (k < 1024)
    rw [StableHlo.nullary_result_ne _ _ _ _ (by decide), StableHlo.nullary_result, hctr]
    have h := Scf.cmpi_slt_iv_ub_iff (lb := 0#32) (ub := 1024#32) (st := 1#32) (k := k) (by decide) (show k ≤ Scf.trips 0#32 1024#32 1#32 from hk)
    have h2 : Scf.iv 0#32 1#32 k = BitVec.ofNat 32 k := by simp [Scf.iv]
    rw [h2] at h
    exact h
  isplitl [Hb]; · iexact Hb
  isplitl [Hh]; · unfold opsW0_cond; rw [StableHlo.after_cons, StableHlo.after_cons, StableHlo.after_nil]; iexact Hh
  iexact HR

set_option backward.isDefEq.respectTransparency false in
/-- The second scan's condition reads `1` exactly while the counter is below 1024. -/
theorem cond1 : LoopCond (pcfgs (F := F)) defs₀ Variants.none loops Rw main_while1_cond opsW1_cond [opsW1_body] (E1 m) 1024 := fun k hk c bd => by
  have hctr := K1_ctr m c k
  unfold K1 at hctr
  simp only [main_while1_cond, bind_pure]
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip opsW1_cond [opsW1_body] (E1 m) k c) main_v416_5 HostLoop.idx0)
        (HloOp.result _ (atTrip opsW1_cond [opsW1_body] (E1 m) k c) main_while1c_c_40 HostLoop.idx0) = 1#1) (k < 1024)
    rw [StableHlo.nullary_result_ne _ _ _ _ (by decide), StableHlo.nullary_result, hctr]
    have h := Scf.cmpi_slt_iv_ub_iff (lb := 0#32) (ub := 1024#32) (st := 1#32) (k := k) (by decide) (show k ≤ Scf.trips 0#32 1024#32 1#32 from hk)
    have h2 : Scf.iv 0#32 1#32 k = BitVec.ofNat 32 k := by simp [Scf.iv]
    rw [h2] at h
    exact h
  isplitl [Hb]; · iexact Hb
  isplitl [Hh]; · unfold opsW1_cond; rw [StableHlo.after_cons, StableHlo.after_cons, StableHlo.after_nil]; iexact Hh
  iexact HR

/-- @main's segments. -/
def segs : List (CSeg (pcfgs (F := F)) adm defs₀ Variants.none L lv loops tk) :=
  segsOf _ _ _ _ _ _ _ _ Rw pre0 pre0_plain (launchContents m)
    ++ loopSeg _ _ _ _ _ _ _ _ 0 main_while0_cond main_while0_body rfl opsW0_cond [opsW0_body] W0_plain body0_items 1024 (E0 m) Rw (cond0 m)
      :: (segsOf _ _ _ _ _ _ _ _ Rw mid0 mid0_plain (fun c => after opsW0_cond (K0 m 1024 c))
        ++ loopSeg _ _ _ _ _ _ _ _ 1 main_while1_cond main_while1_body rfl opsW1_cond [opsW1_body] W1_plain body1_items 1024 (E1 m) Rw (cond1 m)
          :: segsOf _ _ _ _ _ _ _ _ Rw post0 post0_plain (fun c => after opsW1_cond (K1 m 1024 c)))

/-- The segments' fragments are @main's items. -/
theorem segs_prog : (segs m).map CSeg.prog
    = (pre0.map fun ops => (StableHlo.seq ops : Prog _ PUnit)) ++ HostLoop.enter 0 :: ((mid0.map fun ops => (StableHlo.seq ops : Prog _ PUnit))
      ++ HostLoop.enter 1 :: (post0.map fun ops => (StableHlo.seq ops : Prog _ PUnit))) := by
  unfold segs
  rw [List.map_append, List.map_cons, List.map_append, List.map_cons, segsOf_prog, segsOf_prog, segsOf_prog]
  rfl

/-- The segments chain from the launch contents to the final ones. -/
theorem segs_chains : CSeg.Chains (fun c => iprop(held (c : Thread nD τ) (ucRefs τ sig) (launchContents m c) ∗ Rw c)) (segs m)
    (fun c => iprop(iprop(held (c : Thread nD τ) (ucRefs τ sig) (E2 m c)) ∗ ∃ W, owes (c : Thread nD τ) (0 : CellTallies nD τ sig Unit) W)) := by
  unfold segs
  exact CSeg.Chains.append (segsOf_chains _ _ _ _ _ _ _ _ Rw pre0 pre0_plain _)
    ⟨fun _ => .rfl, CSeg.Chains.append (segsOf_chains _ _ _ _ _ _ _ _ Rw mid0 mid0_plain _)
      ⟨fun _ => .rfl, segsOf_chains _ _ _ _ _ _ _ _ Rw post0 post0_plain _⟩⟩

/-- Every semaphore of the tensor core is scoped. -/
theorem no_unscoped : ∀ sm : SemLoc sig, sm.isScoped .tc = true := by decide

set_option backward.isDefEq.respectTransparency.types false in
/-- THE RUN of the reference: it terminates from any memory, every buffer ends at `E2`, every counter at zero. -/
theorem run_main (ρ : Dev nD → PrngReg) : θ_run defs (onTc (τ := τ) (main (F := F))) ⟨m, fun _ => 0, ρ⟩
    (fun r => (∀ (c : Dev nD), ∀ b ∈ ucRefs τ sig, r.2.mem ((c : Dev nD), b) = E2 m c b) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm cellInj defs₀ Variants.none L lv loops tk m ρ main (segs m)
    (fun c Q => by
      rw [main_items c]
      show wp _ _ _ (Pipeline.chain ((segs m).map CSeg.prog)) Q ⊢ _
      rw [segs_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (E2 m c)))
    (hch := segs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = E2 m c b)
    (hfin := fun c s' => by
      unfold held
      iintro ⟨Hh, HSI⟩
      ihave Hr := (pointsTo_read_all (ucRefs τ sig) (fun b => ((c : Dev nD), b)) (fun b => E2 m c b) s') $$ [Hh HSI]
      · isplitl [Hh] <;> iassumption
      icases Hr with ⟨%h, HSI⟩
      imodintro
      isplitr; · ipureintro; exact h
      iexact HSI)
    (hQ := fun s h hs => ⟨h, by
      funext g
      refine hs g ?_
      by_cases hg : g.1.2 = .tc
      · exact .inr (no_unscoped g.2)
      · exact .inl hg⟩)

end Cert.Proof.Ref
-- ==== Proof.RefKeep.lean ====
/-
  Which references the reference's operation lists write. Every list writes tensor values in one interval of positions
  in the program's order, so a buffer outside the interval is kept. The frame of the reference follows: the arguments
  stand before every interval.
-/
module

public import proofs.«01_k».proof.Proof.RefRun

@[expose] public section

set_option maxRecDepth 16384

noncomputable section

namespace Cert.Proof.Ref

open Cert.ReferenceIdeal Cert.ReferenceIdeal.Gen
open Idealize.ShloMosaic
open Idealize.ShloMosaic.TcCoe
open Idealize.SL.Sem
open Idealize.ShloMosaic.StableHlo (after afterL atTrip launchContents)
open Idealize.ShloMosaic.Pipeline (ucRefs)

variable {F : FTy → Type} [FloatOps F]

/-- Every operation of the list writes one HBM reference at a position between `lo` and `hi`. -/
def Within (lo hi : ℕ) : List (HloOp τ sig (Elt F)) → Prop
  | [] => True
  | op :: ops => (∃ y : Ref sig .tc, op.writes = {Proc.devRef .tc y} ∧ y.space = .hbm ∧ lo ≤ y.idx.val ∧ y.idx.val ≤ hi) ∧ Within lo hi ops

/-- A reference outside the interval keeps its contents. -/
theorem Within.keep {lo hi : ℕ} {ops : List (HloOp τ sig (Elt F))} (h : Within lo hi ops) (V : Valuation τ sig (Elt F)) (r : Ref sig .tc)
    (hr : r.idx.val < lo ∨ hi < r.idx.val) : after ops V (Proc.devRef .tc r) = V (Proc.devRef .tc r) := by
  refine StableHlo.after_of_forall_not_mem ops V ?_
  induction ops with
  | nil => intro op hop; cases hop
  | cons o os ih =>
    intro op hop
    rcases List.mem_cons.mp hop with rfl | hop
    · obtain ⟨y, hw, -, h1, h2⟩ := h.1
      rw [hw, Finset.mem_singleton]
      intro he
      have : r = y := Proc.devRef_injective _ he
      subst this
      omega
    · exact ih h.2 op hop

/-- The interval list A1 writes in. -/
theorem opsA1_in : Within 20 25 (opsA1 : List (HloOp τ sig (Elt F))) := by
  unfold opsA1
  repeat (first | exact trivial | refine ⟨⟨_, rfl, rfl, by decide, by decide⟩, ?_⟩)
/-- The interval list A2 writes in. -/
theorem opsA2_in : Within 26 54 (opsA2 : List (HloOp τ sig (Elt F))) := by
  unfold opsA2
  repeat (first | exact trivial | refine ⟨⟨_, rfl, rfl, by decide, by decide⟩, ?_⟩)
/-- The interval list A3 writes in. -/
theorem opsA3_in : Within 55 61 (opsA3 : List (HloOp τ sig (Elt F))) := by
  unfold opsA3
  repeat (first | exact trivial | refine ⟨⟨_, rfl, rfl, by decide, by decide⟩, ?_⟩)
/-- The interval list L0_1 writes in. -/
theorem opsL0_1_in : Within 62 87 (opsL0_1 : List (HloOp τ sig (Elt F))) := by
  unfold opsL0_1
  repeat (first | exact trivial | refine ⟨⟨_, rfl, rfl, by decide, by decide⟩, ?_⟩)
/-- The interval list L0_2 writes in. -/
theorem opsL0_2_in : Within 88 116 (opsL0_2 : List (HloOp τ sig (Elt F))) := by
  unfold opsL0_2
  repeat (first | exact trivial | refine ⟨⟨_, rfl, rfl, by decide, by decide⟩, ?_⟩)
/-- The interval list L0_3 writes in. -/
theorem opsL0_3_in : Within 117 121 (opsL0_3 : List (HloOp τ sig (Elt F))) := by
  unfold opsL0_3
  repeat (first | exact trivial | refine ⟨⟨_, rfl, rfl, by decide, by decide⟩, ?_⟩)
/-- The interval list L0_4 writes in. -/
theorem opsL0_4_in : Within 122 192 (opsL0_4 : List (HloOp τ sig (Elt F))) := by
  unfold opsL0_4
  repeat (first | exact trivial | refine ⟨⟨_, rfl, rfl, by decide, by decide⟩, ?_⟩)
/-- The interval list L0_5 writes in. -/
theorem opsL0_5_in : Within 193 201 (opsL0_5 : List (HloOp τ sig (Elt F))) := by
  unfold opsL0_5
  repeat (first | exact trivial | refine ⟨⟨_, rfl, rfl, by decide, by decide⟩, ?_⟩)
/-- The interval list L0_6 writes in. -/
theorem opsL0_6_in : Within 202 211 (opsL0_6 : List (HloOp τ sig (Elt F))) := by
  unfold opsL0_6
  repeat (first | exact trivial | refine ⟨⟨_, rfl, rfl, by decide, by decide⟩, ?_⟩)
/-- The interval list L0_7 writes in. -/
theorem opsL0_7_in : Within 212 216 (opsL0_7 : List (HloOp τ sig (Elt F))) := by
  unfold opsL0_7
  repeat (first | exact trivial | refine ⟨⟨_, rfl, rfl, by decide, by decide⟩, ?_⟩)
/-- The interval list L0_8 writes in. -/
theorem opsL0_8_in : Within 217 235 (opsL0_8 : List (HloOp τ sig (Elt F))) := by
  unfold opsL0_8
  repeat (first | exact trivial | refine ⟨⟨_, rfl, rfl, by decide, by decide⟩, ?_⟩)
/-- The interval list L0_9 writes in. -/
theorem opsL0_9_in : Within 236 262 (opsL0_9 : List (HloOp τ sig (Elt F))) := by
  unfold opsL0_9
  repeat (first | exact trivial | refine ⟨⟨_, rfl, rfl, by decide, by decide⟩, ?_⟩)
/-- The interval list L0_10 writes in. -/
theorem opsL0_10_in : Within 300 305 (opsL0_10 : List (HloOp τ sig (Elt F))) := by
  unfold opsL0_10
  repeat (first | exact trivial | refine ⟨⟨_, rfl, rfl, by decide, by decide⟩, ?_⟩)
/-- The interval list L0_11 writes in. -/
theorem opsL0_11_in : Within 306 326 (opsL0_11 : List (HloOp τ sig (Elt F))) := by
  unfold opsL0_11
  repeat (first | exact trivial | refine ⟨⟨_, rfl, rfl, by decide, by decide⟩, ?_⟩)
/-- The interval list L0_12 writes in. -/
theorem opsL0_12_in : Within 327 355 (opsL0_12 : List (HloOp τ sig (Elt F))) := by
  unfold opsL0_12
  repeat (first | exact trivial | refine ⟨⟨_, rfl, rfl, by decide, by decide⟩, ?_⟩)
/-- The interval list L0_13 writes in. -/
theorem opsL0_13_in : Within 356 368 (opsL0_13 : List (HloOp τ sig (Elt F))) := by
  unfold opsL0_13
  repeat (first | exact trivial | refine ⟨⟨_, rfl, rfl, by decide, by decide⟩, ?_⟩)
/-- The interval list Z writes in. -/
theorem opsZ_in : Within 676 676 (opsZ : List (HloOp τ sig (Elt F))) := by
  unfold opsZ
  repeat (first | exact trivial | refine ⟨⟨_, rfl, rfl, by decide, by decide⟩, ?_⟩)
/-- The interval list W0_cond writes in. -/
theorem opsW0_cond_in : Within 263 264 (opsW0_cond : List (HloOp τ sig (Elt F))) := by
  unfold opsW0_cond
  repeat (first | exact trivial | refine ⟨⟨_, rfl, rfl, by decide, by decide⟩, ?_⟩)
/-- The interval list W0_body writes in. -/
theorem opsW0_body_in : Within 255 299 (opsW0_body : List (HloOp τ sig (Elt F))) := by
  unfold opsW0_body
  repeat (first | exact trivial | refine ⟨⟨_, rfl, rfl, by decide, by decide⟩, ?_⟩)
/-- The interval list L1_1 writes in. -/
theorem opsL1_1_in : Within 369 394 (opsL1_1 : List (HloOp τ sig (Elt F))) := by
  unfold opsL1_1
  repeat (first | exact trivial | refine ⟨⟨_, rfl, rfl, by decide, by decide⟩, ?_⟩)
/-- The interval list L1_2 writes in. -/
theorem opsL1_2_in : Within 395 423 (opsL1_2 : List (HloOp τ sig (Elt F))) := by
  unfold opsL1_2
  repeat (first | exact trivial | refine ⟨⟨_, rfl, rfl, by decide, by decide⟩, ?_⟩)
/-- The interval list L1_3 writes in. -/
theorem opsL1_3_in : Within 424 428 (opsL1_3 : List (HloOp τ sig (Elt F))) := by
  unfold opsL1_3
  repeat (first | exact trivial | refine ⟨⟨_, rfl, rfl, by decide, by decide⟩, ?_⟩)
/-- The interval list L1_4 writes in. -/
theorem opsL1_4_in : Within 429 499 (opsL1_4 : List (HloOp τ sig (Elt F))) := by
  unfold opsL1_4
  repeat (first | exact trivial | refine ⟨⟨_, rfl, rfl, by decide, by decide⟩, ?_⟩)
/-- The interval list L1_5 writes in. -/
theorem opsL1_5_in : Within 500 508 (opsL1_5 : List (HloOp τ sig (Elt F))) := by
  unfold opsL1_5
  repeat (first | exact trivial | refine ⟨⟨_, rfl, rfl, by decide, by decide⟩, ?_⟩)
/-- The interval list L1_6 writes in. -/
theorem opsL1_6_in : Within 509 518 (opsL1_6 : List (HloOp τ sig (Elt F))) := by
  unfold opsL1_6
  repeat (first | exact trivial | refine ⟨⟨_, rfl, rfl, by decide, by decide⟩, ?_⟩)
/-- The interval list L1_7 writes in. -/
theorem opsL1_7_in : Within 519 523 (opsL1_7 : List (HloOp τ sig (Elt F))) := by
  unfold opsL1_7
  repeat (first | exact trivial | refine ⟨⟨_, rfl, rfl, by decide, by decide⟩, ?_⟩)
/-- The interval list L1_8 writes in. -/
theorem opsL1_8_in : Within 524 542 (opsL1_8 : List (HloOp τ sig (Elt F))) := by
  unfold opsL1_8
  repeat (first | exact trivial | refine ⟨⟨_, rfl, rfl, by decide, by decide⟩, ?_⟩)
/-- The interval list L1_9 writes in. -/
theorem opsL1_9_in : Within 543 569 (opsL1_9 : List (HloOp τ sig (Elt F))) := by
  unfold opsL1_9
  repeat (first | exact trivial | refine ⟨⟨_, rfl, rfl, by decide, by decide⟩, ?_⟩)
/-- The interval list L1_10 writes in. -/
theorem opsL1_10_in : Within 607 612 (opsL1_10 : List (HloOp τ sig (Elt F))) := by
  unfold opsL1_10
  repeat (first | exact trivial | refine ⟨⟨_, rfl, rfl, by decide, by decide⟩, ?_⟩)
/-- The interval list L1_11 writes in. -/
theorem opsL1_11_in : Within 613 633 (opsL1_11 : List (HloOp τ sig (Elt F))) := by
  unfold opsL1_11
  repeat (first | exact trivial | refine ⟨⟨_, rfl, rfl, by decide, by decide⟩, ?_⟩)
/-- The interval list L1_12 writes in. -/
theorem opsL1_12_in : Within 634 662 (opsL1_12 : List (HloOp τ sig (Elt F))) := by
  unfold opsL1_12
  repeat (first | exact trivial | refine ⟨⟨_, rfl, rfl, by decide, by decide⟩, ?_⟩)
/-- The interval list L1_13 writes in. -/
theorem opsL1_13_in : Within 663 675 (opsL1_13 : List (HloOp τ sig (Elt F))) := by
  unfold opsL1_13
  repeat (first | exact trivial | refine ⟨⟨_, rfl, rfl, by decide, by decide⟩, ?_⟩)
/-- The interval list W1_cond writes in. -/
theorem opsW1_cond_in : Within 570 571 (opsW1_cond : List (HloOp τ sig (Elt F))) := by
  unfold opsW1_cond
  repeat (first | exact trivial | refine ⟨⟨_, rfl, rfl, by decide, by decide⟩, ?_⟩)
/-- The interval list W1_body writes in. -/
theorem opsW1_body_in : Within 562 606 (opsW1_body : List (HloOp τ sig (Elt F))) := by
  unfold opsW1_body
  repeat (first | exact trivial | refine ⟨⟨_, rfl, rfl, by decide, by decide⟩, ?_⟩)

variable (m : (ℓ : Loc nD τ sig) → Buf (Elt F) ℓ)

/-- An argument keeps its contents up to the first scan, -/
theorem E0_arg (c : Dev nD) (r : Ref sig .tc) (hr : r.idx.val < 20) : E0 m c (Proc.devRef .tc r) = m (c.tc.loc r) := by
  unfold E0
  simp only [afterL]
  rw [opsL0_9_in.keep _ r (.inl (by omega)), opsL0_8_in.keep _ r (.inl (by omega)), opsL0_7_in.keep _ r (.inl (by omega)), opsL0_6_in.keep _ r (.inl (by omega)), opsL0_5_in.keep _ r (.inl (by omega)), opsL0_4_in.keep _ r (.inl (by omega)), opsL0_3_in.keep _ r (.inl (by omega)), opsL0_2_in.keep _ r (.inl (by omega)), opsL0_1_in.keep _ r (.inl (by omega)), opsA3_in.keep _ r (.inl (by omega)), opsA2_in.keep _ r (.inl (by omega)), opsA1_in.keep _ r (.inl (by omega))]
/-- through the first scan's trips, -/
theorem K0_arg (c : Dev nD) (r : Ref sig .tc) (hr : r.idx.val < 20) : ∀ k, K0 m k c (Proc.devRef .tc r) = m (c.tc.loc r)
  | 0 => E0_arg m c r hr
  | k + 1 => by
    show after opsW0_body (after opsW0_cond (K0 m k c)) _ = _
    rw [opsW0_body_in.keep _ r (.inl (by omega)), opsW0_cond_in.keep _ r (.inl (by omega)), K0_arg c r hr k]
/-- up to the second scan, -/
theorem E1_arg (c : Dev nD) (r : Ref sig .tc) (hr : r.idx.val < 20) : E1 m c (Proc.devRef .tc r) = m (c.tc.loc r) := by
  unfold E1
  simp only [afterL]
  rw [opsL1_9_in.keep _ r (.inl (by omega)), opsL1_8_in.keep _ r (.inl (by omega)), opsL1_7_in.keep _ r (.inl (by omega)), opsL1_6_in.keep _ r (.inl (by omega)), opsL1_5_in.keep _ r (.inl (by omega)), opsL1_4_in.keep _ r (.inl (by omega)), opsL1_3_in.keep _ r (.inl (by omega)), opsL1_2_in.keep _ r (.inl (by omega)), opsL1_1_in.keep _ r (.inl (by omega)), opsL0_13_in.keep _ r (.inl (by omega)), opsL0_12_in.keep _ r (.inl (by omega)), opsL0_11_in.keep _ r (.inl (by omega)), opsL0_10_in.keep _ r (.inl (by omega)), opsW0_cond_in.keep _ r (.inl (by omega)), K0_arg m c r hr]
/-- through the second scan's trips, -/
theorem K1_arg (c : Dev nD) (r : Ref sig .tc) (hr : r.idx.val < 20) : ∀ k, K1 m k c (Proc.devRef .tc r) = m (c.tc.loc r)
  | 0 => E1_arg m c r hr
  | k + 1 => by
    show after opsW1_body (after opsW1_cond (K1 m k c)) _ = _
    rw [opsW1_body_in.keep _ r (.inl (by omega)), opsW1_cond_in.keep _ r (.inl (by omega)), K1_arg c r hr k]
/-- and to the end. -/
theorem E2_arg (c : Dev nD) (r : Ref sig .tc) (hr : r.idx.val < 20) : E2 m c (Proc.devRef .tc r) = m (c.tc.loc r) := by
  unfold E2
  simp only [afterL]
  rw [opsZ_in.keep _ r (.inl (by omega)), opsL1_13_in.keep _ r (.inl (by omega)), opsL1_12_in.keep _ r (.inl (by omega)), opsL1_11_in.keep _ r (.inl (by omega)), opsL1_10_in.keep _ r (.inl (by omega)), opsW1_cond_in.keep _ r (.inl (by omega)), K1_arg m c r hr]

/-- What a final state says of one argument. -/
theorem arg_end {m : (ℓ : Loc nD τ sig) → Buf (Elt F) ℓ} {m₁ : (ℓ : Loc nD τ sig) → Buf (Elt F) ℓ} (h : ∀ (c : Dev nD), ∀ b ∈ ucRefs τ sig, m₁ ((c : Dev nD), b) = E2 m c b)
    (c : Dev nD) (r : Ref sig .tc) (hr : r.idx.val < 20) (hs : r.space = .hbm) : m₁ (c.tc.loc r) = m (c.tc.loc r) :=
  (h c _ (Finset.mem_filter.mpr ⟨StableHlo.devRef_mem_tcRefs r, by rw [Proc.isScoped_devRef, show r.isScoped = false from by rcases r with ⟨sp, i, n⟩; subst hs; rfl]; exact Bool.false_ne_true⟩)).trans (E2_arg m c r hr)

/-- The frame of the reference: it runs from any memory, its arguments end as they started and every counter at zero. -/
theorem frame (ρ : Dev nD → PrngReg) : θ_run defs (onTc (τ := τ) (main (F := F))) ⟨m, fun _ => 0, ρ⟩ (fun r => (∀ c : Dev nD,
    r.2.mem (c.tc.loc main_arg0) = m (c.tc.loc main_arg0)
    ∧ r.2.mem (c.tc.loc main_arg1) = m (c.tc.loc main_arg1)
    ∧ r.2.mem (c.tc.loc main_arg2) = m (c.tc.loc main_arg2)
    ∧ r.2.mem (c.tc.loc main_arg3) = m (c.tc.loc main_arg3)
    ∧ r.2.mem (c.tc.loc main_arg4) = m (c.tc.loc main_arg4)
    ∧ r.2.mem (c.tc.loc main_arg5) = m (c.tc.loc main_arg5)
    ∧ r.2.mem (c.tc.loc main_arg6) = m (c.tc.loc main_arg6)
    ∧ r.2.mem (c.tc.loc main_arg7) = m (c.tc.loc main_arg7)
    ∧ r.2.mem (c.tc.loc main_arg8) = m (c.tc.loc main_arg8)
    ∧ r.2.mem (c.tc.loc main_arg9) = m (c.tc.loc main_arg9)
    ∧ r.2.mem (c.tc.loc main_arg10) = m (c.tc.loc main_arg10)
    ∧ r.2.mem (c.tc.loc main_arg11) = m (c.tc.loc main_arg11)
    ∧ r.2.mem (c.tc.loc main_arg12) = m (c.tc.loc main_arg12)
    ∧ r.2.mem (c.tc.loc main_arg13) = m (c.tc.loc main_arg13)
    ∧ r.2.mem (c.tc.loc main_arg14) = m (c.tc.loc main_arg14)
    ∧ r.2.mem (c.tc.loc main_arg15) = m (c.tc.loc main_arg15)
    ∧ r.2.mem (c.tc.loc main_arg16) = m (c.tc.loc main_arg16)
    ∧ r.2.mem (c.tc.loc main_arg17) = m (c.tc.loc main_arg17)
    ∧ r.2.mem (c.tc.loc main_arg18) = m (c.tc.loc main_arg18)
    ∧ r.2.mem (c.tc.loc main_arg19) = m (c.tc.loc main_arg19)) ∧ r.2.sem = fun _ => 0) :=
  (θ_run defs (onTc (τ := τ) (main (F := F))) _).mono (fun _ h => ⟨fun c =>
    ⟨arg_end h.1 c main_arg0 (by decide) rfl, arg_end h.1 c main_arg1 (by decide) rfl, arg_end h.1 c main_arg2 (by decide) rfl, arg_end h.1 c main_arg3 (by decide) rfl, arg_end h.1 c main_arg4 (by decide) rfl, arg_end h.1 c main_arg5 (by decide) rfl, arg_end h.1 c main_arg6 (by decide) rfl, arg_end h.1 c main_arg7 (by decide) rfl, arg_end h.1 c main_arg8 (by decide) rfl, arg_end h.1 c main_arg9 (by decide) rfl, arg_end h.1 c main_arg10 (by decide) rfl, arg_end h.1 c main_arg11 (by decide) rfl, arg_end h.1 c main_arg12 (by decide) rfl, arg_end h.1 c main_arg13 (by decide) rfl, arg_end h.1 c main_arg14 (by decide) rfl, arg_end h.1 c main_arg15 (by decide) rfl, arg_end h.1 c main_arg16 (by decide) rfl, arg_end h.1 c main_arg17 (by decide) rfl, arg_end h.1 c main_arg18 (by decide) rfl, arg_end h.1 c main_arg19 (by decide) rfl⟩, h.2⟩) (run_main m ρ)

end Cert.Proof.Ref
-- ==== Proof.Spec.lean ====
/-
  What the program computes, as plain functions of natural-number coordinates over the extended reals: the layer norm,
  the product with a transposed matrix, the depthwise convolution, the selective scan and their composition. Rows are
  flattened: row `r = b*1024 + i*32 + j` is the pixel `(i, j)` of image `b`.
-/
module

public import Idealize.ShloMosaic.Lib.Pointwise

@[expose] public section

noncomputable section

namespace Cert.Proof

open Idealize.ShloMosaic

/-- A matrix of extended reals, by row and column. -/
abbrev Mat := ℕ → ℕ → EReal

/-- The number 384 as the programs spell it. -/
abbrev c384 : EReal := Ideal.ofBits .f32 0x43C00000#32
/-- The number 768 as the programs spell it. -/
abbrev c768 : EReal := Ideal.ofBits .f32 0x44400000#32
/-- The epsilon of the layer norms as the programs spell it. -/
abbrev cEps : EReal := Ideal.ofBits .f32 0x3727C5AC#32

/-- The mean of `n` numbers, `cn` spelling `n`. -/
def meanS (n : ℕ) (cn : EReal) (x : ℕ → EReal) : EReal := Ideal.div (∑ k : Fin n, x k.val) cn

/-- The variance of `n` numbers. -/
def varS (n : ℕ) (cn : EReal) (x : ℕ → EReal) : EReal :=
  Ideal.div (∑ k : Fin n, (x k.val - meanS n cn x) * (x k.val - meanS n cn x)) cn

/-- The layer norm of one row `x`, at column `c`. -/
def lnS (n : ℕ) (cn : EReal) (w b : ℕ → EReal) (x : ℕ → EReal) (c : ℕ) : EReal :=
  (x c - meanS n cn x) * Ideal.rsqrt (varS n cn x + cEps) * w c + b c

/-- The product of row `x` with row `w`, over `K` columns. -/
def dotS (K : ℕ) (x w : ℕ → EReal) : EReal := ∑ k : Fin K, x k.val * w k.val

/-- `x / (1 + exp (-x))`. -/
def siluS (x : EReal) : EReal := Ideal.div x (1 + Ideal.exp (-x))

/-- `max x 0 + log (1 + exp (-|x|))`. -/
def softplusS (x : EReal) : EReal := max x 0 + Ideal.log1p (Ideal.exp (-(max x (-x))))

/-- Pixel `l` shifted by the tap `(di, dj)` of a three by three window: the shifted row of `X`, or zero outside the
    image. -/
def tapS (X : Mat) (l di dj d : ℕ) : EReal :=
  if 1 ≤ l / 32 + di ∧ l / 32 + di ≤ 32 ∧ 1 ≤ l % 32 + dj ∧ l % 32 + dj ≤ 32 then X (l + 32 * di + dj - 33) d else 0

/-- The depthwise convolution of one image `X` at pixel `l` and channel `d`, with weights `w` by tap. -/
def convS (X w : Mat) (b : ℕ → EReal) (l d : ℕ) : EReal :=
  b d + w 0 d * tapS X l 0 0 d + w 1 d * tapS X l 0 1 d + w 2 d * tapS X l 0 2 d + w 3 d * tapS X l 1 0 d
    + w 4 d * tapS X l 1 1 d + w 5 d * tapS X l 1 2 d + w 6 d * tapS X l 2 0 d + w 7 d * tapS X l 2 1 d + w 8 d * tapS X l 2 2 d

/-- The layer's last step at one row: the norm of the scans' total `T`, gated by `z`, projected and added to `xh`. -/
def outS (T z : ℕ → EReal) (xh : EReal) (w b ow : ℕ → EReal) : EReal :=
  xh + dotS 768 (fun k => lnS 768 c768 w b T k * siluS (z k)) ow

/-- The state of a scan after `l` steps: step `l` decays number `n` of channel `d` by `a l n d` and adds `g l n d`. -/
def recS (a g : ℕ → ℕ → ℕ → EReal) (H0 : Mat) : ℕ → Mat
  | 0 => H0
  | l + 1 => fun n d => a l n d * recS a g H0 l n d + g l n d

/-- A scan of `p + q` steps is a scan of `q` steps from the state after `p`. -/
theorem recS_add (a g : ℕ → ℕ → ℕ → EReal) (H0 : Mat) (p q : ℕ) :
    recS a g H0 (p + q) = recS (fun l => a (p + l)) (fun l => g (p + l)) (recS a g H0 p) q := by
  induction q with
  | zero => rfl
  | succ q ih =>
    funext n d
    show a (p + q) n d * recS a g H0 (p + q) n d + g (p + q) n d = _
    rw [ih]
    rfl

/-- Scans that agree step by step agree. -/
theorem recS_congr {a g a' g' : ℕ → ℕ → ℕ → EReal} {H0 H0' : Mat} {N D : ℕ} (L : ℕ)
    (ha : ∀ l < L, ∀ n < N, ∀ d < D, a l n d = a' l n d) (hg : ∀ l < L, ∀ n < N, ∀ d < D, g l n d = g' l n d)
    (h0 : ∀ n < N, ∀ d < D, H0 n d = H0' n d) : ∀ l ≤ L, ∀ n < N, ∀ d < D, recS a g H0 l n d = recS a' g' H0' l n d := by
  intro l
  induction l with
  | zero => intro _ n hn d hd; exact h0 n hn d hd
  | succ l ih =>
    intro hl n hn d hd
    show a l n d * recS a g H0 l n d + g l n d = a' l n d * recS a' g' H0' l n d + g' l n d
    rw [ha l hl n hn d hd, hg l hl n hn d hd, ih (by omega) n hn d hd]

end Cert.Proof
-- ==== Proof.Net.lean ====
/-
  What the network computes, as functions of the twenty arguments at natural-number indices, on the extended reals. A
  pixel `(b, i, j)` of the 32 × 32 images is row `b*1024 + i*32 + j`; within an image it is `l = i*32 + j`.
-/
module

public import proofs.«01_k».proof.Proof.Spec

@[expose] public section

noncomputable section

namespace Cert.Proof

open Idealize.ShloMosaic

/-- The twenty arguments. -/
structure Net where
  x : ℕ → ℕ → ℕ → ℕ → EReal
  skip : ℕ → ℕ → ℕ → ℕ → EReal
  pew : Mat
  penw : ℕ → EReal
  penb : ℕ → EReal
  lpw : Mat
  lpb : ℕ → EReal
  lnw : Mat
  lnb : Mat
  inw : ℕ → Mat
  cw : ℕ → ℕ → Mat
  cb : Mat
  xpw : ℕ → ℕ → Mat
  dtw : ℕ → ℕ → Mat
  dtb : ℕ → Mat
  al : ℕ → ℕ → Mat
  ds : ℕ → Mat
  onw : Mat
  onb : Mat
  ow : ℕ → Mat

/-- The step size of a scan. -/
def dtE (U XW DTW : Mat) (DTB : ℕ → EReal) (l d : ℕ) : EReal := softplusS (dotS 24 (fun r => dotS 768 (U l) (XW r)) (DTW d) + DTB d)

/-- One direction of the scan, forward for `b = 0`, else backward: row `r` holds the state after its own step (number `T r`), read against C. -/
def scanE (b : ℕ) (U XW DTW : Mat) (DTB : ℕ → EReal) (AL : Mat) : Mat := fun r d =>
  ∑ n : Fin 16, recS (fun l n d => Ideal.exp (dtE U XW DTW DTB (if b = 0 then l else 1023 - l) d * -Ideal.exp (AL n d)))
    (fun l n d => dotS 768 (U (if b = 0 then l else 1023 - l)) (XW (24 + n)) * (dtE U XW DTW DTB (if b = 0 then l else 1023 - l) d * U (if b = 0 then l else 1023 - l) d))
    (fun _ _ => 0) ((if b = 0 then r else 1023 - r) + 1) n.val d * dotS 768 (U r) (XW (24 + (16 + n.val)))

variable (a : Net)

/-- The input's pixels as rows. -/
def xrowS (R k : ℕ) : EReal := a.x (R / 256) k (R / 16 % 16) (R % 16)
/-- A segment of the expanded patch, normalised: the segment starting at column `o` of pixel `R`. -/
def segS (R o c : ℕ) : EReal := lnS 384 c384 a.penw a.penb (fun k => dotS 768 (xrowS a R) (a.pew (o + k))) c
/-- The expanded patches laid out as pixels. -/
def peS : Mat := fun r c => segS a (r / 1024 * 256 + r / 64 % 16 * 16 + r / 2 % 16) (r / 32 % 2 * 768 + r % 2 * 384) c
/-- The skip input's pixels as rows. -/
def skS : Mat := fun r c => a.skip (r / 1024) c (r / 32 % 32) (r % 32)
/-- The projection of the two. -/
def h0S : Mat := fun r c => dotS 384 (peS a r) (a.lpw c) + dotS 384 (skS a r) (fun k => a.lpw c (384 + k)) + a.lpb c
/-- The two halves of a layer's input projection. -/
def inS (L : ℕ) (H : Mat) : Mat := fun r k => dotS 384 (lnS 384 c384 (a.lnw L) (a.lnb L) (H r)) (a.inw L k)
/-- A layer's scan input. -/
def uS (L : ℕ) (H : Mat) (b : ℕ) : Mat := fun l d =>
  siluS (convS (fun l d => inS a L H (b * 1024 + l) d) (fun t d => a.cw L d (t / 3) (t % 3)) (a.cb L) l d)
/-- The scan input in the order of direction pair `s`. -/
def seqS (L : ℕ) (H : Mat) (b s : ℕ) : Mat := fun l d => if s < 1 then uS a L H b l d else uS a L H b (l % 32 * 32 + l / 32) d
/-- The scan of direction `j` (in the kernel's order: rows, rows reversed, columns, columns reversed). -/
def ysS (L : ℕ) (H : Mat) (b j : ℕ) : Mat :=
  scanE (j % 2) (seqS a L H b (j / 2)) (a.xpw L (j % 2 * 2 + j / 2)) (a.dtw L (j % 2 * 2 + j / 2)) (a.dtb L (j % 2 * 2 + j / 2))
    (fun n d => a.al L (j % 2 * 2 + j / 2) d n)
/-- The four scans merged, with the direct term. -/
def mergeS (L : ℕ) (H : Mat) : Mat := fun r k =>
  (ysS a L H (r / 1024) 0 (r % 1024) k + ysS a L H (r / 1024) 1 (r % 1024) k)
    + (ysS a L H (r / 1024) 2 (r % 32 * 32 + r / 32 % 32) k + ysS a L H (r / 1024) 3 (r % 32 * 32 + r / 32 % 32) k)
    + (∑ j : Fin 4, a.ds L j.val k) * uS a L H (r / 1024) (r % 1024) k
/-- One layer. -/
def layerS (L : ℕ) (H : Mat) : Mat := fun r c =>
  outS (mergeS a L H r) (fun k => inS a L H r (768 + k)) (H r c) (a.onw L) (a.onb L) (a.ow L c)
/-- The network. -/
def netS (b c i j : ℕ) : EReal := layerS a 1 (layerS a 0 (h0S a)) (b * 1024 + i * 32 + j) c

end Cert.Proof
end
-- ==== Proof.KHost.lean ====
module

public import proofs.«01_k».proof.Proof.Gen.KernelIdeal.Frame
public import proofs.«01_k».proof.Proof.Net
public import Idealize.ShloMosaic.Lib.StableHlo.RunRead
public import Idealize.ShloMosaic.Lib.Pointwise
public import Idealize.ShloMosaic.Lib.Pipeline.ValueKit

@[expose] public section

set_option maxRecDepth 65536

noncomputable section

namespace Cert.Proof.Ker

open Cert.KernelIdeal Cert.KernelIdeal.Gen
open Idealize.ShloMosaic
open Idealize.ShloMosaic.TcCoe
open Idealize.SL.Sem

variable (W : Valuation τ sig (Elt Ideal))

/-- The input pixels as rows, and the norm weights of the patch expansion. -/
theorem host0 (x : ℕ → ℕ → ℕ → ℕ → EReal) (w b : ℕ → EReal)
    (hx : ∀ i : S2x768x16x16.Idx, W (Proc.devRef .tc main_arg0) i = x (i 0).val (i 1).val (i 2).val (i 3).val)
    (hw : ∀ i : S384.Idx, W (Proc.devRef .tc main_arg3) i = w (i 0).val)
    (hb : ∀ i : S384.Idx, W (Proc.devRef .tc main_arg4) i = b (i 0).val) :
    (∀ i : S512x768.Idx, StableHlo.after hostOps0 W (Proc.devRef .tc main_v1) i = x ((i 0).val / 256) (i 1).val ((i 0).val / 16 % 16) ((i 0).val % 16))
    ∧ (∀ i : S1x384.Idx, StableHlo.after hostOps0 W (Proc.devRef .tc main_v2) i = w (i 1).val)
    ∧ (∀ i : S1x384.Idx, StableHlo.after hostOps0 W (Proc.devRef .tc main_v3) i = b (i 1).val) := by
  refine ⟨?_, ?_, ?_⟩ <;> (intro i; idx_vars i; after_reads_simp; pointwise [hx, hw, hb]; try simp only [dite_eq_ite])

/-- The expanded patches and the skip input laid out as pixels, and the two halves of the projection. -/
theorem host1 (X : Mat) (sk : ℕ → ℕ → ℕ → ℕ → EReal) (w : Mat) (b : ℕ → EReal)
    (hx : ∀ i : S512x1536.Idx, W (Proc.devRef .tc main_v4) i = X (i 0).val (i 1).val)
    (hs : ∀ i : S2x384x32x32.Idx, W (Proc.devRef .tc main_arg1) i = sk (i 0).val (i 1).val (i 2).val (i 3).val)
    (hw : ∀ i : S384x768.Idx, W (Proc.devRef .tc main_arg5) i = w (i 0).val (i 1).val)
    (hb : ∀ i : S384.Idx, W (Proc.devRef .tc main_arg6) i = b (i 0).val) :
    (∀ i : S2048x384.Idx, StableHlo.after hostOps1 W (Proc.devRef .tc main_v7) i = X ((i 0).val / 1024 * 256 + (i 0).val / 64 % 16 * 16 + (i 0).val / 2 % 16) ((i 0).val / 32 % 2 * 768 + (i 0).val % 2 * 384 + (i 1).val))
    ∧ (∀ i : S2048x384.Idx, StableHlo.after hostOps1 W (Proc.devRef .tc main_v9) i = sk ((i 0).val / 1024) (i 1).val ((i 0).val / 32 % 32) ((i 0).val % 32))
    ∧ (∀ i : S384x384.Idx, StableHlo.after hostOps1 W (Proc.devRef .tc main_v10) i = w (i 0).val (i 1).val)
    ∧ (∀ i : S384x384.Idx, StableHlo.after hostOps1 W (Proc.devRef .tc main_v11) i = w (i 0).val (384 + (i 1).val))
    ∧ (∀ i : S1x384.Idx, StableHlo.after hostOps1 W (Proc.devRef .tc main_v12) i = b (i 1).val) := by
  refine ⟨?_, ?_, ?_, ?_, ?_⟩ <;> (intro i; idx_vars i; after_reads_simp; pointwise [hx, hs, hw, hb]; try simp only [dite_eq_ite])

/-- The norm and input weights of the first layer. -/
theorem host2 (w b : Mat) (iw : ℕ → Mat)
    (hw : ∀ i : S2x384.Idx, W (Proc.devRef .tc main_arg7) i = w (i 0).val (i 1).val)
    (hb : ∀ i : S2x384.Idx, W (Proc.devRef .tc main_arg8) i = b (i 0).val (i 1).val)
    (hi : ∀ i : S2x1536x384.Idx, W (Proc.devRef .tc main_arg9) i = iw (i 0).val (i 1).val (i 2).val) :
    (∀ i : S1x384.Idx, StableHlo.after hostOps2 W (Proc.devRef .tc main_v20) i = w 0 (i 1).val)
    ∧ (∀ i : S1x384.Idx, StableHlo.after hostOps2 W (Proc.devRef .tc main_v21) i = b 0 (i 1).val)
    ∧ (∀ i : S1536x384.Idx, StableHlo.after hostOps2 W (Proc.devRef .tc main_v19) i = iw 0 (i 0).val (i 1).val) := by
  refine ⟨?_, ?_, ?_⟩ <;> (intro i; idx_vars i; after_reads_simp; pointwise [hw, hb, hi]; try simp only [dite_eq_ite])

/-- The convolution's input and weights of the first layer. -/
theorem host3 (X : Mat) (w : ℕ → ℕ → Mat) (b : Mat)
    (hx : ∀ i : S2048x768.Idx, W (Proc.devRef .tc main_v22_0) i = X (i 0).val (i 1).val)
    (hw : ∀ i : S2x768x3x3.Idx, W (Proc.devRef .tc main_arg10) i = w (i 0).val (i 1).val (i 2).val (i 3).val)
    (hb : ∀ i : S2x768.Idx, W (Proc.devRef .tc main_arg11) i = b (i 0).val (i 1).val) :
    (∀ i : S2x1024x768.Idx, StableHlo.after hostOps3 W (Proc.devRef .tc main_v29) i = X ((i 0).val * 1024 + (i 1).val) (i 2).val)
    ∧ (∀ i : S9x768.Idx, StableHlo.after hostOps3 W (Proc.devRef .tc main_v26) i = w 0 (i 1).val ((i 0).val / 3) ((i 0).val % 3))
    ∧ (∀ i : S1x768.Idx, StableHlo.after hostOps3 W (Proc.devRef .tc main_v30) i = b 0 (i 1).val) := by
  refine ⟨?_, ?_, ?_⟩ <;> (intro i; idx_vars i; after_reads_simp; pointwise [hx, hw, hb]; try simp only [dite_eq_ite])

/-- The scan's inputs and weights of the first layer. -/
theorem host4 (X : ℕ → Mat) (xw dw al : ℕ → ℕ → Mat) (db : ℕ → Mat)
    (hx : ∀ i : S2x1024x768.Idx, W (Proc.devRef .tc main_v31) i = X (i 0).val (i 1).val (i 2).val)
    (hxw : ∀ i : S2x4x56x768.Idx, W (Proc.devRef .tc main_arg12) i = xw (i 0).val (i 1).val (i 2).val (i 3).val)
    (hdw : ∀ i : S2x4x768x24.Idx, W (Proc.devRef .tc main_arg13) i = dw (i 0).val (i 1).val (i 2).val (i 3).val)
    (hdb : ∀ i : S2x4x768.Idx, W (Proc.devRef .tc main_arg14) i = db (i 0).val (i 1).val (i 2).val)
    (hal : ∀ i : S2x4x768x16.Idx, W (Proc.devRef .tc main_arg15) i = al (i 0).val (i 1).val (i 2).val (i 3).val) :
    (∀ i : S2x2x1024x768.Idx, StableHlo.after hostOps4 W (Proc.devRef .tc main_v37) i = if (i 1).val < 1 then X (i 0).val (i 2).val (i 3).val else X (i 0).val ((i 2).val % 32 * 32 + (i 2).val / 32) (i 3).val)
    ∧ (∀ i : S4x56x768.Idx, StableHlo.after hostOps4 W (Proc.devRef .tc main_v39) i = xw 0 (i 0).val (i 1).val (i 2).val)
    ∧ (∀ i : S4x768x24.Idx, StableHlo.after hostOps4 W (Proc.devRef .tc main_v41) i = dw 0 (i 0).val (i 1).val (i 2).val)
    ∧ (∀ i : S4x1x768.Idx, StableHlo.after hostOps4 W (Proc.devRef .tc main_v44) i = db 0 (i 0).val (i 2).val)
    ∧ (∀ i : S4x16x768.Idx, StableHlo.after hostOps4 W (Proc.devRef .tc main_v47) i = al 0 (i 0).val (i 2).val (i 1).val) := by
  refine ⟨?_, ?_, ?_, ?_, ?_⟩ <;> (intro i; idx_vars i; after_reads_simp; pointwise [hx, hxw, hdw, hdb, hal]; try simp only [dite_eq_ite])

/-- The merge's inputs and weights of the first layer. -/
theorem host5 (Y : ℕ → ℕ → Mat) (X : ℕ → Mat) (ds ow : ℕ → Mat) (nw nb : Mat)
    (hy : ∀ i : S2x4x1024x768.Idx, W (Proc.devRef .tc main_v48) i = Y (i 0).val (i 1).val (i 2).val (i 3).val)
    (hx : ∀ i : S2x1024x768.Idx, W (Proc.devRef .tc main_v31) i = X (i 0).val (i 1).val (i 2).val)
    (hd : ∀ i : S2x4x768.Idx, W (Proc.devRef .tc main_arg16) i = ds (i 0).val (i 1).val (i 2).val)
    (hw : ∀ i : S2x768.Idx, W (Proc.devRef .tc main_arg17) i = nw (i 0).val (i 1).val)
    (hb : ∀ i : S2x768.Idx, W (Proc.devRef .tc main_arg18) i = nb (i 0).val (i 1).val)
    (ho : ∀ i : S2x384x768.Idx, W (Proc.devRef .tc main_arg19) i = ow (i 0).val (i 1).val (i 2).val) :
    (∀ i : S2048x768.Idx, StableHlo.after hostOps5 W (Proc.devRef .tc main_v54) i = Y ((i 0).val / 1024) 0 ((i 0).val % 1024) (i 1).val + Y ((i 0).val / 1024) 1 ((i 0).val % 1024) (i 1).val)
    ∧ (∀ i : S2048x768.Idx, StableHlo.after hostOps5 W (Proc.devRef .tc main_v63) i = Y ((i 0).val / 1024) 2 ((i 0).val % 32 * 32 + (i 0).val / 32 % 32) (i 1).val + Y ((i 0).val / 1024) 3 ((i 0).val % 32 * 32 + (i 0).val / 32 % 32) (i 1).val)
    ∧ (∀ i : S2048x768.Idx, StableHlo.after hostOps5 W (Proc.devRef .tc main_v64) i = X ((i 0).val / 1024) ((i 0).val % 1024) (i 1).val)
    ∧ (∀ i : S4x768.Idx, StableHlo.after hostOps5 W (Proc.devRef .tc main_v66) i = ds 0 (i 0).val (i 1).val)
    ∧ (∀ i : S1x768.Idx, StableHlo.after hostOps5 W (Proc.devRef .tc main_v73) i = nw 0 (i 1).val)
    ∧ (∀ i : S1x768.Idx, StableHlo.after hostOps5 W (Proc.devRef .tc main_v74) i = nb 0 (i 1).val)
    ∧ (∀ i : S384x768.Idx, StableHlo.after hostOps5 W (Proc.devRef .tc main_v72) i = ow 0 (i 0).val (i 1).val) := by
  refine ⟨?_, ?_, ?_, ?_, ?_, ?_, ?_⟩ <;> (intro i; idx_vars i; after_reads_simp; pointwise [hy, hx, hd, hw, hb, ho]; try simp only [dite_eq_ite])

/-- The norm and input weights of the second layer. -/
theorem host6 (w b : Mat) (iw : ℕ → Mat)
    (hw : ∀ i : S2x384.Idx, W (Proc.devRef .tc main_arg7) i = w (i 0).val (i 1).val)
    (hb : ∀ i : S2x384.Idx, W (Proc.devRef .tc main_arg8) i = b (i 0).val (i 1).val)
    (hi : ∀ i : S2x1536x384.Idx, W (Proc.devRef .tc main_arg9) i = iw (i 0).val (i 1).val (i 2).val) :
    (∀ i : S1x384.Idx, StableHlo.after hostOps6 W (Proc.devRef .tc main_v82) i = w 1 (i 1).val)
    ∧ (∀ i : S1x384.Idx, StableHlo.after hostOps6 W (Proc.devRef .tc main_v83) i = b 1 (i 1).val)
    ∧ (∀ i : S1536x384.Idx, StableHlo.after hostOps6 W (Proc.devRef .tc main_v81) i = iw 1 (i 0).val (i 1).val) := by
  refine ⟨?_, ?_, ?_⟩ <;> (intro i; idx_vars i; after_reads_simp; pointwise [hw, hb, hi]; try simp only [dite_eq_ite])

/-- The convolution's input and weights of the second layer. -/
theorem host7 (X : Mat) (w : ℕ → ℕ → Mat) (b : Mat)
    (hx : ∀ i : S2048x768.Idx, W (Proc.devRef .tc main_v84_0) i = X (i 0).val (i 1).val)
    (hw : ∀ i : S2x768x3x3.Idx, W (Proc.devRef .tc main_arg10) i = w (i 0).val (i 1).val (i 2).val (i 3).val)
    (hb : ∀ i : S2x768.Idx, W (Proc.devRef .tc main_arg11) i = b (i 0).val (i 1).val) :
    (∀ i : S2x1024x768.Idx, StableHlo.after hostOps7 W (Proc.devRef .tc main_v91) i = X ((i 0).val * 1024 + (i 1).val) (i 2).val)
    ∧ (∀ i : S9x768.Idx, StableHlo.after hostOps7 W (Proc.devRef .tc main_v88) i = w 1 (i 1).val ((i 0).val / 3) ((i 0).val % 3))
    ∧ (∀ i : S1x768.Idx, StableHlo.after hostOps7 W (Proc.devRef .tc main_v92) i = b 1 (i 1).val) := by
  refine ⟨?_, ?_, ?_⟩ <;> (intro i; idx_vars i; after_reads_simp; pointwise [hx, hw, hb]; try simp only [dite_eq_ite])

/-- The scan's inputs and weights of the second layer. -/
theorem host8 (X : ℕ → Mat) (xw dw al : ℕ → ℕ → Mat) (db : ℕ → Mat)
    (hx : ∀ i : S2x1024x768.Idx, W (Proc.devRef .tc main_v93) i = X (i 0).val (i 1).val (i 2).val)
    (hxw : ∀ i : S2x4x56x768.Idx, W (Proc.devRef .tc main_arg12) i = xw (i 0).val (i 1).val (i 2).val (i 3).val)
    (hdw : ∀ i : S2x4x768x24.Idx, W (Proc.devRef .tc main_arg13) i = dw (i 0).val (i 1).val (i 2).val (i 3).val)
    (hdb : ∀ i : S2x4x768.Idx, W (Proc.devRef .tc main_arg14) i = db (i 0).val (i 1).val (i 2).val)
    (hal : ∀ i : S2x4x768x16.Idx, W (Proc.devRef .tc main_arg15) i = al (i 0).val (i 1).val (i 2).val (i 3).val) :
    (∀ i : S2x2x1024x768.Idx, StableHlo.after hostOps8 W (Proc.devRef .tc main_v99) i = if (i 1).val < 1 then X (i 0).val (i 2).val (i 3).val else X (i 0).val ((i 2).val % 32 * 32 + (i 2).val / 32) (i 3).val)
    ∧ (∀ i : S4x56x768.Idx, StableHlo.after hostOps8 W (Proc.devRef .tc main_v101) i = xw 1 (i 0).val (i 1).val (i 2).val)
    ∧ (∀ i : S4x768x24.Idx, StableHlo.after hostOps8 W (Proc.devRef .tc main_v103) i = dw 1 (i 0).val (i 1).val (i 2).val)
    ∧ (∀ i : S4x1x768.Idx, StableHlo.after hostOps8 W (Proc.devRef .tc main_v106) i = db 1 (i 0).val (i 2).val)
    ∧ (∀ i : S4x16x768.Idx, StableHlo.after hostOps8 W (Proc.devRef .tc main_v109) i = al 1 (i 0).val (i 2).val (i 1).val) := by
  refine ⟨?_, ?_, ?_, ?_, ?_⟩ <;> (intro i; idx_vars i; after_reads_simp; pointwise [hx, hxw, hdw, hdb, hal]; try simp only [dite_eq_ite])

/-- The merge's inputs and weights of the second layer. -/
theorem host9 (Y : ℕ → ℕ → Mat) (X : ℕ → Mat) (ds ow : ℕ → Mat) (nw nb : Mat)
    (hy : ∀ i : S2x4x1024x768.Idx, W (Proc.devRef .tc main_v110) i = Y (i 0).val (i 1).val (i 2).val (i 3).val)
    (hx : ∀ i : S2x1024x768.Idx, W (Proc.devRef .tc main_v93) i = X (i 0).val (i 1).val (i 2).val)
    (hd : ∀ i : S2x4x768.Idx, W (Proc.devRef .tc main_arg16) i = ds (i 0).val (i 1).val (i 2).val)
    (hw : ∀ i : S2x768.Idx, W (Proc.devRef .tc main_arg17) i = nw (i 0).val (i 1).val)
    (hb : ∀ i : S2x768.Idx, W (Proc.devRef .tc main_arg18) i = nb (i 0).val (i 1).val)
    (ho : ∀ i : S2x384x768.Idx, W (Proc.devRef .tc main_arg19) i = ow (i 0).val (i 1).val (i 2).val) :
    (∀ i : S2048x768.Idx, StableHlo.after hostOps9 W (Proc.devRef .tc main_v116) i = Y ((i 0).val / 1024) 0 ((i 0).val % 1024) (i 1).val + Y ((i 0).val / 1024) 1 ((i 0).val % 1024) (i 1).val)
    ∧ (∀ i : S2048x768.Idx, StableHlo.after hostOps9 W (Proc.devRef .tc main_v125) i = Y ((i 0).val / 1024) 2 ((i 0).val % 32 * 32 + (i 0).val / 32 % 32) (i 1).val + Y ((i 0).val / 1024) 3 ((i 0).val % 32 * 32 + (i 0).val / 32 % 32) (i 1).val)
    ∧ (∀ i : S2048x768.Idx, StableHlo.after hostOps9 W (Proc.devRef .tc main_v126) i = X ((i 0).val / 1024) ((i 0).val % 1024) (i 1).val)
    ∧ (∀ i : S4x768.Idx, StableHlo.after hostOps9 W (Proc.devRef .tc main_v128) i = ds 1 (i 0).val (i 1).val)
    ∧ (∀ i : S1x768.Idx, StableHlo.after hostOps9 W (Proc.devRef .tc main_v135) i = nw 1 (i 1).val)
    ∧ (∀ i : S1x768.Idx, StableHlo.after hostOps9 W (Proc.devRef .tc main_v136) i = nb 1 (i 1).val)
    ∧ (∀ i : S384x768.Idx, StableHlo.after hostOps9 W (Proc.devRef .tc main_v134) i = ow 1 (i 0).val (i 1).val) := by
  refine ⟨?_, ?_, ?_, ?_, ?_, ?_, ?_⟩ <;> (intro i; idx_vars i; after_reads_simp; pointwise [hy, hx, hd, hw, hb, ho]; try simp only [dite_eq_ite])

/-- The result, back as images. -/
theorem host10 (X : Mat)
    (hx : ∀ i : S2048x384.Idx, W (Proc.devRef .tc main_v137) i = X (i 0).val (i 1).val) :
    (∀ i : S2x384x32x32.Idx, StableHlo.after hostOps10 W (Proc.devRef .tc main_v139) i = X ((i 0).val * 1024 + (i 2).val * 32 + (i 3).val) (i 1).val) := by
  intro i; idx_vars i; after_reads_simp; pointwise [hx]

end Cert.Proof.Ker
-- ==== Proof.ScanStep.lean ====
/-
  One chunk of 128 time steps of the selective scan, as a recursion over vectors: the state after `n` steps, the row a
  step writes, and the 128 rows stacked. The order in which the chunk's steps are taken is a parameter, so one text
  serves the forward and the backward scan.
-/
module

public import proofs.«01_k».proof.Proof.Gen.KernelIdeal.Frame
public import Idealize.ShloMosaic.Lib.Pointwise
public import Idealize.ShloMosaic.Lib.Pipeline.ValueKit

@[expose] public section

set_option maxRecDepth 65536

noncomputable section

namespace Cert.Proof.Ker

open Cert.KernelIdeal Cert.KernelIdeal.Gen
open Idealize.ShloMosaic
open Idealize.ShloMosaic.TcCoe
open Idealize.SL.Sem

variable {F : FTy → Type} [FloatOps F] [Named F]

/-- A row of a chunk is inside the chunk. -/
theorem sl_row (s : ℕ) : S128x768.Slices ![s % 128, 0] S1x768 := by
  refine ⟨rfl, fun a => ?_⟩
  have := Nat.mod_lt s (show 0 < 128 by decide)
  match a with
  | 0 => show s % 128 + 1 ≤ 128; omega
  | 1 => show 0 + 768 ≤ 768; omega

/-- A column of the upper half of the transposed projections is inside them. -/
theorem sl_col0 (s : ℕ) : S32x128.Slices ![0, s % 128] S16x1 := by
  refine ⟨rfl, fun a => ?_⟩
  have := Nat.mod_lt s (show 0 < 128 by decide)
  match a with
  | 0 => show 0 + 16 ≤ 32; omega
  | 1 => show s % 128 + 1 ≤ 128; omega

/-- A column of the lower half likewise. -/
theorem sl_col16 (s : ℕ) : S32x128.Slices ![16, s % 128] S16x1 := by
  refine ⟨rfl, fun a => ?_⟩
  have := Nat.mod_lt s (show 0 < 128 by decide)
  match a with
  | 0 => show 16 + 16 ≤ 32; omega
  | 1 => show s % 128 + 1 ≤ 128; omega

/-- One time step: the state decays by `2 ^ (A · dt)` and gains the outer product of B and `dt · u`. -/
def hstep (A : FVec F S16x768 .f32) (dt du : FVec F S128x768 .f32) (bc : FVec F S32x128 .f32) (s : ℕ) (h : FVec F S16x768 .f32) :
    FVec F S16x768 .f32 :=
  addf (mulf (exp2 (mulf A (broadcastTo S16x768 (extractStridedSlice S1x768 ![s % 128, 0] dt (sl_row s)) broadcasts_S1x768_S16x768))) h)
    (mulf (broadcastTo S16x768 (extractStridedSlice S16x1 ![0, s % 128] bc (sl_col0 s)) broadcasts_S16x1_S16x768)
      (broadcastTo S16x768 (extractStridedSlice S1x768 ![s % 128, 0] du (sl_row s)) broadcasts_S1x768_S16x768))

/-- The state after `n` steps, the `n`-th being number `ord n` of the chunk. -/
def hseq (ord : ℕ → ℕ) (A : FVec F S16x768 .f32) (dt du : FVec F S128x768 .f32) (bc : FVec F S32x128 .f32) (acc : FVec F S16x768 .f32) (n : ℕ) :
    FVec F S16x768 .f32 :=
  Nat.rec acc (fun n h => hstep A dt du bc (ord n) h) n

/-- The row that step `s` writes from its state: the state times C, summed over the 16 state numbers. -/
def hrow (bc : FVec F S32x128 .f32) (s : ℕ) (h : FVec F S16x768 .f32) : FVec F S1x768 .f32 :=
  shapeCast S1x768 (multiReduction .add [0] S768
    (mulf h (broadcastTo S16x768 (extractStridedSlice S16x1 ![16, s % 128] bc (sl_col16 s)) broadcasts_S16x1_S16x768))
    0x00000000#32 reduces_S16x768_S768 (.inl rfl) rfl) shapeCasts_S768_S1x768

/-- 128 rows stack to a chunk. -/
theorem rows_concat (f : Fin 128 → FVec F S1x768 .f32) :
    Shape.Concatenates ((List.ofFn fun n : Fin 128 => (⟨S1x768, f n⟩ : (s : Shape) × (s.Idx → F .f32))).map (·.1)) S128x768 0 := by
  have : (List.ofFn fun n : Fin 128 => (⟨S1x768, f n⟩ : (s : Shape) × (s.Idx → F .f32))).map (·.1) = List.replicate 128 S1x768 := by
    rw [List.map_ofFn, ← List.ofFn_const]; rfl
  rw [this]; decide +kernel

/-- The chunk's 128 rows, row `s` from the state after `ord`'s step number `pos s`. -/
def hrows (ord pos : ℕ → ℕ) (A : FVec F S16x768 .f32) (dt du : FVec F S128x768 .f32) (bc : FVec F S32x128 .f32) (acc : FVec F S16x768 .f32) :
    FVec F S128x768 .f32 :=
  concatenate S128x768 0 (List.ofFn fun n : Fin 128 => (⟨S1x768, hrow bc n.val (hseq ord A dt du bc acc (pos n.val + 1))⟩ : (s : Shape) × (s.Idx → F .f32)))
    (rows_concat _)

/-- The transposed B and C of a chunk. -/
def bcT (v : Vec F S128x32 .f32) : FVec F S32x128 .f32 := transpose S32x128 [1, 0] v transposes_S128x32_p1_0_S32x128

/-- The forward order. -/
abbrev fwd : ℕ → ℕ := fun n => n
/-- The backward order. -/
abbrev bwd : ℕ → ℕ := fun n => 127 - n

end Cert.Proof.Ker
end
-- ==== Proof.ScanRead.lean ====
module

public import proofs.«01_k».proof.Proof.Gen.KernelIdeal.Frame
public import proofs.«01_k».proof.Proof.Spec
public import proofs.«01_k».proof.Proof.ScanStep
public import Idealize.ShloMosaic.Lib.Pointwise
public import Idealize.ShloMosaic.Lib.Pipeline.ValueKit

@[expose] public section

set_option maxRecDepth 65536

noncomputable section

namespace Cert.Proof.Ker

open Cert.KernelIdeal Cert.KernelIdeal.Gen
open Idealize.ShloMosaic
open Idealize.ShloMosaic.TcCoe
open Idealize.SL.Sem

/-- One step of the kernel's scan, at an index. -/
theorem hstep_at (A : FVec Ideal S16x768 .f32) (dt du : FVec Ideal S128x768 .f32) (bc : FVec Ideal S32x128 .f32) (s : ℕ) (h : FVec Ideal S16x768 .f32)
    (A2 DT DU BC H : Mat) (hA : ∀ n d, A (ix2 n d) = A2 n.val d.val) (hdt : ∀ n d, dt (ix2 n d) = DT n.val d.val)
    (hdu : ∀ n d, du (ix2 n d) = DU n.val d.val) (hbc : ∀ p n, bc (ix2 p n) = BC n.val p.val) (hh : ∀ n d, h (ix2 n d) = H n.val d.val)
    (hs : s < 128) (n : Fin 16) (d : Fin 768) :
    hstep A dt du bc s h (ix2 n d) = Ideal.exp2 (A2 n.val d.val * DT s d.val) * H n.val d.val + BC s n.val * DU s d.val := by
  have e : s % 128 = s := Nat.mod_eq_of_lt hs
  pointwise [hstep, hA, hdt, hdu, hbc, hh, e]
  rfl

/-- The kernel's state after `k` steps of a chunk, at an index. -/
theorem hseq_at (ord : ℕ → ℕ) (A : FVec Ideal S16x768 .f32) (dt du : FVec Ideal S128x768 .f32) (bc : FVec Ideal S32x128 .f32) (acc : FVec Ideal S16x768 .f32)
    (A2 DT DU BC H : Mat) (hA : ∀ n d, A (ix2 n d) = A2 n.val d.val) (hdt : ∀ n d, dt (ix2 n d) = DT n.val d.val)
    (hdu : ∀ n d, du (ix2 n d) = DU n.val d.val) (hbc : ∀ p n, bc (ix2 p n) = BC n.val p.val) (hh : ∀ n d, acc (ix2 n d) = H n.val d.val)
    (k : ℕ) (ho : ∀ l < k, ord l < 128) : ∀ (n : Fin 16) (d : Fin 768), hseq ord A dt du bc acc k (ix2 n d)
      = recS (fun l n d => Ideal.exp2 (A2 n d * DT (ord l) d)) (fun l n d => BC (ord l) n * DU (ord l) d) H k n.val d.val := by
  induction k with
  | zero => exact hh
  | succ k ih => exact fun n d => hstep_at A dt du bc (ord k) _ A2 DT DU BC _ hA hdt hdu hbc (ih fun l hl => ho l (by omega)) (ho k (by omega)) n d

/-- A row the kernel's scan writes, at an index. -/
theorem hrow_at (bc : FVec Ideal S32x128 .f32) (s : ℕ) (h : FVec Ideal S16x768 .f32) (BC H : Mat) (hbc : ∀ p n, bc (ix2 p n) = BC n.val p.val)
    (hh : ∀ n d, h (ix2 n d) = H n.val d.val) (hs : s < 128) (d : Fin 768) :
    hrow bc s h (ix2 0 d) = ∑ n : Fin 16, H n.val d.val * BC s (16 + n.val) := by
  have e : s % 128 = s := Nat.mod_eq_of_lt hs
  pointwise [hrow, hbc, hh, e]

/-- The chunk's rows, at an index. -/
theorem hrows_at (ord pos : ℕ → ℕ) (A : FVec Ideal S16x768 .f32) (dt du : FVec Ideal S128x768 .f32) (bc : FVec Ideal S32x128 .f32) (acc : FVec Ideal S16x768 .f32)
    (A2 DT DU BC H : Mat) (hA : ∀ n d, A (ix2 n d) = A2 n.val d.val) (hdt : ∀ n d, dt (ix2 n d) = DT n.val d.val)
    (hdu : ∀ n d, du (ix2 n d) = DU n.val d.val) (hbc : ∀ p n, bc (ix2 p n) = BC n.val p.val) (hh : ∀ n d, acc (ix2 n d) = H n.val d.val)
    (ho : ∀ l < 128, ord l < 128) (hp : ∀ l < 128, pos l < 128) (s : Fin 128) (d : Fin 768) :
    hrows ord pos A dt du bc acc (ix2 s d)
      = ∑ n : Fin 16, recS (fun l n d => Ideal.exp2 (A2 n d * DT (ord l) d)) (fun l n d => BC (ord l) n * DU (ord l) d) H (pos s.val + 1) n.val d.val * BC s.val (16 + n.val) := by
  unfold hrows
  refine concatenate_ofFn_unit_eq (a := 0) _ _ _ _ rfl rfl fun n i hn h0 hi => ?_
  have hs : s = n := Fin.ext hn
  subst hs
  idx_vars i
  obtain rfl : i0 = 0 := Subsingleton.elim _ _
  have hd : i1 = d := Fin.ext (by simpa using hi 1 (by decide))
  subst hd
  have := hp s.val s.isLt
  exact hrow_at bc s.val _ BC _ hbc (hseq_at ord A dt du bc acc A2 DT DU BC H hA hdt hdu hbc hh (pos s.val + 1) fun l hl => ho l (by omega)) s.isLt i1

end Cert.Proof.Ker
-- ==== Proof.ScanLoop.lean ====
module

public import proofs.«01_k».proof.Proof.Gen.KernelIdeal.Frame
public import proofs.«01_k».proof.Proof.ScanRead
public import proofs.«01_k».proof.Proof.Spec
public import Idealize.ShloMosaic.Lib.Pointwise
public import Idealize.ShloMosaic.Lib.Pipeline.ValueKit

@[expose] public section

set_option maxRecDepth 65536

noncomputable section

namespace Cert.Proof.Ker

open Cert.KernelIdeal Cert.KernelIdeal.Gen
open Idealize.ShloMosaic
open Idealize.ShloMosaic.TcCoe
open Idealize.SL.Sem

/-- What row `r` of a scan holds: the state after the row's step (number `T r`) read against C and summed over the 16 state numbers. -/
def scanS (T : ℕ → ℕ) (A2 DT DU BC : Mat) (r d : ℕ) : EReal :=
  ∑ n : Fin 16, recS (fun l n d => Ideal.exp2 (A2 n d * DT (T l) d)) (fun l n d => BC (T l) n * DU (T l) d) (fun _ _ => 0) (T r + 1) n.val d * BC r (16 + n.val)

/-- A loop over eight chunks, each run by the chunk's recursion: its state is the whole recursion's, and its stores hold the scan's rows. -/
theorem chunks (T ord base : ℕ → ℕ) (hT : ∀ k < 8, ∀ l < 128, base k + ord l = T (128 * k + l)) (hT' : ∀ k < 8, ∀ s < 128, T (base k + s) = 128 * k + ord s)
    (ho : ∀ l < 128, ord l < 128)
    (st : ℕ → FVec Ideal S16x768 .f32 × List (View.Piece (Elt Ideal) S1x1x1024x768 .f32)) (A : FVec Ideal S16x768 .f32) (A2 DT DU BC : Mat)
    (hA : ∀ n d, A (ix2 n d) = A2 n.val d.val) (h0 : ∀ n d, (st 0).1 (ix2 n d) = 0) (h0' : (st 0).2 = [])
    (hs : ∀ k < 8, ∃ (dt du : FVec Ideal S128x768 .f32) (bc : FVec Ideal S128x32 .f32) (off : Fin 4 → ℕ) (hO : ∀ a, off a + S1x1x128x768.size a ≤ S1x1x1024x768.size a),
      off = ![0, 0, base k, 0] ∧
      st (k + 1) = (hseq ord A dt du (bcT bc) (st k).1 128,
        [⟨Rect.unit (s := S1x1x1024x768) off S1x1x128x768.size hO, shapeCast S1x1x128x768 (hrows ord ord A dt du (bcT bc) (st k).1) shapeCasts_S128x768_S1x1x128x768⟩] ++ (st k).2) ∧
      (∀ s d, dt (ix2 s d) = DT (base k + s.val) d.val) ∧ (∀ s d, du (ix2 s d) = DU (base k + s.val) d.val) ∧ (∀ s p, bc (ix2 s p) = BC (base k + s.val) p.val)) :
    ∀ k ≤ 8, (∀ n d, (st k).1 (ix2 n d) = recS (fun l n d => Ideal.exp2 (A2 n d * DT (T l) d)) (fun l n d => BC (T l) n * DU (T l) d) (fun _ _ => 0) (128 * k) n.val d.val)
      ∧ ∀ y, View.AllAt (st k).2 y (scanS T A2 DT DU BC (y 2).val (y 3).val) := by
  intro k
  induction k with
  | zero => exact fun _ => ⟨h0, fun y => h0' ▸ View.allAt_nil y _⟩
  | succ k ih =>
    intro hk
    obtain ⟨ih1, ih2⟩ := ih (by omega)
    obtain ⟨dt, du, bc, off, hO, rfl, e, hdt, hdu, hbc⟩ := hs k (by omega)
    have hb : ∀ (p : Fin 32) (n : Fin 128), bcT (F := Ideal) bc (ix2 p n) = BC (base k + n.val) p.val := fun p n => by pointwise [bcT, hbc]
    have key : ∀ j ≤ 128, ∀ n < 16, ∀ d < 768, recS (fun l n d => Ideal.exp2 (A2 n d * DT (base k + ord l) d)) (fun l n d => BC (base k + ord l) n * DU (base k + ord l) d)
        (recS (fun l n d => Ideal.exp2 (A2 n d * DT (T l) d)) (fun l n d => BC (T l) n * DU (T l) d) (fun _ _ => 0) (128 * k)) j n d
        = recS (fun l n d => Ideal.exp2 (A2 n d * DT (T l) d)) (fun l n d => BC (T l) n * DU (T l) d) (fun _ _ => 0) (128 * k + j) n d := by
      intro j hj n hn d hd
      rw [recS_add]
      refine recS_congr 128 (fun l hl n _ d _ => ?_) (fun l hl n _ d _ => ?_) (fun n _ d _ => rfl) j hj n hn d hd
      · rw [hT k (by omega) l hl]
      · rw [hT k (by omega) l hl]
    rw [e]
    refine ⟨fun n d => ?_, fun y => View.allAt_cons_unit _ _ _ _ _ ?_ (ih2 y)⟩
    · exact (hseq_at ord A dt du (bcT bc) _ A2 (fun s d => DT (base k + s) d) (fun s d => DU (base k + s) d) (fun s p => BC (base k + s) p) _ hA hdt hdu hb ih1 128 ho n d).trans
        (key 128 (le_refl _) n.val n.isLt d.val d.isLt)
    · have hr := hrows_at ord ord A dt du (bcT bc) _ A2 (fun s d => DT (base k + s) d) (fun s d => DU (base k + s) d) (fun s p => BC (base k + s) p) _ hA hdt hdu hb ih1 ho ho
      intro x hx
      have hx2 := hx 2
      have hx3 := hx 3
      generalize hrows ord ord A dt du (bcT bc) (st k).1 = R at hr
      idx_vars x
      obtain rfl : x0 = 0 := Subsingleton.elim _ _
      obtain rfl : x1 = 0 := Subsingleton.elim _ _
      have e2 : (y 2).val = base k + x2.val := by simpa using hx2
      have e3 : (y 3).val = x3.val := by simpa using hx3
      have h' : shapeCast S1x1x128x768 R shapeCasts_S128x768_S1x1x128x768 (ix4 0 0 x2 x3) = R (ix2 x2 x3) := by pointwise
      refine h'.trans ((hr x2 x3).trans ?_)
      rw [e2, e3]
      unfold scanS
      rw [hT' k (by omega) x2.val x2.isLt]
      refine Finset.sum_congr rfl fun n _ => ?_
      rw [key (ord x2.val + 1) (by have := ho x2.val x2.isLt; omega) n.val n.isLt x3.val x3.isLt]
      rfl

end Cert.Proof.Ker
-- ==== Proof.ScanTrip.lean ====
/-
  What one trip of each scan loop computes: the state it hands on is the chunk's recursion run 128 steps, and it stores
  the chunk's 128 rows. The four loops (forward and backward, in both layers' scans) are read off their runs; the text of
  the four statements differs only in the loop named and in the order of the steps.
-/
module

public import proofs.«01_k».proof.Proof.ScanStep

@[expose] public section

set_option maxRecDepth 65536

noncomputable section

namespace Cert.Proof.Ker

open Cert.KernelIdeal Cert.KernelIdeal.Gen
open Idealize.ShloMosaic Idealize.ShloMosaic.Tactic
open Idealize.ShloMosaic.TcCoe
open Idealize.SL.Sem

variable {F : FTy → Type} [FloatOps F] [Named F]

/-- The state that a trip of the first layer's forward loop hands on. -/
theorem tripR_k4_t1_eq (𝒱 : Variants) (c : Dev nD) (bd : Option 𝒱.V) (i : grid4.Coords) (arg2 : Memref sig .tc .vmem S1x1x1024x768 .f32) (harg2 : arg2.IsWhole) (arg3 : Memref sig .tc .vmem S1x56x768 .f32) (harg3 : arg3.IsWhole) (arg4 : Memref sig .tc .vmem S1x768x24 .f32) (harg4 : arg4.IsWhole) (arg5 : Memref sig .tc .vmem S1x1x768 .f32) (harg5 : arg5.IsWhole) (arg6 : Memref sig .tc .vmem S1x16x768 .f32) (harg6 : arg6.IsWhole) (arg7 : Memref sig .tc .vmem S1x1x1024x768 .f32) (harg7 : arg7.IsWhole) (arg8 : Memref sig .tc .vmem S1024x768 .f32) (harg8 : arg8.IsWhole) (arg9 : Memref sig .tc .vmem S1024x768 .f32) (harg9 : arg9.IsWhole) (arg10 : Memref sig .tc .vmem S1024x32 .f32) (harg10 : arg10.IsWhole) (arg11 : Memref sig .tc .vmem S16x768 .f32) (harg11 : arg11.IsWhole) (k4_h1 : k4_cond1 i = 1#1) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (k : Fin k4_t1_loop.trips) (acc : FVec F S16x768 .f32)
    (hA : ∀ a, (![0, 0] : Fin 2 → ℕ) a + S16x768.size a ≤ S16x768.size a) (hD : ∀ a, k4_off1 k a + S128x768.size a ≤ S1024x768.size a) (hB : ∀ a, k4_off2 k a + S128x32.size a ≤ S1024x32.size a) (hO : ∀ a, k4_off3 k a + S1x1x128x768.size a ≤ S1x1x1024x768.size a) :
    tripR_k4_t1 (F := F) 𝒱 c bd i arg2 harg2 arg3 harg3 arg4 harg4 arg5 harg5 arg6 harg6 arg7 harg7 arg8 harg8 arg9 harg9 arg10 harg10 arg11 harg11 k4_h1 X_arg8 X_arg9 X_arg10 X_arg11 k acc = hseq fwd (View.readAt (Elt F) arg11.view (Rect.unit (s := S16x768) ![0, 0] S16x768.size hA).toLoadRect X_arg11) (View.readAt (Elt F) arg8.view (Rect.unit (s := S1024x768) (k4_off1 k) S128x768.size hD).toLoadRect X_arg8) (View.readAt (Elt F) arg9.view (Rect.unit (s := S1024x768) (k4_off1 k) S128x768.size hD).toLoadRect X_arg9) (bcT (View.readAt (Elt F) arg10.view (Rect.unit (s := S1024x32) (k4_off2 k) S128x32.size hB).toLoadRect X_arg10)) acc 128 := by
  sl_kernel_rfl

/-- What a trip of the first layer's forward loop stores. -/
theorem tripL_k4_t1_eq (𝒱 : Variants) (c : Dev nD) (bd : Option 𝒱.V) (i : grid4.Coords) (arg2 : Memref sig .tc .vmem S1x1x1024x768 .f32) (harg2 : arg2.IsWhole) (arg3 : Memref sig .tc .vmem S1x56x768 .f32) (harg3 : arg3.IsWhole) (arg4 : Memref sig .tc .vmem S1x768x24 .f32) (harg4 : arg4.IsWhole) (arg5 : Memref sig .tc .vmem S1x1x768 .f32) (harg5 : arg5.IsWhole) (arg6 : Memref sig .tc .vmem S1x16x768 .f32) (harg6 : arg6.IsWhole) (arg7 : Memref sig .tc .vmem S1x1x1024x768 .f32) (harg7 : arg7.IsWhole) (arg8 : Memref sig .tc .vmem S1024x768 .f32) (harg8 : arg8.IsWhole) (arg9 : Memref sig .tc .vmem S1024x768 .f32) (harg9 : arg9.IsWhole) (arg10 : Memref sig .tc .vmem S1024x32 .f32) (harg10 : arg10.IsWhole) (arg11 : Memref sig .tc .vmem S16x768 .f32) (harg11 : arg11.IsWhole) (k4_h1 : k4_cond1 i = 1#1) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (k : Fin k4_t1_loop.trips) (acc : FVec F S16x768 .f32)
    (hA : ∀ a, (![0, 0] : Fin 2 → ℕ) a + S16x768.size a ≤ S16x768.size a) (hD : ∀ a, k4_off1 k a + S128x768.size a ≤ S1024x768.size a) (hB : ∀ a, k4_off2 k a + S128x32.size a ≤ S1024x32.size a) (hO : ∀ a, k4_off3 k a + S1x1x128x768.size a ≤ S1x1x1024x768.size a) :
    tripL_k4_t1 (F := F) 𝒱 c bd i arg2 harg2 arg3 harg3 arg4 harg4 arg5 harg5 arg6 harg6 arg7 harg7 arg8 harg8 arg9 harg9 arg10 harg10 arg11 harg11 k4_h1 X_arg8 X_arg9 X_arg10 X_arg11 k acc = [⟨Rect.unit (s := S1x1x1024x768) (k4_off3 k) S1x1x128x768.size hO, shapeCast S1x1x128x768 (hrows fwd fwd (View.readAt (Elt F) arg11.view (Rect.unit (s := S16x768) ![0, 0] S16x768.size hA).toLoadRect X_arg11) (View.readAt (Elt F) arg8.view (Rect.unit (s := S1024x768) (k4_off1 k) S128x768.size hD).toLoadRect X_arg8) (View.readAt (Elt F) arg9.view (Rect.unit (s := S1024x768) (k4_off1 k) S128x768.size hD).toLoadRect X_arg9) (bcT (View.readAt (Elt F) arg10.view (Rect.unit (s := S1024x32) (k4_off2 k) S128x32.size hB).toLoadRect X_arg10)) acc) shapeCasts_S128x768_S1x1x128x768⟩] := by
  sl_kernel_rfl

/-- The state that a trip of the first layer's backward loop hands on. -/
theorem tripR_k4_t2_eq (𝒱 : Variants) (c : Dev nD) (bd : Option 𝒱.V) (i : grid4.Coords) (arg2 : Memref sig .tc .vmem S1x1x1024x768 .f32) (harg2 : arg2.IsWhole) (arg3 : Memref sig .tc .vmem S1x56x768 .f32) (harg3 : arg3.IsWhole) (arg4 : Memref sig .tc .vmem S1x768x24 .f32) (harg4 : arg4.IsWhole) (arg5 : Memref sig .tc .vmem S1x1x768 .f32) (harg5 : arg5.IsWhole) (arg6 : Memref sig .tc .vmem S1x16x768 .f32) (harg6 : arg6.IsWhole) (arg7 : Memref sig .tc .vmem S1x1x1024x768 .f32) (harg7 : arg7.IsWhole) (arg8 : Memref sig .tc .vmem S1024x768 .f32) (harg8 : arg8.IsWhole) (arg9 : Memref sig .tc .vmem S1024x768 .f32) (harg9 : arg9.IsWhole) (arg10 : Memref sig .tc .vmem S1024x32 .f32) (harg10 : arg10.IsWhole) (arg11 : Memref sig .tc .vmem S16x768 .f32) (harg11 : arg11.IsWhole) (k4_h2 : k4_cond2 i = 1#1) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (k : Fin k4_t2_loop.trips) (acc : FVec F S16x768 .f32)
    (hA : ∀ a, (![0, 0] : Fin 2 → ℕ) a + S16x768.size a ≤ S16x768.size a) (hD : ∀ a, k4_off4 k a + S128x768.size a ≤ S1024x768.size a) (hB : ∀ a, k4_off5 k a + S128x32.size a ≤ S1024x32.size a) (hO : ∀ a, k4_off6 k a + S1x1x128x768.size a ≤ S1x1x1024x768.size a) :
    tripR_k4_t2 (F := F) 𝒱 c bd i arg2 harg2 arg3 harg3 arg4 harg4 arg5 harg5 arg6 harg6 arg7 harg7 arg8 harg8 arg9 harg9 arg10 harg10 arg11 harg11 k4_h2 X_arg8 X_arg9 X_arg10 X_arg11 k acc = hseq bwd (View.readAt (Elt F) arg11.view (Rect.unit (s := S16x768) ![0, 0] S16x768.size hA).toLoadRect X_arg11) (View.readAt (Elt F) arg8.view (Rect.unit (s := S1024x768) (k4_off4 k) S128x768.size hD).toLoadRect X_arg8) (View.readAt (Elt F) arg9.view (Rect.unit (s := S1024x768) (k4_off4 k) S128x768.size hD).toLoadRect X_arg9) (bcT (View.readAt (Elt F) arg10.view (Rect.unit (s := S1024x32) (k4_off5 k) S128x32.size hB).toLoadRect X_arg10)) acc 128 := by
  sl_kernel_rfl

/-- What a trip of the first layer's backward loop stores. -/
theorem tripL_k4_t2_eq (𝒱 : Variants) (c : Dev nD) (bd : Option 𝒱.V) (i : grid4.Coords) (arg2 : Memref sig .tc .vmem S1x1x1024x768 .f32) (harg2 : arg2.IsWhole) (arg3 : Memref sig .tc .vmem S1x56x768 .f32) (harg3 : arg3.IsWhole) (arg4 : Memref sig .tc .vmem S1x768x24 .f32) (harg4 : arg4.IsWhole) (arg5 : Memref sig .tc .vmem S1x1x768 .f32) (harg5 : arg5.IsWhole) (arg6 : Memref sig .tc .vmem S1x16x768 .f32) (harg6 : arg6.IsWhole) (arg7 : Memref sig .tc .vmem S1x1x1024x768 .f32) (harg7 : arg7.IsWhole) (arg8 : Memref sig .tc .vmem S1024x768 .f32) (harg8 : arg8.IsWhole) (arg9 : Memref sig .tc .vmem S1024x768 .f32) (harg9 : arg9.IsWhole) (arg10 : Memref sig .tc .vmem S1024x32 .f32) (harg10 : arg10.IsWhole) (arg11 : Memref sig .tc .vmem S16x768 .f32) (harg11 : arg11.IsWhole) (k4_h2 : k4_cond2 i = 1#1) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (k : Fin k4_t2_loop.trips) (acc : FVec F S16x768 .f32)
    (hA : ∀ a, (![0, 0] : Fin 2 → ℕ) a + S16x768.size a ≤ S16x768.size a) (hD : ∀ a, k4_off4 k a + S128x768.size a ≤ S1024x768.size a) (hB : ∀ a, k4_off5 k a + S128x32.size a ≤ S1024x32.size a) (hO : ∀ a, k4_off6 k a + S1x1x128x768.size a ≤ S1x1x1024x768.size a) :
    tripL_k4_t2 (F := F) 𝒱 c bd i arg2 harg2 arg3 harg3 arg4 harg4 arg5 harg5 arg6 harg6 arg7 harg7 arg8 harg8 arg9 harg9 arg10 harg10 arg11 harg11 k4_h2 X_arg8 X_arg9 X_arg10 X_arg11 k acc = [⟨Rect.unit (s := S1x1x1024x768) (k4_off6 k) S1x1x128x768.size hO, shapeCast S1x1x128x768 (hrows bwd bwd (View.readAt (Elt F) arg11.view (Rect.unit (s := S16x768) ![0, 0] S16x768.size hA).toLoadRect X_arg11) (View.readAt (Elt F) arg8.view (Rect.unit (s := S1024x768) (k4_off4 k) S128x768.size hD).toLoadRect X_arg8) (View.readAt (Elt F) arg9.view (Rect.unit (s := S1024x768) (k4_off4 k) S128x768.size hD).toLoadRect X_arg9) (bcT (View.readAt (Elt F) arg10.view (Rect.unit (s := S1024x32) (k4_off5 k) S128x32.size hB).toLoadRect X_arg10)) acc) shapeCasts_S128x768_S1x1x128x768⟩] := by
  sl_kernel_rfl

/-- The state that a trip of the second layer's forward loop hands on. -/
theorem tripR_k8_t1_eq (𝒱 : Variants) (c : Dev nD) (bd : Option 𝒱.V) (i : grid8.Coords) (arg2 : Memref sig .tc .vmem S1x1x1024x768 .f32) (harg2 : arg2.IsWhole) (arg3 : Memref sig .tc .vmem S1x56x768 .f32) (harg3 : arg3.IsWhole) (arg4 : Memref sig .tc .vmem S1x768x24 .f32) (harg4 : arg4.IsWhole) (arg5 : Memref sig .tc .vmem S1x1x768 .f32) (harg5 : arg5.IsWhole) (arg6 : Memref sig .tc .vmem S1x16x768 .f32) (harg6 : arg6.IsWhole) (arg7 : Memref sig .tc .vmem S1x1x1024x768 .f32) (harg7 : arg7.IsWhole) (arg8 : Memref sig .tc .vmem S1024x768 .f32) (harg8 : arg8.IsWhole) (arg9 : Memref sig .tc .vmem S1024x768 .f32) (harg9 : arg9.IsWhole) (arg10 : Memref sig .tc .vmem S1024x32 .f32) (harg10 : arg10.IsWhole) (arg11 : Memref sig .tc .vmem S16x768 .f32) (harg11 : arg11.IsWhole) (k8_h1 : k8_cond1 i = 1#1) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (k : Fin k8_t1_loop.trips) (acc : FVec F S16x768 .f32)
    (hA : ∀ a, (![0, 0] : Fin 2 → ℕ) a + S16x768.size a ≤ S16x768.size a) (hD : ∀ a, k8_off1 k a + S128x768.size a ≤ S1024x768.size a) (hB : ∀ a, k8_off2 k a + S128x32.size a ≤ S1024x32.size a) (hO : ∀ a, k8_off3 k a + S1x1x128x768.size a ≤ S1x1x1024x768.size a) :
    tripR_k8_t1 (F := F) 𝒱 c bd i arg2 harg2 arg3 harg3 arg4 harg4 arg5 harg5 arg6 harg6 arg7 harg7 arg8 harg8 arg9 harg9 arg10 harg10 arg11 harg11 k8_h1 X_arg8 X_arg9 X_arg10 X_arg11 k acc = hseq fwd (View.readAt (Elt F) arg11.view (Rect.unit (s := S16x768) ![0, 0] S16x768.size hA).toLoadRect X_arg11) (View.readAt (Elt F) arg8.view (Rect.unit (s := S1024x768) (k8_off1 k) S128x768.size hD).toLoadRect X_arg8) (View.readAt (Elt F) arg9.view (Rect.unit (s := S1024x768) (k8_off1 k) S128x768.size hD).toLoadRect X_arg9) (bcT (View.readAt (Elt F) arg10.view (Rect.unit (s := S1024x32) (k8_off2 k) S128x32.size hB).toLoadRect X_arg10)) acc 128 := by
  sl_kernel_rfl

/-- What a trip of the second layer's forward loop stores. -/
theorem tripL_k8_t1_eq (𝒱 : Variants) (c : Dev nD) (bd : Option 𝒱.V) (i : grid8.Coords) (arg2 : Memref sig .tc .vmem S1x1x1024x768 .f32) (harg2 : arg2.IsWhole) (arg3 : Memref sig .tc .vmem S1x56x768 .f32) (harg3 : arg3.IsWhole) (arg4 : Memref sig .tc .vmem S1x768x24 .f32) (harg4 : arg4.IsWhole) (arg5 : Memref sig .tc .vmem S1x1x768 .f32) (harg5 : arg5.IsWhole) (arg6 : Memref sig .tc .vmem S1x16x768 .f32) (harg6 : arg6.IsWhole) (arg7 : Memref sig .tc .vmem S1x1x1024x768 .f32) (harg7 : arg7.IsWhole) (arg8 : Memref sig .tc .vmem S1024x768 .f32) (harg8 : arg8.IsWhole) (arg9 : Memref sig .tc .vmem S1024x768 .f32) (harg9 : arg9.IsWhole) (arg10 : Memref sig .tc .vmem S1024x32 .f32) (harg10 : arg10.IsWhole) (arg11 : Memref sig .tc .vmem S16x768 .f32) (harg11 : arg11.IsWhole) (k8_h1 : k8_cond1 i = 1#1) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (k : Fin k8_t1_loop.trips) (acc : FVec F S16x768 .f32)
    (hA : ∀ a, (![0, 0] : Fin 2 → ℕ) a + S16x768.size a ≤ S16x768.size a) (hD : ∀ a, k8_off1 k a + S128x768.size a ≤ S1024x768.size a) (hB : ∀ a, k8_off2 k a + S128x32.size a ≤ S1024x32.size a) (hO : ∀ a, k8_off3 k a + S1x1x128x768.size a ≤ S1x1x1024x768.size a) :
    tripL_k8_t1 (F := F) 𝒱 c bd i arg2 harg2 arg3 harg3 arg4 harg4 arg5 harg5 arg6 harg6 arg7 harg7 arg8 harg8 arg9 harg9 arg10 harg10 arg11 harg11 k8_h1 X_arg8 X_arg9 X_arg10 X_arg11 k acc = [⟨Rect.unit (s := S1x1x1024x768) (k8_off3 k) S1x1x128x768.size hO, shapeCast S1x1x128x768 (hrows fwd fwd (View.readAt (Elt F) arg11.view (Rect.unit (s := S16x768) ![0, 0] S16x768.size hA).toLoadRect X_arg11) (View.readAt (Elt F) arg8.view (Rect.unit (s := S1024x768) (k8_off1 k) S128x768.size hD).toLoadRect X_arg8) (View.readAt (Elt F) arg9.view (Rect.unit (s := S1024x768) (k8_off1 k) S128x768.size hD).toLoadRect X_arg9) (bcT (View.readAt (Elt F) arg10.view (Rect.unit (s := S1024x32) (k8_off2 k) S128x32.size hB).toLoadRect X_arg10)) acc) shapeCasts_S128x768_S1x1x128x768⟩] := by
  sl_kernel_rfl

/-- The state that a trip of the second layer's backward loop hands on. -/
theorem tripR_k8_t2_eq (𝒱 : Variants) (c : Dev nD) (bd : Option 𝒱.V) (i : grid8.Coords) (arg2 : Memref sig .tc .vmem S1x1x1024x768 .f32) (harg2 : arg2.IsWhole) (arg3 : Memref sig .tc .vmem S1x56x768 .f32) (harg3 : arg3.IsWhole) (arg4 : Memref sig .tc .vmem S1x768x24 .f32) (harg4 : arg4.IsWhole) (arg5 : Memref sig .tc .vmem S1x1x768 .f32) (harg5 : arg5.IsWhole) (arg6 : Memref sig .tc .vmem S1x16x768 .f32) (harg6 : arg6.IsWhole) (arg7 : Memref sig .tc .vmem S1x1x1024x768 .f32) (harg7 : arg7.IsWhole) (arg8 : Memref sig .tc .vmem S1024x768 .f32) (harg8 : arg8.IsWhole) (arg9 : Memref sig .tc .vmem S1024x768 .f32) (harg9 : arg9.IsWhole) (arg10 : Memref sig .tc .vmem S1024x32 .f32) (harg10 : arg10.IsWhole) (arg11 : Memref sig .tc .vmem S16x768 .f32) (harg11 : arg11.IsWhole) (k8_h2 : k8_cond2 i = 1#1) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (k : Fin k8_t2_loop.trips) (acc : FVec F S16x768 .f32)
    (hA : ∀ a, (![0, 0] : Fin 2 → ℕ) a + S16x768.size a ≤ S16x768.size a) (hD : ∀ a, k8_off4 k a + S128x768.size a ≤ S1024x768.size a) (hB : ∀ a, k8_off5 k a + S128x32.size a ≤ S1024x32.size a) (hO : ∀ a, k8_off6 k a + S1x1x128x768.size a ≤ S1x1x1024x768.size a) :
    tripR_k8_t2 (F := F) 𝒱 c bd i arg2 harg2 arg3 harg3 arg4 harg4 arg5 harg5 arg6 harg6 arg7 harg7 arg8 harg8 arg9 harg9 arg10 harg10 arg11 harg11 k8_h2 X_arg8 X_arg9 X_arg10 X_arg11 k acc = hseq bwd (View.readAt (Elt F) arg11.view (Rect.unit (s := S16x768) ![0, 0] S16x768.size hA).toLoadRect X_arg11) (View.readAt (Elt F) arg8.view (Rect.unit (s := S1024x768) (k8_off4 k) S128x768.size hD).toLoadRect X_arg8) (View.readAt (Elt F) arg9.view (Rect.unit (s := S1024x768) (k8_off4 k) S128x768.size hD).toLoadRect X_arg9) (bcT (View.readAt (Elt F) arg10.view (Rect.unit (s := S1024x32) (k8_off5 k) S128x32.size hB).toLoadRect X_arg10)) acc 128 := by
  sl_kernel_rfl

/-- What a trip of the second layer's backward loop stores. -/
theorem tripL_k8_t2_eq (𝒱 : Variants) (c : Dev nD) (bd : Option 𝒱.V) (i : grid8.Coords) (arg2 : Memref sig .tc .vmem S1x1x1024x768 .f32) (harg2 : arg2.IsWhole) (arg3 : Memref sig .tc .vmem S1x56x768 .f32) (harg3 : arg3.IsWhole) (arg4 : Memref sig .tc .vmem S1x768x24 .f32) (harg4 : arg4.IsWhole) (arg5 : Memref sig .tc .vmem S1x1x768 .f32) (harg5 : arg5.IsWhole) (arg6 : Memref sig .tc .vmem S1x16x768 .f32) (harg6 : arg6.IsWhole) (arg7 : Memref sig .tc .vmem S1x1x1024x768 .f32) (harg7 : arg7.IsWhole) (arg8 : Memref sig .tc .vmem S1024x768 .f32) (harg8 : arg8.IsWhole) (arg9 : Memref sig .tc .vmem S1024x768 .f32) (harg9 : arg9.IsWhole) (arg10 : Memref sig .tc .vmem S1024x32 .f32) (harg10 : arg10.IsWhole) (arg11 : Memref sig .tc .vmem S16x768 .f32) (harg11 : arg11.IsWhole) (k8_h2 : k8_cond2 i = 1#1) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (k : Fin k8_t2_loop.trips) (acc : FVec F S16x768 .f32)
    (hA : ∀ a, (![0, 0] : Fin 2 → ℕ) a + S16x768.size a ≤ S16x768.size a) (hD : ∀ a, k8_off4 k a + S128x768.size a ≤ S1024x768.size a) (hB : ∀ a, k8_off5 k a + S128x32.size a ≤ S1024x32.size a) (hO : ∀ a, k8_off6 k a + S1x1x128x768.size a ≤ S1x1x1024x768.size a) :
    tripL_k8_t2 (F := F) 𝒱 c bd i arg2 harg2 arg3 harg3 arg4 harg4 arg5 harg5 arg6 harg6 arg7 harg7 arg8 harg8 arg9 harg9 arg10 harg10 arg11 harg11 k8_h2 X_arg8 X_arg9 X_arg10 X_arg11 k acc = [⟨Rect.unit (s := S1x1x1024x768) (k8_off6 k) S1x1x128x768.size hO, shapeCast S1x1x128x768 (hrows bwd bwd (View.readAt (Elt F) arg11.view (Rect.unit (s := S16x768) ![0, 0] S16x768.size hA).toLoadRect X_arg11) (View.readAt (Elt F) arg8.view (Rect.unit (s := S1024x768) (k8_off4 k) S128x768.size hD).toLoadRect X_arg8) (View.readAt (Elt F) arg9.view (Rect.unit (s := S1024x768) (k8_off4 k) S128x768.size hD).toLoadRect X_arg9) (bcT (View.readAt (Elt F) arg10.view (Rect.unit (s := S1024x32) (k8_off5 k) S128x32.size hB).toLoadRect X_arg10)) acc) shapeCasts_S128x768_S1x1x128x768⟩] := by
  sl_kernel_rfl

end Cert.Proof.Ker
end
-- ==== Proof.KR4L.lean ====
module

public import proofs.«01_k».proof.Proof.Gen.KernelIdeal.Frame
public import proofs.«01_k».proof.Proof.ScanLoop
public import proofs.«01_k».proof.Proof.ScanTrip
public import proofs.«01_k».proof.Proof.Spec
public import Idealize.ShloMosaic.Lib.Pointwise
public import Idealize.ShloMosaic.Lib.Pipeline.ValueKit

@[expose] public section

set_option maxRecDepth 65536

noncomputable section

namespace Cert.Proof.Ker

open Cert.KernelIdeal Cert.KernelIdeal.Gen
open Idealize.ShloMosaic
open Idealize.ShloMosaic.TcCoe
open Idealize.SL.Sem

/-- The chunk of 128 rows that a load reads of a block of 1024. -/
theorem ld_rows (X : Vec Ideal S1024x768 .f32) (D : Mat) (h : ∀ (l : Fin 1024) (d : Fin 768), X (ix2 l d) = D l.val d.val) (off : Fin 2 → ℕ) (n : ℕ) (ho : off = ![n, 0])
    (inb : ∀ a, off a + S128x768.size a ≤ S1024x768.size a) (s : Fin 128) (d : Fin 768) :
    View.ld (Val := Elt Ideal) (e' := .f32) X (Rect.unit (s := S1024x768) off S128x768.size inb) (ix2 s d) = D (n + s.val) d.val := by
  subst ho
  have hn : n + 128 ≤ 1024 := inb 0
  rw [View.ld_apply, ← h ⟨n + s.val, by omega⟩ d]
  refine congrArg _ (funext fun a => ?_)
  apply Fin.ext
  fin_cases a <;> simp [Rect.unit, LoadRect.idx_apply]

/-- The same of a block 32 wide. -/
theorem ld_cols (X : Vec Ideal S1024x32 .f32) (D : Mat) (h : ∀ (l : Fin 1024) (d : Fin 32), X (ix2 l d) = D l.val d.val) (off : Fin 2 → ℕ) (n : ℕ) (ho : off = ![n, 0])
    (inb : ∀ a, off a + S128x32.size a ≤ S1024x32.size a) (s : Fin 128) (d : Fin 32) :
    View.ld (Val := Elt Ideal) (e' := .f32) X (Rect.unit (s := S1024x32) off S128x32.size inb) (ix2 s d) = D (n + s.val) d.val := by
  subst ho
  have hn : n + 128 ≤ 1024 := inb 0
  rw [View.ld_apply, ← h ⟨n + s.val, by omega⟩ d]
  refine congrArg _ (funext fun a => ?_)
  apply Fin.ext
  fin_cases a <;> simp [Rect.unit, LoadRect.idx_apply]

/-- What the forward loop's stores hold. -/
theorem loop4_1 (𝒱 : Variants) (c : Dev nD) (bd : Option 𝒱.V) (i : grid4.Coords) (arg2 : Memref sig .tc .vmem S1x1x1024x768 .f32) (harg2 : arg2.IsWhole) (arg3 : Memref sig .tc .vmem S1x56x768 .f32) (harg3 : arg3.IsWhole) (arg4 : Memref sig .tc .vmem S1x768x24 .f32) (harg4 : arg4.IsWhole) (arg5 : Memref sig .tc .vmem S1x1x768 .f32) (harg5 : arg5.IsWhole) (arg6 : Memref sig .tc .vmem S1x16x768 .f32) (harg6 : arg6.IsWhole) (arg7 : Memref sig .tc .vmem S1x1x1024x768 .f32) (harg7 : arg7.IsWhole) (arg8 : Memref sig .tc .vmem S1024x768 .f32) (harg8 : arg8.IsWhole) (arg9 : Memref sig .tc .vmem S1024x768 .f32) (harg9 : arg9.IsWhole) (arg10 : Memref sig .tc .vmem S1024x32 .f32) (harg10 : arg10.IsWhole) (arg11 : Memref sig .tc .vmem S16x768 .f32) (harg11 : arg11.IsWhole) (k4_h1 : k4_cond1 i = 1#1) (X_arg8 : BufTy.Contents (Elt Ideal) arg8.view.ty) (X_arg9 : BufTy.Contents (Elt Ideal) arg9.view.ty) (X_arg10 : BufTy.Contents (Elt Ideal) arg10.view.ty) (X_arg11 : BufTy.Contents (Elt Ideal) arg11.view.ty)
    (init : FVec Ideal S16x768 .f32) (A2 DT DU BC : Mat) (hi : ∀ n d, init (ix2 n d) = 0)
    (hA : ∀ (hb : ∀ a, (![0, 0] : Fin 2 → ℕ) a + S16x768.size a ≤ S16x768.size a) (n : Fin 16) (d : Fin 768),
      View.readAt (Elt Ideal) arg11.view (Rect.unit (s := S16x768) ![0, 0] S16x768.size hb).toLoadRect X_arg11 (ix2 n d) = A2 n.val d.val)
    (hDT : ∀ (l : Fin 1024) (d : Fin 768), View.read (Elt Ideal) arg8.view X_arg8 (ix2 l d) = DT l.val d.val)
    (hDU : ∀ (l : Fin 1024) (d : Fin 768), View.read (Elt Ideal) arg9.view X_arg9 (ix2 l d) = DU l.val d.val)
    (hBC : ∀ (l : Fin 1024) (d : Fin 32), View.read (Elt Ideal) arg10.view X_arg10 (ix2 l d) = BC l.val d.val) :
    ∀ y, View.AllAt (st_k4_t1 (F := Ideal) 𝒱 c bd i arg2 harg2 arg3 harg3 arg4 harg4 arg5 harg5 arg6 harg6 arg7 harg7 arg8 harg8 arg9 harg9 arg10 harg10 arg11 harg11 k4_h1 X_arg8 X_arg9 X_arg10 X_arg11 init 8).2 y (scanS (fun l => l) A2 DT DU BC (y 2).val (y 3).val) := by
  have hAb : ∀ a, (![0, 0] : Fin 2 → ℕ) a + S16x768.size a ≤ S16x768.size a := by decide
  refine (chunks (fun l => l) fwd (fun k => 128 * k) (by intro k hk l hl; first | omega | rfl | (dsimp only [bwd]; omega)) (by intro k hk l hl; first | omega | rfl | (dsimp only [bwd]; omega)) (by intro l hl; first | omega | rfl | (dsimp only [bwd]; omega))
    (st_k4_t1 (F := Ideal) 𝒱 c bd i arg2 harg2 arg3 harg3 arg4 harg4 arg5 harg5 arg6 harg6 arg7 harg7 arg8 harg8 arg9 harg9 arg10 harg10 arg11 harg11 k4_h1 X_arg8 X_arg9 X_arg10 X_arg11 init) _ A2 DT DU BC (hA hAb) hi rfl (fun k hk => ?_) 8 (le_refl _)).2
  have e := st_k4_t1_succ (F := Ideal) 𝒱 c bd i arg2 harg2 arg3 harg3 arg4 harg4 arg5 harg5 arg6 harg6 arg7 harg7 arg8 harg8 arg9 harg9 arg10 harg10 arg11 harg11 k4_h1 X_arg8 X_arg9 X_arg10 X_arg11 init ⟨k, hk⟩
  rw [tripR_k4_t1_eq 𝒱 c bd i arg2 harg2 arg3 harg3 arg4 harg4 arg5 harg5 arg6 harg6 arg7 harg7 arg8 harg8 arg9 harg9 arg10 harg10 arg11 harg11 k4_h1 X_arg8 X_arg9 X_arg10 X_arg11 ⟨k, hk⟩ _ hAb (k4_off1_inb i ⟨k, hk⟩ k4_h1) (k4_off2_inb i ⟨k, hk⟩ k4_h1) (k4_off3_inb i ⟨k, hk⟩ k4_h1),
    tripL_k4_t1_eq 𝒱 c bd i arg2 harg2 arg3 harg3 arg4 harg4 arg5 harg5 arg6 harg6 arg7 harg7 arg8 harg8 arg9 harg9 arg10 harg10 arg11 harg11 k4_h1 X_arg8 X_arg9 X_arg10 X_arg11 ⟨k, hk⟩ _ hAb (k4_off1_inb i ⟨k, hk⟩ k4_h1) (k4_off2_inb i ⟨k, hk⟩ k4_h1) (k4_off3_inb i ⟨k, hk⟩ k4_h1)] at e
  refine ⟨_, _, _, _, _, k4_off3_eq ⟨k, hk⟩, e, fun s d => ?_, fun s d => ?_, fun s p => ?_⟩
  · exact (ld_rows _ DT hDT _ _ (k4_off1_eq ⟨k, hk⟩) _ s d)
  · exact (ld_rows _ DU hDU _ _ (k4_off1_eq ⟨k, hk⟩) _ s d)
  · exact (ld_cols _ BC hBC _ _ (k4_off2_eq ⟨k, hk⟩) _ s p)

/-- What the backward loop's stores hold. -/
theorem loop4_2 (𝒱 : Variants) (c : Dev nD) (bd : Option 𝒱.V) (i : grid4.Coords) (arg2 : Memref sig .tc .vmem S1x1x1024x768 .f32) (harg2 : arg2.IsWhole) (arg3 : Memref sig .tc .vmem S1x56x768 .f32) (harg3 : arg3.IsWhole) (arg4 : Memref sig .tc .vmem S1x768x24 .f32) (harg4 : arg4.IsWhole) (arg5 : Memref sig .tc .vmem S1x1x768 .f32) (harg5 : arg5.IsWhole) (arg6 : Memref sig .tc .vmem S1x16x768 .f32) (harg6 : arg6.IsWhole) (arg7 : Memref sig .tc .vmem S1x1x1024x768 .f32) (harg7 : arg7.IsWhole) (arg8 : Memref sig .tc .vmem S1024x768 .f32) (harg8 : arg8.IsWhole) (arg9 : Memref sig .tc .vmem S1024x768 .f32) (harg9 : arg9.IsWhole) (arg10 : Memref sig .tc .vmem S1024x32 .f32) (harg10 : arg10.IsWhole) (arg11 : Memref sig .tc .vmem S16x768 .f32) (harg11 : arg11.IsWhole) (k4_h2 : k4_cond2 i = 1#1) (X_arg8 : BufTy.Contents (Elt Ideal) arg8.view.ty) (X_arg9 : BufTy.Contents (Elt Ideal) arg9.view.ty) (X_arg10 : BufTy.Contents (Elt Ideal) arg10.view.ty) (X_arg11 : BufTy.Contents (Elt Ideal) arg11.view.ty)
    (init : FVec Ideal S16x768 .f32) (A2 DT DU BC : Mat) (hi : ∀ n d, init (ix2 n d) = 0)
    (hA : ∀ (hb : ∀ a, (![0, 0] : Fin 2 → ℕ) a + S16x768.size a ≤ S16x768.size a) (n : Fin 16) (d : Fin 768),
      View.readAt (Elt Ideal) arg11.view (Rect.unit (s := S16x768) ![0, 0] S16x768.size hb).toLoadRect X_arg11 (ix2 n d) = A2 n.val d.val)
    (hDT : ∀ (l : Fin 1024) (d : Fin 768), View.read (Elt Ideal) arg8.view X_arg8 (ix2 l d) = DT l.val d.val)
    (hDU : ∀ (l : Fin 1024) (d : Fin 768), View.read (Elt Ideal) arg9.view X_arg9 (ix2 l d) = DU l.val d.val)
    (hBC : ∀ (l : Fin 1024) (d : Fin 32), View.read (Elt Ideal) arg10.view X_arg10 (ix2 l d) = BC l.val d.val) :
    ∀ y, View.AllAt (st_k4_t2 (F := Ideal) 𝒱 c bd i arg2 harg2 arg3 harg3 arg4 harg4 arg5 harg5 arg6 harg6 arg7 harg7 arg8 harg8 arg9 harg9 arg10 harg10 arg11 harg11 k4_h2 X_arg8 X_arg9 X_arg10 X_arg11 init 8).2 y (scanS (fun l => 1023 - l) A2 DT DU BC (y 2).val (y 3).val) := by
  have hAb : ∀ a, (![0, 0] : Fin 2 → ℕ) a + S16x768.size a ≤ S16x768.size a := by decide
  refine (chunks (fun l => 1023 - l) bwd (fun k => 896 - 128 * k) (by intro k hk l hl; first | omega | rfl | (dsimp only [bwd]; omega)) (by intro k hk l hl; first | omega | rfl | (dsimp only [bwd]; omega)) (by intro l hl; first | omega | rfl | (dsimp only [bwd]; omega))
    (st_k4_t2 (F := Ideal) 𝒱 c bd i arg2 harg2 arg3 harg3 arg4 harg4 arg5 harg5 arg6 harg6 arg7 harg7 arg8 harg8 arg9 harg9 arg10 harg10 arg11 harg11 k4_h2 X_arg8 X_arg9 X_arg10 X_arg11 init) _ A2 DT DU BC (hA hAb) hi rfl (fun k hk => ?_) 8 (le_refl _)).2
  have e := st_k4_t2_succ (F := Ideal) 𝒱 c bd i arg2 harg2 arg3 harg3 arg4 harg4 arg5 harg5 arg6 harg6 arg7 harg7 arg8 harg8 arg9 harg9 arg10 harg10 arg11 harg11 k4_h2 X_arg8 X_arg9 X_arg10 X_arg11 init ⟨k, hk⟩
  rw [tripR_k4_t2_eq 𝒱 c bd i arg2 harg2 arg3 harg3 arg4 harg4 arg5 harg5 arg6 harg6 arg7 harg7 arg8 harg8 arg9 harg9 arg10 harg10 arg11 harg11 k4_h2 X_arg8 X_arg9 X_arg10 X_arg11 ⟨k, hk⟩ _ hAb (k4_off4_inb i ⟨k, hk⟩ k4_h2) (k4_off5_inb i ⟨k, hk⟩ k4_h2) (k4_off6_inb i ⟨k, hk⟩ k4_h2),
    tripL_k4_t2_eq 𝒱 c bd i arg2 harg2 arg3 harg3 arg4 harg4 arg5 harg5 arg6 harg6 arg7 harg7 arg8 harg8 arg9 harg9 arg10 harg10 arg11 harg11 k4_h2 X_arg8 X_arg9 X_arg10 X_arg11 ⟨k, hk⟩ _ hAb (k4_off4_inb i ⟨k, hk⟩ k4_h2) (k4_off5_inb i ⟨k, hk⟩ k4_h2) (k4_off6_inb i ⟨k, hk⟩ k4_h2)] at e
  refine ⟨_, _, _, _, _, k4_off6_eq ⟨k, hk⟩, e, fun s d => ?_, fun s d => ?_, fun s p => ?_⟩
  · exact (ld_rows _ DT hDT _ _ (k4_off4_eq ⟨k, hk⟩) _ s d)
  · exact (ld_rows _ DU hDU _ _ (k4_off4_eq ⟨k, hk⟩) _ s d)
  · exact (ld_cols _ BC hBC _ _ (k4_off5_eq ⟨k, hk⟩) _ s p)

end Cert.Proof.Ker
-- ==== Proof.KR4.lean ====
module

public import proofs.«01_k».proof.Proof.Gen.KernelIdeal.Frame
public import proofs.«01_k».proof.Proof.KR4L
public import proofs.«01_k».proof.Proof.ScanTrip
public import proofs.«01_k».proof.Proof.Spec
public import Idealize.ShloMosaic.Lib.Pointwise
public import Idealize.ShloMosaic.Lib.VecWindow
public import Idealize.ShloMosaic.Lib.Pipeline.ValueKit

@[expose] public section

set_option maxRecDepth 65536

noncomputable section

namespace Cert.Proof.Ker

open Cert.KernelIdeal Cert.KernelIdeal.Gen
open Idealize.ShloMosaic
open Idealize.ShloMosaic.TcCoe
open Idealize.SL.Sem

variable (V : (c : Dev nD) → (b : Ref sig .tc) → Buf (Elt Ideal) ((c : Thread nD τ).loc b))

/-- Where each window of this call stands. -/
theorem idx4_0 : ∀ t, win4_0.index t = ![t.val / 4, t.val % 4 / 2, 0, 0] := by decide +kernel
/-- Which block window 1 is at, each trip. -/
theorem idx4_1 : ∀ t, win4_1.index t = ![t.val % 2 * 2 + t.val % 4 / 2, 0, 0] := by decide +kernel
/-- Which block window 2 is at, each trip. -/
theorem idx4_2 : ∀ t, win4_2.index t = ![t.val % 2 * 2 + t.val % 4 / 2, 0, 0] := by decide +kernel
/-- Which block window 3 is at, each trip. -/
theorem idx4_3 : ∀ t, win4_3.index t = ![t.val % 2 * 2 + t.val % 4 / 2, 0, 0] := by decide +kernel
/-- Which block window 4 is at, each trip. -/
theorem idx4_4 : ∀ t, win4_4.index t = ![t.val % 2 * 2 + t.val % 4 / 2, 0, 0] := by decide +kernel
/-- Which block window 5 is at, each trip. -/
theorem idx4_5 : ∀ t, win4_5.index t = ![t.val / 4, t.val % 4, 0, 0] := by decide +kernel

/-- The step size of a scan. -/
def dtS (U XW DTW : Mat) (DTB : ℕ → EReal) (l d : ℕ) : EReal := softplusS (dotS 24 (fun r => dotS 768 (U l) (XW r)) (DTW d) + DTB d)

/-- The scale of the scan's exponent. -/
def kap : Ideal .f32 := Named.named κ "neg_inv_ln2" 0xBFB8AA3B#32

/-- A whole load of a buffer that holds `X` reads `X`. -/
theorem rd {s : Shape} (m : Memref sig .tc .vmem s .f32) (h : m.IsWhole) (X : Vec Ideal s .f32) {off : Fin s.rank → ℕ} (inb : ∀ a, off a + s.size a ≤ s.size a) :
    View.readAt (Elt Ideal) m.view (Rect.unit off s.size inb).toLoadRect (h.unread X) = X := (View.readAt_full _ _ _).trans (h.read_unread _)

/-- A trip's projection of the sequence, entry by entry, -/
theorem k4_pay622_at (v0 : FVec Ideal S1x1x1024x768 .f32) (v2 : FVec Ideal S1x56x768 .f32) (U XW : Mat) (h0 : ∀ l d, v0 (ix4 0 0 l d) = U l.val d.val)
    (h2 : ∀ l d, v2 (ix3 0 l d) = XW l.val d.val) (l : Fin 1024) (p : Fin 32) :
    k4_pay622 (F := Ideal) v0 v2 (ix2 l p) = dotS 768 (U l.val) (XW (24 + p.val)) := by
  unfold dotS
  pointwise [k4_pay622, k4_pay621, k4_pay620, h0, h2]

/-- its step sizes, -/
theorem k4_pay623_at (v0 : FVec Ideal S1x1x1024x768 .f32) (v2 : FVec Ideal S1x56x768 .f32) (v10 : FVec Ideal S1x768x24 .f32) (v13 : FVec Ideal S1x1x768 .f32) (U XW DTW : Mat) (DTB : ℕ → EReal) (h0 : ∀ l d, v0 (ix4 0 0 l d) = U l.val d.val)
    (h2 : ∀ l d, v2 (ix3 0 l d) = XW l.val d.val) (h10 : ∀ l d, v10 (ix3 0 l d) = DTW l.val d.val) (h13 : ∀ d, v13 (ix3 0 0 d) = DTB d.val) (l : Fin 1024) (d : Fin 768) :
    k4_pay623 (F := Ideal) v0 v2 v10 v13 (ix2 l d) = dtS U XW DTW DTB l.val d.val := by
  unfold dtS softplusS dotS
  pointwise [k4_pay623, k4_pay621, k4_pay620, h0, h2, h10, h13, zero_sub]
  rfl

/-- the step sizes as the scratch holds them, -/
theorem k4_pay624_at (v0 : FVec Ideal S1x1x1024x768 .f32) (v2 : FVec Ideal S1x56x768 .f32) (v10 : FVec Ideal S1x768x24 .f32) (v13 : FVec Ideal S1x1x768 .f32) (U XW DTW : Mat) (DTB : ℕ → EReal) (h0 : ∀ l d, v0 (ix4 0 0 l d) = U l.val d.val)
    (h2 : ∀ l d, v2 (ix3 0 l d) = XW l.val d.val) (h10 : ∀ l d, v10 (ix3 0 l d) = DTW l.val d.val) (h13 : ∀ d, v13 (ix3 0 0 d) = DTB d.val) (l : Fin 1024) (d : Fin 768) :
    k4_pay624 (F := Ideal) v0 v2 v10 v13 (ix2 l d) = dtS U XW DTW DTB l.val d.val := by
  have h := k4_pay623_at v0 v2 v10 v13 U XW DTW DTB h0 h2 h10 h13
  unfold k4_pay624
  generalize k4_pay623 (F := Ideal) v0 v2 v10 v13 = R at h
  pointwise [h]

/-- the step sizes times the sequence, -/
theorem k4_pay625_at (v0 : FVec Ideal S1x1x1024x768 .f32) (v2 : FVec Ideal S1x56x768 .f32) (v10 : FVec Ideal S1x768x24 .f32) (v13 : FVec Ideal S1x1x768 .f32) (U XW DTW : Mat) (DTB : ℕ → EReal) (h0 : ∀ l d, v0 (ix4 0 0 l d) = U l.val d.val)
    (h2 : ∀ l d, v2 (ix3 0 l d) = XW l.val d.val) (h10 : ∀ l d, v10 (ix3 0 l d) = DTW l.val d.val) (h13 : ∀ d, v13 (ix3 0 0 d) = DTB d.val) (l : Fin 1024) (d : Fin 768) :
    k4_pay625 (F := Ideal) v0 v2 v10 v13 (ix2 l d) = dtS U XW DTW DTB l.val d.val * U l.val d.val := by
  have h := k4_pay623_at v0 v2 v10 v13 U XW DTW DTB h0 h2 h10 h13
  unfold k4_pay625
  generalize k4_pay623 (F := Ideal) v0 v2 v10 v13 = R at h
  pointwise [k4_pay620, h, h0]

/-- and the rates, in base two. -/
theorem k4_pay626_at (v32 : FVec Ideal S1x16x768 .f32) (AL : Mat) (h : ∀ n d, v32 (ix3 0 n d) = AL n.val d.val) (n : Fin 16) (d : Fin 768) :
    k4_pay626 (F := Ideal) v32 (ix2 n d) = kap * Ideal.exp (AL n.val d.val) := by
  unfold kap
  pointwise [k4_pay626, h]

/-- One direction of the scan: forward for `b = 0`, else backward. -/
def scanDir (b : ℕ) (U XW DTW : Mat) (DTB : ℕ → EReal) (AL : Mat) : Mat :=
  scanS (fun l => if b = 0 then l else 1023 - l) (fun n d => kap * Ideal.exp (AL n d)) (dtS U XW DTW DTB) (fun l d => dtS U XW DTW DTB l d * U l d) (fun l p => dotS 768 (U l) (XW (24 + p)))

set_option maxHeartbeats 2000000 in
/-- The scan, one image and direction per grid point. -/
theorem region4 (c : Dev nD) (U : ℕ → ℕ → Mat) (XW DTW : ℕ → Mat) (DTB : Mat) (AL : ℕ → Mat)
    (hU : ∀ i : S2x2x1024x768.Idx, V c main_v37 i = U (i 0).val (i 1).val (i 2).val (i 3).val) (hXW : ∀ i : S4x56x768.Idx, V c main_v39 i = XW (i 0).val (i 1).val (i 2).val)
    (hDTW : ∀ i : S4x768x24.Idx, V c main_v41 i = DTW (i 0).val (i 1).val (i 2).val) (hDTB : ∀ i : S4x1x768.Idx, V c main_v44 i = DTB (i 0).val (i 2).val)
    (hAL : ∀ i : S4x16x768.Idx, V c main_v47 i = AL (i 0).val (i 1).val (i 2).val) :
    ∀ i : S2x4x1024x768.Idx, ((dat4 V c).arrAt 5 cfg4.N : FVec Ideal S2x4x1024x768 .f32) i
      = scanDir ((i 1).val % 2) (U (i 0).val ((i 1).val / 2)) (XW ((i 1).val % 2 * 2 + (i 1).val / 2)) (DTW ((i 1).val % 2 * 2 + (i 1).val / 2)) (DTB ((i 1).val % 2 * 2 + (i 1).val / 2)) (AL ((i 1).val % 2 * 2 + (i 1).val / 2)) (i 2).val (i 3).val := by
  refine congrFun (?_ : _ = fun i : S2x4x1024x768.Idx => scanDir ((i 1).val % 2) (U (i 0).val ((i 1).val / 2)) (XW ((i 1).val % 2 * 2 + (i 1).val / 2)) (DTW ((i 1).val % 2 * 2 + (i 1).val / 2)) (DTB ((i 1).val % 2 * 2 + (i 1).val / 2)) (AL ((i 1).val % 2 * 2 + (i 1).val / 2)) (i 2).val (i 3).val)
  refine (dat4 V c).arrAt_eq_of_covers 5 _ (by decide +kernel) fun t hf y => ?_
  have h0 : ∀ r k, (iblk4 V c 0 t : FVec Ideal S1x1x1024x768 .f32) (ix4 0 0 r k) = U (t.val / 4) (t.val % 4 / 2) r.val k.val := fun r k => by blk_simp [iblk4, idx4_0 t, hU]; rfl
  have h1 : ∀ r k, (iblk4 V c 1 t : FVec Ideal S1x56x768 .f32) (ix3 0 r k) = XW (t.val % 2 * 2 + t.val % 4 / 2) r.val k.val := fun r k => by blk_simp [iblk4, idx4_1 t, hXW]; rfl
  have h2 : ∀ r k, (iblk4 V c 2 t : FVec Ideal S1x768x24 .f32) (ix3 0 r k) = DTW (t.val % 2 * 2 + t.val % 4 / 2) r.val k.val := fun r k => by blk_simp [iblk4, idx4_2 t, hDTW]; rfl
  have h3 : ∀ k, (iblk4 V c 3 t : FVec Ideal S1x1x768 .f32) (ix3 0 0 k) = DTB (t.val % 2 * 2 + t.val % 4 / 2) k.val := fun k => by blk_simp [iblk4, idx4_3 t, hDTB]; rfl
  have h4 : ∀ r k, (iblk4 V c 4 t : FVec Ideal S1x16x768 .f32) (ix3 0 r k) = AL (t.val % 2 * 2 + t.val % 4 / 2) r.val k.val := fun r k => by blk_simp [iblk4, idx4_4 t, hAL]; rfl
  blk_simp
  rw [after4_5]
  have i0 : win4_5.index t 0 = t.val / 4 := congrFun (idx4_5 t) 0
  have i1 : win4_5.index t 1 = t.val % 4 := congrFun (idx4_5 t) 1
  have i2 : win4_5.index t 2 = 0 := congrFun (idx4_5 t) 2
  have i3 : win4_5.index t 3 = 0 := congrFun (idx4_5 t) 3
  have e4 : t.val % 4 % 2 = t.val % 2 := by omega
  rcases Nat.mod_two_eq_zero_or_one t.val with e | e
  · have e' : ¬ t.val % 2 = 1 := by omega
    rw [outsAt4_A V c t e e']
    refine (congrFun (View.read_writes_eq_canon VO4_5 _ _ (cover4_A_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) scM4_2 (Memref.isWhole_whole _) scM4_3 (Memref.isWhole_whole _) ((hcond4_0 t).mpr e) (fun h => e' ((hcond4_1 t).mp h)) (iblk4 V c 0 t) (iblk4 V c 1 t) (iblk4 V c 2 t) (iblk4 V c 3 t) (iblk4 V c 4 t))) y).trans ?_
    refine View.canon_eq_of_allAt _ y _ (cover4_A_5 ..) ?_
    unfold kernelRun4_A
    dsimp only
    rw [show Scf.trips (0#32) (Scalar.addi 0#32 8#32) 1#32 = 8 from by decide]
    rw [i0, i1, i2, i3, e4]
    simp only [Nat.zero_mul, Nat.zero_add]
    unfold kernelRun4_A.sl.HS0_1 kernelRun4_A.sl.HS1_1 kernelRun4_A.sl.HS2_1 kernelRun4_A.sl.HS3_1
    unfold scanDir
    simp only [if_pos e]
    refine loop4_1 _ _ _ _ _ _ _ _ _ _ _ _ _ _ _ _ _ _ _ _ _ _ _ _ _ _ _ _ _ _ _ _ _ _ ?_ ?_ ?_ ?_ ?_ y
    · intro n d
      pointwise [k4_pay627]
    · intro hb n d
      refine (congrFun (View.readAt_writes_full (View.whole cc4_scratch3) _ _ _ _ _) _).trans ?_
      exact k4_pay626_at _ _ (fun n d => (congrFun (rd _ _ _ _) _).trans (h4 n d)) n d
    · intro l d
      refine (congrFun (View.read_writes_full (View.whole cc4_scratch0) _ _ _ _) _).trans ?_
      unfold kernelRun4_A.sl.v27
      exact k4_pay624_at _ _ _ _ _ _ _ _ (fun l d => (congrFun (rd _ _ _ _) _).trans (h0 l d)) (fun l d => (congrFun (rd _ _ _ _) _).trans (h1 l d)) (fun l d => (congrFun (rd _ _ _ _) _).trans (h2 l d)) (fun d => (congrFun (rd _ _ _ _) _).trans (h3 d)) l d
    · intro l d
      refine (congrFun (View.read_writes_full (View.whole cc4_scratch1) _ _ _ _) _).trans ?_
      unfold kernelRun4_A.sl.v31
      exact k4_pay625_at _ _ _ _ _ _ _ _ (fun l d => (congrFun (rd _ _ _ _) _).trans (h0 l d)) (fun l d => (congrFun (rd _ _ _ _) _).trans (h1 l d)) (fun l d => (congrFun (rd _ _ _ _) _).trans (h2 l d)) (fun d => (congrFun (rd _ _ _ _) _).trans (h3 d)) l d
    · intro l d
      refine (congrFun (View.read_writes_full (View.whole cc4_scratch2) _ _ _ _) _).trans ?_
      unfold kernelRun4_A.sl.v9
      exact k4_pay622_at _ _ _ _ (fun l d => (congrFun (rd _ _ _ _) _).trans (h0 l d)) (fun l d => (congrFun (rd _ _ _ _) _).trans (h1 l d)) l d
  · have e' : ¬ t.val % 2 = 0 := by omega
    rw [outsAt4_B V c t e' e]
    refine (congrFun (View.read_writes_eq_canon VO4_5 _ _ (cover4_B_5 c (grid4.coords t) (ms4_0 t) (hs4_0 t) (ms4_1 t) (hs4_1 t) (ms4_2 t) (hs4_2 t) (ms4_3 t) (hs4_3 t) (ms4_4 t) (hs4_4 t) (ms4_5 t) (hs4_5 t) scM4_0 (Memref.isWhole_whole _) scM4_1 (Memref.isWhole_whole _) scM4_2 (Memref.isWhole_whole _) scM4_3 (Memref.isWhole_whole _) (fun h => e' ((hcond4_0 t).mp h)) ((hcond4_1 t).mpr e) (iblk4 V c 0 t) (iblk4 V c 1 t) (iblk4 V c 2 t) (iblk4 V c 3 t) (iblk4 V c 4 t))) y).trans ?_
    refine View.canon_eq_of_allAt _ y _ (cover4_B_5 ..) ?_
    unfold kernelRun4_B
    dsimp only
    rw [show Scf.trips (0#32) (Scalar.addi 0#32 8#32) 1#32 = 8 from by decide]
    rw [i0, i1, i2, i3, e4]
    simp only [Nat.zero_mul, Nat.zero_add]
    unfold kernelRun4_B.sl.HS0_1 kernelRun4_B.sl.HS1_1 kernelRun4_B.sl.HS2_1 kernelRun4_B.sl.HS3_1
    unfold scanDir
    simp only [if_neg e']
    refine loop4_2 _ _ _ _ _ _ _ _ _ _ _ _ _ _ _ _ _ _ _ _ _ _ _ _ _ _ _ _ _ _ _ _ _ _ ?_ ?_ ?_ ?_ ?_ y
    · intro n d
      pointwise [k4_pay632]
    · intro hb n d
      refine (congrFun (View.readAt_writes_full (View.whole cc4_scratch3) _ _ _ _ _) _).trans ?_
      exact k4_pay626_at _ _ (fun n d => (congrFun (rd _ _ _ _) _).trans (h4 n d)) n d
    · intro l d
      refine (congrFun (View.read_writes_full (View.whole cc4_scratch0) _ _ _ _) _).trans ?_
      unfold kernelRun4_B.sl.v27
      exact k4_pay624_at _ _ _ _ _ _ _ _ (fun l d => (congrFun (rd _ _ _ _) _).trans (h0 l d)) (fun l d => (congrFun (rd _ _ _ _) _).trans (h1 l d)) (fun l d => (congrFun (rd _ _ _ _) _).trans (h2 l d)) (fun d => (congrFun (rd _ _ _ _) _).trans (h3 d)) l d
    · intro l d
      refine (congrFun (View.read_writes_full (View.whole cc4_scratch1) _ _ _ _) _).trans ?_
      unfold kernelRun4_B.sl.v31
      exact k4_pay625_at _ _ _ _ _ _ _ _ (fun l d => (congrFun (rd _ _ _ _) _).trans (h0 l d)) (fun l d => (congrFun (rd _ _ _ _) _).trans (h1 l d)) (fun l d => (congrFun (rd _ _ _ _) _).trans (h2 l d)) (fun d => (congrFun (rd _ _ _ _) _).trans (h3 d)) l d
    · intro l d
      refine (congrFun (View.read_writes_full (View.whole cc4_scratch2) _ _ _ _) _).trans ?_
      unfold kernelRun4_B.sl.v9
      exact k4_pay622_at _ _ _ _ (fun l d => (congrFun (rd _ _ _ _) _).trans (h0 l d)) (fun l d => (congrFun (rd _ _ _ _) _).trans (h1 l d)) l d

end Cert.Proof.Ker
-- ==== Proof.KExp.lean ====
module

public import proofs.«01_k».proof.Proof.Gen.KernelIdeal.Frame
public import proofs.«01_k».proof.Proof.Net
public import proofs.«01_k».proof.Proof.KR4
public import Idealize.ShloMosaic.Lib.Pointwise
public import Idealize.ShloMosaic.Lib.Pipeline.ValueKit

@[expose] public section

set_option maxRecDepth 65536

noncomputable section

namespace Cert.Proof.Ker

open Cert.KernelIdeal Cert.KernelIdeal.Gen
open Idealize.ShloMosaic
open Idealize.ShloMosaic.TcCoe
open Idealize.SL.Sem

/-- The scale of the scan's exponent is the real number it is named for. -/
theorem kap_eq : (kap : EReal) = ((-((Real.log 2)⁻¹) : ℝ) : EReal) := rfl

/-- A power of two at the scaled argument is the exponential of its negation. -/
theorem exp2_kap (y : EReal) : Ideal.exp2 ((kap : EReal) * y) = Ideal.exp (-y) := by
  have h2 : 0 < Real.log 2 := Real.log_pos (by norm_num)
  have hn : -((Real.log 2)⁻¹) < 0 := neg_lt_zero.mpr (inv_pos.mpr h2)
  rw [kap_eq]
  induction y with
  | bot => rw [EReal.coe_mul_bot_of_neg hn, EReal.neg_bot, Ideal.exp2_top, Ideal.exp_top]
  | top => rw [EReal.coe_mul_top_of_neg hn, EReal.neg_top, Ideal.exp2_bot, Ideal.exp_bot]
  | coe r =>
    rw [← EReal.coe_mul, ← EReal.coe_neg, Ideal.exp2_coe, Ideal.exp_coe]
    refine congrArg _ ?_
    show (2 : ℝ) ^ (-(Real.log 2)⁻¹ * r) = _
    rw [Real.rpow_def_of_pos (by norm_num)]
    refine congrArg _ ?_
    field_simp

/-- The kernel's scan is the network's. -/
theorem scanDir_eq (b : ℕ) (U XW DTW : Mat) (DTB : ℕ → EReal) (AL : Mat) : scanDir b U XW DTW DTB AL = scanE b U XW DTW DTB AL := by
  have h : ∀ x y : EReal, Ideal.exp2 ((kap : EReal) * x * y) = Ideal.exp (y * -x) := fun x y => by
    rw [mul_assoc, exp2_kap, mul_comm x y, mul_neg]
  funext r d
  unfold scanDir scanE scanS
  simp only [h]
  rfl

end Cert.Proof.Ker
-- ==== Proof.KR0.lean ====
module

public import proofs.«01_k».proof.Proof.Gen.KernelIdeal.Frame
public import proofs.«01_k».proof.Proof.Spec
public import Idealize.ShloMosaic.Lib.Pointwise
public import Idealize.ShloMosaic.Lib.Pipeline.ValueKit

@[expose] public section

set_option maxRecDepth 65536

noncomputable section

namespace Cert.Proof.Ker

open Cert.KernelIdeal Cert.KernelIdeal.Gen
open Idealize.ShloMosaic
open Idealize.ShloMosaic.TcCoe
open Idealize.SL.Sem

variable (V : (c : Dev nD) → (b : Ref sig .tc) → Buf (Elt Ideal) ((c : Thread nD τ).loc b))

/-- Where each window of this call stands. -/
theorem idx0_0 : ∀ t, win0_0.index t = ![0, 0] := by decide +kernel
/-- Which block window 1 is at, each trip. -/
theorem idx0_1 : ∀ t, win0_1.index t = ![0, 0] := by decide +kernel
/-- Which block window 2 is at, each trip. -/
theorem idx0_2 : ∀ t, win0_2.index t = ![0, 0] := by decide +kernel
/-- Which block window 3 is at, each trip. -/
theorem idx0_3 : ∀ t, win0_3.index t = ![0, 0] := by decide +kernel
/-- Which block window 4 is at, each trip. -/
theorem idx0_4 : ∀ t, win0_4.index t = ![0, 0] := by decide +kernel

/-- The patch expansion: a product, each of its four column segments normalised. -/
theorem region0 (c : Dev nD) (X W : Mat) (w b : ℕ → EReal)
    (hX : ∀ i : S512x768.Idx, V c main_v1 i = X (i 0).val (i 1).val) (hW : ∀ i : S1536x768.Idx, V c main_arg2 i = W (i 0).val (i 1).val)
    (hw : ∀ i : S1x384.Idx, V c main_v2 i = w (i 1).val) (hb : ∀ i : S1x384.Idx, V c main_v3 i = b (i 1).val) :
    ∀ i : S512x1536.Idx, ((dat0 V c).arrAt 4 cfg0.N : FVec Ideal S512x1536 .f32) i
      = lnS 384 c384 w b (fun k => dotS 768 (X (i 0).val) (W ((i 1).val / 384 * 384 + k))) ((i 1).val % 384) := by
  refine congrFun (?_ : _ = fun i : S512x1536.Idx => lnS 384 c384 w b (fun k => dotS 768 (X (i 0).val) (W ((i 1).val / 384 * 384 + k))) ((i 1).val % 384))
  refine (dat0 V c).arrAt_eq_of_covers 4 _ (by decide +kernel) fun t hf y => ?_
  have h0 : ∀ r k, (iblk0 V c 0 t : FVec Ideal S512x768 .f32) (ix2 r k) = X r.val k.val := fun r k => by blk_simp [iblk0, idx0_0 t, hX]
  have h1 : ∀ r k, (iblk0 V c 1 t : FVec Ideal S1536x768 .f32) (ix2 r k) = W r.val k.val := fun r k => by blk_simp [iblk0, idx0_1 t, hW]
  have h2 : ∀ r k, (iblk0 V c 2 t : FVec Ideal S1x384 .f32) (ix2 r k) = w k.val := fun r k => by blk_simp [iblk0, idx0_2 t, hw]
  have h3 : ∀ r k, (iblk0 V c 3 t : FVec Ideal S1x384 .f32) (ix2 r k) = b k.val := fun r k => by blk_simp [iblk0, idx0_3 t, hb]
  have hp : ∀ r k, k0_pay2 (F := Ideal) (iblk0 V c 0 t) (iblk0 V c 1 t) (ix2 r k) = dotS 768 (X r.val) (W k.val) := fun r k => by
    unfold dotS
    pointwise [k0_pay2, h0, h1]
  have l0 : ∀ A : Vec Ideal S512x768 .f32, View.ld A r0_0 = A := fun A => View.ld_unit_lit _ A (by decide)
  have l1 : ∀ A : Vec Ideal S1536x768 .f32, View.ld A r0_1 = A := fun A => View.ld_unit_lit _ A (by decide)
  have l2 : ∀ A : Vec Ideal S1x384 .f32, View.ld A r0_2 = A := fun A => View.ld_unit_lit _ A (by decide)
  blk_simp
  rw [after0_4]
  idx_vars y
  canon_tiles q g
  · idx_vars q
    have e1 : y1.val % 384 = q1.val := by simp at g1; omega
    have e2 : y1.val / 384 * 384 = 1152 := by simp at g1; omega
    have e0 : y0 = q0 := Fin.ext g0
    subst e0
    unfold lnS varS meanS
    pointwise [k0_pay1, k0_pay11, k0_pay12, k0_pay13, k0_pay14, k0_pay15, k0_pay3, k0_pay4, l0, l1, l2, hp, h2, h3, idx0_4 t, e1, e2]
  · idx_vars q
    have e1 : y1.val % 384 = q1.val := by simp at g1; omega
    have e2 : y1.val / 384 * 384 = 768 := by simp at g1; omega
    have e0 : y0 = q0 := Fin.ext g0
    subst e0
    unfold lnS varS meanS
    pointwise [k0_pay10, k0_pay13, k0_pay14, k0_pay15, k0_pay3, k0_pay4, l0, l1, l2, hp, h2, h3, idx0_4 t, e1, e2]
  · idx_vars q
    have e1 : y1.val % 384 = q1.val := by simp at g1; omega
    have e2 : y1.val / 384 * 384 = 384 := by simp at g1; omega
    have e0 : y0 = q0 := Fin.ext g0
    subst e0
    unfold lnS varS meanS
    pointwise [k0_pay9, k0_pay6, k0_pay7, k0_pay8, k0_pay13, k0_pay14, k0_pay15, k0_pay3, k0_pay4, l0, l1, l2, hp, h2, h3, idx0_4 t, e1, e2]
  · idx_vars q
    have e1 : y1.val % 384 = q1.val := by simp at g1; omega
    have e2 : y1.val / 384 * 384 = 0 := by simp at g1; omega
    have e0 : y0 = q0 := Fin.ext g0
    subst e0
    unfold lnS varS meanS
    pointwise [k0_pay5, k0_pay13, k0_pay14, k0_pay15, k0_pay3, k0_pay4, l0, l1, l2, hp, h2, h3, idx0_4 t, e1, e2]

end Cert.Proof.Ker
-- ==== Proof.KR1.lean ====
module

public import proofs.«01_k».proof.Proof.Gen.KernelIdeal.Frame
public import proofs.«01_k».proof.Proof.Spec
public import Idealize.ShloMosaic.Lib.Pointwise
public import Idealize.ShloMosaic.Lib.Pipeline.ValueKit

@[expose] public section

set_option maxRecDepth 65536

noncomputable section

namespace Cert.Proof.Ker

open Cert.KernelIdeal Cert.KernelIdeal.Gen
open Idealize.ShloMosaic
open Idealize.ShloMosaic.TcCoe
open Idealize.SL.Sem

variable (V : (c : Dev nD) → (b : Ref sig .tc) → Buf (Elt Ideal) ((c : Thread nD τ).loc b))

/-- Where each window of this call stands. -/
theorem idx1_0 : ∀ t, win1_0.index t = ![0, 0] := by decide +kernel
/-- Which block window 1 is at, each trip. -/
theorem idx1_1 : ∀ t, win1_1.index t = ![0, 0] := by decide +kernel
/-- Which block window 2 is at, each trip. -/
theorem idx1_2 : ∀ t, win1_2.index t = ![0, 0] := by decide +kernel
/-- Which block window 3 is at, each trip. -/
theorem idx1_3 : ∀ t, win1_3.index t = ![0, 0] := by decide +kernel
/-- Which block window 4 is at, each trip. -/
theorem idx1_4 : ∀ t, win1_4.index t = ![0, 0] := by decide +kernel
/-- Which block window 5 is at, each trip. -/
theorem idx1_5 : ∀ t, win1_5.index t = ![0, 0] := by decide +kernel

/-- The concatenation's projection: two products and the bias. -/
theorem region1 (c : Dev nD) (X Y Wa Wb : Mat) (b : ℕ → EReal)
    (hX : ∀ i : S2048x384.Idx, V c main_v7 i = X (i 0).val (i 1).val) (hY : ∀ i : S2048x384.Idx, V c main_v9 i = Y (i 0).val (i 1).val)
    (hWa : ∀ i : S384x384.Idx, V c main_v10 i = Wa (i 0).val (i 1).val) (hWb : ∀ i : S384x384.Idx, V c main_v11 i = Wb (i 0).val (i 1).val)
    (hb : ∀ i : S1x384.Idx, V c main_v12 i = b (i 1).val) :
    ∀ i : S2048x384.Idx, ((dat1 V c).arrAt 5 cfg1.N : FVec Ideal S2048x384 .f32) i
      = dotS 384 (X (i 0).val) (Wa (i 1).val) + dotS 384 (Y (i 0).val) (Wb (i 1).val) + b (i 1).val := by
  refine congrFun (?_ : _ = fun i : S2048x384.Idx => dotS 384 (X (i 0).val) (Wa (i 1).val) + dotS 384 (Y (i 0).val) (Wb (i 1).val) + b (i 1).val)
  refine (dat1 V c).arrAt_eq_of_covers 5 _ (by decide +kernel) fun t hf y => ?_
  have h0 : ∀ r k, (iblk1 V c 0 t : FVec Ideal S2048x384 .f32) (ix2 r k) = X r.val k.val := fun r k => by blk_simp [iblk1, idx1_0 t, hX]
  have h1 : ∀ r k, (iblk1 V c 1 t : FVec Ideal S2048x384 .f32) (ix2 r k) = Y r.val k.val := fun r k => by blk_simp [iblk1, idx1_1 t, hY]
  have h2 : ∀ r k, (iblk1 V c 2 t : FVec Ideal S384x384 .f32) (ix2 r k) = Wa r.val k.val := fun r k => by blk_simp [iblk1, idx1_2 t, hWa]
  have h3 : ∀ r k, (iblk1 V c 3 t : FVec Ideal S384x384 .f32) (ix2 r k) = Wb r.val k.val := fun r k => by blk_simp [iblk1, idx1_3 t, hWb]
  have h4 : ∀ r k, (iblk1 V c 4 t : FVec Ideal S1x384 .f32) (ix2 r k) = b k.val := fun r k => by blk_simp [iblk1, idx1_4 t, hb]
  blk_simp
  rw [after1_5]
  frame_out
  idx_vars y
  unfold dotS
  pointwise [k1_pay1, h0, h1, h2, h3, h4, idx1_5 t]

end Cert.Proof.Ker
-- ==== Proof.KR2.lean ====
module

public import proofs.«01_k».proof.Proof.Gen.KernelIdeal.Frame
public import proofs.«01_k».proof.Proof.Spec
public import Idealize.ShloMosaic.Lib.Pointwise
public import Idealize.ShloMosaic.Lib.Pipeline.ValueKit

@[expose] public section

set_option maxRecDepth 65536

noncomputable section

namespace Cert.Proof.Ker

open Cert.KernelIdeal Cert.KernelIdeal.Gen
open Idealize.ShloMosaic
open Idealize.ShloMosaic.TcCoe
open Idealize.SL.Sem

variable (V : (c : Dev nD) → (b : Ref sig .tc) → Buf (Elt Ideal) ((c : Thread nD τ).loc b))

/-- The product payload of the layer's first call, at an index. -/
theorem k2_pay1_at (v0 : FVec Ideal S256x384 .f32) (v2 v4 : FVec Ideal S1x384 .f32) (v28 : FVec Ideal S1536x384 .f32) (X W : Mat) (w b : ℕ → EReal)
    (hX : ∀ r k, v0 (ix2 r k) = X r.val k.val) (hw : ∀ r k, v2 (ix2 r k) = w k.val) (hb : ∀ r k, v4 (ix2 r k) = b k.val)
    (hW : ∀ r k, v28 (ix2 r k) = W r.val k.val) (r : Fin 256) (c : Fin 1536) :
    k2_pay1 (F := Ideal) v0 v2 v4 v28 (ix2 r c) = dotS 384 (lnS 384 c384 w b (X r.val)) (W c.val) := by
  unfold dotS lnS varS meanS
  pointwise [k2_pay1, hX, hw, hb, hW]

/-- Where each window of the layer's first call stands. -/
theorem idx2_0 : ∀ t, win2_0.index t = ![t.val, 0] := by decide +kernel
/-- Which block window 1 is at, each trip. -/
theorem idx2_1 : ∀ t, win2_1.index t = ![0, 0] := by decide +kernel
/-- Which block window 2 is at, each trip. -/
theorem idx2_2 : ∀ t, win2_2.index t = ![0, 0] := by decide +kernel
/-- Which block window 3 is at, each trip. -/
theorem idx2_3 : ∀ t, win2_3.index t = ![0, 0] := by decide +kernel
/-- Which block window 4 is at, each trip. -/
theorem idx2_4 : ∀ t, win2_4.index t = ![t.val, 0] := by decide +kernel
/-- Which block window 5 is at, each trip. -/
theorem idx2_5 : ∀ t, win2_5.index t = ![t.val, 0] := by decide +kernel

/-- Both outputs of the layer's first call. -/
theorem region2 (c : Dev nD) (X W : Mat) (w b : ℕ → EReal)
    (hX : ∀ i : S2048x384.Idx, V c main_v13 i = X (i 0).val (i 1).val) (hw : ∀ i : S1x384.Idx, V c main_v20 i = w (i 1).val)
    (hb : ∀ i : S1x384.Idx, V c main_v21 i = b (i 1).val) (hW : ∀ i : S1536x384.Idx, V c main_v19 i = W (i 0).val (i 1).val) :
    (∀ i : S2048x768.Idx, ((dat2 V c).arrAt 4 cfg2.N : FVec Ideal S2048x768 .f32) i = dotS 384 (lnS 384 c384 w b (X (i 0).val)) (W (i 1).val))
    ∧ ∀ i : S2048x768.Idx, ((dat2 V c).arrAt 5 cfg2.N : FVec Ideal S2048x768 .f32) i = dotS 384 (lnS 384 c384 w b (X (i 0).val)) (W (768 + (i 1).val)) := by
  have hp : ∀ (t : Fin cfg2.N) (r : Fin 256) (k : Fin 1536), k2_pay1 (F := Ideal) (iblk2 V c 0 t) (iblk2 V c 1 t) (iblk2 V c 2 t) (iblk2 V c 3 t) (ix2 r k)
      = dotS 384 (lnS 384 c384 w b (X (t.val * 256 + r.val))) (W k.val) := fun t r k => by
    refine k2_pay1_at _ _ _ _ (fun a => X (t.val * 256 + a)) W w b ?_ ?_ ?_ ?_ r k <;> intro r k
    · blk_simp [iblk2, idx2_0 t, hX]
    · blk_simp [iblk2, idx2_1 t, hw]
    · blk_simp [iblk2, idx2_2 t, hb]
    · blk_simp [iblk2, idx2_3 t, hW]
  constructor
  · refine congrFun (?_ : _ = fun i : S2048x768.Idx => dotS 384 (lnS 384 c384 w b (X (i 0).val)) (W (i 1).val))
    refine (dat2 V c).arrAt_eq_of_covers 4 _ (by decide +kernel) fun t hf y => ?_
    blk_simp
    rw [after2_4]
    frame_out
    idx_vars y
    pointwise [k2_pay2, hp, idx2_4 t]
  · refine congrFun (?_ : _ = fun i : S2048x768.Idx => dotS 384 (lnS 384 c384 w b (X (i 0).val)) (W (768 + (i 1).val)))
    refine (dat2 V c).arrAt_eq_of_covers 5 _ (by decide +kernel) fun t hf y => ?_
    blk_simp
    rw [after2_5]
    frame_out
    idx_vars y
    pointwise [k2_pay3, hp, idx2_5 t]

end Cert.Proof.Ker
-- ==== Proof.KR3.lean ====
module

public import proofs.«01_k».proof.Proof.Gen.KernelIdeal.Frame
public import proofs.«01_k».proof.Proof.Spec
public import Idealize.ShloMosaic.Lib.Pointwise
public import Idealize.ShloMosaic.Lib.Pipeline.ValueKit

@[expose] public section

set_option maxRecDepth 65536

noncomputable section

namespace Cert.Proof.Ker

open Cert.KernelIdeal Cert.KernelIdeal.Gen
open Idealize.ShloMosaic
open Idealize.ShloMosaic.TcCoe
open Idealize.SL.Sem

variable (V : (c : Dev nD) → (b : Ref sig .tc) → Buf (Elt Ideal) ((c : Thread nD τ).loc b))

/-- Where each window of this call stands. -/
theorem idx3_0 : ∀ t, win3_0.index t = ![t.val, 0, 0] := by decide +kernel
/-- Which block window 1 is at, each trip. -/
theorem idx3_1 : ∀ t, win3_1.index t = ![0, 0] := by decide +kernel
/-- Which block window 2 is at, each trip. -/
theorem idx3_2 : ∀ t, win3_2.index t = ![0, 0] := by decide +kernel
/-- Which block window 3 is at, each trip. -/
theorem idx3_3 : ∀ t, win3_3.index t = ![t.val, 0, 0] := by decide +kernel

/-- The column of each pixel, as the body computes it. -/
theorem k3_pay3_at : ∀ l : Fin 1024, k3_pay3 (ix2 l 0) = BitVec.ofNat 32 (l.val % 32) := by decide +kernel

/-- The column test of a tap. -/
theorem ne_at (l k : ℕ) (hk : k < 32) : IntOp.cmpi .ne (BitVec.ofNat 32 (l % 32)) (BitVec.ofNat 32 k) = if l % 32 = k then 0#1 else 1#1 := by
  have h : (BitVec.ofNat 32 (l % 32) = BitVec.ofNat 32 k) ↔ l % 32 = k := by
    constructor
    · intro e
      have := congrArg BitVec.toNat e
      simp only [BitVec.toNat_ofNat] at this
      omega
    · rintro rfl; rfl
  by_cases e : l % 32 = k
  · simp [IntOp.cmpi, e]
  · rw [if_neg e]
    unfold IntOp.cmpi
    simp only [bne_iff_ne.mpr (mt h.mp e)]
    rfl

/-- A tap read from an earlier row. -/
theorem tap_before (X : Mat) (l di dj d s : ℕ) (hl : l < 1024) (hj : dj ≤ 2) (h : 32 * di + dj + s = 33) :
    tapS X l di dj d = if l % 32 + dj = 0 ∨ l % 32 + dj = 33 then 0 else if l < s then 0 else X (l - s) d := by
  unfold tapS
  have e : l + 32 * di + dj - 33 = l - s := by omega
  rw [e]
  split_ifs <;> first | rfl | (exfalso; omega)

/-- A tap read from the same or a later row. -/
theorem tap_after (X : Mat) (l di dj d s : ℕ) (hl : l < 1024) (hj : dj ≤ 2) (h : 32 * di + dj = 33 + s) :
    tapS X l di dj d = if l % 32 + dj = 0 ∨ l % 32 + dj = 33 then 0 else if l < 1024 - s then X (s + l) d else 0 := by
  unfold tapS
  have e : l + 32 * di + dj - 33 = s + l := by omega
  rw [e]
  split_ifs <;> first | rfl | (exfalso; omega)

/-- The bias and the first tap. -/
theorem k3_pay4_at (v0 : FVec Ideal S1x1024x768 .f32) (v19 v33 : FVec Ideal S1x768 .f32) (X W : Mat) (b : ℕ → EReal)
    (hX : ∀ r k, v0 (ix3 0 r k) = X r.val k.val) (hb : ∀ k, v19 (ix2 0 k) = b k.val) (h0 : ∀ k, v33 (ix2 0 k) = W 0 k.val) (l : Fin 1024) (d : Fin 768) :
    k3_pay4 (F := Ideal) v0 v19 v33 (ix2 l d) = b d.val + W 0 d.val * tapS X l.val 0 0 d.val := by
  have hl := l.isLt
  pointwise [k3_pay4, k3_pay2, hX, hb, h0, k3_pay3_at, ne_at, tap_before X l.val 0 0 d.val 33 hl]
  split_ifs <;> first | (exfalso; omega) | (exfalso; simp only [false_or] at *; omega) | simp [Scalar.select]

/-- The next four taps. -/
theorem k3_pay7_at (v1 : FVec Ideal S1024x768 .f32) (v38 : FVec Ideal S1024x768 .f32) (v0 : FVec Ideal S1x1024x768 .f32) (v42 v57 v72 v78 : FVec Ideal S1x768 .f32) (X W A : Mat)
    (hX : ∀ r k, v1 (ix2 r k) = X r.val k.val) (hX0 : ∀ r k, v0 (ix3 0 r k) = X r.val k.val) (hA : ∀ r k, v38 (ix2 r k) = A r.val k.val)
    (h1 : ∀ k, v42 (ix2 0 k) = W 1 k.val) (h2 : ∀ k, v57 (ix2 0 k) = W 2 k.val) (h3 : ∀ k, v72 (ix2 0 k) = W 3 k.val) (h4 : ∀ k, v78 (ix2 0 k) = W 4 k.val)
    (l : Fin 1024) (d : Fin 768) :
    k3_pay7 (F := Ideal) v1 k3_pay3 v38 k3_pay5 (k3_pay6 v0) v42 v57 v72 v78 (ix2 l d)
      = A l.val d.val + W 1 d.val * tapS X l.val 0 1 d.val + W 2 d.val * tapS X l.val 0 2 d.val + W 3 d.val * tapS X l.val 1 0 d.val + W 4 d.val * tapS X l.val 1 1 d.val := by
  have hl := l.isLt
  pointwise [k3_pay7, k3_pay5, k3_pay6, k3_pay2, hX, hX0, hA, h1, h2, h3, h4, k3_pay3_at, ne_at, tap_before X l.val 0 1 d.val 32 hl, tap_before X l.val 0 2 d.val 31 hl,
    tap_before X l.val 1 0 d.val 1 hl, tap_after X l.val 1 1 d.val 0 hl]
  split_ifs <;> first | (exfalso; omega) | (exfalso; simp only [false_or] at *; omega) | simp [Scalar.select]

/-- Three more taps. -/
theorem k3_pay10_at (v1 : FVec Ideal S1024x768 .f32) (v83 : FVec Ideal S1024x768 .f32) (v93 v108 v117 : FVec Ideal S1x768 .f32) (X W A : Mat)
    (hX : ∀ r k, v1 (ix2 r k) = X r.val k.val) (hA : ∀ r k, v83 (ix2 r k) = A r.val k.val)
    (h1 : ∀ k, v93 (ix2 0 k) = W 5 k.val) (h2 : ∀ k, v108 (ix2 0 k) = W 6 k.val) (h3 : ∀ k, v117 (ix2 0 k) = W 7 k.val)
    (l : Fin 1024) (d : Fin 768) :
    k3_pay10 (F := Ideal) v1 k3_pay3 v83 (k3_pay8 v1) k3_pay9 v93 v108 v117 (ix2 l d)
      = A l.val d.val + W 5 d.val * tapS X l.val 1 2 d.val + W 6 d.val * tapS X l.val 2 0 d.val + W 7 d.val * tapS X l.val 2 1 d.val := by
  have hl := l.isLt
  pointwise [k3_pay10, k3_pay8, k3_pay9, hX, hA, h1, h2, h3, k3_pay3_at, ne_at, tap_after X l.val 1 2 d.val 1 hl, tap_after X l.val 2 0 d.val 31 hl,
    tap_after X l.val 2 1 d.val 32 hl]
  split_ifs <;> first | (exfalso; omega) | (exfalso; simp only [false_or] at *; omega) | simp [Scalar.select]

/-- The last tap and the activation. -/
theorem k3_pay1_at (v1 : FVec Ideal S1024x768 .f32) (v122 : FVec Ideal S1024x768 .f32) (v132 : FVec Ideal S1x768 .f32) (X W A : Mat)
    (hX : ∀ r k, v1 (ix2 r k) = X r.val k.val) (hA : ∀ r k, v122 (ix2 r k) = A r.val k.val) (h1 : ∀ k, v132 (ix2 0 k) = W 8 k.val) (l : Fin 1024) (d : Fin 768) :
    k3_pay1 (F := Ideal) v122 (k3_pay11 v1) (k3_pay12 k3_pay3) k3_pay13 v132 (ix3 0 l d) = siluS (A l.val d.val + W 8 d.val * tapS X l.val 2 2 d.val) := by
  have hl := l.isLt
  pointwise [k3_pay1, k3_pay11, k3_pay12, k3_pay13, hX, hA, h1, k3_pay3_at, ne_at, tap_after X l.val 2 2 d.val 33 hl, zero_sub]
  unfold siluS
  split_ifs <;> first | (exfalso; omega) | (exfalso; simp only [false_or] at *; omega) | simp [Scalar.select]

/-- The depthwise convolution with its activation, one image per grid point. -/
theorem region3 (c : Dev nD) (X : ℕ → Mat) (W : Mat) (b : ℕ → EReal)
    (hX : ∀ i : S2x1024x768.Idx, V c main_v29 i = X (i 0).val (i 1).val (i 2).val) (hW : ∀ i : S9x768.Idx, V c main_v26 i = W (i 0).val (i 1).val)
    (hb : ∀ i : S1x768.Idx, V c main_v30 i = b (i 1).val) :
    ∀ i : S2x1024x768.Idx, ((dat3 V c).arrAt 3 cfg3.N : FVec Ideal S2x1024x768 .f32) i = siluS (convS (X (i 0).val) W b (i 1).val (i 2).val) := by
  refine congrFun (?_ : _ = fun i : S2x1024x768.Idx => siluS (convS (X (i 0).val) W b (i 1).val (i 2).val))
  refine (dat3 V c).arrAt_eq_of_covers 3 _ (by decide +kernel) fun t hf y => ?_
  have h0 : ∀ r k, (iblk3 V c 0 t : FVec Ideal S1x1024x768 .f32) (ix3 0 r k) = X t.val r.val k.val := fun r k => by blk_simp [iblk3, idx3_0 t, hX]; rfl
  have h1 : ∀ r k, (iblk3 V c 1 t : FVec Ideal S9x768 .f32) (ix2 r k) = W r.val k.val := fun r k => by blk_simp [iblk3, idx3_1 t, hW]
  have h2 : ∀ k, (iblk3 V c 2 t : FVec Ideal S1x768 .f32) (ix2 0 k) = b k.val := fun k => by blk_simp [iblk3, idx3_2 t, hb]
  have l0 : ∀ A : Vec Ideal S1x1024x768 .f32, View.ld A r3_0 = A := fun A => View.ld_unit_lit _ A (by decide)
  have l1 : ∀ A : Vec Ideal S1x768 .f32, View.ld A r3_1 = A := fun A => View.ld_unit_lit _ A (by decide)
  have p2 : ∀ r k, k3_pay2 (F := Ideal) (iblk3 V c 0 t) (ix2 r k) = X t.val r.val k.val := fun r k => by
    pointwise [k3_pay2, h0]
  have w : ∀ (k : Fin 768) (n : ℕ) (hn : n < 9) (inb : ∀ a, ![n, 0] a + S1x768.size a ≤ S9x768.size a),
      View.ld (iblk3 V c 1 t : FVec Ideal S9x768 .f32) (Rect.unit (s := S9x768) ![n, 0] S1x768.size inb) (ix2 0 k) = W n k.val := fun k n hn inb => by
    rw [View.ld_apply, ← h1 ⟨n, hn⟩ k]
    refine congrArg _ (funext fun a => ?_)
    apply Fin.ext
    fin_cases a <;> simp [Rect.unit, LoadRect.idx_apply]
  have p4 : ∀ r k, k3_pay4 (F := Ideal) (iblk3 V c 0 t) (iblk3 V c 2 t) (View.ld (iblk3 V c 1 t) r3_2) (ix2 r k)
      = (fun l d => b d + W 0 d * tapS (X t.val) l 0 0 d) r.val k.val := fun r k => k3_pay4_at _ _ _ (X t.val) W b h0 h2 (fun k => w k 0 (by omega) _) r k
  have p7 := k3_pay7_at (k3_pay2 (iblk3 V c 0 t)) (k3_pay4 (iblk3 V c 0 t) (iblk3 V c 2 t) (View.ld (iblk3 V c 1 t) r3_2)) (iblk3 V c 0 t) (View.ld (iblk3 V c 1 t) r3_3) (View.ld (iblk3 V c 1 t) r3_4) (View.ld (iblk3 V c 1 t) r3_5) (View.ld (iblk3 V c 1 t) r3_6)
    (X t.val) W (fun l d => b d + W 0 d * tapS (X t.val) l 0 0 d) p2 h0 p4 (fun k => w k 1 (by omega) _) (fun k => w k 2 (by omega) _) (fun k => w k 3 (by omega) _) (fun k => w k 4 (by omega) _)
  have p10 := k3_pay10_at (k3_pay2 (iblk3 V c 0 t)) _ (View.ld (iblk3 V c 1 t) r3_7) (View.ld (iblk3 V c 1 t) r3_8) (View.ld (iblk3 V c 1 t) r3_9)
    (X t.val) W (fun l d => b d + W 0 d * tapS (X t.val) l 0 0 d + W 1 d * tapS (X t.val) l 0 1 d + W 2 d * tapS (X t.val) l 0 2 d + W 3 d * tapS (X t.val) l 1 0 d
      + W 4 d * tapS (X t.val) l 1 1 d) p2 p7 (fun k => w k 5 (by omega) _) (fun k => w k 6 (by omega) _) (fun k => w k 7 (by omega) _)
  have p1 := k3_pay1_at (k3_pay2 (iblk3 V c 0 t)) _ (View.ld (iblk3 V c 1 t) r3_10)
    (X t.val) W (fun l d => b d + W 0 d * tapS (X t.val) l 0 0 d + W 1 d * tapS (X t.val) l 0 1 d + W 2 d * tapS (X t.val) l 0 2 d + W 3 d * tapS (X t.val) l 1 0 d
      + W 4 d * tapS (X t.val) l 1 1 d + W 5 d * tapS (X t.val) l 1 2 d + W 6 d * tapS (X t.val) l 2 0 d + W 7 d * tapS (X t.val) l 2 1 d) p2 p10 (fun k => w k 8 (by omega) _)
  blk_simp
  rw [after3_3]
  frame_out
  idx_vars y
  obtain rfl : y0 = 0 := Subsingleton.elim _ _
  unfold k3_pay14 k3_pay15 convS
  simp only [l0, l1, idx3_3 t]
  refine (p1 y1 y2).trans ?_
  simp

end Cert.Proof.Ker
-- ==== Proof.KR5.lean ====
module

public import proofs.«01_k».proof.Proof.Gen.KernelIdeal.Frame
public import proofs.«01_k».proof.Proof.Spec
public import Idealize.ShloMosaic.Lib.Pointwise
public import Idealize.ShloMosaic.Lib.Pipeline.ValueKit

@[expose] public section

set_option maxRecDepth 65536

noncomputable section

namespace Cert.Proof.Ker

open Cert.KernelIdeal Cert.KernelIdeal.Gen
open Idealize.ShloMosaic
open Idealize.ShloMosaic.TcCoe
open Idealize.SL.Sem

variable (V : (c : Dev nD) → (b : Ref sig .tc) → Buf (Elt Ideal) ((c : Thread nD τ).loc b))

/-- Where each window of this call stands. -/
theorem idx5_0 : ∀ t, win5_0.index t = ![t.val, 0] := by decide +kernel
/-- Which block window 1 is at, each trip. -/
theorem idx5_1 : ∀ t, win5_1.index t = ![t.val, 0] := by decide +kernel
/-- Which block window 2 is at, each trip. -/
theorem idx5_2 : ∀ t, win5_2.index t = ![t.val, 0] := by decide +kernel
/-- Which block window 3 is at, each trip. -/
theorem idx5_3 : ∀ t, win5_3.index t = ![0, 0] := by decide +kernel
/-- Which block window 4 is at, each trip. -/
theorem idx5_4 : ∀ t, win5_4.index t = ![t.val, 0] := by decide +kernel
/-- Which block window 5 is at, each trip. -/
theorem idx5_5 : ∀ t, win5_5.index t = ![t.val, 0] := by decide +kernel
/-- Which block window 6 is at, each trip. -/
theorem idx5_6 : ∀ t, win5_6.index t = ![0, 0] := by decide +kernel
/-- Which block window 7 is at, each trip. -/
theorem idx5_7 : ∀ t, win5_7.index t = ![0, 0] := by decide +kernel
/-- Which block window 8 is at, each trip. -/
theorem idx5_8 : ∀ t, win5_8.index t = ![0, 0] := by decide +kernel
/-- Which block window 9 is at, each trip. -/
theorem idx5_9 : ∀ t, win5_9.index t = ![t.val, 0] := by decide +kernel

/-- The normalised total of the scans, at an index. -/
theorem k5_pay2_at (v0 : FVec Ideal S4x768 .f32) (v4 v6 v9 : FVec Ideal S1024x768 .f32) (v14 v16 : FVec Ideal S1x768 .f32)
    (D Y0 Y1 U : Mat) (w b : ℕ → EReal)
    (hD : ∀ r k, v0 (ix2 r k) = D r.val k.val) (h0 : ∀ r k, v4 (ix2 r k) = Y0 r.val k.val) (h1 : ∀ r k, v6 (ix2 r k) = Y1 r.val k.val)
    (hU : ∀ r k, v9 (ix2 r k) = U r.val k.val) (hw : ∀ r k, v14 (ix2 r k) = w k.val) (hb : ∀ r k, v16 (ix2 r k) = b k.val)
    (r : Fin 1024) (k : Fin 768) : k5_pay2 (F := Ideal) v0 v4 v6 v9 v14 v16 (ix2 r k)
      = lnS 768 c768 w b (fun k => Y0 r.val k + Y1 r.val k + (∑ j : Fin 4, D j.val k) * U r.val k) k.val := by
  unfold lnS varS meanS
  pointwise [k5_pay2, hD, h0, h1, hU, hw, hb]

/-- The layer's last call: norm, gate, projection and the sum with the layer's input. -/
theorem region5 (c : Dev nD) (D Y0 Y1 U Z XH OW : Mat) (w b : ℕ → EReal)
    (hY0 : ∀ i : S2048x768.Idx, V c main_v54 i = Y0 (i 0).val (i 1).val) (hY1 : ∀ i : S2048x768.Idx, V c main_v63 i = Y1 (i 0).val (i 1).val)
    (hU : ∀ i : S2048x768.Idx, V c main_v64 i = U (i 0).val (i 1).val) (hD : ∀ i : S4x768.Idx, V c main_v66 i = D (i 0).val (i 1).val)
    (hZ : ∀ i : S2048x768.Idx, V c main_v22_1 i = Z (i 0).val (i 1).val) (hXH : ∀ i : S2048x384.Idx, V c main_v13 i = XH (i 0).val (i 1).val)
    (hw : ∀ i : S1x768.Idx, V c main_v73 i = w (i 1).val) (hb : ∀ i : S1x768.Idx, V c main_v74 i = b (i 1).val)
    (hOW : ∀ i : S384x768.Idx, V c main_v72 i = OW (i 0).val (i 1).val) :
    ∀ i : S2048x384.Idx, ((dat5 V c).arrAt 9 cfg5.N : FVec Ideal S2048x384 .f32) i
      = outS (fun k => Y0 (i 0).val k + Y1 (i 0).val k + (∑ j : Fin 4, D j.val k) * U (i 0).val k) (Z (i 0).val) (XH (i 0).val (i 1).val) w b (OW (i 1).val) := by
  refine congrFun (?_ : _ = fun i : S2048x384.Idx => outS (fun k => Y0 (i 0).val k + Y1 (i 0).val k + (∑ j : Fin 4, D j.val k) * U (i 0).val k) (Z (i 0).val) (XH (i 0).val (i 1).val) w b (OW (i 1).val))
  refine (dat5 V c).arrAt_eq_of_covers 9 _ (by decide +kernel) fun t hf y => ?_
  have hp : ∀ r k, k5_pay2 (F := Ideal) (iblk5 V c 3 t) (iblk5 V c 0 t) (iblk5 V c 1 t) (iblk5 V c 2 t) (iblk5 V c 6 t) (iblk5 V c 7 t) (ix2 r k)
      = lnS 768 c768 w b (fun k => Y0 (t.val * 1024 + r.val) k + Y1 (t.val * 1024 + r.val) k + (∑ j : Fin 4, D j.val k) * U (t.val * 1024 + r.val) k) k.val := fun r k => by
    refine k5_pay2_at _ _ _ _ _ _ D (fun a => Y0 (t.val * 1024 + a)) (fun a => Y1 (t.val * 1024 + a)) (fun a => U (t.val * 1024 + a)) w b ?_ ?_ ?_ ?_ ?_ ?_ r k <;> intro r k
    · blk_simp [iblk5, idx5_3 t, hD]
    · blk_simp [iblk5, idx5_0 t, hY0]
    · blk_simp [iblk5, idx5_1 t, hY1]
    · blk_simp [iblk5, idx5_2 t, hU]
    · blk_simp [iblk5, idx5_6 t, hw]
    · blk_simp [iblk5, idx5_7 t, hb]
  have h4 : ∀ r k, (iblk5 V c 4 t : FVec Ideal S1024x768 .f32) (ix2 r k) = Z (t.val * 1024 + r.val) k.val := fun r k => by blk_simp [iblk5, idx5_4 t, hZ]
  have h5 : ∀ r k, (iblk5 V c 5 t : FVec Ideal S1024x384 .f32) (ix2 r k) = XH (t.val * 1024 + r.val) k.val := fun r k => by blk_simp [iblk5, idx5_5 t, hXH]
  have h8 : ∀ r k, (iblk5 V c 8 t : FVec Ideal S384x768 .f32) (ix2 r k) = OW r.val k.val := fun r k => by blk_simp [iblk5, idx5_8 t, hOW]
  blk_simp
  rw [after5_9]
  frame_out
  idx_vars y
  unfold outS dotS siluS
  pointwise [k5_pay1, hp, h4, h5, h8, idx5_9 t, zero_sub]

end Cert.Proof.Ker
-- ==== Proof.KR6.lean ====
module

public import proofs.«01_k».proof.Proof.Gen.KernelIdeal.Frame
public import proofs.«01_k».proof.Proof.Spec
public import Idealize.ShloMosaic.Lib.Pointwise
public import Idealize.ShloMosaic.Lib.Pipeline.ValueKit

@[expose] public section

set_option maxRecDepth 65536

noncomputable section

namespace Cert.Proof.Ker

open Cert.KernelIdeal Cert.KernelIdeal.Gen
open Idealize.ShloMosaic
open Idealize.ShloMosaic.TcCoe
open Idealize.SL.Sem

variable (V : (c : Dev nD) → (b : Ref sig .tc) → Buf (Elt Ideal) ((c : Thread nD τ).loc b))

/-- The product payload of the layer's first call, at an index. -/
theorem k6_pay1_at (v0 : FVec Ideal S256x384 .f32) (v2 v4 : FVec Ideal S1x384 .f32) (v28 : FVec Ideal S1536x384 .f32) (X W : Mat) (w b : ℕ → EReal)
    (hX : ∀ r k, v0 (ix2 r k) = X r.val k.val) (hw : ∀ r k, v2 (ix2 r k) = w k.val) (hb : ∀ r k, v4 (ix2 r k) = b k.val)
    (hW : ∀ r k, v28 (ix2 r k) = W r.val k.val) (r : Fin 256) (c : Fin 1536) :
    k6_pay1 (F := Ideal) v0 v2 v4 v28 (ix2 r c) = dotS 384 (lnS 384 c384 w b (X r.val)) (W c.val) := by
  unfold dotS lnS varS meanS
  pointwise [k6_pay1, hX, hw, hb, hW]

/-- Where each window of the layer's first call stands. -/
theorem idx6_0 : ∀ t, win6_0.index t = ![t.val, 0] := by decide +kernel
/-- Which block window 1 is at, each trip. -/
theorem idx6_1 : ∀ t, win6_1.index t = ![0, 0] := by decide +kernel
/-- Which block window 2 is at, each trip. -/
theorem idx6_2 : ∀ t, win6_2.index t = ![0, 0] := by decide +kernel
/-- Which block window 3 is at, each trip. -/
theorem idx6_3 : ∀ t, win6_3.index t = ![0, 0] := by decide +kernel
/-- Which block window 4 is at, each trip. -/
theorem idx6_4 : ∀ t, win6_4.index t = ![t.val, 0] := by decide +kernel
/-- Which block window 5 is at, each trip. -/
theorem idx6_5 : ∀ t, win6_5.index t = ![t.val, 0] := by decide +kernel

/-- Both outputs of the layer's first call. -/
theorem region6 (c : Dev nD) (X W : Mat) (w b : ℕ → EReal)
    (hX : ∀ i : S2048x384.Idx, V c main_v75 i = X (i 0).val (i 1).val) (hw : ∀ i : S1x384.Idx, V c main_v82 i = w (i 1).val)
    (hb : ∀ i : S1x384.Idx, V c main_v83 i = b (i 1).val) (hW : ∀ i : S1536x384.Idx, V c main_v81 i = W (i 0).val (i 1).val) :
    (∀ i : S2048x768.Idx, ((dat6 V c).arrAt 4 cfg6.N : FVec Ideal S2048x768 .f32) i = dotS 384 (lnS 384 c384 w b (X (i 0).val)) (W (i 1).val))
    ∧ ∀ i : S2048x768.Idx, ((dat6 V c).arrAt 5 cfg6.N : FVec Ideal S2048x768 .f32) i = dotS 384 (lnS 384 c384 w b (X (i 0).val)) (W (768 + (i 1).val)) := by
  have hp : ∀ (t : Fin cfg6.N) (r : Fin 256) (k : Fin 1536), k6_pay1 (F := Ideal) (iblk6 V c 0 t) (iblk6 V c 1 t) (iblk6 V c 2 t) (iblk6 V c 3 t) (ix2 r k)
      = dotS 384 (lnS 384 c384 w b (X (t.val * 256 + r.val))) (W k.val) := fun t r k => by
    refine k6_pay1_at _ _ _ _ (fun a => X (t.val * 256 + a)) W w b ?_ ?_ ?_ ?_ r k <;> intro r k
    · blk_simp [iblk6, idx6_0 t, hX]
    · blk_simp [iblk6, idx6_1 t, hw]
    · blk_simp [iblk6, idx6_2 t, hb]
    · blk_simp [iblk6, idx6_3 t, hW]
  constructor
  · refine congrFun (?_ : _ = fun i : S2048x768.Idx => dotS 384 (lnS 384 c384 w b (X (i 0).val)) (W (i 1).val))
    refine (dat6 V c).arrAt_eq_of_covers 4 _ (by decide +kernel) fun t hf y => ?_
    blk_simp
    rw [after6_4]
    frame_out
    idx_vars y
    pointwise [k6_pay2, hp, idx6_4 t]
  · refine congrFun (?_ : _ = fun i : S2048x768.Idx => dotS 384 (lnS 384 c384 w b (X (i 0).val)) (W (768 + (i 1).val)))
    refine (dat6 V c).arrAt_eq_of_covers 5 _ (by decide +kernel) fun t hf y => ?_
    blk_simp
    rw [after6_5]
    frame_out
    idx_vars y
    pointwise [k6_pay3, hp, idx6_5 t]

end Cert.Proof.Ker
-- ==== Proof.KR7.lean ====
module

public import proofs.«01_k».proof.Proof.Gen.KernelIdeal.Frame
public import proofs.«01_k».proof.Proof.Spec
public import proofs.«01_k».proof.Proof.KR3
public import Idealize.ShloMosaic.Lib.Pointwise
public import Idealize.ShloMosaic.Lib.Pipeline.ValueKit

@[expose] public section

set_option maxRecDepth 65536

noncomputable section

namespace Cert.Proof.Ker

open Cert.KernelIdeal Cert.KernelIdeal.Gen
open Idealize.ShloMosaic
open Idealize.ShloMosaic.TcCoe
open Idealize.SL.Sem

variable (V : (c : Dev nD) → (b : Ref sig .tc) → Buf (Elt Ideal) ((c : Thread nD τ).loc b))

/-- Where each window of this call stands. -/
theorem idx7_0 : ∀ t, win7_0.index t = ![t.val, 0, 0] := by decide +kernel
/-- Which block window 1 is at, each trip. -/
theorem idx7_1 : ∀ t, win7_1.index t = ![0, 0] := by decide +kernel
/-- Which block window 2 is at, each trip. -/
theorem idx7_2 : ∀ t, win7_2.index t = ![0, 0] := by decide +kernel
/-- Which block window 3 is at, each trip. -/
theorem idx7_3 : ∀ t, win7_3.index t = ![t.val, 0, 0] := by decide +kernel

/-- The depthwise convolution with its activation, one image per grid point. -/
theorem region7 (c : Dev nD) (X : ℕ → Mat) (W : Mat) (b : ℕ → EReal)
    (hX : ∀ i : S2x1024x768.Idx, V c main_v91 i = X (i 0).val (i 1).val (i 2).val) (hW : ∀ i : S9x768.Idx, V c main_v88 i = W (i 0).val (i 1).val)
    (hb : ∀ i : S1x768.Idx, V c main_v92 i = b (i 1).val) :
    ∀ i : S2x1024x768.Idx, ((dat7 V c).arrAt 3 cfg7.N : FVec Ideal S2x1024x768 .f32) i = siluS (convS (X (i 0).val) W b (i 1).val (i 2).val) := by
  refine congrFun (?_ : _ = fun i : S2x1024x768.Idx => siluS (convS (X (i 0).val) W b (i 1).val (i 2).val))
  refine (dat7 V c).arrAt_eq_of_covers 3 _ (by decide +kernel) fun t hf y => ?_
  have h0 : ∀ r k, (iblk7 V c 0 t : FVec Ideal S1x1024x768 .f32) (ix3 0 r k) = X t.val r.val k.val := fun r k => by blk_simp [iblk7, idx7_0 t, hX]; rfl
  have h1 : ∀ r k, (iblk7 V c 1 t : FVec Ideal S9x768 .f32) (ix2 r k) = W r.val k.val := fun r k => by blk_simp [iblk7, idx7_1 t, hW]
  have h2 : ∀ k, (iblk7 V c 2 t : FVec Ideal S1x768 .f32) (ix2 0 k) = b k.val := fun k => by blk_simp [iblk7, idx7_2 t, hb]
  have l0 : ∀ A : Vec Ideal S1x1024x768 .f32, View.ld A r7_0 = A := fun A => View.ld_unit_lit _ A (by decide)
  have l1 : ∀ A : Vec Ideal S1x768 .f32, View.ld A r7_1 = A := fun A => View.ld_unit_lit _ A (by decide)
  have p2 : ∀ r k, k7_pay2 (F := Ideal) (iblk7 V c 0 t) (ix2 r k) = X t.val r.val k.val := fun r k => by
    pointwise [k7_pay2, h0]
  have w : ∀ (k : Fin 768) (n : ℕ) (hn : n < 9) (inb : ∀ a, ![n, 0] a + S1x768.size a ≤ S9x768.size a),
      View.ld (iblk7 V c 1 t : FVec Ideal S9x768 .f32) (Rect.unit (s := S9x768) ![n, 0] S1x768.size inb) (ix2 0 k) = W n k.val := fun k n hn inb => by
    rw [View.ld_apply, ← h1 ⟨n, hn⟩ k]
    refine congrArg _ (funext fun a => ?_)
    apply Fin.ext
    fin_cases a <;> simp [Rect.unit, LoadRect.idx_apply]
  have p4 : ∀ r k, k7_pay4 (F := Ideal) (iblk7 V c 0 t) (iblk7 V c 2 t) (View.ld (iblk7 V c 1 t) r7_2) (ix2 r k)
      = (fun l d => b d + W 0 d * tapS (X t.val) l 0 0 d) r.val k.val := fun r k => k3_pay4_at _ _ _ (X t.val) W b h0 h2 (fun k => w k 0 (by omega) _) r k
  have p7 := k3_pay7_at (k7_pay2 (iblk7 V c 0 t)) (k7_pay4 (iblk7 V c 0 t) (iblk7 V c 2 t) (View.ld (iblk7 V c 1 t) r7_2)) (iblk7 V c 0 t) (View.ld (iblk7 V c 1 t) r7_3) (View.ld (iblk7 V c 1 t) r7_4) (View.ld (iblk7 V c 1 t) r7_5) (View.ld (iblk7 V c 1 t) r7_6)
    (X t.val) W (fun l d => b d + W 0 d * tapS (X t.val) l 0 0 d) p2 h0 p4 (fun k => w k 1 (by omega) _) (fun k => w k 2 (by omega) _) (fun k => w k 3 (by omega) _) (fun k => w k 4 (by omega) _)
  have p10 := k3_pay10_at (k7_pay2 (iblk7 V c 0 t)) _ (View.ld (iblk7 V c 1 t) r7_7) (View.ld (iblk7 V c 1 t) r7_8) (View.ld (iblk7 V c 1 t) r7_9)
    (X t.val) W (fun l d => b d + W 0 d * tapS (X t.val) l 0 0 d + W 1 d * tapS (X t.val) l 0 1 d + W 2 d * tapS (X t.val) l 0 2 d + W 3 d * tapS (X t.val) l 1 0 d
      + W 4 d * tapS (X t.val) l 1 1 d) p2 p7 (fun k => w k 5 (by omega) _) (fun k => w k 6 (by omega) _) (fun k => w k 7 (by omega) _)
  have p1 := k3_pay1_at (k7_pay2 (iblk7 V c 0 t)) _ (View.ld (iblk7 V c 1 t) r7_10)
    (X t.val) W (fun l d => b d + W 0 d * tapS (X t.val) l 0 0 d + W 1 d * tapS (X t.val) l 0 1 d + W 2 d * tapS (X t.val) l 0 2 d + W 3 d * tapS (X t.val) l 1 0 d
      + W 4 d * tapS (X t.val) l 1 1 d + W 5 d * tapS (X t.val) l 1 2 d + W 6 d * tapS (X t.val) l 2 0 d + W 7 d * tapS (X t.val) l 2 1 d) p2 p10 (fun k => w k 8 (by omega) _)
  blk_simp
  rw [after7_3]
  frame_out
  idx_vars y
  obtain rfl : y0 = 0 := Subsingleton.elim _ _
  unfold k7_pay14 k7_pay15 convS
  simp only [l0, l1, idx7_3 t]
  refine (p1 y1 y2).trans ?_
  simp

end Cert.Proof.Ker
-- ==== Proof.KR8L.lean ====
module

public import proofs.«01_k».proof.Proof.Gen.KernelIdeal.Frame
public import proofs.«01_k».proof.Proof.KR4L
public import proofs.«01_k».proof.Proof.ScanTrip
public import proofs.«01_k».proof.Proof.Spec
public import Idealize.ShloMosaic.Lib.Pointwise
public import Idealize.ShloMosaic.Lib.Pipeline.ValueKit

@[expose] public section

set_option maxRecDepth 65536

noncomputable section

namespace Cert.Proof.Ker

open Cert.KernelIdeal Cert.KernelIdeal.Gen
open Idealize.ShloMosaic
open Idealize.ShloMosaic.TcCoe
open Idealize.SL.Sem

/-- What the forward loop's stores hold. -/
theorem loop8_1 (𝒱 : Variants) (c : Dev nD) (bd : Option 𝒱.V) (i : grid8.Coords) (arg2 : Memref sig .tc .vmem S1x1x1024x768 .f32) (harg2 : arg2.IsWhole) (arg3 : Memref sig .tc .vmem S1x56x768 .f32) (harg3 : arg3.IsWhole) (arg4 : Memref sig .tc .vmem S1x768x24 .f32) (harg4 : arg4.IsWhole) (arg5 : Memref sig .tc .vmem S1x1x768 .f32) (harg5 : arg5.IsWhole) (arg6 : Memref sig .tc .vmem S1x16x768 .f32) (harg6 : arg6.IsWhole) (arg7 : Memref sig .tc .vmem S1x1x1024x768 .f32) (harg7 : arg7.IsWhole) (arg8 : Memref sig .tc .vmem S1024x768 .f32) (harg8 : arg8.IsWhole) (arg9 : Memref sig .tc .vmem S1024x768 .f32) (harg9 : arg9.IsWhole) (arg10 : Memref sig .tc .vmem S1024x32 .f32) (harg10 : arg10.IsWhole) (arg11 : Memref sig .tc .vmem S16x768 .f32) (harg11 : arg11.IsWhole) (k8_h1 : k8_cond1 i = 1#1) (X_arg8 : BufTy.Contents (Elt Ideal) arg8.view.ty) (X_arg9 : BufTy.Contents (Elt Ideal) arg9.view.ty) (X_arg10 : BufTy.Contents (Elt Ideal) arg10.view.ty) (X_arg11 : BufTy.Contents (Elt Ideal) arg11.view.ty)
    (init : FVec Ideal S16x768 .f32) (A2 DT DU BC : Mat) (hi : ∀ n d, init (ix2 n d) = 0)
    (hA : ∀ (hb : ∀ a, (![0, 0] : Fin 2 → ℕ) a + S16x768.size a ≤ S16x768.size a) (n : Fin 16) (d : Fin 768),
      View.readAt (Elt Ideal) arg11.view (Rect.unit (s := S16x768) ![0, 0] S16x768.size hb).toLoadRect X_arg11 (ix2 n d) = A2 n.val d.val)
    (hDT : ∀ (l : Fin 1024) (d : Fin 768), View.read (Elt Ideal) arg8.view X_arg8 (ix2 l d) = DT l.val d.val)
    (hDU : ∀ (l : Fin 1024) (d : Fin 768), View.read (Elt Ideal) arg9.view X_arg9 (ix2 l d) = DU l.val d.val)
    (hBC : ∀ (l : Fin 1024) (d : Fin 32), View.read (Elt Ideal) arg10.view X_arg10 (ix2 l d) = BC l.val d.val) :
    ∀ y, View.AllAt (st_k8_t1 (F := Ideal) 𝒱 c bd i arg2 harg2 arg3 harg3 arg4 harg4 arg5 harg5 arg6 harg6 arg7 harg7 arg8 harg8 arg9 harg9 arg10 harg10 arg11 harg11 k8_h1 X_arg8 X_arg9 X_arg10 X_arg11 init 8).2 y (scanS (fun l => l) A2 DT DU BC (y 2).val (y 3).val) := by
  have hAb : ∀ a, (![0, 0] : Fin 2 → ℕ) a + S16x768.size a ≤ S16x768.size a := by decide
  refine (chunks (fun l => l) fwd (fun k => 128 * k) (by intro k hk l hl; first | omega | rfl | (dsimp only [bwd]; omega)) (by intro k hk l hl; first | omega | rfl | (dsimp only [bwd]; omega)) (by intro l hl; first | omega | rfl | (dsimp only [bwd]; omega))
    (st_k8_t1 (F := Ideal) 𝒱 c bd i arg2 harg2 arg3 harg3 arg4 harg4 arg5 harg5 arg6 harg6 arg7 harg7 arg8 harg8 arg9 harg9 arg10 harg10 arg11 harg11 k8_h1 X_arg8 X_arg9 X_arg10 X_arg11 init) _ A2 DT DU BC (hA hAb) hi rfl (fun k hk => ?_) 8 (le_refl _)).2
  have e := st_k8_t1_succ (F := Ideal) 𝒱 c bd i arg2 harg2 arg3 harg3 arg4 harg4 arg5 harg5 arg6 harg6 arg7 harg7 arg8 harg8 arg9 harg9 arg10 harg10 arg11 harg11 k8_h1 X_arg8 X_arg9 X_arg10 X_arg11 init ⟨k, hk⟩
  rw [tripR_k8_t1_eq 𝒱 c bd i arg2 harg2 arg3 harg3 arg4 harg4 arg5 harg5 arg6 harg6 arg7 harg7 arg8 harg8 arg9 harg9 arg10 harg10 arg11 harg11 k8_h1 X_arg8 X_arg9 X_arg10 X_arg11 ⟨k, hk⟩ _ hAb (k8_off1_inb i ⟨k, hk⟩ k8_h1) (k8_off2_inb i ⟨k, hk⟩ k8_h1) (k8_off3_inb i ⟨k, hk⟩ k8_h1),
    tripL_k8_t1_eq 𝒱 c bd i arg2 harg2 arg3 harg3 arg4 harg4 arg5 harg5 arg6 harg6 arg7 harg7 arg8 harg8 arg9 harg9 arg10 harg10 arg11 harg11 k8_h1 X_arg8 X_arg9 X_arg10 X_arg11 ⟨k, hk⟩ _ hAb (k8_off1_inb i ⟨k, hk⟩ k8_h1) (k8_off2_inb i ⟨k, hk⟩ k8_h1) (k8_off3_inb i ⟨k, hk⟩ k8_h1)] at e
  refine ⟨_, _, _, _, _, k8_off3_eq ⟨k, hk⟩, e, fun s d => ?_, fun s d => ?_, fun s p => ?_⟩
  · exact (ld_rows _ DT hDT _ _ (k8_off1_eq ⟨k, hk⟩) _ s d)
  · exact (ld_rows _ DU hDU _ _ (k8_off1_eq ⟨k, hk⟩) _ s d)
  · exact (ld_cols _ BC hBC _ _ (k8_off2_eq ⟨k, hk⟩) _ s p)

/-- What the backward loop's stores hold. -/
theorem loop8_2 (𝒱 : Variants) (c : Dev nD) (bd : Option 𝒱.V) (i : grid8.Coords) (arg2 : Memref sig .tc .vmem S1x1x1024x768 .f32) (harg2 : arg2.IsWhole) (arg3 : Memref sig .tc .vmem S1x56x768 .f32) (harg3 : arg3.IsWhole) (arg4 : Memref sig .tc .vmem S1x768x24 .f32) (harg4 : arg4.IsWhole) (arg5 : Memref sig .tc .vmem S1x1x768 .f32) (harg5 : arg5.IsWhole) (arg6 : Memref sig .tc .vmem S1x16x768 .f32) (harg6 : arg6.IsWhole) (arg7 : Memref sig .tc .vmem S1x1x1024x768 .f32) (harg7 : arg7.IsWhole) (arg8 : Memref sig .tc .vmem S1024x768 .f32) (harg8 : arg8.IsWhole) (arg9 : Memref sig .tc .vmem S1024x768 .f32) (harg9 : arg9.IsWhole) (arg10 : Memref sig .tc .vmem S1024x32 .f32) (harg10 : arg10.IsWhole) (arg11 : Memref sig .tc .vmem S16x768 .f32) (harg11 : arg11.IsWhole) (k8_h2 : k8_cond2 i = 1#1) (X_arg8 : BufTy.Contents (Elt Ideal) arg8.view.ty) (X_arg9 : BufTy.Contents (Elt Ideal) arg9.view.ty) (X_arg10 : BufTy.Contents (Elt Ideal) arg10.view.ty) (X_arg11 : BufTy.Contents (Elt Ideal) arg11.view.ty)
    (init : FVec Ideal S16x768 .f32) (A2 DT DU BC : Mat) (hi : ∀ n d, init (ix2 n d) = 0)
    (hA : ∀ (hb : ∀ a, (![0, 0] : Fin 2 → ℕ) a + S16x768.size a ≤ S16x768.size a) (n : Fin 16) (d : Fin 768),
      View.readAt (Elt Ideal) arg11.view (Rect.unit (s := S16x768) ![0, 0] S16x768.size hb).toLoadRect X_arg11 (ix2 n d) = A2 n.val d.val)
    (hDT : ∀ (l : Fin 1024) (d : Fin 768), View.read (Elt Ideal) arg8.view X_arg8 (ix2 l d) = DT l.val d.val)
    (hDU : ∀ (l : Fin 1024) (d : Fin 768), View.read (Elt Ideal) arg9.view X_arg9 (ix2 l d) = DU l.val d.val)
    (hBC : ∀ (l : Fin 1024) (d : Fin 32), View.read (Elt Ideal) arg10.view X_arg10 (ix2 l d) = BC l.val d.val) :
    ∀ y, View.AllAt (st_k8_t2 (F := Ideal) 𝒱 c bd i arg2 harg2 arg3 harg3 arg4 harg4 arg5 harg5 arg6 harg6 arg7 harg7 arg8 harg8 arg9 harg9 arg10 harg10 arg11 harg11 k8_h2 X_arg8 X_arg9 X_arg10 X_arg11 init 8).2 y (scanS (fun l => 1023 - l) A2 DT DU BC (y 2).val (y 3).val) := by
  have hAb : ∀ a, (![0, 0] : Fin 2 → ℕ) a + S16x768.size a ≤ S16x768.size a := by decide
  refine (chunks (fun l => 1023 - l) bwd (fun k => 896 - 128 * k) (by intro k hk l hl; first | omega | rfl | (dsimp only [bwd]; omega)) (by intro k hk l hl; first | omega | rfl | (dsimp only [bwd]; omega)) (by intro l hl; first | omega | rfl | (dsimp only [bwd]; omega))
    (st_k8_t2 (F := Ideal) 𝒱 c bd i arg2 harg2 arg3 harg3 arg4 harg4 arg5 harg5 arg6 harg6 arg7 harg7 arg8 harg8 arg9 harg9 arg10 harg10 arg11 harg11 k8_h2 X_arg8 X_arg9 X_arg10 X_arg11 init) _ A2 DT DU BC (hA hAb) hi rfl (fun k hk => ?_) 8 (le_refl _)).2
  have e := st_k8_t2_succ (F := Ideal) 𝒱 c bd i arg2 harg2 arg3 harg3 arg4 harg4 arg5 harg5 arg6 harg6 arg7 harg7 arg8 harg8 arg9 harg9 arg10 harg10 arg11 harg11 k8_h2 X_arg8 X_arg9 X_arg10 X_arg11 init ⟨k, hk⟩
  rw [tripR_k8_t2_eq 𝒱 c bd i arg2 harg2 arg3 harg3 arg4 harg4 arg5 harg5 arg6 harg6 arg7 harg7 arg8 harg8 arg9 harg9 arg10 harg10 arg11 harg11 k8_h2 X_arg8 X_arg9 X_arg10 X_arg11 ⟨k, hk⟩ _ hAb (k8_off4_inb i ⟨k, hk⟩ k8_h2) (k8_off5_inb i ⟨k, hk⟩ k8_h2) (k8_off6_inb i ⟨k, hk⟩ k8_h2),
    tripL_k8_t2_eq 𝒱 c bd i arg2 harg2 arg3 harg3 arg4 harg4 arg5 harg5 arg6 harg6 arg7 harg7 arg8 harg8 arg9 harg9 arg10 harg10 arg11 harg11 k8_h2 X_arg8 X_arg9 X_arg10 X_arg11 ⟨k, hk⟩ _ hAb (k8_off4_inb i ⟨k, hk⟩ k8_h2) (k8_off5_inb i ⟨k, hk⟩ k8_h2) (k8_off6_inb i ⟨k, hk⟩ k8_h2)] at e
  refine ⟨_, _, _, _, _, k8_off6_eq ⟨k, hk⟩, e, fun s d => ?_, fun s d => ?_, fun s p => ?_⟩
  · exact (ld_rows _ DT hDT _ _ (k8_off4_eq ⟨k, hk⟩) _ s d)
  · exact (ld_rows _ DU hDU _ _ (k8_off4_eq ⟨k, hk⟩) _ s d)
  · exact (ld_cols _ BC hBC _ _ (k8_off5_eq ⟨k, hk⟩) _ s p)

end Cert.Proof.Ker
-- ==== Proof.KR8.lean ====
module

public import proofs.«01_k».proof.Proof.Gen.KernelIdeal.Frame
public import proofs.«01_k».proof.Proof.KR8L
public import proofs.«01_k».proof.Proof.KR4
public import proofs.«01_k».proof.Proof.ScanTrip
public import proofs.«01_k».proof.Proof.Spec
public import Idealize.ShloMosaic.Lib.Pointwise
public import Idealize.ShloMosaic.Lib.VecWindow
public import Idealize.ShloMosaic.Lib.Pipeline.ValueKit

@[expose] public section

set_option maxRecDepth 65536

noncomputable section

namespace Cert.Proof.Ker

open Cert.KernelIdeal Cert.KernelIdeal.Gen
open Idealize.ShloMosaic
open Idealize.ShloMosaic.TcCoe
open Idealize.SL.Sem

variable (V : (c : Dev nD) → (b : Ref sig .tc) → Buf (Elt Ideal) ((c : Thread nD τ).loc b))

/-- Where each window of this call stands. -/
theorem idx8_0 : ∀ t, win8_0.index t = ![t.val / 4, t.val % 4 / 2, 0, 0] := by decide +kernel
/-- Which block window 1 is at, each trip. -/
theorem idx8_1 : ∀ t, win8_1.index t = ![t.val % 2 * 2 + t.val % 4 / 2, 0, 0] := by decide +kernel
/-- Which block window 2 is at, each trip. -/
theorem idx8_2 : ∀ t, win8_2.index t = ![t.val % 2 * 2 + t.val % 4 / 2, 0, 0] := by decide +kernel
/-- Which block window 3 is at, each trip. -/
theorem idx8_3 : ∀ t, win8_3.index t = ![t.val % 2 * 2 + t.val % 4 / 2, 0, 0] := by decide +kernel
/-- Which block window 4 is at, each trip. -/
theorem idx8_4 : ∀ t, win8_4.index t = ![t.val % 2 * 2 + t.val % 4 / 2, 0, 0] := by decide +kernel
/-- Which block window 5 is at, each trip. -/
theorem idx8_5 : ∀ t, win8_5.index t = ![t.val / 4, t.val % 4, 0, 0] := by decide +kernel

set_option maxHeartbeats 2000000 in
/-- The scan, one image and direction per grid point. -/
theorem region8 (c : Dev nD) (U : ℕ → ℕ → Mat) (XW DTW : ℕ → Mat) (DTB : Mat) (AL : ℕ → Mat)
    (hU : ∀ i : S2x2x1024x768.Idx, V c main_v99 i = U (i 0).val (i 1).val (i 2).val (i 3).val) (hXW : ∀ i : S4x56x768.Idx, V c main_v101 i = XW (i 0).val (i 1).val (i 2).val)
    (hDTW : ∀ i : S4x768x24.Idx, V c main_v103 i = DTW (i 0).val (i 1).val (i 2).val) (hDTB : ∀ i : S4x1x768.Idx, V c main_v106 i = DTB (i 0).val (i 2).val)
    (hAL : ∀ i : S4x16x768.Idx, V c main_v109 i = AL (i 0).val (i 1).val (i 2).val) :
    ∀ i : S2x4x1024x768.Idx, ((dat8 V c).arrAt 5 cfg8.N : FVec Ideal S2x4x1024x768 .f32) i
      = scanDir ((i 1).val % 2) (U (i 0).val ((i 1).val / 2)) (XW ((i 1).val % 2 * 2 + (i 1).val / 2)) (DTW ((i 1).val % 2 * 2 + (i 1).val / 2)) (DTB ((i 1).val % 2 * 2 + (i 1).val / 2)) (AL ((i 1).val % 2 * 2 + (i 1).val / 2)) (i 2).val (i 3).val := by
  refine congrFun (?_ : _ = fun i : S2x4x1024x768.Idx => scanDir ((i 1).val % 2) (U (i 0).val ((i 1).val / 2)) (XW ((i 1).val % 2 * 2 + (i 1).val / 2)) (DTW ((i 1).val % 2 * 2 + (i 1).val / 2)) (DTB ((i 1).val % 2 * 2 + (i 1).val / 2)) (AL ((i 1).val % 2 * 2 + (i 1).val / 2)) (i 2).val (i 3).val)
  refine (dat8 V c).arrAt_eq_of_covers 5 _ (by decide +kernel) fun t hf y => ?_
  have h0 : ∀ r k, (iblk8 V c 0 t : FVec Ideal S1x1x1024x768 .f32) (ix4 0 0 r k) = U (t.val / 4) (t.val % 4 / 2) r.val k.val := fun r k => by blk_simp [iblk8, idx8_0 t, hU]; rfl
  have h1 : ∀ r k, (iblk8 V c 1 t : FVec Ideal S1x56x768 .f32) (ix3 0 r k) = XW (t.val % 2 * 2 + t.val % 4 / 2) r.val k.val := fun r k => by blk_simp [iblk8, idx8_1 t, hXW]; rfl
  have h2 : ∀ r k, (iblk8 V c 2 t : FVec Ideal S1x768x24 .f32) (ix3 0 r k) = DTW (t.val % 2 * 2 + t.val % 4 / 2) r.val k.val := fun r k => by blk_simp [iblk8, idx8_2 t, hDTW]; rfl
  have h3 : ∀ k, (iblk8 V c 3 t : FVec Ideal S1x1x768 .f32) (ix3 0 0 k) = DTB (t.val % 2 * 2 + t.val % 4 / 2) k.val := fun k => by blk_simp [iblk8, idx8_3 t, hDTB]; rfl
  have h4 : ∀ r k, (iblk8 V c 4 t : FVec Ideal S1x16x768 .f32) (ix3 0 r k) = AL (t.val % 2 * 2 + t.val % 4 / 2) r.val k.val := fun r k => by blk_simp [iblk8, idx8_4 t, hAL]; rfl
  blk_simp
  rw [after8_5]
  have i0 : win8_5.index t 0 = t.val / 4 := congrFun (idx8_5 t) 0
  have i1 : win8_5.index t 1 = t.val % 4 := congrFun (idx8_5 t) 1
  have i2 : win8_5.index t 2 = 0 := congrFun (idx8_5 t) 2
  have i3 : win8_5.index t 3 = 0 := congrFun (idx8_5 t) 3
  have e4 : t.val % 4 % 2 = t.val % 2 := by omega
  rcases Nat.mod_two_eq_zero_or_one t.val with e | e
  · have e' : ¬ t.val % 2 = 1 := by omega
    rw [outsAt8_A V c t e e']
    refine (congrFun (View.read_writes_eq_canon VO8_5 _ _ (cover8_A_5 c (grid8.coords t) (ms8_0 t) (hs8_0 t) (ms8_1 t) (hs8_1 t) (ms8_2 t) (hs8_2 t) (ms8_3 t) (hs8_3 t) (ms8_4 t) (hs8_4 t) (ms8_5 t) (hs8_5 t) scM8_0 (Memref.isWhole_whole _) scM8_1 (Memref.isWhole_whole _) scM8_2 (Memref.isWhole_whole _) scM8_3 (Memref.isWhole_whole _) ((hcond8_0 t).mpr e) (fun h => e' ((hcond8_1 t).mp h)) (iblk8 V c 0 t) (iblk8 V c 1 t) (iblk8 V c 2 t) (iblk8 V c 3 t) (iblk8 V c 4 t))) y).trans ?_
    refine View.canon_eq_of_allAt _ y _ (cover8_A_5 ..) ?_
    unfold kernelRun8_A
    dsimp only
    rw [show Scf.trips (0#32) (Scalar.addi 0#32 8#32) 1#32 = 8 from by decide]
    rw [i0, i1, i2, i3, e4]
    simp only [Nat.zero_mul, Nat.zero_add]
    unfold kernelRun8_A.sl.HS0_1 kernelRun8_A.sl.HS1_1 kernelRun8_A.sl.HS2_1 kernelRun8_A.sl.HS3_1
    unfold scanDir
    simp only [if_pos e]
    refine loop8_1 _ _ _ _ _ _ _ _ _ _ _ _ _ _ _ _ _ _ _ _ _ _ _ _ _ _ _ _ _ _ _ _ _ _ ?_ ?_ ?_ ?_ ?_ y
    · intro n d
      pointwise [k8_pay627]
    · intro hb n d
      refine (congrFun (View.readAt_writes_full (View.whole cc8_scratch3) _ _ _ _ _) _).trans ?_
      exact k4_pay626_at _ _ (fun n d => (congrFun (rd _ _ _ _) _).trans (h4 n d)) n d
    · intro l d
      refine (congrFun (View.read_writes_full (View.whole cc8_scratch0) _ _ _ _) _).trans ?_
      unfold kernelRun8_A.sl.v27
      exact k4_pay624_at _ _ _ _ _ _ _ _ (fun l d => (congrFun (rd _ _ _ _) _).trans (h0 l d)) (fun l d => (congrFun (rd _ _ _ _) _).trans (h1 l d)) (fun l d => (congrFun (rd _ _ _ _) _).trans (h2 l d)) (fun d => (congrFun (rd _ _ _ _) _).trans (h3 d)) l d
    · intro l d
      refine (congrFun (View.read_writes_full (View.whole cc8_scratch1) _ _ _ _) _).trans ?_
      unfold kernelRun8_A.sl.v31
      exact k4_pay625_at _ _ _ _ _ _ _ _ (fun l d => (congrFun (rd _ _ _ _) _).trans (h0 l d)) (fun l d => (congrFun (rd _ _ _ _) _).trans (h1 l d)) (fun l d => (congrFun (rd _ _ _ _) _).trans (h2 l d)) (fun d => (congrFun (rd _ _ _ _) _).trans (h3 d)) l d
    · intro l d
      refine (congrFun (View.read_writes_full (View.whole cc8_scratch2) _ _ _ _) _).trans ?_
      unfold kernelRun8_A.sl.v9
      exact k4_pay622_at _ _ _ _ (fun l d => (congrFun (rd _ _ _ _) _).trans (h0 l d)) (fun l d => (congrFun (rd _ _ _ _) _).trans (h1 l d)) l d
  · have e' : ¬ t.val % 2 = 0 := by omega
    rw [outsAt8_B V c t e' e]
    refine (congrFun (View.read_writes_eq_canon VO8_5 _ _ (cover8_B_5 c (grid8.coords t) (ms8_0 t) (hs8_0 t) (ms8_1 t) (hs8_1 t) (ms8_2 t) (hs8_2 t) (ms8_3 t) (hs8_3 t) (ms8_4 t) (hs8_4 t) (ms8_5 t) (hs8_5 t) scM8_0 (Memref.isWhole_whole _) scM8_1 (Memref.isWhole_whole _) scM8_2 (Memref.isWhole_whole _) scM8_3 (Memref.isWhole_whole _) (fun h => e' ((hcond8_0 t).mp h)) ((hcond8_1 t).mpr e) (iblk8 V c 0 t) (iblk8 V c 1 t) (iblk8 V c 2 t) (iblk8 V c 3 t) (iblk8 V c 4 t))) y).trans ?_
    refine View.canon_eq_of_allAt _ y _ (cover8_B_5 ..) ?_
    unfold kernelRun8_B
    dsimp only
    rw [show Scf.trips (0#32) (Scalar.addi 0#32 8#32) 1#32 = 8 from by decide]
    rw [i0, i1, i2, i3, e4]
    simp only [Nat.zero_mul, Nat.zero_add]
    unfold kernelRun8_B.sl.HS0_1 kernelRun8_B.sl.HS1_1 kernelRun8_B.sl.HS2_1 kernelRun8_B.sl.HS3_1
    unfold scanDir
    simp only [if_neg e']
    refine loop8_2 _ _ _ _ _ _ _ _ _ _ _ _ _ _ _ _ _ _ _ _ _ _ _ _ _ _ _ _ _ _ _ _ _ _ ?_ ?_ ?_ ?_ ?_ y
    · intro n d
      pointwise [k8_pay632]
    · intro hb n d
      refine (congrFun (View.readAt_writes_full (View.whole cc8_scratch3) _ _ _ _ _) _).trans ?_
      exact k4_pay626_at _ _ (fun n d => (congrFun (rd _ _ _ _) _).trans (h4 n d)) n d
    · intro l d
      refine (congrFun (View.read_writes_full (View.whole cc8_scratch0) _ _ _ _) _).trans ?_
      unfold kernelRun8_B.sl.v27
      exact k4_pay624_at _ _ _ _ _ _ _ _ (fun l d => (congrFun (rd _ _ _ _) _).trans (h0 l d)) (fun l d => (congrFun (rd _ _ _ _) _).trans (h1 l d)) (fun l d => (congrFun (rd _ _ _ _) _).trans (h2 l d)) (fun d => (congrFun (rd _ _ _ _) _).trans (h3 d)) l d
    · intro l d
      refine (congrFun (View.read_writes_full (View.whole cc8_scratch1) _ _ _ _) _).trans ?_
      unfold kernelRun8_B.sl.v31
      exact k4_pay625_at _ _ _ _ _ _ _ _ (fun l d => (congrFun (rd _ _ _ _) _).trans (h0 l d)) (fun l d => (congrFun (rd _ _ _ _) _).trans (h1 l d)) (fun l d => (congrFun (rd _ _ _ _) _).trans (h2 l d)) (fun d => (congrFun (rd _ _ _ _) _).trans (h3 d)) l d
    · intro l d
      refine (congrFun (View.read_writes_full (View.whole cc8_scratch2) _ _ _ _) _).trans ?_
      unfold kernelRun8_B.sl.v9
      exact k4_pay622_at _ _ _ _ (fun l d => (congrFun (rd _ _ _ _) _).trans (h0 l d)) (fun l d => (congrFun (rd _ _ _ _) _).trans (h1 l d)) l d

end Cert.Proof.Ker
-- ==== Proof.KR9.lean ====
module

public import proofs.«01_k».proof.Proof.Gen.KernelIdeal.Frame
public import proofs.«01_k».proof.Proof.Spec
public import Idealize.ShloMosaic.Lib.Pointwise
public import Idealize.ShloMosaic.Lib.Pipeline.ValueKit

@[expose] public section

set_option maxRecDepth 65536

noncomputable section

namespace Cert.Proof.Ker

open Cert.KernelIdeal Cert.KernelIdeal.Gen
open Idealize.ShloMosaic
open Idealize.ShloMosaic.TcCoe
open Idealize.SL.Sem

variable (V : (c : Dev nD) → (b : Ref sig .tc) → Buf (Elt Ideal) ((c : Thread nD τ).loc b))

/-- Where each window of this call stands. -/
theorem idx9_0 : ∀ t, win9_0.index t = ![t.val, 0] := by decide +kernel
/-- Which block window 1 is at, each trip. -/
theorem idx9_1 : ∀ t, win9_1.index t = ![t.val, 0] := by decide +kernel
/-- Which block window 2 is at, each trip. -/
theorem idx9_2 : ∀ t, win9_2.index t = ![t.val, 0] := by decide +kernel
/-- Which block window 3 is at, each trip. -/
theorem idx9_3 : ∀ t, win9_3.index t = ![0, 0] := by decide +kernel
/-- Which block window 4 is at, each trip. -/
theorem idx9_4 : ∀ t, win9_4.index t = ![t.val, 0] := by decide +kernel
/-- Which block window 5 is at, each trip. -/
theorem idx9_5 : ∀ t, win9_5.index t = ![t.val, 0] := by decide +kernel
/-- Which block window 6 is at, each trip. -/
theorem idx9_6 : ∀ t, win9_6.index t = ![0, 0] := by decide +kernel
/-- Which block window 7 is at, each trip. -/
theorem idx9_7 : ∀ t, win9_7.index t = ![0, 0] := by decide +kernel
/-- Which block window 8 is at, each trip. -/
theorem idx9_8 : ∀ t, win9_8.index t = ![0, 0] := by decide +kernel
/-- Which block window 9 is at, each trip. -/
theorem idx9_9 : ∀ t, win9_9.index t = ![t.val, 0] := by decide +kernel

/-- The normalised total of the scans, at an index. -/
theorem k9_pay2_at (v0 : FVec Ideal S4x768 .f32) (v4 v6 v9 : FVec Ideal S1024x768 .f32) (v14 v16 : FVec Ideal S1x768 .f32)
    (D Y0 Y1 U : Mat) (w b : ℕ → EReal)
    (hD : ∀ r k, v0 (ix2 r k) = D r.val k.val) (h0 : ∀ r k, v4 (ix2 r k) = Y0 r.val k.val) (h1 : ∀ r k, v6 (ix2 r k) = Y1 r.val k.val)
    (hU : ∀ r k, v9 (ix2 r k) = U r.val k.val) (hw : ∀ r k, v14 (ix2 r k) = w k.val) (hb : ∀ r k, v16 (ix2 r k) = b k.val)
    (r : Fin 1024) (k : Fin 768) : k9_pay2 (F := Ideal) v0 v4 v6 v9 v14 v16 (ix2 r k)
      = lnS 768 c768 w b (fun k => Y0 r.val k + Y1 r.val k + (∑ j : Fin 4, D j.val k) * U r.val k) k.val := by
  unfold lnS varS meanS
  pointwise [k9_pay2, hD, h0, h1, hU, hw, hb]

/-- The layer's last call: norm, gate, projection and the sum with the layer's input. -/
theorem region9 (c : Dev nD) (D Y0 Y1 U Z XH OW : Mat) (w b : ℕ → EReal)
    (hY0 : ∀ i : S2048x768.Idx, V c main_v116 i = Y0 (i 0).val (i 1).val) (hY1 : ∀ i : S2048x768.Idx, V c main_v125 i = Y1 (i 0).val (i 1).val)
    (hU : ∀ i : S2048x768.Idx, V c main_v126 i = U (i 0).val (i 1).val) (hD : ∀ i : S4x768.Idx, V c main_v128 i = D (i 0).val (i 1).val)
    (hZ : ∀ i : S2048x768.Idx, V c main_v84_1 i = Z (i 0).val (i 1).val) (hXH : ∀ i : S2048x384.Idx, V c main_v75 i = XH (i 0).val (i 1).val)
    (hw : ∀ i : S1x768.Idx, V c main_v135 i = w (i 1).val) (hb : ∀ i : S1x768.Idx, V c main_v136 i = b (i 1).val)
    (hOW : ∀ i : S384x768.Idx, V c main_v134 i = OW (i 0).val (i 1).val) :
    ∀ i : S2048x384.Idx, ((dat9 V c).arrAt 9 cfg9.N : FVec Ideal S2048x384 .f32) i
      = outS (fun k => Y0 (i 0).val k + Y1 (i 0).val k + (∑ j : Fin 4, D j.val k) * U (i 0).val k) (Z (i 0).val) (XH (i 0).val (i 1).val) w b (OW (i 1).val) := by
  refine congrFun (?_ : _ = fun i : S2048x384.Idx => outS (fun k => Y0 (i 0).val k + Y1 (i 0).val k + (∑ j : Fin 4, D j.val k) * U (i 0).val k) (Z (i 0).val) (XH (i 0).val (i 1).val) w b (OW (i 1).val))
  refine (dat9 V c).arrAt_eq_of_covers 9 _ (by decide +kernel) fun t hf y => ?_
  have hp : ∀ r k, k9_pay2 (F := Ideal) (iblk9 V c 3 t) (iblk9 V c 0 t) (iblk9 V c 1 t) (iblk9 V c 2 t) (iblk9 V c 6 t) (iblk9 V c 7 t) (ix2 r k)
      = lnS 768 c768 w b (fun k => Y0 (t.val * 1024 + r.val) k + Y1 (t.val * 1024 + r.val) k + (∑ j : Fin 4, D j.val k) * U (t.val * 1024 + r.val) k) k.val := fun r k => by
    refine k9_pay2_at _ _ _ _ _ _ D (fun a => Y0 (t.val * 1024 + a)) (fun a => Y1 (t.val * 1024 + a)) (fun a => U (t.val * 1024 + a)) w b ?_ ?_ ?_ ?_ ?_ ?_ r k <;> intro r k
    · blk_simp [iblk9, idx9_3 t, hD]
    · blk_simp [iblk9, idx9_0 t, hY0]
    · blk_simp [iblk9, idx9_1 t, hY1]
    · blk_simp [iblk9, idx9_2 t, hU]
    · blk_simp [iblk9, idx9_6 t, hw]
    · blk_simp [iblk9, idx9_7 t, hb]
  have h4 : ∀ r k, (iblk9 V c 4 t : FVec Ideal S1024x768 .f32) (ix2 r k) = Z (t.val * 1024 + r.val) k.val := fun r k => by blk_simp [iblk9, idx9_4 t, hZ]
  have h5 : ∀ r k, (iblk9 V c 5 t : FVec Ideal S1024x384 .f32) (ix2 r k) = XH (t.val * 1024 + r.val) k.val := fun r k => by blk_simp [iblk9, idx9_5 t, hXH]
  have h8 : ∀ r k, (iblk9 V c 8 t : FVec Ideal S384x768 .f32) (ix2 r k) = OW r.val k.val := fun r k => by blk_simp [iblk9, idx9_8 t, hOW]
  blk_simp
  rw [after9_9]
  frame_out
  idx_vars y
  unfold outS dotS siluS
  pointwise [k9_pay1, hp, h4, h5, h8, idx9_9 t, zero_sub]

end Cert.Proof.Ker
-- ==== Proof.KComp.lean ====
module

public import proofs.«01_k».proof.Proof.Gen.KernelIdeal.Frame
public import proofs.«01_k».proof.Proof.Net
public import proofs.«01_k».proof.Proof.KHost
public import proofs.«01_k».proof.Proof.KExp
public import proofs.«01_k».proof.Proof.KR0
public import proofs.«01_k».proof.Proof.KR1
public import proofs.«01_k».proof.Proof.KR2
public import proofs.«01_k».proof.Proof.KR3
public import proofs.«01_k».proof.Proof.KR5
public import proofs.«01_k».proof.Proof.KR6
public import proofs.«01_k».proof.Proof.KR7
public import proofs.«01_k».proof.Proof.KR8
public import proofs.«01_k».proof.Proof.KR9
public import Idealize.ShloMosaic.Lib.Pointwise
public import Idealize.ShloMosaic.Lib.Pipeline.ValueKit

@[expose] public section

set_option maxRecDepth 65536

noncomputable section

namespace Cert.Proof.Ker

open Cert.KernelIdeal Cert.KernelIdeal.Gen
open Idealize.ShloMosaic
open Idealize.ShloMosaic.TcCoe
open Idealize.SL.Sem

variable (m : (ℓ : Loc nD τ sig) → Buf (Elt Ideal) ℓ) (ρ : Dev nD → PrngReg) (c : Dev nD) (a : Net)

/-- The memory holds the network's arguments. -/
structure Fits : Prop where
  x : ∀ i : S2x768x16x16.Idx, m (c.tc.loc main_arg0) i = a.x (i 0).val (i 1).val (i 2).val (i 3).val
  skip : ∀ i : S2x384x32x32.Idx, m (c.tc.loc main_arg1) i = a.skip (i 0).val (i 1).val (i 2).val (i 3).val
  pew : ∀ i : S1536x768.Idx, m (c.tc.loc main_arg2) i = a.pew (i 0).val (i 1).val
  penw : ∀ i : S384.Idx, m (c.tc.loc main_arg3) i = a.penw (i 0).val
  penb : ∀ i : S384.Idx, m (c.tc.loc main_arg4) i = a.penb (i 0).val
  lpw : ∀ i : S384x768.Idx, m (c.tc.loc main_arg5) i = a.lpw (i 0).val (i 1).val
  lpb : ∀ i : S384.Idx, m (c.tc.loc main_arg6) i = a.lpb (i 0).val
  lnw : ∀ i : S2x384.Idx, m (c.tc.loc main_arg7) i = a.lnw (i 0).val (i 1).val
  lnb : ∀ i : S2x384.Idx, m (c.tc.loc main_arg8) i = a.lnb (i 0).val (i 1).val
  inw : ∀ i : S2x1536x384.Idx, m (c.tc.loc main_arg9) i = a.inw (i 0).val (i 1).val (i 2).val
  cw : ∀ i : S2x768x3x3.Idx, m (c.tc.loc main_arg10) i = a.cw (i 0).val (i 1).val (i 2).val (i 3).val
  cb : ∀ i : S2x768.Idx, m (c.tc.loc main_arg11) i = a.cb (i 0).val (i 1).val
  xpw : ∀ i : S2x4x56x768.Idx, m (c.tc.loc main_arg12) i = a.xpw (i 0).val (i 1).val (i 2).val (i 3).val
  dtw : ∀ i : S2x4x768x24.Idx, m (c.tc.loc main_arg13) i = a.dtw (i 0).val (i 1).val (i 2).val (i 3).val
  dtb : ∀ i : S2x4x768.Idx, m (c.tc.loc main_arg14) i = a.dtb (i 0).val (i 1).val (i 2).val
  al : ∀ i : S2x4x768x16.Idx, m (c.tc.loc main_arg15) i = a.al (i 0).val (i 1).val (i 2).val (i 3).val
  ds : ∀ i : S2x4x768.Idx, m (c.tc.loc main_arg16) i = a.ds (i 0).val (i 1).val (i 2).val
  onw : ∀ i : S2x768.Idx, m (c.tc.loc main_arg17) i = a.onw (i 0).val (i 1).val
  onb : ∀ i : S2x768.Idx, m (c.tc.loc main_arg18) i = a.onb (i 0).val (i 1).val
  ow : ∀ i : S2x384x768.Idx, m (c.tc.loc main_arg19) i = a.ow (i 0).val (i 1).val (i 2).val

variable {m a c}

variable (h : Fits m c a)
include h

/-- The expanded patches. -/
theorem at2 : ∀ i : S512x1536.Idx, W2 m ρ c (Proc.devRef .tc main_v4) i = segS a (i 0).val ((i 1).val / 384 * 384) ((i 1).val % 384) := by
  obtain ⟨h1, h2, h3⟩ := host0 (W0 m ρ c) a.x a.penw a.penb (fun i => (congrFun (W0_args m ρ c main_arg0 (by decide)) i).trans (h.x i)) (fun i => (congrFun (W0_args m ρ c main_arg3 (by decide)) i).trans (h.penw i)) (fun i => (congrFun (W0_args m ρ c main_arg4 (by decide)) i).trans (h.penb i))
  intro i
  exact (congrFun (W2_arr m ρ c 4) i).trans (region0 (V1 m ρ) c (xrowS a) a.pew a.penw a.penb h1 (fun i => (congrFun (W1_args m ρ c main_arg2 (by decide)) i).trans (h.pew i)) h2 h3 i)

/-- The projected pixels. -/
theorem at4 : ∀ i : S2048x384.Idx, W4 m ρ c (Proc.devRef .tc main_v13) i = h0S a (i 0).val (i 1).val := by
  obtain ⟨h1, h2, h3, h4, h5⟩ := host1 (W2 m ρ c) (fun R k => segS a R (k / 384 * 384) (k % 384)) a.skip a.lpw a.lpb (at2 ρ h) (fun i => (congrFun (W2_args m ρ c main_arg1 (by decide)) i).trans (h.skip i)) (fun i => (congrFun (W2_args m ρ c main_arg5 (by decide)) i).trans (h.lpw i)) (fun i => (congrFun (W2_args m ρ c main_arg6 (by decide)) i).trans (h.lpb i))
  have h1' : ∀ i : S2048x384.Idx, V3 m ρ c main_v7 i = peS a (i 0).val (i 1).val := fun i => (h1 i).trans (by
    have := (i 1).isLt
    have hk : (i 1).val < 384 := this
    unfold peS
    rw [show ((i 0).val / 32 % 2 * 768 + (i 0).val % 2 * 384 + (i 1).val) / 384 * 384 = (i 0).val / 32 % 2 * 768 + (i 0).val % 2 * 384 by omega,
      show ((i 0).val / 32 % 2 * 768 + (i 0).val % 2 * 384 + (i 1).val) % 384 = (i 1).val by omega])
  intro i
  exact (congrFun (W4_arr m ρ c 5) i).trans (region1 (V3 m ρ) c (peS a) (skS a) a.lpw (fun r k => a.lpw r (384 + k)) a.lpb h1' h2 h3 h4 h5 i)

/-- The two halves of layer 0's input projection. -/
theorem at6 : (∀ i : S2048x768.Idx, W6 m ρ c (Proc.devRef .tc main_v22_0) i = inS a 0 (h0S a) (i 0).val (i 1).val)
    ∧ ∀ i : S2048x768.Idx, W6 m ρ c (Proc.devRef .tc main_v22_1) i = inS a 0 (h0S a) (i 0).val (768 + (i 1).val) := by
  obtain ⟨h1, h2, h3⟩ := host2 (W4 m ρ c) a.lnw a.lnb a.inw (fun i => (congrFun (W4_args m ρ c main_arg7 (by decide)) i).trans (h.lnw i)) (fun i => (congrFun (W4_args m ρ c main_arg8 (by decide)) i).trans (h.lnb i)) (fun i => (congrFun (W4_args m ρ c main_arg9 (by decide)) i).trans (h.inw i))
  have hx : ∀ i : S2048x384.Idx, V5 m ρ c main_v13 i = (h0S a) (i 0).val (i 1).val := fun i => (congrFun ((W5_of m ρ c main_v13 (by decide +kernel)).trans <| rfl) i).trans (at4 ρ h i)
  have hr := region2 (V5 m ρ) c (h0S a) (a.inw 0) (a.lnw 0) (a.lnb 0) hx h1 h2 h3
  exact ⟨fun i => (congrFun (W6_arr m ρ c 4) i).trans (hr.1 i), fun i => (congrFun (W6_arr m ρ c 5) i).trans (hr.2 i)⟩

/-- Layer 0's scan input. -/
theorem at8 : ∀ i : S2x1024x768.Idx, W8 m ρ c (Proc.devRef .tc main_v31) i = uS a 0 (h0S a) (i 0).val (i 1).val (i 2).val := by
  obtain ⟨h1, h2, h3⟩ := host3 (W6 m ρ c) (inS a 0 (h0S a)) a.cw a.cb (at6 ρ h).1 (fun i => (congrFun (W6_args m ρ c main_arg10 (by decide)) i).trans (h.cw i)) (fun i => (congrFun (W6_args m ρ c main_arg11 (by decide)) i).trans (h.cb i))
  intro i
  exact (congrFun (W8_arr m ρ c 3) i).trans (region3 (V7 m ρ) c (fun b l d => inS a 0 (h0S a) (b * 1024 + l) d) (fun t d => a.cw 0 d (t / 3) (t % 3)) (a.cb 0) h1 h2 h3 i)

/-- Layer 0's scans. -/
theorem at10 : ∀ i : S2x4x1024x768.Idx, W10 m ρ c (Proc.devRef .tc main_v48) i = ysS a 0 (h0S a) (i 0).val (i 1).val (i 2).val (i 3).val := by
  obtain ⟨h1, h2, h3, h4, h5⟩ := host4 (W8 m ρ c) (uS a 0 (h0S a)) a.xpw a.dtw a.al a.dtb (at8 ρ h) (fun i => (congrFun (W8_args m ρ c main_arg12 (by decide)) i).trans (h.xpw i)) (fun i => (congrFun (W8_args m ρ c main_arg13 (by decide)) i).trans (h.dtw i)) (fun i => (congrFun (W8_args m ρ c main_arg14 (by decide)) i).trans (h.dtb i)) (fun i => (congrFun (W8_args m ρ c main_arg15 (by decide)) i).trans (h.al i))
  intro i
  refine (congrFun (W10_arr m ρ c 5) i).trans ((region4 (V9 m ρ) c (seqS a 0 (h0S a)) (a.xpw 0) (a.dtw 0) (a.dtb 0) (fun j n d => a.al 0 j d n) h1 h2 h3 h4 h5 i).trans ?_)
  rw [scanDir_eq]
  rfl

/-- Layer 0's result. -/
theorem at12 : ∀ i : S2048x384.Idx, W12 m ρ c (Proc.devRef .tc main_v75) i = layerS a 0 (h0S a) (i 0).val (i 1).val := by
  have hu : ∀ i : S2x1024x768.Idx, W10 m ρ c (Proc.devRef .tc main_v31) i = uS a 0 (h0S a) (i 0).val (i 1).val (i 2).val := fun i =>
    (congrFun ((W10_of m ρ c main_v31 (by decide +kernel)).trans <| (W9_of m ρ c main_v31 (by decide +kernel)).trans <| rfl) i).trans (at8 ρ h i)
  have hx : ∀ i : S2048x384.Idx, V11 m ρ c main_v13 i = (h0S a) (i 0).val (i 1).val := fun i => (congrFun ((W11_of m ρ c main_v13 (by decide +kernel)).trans <| (W10_of m ρ c main_v13 (by decide +kernel)).trans <| (W9_of m ρ c main_v13 (by decide +kernel)).trans <| (W8_of m ρ c main_v13 (by decide +kernel)).trans <| (W7_of m ρ c main_v13 (by decide +kernel)).trans <| (W6_of m ρ c main_v13 (by decide +kernel)).trans <| (W5_of m ρ c main_v13 (by decide +kernel)).trans <| rfl) i).trans (at4 ρ h i)
  have hz : ∀ i : S2048x768.Idx, V11 m ρ c main_v22_1 i = inS a 0 (h0S a) (i 0).val (768 + (i 1).val) := fun i =>
    (congrFun ((W11_of m ρ c main_v22_1 (by decide +kernel)).trans <| (W10_of m ρ c main_v22_1 (by decide +kernel)).trans <| (W9_of m ρ c main_v22_1 (by decide +kernel)).trans <| (W8_of m ρ c main_v22_1 (by decide +kernel)).trans <| (W7_of m ρ c main_v22_1 (by decide +kernel)).trans <| rfl) i).trans ((at6 ρ h).2 i)
  obtain ⟨h1, h2, h3, h4, h5, h6, h7⟩ := host5 (W10 m ρ c) (ysS a 0 (h0S a)) (uS a 0 (h0S a)) a.ds a.ow a.onw a.onb (at10 ρ h) hu (fun i => (congrFun (W10_args m ρ c main_arg16 (by decide)) i).trans (h.ds i)) (fun i => (congrFun (W10_args m ρ c main_arg17 (by decide)) i).trans (h.onw i)) (fun i => (congrFun (W10_args m ρ c main_arg18 (by decide)) i).trans (h.onb i)) (fun i => (congrFun (W10_args m ρ c main_arg19 (by decide)) i).trans (h.ow i))
  intro i
  refine (congrFun (W12_arr m ρ c 9) i).trans ((region5 (V11 m ρ) c (a.ds 0) (fun r k => ysS a 0 (h0S a) (r / 1024) 0 (r % 1024) k + ysS a 0 (h0S a) (r / 1024) 1 (r % 1024) k) (fun r k => ysS a 0 (h0S a) (r / 1024) 2 (r % 32 * 32 + r / 32 % 32) k + ysS a 0 (h0S a) (r / 1024) 3 (r % 32 * 32 + r / 32 % 32) k) (fun r k => uS a 0 (h0S a) (r / 1024) (r % 1024) k) (fun r k => inS a 0 (h0S a) r (768 + k)) (h0S a) (a.ow 0) (a.onw 0) (a.onb 0)
    h1 h2 h3 h4 hz hx h5 h6 h7 i).trans ?_)
  rfl

/-- The two halves of layer 1's input projection. -/
theorem at14 : (∀ i : S2048x768.Idx, W14 m ρ c (Proc.devRef .tc main_v84_0) i = inS a 1 (layerS a 0 (h0S a)) (i 0).val (i 1).val)
    ∧ ∀ i : S2048x768.Idx, W14 m ρ c (Proc.devRef .tc main_v84_1) i = inS a 1 (layerS a 0 (h0S a)) (i 0).val (768 + (i 1).val) := by
  obtain ⟨h1, h2, h3⟩ := host6 (W12 m ρ c) a.lnw a.lnb a.inw (fun i => (congrFun (W12_args m ρ c main_arg7 (by decide)) i).trans (h.lnw i)) (fun i => (congrFun (W12_args m ρ c main_arg8 (by decide)) i).trans (h.lnb i)) (fun i => (congrFun (W12_args m ρ c main_arg9 (by decide)) i).trans (h.inw i))
  have hx : ∀ i : S2048x384.Idx, V13 m ρ c main_v75 i = (layerS a 0 (h0S a)) (i 0).val (i 1).val := fun i => (congrFun ((W13_of m ρ c main_v75 (by decide +kernel)).trans <| rfl) i).trans (at12 ρ h i)
  have hr := region6 (V13 m ρ) c (layerS a 0 (h0S a)) (a.inw 1) (a.lnw 1) (a.lnb 1) hx h1 h2 h3
  exact ⟨fun i => (congrFun (W14_arr m ρ c 4) i).trans (hr.1 i), fun i => (congrFun (W14_arr m ρ c 5) i).trans (hr.2 i)⟩

/-- Layer 1's scan input. -/
theorem at16 : ∀ i : S2x1024x768.Idx, W16 m ρ c (Proc.devRef .tc main_v93) i = uS a 1 (layerS a 0 (h0S a)) (i 0).val (i 1).val (i 2).val := by
  obtain ⟨h1, h2, h3⟩ := host7 (W14 m ρ c) (inS a 1 (layerS a 0 (h0S a))) a.cw a.cb (at14 ρ h).1 (fun i => (congrFun (W14_args m ρ c main_arg10 (by decide)) i).trans (h.cw i)) (fun i => (congrFun (W14_args m ρ c main_arg11 (by decide)) i).trans (h.cb i))
  intro i
  exact (congrFun (W16_arr m ρ c 3) i).trans (region7 (V15 m ρ) c (fun b l d => inS a 1 (layerS a 0 (h0S a)) (b * 1024 + l) d) (fun t d => a.cw 1 d (t / 3) (t % 3)) (a.cb 1) h1 h2 h3 i)

/-- Layer 1's scans. -/
theorem at18 : ∀ i : S2x4x1024x768.Idx, W18 m ρ c (Proc.devRef .tc main_v110) i = ysS a 1 (layerS a 0 (h0S a)) (i 0).val (i 1).val (i 2).val (i 3).val := by
  obtain ⟨h1, h2, h3, h4, h5⟩ := host8 (W16 m ρ c) (uS a 1 (layerS a 0 (h0S a))) a.xpw a.dtw a.al a.dtb (at16 ρ h) (fun i => (congrFun (W16_args m ρ c main_arg12 (by decide)) i).trans (h.xpw i)) (fun i => (congrFun (W16_args m ρ c main_arg13 (by decide)) i).trans (h.dtw i)) (fun i => (congrFun (W16_args m ρ c main_arg14 (by decide)) i).trans (h.dtb i)) (fun i => (congrFun (W16_args m ρ c main_arg15 (by decide)) i).trans (h.al i))
  intro i
  refine (congrFun (W18_arr m ρ c 5) i).trans ((region8 (V17 m ρ) c (seqS a 1 (layerS a 0 (h0S a))) (a.xpw 1) (a.dtw 1) (a.dtb 1) (fun j n d => a.al 1 j d n) h1 h2 h3 h4 h5 i).trans ?_)
  rw [scanDir_eq]
  rfl

/-- Layer 1's result. -/
theorem at20 : ∀ i : S2048x384.Idx, W20 m ρ c (Proc.devRef .tc main_v137) i = layerS a 1 (layerS a 0 (h0S a)) (i 0).val (i 1).val := by
  have hu : ∀ i : S2x1024x768.Idx, W18 m ρ c (Proc.devRef .tc main_v93) i = uS a 1 (layerS a 0 (h0S a)) (i 0).val (i 1).val (i 2).val := fun i =>
    (congrFun ((W18_of m ρ c main_v93 (by decide +kernel)).trans <| (W17_of m ρ c main_v93 (by decide +kernel)).trans <| rfl) i).trans (at16 ρ h i)
  have hx : ∀ i : S2048x384.Idx, V19 m ρ c main_v75 i = (layerS a 0 (h0S a)) (i 0).val (i 1).val := fun i => (congrFun ((W19_of m ρ c main_v75 (by decide +kernel)).trans <| (W18_of m ρ c main_v75 (by decide +kernel)).trans <| (W17_of m ρ c main_v75 (by decide +kernel)).trans <| (W16_of m ρ c main_v75 (by decide +kernel)).trans <| (W15_of m ρ c main_v75 (by decide +kernel)).trans <| (W14_of m ρ c main_v75 (by decide +kernel)).trans <| (W13_of m ρ c main_v75 (by decide +kernel)).trans <| rfl) i).trans (at12 ρ h i)
  have hz : ∀ i : S2048x768.Idx, V19 m ρ c main_v84_1 i = inS a 1 (layerS a 0 (h0S a)) (i 0).val (768 + (i 1).val) := fun i =>
    (congrFun ((W19_of m ρ c main_v84_1 (by decide +kernel)).trans <| (W18_of m ρ c main_v84_1 (by decide +kernel)).trans <| (W17_of m ρ c main_v84_1 (by decide +kernel)).trans <| (W16_of m ρ c main_v84_1 (by decide +kernel)).trans <| (W15_of m ρ c main_v84_1 (by decide +kernel)).trans <| rfl) i).trans ((at14 ρ h).2 i)
  obtain ⟨h1, h2, h3, h4, h5, h6, h7⟩ := host9 (W18 m ρ c) (ysS a 1 (layerS a 0 (h0S a))) (uS a 1 (layerS a 0 (h0S a))) a.ds a.ow a.onw a.onb (at18 ρ h) hu (fun i => (congrFun (W18_args m ρ c main_arg16 (by decide)) i).trans (h.ds i)) (fun i => (congrFun (W18_args m ρ c main_arg17 (by decide)) i).trans (h.onw i)) (fun i => (congrFun (W18_args m ρ c main_arg18 (by decide)) i).trans (h.onb i)) (fun i => (congrFun (W18_args m ρ c main_arg19 (by decide)) i).trans (h.ow i))
  intro i
  refine (congrFun (W20_arr m ρ c 9) i).trans ((region9 (V19 m ρ) c (a.ds 1) (fun r k => ysS a 1 (layerS a 0 (h0S a)) (r / 1024) 0 (r % 1024) k + ysS a 1 (layerS a 0 (h0S a)) (r / 1024) 1 (r % 1024) k) (fun r k => ysS a 1 (layerS a 0 (h0S a)) (r / 1024) 2 (r % 32 * 32 + r / 32 % 32) k + ysS a 1 (layerS a 0 (h0S a)) (r / 1024) 3 (r % 32 * 32 + r / 32 % 32) k) (fun r k => uS a 1 (layerS a 0 (h0S a)) (r / 1024) (r % 1024) k) (fun r k => inS a 1 (layerS a 0 (h0S a)) r (768 + k)) (layerS a 0 (h0S a)) (a.ow 1) (a.onw 1) (a.onb 1)
    h1 h2 h3 h4 hz hx h5 h6 h7 i).trans ?_)
  rfl

/-- The kernel's result is the network. -/
theorem at21 : ∀ i : S2x384x32x32.Idx, W21 m ρ c (Proc.devRef .tc main_v139) i = netS a (i 0).val (i 1).val (i 2).val (i 3).val :=
  host10 (W20 m ρ c) _ (at20 ρ h)

end Cert.Proof.Ker
-- ==== Proof.KRun.lean ====
/-
  The run of the kernel over the extended reals: every buffer ends with the contents the segments leave.
-/
module

public import proofs.«01_k».proof.Proof.Gen.KernelIdeal.Frame

@[expose] public section

set_option maxRecDepth 16384

noncomputable section

namespace Cert.Proof.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel runs, and every buffer outside the scopes ends with the contents after its last segment. -/
theorem run_main : θ_run defs (onTc (τ := τ) (main (F := F))) ⟨m, fun _ => 0, ρ⟩
    (fun r => ∀ c : Dev nD, ∀ b ∈ Pipeline.ucRefs τ sig, r.2.mem ((c.tc : Thread nD τ).1, b) = W21 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h _ => h)

end Cert.Proof.Ker
-- ==== Proof.RMath.lean ====
/-
  The reference's spellings against the network's: the activation as a product, the padded taps as conditions, the
  softplus without its guard.
-/
module

public import proofs.«01_k».proof.Proof.Net

@[expose] public section

noncomputable section

namespace Cert.Proof

open Idealize.ShloMosaic

/-- An exponential is not negative. -/
theorem exp_nonneg (x : EReal) : 0 ≤ Ideal.exp x := by
  induction x with
  | bot => simp
  | top => simp
  | coe r =>
    rw [Ideal.exp_coe]
    exact_mod_cast (Real.exp_pos r).le

/-- One more than an exponential is positive. -/
theorem one_add_exp_pos (x : EReal) : 0 < 1 + Ideal.exp x :=
  lt_of_lt_of_le (by norm_num : (0 : EReal) < 1) (le_add_of_nonneg_right (exp_nonneg x))

/-- The scan input in the reference's order `k`: rows, columns, and the two reversed. -/
def ordS (U : Mat) (k : ℕ) : Mat := fun l d =>
  if k < 1 then U l d else if k - 1 < 1 then U (l % 32 * 32 + l / 32) d else if k - 1 - 1 < 1 then U (1023 - l) d
  else U ((1023 - l) % 32 * 32 + (1023 - l) / 32) d

/-- One step of a scan's state, channel by number. -/
def stepS (D U B A : Mat) (k : ℕ) (H : Mat) : Mat := fun d n => Ideal.exp (D k d * A d n) * H d n + D k d * U k d * B k n

/-- A quotient by a nonzero number is the product with the quotient of one. -/
theorem silu_mul (x : EReal) : x * Ideal.div 1 (1 + Ideal.exp (-x)) = siluS x := by
  unfold siluS Ideal.div
  rw [if_neg (one_add_exp_pos _).ne', if_neg (one_add_exp_pos _).ne', one_mul]

/-- The padding's number is zero. -/
theorem pad_zero : (FloatOps.sitofp (F := Ideal) FTy.f32 (0#32) : EReal) = 0 := by
  show (((0#32).toInt : ℝ) : EReal) = 0
  norm_num

/-- A guarded read is a tap of the window. -/
theorem tap_of (X : Mat) (l di dj d : ℕ) {q : Prop} [Decidable q] (v : EReal)
    (hq : q ↔ (1 ≤ l / 32 + di ∧ l / 32 + di ≤ 32 ∧ 1 ≤ l % 32 + dj ∧ l % 32 + dj ≤ 32)) (hv : q → v = X (l + 32 * di + dj - 33) d) :
    (dite q (fun _ => v) fun _ => (FloatOps.sitofp (F := Ideal) FTy.f32 (0#32) : EReal)) = tapS X l di dj d := by
  unfold tapS
  rw [pad_zero]
  by_cases h : q
  · rw [dif_pos h, if_pos (hq.mp h), hv h]
  · rw [dif_neg h, if_neg (fun h' => h (hq.mpr h'))]

/-- The nine taps and the bias, in the reference's order. -/
theorem conv_of (X w : Mat) (b : ℕ → EReal) (l d : ℕ) {t0 t1 t2 t3 t4 t5 t6 t7 t8 : EReal}
    (h0 : t0 = w 0 d * tapS X l 0 0 d) (h1 : t1 = w 1 d * tapS X l 0 1 d) (h2 : t2 = w 2 d * tapS X l 0 2 d)
    (h3 : t3 = w 3 d * tapS X l 1 0 d) (h4 : t4 = w 4 d * tapS X l 1 1 d) (h5 : t5 = w 5 d * tapS X l 1 2 d)
    (h6 : t6 = w 6 d * tapS X l 2 0 d) (h7 : t7 = w 7 d * tapS X l 2 1 d) (h8 : t8 = w 8 d * tapS X l 2 2 d) :
    t0 + t1 + t2 + t3 + t4 + t5 + t6 + t7 + t8 + b d = convS X w b l d := by
  subst h0 h1 h2 h3 h4 h5 h6 h7 h8
  unfold convS
  rw [add_comm]
  simp only [← add_assoc]

/-- The softplus as a choice that never takes its guard. -/
theorem softplus_of (x : EReal) : (if x ≠ x then x else max x 0 + Ideal.log1p (Ideal.exp (-FloatOps.absf (F := Ideal) (φ := FTy.f32) x))) = softplusS x := by
  rw [if_neg (by simp)]
  rfl

end Cert.Proof
-- ==== Proof.RA.lean ====
module

public import proofs.«01_k».proof.Proof.RefOps
public import proofs.«01_k».proof.Proof.RMath
public import Idealize.ShloMosaic.Lib.StableHlo.RunRead
public import Idealize.ShloMosaic.Lib.Pointwise
public import Idealize.ShloMosaic.Lib.Pipeline.ValueKit

@[expose] public section

set_option maxRecDepth 65536

noncomputable section

namespace Cert.Proof.Ref

open Cert.ReferenceIdeal Cert.ReferenceIdeal.Gen
open Idealize.ShloMosaic
open Idealize.ShloMosaic.TcCoe
open Idealize.SL.Sem

variable (W : Valuation τ sig (Elt Ideal))

/-- The expanded patches. -/
theorem stA1 (x : ℕ → ℕ → ℕ → ℕ → EReal) (w : Mat)
    (hx : ∀ i : S2x768x16x16.Idx, W (Proc.devRef .tc main_arg0) i = x (i 0).val (i 1).val (i 2).val (i 3).val)
    (hw : ∀ i : S1536x768.Idx, W (Proc.devRef .tc main_arg2) i = w (i 0).val (i 1).val) :
    ∀ i : S2x32x32x384.Idx, StableHlo.after opsA1 W (Proc.devRef .tc main_v5) i = dotS 768 (fun k => x (i 0).val k ((i 1).val / 2) ((i 2).val / 2)) (w ((i 1).val % 2 * 768 + (i 2).val % 2 * 384 + (i 3).val)) := by
  intro i; idx_vars i; after_reads_simp; pointwise [hx, hw, dotS]

/-- Their norm. -/
theorem stA2 (X : ℕ → ℕ → ℕ → ℕ → EReal) (w b : ℕ → EReal)
    (hx : ∀ i : S2x32x32x384.Idx, W (Proc.devRef .tc main_v5) i = X (i 0).val (i 1).val (i 2).val (i 3).val)
    (hw : ∀ i : S384.Idx, W (Proc.devRef .tc main_arg3) i = w (i 0).val)
    (hb : ∀ i : S384.Idx, W (Proc.devRef .tc main_arg4) i = b (i 0).val) :
    ∀ i : S2x32x32x384.Idx, StableHlo.after opsA2 W (Proc.devRef .tc main_v29) i = lnS 384 c384 w b (X (i 0).val (i 1).val (i 2).val) (i 3).val := by
  intro i; idx_vars i; after_reads_simp; pointwise [hx, hw, hb, lnS, meanS, varS]

/-- The projection of them and the skip input. -/
theorem stA3 (X S : ℕ → ℕ → ℕ → ℕ → EReal) (w : Mat) (b : ℕ → EReal)
    (hx : ∀ i : S2x32x32x384.Idx, W (Proc.devRef .tc main_v29) i = X (i 0).val (i 1).val (i 2).val (i 3).val)
    (hs : ∀ i : S2x384x32x32.Idx, W (Proc.devRef .tc main_arg1) i = S (i 0).val (i 1).val (i 2).val (i 3).val)
    (hw : ∀ i : S384x768.Idx, W (Proc.devRef .tc main_arg5) i = w (i 0).val (i 1).val)
    (hb : ∀ i : S384.Idx, W (Proc.devRef .tc main_arg6) i = b (i 0).val) :
    ∀ i : S2x32x32x384.Idx, StableHlo.after opsA3 W (Proc.devRef .tc main_v36) i
      = dotS 384 (X (i 0).val (i 1).val (i 2).val) (w (i 3).val) + dotS 384 (fun k => S (i 0).val k (i 1).val (i 2).val) (fun k => w (i 3).val (384 + k)) + b (i 3).val := by
  intro i; idx_vars i; after_reads_simp; pointwise [hw, hb, dotS]
  after_reads_simp; pointwise [hx, hs]

/-- The result's layout. -/
theorem stZ (H : Mat) (hx : ∀ i : S2x32x32x384.Idx, W (Proc.devRef .tc main_v472) i = H ((i 0).val * 1024 + (i 1).val * 32 + (i 2).val) (i 3).val) :
    ∀ i : S2x384x32x32.Idx, StableHlo.after opsZ W (Proc.devRef .tc main_v473) i = H ((i 0).val * 1024 + (i 2).val * 32 + (i 3).val) (i 1).val := by
  intro i; idx_vars i; after_reads_simp; pointwise [hx]

end Cert.Proof.Ref
-- ==== Proof.RFit.lean ====
/-
  What it is that the reference's arguments are the network's.
-/
module

public import proofs.«01_k».proof.Proof.RefKeep
public import proofs.«01_k».proof.Proof.Net
public import Idealize.ShloMosaic.Lib.StableHlo.RunRead
public import Idealize.ShloMosaic.Lib.Pointwise
public import Idealize.ShloMosaic.Lib.Pipeline.ValueKit

@[expose] public section

set_option maxRecDepth 65536

noncomputable section

namespace Cert.Proof.Ref

open Cert.ReferenceIdeal Cert.ReferenceIdeal.Gen
open Idealize.ShloMosaic
open Idealize.ShloMosaic.TcCoe
open Idealize.SL.Sem
open Idealize.ShloMosaic.StableHlo (after afterL atTrip launchContents)

/-- The contents hold the network's arguments. -/
structure Fits (V : Valuation τ sig (Elt Ideal)) (a : Net) : Prop where
  x : ∀ i : S2x768x16x16.Idx, V (Proc.devRef .tc main_arg0) i = a.x (i 0).val (i 1).val (i 2).val (i 3).val
  skip : ∀ i : S2x384x32x32.Idx, V (Proc.devRef .tc main_arg1) i = a.skip (i 0).val (i 1).val (i 2).val (i 3).val
  pew : ∀ i : S1536x768.Idx, V (Proc.devRef .tc main_arg2) i = a.pew (i 0).val (i 1).val
  penw : ∀ i : S384.Idx, V (Proc.devRef .tc main_arg3) i = a.penw (i 0).val
  penb : ∀ i : S384.Idx, V (Proc.devRef .tc main_arg4) i = a.penb (i 0).val
  lpw : ∀ i : S384x768.Idx, V (Proc.devRef .tc main_arg5) i = a.lpw (i 0).val (i 1).val
  lpb : ∀ i : S384.Idx, V (Proc.devRef .tc main_arg6) i = a.lpb (i 0).val
  lnw : ∀ i : S2x384.Idx, V (Proc.devRef .tc main_arg7) i = a.lnw (i 0).val (i 1).val
  lnb : ∀ i : S2x384.Idx, V (Proc.devRef .tc main_arg8) i = a.lnb (i 0).val (i 1).val
  inw : ∀ i : S2x1536x384.Idx, V (Proc.devRef .tc main_arg9) i = a.inw (i 0).val (i 1).val (i 2).val
  cw : ∀ i : S2x768x3x3.Idx, V (Proc.devRef .tc main_arg10) i = a.cw (i 0).val (i 1).val (i 2).val (i 3).val
  cb : ∀ i : S2x768.Idx, V (Proc.devRef .tc main_arg11) i = a.cb (i 0).val (i 1).val
  xpw : ∀ i : S2x4x56x768.Idx, V (Proc.devRef .tc main_arg12) i = a.xpw (i 0).val (i 1).val (i 2).val (i 3).val
  dtw : ∀ i : S2x4x768x24.Idx, V (Proc.devRef .tc main_arg13) i = a.dtw (i 0).val (i 1).val (i 2).val (i 3).val
  dtb : ∀ i : S2x4x768.Idx, V (Proc.devRef .tc main_arg14) i = a.dtb (i 0).val (i 1).val (i 2).val
  al : ∀ i : S2x4x768x16.Idx, V (Proc.devRef .tc main_arg15) i = a.al (i 0).val (i 1).val (i 2).val (i 3).val
  ds : ∀ i : S2x4x768.Idx, V (Proc.devRef .tc main_arg16) i = a.ds (i 0).val (i 1).val (i 2).val
  onw : ∀ i : S2x768.Idx, V (Proc.devRef .tc main_arg17) i = a.onw (i 0).val (i 1).val
  onb : ∀ i : S2x768.Idx, V (Proc.devRef .tc main_arg18) i = a.onb (i 0).val (i 1).val
  ow : ∀ i : S2x384x768.Idx, V (Proc.devRef .tc main_arg19) i = a.ow (i 0).val (i 1).val (i 2).val

/-- A list that writes past the arguments keeps them. -/
theorem Fits.after {V V' : Valuation τ sig (Elt Ideal)} {a : Net} (h : Fits V a) (hk : ∀ r : Ref sig .tc, r.idx.val < 20 → V' (Proc.devRef .tc r) = V (Proc.devRef .tc r)) : Fits V' a where
  x := fun i => (congrFun (hk main_arg0 (by decide)) i).trans (h.x i)
  skip := fun i => (congrFun (hk main_arg1 (by decide)) i).trans (h.skip i)
  pew := fun i => (congrFun (hk main_arg2 (by decide)) i).trans (h.pew i)
  penw := fun i => (congrFun (hk main_arg3 (by decide)) i).trans (h.penw i)
  penb := fun i => (congrFun (hk main_arg4 (by decide)) i).trans (h.penb i)
  lpw := fun i => (congrFun (hk main_arg5 (by decide)) i).trans (h.lpw i)
  lpb := fun i => (congrFun (hk main_arg6 (by decide)) i).trans (h.lpb i)
  lnw := fun i => (congrFun (hk main_arg7 (by decide)) i).trans (h.lnw i)
  lnb := fun i => (congrFun (hk main_arg8 (by decide)) i).trans (h.lnb i)
  inw := fun i => (congrFun (hk main_arg9 (by decide)) i).trans (h.inw i)
  cw := fun i => (congrFun (hk main_arg10 (by decide)) i).trans (h.cw i)
  cb := fun i => (congrFun (hk main_arg11 (by decide)) i).trans (h.cb i)
  xpw := fun i => (congrFun (hk main_arg12 (by decide)) i).trans (h.xpw i)
  dtw := fun i => (congrFun (hk main_arg13 (by decide)) i).trans (h.dtw i)
  dtb := fun i => (congrFun (hk main_arg14 (by decide)) i).trans (h.dtb i)
  al := fun i => (congrFun (hk main_arg15 (by decide)) i).trans (h.al i)
  ds := fun i => (congrFun (hk main_arg16 (by decide)) i).trans (h.ds i)
  onw := fun i => (congrFun (hk main_arg17 (by decide)) i).trans (h.onw i)
  onb := fun i => (congrFun (hk main_arg18 (by decide)) i).trans (h.onb i)
  ow := fun i => (congrFun (hk main_arg19 (by decide)) i).trans (h.ow i)

/-- What a list keeps, for the contents it leaves. -/
theorem Within.left {lo hi : ℕ} {ops : List (HloOp τ sig (Elt Ideal))} (h : Within lo hi ops) {V V' : Valuation τ sig (Elt Ideal)}
    (e : V' = StableHlo.after ops V) (r : Ref sig .tc) (hr : r.idx.val < lo ∨ hi < r.idx.val) : V' (Proc.devRef .tc r) = V (Proc.devRef .tc r) := by
  rw [e]
  exact h.keep V r hr

end Cert.Proof.Ref
-- ==== Proof.RB0.lean ====
module

public import proofs.«01_k».proof.Proof.RefOps
public import proofs.«01_k».proof.Proof.RMath
public import Idealize.ShloMosaic.Lib.StableHlo.RunRead
public import Idealize.ShloMosaic.Lib.Pointwise
public import Idealize.ShloMosaic.Lib.Pipeline.ValueKit

@[expose] public section

set_option maxRecDepth 65536

noncomputable section

namespace Cert.Proof.Ref

open Cert.ReferenceIdeal Cert.ReferenceIdeal.Gen
open Idealize.ShloMosaic
open Idealize.ShloMosaic.TcCoe
open Idealize.SL.Sem

variable (W : Valuation τ sig (Elt Ideal))

/-- Layer 0's weights. -/
theorem st0_1 (a : Net)
    (h7 : ∀ i : S2x384.Idx, W (Proc.devRef .tc main_arg7) i = a.lnw (i 0).val (i 1).val)
    (h8 : ∀ i : S2x384.Idx, W (Proc.devRef .tc main_arg8) i = a.lnb (i 0).val (i 1).val)
    (h9 : ∀ i : S2x1536x384.Idx, W (Proc.devRef .tc main_arg9) i = a.inw (i 0).val (i 1).val (i 2).val)
    (h10 : ∀ i : S2x768x3x3.Idx, W (Proc.devRef .tc main_arg10) i = a.cw (i 0).val (i 1).val (i 2).val (i 3).val)
    (h11 : ∀ i : S2x768.Idx, W (Proc.devRef .tc main_arg11) i = a.cb (i 0).val (i 1).val)
    (h12 : ∀ i : S2x4x56x768.Idx, W (Proc.devRef .tc main_arg12) i = a.xpw (i 0).val (i 1).val (i 2).val (i 3).val)
    (h13 : ∀ i : S2x4x768x24.Idx, W (Proc.devRef .tc main_arg13) i = a.dtw (i 0).val (i 1).val (i 2).val (i 3).val)
    (h14 : ∀ i : S2x4x768.Idx, W (Proc.devRef .tc main_arg14) i = a.dtb (i 0).val (i 1).val (i 2).val)
    (h15 : ∀ i : S2x4x768x16.Idx, W (Proc.devRef .tc main_arg15) i = a.al (i 0).val (i 1).val (i 2).val (i 3).val)
    (h16 : ∀ i : S2x4x768.Idx, W (Proc.devRef .tc main_arg16) i = a.ds (i 0).val (i 1).val (i 2).val)
    (h17 : ∀ i : S2x768.Idx, W (Proc.devRef .tc main_arg17) i = a.onw (i 0).val (i 1).val)
    (h18 : ∀ i : S2x768.Idx, W (Proc.devRef .tc main_arg18) i = a.onb (i 0).val (i 1).val)
    (h19 : ∀ i : S2x384x768.Idx, W (Proc.devRef .tc main_arg19) i = a.ow (i 0).val (i 1).val (i 2).val) :
    (∀ i : S384.Idx, StableHlo.after opsL0_1 W (Proc.devRef .tc main_v38) i = a.lnw 0 (i 0).val)
    ∧ (∀ i : S384.Idx, StableHlo.after opsL0_1 W (Proc.devRef .tc main_v40) i = a.lnb 0 (i 0).val)
    ∧ (∀ i : S1536x384.Idx, StableHlo.after opsL0_1 W (Proc.devRef .tc main_v42) i = a.inw 0 (i 0).val (i 1).val)
    ∧ (∀ i : S768x3x3.Idx, StableHlo.after opsL0_1 W (Proc.devRef .tc main_v44) i = a.cw 0 (i 0).val (i 1).val (i 2).val)
    ∧ (∀ i : S768.Idx, StableHlo.after opsL0_1 W (Proc.devRef .tc main_v46) i = a.cb 0 (i 0).val)
    ∧ (∀ i : S4x56x768.Idx, StableHlo.after opsL0_1 W (Proc.devRef .tc main_v48) i = a.xpw 0 (i 0).val (i 1).val (i 2).val)
    ∧ (∀ i : S4x768x24.Idx, StableHlo.after opsL0_1 W (Proc.devRef .tc main_v50) i = a.dtw 0 (i 0).val (i 1).val (i 2).val)
    ∧ (∀ i : S4x768.Idx, StableHlo.after opsL0_1 W (Proc.devRef .tc main_v52) i = a.dtb 0 (i 0).val (i 1).val)
    ∧ (∀ i : S4x768x16.Idx, StableHlo.after opsL0_1 W (Proc.devRef .tc main_v54) i = a.al 0 (i 0).val (i 1).val (i 2).val)
    ∧ (∀ i : S4x768.Idx, StableHlo.after opsL0_1 W (Proc.devRef .tc main_v56) i = a.ds 0 (i 0).val (i 1).val)
    ∧ (∀ i : S768.Idx, StableHlo.after opsL0_1 W (Proc.devRef .tc main_v58) i = a.onw 0 (i 0).val)
    ∧ (∀ i : S768.Idx, StableHlo.after opsL0_1 W (Proc.devRef .tc main_v60) i = a.onb 0 (i 0).val)
    ∧ (∀ i : S384x768.Idx, StableHlo.after opsL0_1 W (Proc.devRef .tc main_v62) i = a.ow 0 (i 0).val (i 1).val) := by
  refine ⟨?_, ?_, ?_, ?_, ?_, ?_, ?_, ?_, ?_, ?_, ?_, ?_, ?_⟩ <;> (intro i; idx_vars i; after_reads_simp; pointwise [h7, h8, h9, h10, h11, h12, h13, h14, h15, h16, h17, h18, h19])

/-- Layer 0's first norm. -/
theorem st0_2 (H : Mat) (w b : ℕ → EReal)
    (hx : ∀ i : S2x32x32x384.Idx, W (Proc.devRef .tc main_v36) i = H ((i 0).val * 1024 + (i 1).val * 32 + (i 2).val) (i 3).val)
    (hw : ∀ i : S384.Idx, W (Proc.devRef .tc main_v38) i = w (i 0).val)
    (hb : ∀ i : S384.Idx, W (Proc.devRef .tc main_v40) i = b (i 0).val) :
    ∀ i : S2x32x32x384.Idx, StableHlo.after opsL0_2 W (Proc.devRef .tc main_v86) i = lnS 384 c384 w b (H ((i 0).val * 1024 + (i 1).val * 32 + (i 2).val)) (i 3).val := by
  intro i; idx_vars i; after_reads_simp; pointwise [hx, hw, hb, lnS, meanS, varS]

/-- Layer 0's input projection. -/
theorem st0_3 (X : Mat) (w : Mat)
    (hx : ∀ i : S2x32x32x384.Idx, W (Proc.devRef .tc main_v86) i = X ((i 0).val * 1024 + (i 1).val * 32 + (i 2).val) (i 3).val)
    (hw : ∀ i : S1536x384.Idx, W (Proc.devRef .tc main_v42) i = w (i 0).val (i 1).val) :
    (∀ i : S2x768x32x32.Idx, StableHlo.after opsL0_3 W (Proc.devRef .tc main_v91) i = dotS 384 (X ((i 0).val * 1024 + (i 2).val * 32 + (i 3).val)) (w (i 1).val))
    ∧ (∀ i : S2x32x32x768.Idx, StableHlo.after opsL0_3 W (Proc.devRef .tc main_v90) i = dotS 384 (X ((i 0).val * 1024 + (i 1).val * 32 + (i 2).val)) (w (768 + (i 3).val))) := by
  refine ⟨?_, ?_⟩ <;> (intro i; idx_vars i; after_reads_simp; pointwise [hx, hw, dotS])

end Cert.Proof.Ref
-- ==== Proof.RC0.lean ====
module

public import proofs.«01_k».proof.Proof.RefOps
public import proofs.«01_k».proof.Proof.RMath
public import Idealize.ShloMosaic.Lib.StableHlo.RunRead
public import Idealize.ShloMosaic.Lib.Pointwise
public import Idealize.ShloMosaic.Lib.Pipeline.ValueKit

@[expose] public section

set_option maxRecDepth 65536

noncomputable section

namespace Cert.Proof.Ref

open Cert.ReferenceIdeal Cert.ReferenceIdeal.Gen
open Idealize.ShloMosaic
open Idealize.ShloMosaic.TcCoe
open Idealize.SL.Sem

variable (W : Valuation τ sig (Elt Ideal))

/-- Layer 0's convolution. -/
theorem st0_4 (X : ℕ → Mat) (w : ℕ → Mat) (b : ℕ → EReal)
    (hx : ∀ i : S2x768x32x32.Idx, W (Proc.devRef .tc main_v91) i = X (i 0).val ((i 2).val * 32 + (i 3).val) (i 1).val)
    (hw : ∀ i : S768x3x3.Idx, W (Proc.devRef .tc main_v44) i = w (i 0).val (i 1).val (i 2).val)
    (hb : ∀ i : S768.Idx, W (Proc.devRef .tc main_v46) i = b (i 0).val) :
    ∀ i : S2x768x32x32.Idx, StableHlo.after opsL0_4 W (Proc.devRef .tc main_v159) i = convS (X (i 0).val) (fun t d => w d (t / 3) (t % 3)) b ((i 2).val * 32 + (i 3).val) (i 1).val := by
  intro i; idx_vars i; after_reads_simp; pointwise [hx, hw, hb]
  refine conv_of (X i0.val) (fun t d => w d (t / 3) (t % 3)) b (i2.val * 32 + i3.val) i1.val ?_ ?_ ?_ ?_ ?_ ?_ ?_ ?_ ?_ <;> refine congrArg₂ (· * ·) rfl ?_
  case refine_5 => exact ((if_pos (by omega)).trans (congrArg (fun k => X i0.val k i1.val) (by omega))).symm
  all_goals exact tap_of _ _ _ _ _ _ (by omega) fun _ => congrArg (fun k => X i0.val k i1.val) (by omega)

/-- Layer 0's activation. -/
theorem st0_5 (X : ℕ → Mat)
    (hx : ∀ i : S2x768x32x32.Idx, W (Proc.devRef .tc main_v159) i = X (i 0).val ((i 2).val * 32 + (i 3).val) (i 1).val) :
    ∀ i : S2x768x32x32.Idx, StableHlo.after opsL0_5 W (Proc.devRef .tc main_v160) i = siluS (X (i 0).val ((i 2).val * 32 + (i 3).val) (i 1).val) := by
  intro i; idx_vars i; after_reads_simp; pointwise [hx]; exact silu_mul _

/-- Layer 0's four orders. -/
theorem st0_6 (U : ℕ → Mat)
    (hx : ∀ i : S2x768x32x32.Idx, W (Proc.devRef .tc main_v160) i = U (i 0).val ((i 2).val * 32 + (i 3).val) (i 1).val) :
    ∀ i : S2x4x768x1024.Idx, StableHlo.after opsL0_6 W (Proc.devRef .tc main_v170) i = ordS (U (i 0).val) (i 1).val (i 3).val (i 2).val := by
  intro i; idx_vars i; after_reads_simp; pointwise [hx, ordS]
  split_ifs <;> after_reads_simp <;> pointwise [hx] <;> (try simp [Fin.val_rev, Nat.div_add_mod'])

end Cert.Proof.Ref
-- ==== Proof.RD0.lean ====
module

public import proofs.«01_k».proof.Proof.RefOps
public import proofs.«01_k».proof.Proof.RMath
public import Idealize.ShloMosaic.Lib.StableHlo.RunRead
public import Idealize.ShloMosaic.Lib.Pointwise
public import Idealize.ShloMosaic.Lib.Pipeline.ValueKit

@[expose] public section

set_option maxRecDepth 65536

noncomputable section

namespace Cert.Proof.Ref

open Cert.ReferenceIdeal Cert.ReferenceIdeal.Gen
open Idealize.ShloMosaic
open Idealize.ShloMosaic.TcCoe
open Idealize.SL.Sem

variable (W : Valuation τ sig (Elt Ideal))

/-- Layer 0's projections of the orders. -/
theorem st0_7 (U : ℕ → ℕ → Mat) (w : ℕ → Mat)
    (hx : ∀ i : S2x4x768x1024.Idx, W (Proc.devRef .tc main_v170) i = U (i 0).val (i 1).val (i 3).val (i 2).val)
    (hw : ∀ i : S4x56x768.Idx, W (Proc.devRef .tc main_v48) i = w (i 0).val (i 1).val (i 2).val) :
    (∀ i : S2x4x24x1024.Idx, StableHlo.after opsL0_7 W (Proc.devRef .tc main_v173) i = dotS 768 (w (i 1).val (i 2).val) (U (i 0).val (i 1).val (i 3).val))
    ∧ (∀ i : S2x4x16x1024.Idx, StableHlo.after opsL0_7 W (Proc.devRef .tc main_v174) i = dotS 768 (w (i 1).val (24 + (i 2).val)) (U (i 0).val (i 1).val (i 3).val))
    ∧ (∀ i : S2x4x16x1024.Idx, StableHlo.after opsL0_7 W (Proc.devRef .tc main_v175) i = dotS 768 (w (i 1).val (40 + (i 2).val)) (U (i 0).val (i 1).val (i 3).val)) := by
  refine ⟨?_, ?_, ?_⟩ <;> (intro i; idx_vars i; after_reads_simp; pointwise [hx, hw, dotS])

/-- Layer 0's step sizes. -/
theorem st0_8 (R : ℕ → ℕ → Mat) (w : ℕ → Mat) (b : Mat)
    (hx : ∀ i : S2x4x24x1024.Idx, W (Proc.devRef .tc main_v173) i = R (i 0).val (i 1).val (i 3).val (i 2).val)
    (hw : ∀ i : S4x768x24.Idx, W (Proc.devRef .tc main_v50) i = w (i 0).val (i 1).val (i 2).val)
    (hb : ∀ i : S4x768.Idx, W (Proc.devRef .tc main_v52) i = b (i 0).val (i 1).val) :
    ∀ i : S2x4x768x1024.Idx, StableHlo.after opsL0_8 W (Proc.devRef .tc main_v181) i = softplusS (dotS 24 (w (i 1).val (i 2).val) (R (i 0).val (i 1).val (i 3).val) + b (i 1).val (i 2).val) := by
  intro i; idx_vars i; after_reads_simp; pointwise [hx, hw, hb, dotS]
  exact softplus_of _

/-- The scan's operands. -/
theorem st0_9 (U D B C : ℕ → ℕ → Mat) (al : ℕ → Mat) (ds : Mat)
    (hu : ∀ i : S2x4x768x1024.Idx, W (Proc.devRef .tc main_v170) i = U (i 0).val (i 1).val (i 3).val (i 2).val)
    (hd : ∀ i : S2x4x768x1024.Idx, W (Proc.devRef .tc main_v181) i = D (i 0).val (i 1).val (i 3).val (i 2).val)
    (hb : ∀ i : S2x4x16x1024.Idx, W (Proc.devRef .tc main_v174) i = B (i 0).val (i 1).val (i 3).val (i 2).val)
    (hc : ∀ i : S2x4x16x1024.Idx, W (Proc.devRef .tc main_v175) i = C (i 0).val (i 1).val (i 3).val (i 2).val)
    (ha : ∀ i : S4x768x16.Idx, W (Proc.devRef .tc main_v54) i = al (i 0).val (i 1).val (i 2).val)
    (hs : ∀ i : S4x768.Idx, W (Proc.devRef .tc main_v56) i = ds (i 0).val (i 1).val) :
    (∀ i : S1024x8x768.Idx, StableHlo.after opsL0_9 W (Proc.devRef .tc main_v198_0) i = D ((i 1).val / 4) ((i 1).val % 4) (i 0).val (i 2).val)
    ∧ (∀ i : S1024x8x768.Idx, StableHlo.after opsL0_9 W (Proc.devRef .tc main_v198_1) i = U ((i 1).val / 4) ((i 1).val % 4) (i 0).val (i 2).val)
    ∧ (∀ i : S1024x8x16.Idx, StableHlo.after opsL0_9 W (Proc.devRef .tc main_v198_2) i = B ((i 1).val / 4) ((i 1).val % 4) (i 0).val (i 2).val)
    ∧ (∀ i : S1024x8x16.Idx, StableHlo.after opsL0_9 W (Proc.devRef .tc main_v198_3) i = C ((i 1).val / 4) ((i 1).val % 4) (i 0).val (i 2).val)
    ∧ (∀ i : S8x768x16.Idx, StableHlo.after opsL0_9 W (Proc.devRef .tc main_v198_4) i = -Ideal.exp (al ((i 0).val % 4) (i 1).val (i 2).val))
    ∧ (∀ i : S8x768x16.Idx, StableHlo.after opsL0_9 W (Proc.devRef .tc main_v198_6) i = (0 : EReal))
    ∧ (∀ i : S8x768x1024.Idx, StableHlo.after opsL0_9 W (Proc.devRef .tc main_v184) i = U ((i 0).val / 4) ((i 0).val % 4) (i 2).val (i 1).val)
    ∧ (∀ i : S8x768.Idx, StableHlo.after opsL0_9 W (Proc.devRef .tc main_v191) i = ds ((i 0).val % 4) (i 1).val)
    ∧ (∀ i : S1024x8x768.Idx, StableHlo.after opsL0_9 W (Proc.devRef .tc main_v198_7) i = (0 : EReal)) := by
  refine ⟨?_, ?_, ?_, ?_, ?_, ?_, ?_, ?_, ?_⟩ <;> (intro i; idx_vars i; after_reads_simp; pointwise [hu, hd, hb, hc, ha, hs, id_eq])

end Cert.Proof.Ref
-- ==== Proof.RE0.lean ====
module

public import proofs.«01_k».proof.Proof.RefOps
public import proofs.«01_k».proof.Proof.RMath
public import Idealize.ShloMosaic.Lib.StableHlo.RunRead
public import Idealize.ShloMosaic.Lib.Pointwise
public import Idealize.ShloMosaic.Lib.Pipeline.ValueKit

@[expose] public section

set_option maxRecDepth 65536

noncomputable section

namespace Cert.Proof.Ref

open Cert.ReferenceIdeal Cert.ReferenceIdeal.Gen
open Idealize.ShloMosaic
open Idealize.ShloMosaic.TcCoe
open Idealize.SL.Sem

variable (W : Valuation τ sig (Elt Ideal))

/-- The scans' results with the direct term, split by image and order. -/
theorem st0_10 (Y U : ℕ → Mat) (ds : Mat)
    (hy : ∀ i : S1024x8x768.Idx, W (Proc.devRef .tc main_v198_7) i = Y (i 1).val (i 0).val (i 2).val)
    (hu : ∀ i : S8x768x1024.Idx, W (Proc.devRef .tc main_v184) i = U (i 0).val (i 2).val (i 1).val)
    (hs : ∀ i : S8x768.Idx, W (Proc.devRef .tc main_v191) i = ds (i 0).val (i 1).val) :
    ∀ i : S2x4x768x1024.Idx, StableHlo.after opsL0_10 W (Proc.devRef .tc main_v204) i = Y ((i 0).val * 4 + (i 1).val) (i 3).val (i 2).val + ds ((i 0).val * 4 + (i 1).val) (i 2).val * U ((i 0).val * 4 + (i 1).val) (i 3).val (i 2).val := by
  intro i; idx_vars i; after_reads_simp; pointwise [hy, hu, hs]

/-- The four orders merged. -/
theorem st0_11 (Y : ℕ → ℕ → Mat)
    (hy : ∀ i : S2x4x768x1024.Idx, W (Proc.devRef .tc main_v204) i = Y (i 0).val (i 1).val (i 3).val (i 2).val) :
    ∀ i : S2x32x32x768.Idx, StableHlo.after opsL0_11 W (Proc.devRef .tc main_v225) i = Y (i 0).val 0 ((i 1).val * 32 + (i 2).val) (i 3).val + Y (i 0).val 1 ((i 2).val * 32 + (i 1).val) (i 3).val
      + Y (i 0).val 2 (1023 - ((i 1).val * 32 + (i 2).val)) (i 3).val + Y (i 0).val 3 (1023 - ((i 2).val * 32 + (i 1).val)) (i 3).val := by
  intro i; idx_vars i; after_reads_simp; pointwise [hy]
  have e : i2.val % 32 * 32 + (i1.val * 32 + i2.val) / 32 = i2.val * 32 + i1.val := by omega
  simp [Fin.val_rev, e]

/-- Layer 0's second norm. -/
theorem st0_12 (T : Mat) (w b : ℕ → EReal)
    (hx : ∀ i : S2x32x32x768.Idx, W (Proc.devRef .tc main_v225) i = T ((i 0).val * 1024 + (i 1).val * 32 + (i 2).val) (i 3).val)
    (hw : ∀ i : S768.Idx, W (Proc.devRef .tc main_v58) i = w (i 0).val)
    (hb : ∀ i : S768.Idx, W (Proc.devRef .tc main_v60) i = b (i 0).val) :
    ∀ i : S2x32x32x768.Idx, StableHlo.after opsL0_12 W (Proc.devRef .tc main_v249) i = lnS 768 c768 w b (T ((i 0).val * 1024 + (i 1).val * 32 + (i 2).val)) (i 3).val := by
  intro i; idx_vars i; after_reads_simp; pointwise [hx, hw, hb, lnS, meanS, varS]

/-- Layer 0's gate, output projection and sum. -/
theorem st0_13 (T Z H : Mat) (w : Mat)
    (ht : ∀ i : S2x32x32x768.Idx, W (Proc.devRef .tc main_v249) i = T ((i 0).val * 1024 + (i 1).val * 32 + (i 2).val) (i 3).val)
    (hz : ∀ i : S2x32x32x768.Idx, W (Proc.devRef .tc main_v90) i = Z ((i 0).val * 1024 + (i 1).val * 32 + (i 2).val) (i 3).val)
    (hh : ∀ i : S2x32x32x384.Idx, W (Proc.devRef .tc main_v36) i = H ((i 0).val * 1024 + (i 1).val * 32 + (i 2).val) (i 3).val)
    (hw : ∀ i : S384x768.Idx, W (Proc.devRef .tc main_v62) i = w (i 0).val (i 1).val) :
    ∀ i : S2x32x32x384.Idx, StableHlo.after opsL0_13 W (Proc.devRef .tc main_v254) i = H ((i 0).val * 1024 + (i 1).val * 32 + (i 2).val) (i 3).val + dotS 768 (fun k => T ((i 0).val * 1024 + (i 1).val * 32 + (i 2).val) k * siluS (Z ((i 0).val * 1024 + (i 1).val * 32 + (i 2).val) k)) (w (i 3).val) := by
  intro i; idx_vars i; after_reads_simp; pointwise [ht, hz, hh, hw, dotS]; simp only [silu_mul]

end Cert.Proof.Ref
-- ==== Proof.RScan.lean ====
/-
  The reference's scans and their merge as the network's.
-/
module

public import proofs.«01_k».proof.Proof.RMath

@[expose] public section

noncomputable section

namespace Cert.Proof

open Idealize.ShloMosaic

/-- A product of rows in either order. -/
theorem dotS_comm (K : ℕ) (x w : ℕ → EReal) : dotS K x w = dotS K w x :=
  Finset.sum_congr rfl fun _ _ => mul_comm _ _

/-- The state of a scan before step `k`, channel by number. -/
def stateS (D U B A : Mat) : ℕ → Mat
  | 0 => fun _ _ => 0
  | k + 1 => stepS D U B A k (stateS D U B A k)

/-- A scan's result: the state after each step against its row of `C`. -/
def readS (D U B A C : Mat) : Mat := fun l d => ∑ n : Fin 16, stateS D U B A (l + 1) d n.val * C l n.val

/-- The state is the network's. -/
theorem stateS_eq (D U B A : Mat) (k n d : ℕ) : stateS D U B A k d n
    = recS (fun l n d => Ideal.exp (D l d * A d n)) (fun l n d => B l n * (D l d * U l d)) (fun _ _ => 0) k n d := by
  induction k generalizing n d with
  | zero => rfl
  | succ k ih =>
    show Ideal.exp (D k d * A d n) * stateS D U B A k d n + D k d * U k d * B k n = _
    rw [ih, mul_comm (D k d * U k d)]
    rfl

/-- The reference's step size, the same products in the other order. -/
def dtR (U XW DTW : Mat) (DTB : ℕ → EReal) : Mat := fun l d => softplusS (dotS 24 (DTW d) (fun r => dotS 768 (XW r) (U l)) + DTB d)

/-- It is the network's. -/
theorem dtR_eq (U XW DTW : Mat) (DTB : ℕ → EReal) : dtR U XW DTW DTB = dtE U XW DTW DTB := by
  funext l d
  unfold dtR dtE
  rw [dotS_comm 24]
  simp only [dotS_comm 768 _ (U l)]

/-- The reference's scan of one order. -/
def scanR (U XW DTW : Mat) (DTB : ℕ → EReal) (AL : Mat) : Mat :=
  readS (dtR U XW DTW DTB) U (fun l n => dotS 768 (XW (24 + n)) (U l)) (fun d n => -Ideal.exp (AL d n)) (fun l n => dotS 768 (XW (40 + n)) (U l))

/-- It is the network's forward scan. -/
theorem scanR_eq (U XW DTW : Mat) (DTB : ℕ → EReal) (AL : Mat) : scanR U XW DTW DTB AL = scanE 0 U XW DTW DTB (fun n d => AL d n) := by
  funext l d
  unfold scanR readS scanE
  refine Finset.sum_congr rfl fun n _ => ?_
  rw [stateS_eq, dtR_eq]
  simp only [dotS_comm 768 (XW _) _, ← Nat.add_assoc, if_true]

/-- A backward scan is a forward scan of the reversed rows. -/
theorem scan_rev (U XW DTW : Mat) (DTB : ℕ → EReal) (AL : Mat) (r d : ℕ) (hr : r ≤ 1023) :
    scanE 0 (fun l => U (1023 - l)) XW DTW DTB AL (1023 - r) d = scanE 1 U XW DTW DTB AL r d := by
  unfold scanE
  refine Finset.sum_congr rfl fun n _ => ?_
  have e : 1023 - (1023 - r) = r := by omega
  simp only [e]
  rfl

variable (a : Net) (L : ℕ) (H : Mat)

/-- One order's scan with its direct term. -/
def termR (b k : ℕ) : Mat := fun l d =>
  scanR (ordS (uS a L H b) k) (a.xpw L k) (a.dtw L k) (a.dtb L k) (a.al L k) l d + a.ds L k d * ordS (uS a L H b) k l d

/-- The four orders merged are the network's merge, where the direct terms add up. -/
theorem merge_eq (b i j d : ℕ) (hi : i < 32) (hj : j < 32)
    (hD : (∑ k : Fin 4, a.ds L k.val d) * uS a L H b (i * 32 + j) d = ∑ k : Fin 4, a.ds L k.val d * uS a L H b (i * 32 + j) d) :
    termR a L H b 0 (i * 32 + j) d + termR a L H b 1 (j * 32 + i) d + termR a L H b 2 (1023 - (i * 32 + j)) d
      + termR a L H b 3 (1023 - (j * 32 + i)) d = mergeS a L H (b * 1024 + i * 32 + j) d := by
  have e0 : (b * 1024 + i * 32 + j) / 1024 = b := by omega
  have e1 : (b * 1024 + i * 32 + j) % 1024 = i * 32 + j := by omega
  have e2 : (b * 1024 + i * 32 + j) % 32 * 32 + (b * 1024 + i * 32 + j) / 32 % 32 = j * 32 + i := by omega
  have u0 : ordS (uS a L H b) 0 (i * 32 + j) d = uS a L H b (i * 32 + j) d := rfl
  have u1 : ordS (uS a L H b) 1 (j * 32 + i) d = uS a L H b (i * 32 + j) d := by
    show uS a L H b ((j * 32 + i) % 32 * 32 + (j * 32 + i) / 32) d = _
    rw [show (j * 32 + i) % 32 * 32 + (j * 32 + i) / 32 = i * 32 + j by omega]
  have u2 : ordS (uS a L H b) 2 (1023 - (i * 32 + j)) d = uS a L H b (i * 32 + j) d := by
    show uS a L H b (1023 - (1023 - (i * 32 + j))) d = _
    rw [show 1023 - (1023 - (i * 32 + j)) = i * 32 + j by omega]
  have u3 : ordS (uS a L H b) 3 (1023 - (j * 32 + i)) d = uS a L H b (i * 32 + j) d := by
    show uS a L H b ((1023 - (1023 - (j * 32 + i))) % 32 * 32 + (1023 - (1023 - (j * 32 + i))) / 32) d = _
    rw [show (1023 - (1023 - (j * 32 + i))) % 32 * 32 + (1023 - (1023 - (j * 32 + i))) / 32 = i * 32 + j by omega]
  have o0 : ordS (uS a L H b) 0 = seqS a L H b 0 := by
    funext l d
    simp [ordS, seqS]
  have o1 : ordS (uS a L H b) 1 = seqS a L H b 1 := by
    funext l d
    simp [ordS, seqS]
  have o2 : ordS (uS a L H b) 2 = fun l => seqS a L H b 0 (1023 - l) := by
    funext l d
    simp [ordS, seqS]
  have o3 : ordS (uS a L H b) 3 = fun l => seqS a L H b 1 (1023 - l) := by
    funext l d
    simp [ordS, seqS]
  have y0 : ∀ l, scanE 0 (seqS a L H b 0) (a.xpw L 0) (a.dtw L 0) (a.dtb L 0) (fun n d => a.al L 0 d n) l d = ysS a L H b 0 l d := fun l => by
    simp [ysS]
  have y1 : ∀ l, scanE 1 (seqS a L H b 0) (a.xpw L 2) (a.dtw L 2) (a.dtb L 2) (fun n d => a.al L 2 d n) l d = ysS a L H b 1 l d := fun l => by
    simp [ysS]
  have y2 : ∀ l, scanE 0 (seqS a L H b 1) (a.xpw L 1) (a.dtw L 1) (a.dtb L 1) (fun n d => a.al L 1 d n) l d = ysS a L H b 2 l d := fun l => by
    simp [ysS]
  have y3 : ∀ l, scanE 1 (seqS a L H b 1) (a.xpw L 3) (a.dtw L 3) (a.dtb L 3) (fun n d => a.al L 3 d n) l d = ysS a L H b 3 l d := fun l => by
    simp [ysS]
  unfold mergeS
  rw [e0, e1, e2, hD, Fin.sum_univ_four]
  unfold termR
  rw [u0, u1, u2, u3, scanR_eq, scanR_eq, scanR_eq, scanR_eq, o0, o1, o2, o3, scan_rev _ _ _ _ _ (i * 32 + j) d (by omega),
    scan_rev _ _ _ _ _ (j * 32 + i) d (by omega), y0, y1, y2, y3]
  show _ = _ + (a.ds L 0 d * _ + a.ds L 1 d * _ + a.ds L 2 d * _ + a.ds L 3 d * _)
  ac_rfl

end Cert.Proof
-- ==== Proof.RLoop.lean ====
/-
  A scan over time, as states and rows filled in one by one.
-/
module

public import proofs.«01_k».proof.Proof.RefRun
public import proofs.«01_k».proof.Proof.RScan
public import Idealize.ShloMosaic.Lib.StableHlo.RunRead
public import Idealize.ShloMosaic.Lib.Pointwise
public import Idealize.ShloMosaic.Lib.Pipeline.ValueKit

@[expose] public section

set_option maxRecDepth 65536

noncomputable section

namespace Cert.Proof.Ref

open Cert.ReferenceIdeal Cert.ReferenceIdeal.Gen
open Idealize.ShloMosaic
open Idealize.ShloMosaic.TcCoe
open Idealize.SL.Sem
open Idealize.ShloMosaic.StableHlo (after afterL atTrip launchContents)

/-- After `k` steps of `step`, the states are the scan's and the first `k` rows are its results. -/
theorem scan_run (D U B C A : ℕ → Mat) (S : ℕ → S8x768x16.Idx → EReal) (Y : ℕ → S1024x8x768.Idx → EReal)
    (h0 : ∀ i, S 0 i = 0) (y0 : ∀ i, Y 0 i = 0)
    (step : ∀ k, k < 1024 → ∀ H Z : ℕ → Mat, (∀ i, S k i = H (i 0).val (i 1).val (i 2).val) → (∀ i, Y k i = Z (i 1).val (i 0).val (i 2).val) →
      (∀ i, S (k + 1) i = stepS (D (i 0).val) (U (i 0).val) (B (i 0).val) (A (i 0).val) k (H (i 0).val) (i 1).val (i 2).val)
      ∧ ∀ i, Y (k + 1) i = if (i 0).val = k then ∑ n : Fin 16, stepS (D (i 1).val) (U (i 1).val) (B (i 1).val) (A (i 1).val) k (H (i 1).val) (i 2).val n.val * C (i 1).val k n.val
        else Z (i 1).val (i 0).val (i 2).val) (k : ℕ) (hk : k ≤ 1024) :
    (∀ i, S k i = stateS (D (i 0).val) (U (i 0).val) (B (i 0).val) (A (i 0).val) k (i 1).val (i 2).val)
    ∧ ∀ i, Y k i = if (i 0).val < k then readS (D (i 1).val) (U (i 1).val) (B (i 1).val) (A (i 1).val) (C (i 1).val) (i 0).val (i 2).val else 0 := by
  induction k with
  | zero => exact ⟨h0, fun i => by rw [y0, if_neg (Nat.not_lt_zero _)]⟩
  | succ k ih =>
    obtain ⟨hs, hy⟩ := ih (by omega)
    obtain ⟨a1, a2⟩ := step k (by omega) (fun g => stateS (D g) (U g) (B g) (A g) k)
      (fun g l d => if l < k then readS (D g) (U g) (B g) (A g) (C g) l d else 0) hs hy
    refine ⟨a1, fun i => ?_⟩
    rw [a2 i]
    by_cases e : (i 0).val = k
    · rw [if_pos e, if_pos (by omega), e]
      rfl
    · rw [if_neg e]
      by_cases l : (i 0).val < k
      · have e2 : (i 0).val < k + 1 := by omega
        exact (if_pos l).trans (if_pos e2).symm
      · have e2 : ¬(i 0).val < k + 1 := by omega
        exact (if_neg l).trans (if_neg e2).symm

end Cert.Proof.Ref
-- ==== Proof.RDyn.lean ====
module

public import proofs.«01_k».proof.Proof.RMath
public import Idealize.ShloMosaic.Lib.StableHlo.RunRead
public import Idealize.ShloMosaic.Lib.Pointwise
public import Idealize.ShloMosaic.Lib.Pipeline.ValueKit

@[expose] public section

set_option maxRecDepth 65536

noncomputable section

namespace Cert.Proof.Ref

open Idealize.ShloMosaic
open Idealize.ShloMosaic.TcCoe
open Idealize.SL.Sem

/-- A small number reads the same as a word. -/
theorem toInt_small (k : ℕ) (hk : k < 1024) : (BitVec.ofNat 32 k).toInt = (k : ℤ) := by
  rw [BitVec.toInt_ofNat']; simp [Int.bmod]; omega

/-- The block of one row of an array of 1024 rows. -/
theorem slice_at {b c : ℕ} (x : (⟨3, ![1024, b, c]⟩ : Shape).Idx → EReal) (st : Fin 3 → ℤ)
    (h : (⟨3, ![1024, b, c]⟩ : Shape).Slices (fun _ => 0) ⟨3, ![1, b, c]⟩) (k : ℕ) (hk : k < 1024) (h0 : st 0 = k) (h1 : st 1 = 0) (h2 : st 2 = 0) :
    Host.dynamicSlice (⟨3, ![1, b, c]⟩ : Shape) x st h = fun i => x (ix3 ⟨k, hk⟩ (i 1) (i 2)) := by
  funext i
  have hi : (i 0).val < 1 := (i 0).isLt
  have c0 := Host.clampedStart_of_le (s := ⟨3, ![1024, b, c]⟩) (t := ⟨3, ![1, b, c]⟩) h.1 st 0 k h0 (show k + 1 ≤ 1024 by omega)
  have c1 := Host.clampedStart_of_le (s := ⟨3, ![1024, b, c]⟩) (t := ⟨3, ![1, b, c]⟩) h.1 st 1 0 h1 (show 0 + b ≤ b by omega)
  have c2 := Host.clampedStart_of_le (s := ⟨3, ![1024, b, c]⟩) (t := ⟨3, ![1, b, c]⟩) h.1 st 2 0 h2 (show 0 + c ≤ c by omega)
  rw [Host.dynamicSlice_apply]
  refine congrArg x (funext fun a => Fin.ext ?_)
  match a with
  | ⟨0, _⟩ => exact (congrArg₂ (· + ·) c0 (show (i 0).val = 0 by omega)).trans (by rfl)
  | ⟨1, _⟩ => exact (congrArg₂ (· + ·) c1 (rfl : (i 1).val = (i 1).val)).trans (Nat.zero_add _)
  | ⟨2, _⟩ => exact (congrArg₂ (· + ·) c2 (rfl : (i 2).val = (i 2).val)).trans (Nat.zero_add _)

/-- Writing one row of an array of 1024 rows. -/
theorem update_at {b c : ℕ} (x : (⟨3, ![1024, b, c]⟩ : Shape).Idx → EReal) (u : (⟨3, ![1, b, c]⟩ : Shape).Idx → EReal) (st : Fin 3 → ℤ)
    (h : (⟨3, ![1024, b, c]⟩ : Shape).Slices (fun _ => 0) ⟨3, ![1, b, c]⟩) (k : ℕ) (hk : k < 1024) (h0 : st 0 = k) (h1 : st 1 = 0) (h2 : st 2 = 0) :
    Host.dynamicUpdateSlice x u st h = fun i => if (i 0).val = k then u (ix3 0 (i 1) (i 2)) else x i := by
  funext i
  have c0 := Host.clampedStart_of_le (s := ⟨3, ![1024, b, c]⟩) (t := ⟨3, ![1, b, c]⟩) h.1 st 0 k h0 (show k + 1 ≤ 1024 by omega)
  have c1 := Host.clampedStart_of_le (s := ⟨3, ![1024, b, c]⟩) (t := ⟨3, ![1, b, c]⟩) h.1 st 1 0 h1 (show 0 + b ≤ b by omega)
  have c2 := Host.clampedStart_of_le (s := ⟨3, ![1024, b, c]⟩) (t := ⟨3, ![1, b, c]⟩) h.1 st 2 0 h2 (show 0 + c ≤ c by omega)
  rw [Host.dynamicUpdateSlice_apply]
  by_cases e : (i 0).val = k
  · rw [dif_pos ?_, if_pos e]
    · refine congrArg u (funext fun a => Fin.ext ?_)
      match a with
      | ⟨0, _⟩ => exact (congrArg₂ (· - ·) e c0).trans (Nat.sub_self k)
      | ⟨1, _⟩ => exact congrArg₂ (· - ·) (rfl : (i 1).val = (i 1).val) c1
      | ⟨2, _⟩ => exact congrArg₂ (· - ·) (rfl : (i 2).val = (i 2).val) c2
    · intro a
      match a with
      | ⟨0, _⟩ =>
        show Host.clampedStart _ _ h.1 st 0 ≤ (i 0).val ∧ (i 0).val < Host.clampedStart _ _ h.1 st 0 + 1
        rw [c0]; omega
      | ⟨1, _⟩ =>
        show Host.clampedStart _ _ h.1 st 1 ≤ (i 1).val ∧ (i 1).val < Host.clampedStart _ _ h.1 st 1 + b
        have : (i 1).val < b := (i 1).isLt
        rw [c1]; omega
      | ⟨2, _⟩ =>
        show Host.clampedStart _ _ h.1 st 2 ≤ (i 2).val ∧ (i 2).val < Host.clampedStart _ _ h.1 st 2 + c
        have : (i 2).val < c := (i 2).isLt
        rw [c2]; omega
  · rw [dif_neg ?_, if_neg e]
    intro hin
    have h0' : Host.clampedStart _ _ h.1 st 0 ≤ (i 0).val ∧ (i 0).val < Host.clampedStart _ _ h.1 st 0 + 1 := hin 0
    rw [c0] at h0'
    omega

end Cert.Proof.Ref
-- ==== Proof.RW0.lean ====
module

public import proofs.«01_k».proof.Proof.RefOps
public import proofs.«01_k».proof.Proof.RDyn
public import Idealize.ShloMosaic.Lib.StableHlo.RunRead
public import Idealize.ShloMosaic.Lib.Pointwise
public import Idealize.ShloMosaic.Lib.Pipeline.ValueKit

@[expose] public section

set_option maxRecDepth 65536

noncomputable section

namespace Cert.Proof.Ref

open Cert.ReferenceIdeal Cert.ReferenceIdeal.Gen
open Idealize.ShloMosaic
open Idealize.ShloMosaic.TcCoe
open Idealize.SL.Sem

variable (W : Valuation τ sig (Elt Ideal))

/-- Part 1 of a time step of layer 0's scans. -/
def opsW0_b1 {F : FTy → Type} [FloatOps F] : List (HloOp τ sig (Elt F)) :=
  [ StableHlo.nullary main_while0b_call3_c (constantI S_ 32 0#32),
    StableHlo.nullary main_while0b_call3_c_0 (constantI S_ 32 0#32),
    StableHlo.TRef.unaryIndexed (.of main_v198_0 : StableHlo.TRef sig ⟨S1024x8x768, .f32⟩) ![(.of main_v198_5 : StableHlo.TRef sig ⟨S_, .i32⟩), (.of main_while0b_call3_c : StableHlo.TRef sig ⟨S_, .i32⟩), (.of main_while0b_call3_c_0 : StableHlo.TRef sig ⟨S_, .i32⟩)] (.of main_while0b_call3_v0 : StableHlo.TRef sig ⟨S1x8x768, .f32⟩) (fun x i => Host.dynamicSlice S1x8x768 x (fun k => (i k (Shape.Idx.first h_S_)).toInt) sliceFits_S1024x8x768_S1x8x768),
    StableHlo.reshape main_while0b_call3_v0 main_while0b_v474 (rfl : (.f32 : EltTy) = .f32) shapeCasts_S1x8x768_S8x768,
    StableHlo.nullary main_while0b_call4_c (constantI S_ 32 0#32),
    StableHlo.nullary main_while0b_call4_c_0 (constantI S_ 32 0#32),
    StableHlo.TRef.unaryIndexed (.of main_v198_1 : StableHlo.TRef sig ⟨S1024x8x768, .f32⟩) ![(.of main_v198_5 : StableHlo.TRef sig ⟨S_, .i32⟩), (.of main_while0b_call4_c : StableHlo.TRef sig ⟨S_, .i32⟩), (.of main_while0b_call4_c_0 : StableHlo.TRef sig ⟨S_, .i32⟩)] (.of main_while0b_call4_v0 : StableHlo.TRef sig ⟨S1x8x768, .f32⟩) (fun x i => Host.dynamicSlice S1x8x768 x (fun k => (i k (Shape.Idx.first h_S_)).toInt) sliceFits_S1024x8x768_S1x8x768),
    StableHlo.reshape main_while0b_call4_v0 main_while0b_v475 (rfl : (.f32 : EltTy) = .f32) shapeCasts_S1x8x768_S8x768,
    StableHlo.nullary main_while0b_call5_c (constantI S_ 32 0#32),
    StableHlo.nullary main_while0b_call5_c_0 (constantI S_ 32 0#32),
    StableHlo.TRef.unaryIndexed (.of main_v198_2 : StableHlo.TRef sig ⟨S1024x8x16, .f32⟩) ![(.of main_v198_5 : StableHlo.TRef sig ⟨S_, .i32⟩), (.of main_while0b_call5_c : StableHlo.TRef sig ⟨S_, .i32⟩), (.of main_while0b_call5_c_0 : StableHlo.TRef sig ⟨S_, .i32⟩)] (.of main_while0b_call5_v0 : StableHlo.TRef sig ⟨S1x8x16, .f32⟩) (fun x i => Host.dynamicSlice S1x8x16 x (fun k => (i k (Shape.Idx.first h_S_)).toInt) sliceFits_S1024x8x16_S1x8x16),
    StableHlo.reshape main_while0b_call5_v0 main_while0b_v476 (rfl : (.f32 : EltTy) = .f32) shapeCasts_S1x8x16_S8x16,
    StableHlo.nullary main_while0b_call6_c (constantI S_ 32 0#32),
    StableHlo.nullary main_while0b_call6_c_0 (constantI S_ 32 0#32),
    StableHlo.TRef.unaryIndexed (.of main_v198_3 : StableHlo.TRef sig ⟨S1024x8x16, .f32⟩) ![(.of main_v198_5 : StableHlo.TRef sig ⟨S_, .i32⟩), (.of main_while0b_call6_c : StableHlo.TRef sig ⟨S_, .i32⟩), (.of main_while0b_call6_c_0 : StableHlo.TRef sig ⟨S_, .i32⟩)] (.of main_while0b_call6_v0 : StableHlo.TRef sig ⟨S1x8x16, .f32⟩) (fun x i => Host.dynamicSlice S1x8x16 x (fun k => (i k (Shape.Idx.first h_S_)).toInt) sliceFits_S1024x8x16_S1x8x16),
    StableHlo.reshape main_while0b_call6_v0 main_while0b_v477 (rfl : (.f32 : EltTy) = .f32) shapeCasts_S1x8x16_S8x16 ]

/-- Part 2 of a time step of layer 0's scans. -/
def opsW0_b2 {F : FTy → Type} [FloatOps F] : List (HloOp τ sig (Elt F)) :=
  [ StableHlo.unary main_while0b_v474 main_while0b_v478 (broadcastInDim S8x768x1 ![0, 1] bcast_S8x768_S8x768x1_0_1 : (⟨S8x768, .f32⟩ : BufTy).Contents (Elt F) → (⟨S8x768x1, .f32⟩ : BufTy).Contents (Elt F)),
    StableHlo.unary main_while0b_v478 main_while0b_v479 (broadcastInDim S8x768x16 ![0, 1, 2] bcast_S8x768x1_S8x768x16_0_1_2 : (⟨S8x768x1, .f32⟩ : BufTy).Contents (Elt F) → (⟨S8x768x16, .f32⟩ : BufTy).Contents (Elt F)),
    StableHlo.binary main_while0b_v479 main_v198_4 main_while0b_v480 (mulf : (⟨S8x768x16, .f32⟩ : BufTy).Contents (Elt F) → (⟨S8x768x16, .f32⟩ : BufTy).Contents (Elt F) → (⟨S8x768x16, .f32⟩ : BufTy).Contents (Elt F)),
    StableHlo.unary main_while0b_v480 main_while0b_v481 (Host.exp : (⟨S8x768x16, .f32⟩ : BufTy).Contents (Elt F) → (⟨S8x768x16, .f32⟩ : BufTy).Contents (Elt F)),
    StableHlo.binary main_while0b_v481 main_v198_6 main_while0b_v482 (mulf : (⟨S8x768x16, .f32⟩ : BufTy).Contents (Elt F) → (⟨S8x768x16, .f32⟩ : BufTy).Contents (Elt F) → (⟨S8x768x16, .f32⟩ : BufTy).Contents (Elt F)),
    StableHlo.binary main_while0b_v474 main_while0b_v475 main_while0b_v483 (mulf : (⟨S8x768, .f32⟩ : BufTy).Contents (Elt F) → (⟨S8x768, .f32⟩ : BufTy).Contents (Elt F) → (⟨S8x768, .f32⟩ : BufTy).Contents (Elt F)),
    StableHlo.unary main_while0b_v483 main_while0b_v484 (broadcastInDim S8x768x1 ![0, 1] bcast_S8x768_S8x768x1_0_1 : (⟨S8x768, .f32⟩ : BufTy).Contents (Elt F) → (⟨S8x768x1, .f32⟩ : BufTy).Contents (Elt F)),
    StableHlo.unary main_while0b_v476 main_while0b_v485 (broadcastInDim S8x1x16 ![0, 2] bcast_S8x16_S8x1x16_0_2 : (⟨S8x16, .f32⟩ : BufTy).Contents (Elt F) → (⟨S8x1x16, .f32⟩ : BufTy).Contents (Elt F)),
    StableHlo.unary main_while0b_v484 main_while0b_v486 (broadcastInDim S8x768x16 ![0, 1, 2] bcast_S8x768x1_S8x768x16_0_1_2 : (⟨S8x768x1, .f32⟩ : BufTy).Contents (Elt F) → (⟨S8x768x16, .f32⟩ : BufTy).Contents (Elt F)),
    StableHlo.unary main_while0b_v485 main_while0b_v487 (broadcastInDim S8x768x16 ![0, 1, 2] bcast_S8x1x16_S8x768x16_0_1_2 : (⟨S8x1x16, .f32⟩ : BufTy).Contents (Elt F) → (⟨S8x768x16, .f32⟩ : BufTy).Contents (Elt F)),
    StableHlo.binary main_while0b_v486 main_while0b_v487 main_while0b_v488 (mulf : (⟨S8x768x16, .f32⟩ : BufTy).Contents (Elt F) → (⟨S8x768x16, .f32⟩ : BufTy).Contents (Elt F) → (⟨S8x768x16, .f32⟩ : BufTy).Contents (Elt F)),
    StableHlo.binary main_while0b_v482 main_while0b_v488 main_while0b_v489 (addf : (⟨S8x768x16, .f32⟩ : BufTy).Contents (Elt F) → (⟨S8x768x16, .f32⟩ : BufTy).Contents (Elt F) → (⟨S8x768x16, .f32⟩ : BufTy).Contents (Elt F)),
    StableHlo.binary main_while0b_v489 main_while0b_v477 main_while0b_v490 ((fun l r => Host.dotGeneral dot_S8x768x16_S8x16_S8x768_2_1_1_n_0_0 none l r) : (⟨S8x768x16, .f32⟩ : BufTy).Contents (Elt F) → (⟨S8x16, .f32⟩ : BufTy).Contents (Elt F) → (⟨S8x768, .f32⟩ : BufTy).Contents (Elt F)),
    StableHlo.unary main_while0b_v490 main_while0b_call7_v0 ((broadcastInDim S1x8x768 ![1, 2] bcast_S8x768_S1x8x768_1_2) : (⟨S8x768, .f32⟩ : BufTy).Contents (Elt F) → (⟨S1x8x768, .f32⟩ : BufTy).Contents (Elt F)) ]

/-- Part 3 of a time step of layer 0's scans. -/
def opsW0_b3 {F : FTy → Type} [FloatOps F] : List (HloOp τ sig (Elt F)) :=
  [ StableHlo.nullary main_while0b_call7_c (constantI S_ 32 0#32),
    StableHlo.nullary main_while0b_call7_c_0 (constantI S_ 32 0#32),
    StableHlo.TRef.binaryIndexed (.of main_v198_7 : StableHlo.TRef sig ⟨S1024x8x768, .f32⟩) (.of main_while0b_call7_v0 : StableHlo.TRef sig ⟨S1x8x768, .f32⟩) ![(.of main_v198_5 : StableHlo.TRef sig ⟨S_, .i32⟩), (.of main_while0b_call7_c : StableHlo.TRef sig ⟨S_, .i32⟩), (.of main_while0b_call7_c_0 : StableHlo.TRef sig ⟨S_, .i32⟩)] (.of main_while0b_v491 : StableHlo.TRef sig ⟨S1024x8x768, .f32⟩) (fun x u i => Host.dynamicUpdateSlice x u (fun k => (i k (Shape.Idx.first h_S_)).toInt) updateFits_S1024x8x768_S1x8x768),
    StableHlo.nullary main_while0b_c_40 (constantI S_ 32 1#32),
    StableHlo.binary main_v198_5 main_while0b_c_40 main_while0b_v492 (addi : (⟨S_, .i32⟩ : BufTy).Contents (Elt F) → (⟨S_, .i32⟩ : BufTy).Contents (Elt F) → (⟨S_, .i32⟩ : BufTy).Contents (Elt F)),
    StableHlo.unary main_while0b_v492 main_v198_5 id,
    StableHlo.unary main_while0b_v489 main_v198_6 id,
    StableHlo.unary main_while0b_v491 main_v198_7 id ]

/-- A time step is its three parts. -/
theorem opsW0_parts {F : FTy → Type} [FloatOps F] : (opsW0_body : List (HloOp τ sig (Elt F))) = opsW0_b1 ++ (opsW0_b2 ++ opsW0_b3) := rfl

/-- A step reads its row of each operand. -/
theorem stW0_1 (k : ℕ) (hk : k < 1024) (D U B C : ℕ → Mat)
    (hd : ∀ i : S1024x8x768.Idx, W (Proc.devRef .tc main_v198_0) i = D (i 1).val (i 0).val (i 2).val)
    (hu : ∀ i : S1024x8x768.Idx, W (Proc.devRef .tc main_v198_1) i = U (i 1).val (i 0).val (i 2).val)
    (hb : ∀ i : S1024x8x16.Idx, W (Proc.devRef .tc main_v198_2) i = B (i 1).val (i 0).val (i 2).val)
    (hc : ∀ i : S1024x8x16.Idx, W (Proc.devRef .tc main_v198_3) i = C (i 1).val (i 0).val (i 2).val)
    (hn : W main_v198_5 = fun _ => (BitVec.ofNat 32 k : BitVec 32)) :
    (∀ i : S8x768.Idx, StableHlo.after opsW0_b1 W (Proc.devRef .tc main_while0b_v474) i = D (i 0).val k (i 1).val)
    ∧ (∀ i : S8x768.Idx, StableHlo.after opsW0_b1 W (Proc.devRef .tc main_while0b_v475) i = U (i 0).val k (i 1).val)
    ∧ (∀ i : S8x16.Idx, StableHlo.after opsW0_b1 W (Proc.devRef .tc main_while0b_v476) i = B (i 0).val k (i 1).val)
    ∧ (∀ i : S8x16.Idx, StableHlo.after opsW0_b1 W (Proc.devRef .tc main_while0b_v477) i = C (i 0).val k (i 1).val) := by
  have hc0 : (BitVec.ofNat 32 k).toInt = (k : ℤ) := toInt_small k hk
  refine ⟨?_, ?_, ?_, ?_⟩ <;> (intro i; idx_vars i; after_reads_simp)
  · show shapeCast S8x768 (Host.dynamicSlice S1x8x768 (W (Proc.devRef .tc main_v198_0)) _ sliceFits_S1024x8x768_S1x8x768) shapeCasts_S1x8x768_S8x768 _ = _
    rw [slice_at (W (Proc.devRef .tc main_v198_0)) _ _ k hk ?_ ?_ ?_]
    · pointwise [hd]
    · show BitVec.toInt (StableHlo.upto _ W _ (Proc.devRef .tc main_v198_5) _) = _
      after_reads_simp; rw [hn]; exact hc0
    · show BitVec.toInt (StableHlo.upto _ W _ (Proc.devRef .tc main_while0b_call3_c) _) = _
      after_reads_simp; rfl
    · show BitVec.toInt (StableHlo.upto _ W _ (Proc.devRef .tc main_while0b_call3_c_0) _) = _
      after_reads_simp; rfl
  · show shapeCast S8x768 (Host.dynamicSlice S1x8x768 (W (Proc.devRef .tc main_v198_1)) _ sliceFits_S1024x8x768_S1x8x768) shapeCasts_S1x8x768_S8x768 _ = _
    rw [slice_at (W (Proc.devRef .tc main_v198_1)) _ _ k hk ?_ ?_ ?_]
    · pointwise [hu]
    · show BitVec.toInt (StableHlo.upto _ W _ (Proc.devRef .tc main_v198_5) _) = _
      after_reads_simp; rw [hn]; exact hc0
    · show BitVec.toInt (StableHlo.upto _ W _ (Proc.devRef .tc main_while0b_call4_c) _) = _
      after_reads_simp; rfl
    · show BitVec.toInt (StableHlo.upto _ W _ (Proc.devRef .tc main_while0b_call4_c_0) _) = _
      after_reads_simp; rfl
  · show shapeCast S8x16 (Host.dynamicSlice S1x8x16 (W (Proc.devRef .tc main_v198_2)) _ sliceFits_S1024x8x16_S1x8x16) shapeCasts_S1x8x16_S8x16 _ = _
    rw [slice_at (W (Proc.devRef .tc main_v198_2)) _ _ k hk ?_ ?_ ?_]
    · pointwise [hb]
    · show BitVec.toInt (StableHlo.upto _ W _ (Proc.devRef .tc main_v198_5) _) = _
      after_reads_simp; rw [hn]; exact hc0
    · show BitVec.toInt (StableHlo.upto _ W _ (Proc.devRef .tc main_while0b_call5_c) _) = _
      after_reads_simp; rfl
    · show BitVec.toInt (StableHlo.upto _ W _ (Proc.devRef .tc main_while0b_call5_c_0) _) = _
      after_reads_simp; rfl
  · show shapeCast S8x16 (Host.dynamicSlice S1x8x16 (W (Proc.devRef .tc main_v198_3)) _ sliceFits_S1024x8x16_S1x8x16) shapeCasts_S1x8x16_S8x16 _ = _
    rw [slice_at (W (Proc.devRef .tc main_v198_3)) _ _ k hk ?_ ?_ ?_]
    · pointwise [hc]
    · show BitVec.toInt (StableHlo.upto _ W _ (Proc.devRef .tc main_v198_5) _) = _
      after_reads_simp; rw [hn]; exact hc0
    · show BitVec.toInt (StableHlo.upto _ W _ (Proc.devRef .tc main_while0b_call6_c) _) = _
      after_reads_simp; rfl
    · show BitVec.toInt (StableHlo.upto _ W _ (Proc.devRef .tc main_while0b_call6_c_0) _) = _
      after_reads_simp; rfl

/-- A step's new state, and the row it contributes. -/
theorem stW0_2 (k : ℕ) (D U B C A H : ℕ → Mat)
    (hd : ∀ i : S8x768.Idx, W (Proc.devRef .tc main_while0b_v474) i = D (i 0).val k (i 1).val)
    (hu : ∀ i : S8x768.Idx, W (Proc.devRef .tc main_while0b_v475) i = U (i 0).val k (i 1).val)
    (hb : ∀ i : S8x16.Idx, W (Proc.devRef .tc main_while0b_v476) i = B (i 0).val k (i 1).val)
    (hc : ∀ i : S8x16.Idx, W (Proc.devRef .tc main_while0b_v477) i = C (i 0).val k (i 1).val)
    (ha : ∀ i : S8x768x16.Idx, W (Proc.devRef .tc main_v198_4) i = A (i 0).val (i 1).val (i 2).val)
    (hh : ∀ i : S8x768x16.Idx, W (Proc.devRef .tc main_v198_6) i = H (i 0).val (i 1).val (i 2).val) :
    (∀ i : S8x768x16.Idx, StableHlo.after opsW0_b2 W (Proc.devRef .tc main_while0b_v489) i = stepS (D (i 0).val) (U (i 0).val) (B (i 0).val) (A (i 0).val) k (H (i 0).val) (i 1).val (i 2).val)
    ∧ (∀ i : S1x8x768.Idx, StableHlo.after opsW0_b2 W (Proc.devRef .tc main_while0b_call7_v0) i
      = ∑ n : Fin 16, stepS (D (i 1).val) (U (i 1).val) (B (i 1).val) (A (i 1).val) k (H (i 1).val) (i 2).val n.val * C (i 1).val k n.val) := by
  refine ⟨?_, ?_⟩ <;> (intro i; idx_vars i; after_reads_simp; pointwise [hd, hu, hb, hc, ha, hh, stepS])

/-- A step writes its row of the result. -/
theorem stW0_3 (k : ℕ) (hk : k < 1024) (R H Y : ℕ → Mat)
    (hn : W main_v198_5 = fun _ => (BitVec.ofNat 32 k : BitVec 32))
    (hh : ∀ i : S8x768x16.Idx, W (Proc.devRef .tc main_while0b_v489) i = H (i 0).val (i 1).val (i 2).val)
    (hr : ∀ i : S1x8x768.Idx, W (Proc.devRef .tc main_while0b_call7_v0) i = R (i 1).val k (i 2).val)
    (hy : ∀ i : S1024x8x768.Idx, W (Proc.devRef .tc main_v198_7) i = Y (i 1).val (i 0).val (i 2).val) :
    (∀ i : S8x768x16.Idx, StableHlo.after opsW0_b3 W (Proc.devRef .tc main_v198_6) i = H (i 0).val (i 1).val (i 2).val)
    ∧ (∀ i : S1024x8x768.Idx, StableHlo.after opsW0_b3 W (Proc.devRef .tc main_v198_7) i = if (i 0).val = k then R (i 1).val k (i 2).val else Y (i 1).val (i 0).val (i 2).val) := by
  refine ⟨?_, ?_⟩ <;> (intro i; idx_vars i; after_reads_simp)
  · pointwise [hh, id_eq]
  · show Host.dynamicUpdateSlice (W (Proc.devRef .tc main_v198_7)) (W (Proc.devRef .tc main_while0b_call7_v0)) _ updateFits_S1024x8x768_S1x8x768 _ = _
    rw [update_at (W (Proc.devRef .tc main_v198_7)) (W (Proc.devRef .tc main_while0b_call7_v0)) _ _ k hk ?_ ?_ ?_]
    · simp only [hr, hy]; rfl
    · show BitVec.toInt (StableHlo.upto _ W _ (Proc.devRef .tc main_v198_5) _) = _
      after_reads_simp; rw [hn]; exact toInt_small k hk
    · show BitVec.toInt (StableHlo.upto _ W _ (Proc.devRef .tc main_while0b_call7_c) _) = _
      after_reads_simp; rfl
    · show BitVec.toInt (StableHlo.upto _ W _ (Proc.devRef .tc main_while0b_call7_c_0) _) = _
      after_reads_simp; rfl

end Cert.Proof.Ref
-- ==== Proof.RL0.lean ====
/-
  The reference's time scan in layer 0.
-/
module

public import proofs.«01_k».proof.Proof.RefKeep
public import proofs.«01_k».proof.Proof.RLoop
public import proofs.«01_k».proof.Proof.RW0
public import Idealize.ShloMosaic.Lib.StableHlo.RunRead
public import Idealize.ShloMosaic.Lib.Pointwise
public import Idealize.ShloMosaic.Lib.Pipeline.ValueKit

@[expose] public section

set_option maxRecDepth 65536

noncomputable section

namespace Cert.Proof.Ref

open Cert.ReferenceIdeal Cert.ReferenceIdeal.Gen
open Idealize.ShloMosaic
open Idealize.ShloMosaic.TcCoe
open Idealize.SL.Sem
open Idealize.ShloMosaic.StableHlo (after afterL atTrip launchContents)

section
variable (W : Valuation τ sig (Elt Ideal))
/-- The first part of a step keeps the operands. -/
theorem b10_keep : after opsW0_b1 W (Proc.devRef .tc main_v198_4) = W (Proc.devRef .tc main_v198_4) ∧ after opsW0_b1 W (Proc.devRef .tc main_v198_5) = W (Proc.devRef .tc main_v198_5) ∧ after opsW0_b1 W (Proc.devRef .tc main_v198_6) = W (Proc.devRef .tc main_v198_6) ∧ after opsW0_b1 W (Proc.devRef .tc main_v198_7) = W (Proc.devRef .tc main_v198_7) := by
  refine ⟨?_, ?_, ?_, ?_⟩ <;> after_reads_simp

/-- The second part of a step keeps the operands. -/
theorem b20_keep : after opsW0_b2 W (Proc.devRef .tc main_v198_5) = W (Proc.devRef .tc main_v198_5) ∧ after opsW0_b2 W (Proc.devRef .tc main_v198_7) = W (Proc.devRef .tc main_v198_7) := by
  refine ⟨?_, ?_⟩ <;> after_reads_simp

/-- The step keeps the operands. -/
theorem body0_keep : after opsW0_body W (Proc.devRef .tc main_v198_0) = W (Proc.devRef .tc main_v198_0) ∧ after opsW0_body W (Proc.devRef .tc main_v198_1) = W (Proc.devRef .tc main_v198_1) ∧ after opsW0_body W (Proc.devRef .tc main_v198_2) = W (Proc.devRef .tc main_v198_2) ∧ after opsW0_body W (Proc.devRef .tc main_v198_3) = W (Proc.devRef .tc main_v198_3) ∧ after opsW0_body W (Proc.devRef .tc main_v198_4) = W (Proc.devRef .tc main_v198_4) := by
  refine ⟨?_, ?_, ?_, ?_, ?_⟩ <;> after_reads_simp

/-- One step of the scan. -/
theorem step0 (k : ℕ) (hk : k < 1024) (D U B C A H Y : ℕ → Mat)
    (hd : ∀ i : S1024x8x768.Idx, W (Proc.devRef .tc main_v198_0) i = D (i 1).val (i 0).val (i 2).val)
    (hu : ∀ i : S1024x8x768.Idx, W (Proc.devRef .tc main_v198_1) i = U (i 1).val (i 0).val (i 2).val)
    (hb : ∀ i : S1024x8x16.Idx, W (Proc.devRef .tc main_v198_2) i = B (i 1).val (i 0).val (i 2).val)
    (hc : ∀ i : S1024x8x16.Idx, W (Proc.devRef .tc main_v198_3) i = C (i 1).val (i 0).val (i 2).val)
    (ha : ∀ i : S8x768x16.Idx, W (Proc.devRef .tc main_v198_4) i = A (i 0).val (i 1).val (i 2).val)
    (hn : W main_v198_5 = fun _ => (BitVec.ofNat 32 k : BitVec 32))
    (hh : ∀ i : S8x768x16.Idx, W (Proc.devRef .tc main_v198_6) i = H (i 0).val (i 1).val (i 2).val)
    (hy : ∀ i : S1024x8x768.Idx, W (Proc.devRef .tc main_v198_7) i = Y (i 1).val (i 0).val (i 2).val) :
    (∀ i : S8x768x16.Idx, after opsW0_body W (Proc.devRef .tc main_v198_6) i = stepS (D (i 0).val) (U (i 0).val) (B (i 0).val) (A (i 0).val) k (H (i 0).val) (i 1).val (i 2).val)
    ∧ ∀ i : S1024x8x768.Idx, after opsW0_body W (Proc.devRef .tc main_v198_7) i = if (i 0).val = k then
        ∑ n : Fin 16, stepS (D (i 1).val) (U (i 1).val) (B (i 1).val) (A (i 1).val) k (H (i 1).val) (i 2).val n.val * C (i 1).val k n.val
      else Y (i 1).val (i 0).val (i 2).val := by
  rw [opsW0_parts, StableHlo.after_append, StableHlo.after_append]
  obtain ⟨p4, p5, p6, p7⟩ := b10_keep W
  obtain ⟨q5, q7⟩ := b20_keep (after opsW0_b1 W)
  obtain ⟨a1, a2, a3, a4⟩ := stW0_1 W k hk D U B C hd hu hb hc hn
  obtain ⟨c1, c2⟩ := stW0_2 (after opsW0_b1 W) k D U B C A H a1 a2 a3 a4
    (fun i => (congrFun p4 i).trans (ha i)) (fun i => (congrFun p6 i).trans (hh i))
  exact stW0_3 (after opsW0_b2 (after opsW0_b1 W)) k hk
    (fun g k d => ∑ n : Fin 16, stepS (D g) (U g) (B g) (A g) k (H g) d n.val * C g k n.val)
    (fun g => stepS (D g) (U g) (B g) (A g) k (H g)) Y
    ((q5.trans p5).trans hn) c1 c2 (fun i => (congrFun (q7.trans p7) i).trans (hy i))

end

variable (m : (ℓ : Loc nD τ sig) → Buf (Elt Ideal) ℓ) (c : Dev nD)

/-- The scan keeps what stands before its operands. -/
theorem K0_keep (r : Ref sig .tc) (hr : r.idx.val < 255) : ∀ k, K0 m k c (Proc.devRef .tc r) = E0 m c (Proc.devRef .tc r)
  | 0 => rfl
  | k + 1 => by
    show after opsW0_body (after opsW0_cond (K0 m k c)) (Proc.devRef .tc r) = _
    rw [opsW0_body_in.keep _ r (.inl (by omega)), opsW0_cond_in.keep _ r (.inl (by omega))]
    exact K0_keep r hr k

/-- The scan keeps its operands. -/
theorem K0_ops : ∀ k, K0 m k c (Proc.devRef .tc main_v198_0) = E0 m c (Proc.devRef .tc main_v198_0) ∧ K0 m k c (Proc.devRef .tc main_v198_1) = E0 m c (Proc.devRef .tc main_v198_1) ∧ K0 m k c (Proc.devRef .tc main_v198_2) = E0 m c (Proc.devRef .tc main_v198_2) ∧ K0 m k c (Proc.devRef .tc main_v198_3) = E0 m c (Proc.devRef .tc main_v198_3) ∧ K0 m k c (Proc.devRef .tc main_v198_4) = E0 m c (Proc.devRef .tc main_v198_4)
  | 0 => ⟨rfl, rfl, rfl, rfl, rfl⟩
  | k + 1 => by
    obtain ⟨h0, h1, h2, h3, h4⟩ := K0_ops k
    obtain ⟨g0, g1, g2, g3, g4⟩ := body0_keep (after opsW0_cond (K0 m k c))
    exact ⟨(g0.trans (opsW0_cond_in.keep _ main_v198_0 (.inl (by decide)))).trans h0, (g1.trans (opsW0_cond_in.keep _ main_v198_1 (.inl (by decide)))).trans h1, (g2.trans (opsW0_cond_in.keep _ main_v198_2 (.inl (by decide)))).trans h2, (g3.trans (opsW0_cond_in.keep _ main_v198_3 (.inl (by decide)))).trans h3, (g4.trans (opsW0_cond_in.keep _ main_v198_4 (.inl (by decide)))).trans h4⟩

/-- The scan's result. -/
theorem K0_scan (D U B C A : ℕ → Mat)
    (hd : ∀ i : S1024x8x768.Idx, E0 m c (Proc.devRef .tc main_v198_0) i = D (i 1).val (i 0).val (i 2).val)
    (hu : ∀ i : S1024x8x768.Idx, E0 m c (Proc.devRef .tc main_v198_1) i = U (i 1).val (i 0).val (i 2).val)
    (hb : ∀ i : S1024x8x16.Idx, E0 m c (Proc.devRef .tc main_v198_2) i = B (i 1).val (i 0).val (i 2).val)
    (hc : ∀ i : S1024x8x16.Idx, E0 m c (Proc.devRef .tc main_v198_3) i = C (i 1).val (i 0).val (i 2).val)
    (ha : ∀ i : S8x768x16.Idx, E0 m c (Proc.devRef .tc main_v198_4) i = A (i 0).val (i 1).val (i 2).val)
    (hh : ∀ i : S8x768x16.Idx, E0 m c (Proc.devRef .tc main_v198_6) i = (0 : EReal))
    (hy : ∀ i : S1024x8x768.Idx, E0 m c (Proc.devRef .tc main_v198_7) i = (0 : EReal)) :
    ∀ i : S1024x8x768.Idx, after opsW0_cond (K0 m 1024 c) (Proc.devRef .tc main_v198_7) i
      = readS (D (i 1).val) (U (i 1).val) (B (i 1).val) (A (i 1).val) (C (i 1).val) (i 0).val (i 2).val := by
  intro i
  rw [opsW0_cond_in.keep _ main_v198_7 (.inl (by decide))]
  refine ((scan_run D U B C A (fun k i => K0 m k c (Proc.devRef .tc main_v198_6) i) (fun k i => K0 m k c (Proc.devRef .tc main_v198_7) i)
    hh hy (fun k hk H Z h z => ?_) 1024 le_rfl).2 i).trans (if_pos (i 0).isLt)
  obtain ⟨o0, o1, o2, o3, o4⟩ := K0_ops m c k
  exact step0 (after opsW0_cond (K0 m k c)) k hk D U B C A H Z
    (fun i => (congrFun ((opsW0_cond_in.keep _ main_v198_0 (.inl (by decide))).trans o0) i).trans (hd i))
    (fun i => (congrFun ((opsW0_cond_in.keep _ main_v198_1 (.inl (by decide))).trans o1) i).trans (hu i))
    (fun i => (congrFun ((opsW0_cond_in.keep _ main_v198_2 (.inl (by decide))).trans o2) i).trans (hb i))
    (fun i => (congrFun ((opsW0_cond_in.keep _ main_v198_3 (.inl (by decide))).trans o3) i).trans (hc i))
    (fun i => (congrFun ((opsW0_cond_in.keep _ main_v198_4 (.inl (by decide))).trans o4) i).trans (ha i))
    ((opsW0_cond_in.keep _ main_v198_5 (.inl (by decide))).trans (K0_ctr m c k))
    (fun i => (congrFun (opsW0_cond_in.keep _ main_v198_6 (.inl (by decide))) i).trans (h i))
    (fun i => (congrFun (opsW0_cond_in.keep _ main_v198_7 (.inl (by decide))) i).trans (z i))

end Cert.Proof.Ref
-- ==== Proof.RY0.lean ====
/-
  The reference's layer 0 as the network's.
-/
module

public import proofs.«01_k».proof.Proof.RFit
public import proofs.«01_k».proof.Proof.RB0
public import proofs.«01_k».proof.Proof.RC0
public import proofs.«01_k».proof.Proof.RD0
public import proofs.«01_k».proof.Proof.RE0
public import proofs.«01_k».proof.Proof.RL0
public import Idealize.ShloMosaic.Lib.StableHlo.RunRead
public import Idealize.ShloMosaic.Lib.Pointwise
public import Idealize.ShloMosaic.Lib.Pipeline.ValueKit

@[expose] public section

set_option maxRecDepth 65536

noncomputable section

namespace Cert.Proof.Ref

open Cert.ReferenceIdeal Cert.ReferenceIdeal.Gen
open Idealize.ShloMosaic
open Idealize.ShloMosaic.TcCoe
open Idealize.SL.Sem
open Idealize.ShloMosaic.StableHlo (after afterL atTrip launchContents)

variable (m : (ℓ : Loc nD τ sig) → Buf (Elt Ideal) ℓ) (c : Dev nD)

/-- Layer 0: from its input to its result, where the direct terms add up. -/
theorem layer0 (a : Net) (H : Mat) (V V1 V2 V3 V4 V5 V6 V7 V8 V9 V10 V11 V12 V13 : Valuation τ sig (Elt Ideal))
    (e1 : V1 = StableHlo.after opsL0_1 V)
    (e2 : V2 = StableHlo.after opsL0_2 V1)
    (e3 : V3 = StableHlo.after opsL0_3 V2)
    (e4 : V4 = StableHlo.after opsL0_4 V3)
    (e5 : V5 = StableHlo.after opsL0_5 V4)
    (e6 : V6 = StableHlo.after opsL0_6 V5)
    (e7 : V7 = StableHlo.after opsL0_7 V6)
    (e8 : V8 = StableHlo.after opsL0_8 V7)
    (e9 : V9 = StableHlo.after opsL0_9 V8)
    (hE : E0 m c = V9)
    (e10 : V10 = StableHlo.after opsL0_10 (StableHlo.after opsW0_cond (K0 m 1024 c)))
    (e11 : V11 = StableHlo.after opsL0_11 (V10))
    (e12 : V12 = StableHlo.after opsL0_12 (V11))
    (e13 : V13 = StableHlo.after opsL0_13 (V12))
    (f : Fits V a)
    (hx : ∀ i : S2x32x32x384.Idx, V (Proc.devRef .tc main_v36) i = H ((i 0).val * 1024 + (i 1).val * 32 + (i 2).val) (i 3).val)
    (hD : ∀ b l d, (∑ k : Fin 4, a.ds 0 k.val d) * uS a 0 H b l d = ∑ k : Fin 4, a.ds 0 k.val d * uS a 0 H b l d) :
    ∀ i : S2x32x32x384.Idx, V13 (Proc.devRef .tc main_v254) i = layerS a 0 H ((i 0).val * 1024 + (i 1).val * 32 + (i 2).val) (i 3).val := by
  obtain ⟨w38, w40, w42, w44, w46, w48, w50, w52, w54, w56, w58, w60, w62⟩ :=
    st0_1 V a f.lnw f.lnb f.inw f.cw f.cb f.xpw f.dtw f.dtb f.al f.ds f.onw f.onb f.ow
  rw [← e1] at w38 w40 w42 w44 w46 w48 w50 w52 w54 w56 w58 w60 w62
  have x1 := (fun i => (congrFun ((opsL0_1_in.left e1 main_v36 (by decide))) i).trans (hx i))
  have g86 := st0_2 V1 H (a.lnw 0) (a.lnb 0) x1 w38 w40
  rw [← e2] at g86
  obtain ⟨g91, g90⟩ := st0_3 V2 (fun r => lnS 384 c384 (a.lnw 0) (a.lnb 0) (H r)) (a.inw 0) g86 (fun i => (congrFun ((opsL0_2_in.left e2 main_v42 (by decide))) i).trans (w42 i))
  rw [← e3] at g91 g90
  have g159 := st0_4 V3 (fun b l d => inS a 0 H (b * 1024 + l) d) (a.cw 0) (a.cb 0)
    (fun i => (g91 i).trans (congrArg (fun r => inS a 0 H r (i 1).val) (Nat.add_assoc _ _ _))) (fun i => (congrFun (((opsL0_3_in.left e3 main_v44 (by decide))).trans ((opsL0_2_in.left e2 main_v44 (by decide)))) i).trans (w44 i)) (fun i => (congrFun (((opsL0_3_in.left e3 main_v46 (by decide))).trans ((opsL0_2_in.left e2 main_v46 (by decide)))) i).trans (w46 i))
  rw [← e4] at g159
  have g160 := st0_5 V4 (fun b l d => convS (fun l d => inS a 0 H (b * 1024 + l) d) (fun t d => a.cw 0 d (t / 3) (t % 3)) (a.cb 0) l d) g159
  rw [← e5] at g160
  have g170 := st0_6 V5 (uS a 0 H) g160
  rw [← e6] at g170
  obtain ⟨g173, g174, g175⟩ := st0_7 V6 (fun b k => ordS (uS a 0 H b) k) (a.xpw 0) g170 (fun i => (congrFun ((((((opsL0_6_in.left e6 main_v48 (by decide))).trans ((opsL0_5_in.left e5 main_v48 (by decide)))).trans ((opsL0_4_in.left e4 main_v48 (by decide)))).trans ((opsL0_3_in.left e3 main_v48 (by decide)))).trans ((opsL0_2_in.left e2 main_v48 (by decide)))) i).trans (w48 i))
  rw [← e7] at g173 g174 g175
  have g181 := st0_8 V7 (fun b k l r => dotS 768 (a.xpw 0 k r) (ordS (uS a 0 H b) k l)) (a.dtw 0) (a.dtb 0) g173 (fun i => (congrFun (((((((opsL0_7_in.left e7 main_v50 (by decide))).trans ((opsL0_6_in.left e6 main_v50 (by decide)))).trans ((opsL0_5_in.left e5 main_v50 (by decide)))).trans ((opsL0_4_in.left e4 main_v50 (by decide)))).trans ((opsL0_3_in.left e3 main_v50 (by decide)))).trans ((opsL0_2_in.left e2 main_v50 (by decide)))) i).trans (w50 i)) (fun i => (congrFun (((((((opsL0_7_in.left e7 main_v52 (by decide))).trans ((opsL0_6_in.left e6 main_v52 (by decide)))).trans ((opsL0_5_in.left e5 main_v52 (by decide)))).trans ((opsL0_4_in.left e4 main_v52 (by decide)))).trans ((opsL0_3_in.left e3 main_v52 (by decide)))).trans ((opsL0_2_in.left e2 main_v52 (by decide)))) i).trans (w52 i))
  rw [← e8] at g181
  obtain ⟨d0, d1, d2, d3, d4, d6, u184, s191, d7⟩ := st0_9 V8 (fun b k => ordS (uS a 0 H b) k) (fun b k => dtR (ordS (uS a 0 H b) k) (a.xpw 0 k) (a.dtw 0 k) (a.dtb 0 k)) (fun b k l n => dotS 768 (a.xpw 0 k (24 + n)) (ordS (uS a 0 H b) k l)) (fun b k l n => dotS 768 (a.xpw 0 k (40 + n)) (ordS (uS a 0 H b) k l)) (a.al 0) (a.ds 0)
    (fun i => (congrFun (((opsL0_8_in.left e8 main_v170 (by decide))).trans ((opsL0_7_in.left e7 main_v170 (by decide)))) i).trans (g170 i)) g181 (fun i => (congrFun ((opsL0_8_in.left e8 main_v174 (by decide))) i).trans (g174 i)) (fun i => (congrFun ((opsL0_8_in.left e8 main_v175 (by decide))) i).trans (g175 i)) (fun i => (congrFun ((((((((opsL0_8_in.left e8 main_v54 (by decide))).trans ((opsL0_7_in.left e7 main_v54 (by decide)))).trans ((opsL0_6_in.left e6 main_v54 (by decide)))).trans ((opsL0_5_in.left e5 main_v54 (by decide)))).trans ((opsL0_4_in.left e4 main_v54 (by decide)))).trans ((opsL0_3_in.left e3 main_v54 (by decide)))).trans ((opsL0_2_in.left e2 main_v54 (by decide)))) i).trans (w54 i)) (fun i => (congrFun ((((((((opsL0_8_in.left e8 main_v56 (by decide))).trans ((opsL0_7_in.left e7 main_v56 (by decide)))).trans ((opsL0_6_in.left e6 main_v56 (by decide)))).trans ((opsL0_5_in.left e5 main_v56 (by decide)))).trans ((opsL0_4_in.left e4 main_v56 (by decide)))).trans ((opsL0_3_in.left e3 main_v56 (by decide)))).trans ((opsL0_2_in.left e2 main_v56 (by decide)))) i).trans (w56 i))
  rw [← e9, ← hE] at d0 d1 d2 d3 d4 d6 d7
  rw [← e9] at u184 s191
  have ys := K0_scan m c (fun g => dtR (ordS (uS a 0 H (g / 4)) (g % 4)) (a.xpw 0 (g % 4)) (a.dtw 0 (g % 4)) (a.dtb 0 (g % 4)))
    (fun g => ordS (uS a 0 H (g / 4)) (g % 4)) (fun g l n => dotS 768 (a.xpw 0 (g % 4) (24 + n)) (ordS (uS a 0 H (g / 4)) (g % 4) l))
    (fun g l n => dotS 768 (a.xpw 0 (g % 4) (40 + n)) (ordS (uS a 0 H (g / 4)) (g % 4) l)) (fun g d n => -Ideal.exp (a.al 0 (g % 4) d n))
    d0 d1 d2 d3 d4 d6 d7
  have g204 := st0_10 (StableHlo.after opsW0_cond (K0 m 1024 c)) (fun g => scanR (ordS (uS a 0 H (g / 4)) (g % 4)) (a.xpw 0 (g % 4)) (a.dtw 0 (g % 4)) (a.dtb 0 (g % 4)) (a.al 0 (g % 4)))
    (fun g => ordS (uS a 0 H (g / 4)) (g % 4)) (fun g d => a.ds 0 (g % 4) d) ys (fun i => (congrFun (((opsW0_cond_in.left rfl main_v184 (by decide)).trans (K0_keep m c main_v184 (by decide) 1024)).trans (congrArg (fun V : Valuation τ sig (Elt Ideal) => V (Proc.devRef .tc main_v184)) hE)) i).trans (u184 i)) (fun i => (congrFun (((opsW0_cond_in.left rfl main_v191 (by decide)).trans (K0_keep m c main_v191 (by decide) 1024)).trans (congrArg (fun V : Valuation τ sig (Elt Ideal) => V (Proc.devRef .tc main_v191)) hE)) i).trans (s191 i))
  rw [← e10] at g204
  have g225 := st0_11 V10 (termR a 0 H) (fun i => (g204 i).trans (by
    have k4 : ((i 0).val * 4 + (i 1).val) / 4 = (i 0).val := by have := (i 1).isLt; change (i 1).val < 4 at this; omega
    have k5 : ((i 0).val * 4 + (i 1).val) % 4 = (i 1).val := by have := (i 1).isLt; change (i 1).val < 4 at this; omega
    rw [k4, k5]
    rfl))
  rw [← e11] at g225
  have g249 := st0_12 V11 (mergeS a 0 H) (a.onw 0) (a.onb 0)
    (fun i => (g225 i).trans (merge_eq a 0 H (i 0).val (i 1).val (i 2).val (i 3).val (i 1).isLt (i 2).isLt (hD _ _ _))) (fun i => (congrFun (((((((((((opsL0_11_in.left e11 main_v58 (by decide))).trans ((((opsL0_10_in.left e10 main_v58 (by decide)).trans (opsW0_cond_in.left rfl main_v58 (by decide))).trans (K0_keep m c main_v58 (by decide) 1024)).trans (congrArg (fun V : Valuation τ sig (Elt Ideal) => V (Proc.devRef .tc main_v58)) hE))).trans ((opsL0_9_in.left e9 main_v58 (by decide)))).trans ((opsL0_8_in.left e8 main_v58 (by decide)))).trans ((opsL0_7_in.left e7 main_v58 (by decide)))).trans ((opsL0_6_in.left e6 main_v58 (by decide)))).trans ((opsL0_5_in.left e5 main_v58 (by decide)))).trans ((opsL0_4_in.left e4 main_v58 (by decide)))).trans ((opsL0_3_in.left e3 main_v58 (by decide)))).trans ((opsL0_2_in.left e2 main_v58 (by decide)))) i).trans (w58 i)) (fun i => (congrFun (((((((((((opsL0_11_in.left e11 main_v60 (by decide))).trans ((((opsL0_10_in.left e10 main_v60 (by decide)).trans (opsW0_cond_in.left rfl main_v60 (by decide))).trans (K0_keep m c main_v60 (by decide) 1024)).trans (congrArg (fun V : Valuation τ sig (Elt Ideal) => V (Proc.devRef .tc main_v60)) hE))).trans ((opsL0_9_in.left e9 main_v60 (by decide)))).trans ((opsL0_8_in.left e8 main_v60 (by decide)))).trans ((opsL0_7_in.left e7 main_v60 (by decide)))).trans ((opsL0_6_in.left e6 main_v60 (by decide)))).trans ((opsL0_5_in.left e5 main_v60 (by decide)))).trans ((opsL0_4_in.left e4 main_v60 (by decide)))).trans ((opsL0_3_in.left e3 main_v60 (by decide)))).trans ((opsL0_2_in.left e2 main_v60 (by decide)))) i).trans (w60 i))
  rw [← e12] at g249
  have r := st0_13 V12 (fun r => lnS 768 c768 (a.onw 0) (a.onb 0) (mergeS a 0 H r)) (fun r k => inS a 0 H r (768 + k)) H (a.ow 0)
    g249 (fun i => (congrFun ((((((((((opsL0_12_in.left e12 main_v90 (by decide))).trans ((opsL0_11_in.left e11 main_v90 (by decide)))).trans ((((opsL0_10_in.left e10 main_v90 (by decide)).trans (opsW0_cond_in.left rfl main_v90 (by decide))).trans (K0_keep m c main_v90 (by decide) 1024)).trans (congrArg (fun V : Valuation τ sig (Elt Ideal) => V (Proc.devRef .tc main_v90)) hE))).trans ((opsL0_9_in.left e9 main_v90 (by decide)))).trans ((opsL0_8_in.left e8 main_v90 (by decide)))).trans ((opsL0_7_in.left e7 main_v90 (by decide)))).trans ((opsL0_6_in.left e6 main_v90 (by decide)))).trans ((opsL0_5_in.left e5 main_v90 (by decide)))).trans ((opsL0_4_in.left e4 main_v90 (by decide)))) i).trans (g90 i)) (fun i => (congrFun (((((((((((((opsL0_12_in.left e12 main_v36 (by decide))).trans ((opsL0_11_in.left e11 main_v36 (by decide)))).trans ((((opsL0_10_in.left e10 main_v36 (by decide)).trans (opsW0_cond_in.left rfl main_v36 (by decide))).trans (K0_keep m c main_v36 (by decide) 1024)).trans (congrArg (fun V : Valuation τ sig (Elt Ideal) => V (Proc.devRef .tc main_v36)) hE))).trans ((opsL0_9_in.left e9 main_v36 (by decide)))).trans ((opsL0_8_in.left e8 main_v36 (by decide)))).trans ((opsL0_7_in.left e7 main_v36 (by decide)))).trans ((opsL0_6_in.left e6 main_v36 (by decide)))).trans ((opsL0_5_in.left e5 main_v36 (by decide)))).trans ((opsL0_4_in.left e4 main_v36 (by decide)))).trans ((opsL0_3_in.left e3 main_v36 (by decide)))).trans ((opsL0_2_in.left e2 main_v36 (by decide)))).trans ((opsL0_1_in.left e1 main_v36 (by decide)))) i).trans (hx i)) (fun i => (congrFun ((((((((((((opsL0_12_in.left e12 main_v62 (by decide))).trans ((opsL0_11_in.left e11 main_v62 (by decide)))).trans ((((opsL0_10_in.left e10 main_v62 (by decide)).trans (opsW0_cond_in.left rfl main_v62 (by decide))).trans (K0_keep m c main_v62 (by decide) 1024)).trans (congrArg (fun V : Valuation τ sig (Elt Ideal) => V (Proc.devRef .tc main_v62)) hE))).trans ((opsL0_9_in.left e9 main_v62 (by decide)))).trans ((opsL0_8_in.left e8 main_v62 (by decide)))).trans ((opsL0_7_in.left e7 main_v62 (by decide)))).trans ((opsL0_6_in.left e6 main_v62 (by decide)))).trans ((opsL0_5_in.left e5 main_v62 (by decide)))).trans ((opsL0_4_in.left e4 main_v62 (by decide)))).trans ((opsL0_3_in.left e3 main_v62 (by decide)))).trans ((opsL0_2_in.left e2 main_v62 (by decide)))) i).trans (w62 i))
  rw [← e13] at r
  exact r

end Cert.Proof.Ref
-- ==== Proof.RB1.lean ====
module

public import proofs.«01_k».proof.Proof.RefOps1
public import proofs.«01_k».proof.Proof.RMath
public import Idealize.ShloMosaic.Lib.StableHlo.RunRead
public import Idealize.ShloMosaic.Lib.Pointwise
public import Idealize.ShloMosaic.Lib.Pipeline.ValueKit

@[expose] public section

set_option maxRecDepth 65536

noncomputable section

namespace Cert.Proof.Ref

open Cert.ReferenceIdeal Cert.ReferenceIdeal.Gen
open Idealize.ShloMosaic
open Idealize.ShloMosaic.TcCoe
open Idealize.SL.Sem

variable (W : Valuation τ sig (Elt Ideal))

/-- Layer 1's weights. -/
theorem st1_1 (a : Net)
    (h7 : ∀ i : S2x384.Idx, W (Proc.devRef .tc main_arg7) i = a.lnw (i 0).val (i 1).val)
    (h8 : ∀ i : S2x384.Idx, W (Proc.devRef .tc main_arg8) i = a.lnb (i 0).val (i 1).val)
    (h9 : ∀ i : S2x1536x384.Idx, W (Proc.devRef .tc main_arg9) i = a.inw (i 0).val (i 1).val (i 2).val)
    (h10 : ∀ i : S2x768x3x3.Idx, W (Proc.devRef .tc main_arg10) i = a.cw (i 0).val (i 1).val (i 2).val (i 3).val)
    (h11 : ∀ i : S2x768.Idx, W (Proc.devRef .tc main_arg11) i = a.cb (i 0).val (i 1).val)
    (h12 : ∀ i : S2x4x56x768.Idx, W (Proc.devRef .tc main_arg12) i = a.xpw (i 0).val (i 1).val (i 2).val (i 3).val)
    (h13 : ∀ i : S2x4x768x24.Idx, W (Proc.devRef .tc main_arg13) i = a.dtw (i 0).val (i 1).val (i 2).val (i 3).val)
    (h14 : ∀ i : S2x4x768.Idx, W (Proc.devRef .tc main_arg14) i = a.dtb (i 0).val (i 1).val (i 2).val)
    (h15 : ∀ i : S2x4x768x16.Idx, W (Proc.devRef .tc main_arg15) i = a.al (i 0).val (i 1).val (i 2).val (i 3).val)
    (h16 : ∀ i : S2x4x768.Idx, W (Proc.devRef .tc main_arg16) i = a.ds (i 0).val (i 1).val (i 2).val)
    (h17 : ∀ i : S2x768.Idx, W (Proc.devRef .tc main_arg17) i = a.onw (i 0).val (i 1).val)
    (h18 : ∀ i : S2x768.Idx, W (Proc.devRef .tc main_arg18) i = a.onb (i 0).val (i 1).val)
    (h19 : ∀ i : S2x384x768.Idx, W (Proc.devRef .tc main_arg19) i = a.ow (i 0).val (i 1).val (i 2).val) :
    (∀ i : S384.Idx, StableHlo.after opsL1_1 W (Proc.devRef .tc main_v256) i = a.lnw 1 (i 0).val)
    ∧ (∀ i : S384.Idx, StableHlo.after opsL1_1 W (Proc.devRef .tc main_v258) i = a.lnb 1 (i 0).val)
    ∧ (∀ i : S1536x384.Idx, StableHlo.after opsL1_1 W (Proc.devRef .tc main_v260) i = a.inw 1 (i 0).val (i 1).val)
    ∧ (∀ i : S768x3x3.Idx, StableHlo.after opsL1_1 W (Proc.devRef .tc main_v262) i = a.cw 1 (i 0).val (i 1).val (i 2).val)
    ∧ (∀ i : S768.Idx, StableHlo.after opsL1_1 W (Proc.devRef .tc main_v264) i = a.cb 1 (i 0).val)
    ∧ (∀ i : S4x56x768.Idx, StableHlo.after opsL1_1 W (Proc.devRef .tc main_v266) i = a.xpw 1 (i 0).val (i 1).val (i 2).val)
    ∧ (∀ i : S4x768x24.Idx, StableHlo.after opsL1_1 W (Proc.devRef .tc main_v268) i = a.dtw 1 (i 0).val (i 1).val (i 2).val)
    ∧ (∀ i : S4x768.Idx, StableHlo.after opsL1_1 W (Proc.devRef .tc main_v270) i = a.dtb 1 (i 0).val (i 1).val)
    ∧ (∀ i : S4x768x16.Idx, StableHlo.after opsL1_1 W (Proc.devRef .tc main_v272) i = a.al 1 (i 0).val (i 1).val (i 2).val)
    ∧ (∀ i : S4x768.Idx, StableHlo.after opsL1_1 W (Proc.devRef .tc main_v274) i = a.ds 1 (i 0).val (i 1).val)
    ∧ (∀ i : S768.Idx, StableHlo.after opsL1_1 W (Proc.devRef .tc main_v276) i = a.onw 1 (i 0).val)
    ∧ (∀ i : S768.Idx, StableHlo.after opsL1_1 W (Proc.devRef .tc main_v278) i = a.onb 1 (i 0).val)
    ∧ (∀ i : S384x768.Idx, StableHlo.after opsL1_1 W (Proc.devRef .tc main_v280) i = a.ow 1 (i 0).val (i 1).val) := by
  refine ⟨?_, ?_, ?_, ?_, ?_, ?_, ?_, ?_, ?_, ?_, ?_, ?_, ?_⟩ <;> (intro i; idx_vars i; after_reads_simp; pointwise [h7, h8, h9, h10, h11, h12, h13, h14, h15, h16, h17, h18, h19])

/-- Layer 1's first norm. -/
theorem st1_2 (H : Mat) (w b : ℕ → EReal)
    (hx : ∀ i : S2x32x32x384.Idx, W (Proc.devRef .tc main_v254) i = H ((i 0).val * 1024 + (i 1).val * 32 + (i 2).val) (i 3).val)
    (hw : ∀ i : S384.Idx, W (Proc.devRef .tc main_v256) i = w (i 0).val)
    (hb : ∀ i : S384.Idx, W (Proc.devRef .tc main_v258) i = b (i 0).val) :
    ∀ i : S2x32x32x384.Idx, StableHlo.after opsL1_2 W (Proc.devRef .tc main_v304) i = lnS 384 c384 w b (H ((i 0).val * 1024 + (i 1).val * 32 + (i 2).val)) (i 3).val := by
  intro i; idx_vars i; after_reads_simp; pointwise [hx, hw, hb, lnS, meanS, varS]

/-- Layer 1's input projection. -/
theorem st1_3 (X : Mat) (w : Mat)
    (hx : ∀ i : S2x32x32x384.Idx, W (Proc.devRef .tc main_v304) i = X ((i 0).val * 1024 + (i 1).val * 32 + (i 2).val) (i 3).val)
    (hw : ∀ i : S1536x384.Idx, W (Proc.devRef .tc main_v260) i = w (i 0).val (i 1).val) :
    (∀ i : S2x768x32x32.Idx, StableHlo.after opsL1_3 W (Proc.devRef .tc main_v309) i = dotS 384 (X ((i 0).val * 1024 + (i 2).val * 32 + (i 3).val)) (w (i 1).val))
    ∧ (∀ i : S2x32x32x768.Idx, StableHlo.after opsL1_3 W (Proc.devRef .tc main_v308) i = dotS 384 (X ((i 0).val * 1024 + (i 1).val * 32 + (i 2).val)) (w (768 + (i 3).val))) := by
  refine ⟨?_, ?_⟩ <;> (intro i; idx_vars i; after_reads_simp; pointwise [hx, hw, dotS])

end Cert.Proof.Ref
-- ==== Proof.RC1.lean ====
module

public import proofs.«01_k».proof.Proof.RefOps1
public import proofs.«01_k».proof.Proof.RMath
public import Idealize.ShloMosaic.Lib.StableHlo.RunRead
public import Idealize.ShloMosaic.Lib.Pointwise
public import Idealize.ShloMosaic.Lib.Pipeline.ValueKit

@[expose] public section

set_option maxRecDepth 65536

noncomputable section

namespace Cert.Proof.Ref

open Cert.ReferenceIdeal Cert.ReferenceIdeal.Gen
open Idealize.ShloMosaic
open Idealize.ShloMosaic.TcCoe
open Idealize.SL.Sem

variable (W : Valuation τ sig (Elt Ideal))

/-- Layer 1's convolution. -/
theorem st1_4 (X : ℕ → Mat) (w : ℕ → Mat) (b : ℕ → EReal)
    (hx : ∀ i : S2x768x32x32.Idx, W (Proc.devRef .tc main_v309) i = X (i 0).val ((i 2).val * 32 + (i 3).val) (i 1).val)
    (hw : ∀ i : S768x3x3.Idx, W (Proc.devRef .tc main_v262) i = w (i 0).val (i 1).val (i 2).val)
    (hb : ∀ i : S768.Idx, W (Proc.devRef .tc main_v264) i = b (i 0).val) :
    ∀ i : S2x768x32x32.Idx, StableHlo.after opsL1_4 W (Proc.devRef .tc main_v377) i = convS (X (i 0).val) (fun t d => w d (t / 3) (t % 3)) b ((i 2).val * 32 + (i 3).val) (i 1).val := by
  intro i; idx_vars i; after_reads_simp; pointwise [hx, hw, hb]
  refine conv_of (X i0.val) (fun t d => w d (t / 3) (t % 3)) b (i2.val * 32 + i3.val) i1.val ?_ ?_ ?_ ?_ ?_ ?_ ?_ ?_ ?_ <;> refine congrArg₂ (· * ·) rfl ?_
  case refine_5 => exact ((if_pos (by omega)).trans (congrArg (fun k => X i0.val k i1.val) (by omega))).symm
  all_goals exact tap_of _ _ _ _ _ _ (by omega) fun _ => congrArg (fun k => X i0.val k i1.val) (by omega)

/-- Layer 1's activation. -/
theorem st1_5 (X : ℕ → Mat)
    (hx : ∀ i : S2x768x32x32.Idx, W (Proc.devRef .tc main_v377) i = X (i 0).val ((i 2).val * 32 + (i 3).val) (i 1).val) :
    ∀ i : S2x768x32x32.Idx, StableHlo.after opsL1_5 W (Proc.devRef .tc main_v378) i = siluS (X (i 0).val ((i 2).val * 32 + (i 3).val) (i 1).val) := by
  intro i; idx_vars i; after_reads_simp; pointwise [hx]; exact silu_mul _

/-- Layer 1's four orders. -/
theorem st1_6 (U : ℕ → Mat)
    (hx : ∀ i : S2x768x32x32.Idx, W (Proc.devRef .tc main_v378) i = U (i 0).val ((i 2).val * 32 + (i 3).val) (i 1).val) :
    ∀ i : S2x4x768x1024.Idx, StableHlo.after opsL1_6 W (Proc.devRef .tc main_v388) i = ordS (U (i 0).val) (i 1).val (i 3).val (i 2).val := by
  intro i; idx_vars i; after_reads_simp; pointwise [hx, ordS]
  split_ifs <;> after_reads_simp <;> pointwise [hx] <;> (try simp [Fin.val_rev, Nat.div_add_mod'])

end Cert.Proof.Ref
-- ==== Proof.RD1.lean ====
module

public import proofs.«01_k».proof.Proof.RefOps1
public import proofs.«01_k».proof.Proof.RMath
public import Idealize.ShloMosaic.Lib.StableHlo.RunRead
public import Idealize.ShloMosaic.Lib.Pointwise
public import Idealize.ShloMosaic.Lib.Pipeline.ValueKit

@[expose] public section

set_option maxRecDepth 65536

noncomputable section

namespace Cert.Proof.Ref

open Cert.ReferenceIdeal Cert.ReferenceIdeal.Gen
open Idealize.ShloMosaic
open Idealize.ShloMosaic.TcCoe
open Idealize.SL.Sem

variable (W : Valuation τ sig (Elt Ideal))

/-- Layer 1's projections of the orders. -/
theorem st1_7 (U : ℕ → ℕ → Mat) (w : ℕ → Mat)
    (hx : ∀ i : S2x4x768x1024.Idx, W (Proc.devRef .tc main_v388) i = U (i 0).val (i 1).val (i 3).val (i 2).val)
    (hw : ∀ i : S4x56x768.Idx, W (Proc.devRef .tc main_v266) i = w (i 0).val (i 1).val (i 2).val) :
    (∀ i : S2x4x24x1024.Idx, StableHlo.after opsL1_7 W (Proc.devRef .tc main_v391) i = dotS 768 (w (i 1).val (i 2).val) (U (i 0).val (i 1).val (i 3).val))
    ∧ (∀ i : S2x4x16x1024.Idx, StableHlo.after opsL1_7 W (Proc.devRef .tc main_v392) i = dotS 768 (w (i 1).val (24 + (i 2).val)) (U (i 0).val (i 1).val (i 3).val))
    ∧ (∀ i : S2x4x16x1024.Idx, StableHlo.after opsL1_7 W (Proc.devRef .tc main_v393) i = dotS 768 (w (i 1).val (40 + (i 2).val)) (U (i 0).val (i 1).val (i 3).val)) := by
  refine ⟨?_, ?_, ?_⟩ <;> (intro i; idx_vars i; after_reads_simp; pointwise [hx, hw, dotS])

/-- Layer 1's step sizes. -/
theorem st1_8 (R : ℕ → ℕ → Mat) (w : ℕ → Mat) (b : Mat)
    (hx : ∀ i : S2x4x24x1024.Idx, W (Proc.devRef .tc main_v391) i = R (i 0).val (i 1).val (i 3).val (i 2).val)
    (hw : ∀ i : S4x768x24.Idx, W (Proc.devRef .tc main_v268) i = w (i 0).val (i 1).val (i 2).val)
    (hb : ∀ i : S4x768.Idx, W (Proc.devRef .tc main_v270) i = b (i 0).val (i 1).val) :
    ∀ i : S2x4x768x1024.Idx, StableHlo.after opsL1_8 W (Proc.devRef .tc main_v399) i = softplusS (dotS 24 (w (i 1).val (i 2).val) (R (i 0).val (i 1).val (i 3).val) + b (i 1).val (i 2).val) := by
  intro i; idx_vars i; after_reads_simp; pointwise [hx, hw, hb, dotS]
  exact softplus_of _

/-- The scan's operands. -/
theorem st1_9 (U D B C : ℕ → ℕ → Mat) (al : ℕ → Mat) (ds : Mat)
    (hu : ∀ i : S2x4x768x1024.Idx, W (Proc.devRef .tc main_v388) i = U (i 0).val (i 1).val (i 3).val (i 2).val)
    (hd : ∀ i : S2x4x768x1024.Idx, W (Proc.devRef .tc main_v399) i = D (i 0).val (i 1).val (i 3).val (i 2).val)
    (hb : ∀ i : S2x4x16x1024.Idx, W (Proc.devRef .tc main_v392) i = B (i 0).val (i 1).val (i 3).val (i 2).val)
    (hc : ∀ i : S2x4x16x1024.Idx, W (Proc.devRef .tc main_v393) i = C (i 0).val (i 1).val (i 3).val (i 2).val)
    (ha : ∀ i : S4x768x16.Idx, W (Proc.devRef .tc main_v272) i = al (i 0).val (i 1).val (i 2).val)
    (hs : ∀ i : S4x768.Idx, W (Proc.devRef .tc main_v274) i = ds (i 0).val (i 1).val) :
    (∀ i : S1024x8x768.Idx, StableHlo.after opsL1_9 W (Proc.devRef .tc main_v416_0) i = D ((i 1).val / 4) ((i 1).val % 4) (i 0).val (i 2).val)
    ∧ (∀ i : S1024x8x768.Idx, StableHlo.after opsL1_9 W (Proc.devRef .tc main_v416_1) i = U ((i 1).val / 4) ((i 1).val % 4) (i 0).val (i 2).val)
    ∧ (∀ i : S1024x8x16.Idx, StableHlo.after opsL1_9 W (Proc.devRef .tc main_v416_2) i = B ((i 1).val / 4) ((i 1).val % 4) (i 0).val (i 2).val)
    ∧ (∀ i : S1024x8x16.Idx, StableHlo.after opsL1_9 W (Proc.devRef .tc main_v416_3) i = C ((i 1).val / 4) ((i 1).val % 4) (i 0).val (i 2).val)
    ∧ (∀ i : S8x768x16.Idx, StableHlo.after opsL1_9 W (Proc.devRef .tc main_v416_4) i = -Ideal.exp (al ((i 0).val % 4) (i 1).val (i 2).val))
    ∧ (∀ i : S8x768x16.Idx, StableHlo.after opsL1_9 W (Proc.devRef .tc main_v416_6) i = (0 : EReal))
    ∧ (∀ i : S8x768x1024.Idx, StableHlo.after opsL1_9 W (Proc.devRef .tc main_v402) i = U ((i 0).val / 4) ((i 0).val % 4) (i 2).val (i 1).val)
    ∧ (∀ i : S8x768.Idx, StableHlo.after opsL1_9 W (Proc.devRef .tc main_v409) i = ds ((i 0).val % 4) (i 1).val)
    ∧ (∀ i : S1024x8x768.Idx, StableHlo.after opsL1_9 W (Proc.devRef .tc main_v416_7) i = (0 : EReal)) := by
  refine ⟨?_, ?_, ?_, ?_, ?_, ?_, ?_, ?_, ?_⟩ <;> (intro i; idx_vars i; after_reads_simp; pointwise [hu, hd, hb, hc, ha, hs, id_eq])

end Cert.Proof.Ref
-- ==== Proof.RE1.lean ====
module

public import proofs.«01_k».proof.Proof.RefOps1
public import proofs.«01_k».proof.Proof.RMath
public import Idealize.ShloMosaic.Lib.StableHlo.RunRead
public import Idealize.ShloMosaic.Lib.Pointwise
public import Idealize.ShloMosaic.Lib.Pipeline.ValueKit

@[expose] public section

set_option maxRecDepth 65536

noncomputable section

namespace Cert.Proof.Ref

open Cert.ReferenceIdeal Cert.ReferenceIdeal.Gen
open Idealize.ShloMosaic
open Idealize.ShloMosaic.TcCoe
open Idealize.SL.Sem

variable (W : Valuation τ sig (Elt Ideal))

/-- The scans' results with the direct term, split by image and order. -/
theorem st1_10 (Y U : ℕ → Mat) (ds : Mat)
    (hy : ∀ i : S1024x8x768.Idx, W (Proc.devRef .tc main_v416_7) i = Y (i 1).val (i 0).val (i 2).val)
    (hu : ∀ i : S8x768x1024.Idx, W (Proc.devRef .tc main_v402) i = U (i 0).val (i 2).val (i 1).val)
    (hs : ∀ i : S8x768.Idx, W (Proc.devRef .tc main_v409) i = ds (i 0).val (i 1).val) :
    ∀ i : S2x4x768x1024.Idx, StableHlo.after opsL1_10 W (Proc.devRef .tc main_v422) i = Y ((i 0).val * 4 + (i 1).val) (i 3).val (i 2).val + ds ((i 0).val * 4 + (i 1).val) (i 2).val * U ((i 0).val * 4 + (i 1).val) (i 3).val (i 2).val := by
  intro i; idx_vars i; after_reads_simp; pointwise [hy, hu, hs]

/-- The four orders merged. -/
theorem st1_11 (Y : ℕ → ℕ → Mat)
    (hy : ∀ i : S2x4x768x1024.Idx, W (Proc.devRef .tc main_v422) i = Y (i 0).val (i 1).val (i 3).val (i 2).val) :
    ∀ i : S2x32x32x768.Idx, StableHlo.after opsL1_11 W (Proc.devRef .tc main_v443) i = Y (i 0).val 0 ((i 1).val * 32 + (i 2).val) (i 3).val + Y (i 0).val 1 ((i 2).val * 32 + (i 1).val) (i 3).val
      + Y (i 0).val 2 (1023 - ((i 1).val * 32 + (i 2).val)) (i 3).val + Y (i 0).val 3 (1023 - ((i 2).val * 32 + (i 1).val)) (i 3).val := by
  intro i; idx_vars i; after_reads_simp; pointwise [hy]
  have e : i2.val % 32 * 32 + (i1.val * 32 + i2.val) / 32 = i2.val * 32 + i1.val := by omega
  simp [Fin.val_rev, e]

/-- Layer 1's second norm. -/
theorem st1_12 (T : Mat) (w b : ℕ → EReal)
    (hx : ∀ i : S2x32x32x768.Idx, W (Proc.devRef .tc main_v443) i = T ((i 0).val * 1024 + (i 1).val * 32 + (i 2).val) (i 3).val)
    (hw : ∀ i : S768.Idx, W (Proc.devRef .tc main_v276) i = w (i 0).val)
    (hb : ∀ i : S768.Idx, W (Proc.devRef .tc main_v278) i = b (i 0).val) :
    ∀ i : S2x32x32x768.Idx, StableHlo.after opsL1_12 W (Proc.devRef .tc main_v467) i = lnS 768 c768 w b (T ((i 0).val * 1024 + (i 1).val * 32 + (i 2).val)) (i 3).val := by
  intro i; idx_vars i; after_reads_simp; pointwise [hx, hw, hb, lnS, meanS, varS]

/-- Layer 1's gate, output projection and sum. -/
theorem st1_13 (T Z H : Mat) (w : Mat)
    (ht : ∀ i : S2x32x32x768.Idx, W (Proc.devRef .tc main_v467) i = T ((i 0).val * 1024 + (i 1).val * 32 + (i 2).val) (i 3).val)
    (hz : ∀ i : S2x32x32x768.Idx, W (Proc.devRef .tc main_v308) i = Z ((i 0).val * 1024 + (i 1).val * 32 + (i 2).val) (i 3).val)
    (hh : ∀ i : S2x32x32x384.Idx, W (Proc.devRef .tc main_v254) i = H ((i 0).val * 1024 + (i 1).val * 32 + (i 2).val) (i 3).val)
    (hw : ∀ i : S384x768.Idx, W (Proc.devRef .tc main_v280) i = w (i 0).val (i 1).val) :
    ∀ i : S2x32x32x384.Idx, StableHlo.after opsL1_13 W (Proc.devRef .tc main_v472) i = H ((i 0).val * 1024 + (i 1).val * 32 + (i 2).val) (i 3).val + dotS 768 (fun k => T ((i 0).val * 1024 + (i 1).val * 32 + (i 2).val) k * siluS (Z ((i 0).val * 1024 + (i 1).val * 32 + (i 2).val) k)) (w (i 3).val) := by
  intro i; idx_vars i; after_reads_simp; pointwise [ht, hz, hh, hw, dotS]; simp only [silu_mul]

end Cert.Proof.Ref
-- ==== Proof.RW1.lean ====
module

public import proofs.«01_k».proof.Proof.RefOps1
public import proofs.«01_k».proof.Proof.RDyn
public import Idealize.ShloMosaic.Lib.StableHlo.RunRead
public import Idealize.ShloMosaic.Lib.Pointwise
public import Idealize.ShloMosaic.Lib.Pipeline.ValueKit

@[expose] public section

set_option maxRecDepth 65536

noncomputable section

namespace Cert.Proof.Ref

open Cert.ReferenceIdeal Cert.ReferenceIdeal.Gen
open Idealize.ShloMosaic
open Idealize.ShloMosaic.TcCoe
open Idealize.SL.Sem

variable (W : Valuation τ sig (Elt Ideal))

/-- Part 1 of a time step of layer 1's scans. -/
def opsW1_b1 {F : FTy → Type} [FloatOps F] : List (HloOp τ sig (Elt F)) :=
  [ StableHlo.nullary main_while1b_call12_c (constantI S_ 32 0#32),
    StableHlo.nullary main_while1b_call12_c_0 (constantI S_ 32 0#32),
    StableHlo.TRef.unaryIndexed (.of main_v416_0 : StableHlo.TRef sig ⟨S1024x8x768, .f32⟩) ![(.of main_v416_5 : StableHlo.TRef sig ⟨S_, .i32⟩), (.of main_while1b_call12_c : StableHlo.TRef sig ⟨S_, .i32⟩), (.of main_while1b_call12_c_0 : StableHlo.TRef sig ⟨S_, .i32⟩)] (.of main_while1b_call12_v0 : StableHlo.TRef sig ⟨S1x8x768, .f32⟩) (fun x i => Host.dynamicSlice S1x8x768 x (fun k => (i k (Shape.Idx.first h_S_)).toInt) sliceFits_S1024x8x768_S1x8x768),
    StableHlo.reshape main_while1b_call12_v0 main_while1b_v474 (rfl : (.f32 : EltTy) = .f32) shapeCasts_S1x8x768_S8x768,
    StableHlo.nullary main_while1b_call13_c (constantI S_ 32 0#32),
    StableHlo.nullary main_while1b_call13_c_0 (constantI S_ 32 0#32),
    StableHlo.TRef.unaryIndexed (.of main_v416_1 : StableHlo.TRef sig ⟨S1024x8x768, .f32⟩) ![(.of main_v416_5 : StableHlo.TRef sig ⟨S_, .i32⟩), (.of main_while1b_call13_c : StableHlo.TRef sig ⟨S_, .i32⟩), (.of main_while1b_call13_c_0 : StableHlo.TRef sig ⟨S_, .i32⟩)] (.of main_while1b_call13_v0 : StableHlo.TRef sig ⟨S1x8x768, .f32⟩) (fun x i => Host.dynamicSlice S1x8x768 x (fun k => (i k (Shape.Idx.first h_S_)).toInt) sliceFits_S1024x8x768_S1x8x768),
    StableHlo.reshape main_while1b_call13_v0 main_while1b_v475 (rfl : (.f32 : EltTy) = .f32) shapeCasts_S1x8x768_S8x768,
    StableHlo.nullary main_while1b_call14_c (constantI S_ 32 0#32),
    StableHlo.nullary main_while1b_call14_c_0 (constantI S_ 32 0#32),
    StableHlo.TRef.unaryIndexed (.of main_v416_2 : StableHlo.TRef sig ⟨S1024x8x16, .f32⟩) ![(.of main_v416_5 : StableHlo.TRef sig ⟨S_, .i32⟩), (.of main_while1b_call14_c : StableHlo.TRef sig ⟨S_, .i32⟩), (.of main_while1b_call14_c_0 : StableHlo.TRef sig ⟨S_, .i32⟩)] (.of main_while1b_call14_v0 : StableHlo.TRef sig ⟨S1x8x16, .f32⟩) (fun x i => Host.dynamicSlice S1x8x16 x (fun k => (i k (Shape.Idx.first h_S_)).toInt) sliceFits_S1024x8x16_S1x8x16),
    StableHlo.reshape main_while1b_call14_v0 main_while1b_v476 (rfl : (.f32 : EltTy) = .f32) shapeCasts_S1x8x16_S8x16,
    StableHlo.nullary main_while1b_call15_c (constantI S_ 32 0#32),
    StableHlo.nullary main_while1b_call15_c_0 (constantI S_ 32 0#32),
    StableHlo.TRef.unaryIndexed (.of main_v416_3 : StableHlo.TRef sig ⟨S1024x8x16, .f32⟩) ![(.of main_v416_5 : StableHlo.TRef sig ⟨S_, .i32⟩), (.of main_while1b_call15_c : StableHlo.TRef sig ⟨S_, .i32⟩), (.of main_while1b_call15_c_0 : StableHlo.TRef sig ⟨S_, .i32⟩)] (.of main_while1b_call15_v0 : StableHlo.TRef sig ⟨S1x8x16, .f32⟩) (fun x i => Host.dynamicSlice S1x8x16 x (fun k => (i k (Shape.Idx.first h_S_)).toInt) sliceFits_S1024x8x16_S1x8x16),
    StableHlo.reshape main_while1b_call15_v0 main_while1b_v477 (rfl : (.f32 : EltTy) = .f32) shapeCasts_S1x8x16_S8x16 ]

/-- Part 2 of a time step of layer 1's scans. -/
def opsW1_b2 {F : FTy → Type} [FloatOps F] : List (HloOp τ sig (Elt F)) :=
  [ StableHlo.unary main_while1b_v474 main_while1b_v478 (broadcastInDim S8x768x1 ![0, 1] bcast_S8x768_S8x768x1_0_1 : (⟨S8x768, .f32⟩ : BufTy).Contents (Elt F) → (⟨S8x768x1, .f32⟩ : BufTy).Contents (Elt F)),
    StableHlo.unary main_while1b_v478 main_while1b_v479 (broadcastInDim S8x768x16 ![0, 1, 2] bcast_S8x768x1_S8x768x16_0_1_2 : (⟨S8x768x1, .f32⟩ : BufTy).Contents (Elt F) → (⟨S8x768x16, .f32⟩ : BufTy).Contents (Elt F)),
    StableHlo.binary main_while1b_v479 main_v416_4 main_while1b_v480 (mulf : (⟨S8x768x16, .f32⟩ : BufTy).Contents (Elt F) → (⟨S8x768x16, .f32⟩ : BufTy).Contents (Elt F) → (⟨S8x768x16, .f32⟩ : BufTy).Contents (Elt F)),
    StableHlo.unary main_while1b_v480 main_while1b_v481 (Host.exp : (⟨S8x768x16, .f32⟩ : BufTy).Contents (Elt F) → (⟨S8x768x16, .f32⟩ : BufTy).Contents (Elt F)),
    StableHlo.binary main_while1b_v481 main_v416_6 main_while1b_v482 (mulf : (⟨S8x768x16, .f32⟩ : BufTy).Contents (Elt F) → (⟨S8x768x16, .f32⟩ : BufTy).Contents (Elt F) → (⟨S8x768x16, .f32⟩ : BufTy).Contents (Elt F)),
    StableHlo.binary main_while1b_v474 main_while1b_v475 main_while1b_v483 (mulf : (⟨S8x768, .f32⟩ : BufTy).Contents (Elt F) → (⟨S8x768, .f32⟩ : BufTy).Contents (Elt F) → (⟨S8x768, .f32⟩ : BufTy).Contents (Elt F)),
    StableHlo.unary main_while1b_v483 main_while1b_v484 (broadcastInDim S8x768x1 ![0, 1] bcast_S8x768_S8x768x1_0_1 : (⟨S8x768, .f32⟩ : BufTy).Contents (Elt F) → (⟨S8x768x1, .f32⟩ : BufTy).Contents (Elt F)),
    StableHlo.unary main_while1b_v476 main_while1b_v485 (broadcastInDim S8x1x16 ![0, 2] bcast_S8x16_S8x1x16_0_2 : (⟨S8x16, .f32⟩ : BufTy).Contents (Elt F) → (⟨S8x1x16, .f32⟩ : BufTy).Contents (Elt F)),
    StableHlo.unary main_while1b_v484 main_while1b_v486 (broadcastInDim S8x768x16 ![0, 1, 2] bcast_S8x768x1_S8x768x16_0_1_2 : (⟨S8x768x1, .f32⟩ : BufTy).Contents (Elt F) → (⟨S8x768x16, .f32⟩ : BufTy).Contents (Elt F)),
    StableHlo.unary main_while1b_v485 main_while1b_v487 (broadcastInDim S8x768x16 ![0, 1, 2] bcast_S8x1x16_S8x768x16_0_1_2 : (⟨S8x1x16, .f32⟩ : BufTy).Contents (Elt F) → (⟨S8x768x16, .f32⟩ : BufTy).Contents (Elt F)),
    StableHlo.binary main_while1b_v486 main_while1b_v487 main_while1b_v488 (mulf : (⟨S8x768x16, .f32⟩ : BufTy).Contents (Elt F) → (⟨S8x768x16, .f32⟩ : BufTy).Contents (Elt F) → (⟨S8x768x16, .f32⟩ : BufTy).Contents (Elt F)),
    StableHlo.binary main_while1b_v482 main_while1b_v488 main_while1b_v489 (addf : (⟨S8x768x16, .f32⟩ : BufTy).Contents (Elt F) → (⟨S8x768x16, .f32⟩ : BufTy).Contents (Elt F) → (⟨S8x768x16, .f32⟩ : BufTy).Contents (Elt F)),
    StableHlo.binary main_while1b_v489 main_while1b_v477 main_while1b_v490 ((fun l r => Host.dotGeneral dot_S8x768x16_S8x16_S8x768_2_1_1_n_0_0 none l r) : (⟨S8x768x16, .f32⟩ : BufTy).Contents (Elt F) → (⟨S8x16, .f32⟩ : BufTy).Contents (Elt F) → (⟨S8x768, .f32⟩ : BufTy).Contents (Elt F)),
    StableHlo.unary main_while1b_v490 main_while1b_call16_v0 ((broadcastInDim S1x8x768 ![1, 2] bcast_S8x768_S1x8x768_1_2) : (⟨S8x768, .f32⟩ : BufTy).Contents (Elt F) → (⟨S1x8x768, .f32⟩ : BufTy).Contents (Elt F)) ]

/-- Part 3 of a time step of layer 1's scans. -/
def opsW1_b3 {F : FTy → Type} [FloatOps F] : List (HloOp τ sig (Elt F)) :=
  [ StableHlo.nullary main_while1b_call16_c (constantI S_ 32 0#32),
    StableHlo.nullary main_while1b_call16_c_0 (constantI S_ 32 0#32),
    StableHlo.TRef.binaryIndexed (.of main_v416_7 : StableHlo.TRef sig ⟨S1024x8x768, .f32⟩) (.of main_while1b_call16_v0 : StableHlo.TRef sig ⟨S1x8x768, .f32⟩) ![(.of main_v416_5 : StableHlo.TRef sig ⟨S_, .i32⟩), (.of main_while1b_call16_c : StableHlo.TRef sig ⟨S_, .i32⟩), (.of main_while1b_call16_c_0 : StableHlo.TRef sig ⟨S_, .i32⟩)] (.of main_while1b_v491 : StableHlo.TRef sig ⟨S1024x8x768, .f32⟩) (fun x u i => Host.dynamicUpdateSlice x u (fun k => (i k (Shape.Idx.first h_S_)).toInt) updateFits_S1024x8x768_S1x8x768),
    StableHlo.nullary main_while1b_c_40 (constantI S_ 32 1#32),
    StableHlo.binary main_v416_5 main_while1b_c_40 main_while1b_v492 (addi : (⟨S_, .i32⟩ : BufTy).Contents (Elt F) → (⟨S_, .i32⟩ : BufTy).Contents (Elt F) → (⟨S_, .i32⟩ : BufTy).Contents (Elt F)),
    StableHlo.unary main_while1b_v492 main_v416_5 id,
    StableHlo.unary main_while1b_v489 main_v416_6 id,
    StableHlo.unary main_while1b_v491 main_v416_7 id ]

/-- A time step is its three parts. -/
theorem opsW1_parts {F : FTy → Type} [FloatOps F] : (opsW1_body : List (HloOp τ sig (Elt F))) = opsW1_b1 ++ (opsW1_b2 ++ opsW1_b3) := rfl

/-- A step reads its row of each operand. -/
theorem stW1_1 (k : ℕ) (hk : k < 1024) (D U B C : ℕ → Mat)
    (hd : ∀ i : S1024x8x768.Idx, W (Proc.devRef .tc main_v416_0) i = D (i 1).val (i 0).val (i 2).val)
    (hu : ∀ i : S1024x8x768.Idx, W (Proc.devRef .tc main_v416_1) i = U (i 1).val (i 0).val (i 2).val)
    (hb : ∀ i : S1024x8x16.Idx, W (Proc.devRef .tc main_v416_2) i = B (i 1).val (i 0).val (i 2).val)
    (hc : ∀ i : S1024x8x16.Idx, W (Proc.devRef .tc main_v416_3) i = C (i 1).val (i 0).val (i 2).val)
    (hn : W main_v416_5 = fun _ => (BitVec.ofNat 32 k : BitVec 32)) :
    (∀ i : S8x768.Idx, StableHlo.after opsW1_b1 W (Proc.devRef .tc main_while1b_v474) i = D (i 0).val k (i 1).val)
    ∧ (∀ i : S8x768.Idx, StableHlo.after opsW1_b1 W (Proc.devRef .tc main_while1b_v475) i = U (i 0).val k (i 1).val)
    ∧ (∀ i : S8x16.Idx, StableHlo.after opsW1_b1 W (Proc.devRef .tc main_while1b_v476) i = B (i 0).val k (i 1).val)
    ∧ (∀ i : S8x16.Idx, StableHlo.after opsW1_b1 W (Proc.devRef .tc main_while1b_v477) i = C (i 0).val k (i 1).val) := by
  have hc0 : (BitVec.ofNat 32 k).toInt = (k : ℤ) := toInt_small k hk
  refine ⟨?_, ?_, ?_, ?_⟩ <;> (intro i; idx_vars i; after_reads_simp)
  · show shapeCast S8x768 (Host.dynamicSlice S1x8x768 (W (Proc.devRef .tc main_v416_0)) _ sliceFits_S1024x8x768_S1x8x768) shapeCasts_S1x8x768_S8x768 _ = _
    rw [slice_at (W (Proc.devRef .tc main_v416_0)) _ _ k hk ?_ ?_ ?_]
    · pointwise [hd]
    · show BitVec.toInt (StableHlo.upto _ W _ (Proc.devRef .tc main_v416_5) _) = _
      after_reads_simp; rw [hn]; exact hc0
    · show BitVec.toInt (StableHlo.upto _ W _ (Proc.devRef .tc main_while1b_call12_c) _) = _
      after_reads_simp; rfl
    · show BitVec.toInt (StableHlo.upto _ W _ (Proc.devRef .tc main_while1b_call12_c_0) _) = _
      after_reads_simp; rfl
  · show shapeCast S8x768 (Host.dynamicSlice S1x8x768 (W (Proc.devRef .tc main_v416_1)) _ sliceFits_S1024x8x768_S1x8x768) shapeCasts_S1x8x768_S8x768 _ = _
    rw [slice_at (W (Proc.devRef .tc main_v416_1)) _ _ k hk ?_ ?_ ?_]
    · pointwise [hu]
    · show BitVec.toInt (StableHlo.upto _ W _ (Proc.devRef .tc main_v416_5) _) = _
      after_reads_simp; rw [hn]; exact hc0
    · show BitVec.toInt (StableHlo.upto _ W _ (Proc.devRef .tc main_while1b_call13_c) _) = _
      after_reads_simp; rfl
    · show BitVec.toInt (StableHlo.upto _ W _ (Proc.devRef .tc main_while1b_call13_c_0) _) = _
      after_reads_simp; rfl
  · show shapeCast S8x16 (Host.dynamicSlice S1x8x16 (W (Proc.devRef .tc main_v416_2)) _ sliceFits_S1024x8x16_S1x8x16) shapeCasts_S1x8x16_S8x16 _ = _
    rw [slice_at (W (Proc.devRef .tc main_v416_2)) _ _ k hk ?_ ?_ ?_]
    · pointwise [hb]
    · show BitVec.toInt (StableHlo.upto _ W _ (Proc.devRef .tc main_v416_5) _) = _
      after_reads_simp; rw [hn]; exact hc0
    · show BitVec.toInt (StableHlo.upto _ W _ (Proc.devRef .tc main_while1b_call14_c) _) = _
      after_reads_simp; rfl
    · show BitVec.toInt (StableHlo.upto _ W _ (Proc.devRef .tc main_while1b_call14_c_0) _) = _
      after_reads_simp; rfl
  · show shapeCast S8x16 (Host.dynamicSlice S1x8x16 (W (Proc.devRef .tc main_v416_3)) _ sliceFits_S1024x8x16_S1x8x16) shapeCasts_S1x8x16_S8x16 _ = _
    rw [slice_at (W (Proc.devRef .tc main_v416_3)) _ _ k hk ?_ ?_ ?_]
    · pointwise [hc]
    · show BitVec.toInt (StableHlo.upto _ W _ (Proc.devRef .tc main_v416_5) _) = _
      after_reads_simp; rw [hn]; exact hc0
    · show BitVec.toInt (StableHlo.upto _ W _ (Proc.devRef .tc main_while1b_call15_c) _) = _
      after_reads_simp; rfl
    · show BitVec.toInt (StableHlo.upto _ W _ (Proc.devRef .tc main_while1b_call15_c_0) _) = _
      after_reads_simp; rfl

/-- A step's new state, and the row it contributes. -/
theorem stW1_2 (k : ℕ) (D U B C A H : ℕ → Mat)
    (hd : ∀ i : S8x768.Idx, W (Proc.devRef .tc main_while1b_v474) i = D (i 0).val k (i 1).val)
    (hu : ∀ i : S8x768.Idx, W (Proc.devRef .tc main_while1b_v475) i = U (i 0).val k (i 1).val)
    (hb : ∀ i : S8x16.Idx, W (Proc.devRef .tc main_while1b_v476) i = B (i 0).val k (i 1).val)
    (hc : ∀ i : S8x16.Idx, W (Proc.devRef .tc main_while1b_v477) i = C (i 0).val k (i 1).val)
    (ha : ∀ i : S8x768x16.Idx, W (Proc.devRef .tc main_v416_4) i = A (i 0).val (i 1).val (i 2).val)
    (hh : ∀ i : S8x768x16.Idx, W (Proc.devRef .tc main_v416_6) i = H (i 0).val (i 1).val (i 2).val) :
    (∀ i : S8x768x16.Idx, StableHlo.after opsW1_b2 W (Proc.devRef .tc main_while1b_v489) i = stepS (D (i 0).val) (U (i 0).val) (B (i 0).val) (A (i 0).val) k (H (i 0).val) (i 1).val (i 2).val)
    ∧ (∀ i : S1x8x768.Idx, StableHlo.after opsW1_b2 W (Proc.devRef .tc main_while1b_call16_v0) i
      = ∑ n : Fin 16, stepS (D (i 1).val) (U (i 1).val) (B (i 1).val) (A (i 1).val) k (H (i 1).val) (i 2).val n.val * C (i 1).val k n.val) := by
  refine ⟨?_, ?_⟩ <;> (intro i; idx_vars i; after_reads_simp; pointwise [hd, hu, hb, hc, ha, hh, stepS])

/-- A step writes its row of the result. -/
theorem stW1_3 (k : ℕ) (hk : k < 1024) (R H Y : ℕ → Mat)
    (hn : W main_v416_5 = fun _ => (BitVec.ofNat 32 k : BitVec 32))
    (hh : ∀ i : S8x768x16.Idx, W (Proc.devRef .tc main_while1b_v489) i = H (i 0).val (i 1).val (i 2).val)
    (hr : ∀ i : S1x8x768.Idx, W (Proc.devRef .tc main_while1b_call16_v0) i = R (i 1).val k (i 2).val)
    (hy : ∀ i : S1024x8x768.Idx, W (Proc.devRef .tc main_v416_7) i = Y (i 1).val (i 0).val (i 2).val) :
    (∀ i : S8x768x16.Idx, StableHlo.after opsW1_b3 W (Proc.devRef .tc main_v416_6) i = H (i 0).val (i 1).val (i 2).val)
    ∧ (∀ i : S1024x8x768.Idx, StableHlo.after opsW1_b3 W (Proc.devRef .tc main_v416_7) i = if (i 0).val = k then R (i 1).val k (i 2).val else Y (i 1).val (i 0).val (i 2).val) := by
  refine ⟨?_, ?_⟩ <;> (intro i; idx_vars i; after_reads_simp)
  · pointwise [hh, id_eq]
  · show Host.dynamicUpdateSlice (W (Proc.devRef .tc main_v416_7)) (W (Proc.devRef .tc main_while1b_call16_v0)) _ updateFits_S1024x8x768_S1x8x768 _ = _
    rw [update_at (W (Proc.devRef .tc main_v416_7)) (W (Proc.devRef .tc main_while1b_call16_v0)) _ _ k hk ?_ ?_ ?_]
    · simp only [hr, hy]; rfl
    · show BitVec.toInt (StableHlo.upto _ W _ (Proc.devRef .tc main_v416_5) _) = _
      after_reads_simp; rw [hn]; exact toInt_small k hk
    · show BitVec.toInt (StableHlo.upto _ W _ (Proc.devRef .tc main_while1b_call16_c) _) = _
      after_reads_simp; rfl
    · show BitVec.toInt (StableHlo.upto _ W _ (Proc.devRef .tc main_while1b_call16_c_0) _) = _
      after_reads_simp; rfl

end Cert.Proof.Ref
-- ==== Proof.RL1.lean ====
/-
  The reference's time scan in layer 1.
-/
module

public import proofs.«01_k».proof.Proof.RefKeep
public import proofs.«01_k».proof.Proof.RLoop
public import proofs.«01_k».proof.Proof.RW1
public import Idealize.ShloMosaic.Lib.StableHlo.RunRead
public import Idealize.ShloMosaic.Lib.Pointwise
public import Idealize.ShloMosaic.Lib.Pipeline.ValueKit

@[expose] public section

set_option maxRecDepth 65536

noncomputable section

namespace Cert.Proof.Ref

open Cert.ReferenceIdeal Cert.ReferenceIdeal.Gen
open Idealize.ShloMosaic
open Idealize.ShloMosaic.TcCoe
open Idealize.SL.Sem
open Idealize.ShloMosaic.StableHlo (after afterL atTrip launchContents)

section
variable (W : Valuation τ sig (Elt Ideal))
/-- The first part of a step keeps the operands. -/
theorem b11_keep : after opsW1_b1 W (Proc.devRef .tc main_v416_4) = W (Proc.devRef .tc main_v416_4) ∧ after opsW1_b1 W (Proc.devRef .tc main_v416_5) = W (Proc.devRef .tc main_v416_5) ∧ after opsW1_b1 W (Proc.devRef .tc main_v416_6) = W (Proc.devRef .tc main_v416_6) ∧ after opsW1_b1 W (Proc.devRef .tc main_v416_7) = W (Proc.devRef .tc main_v416_7) := by
  refine ⟨?_, ?_, ?_, ?_⟩ <;> after_reads_simp

/-- The second part of a step keeps the operands. -/
theorem b21_keep : after opsW1_b2 W (Proc.devRef .tc main_v416_5) = W (Proc.devRef .tc main_v416_5) ∧ after opsW1_b2 W (Proc.devRef .tc main_v416_7) = W (Proc.devRef .tc main_v416_7) := by
  refine ⟨?_, ?_⟩ <;> after_reads_simp

/-- The step keeps the operands. -/
theorem body1_keep : after opsW1_body W (Proc.devRef .tc main_v416_0) = W (Proc.devRef .tc main_v416_0) ∧ after opsW1_body W (Proc.devRef .tc main_v416_1) = W (Proc.devRef .tc main_v416_1) ∧ after opsW1_body W (Proc.devRef .tc main_v416_2) = W (Proc.devRef .tc main_v416_2) ∧ after opsW1_body W (Proc.devRef .tc main_v416_3) = W (Proc.devRef .tc main_v416_3) ∧ after opsW1_body W (Proc.devRef .tc main_v416_4) = W (Proc.devRef .tc main_v416_4) := by
  refine ⟨?_, ?_, ?_, ?_, ?_⟩ <;> after_reads_simp

/-- One step of the scan. -/
theorem step1 (k : ℕ) (hk : k < 1024) (D U B C A H Y : ℕ → Mat)
    (hd : ∀ i : S1024x8x768.Idx, W (Proc.devRef .tc main_v416_0) i = D (i 1).val (i 0).val (i 2).val)
    (hu : ∀ i : S1024x8x768.Idx, W (Proc.devRef .tc main_v416_1) i = U (i 1).val (i 0).val (i 2).val)
    (hb : ∀ i : S1024x8x16.Idx, W (Proc.devRef .tc main_v416_2) i = B (i 1).val (i 0).val (i 2).val)
    (hc : ∀ i : S1024x8x16.Idx, W (Proc.devRef .tc main_v416_3) i = C (i 1).val (i 0).val (i 2).val)
    (ha : ∀ i : S8x768x16.Idx, W (Proc.devRef .tc main_v416_4) i = A (i 0).val (i 1).val (i 2).val)
    (hn : W main_v416_5 = fun _ => (BitVec.ofNat 32 k : BitVec 32))
    (hh : ∀ i : S8x768x16.Idx, W (Proc.devRef .tc main_v416_6) i = H (i 0).val (i 1).val (i 2).val)
    (hy : ∀ i : S1024x8x768.Idx, W (Proc.devRef .tc main_v416_7) i = Y (i 1).val (i 0).val (i 2).val) :
    (∀ i : S8x768x16.Idx, after opsW1_body W (Proc.devRef .tc main_v416_6) i = stepS (D (i 0).val) (U (i 0).val) (B (i 0).val) (A (i 0).val) k (H (i 0).val) (i 1).val (i 2).val)
    ∧ ∀ i : S1024x8x768.Idx, after opsW1_body W (Proc.devRef .tc main_v416_7) i = if (i 0).val = k then
        ∑ n : Fin 16, stepS (D (i 1).val) (U (i 1).val) (B (i 1).val) (A (i 1).val) k (H (i 1).val) (i 2).val n.val * C (i 1).val k n.val
      else Y (i 1).val (i 0).val (i 2).val := by
  rw [opsW1_parts, StableHlo.after_append, StableHlo.after_append]
  obtain ⟨p4, p5, p6, p7⟩ := b11_keep W
  obtain ⟨q5, q7⟩ := b21_keep (after opsW1_b1 W)
  obtain ⟨a1, a2, a3, a4⟩ := stW1_1 W k hk D U B C hd hu hb hc hn
  obtain ⟨c1, c2⟩ := stW1_2 (after opsW1_b1 W) k D U B C A H a1 a2 a3 a4
    (fun i => (congrFun p4 i).trans (ha i)) (fun i => (congrFun p6 i).trans (hh i))
  exact stW1_3 (after opsW1_b2 (after opsW1_b1 W)) k hk
    (fun g k d => ∑ n : Fin 16, stepS (D g) (U g) (B g) (A g) k (H g) d n.val * C g k n.val)
    (fun g => stepS (D g) (U g) (B g) (A g) k (H g)) Y
    ((q5.trans p5).trans hn) c1 c2 (fun i => (congrFun (q7.trans p7) i).trans (hy i))

end

variable (m : (ℓ : Loc nD τ sig) → Buf (Elt Ideal) ℓ) (c : Dev nD)

/-- The scan keeps what stands before its operands. -/
theorem K1_keep (r : Ref sig .tc) (hr : r.idx.val < 562) : ∀ k, K1 m k c (Proc.devRef .tc r) = E1 m c (Proc.devRef .tc r)
  | 0 => rfl
  | k + 1 => by
    show after opsW1_body (after opsW1_cond (K1 m k c)) (Proc.devRef .tc r) = _
    rw [opsW1_body_in.keep _ r (.inl (by omega)), opsW1_cond_in.keep _ r (.inl (by omega))]
    exact K1_keep r hr k

/-- The scan keeps its operands. -/
theorem K1_ops : ∀ k, K1 m k c (Proc.devRef .tc main_v416_0) = E1 m c (Proc.devRef .tc main_v416_0) ∧ K1 m k c (Proc.devRef .tc main_v416_1) = E1 m c (Proc.devRef .tc main_v416_1) ∧ K1 m k c (Proc.devRef .tc main_v416_2) = E1 m c (Proc.devRef .tc main_v416_2) ∧ K1 m k c (Proc.devRef .tc main_v416_3) = E1 m c (Proc.devRef .tc main_v416_3) ∧ K1 m k c (Proc.devRef .tc main_v416_4) = E1 m c (Proc.devRef .tc main_v416_4)
  | 0 => ⟨rfl, rfl, rfl, rfl, rfl⟩
  | k + 1 => by
    obtain ⟨h0, h1, h2, h3, h4⟩ := K1_ops k
    obtain ⟨g0, g1, g2, g3, g4⟩ := body1_keep (after opsW1_cond (K1 m k c))
    exact ⟨(g0.trans (opsW1_cond_in.keep _ main_v416_0 (.inl (by decide)))).trans h0, (g1.trans (opsW1_cond_in.keep _ main_v416_1 (.inl (by decide)))).trans h1, (g2.trans (opsW1_cond_in.keep _ main_v416_2 (.inl (by decide)))).trans h2, (g3.trans (opsW1_cond_in.keep _ main_v416_3 (.inl (by decide)))).trans h3, (g4.trans (opsW1_cond_in.keep _ main_v416_4 (.inl (by decide)))).trans h4⟩

/-- The scan's result. -/
theorem K1_scan (D U B C A : ℕ → Mat)
    (hd : ∀ i : S1024x8x768.Idx, E1 m c (Proc.devRef .tc main_v416_0) i = D (i 1).val (i 0).val (i 2).val)
    (hu : ∀ i : S1024x8x768.Idx, E1 m c (Proc.devRef .tc main_v416_1) i = U (i 1).val (i 0).val (i 2).val)
    (hb : ∀ i : S1024x8x16.Idx, E1 m c (Proc.devRef .tc main_v416_2) i = B (i 1).val (i 0).val (i 2).val)
    (hc : ∀ i : S1024x8x16.Idx, E1 m c (Proc.devRef .tc main_v416_3) i = C (i 1).val (i 0).val (i 2).val)
    (ha : ∀ i : S8x768x16.Idx, E1 m c (Proc.devRef .tc main_v416_4) i = A (i 0).val (i 1).val (i 2).val)
    (hh : ∀ i : S8x768x16.Idx, E1 m c (Proc.devRef .tc main_v416_6) i = (0 : EReal))
    (hy : ∀ i : S1024x8x768.Idx, E1 m c (Proc.devRef .tc main_v416_7) i = (0 : EReal)) :
    ∀ i : S1024x8x768.Idx, after opsW1_cond (K1 m 1024 c) (Proc.devRef .tc main_v416_7) i
      = readS (D (i 1).val) (U (i 1).val) (B (i 1).val) (A (i 1).val) (C (i 1).val) (i 0).val (i 2).val := by
  intro i
  rw [opsW1_cond_in.keep _ main_v416_7 (.inl (by decide))]
  refine ((scan_run D U B C A (fun k i => K1 m k c (Proc.devRef .tc main_v416_6) i) (fun k i => K1 m k c (Proc.devRef .tc main_v416_7) i)
    hh hy (fun k hk H Z h z => ?_) 1024 le_rfl).2 i).trans (if_pos (i 0).isLt)
  obtain ⟨o0, o1, o2, o3, o4⟩ := K1_ops m c k
  exact step1 (after opsW1_cond (K1 m k c)) k hk D U B C A H Z
    (fun i => (congrFun ((opsW1_cond_in.keep _ main_v416_0 (.inl (by decide))).trans o0) i).trans (hd i))
    (fun i => (congrFun ((opsW1_cond_in.keep _ main_v416_1 (.inl (by decide))).trans o1) i).trans (hu i))
    (fun i => (congrFun ((opsW1_cond_in.keep _ main_v416_2 (.inl (by decide))).trans o2) i).trans (hb i))
    (fun i => (congrFun ((opsW1_cond_in.keep _ main_v416_3 (.inl (by decide))).trans o3) i).trans (hc i))
    (fun i => (congrFun ((opsW1_cond_in.keep _ main_v416_4 (.inl (by decide))).trans o4) i).trans (ha i))
    ((opsW1_cond_in.keep _ main_v416_5 (.inl (by decide))).trans (K1_ctr m c k))
    (fun i => (congrFun (opsW1_cond_in.keep _ main_v416_6 (.inl (by decide))) i).trans (h i))
    (fun i => (congrFun (opsW1_cond_in.keep _ main_v416_7 (.inl (by decide))) i).trans (z i))

end Cert.Proof.Ref
-- ==== Proof.RY1.lean ====
/-
  The reference's layer 1 as the network's.
-/
module

public import proofs.«01_k».proof.Proof.RFit
public import proofs.«01_k».proof.Proof.RB1
public import proofs.«01_k».proof.Proof.RC1
public import proofs.«01_k».proof.Proof.RD1
public import proofs.«01_k».proof.Proof.RE1
public import proofs.«01_k».proof.Proof.RL1
public import Idealize.ShloMosaic.Lib.StableHlo.RunRead
public import Idealize.ShloMosaic.Lib.Pointwise
public import Idealize.ShloMosaic.Lib.Pipeline.ValueKit

@[expose] public section

set_option maxRecDepth 65536

noncomputable section

namespace Cert.Proof.Ref

open Cert.ReferenceIdeal Cert.ReferenceIdeal.Gen
open Idealize.ShloMosaic
open Idealize.ShloMosaic.TcCoe
open Idealize.SL.Sem
open Idealize.ShloMosaic.StableHlo (after afterL atTrip launchContents)

variable (m : (ℓ : Loc nD τ sig) → Buf (Elt Ideal) ℓ) (c : Dev nD)

/-- Layer 1: from its input to its result, where the direct terms add up. -/
theorem layer1 (a : Net) (H : Mat) (V V1 V2 V3 V4 V5 V6 V7 V8 V9 V10 V11 V12 V13 : Valuation τ sig (Elt Ideal))
    (e1 : V1 = StableHlo.after opsL1_1 V)
    (e2 : V2 = StableHlo.after opsL1_2 V1)
    (e3 : V3 = StableHlo.after opsL1_3 V2)
    (e4 : V4 = StableHlo.after opsL1_4 V3)
    (e5 : V5 = StableHlo.after opsL1_5 V4)
    (e6 : V6 = StableHlo.after opsL1_6 V5)
    (e7 : V7 = StableHlo.after opsL1_7 V6)
    (e8 : V8 = StableHlo.after opsL1_8 V7)
    (e9 : V9 = StableHlo.after opsL1_9 V8)
    (hE : E1 m c = V9)
    (e10 : V10 = StableHlo.after opsL1_10 (StableHlo.after opsW1_cond (K1 m 1024 c)))
    (e11 : V11 = StableHlo.after opsL1_11 (V10))
    (e12 : V12 = StableHlo.after opsL1_12 (V11))
    (e13 : V13 = StableHlo.after opsL1_13 (V12))
    (f : Fits V a)
    (hx : ∀ i : S2x32x32x384.Idx, V (Proc.devRef .tc main_v254) i = H ((i 0).val * 1024 + (i 1).val * 32 + (i 2).val) (i 3).val)
    (hD : ∀ b l d, (∑ k : Fin 4, a.ds 1 k.val d) * uS a 1 H b l d = ∑ k : Fin 4, a.ds 1 k.val d * uS a 1 H b l d) :
    ∀ i : S2x32x32x384.Idx, V13 (Proc.devRef .tc main_v472) i = layerS a 1 H ((i 0).val * 1024 + (i 1).val * 32 + (i 2).val) (i 3).val := by
  obtain ⟨w38, w40, w42, w44, w46, w48, w50, w52, w54, w56, w58, w60, w62⟩ :=
    st1_1 V a f.lnw f.lnb f.inw f.cw f.cb f.xpw f.dtw f.dtb f.al f.ds f.onw f.onb f.ow
  rw [← e1] at w38 w40 w42 w44 w46 w48 w50 w52 w54 w56 w58 w60 w62
  have x1 := (fun i => (congrFun ((opsL1_1_in.left e1 main_v254 (by decide))) i).trans (hx i))
  have g86 := st1_2 V1 H (a.lnw 1) (a.lnb 1) x1 w38 w40
  rw [← e2] at g86
  obtain ⟨g91, g90⟩ := st1_3 V2 (fun r => lnS 384 c384 (a.lnw 1) (a.lnb 1) (H r)) (a.inw 1) g86 (fun i => (congrFun ((opsL1_2_in.left e2 main_v260 (by decide))) i).trans (w42 i))
  rw [← e3] at g91 g90
  have g159 := st1_4 V3 (fun b l d => inS a 1 H (b * 1024 + l) d) (a.cw 1) (a.cb 1)
    (fun i => (g91 i).trans (congrArg (fun r => inS a 1 H r (i 1).val) (Nat.add_assoc _ _ _))) (fun i => (congrFun (((opsL1_3_in.left e3 main_v262 (by decide))).trans ((opsL1_2_in.left e2 main_v262 (by decide)))) i).trans (w44 i)) (fun i => (congrFun (((opsL1_3_in.left e3 main_v264 (by decide))).trans ((opsL1_2_in.left e2 main_v264 (by decide)))) i).trans (w46 i))
  rw [← e4] at g159
  have g160 := st1_5 V4 (fun b l d => convS (fun l d => inS a 1 H (b * 1024 + l) d) (fun t d => a.cw 1 d (t / 3) (t % 3)) (a.cb 1) l d) g159
  rw [← e5] at g160
  have g170 := st1_6 V5 (uS a 1 H) g160
  rw [← e6] at g170
  obtain ⟨g173, g174, g175⟩ := st1_7 V6 (fun b k => ordS (uS a 1 H b) k) (a.xpw 1) g170 (fun i => (congrFun ((((((opsL1_6_in.left e6 main_v266 (by decide))).trans ((opsL1_5_in.left e5 main_v266 (by decide)))).trans ((opsL1_4_in.left e4 main_v266 (by decide)))).trans ((opsL1_3_in.left e3 main_v266 (by decide)))).trans ((opsL1_2_in.left e2 main_v266 (by decide)))) i).trans (w48 i))
  rw [← e7] at g173 g174 g175
  have g181 := st1_8 V7 (fun b k l r => dotS 768 (a.xpw 1 k r) (ordS (uS a 1 H b) k l)) (a.dtw 1) (a.dtb 1) g173 (fun i => (congrFun (((((((opsL1_7_in.left e7 main_v268 (by decide))).trans ((opsL1_6_in.left e6 main_v268 (by decide)))).trans ((opsL1_5_in.left e5 main_v268 (by decide)))).trans ((opsL1_4_in.left e4 main_v268 (by decide)))).trans ((opsL1_3_in.left e3 main_v268 (by decide)))).trans ((opsL1_2_in.left e2 main_v268 (by decide)))) i).trans (w50 i)) (fun i => (congrFun (((((((opsL1_7_in.left e7 main_v270 (by decide))).trans ((opsL1_6_in.left e6 main_v270 (by decide)))).trans ((opsL1_5_in.left e5 main_v270 (by decide)))).trans ((opsL1_4_in.left e4 main_v270 (by decide)))).trans ((opsL1_3_in.left e3 main_v270 (by decide)))).trans ((opsL1_2_in.left e2 main_v270 (by decide)))) i).trans (w52 i))
  rw [← e8] at g181
  obtain ⟨d0, d1, d2, d3, d4, d6, u184, s191, d7⟩ := st1_9 V8 (fun b k => ordS (uS a 1 H b) k) (fun b k => dtR (ordS (uS a 1 H b) k) (a.xpw 1 k) (a.dtw 1 k) (a.dtb 1 k)) (fun b k l n => dotS 768 (a.xpw 1 k (24 + n)) (ordS (uS a 1 H b) k l)) (fun b k l n => dotS 768 (a.xpw 1 k (40 + n)) (ordS (uS a 1 H b) k l)) (a.al 1) (a.ds 1)
    (fun i => (congrFun (((opsL1_8_in.left e8 main_v388 (by decide))).trans ((opsL1_7_in.left e7 main_v388 (by decide)))) i).trans (g170 i)) g181 (fun i => (congrFun ((opsL1_8_in.left e8 main_v392 (by decide))) i).trans (g174 i)) (fun i => (congrFun ((opsL1_8_in.left e8 main_v393 (by decide))) i).trans (g175 i)) (fun i => (congrFun ((((((((opsL1_8_in.left e8 main_v272 (by decide))).trans ((opsL1_7_in.left e7 main_v272 (by decide)))).trans ((opsL1_6_in.left e6 main_v272 (by decide)))).trans ((opsL1_5_in.left e5 main_v272 (by decide)))).trans ((opsL1_4_in.left e4 main_v272 (by decide)))).trans ((opsL1_3_in.left e3 main_v272 (by decide)))).trans ((opsL1_2_in.left e2 main_v272 (by decide)))) i).trans (w54 i)) (fun i => (congrFun ((((((((opsL1_8_in.left e8 main_v274 (by decide))).trans ((opsL1_7_in.left e7 main_v274 (by decide)))).trans ((opsL1_6_in.left e6 main_v274 (by decide)))).trans ((opsL1_5_in.left e5 main_v274 (by decide)))).trans ((opsL1_4_in.left e4 main_v274 (by decide)))).trans ((opsL1_3_in.left e3 main_v274 (by decide)))).trans ((opsL1_2_in.left e2 main_v274 (by decide)))) i).trans (w56 i))
  rw [← e9, ← hE] at d0 d1 d2 d3 d4 d6 d7
  rw [← e9] at u184 s191
  have ys := K1_scan m c (fun g => dtR (ordS (uS a 1 H (g / 4)) (g % 4)) (a.xpw 1 (g % 4)) (a.dtw 1 (g % 4)) (a.dtb 1 (g % 4)))
    (fun g => ordS (uS a 1 H (g / 4)) (g % 4)) (fun g l n => dotS 768 (a.xpw 1 (g % 4) (24 + n)) (ordS (uS a 1 H (g / 4)) (g % 4) l))
    (fun g l n => dotS 768 (a.xpw 1 (g % 4) (40 + n)) (ordS (uS a 1 H (g / 4)) (g % 4) l)) (fun g d n => -Ideal.exp (a.al 1 (g % 4) d n))
    d0 d1 d2 d3 d4 d6 d7
  have g204 := st1_10 (StableHlo.after opsW1_cond (K1 m 1024 c)) (fun g => scanR (ordS (uS a 1 H (g / 4)) (g % 4)) (a.xpw 1 (g % 4)) (a.dtw 1 (g % 4)) (a.dtb 1 (g % 4)) (a.al 1 (g % 4)))
    (fun g => ordS (uS a 1 H (g / 4)) (g % 4)) (fun g d => a.ds 1 (g % 4) d) ys (fun i => (congrFun (((opsW1_cond_in.left rfl main_v402 (by decide)).trans (K1_keep m c main_v402 (by decide) 1024)).trans (congrArg (fun V : Valuation τ sig (Elt Ideal) => V (Proc.devRef .tc main_v402)) hE)) i).trans (u184 i)) (fun i => (congrFun (((opsW1_cond_in.left rfl main_v409 (by decide)).trans (K1_keep m c main_v409 (by decide) 1024)).trans (congrArg (fun V : Valuation τ sig (Elt Ideal) => V (Proc.devRef .tc main_v409)) hE)) i).trans (s191 i))
  rw [← e10] at g204
  have g225 := st1_11 V10 (termR a 1 H) (fun i => (g204 i).trans (by
    have k4 : ((i 0).val * 4 + (i 1).val) / 4 = (i 0).val := by have := (i 1).isLt; change (i 1).val < 4 at this; omega
    have k5 : ((i 0).val * 4 + (i 1).val) % 4 = (i 1).val := by have := (i 1).isLt; change (i 1).val < 4 at this; omega
    rw [k4, k5]
    rfl))
  rw [← e11] at g225
  have g249 := st1_12 V11 (mergeS a 1 H) (a.onw 1) (a.onb 1)
    (fun i => (g225 i).trans (merge_eq a 1 H (i 0).val (i 1).val (i 2).val (i 3).val (i 1).isLt (i 2).isLt (hD _ _ _))) (fun i => (congrFun (((((((((((opsL1_11_in.left e11 main_v276 (by decide))).trans ((((opsL1_10_in.left e10 main_v276 (by decide)).trans (opsW1_cond_in.left rfl main_v276 (by decide))).trans (K1_keep m c main_v276 (by decide) 1024)).trans (congrArg (fun V : Valuation τ sig (Elt Ideal) => V (Proc.devRef .tc main_v276)) hE))).trans ((opsL1_9_in.left e9 main_v276 (by decide)))).trans ((opsL1_8_in.left e8 main_v276 (by decide)))).trans ((opsL1_7_in.left e7 main_v276 (by decide)))).trans ((opsL1_6_in.left e6 main_v276 (by decide)))).trans ((opsL1_5_in.left e5 main_v276 (by decide)))).trans ((opsL1_4_in.left e4 main_v276 (by decide)))).trans ((opsL1_3_in.left e3 main_v276 (by decide)))).trans ((opsL1_2_in.left e2 main_v276 (by decide)))) i).trans (w58 i)) (fun i => (congrFun (((((((((((opsL1_11_in.left e11 main_v278 (by decide))).trans ((((opsL1_10_in.left e10 main_v278 (by decide)).trans (opsW1_cond_in.left rfl main_v278 (by decide))).trans (K1_keep m c main_v278 (by decide) 1024)).trans (congrArg (fun V : Valuation τ sig (Elt Ideal) => V (Proc.devRef .tc main_v278)) hE))).trans ((opsL1_9_in.left e9 main_v278 (by decide)))).trans ((opsL1_8_in.left e8 main_v278 (by decide)))).trans ((opsL1_7_in.left e7 main_v278 (by decide)))).trans ((opsL1_6_in.left e6 main_v278 (by decide)))).trans ((opsL1_5_in.left e5 main_v278 (by decide)))).trans ((opsL1_4_in.left e4 main_v278 (by decide)))).trans ((opsL1_3_in.left e3 main_v278 (by decide)))).trans ((opsL1_2_in.left e2 main_v278 (by decide)))) i).trans (w60 i))
  rw [← e12] at g249
  have r := st1_13 V12 (fun r => lnS 768 c768 (a.onw 1) (a.onb 1) (mergeS a 1 H r)) (fun r k => inS a 1 H r (768 + k)) H (a.ow 1)
    g249 (fun i => (congrFun ((((((((((opsL1_12_in.left e12 main_v308 (by decide))).trans ((opsL1_11_in.left e11 main_v308 (by decide)))).trans ((((opsL1_10_in.left e10 main_v308 (by decide)).trans (opsW1_cond_in.left rfl main_v308 (by decide))).trans (K1_keep m c main_v308 (by decide) 1024)).trans (congrArg (fun V : Valuation τ sig (Elt Ideal) => V (Proc.devRef .tc main_v308)) hE))).trans ((opsL1_9_in.left e9 main_v308 (by decide)))).trans ((opsL1_8_in.left e8 main_v308 (by decide)))).trans ((opsL1_7_in.left e7 main_v308 (by decide)))).trans ((opsL1_6_in.left e6 main_v308 (by decide)))).trans ((opsL1_5_in.left e5 main_v308 (by decide)))).trans ((opsL1_4_in.left e4 main_v308 (by decide)))) i).trans (g90 i)) (fun i => (congrFun (((((((((((((opsL1_12_in.left e12 main_v254 (by decide))).trans ((opsL1_11_in.left e11 main_v254 (by decide)))).trans ((((opsL1_10_in.left e10 main_v254 (by decide)).trans (opsW1_cond_in.left rfl main_v254 (by decide))).trans (K1_keep m c main_v254 (by decide) 1024)).trans (congrArg (fun V : Valuation τ sig (Elt Ideal) => V (Proc.devRef .tc main_v254)) hE))).trans ((opsL1_9_in.left e9 main_v254 (by decide)))).trans ((opsL1_8_in.left e8 main_v254 (by decide)))).trans ((opsL1_7_in.left e7 main_v254 (by decide)))).trans ((opsL1_6_in.left e6 main_v254 (by decide)))).trans ((opsL1_5_in.left e5 main_v254 (by decide)))).trans ((opsL1_4_in.left e4 main_v254 (by decide)))).trans ((opsL1_3_in.left e3 main_v254 (by decide)))).trans ((opsL1_2_in.left e2 main_v254 (by decide)))).trans ((opsL1_1_in.left e1 main_v254 (by decide)))) i).trans (hx i)) (fun i => (congrFun ((((((((((((opsL1_12_in.left e12 main_v280 (by decide))).trans ((opsL1_11_in.left e11 main_v280 (by decide)))).trans ((((opsL1_10_in.left e10 main_v280 (by decide)).trans (opsW1_cond_in.left rfl main_v280 (by decide))).trans (K1_keep m c main_v280 (by decide) 1024)).trans (congrArg (fun V : Valuation τ sig (Elt Ideal) => V (Proc.devRef .tc main_v280)) hE))).trans ((opsL1_9_in.left e9 main_v280 (by decide)))).trans ((opsL1_8_in.left e8 main_v280 (by decide)))).trans ((opsL1_7_in.left e7 main_v280 (by decide)))).trans ((opsL1_6_in.left e6 main_v280 (by decide)))).trans ((opsL1_5_in.left e5 main_v280 (by decide)))).trans ((opsL1_4_in.left e4 main_v280 (by decide)))).trans ((opsL1_3_in.left e3 main_v280 (by decide)))).trans ((opsL1_2_in.left e2 main_v280 (by decide)))) i).trans (w62 i))
  rw [← e13] at r
  exact r

end Cert.Proof.Ref
-- ==== Proof.RComp.lean ====
/-
  The reference's result as the network's.
-/
module

public import proofs.«01_k».proof.Proof.RA
public import proofs.«01_k».proof.Proof.RY0
public import proofs.«01_k».proof.Proof.RY1
public import Idealize.ShloMosaic.Lib.StableHlo.RunRead
public import Idealize.ShloMosaic.Lib.Pointwise
public import Idealize.ShloMosaic.Lib.Pipeline.ValueKit

@[expose] public section

set_option maxRecDepth 65536

noncomputable section

namespace Cert.Proof.Ref

open Cert.ReferenceIdeal Cert.ReferenceIdeal.Gen
open Idealize.ShloMosaic
open Idealize.ShloMosaic.TcCoe
open Idealize.SL.Sem
open Idealize.ShloMosaic.StableHlo (after afterL atTrip launchContents)

variable (m : (ℓ : Loc nD τ sig) → Buf (Elt Ideal) ℓ) (c : Dev nD)

/-- The first layer's input. -/
theorem first (a : Net) (V : Valuation τ sig (Elt Ideal)) (f : Fits V a) :
    ∀ i : S2x32x32x384.Idx, after opsA3 (after opsA2 (after opsA1 V)) (Proc.devRef .tc main_v36) i
      = h0S a ((i 0).val * 1024 + (i 1).val * 32 + (i 2).val) (i 3).val := by
  have g5 := stA1 V a.x a.pew f.x f.pew
  have f1 : Fits (after opsA1 V) a := f.after fun r hr => opsA1_in.keep V r (.inl (by omega))
  have g29 := stA2 (after opsA1 V) (fun b i j k => dotS 768 (fun t => a.x b t (i / 2) (j / 2)) (a.pew (i % 2 * 768 + j % 2 * 384 + k))) a.penw a.penb g5 f1.penw f1.penb
  have f2 : Fits (after opsA2 (after opsA1 V)) a := f1.after fun r hr => opsA2_in.keep _ r (.inl (by omega))
  have g36 := stA3 (after opsA2 (after opsA1 V)) (fun b i j k => lnS 384 c384 a.penw a.penb (fun k => dotS 768 (fun t => a.x b t (i / 2) (j / 2)) (a.pew (i % 2 * 768 + j % 2 * 384 + k))) k)
    a.skip a.lpw a.lpb g29 f2.skip f2.lpw f2.lpb
  intro i
  refine (g36 i).trans ?_
  have h0 := (i 0).isLt
  have h1 := (i 1).isLt
  have h2 := (i 2).isLt
  change (i 0).val < 2 at h0
  change (i 1).val < 32 at h1
  change (i 2).val < 32 at h2
  generalize (i 0).val = b at *
  generalize (i 1).val = y at *
  generalize (i 2).val = x at *
  unfold h0S peS skS segS xrowS
  dsimp only
  rw [show ((b * 1024 + y * 32 + x) / 1024 * 256 + (b * 1024 + y * 32 + x) / 64 % 16 * 16 + (b * 1024 + y * 32 + x) / 2 % 16) / 256 = b by omega,
    show ((b * 1024 + y * 32 + x) / 1024 * 256 + (b * 1024 + y * 32 + x) / 64 % 16 * 16 + (b * 1024 + y * 32 + x) / 2 % 16) / 16 % 16 = y / 2 by omega,
    show ((b * 1024 + y * 32 + x) / 1024 * 256 + (b * 1024 + y * 32 + x) / 64 % 16 * 16 + (b * 1024 + y * 32 + x) / 2 % 16) % 16 = x / 2 by omega,
    show (b * 1024 + y * 32 + x) / 32 % 2 = y % 2 by omega, show (b * 1024 + y * 32 + x) % 2 = x % 2 by omega,
    show (b * 1024 + y * 32 + x) / 1024 = b by omega, show (b * 1024 + y * 32 + x) / 32 % 32 = y by omega, show (b * 1024 + y * 32 + x) % 32 = x by omega]

/-- The reference computes the network, where each layer's direct terms add up. -/
theorem result (a : Net) (f : Fits (launchContents m c) a)
    (hD0 : ∀ b l d, (∑ k : Fin 4, a.ds 0 k.val d) * uS a 0 (h0S a) b l d = ∑ k : Fin 4, a.ds 0 k.val d * uS a 0 (h0S a) b l d)
    (hD1 : ∀ b l d, (∑ k : Fin 4, a.ds 1 k.val d) * uS a 1 (layerS a 0 (h0S a)) b l d = ∑ k : Fin 4, a.ds 1 k.val d * uS a 1 (layerS a 0 (h0S a)) b l d) :
    ∀ i : S2x384x32x32.Idx, E2 m c (Proc.devRef .tc main_v473) i = netS a (i 0).val (i 1).val (i 2).val (i 3).val := by
  have fA : Fits (after opsA3 (after opsA2 (after opsA1 (launchContents m c)))) a := f.after fun r hr => by
    rw [opsA3_in.keep _ r (.inl (by omega)), opsA2_in.keep _ r (.inl (by omega)), opsA1_in.keep _ r (.inl (by omega))]
  have l0 := layer0 m c a (h0S a) _ _ _ _ _ _ _ _ _ _ _ _ _ _ rfl rfl rfl rfl rfl rfl rfl rfl rfl rfl rfl rfl rfl rfl fA (first a _ f) hD0
  have fB : Fits (after opsL0_13 (after opsL0_12 (after opsL0_11 (after opsL0_10 (after opsW0_cond (K0 m 1024 c)))))) a := f.after fun r hr => by
    rw [opsL0_13_in.keep _ r (.inl (by omega)), opsL0_12_in.keep _ r (.inl (by omega)), opsL0_11_in.keep _ r (.inl (by omega)),
      opsL0_10_in.keep _ r (.inl (by omega)), opsW0_cond_in.keep _ r (.inl (by omega)), K0_keep m c r (by omega), E0_arg m c r hr]
  have l1 := layer1 m c a (layerS a 0 (h0S a)) _ _ _ _ _ _ _ _ _ _ _ _ _ _ rfl rfl rfl rfl rfl rfl rfl rfl rfl rfl rfl rfl rfl rfl fB l0 hD1
  exact stZ _ (layerS a 1 (layerS a 0 (h0S a))) l1

end Cert.Proof.Ref
-- ==== Proof.Fin.lean ====
/-
  Finite arguments make every value of the network a real number, so its direct terms add up.
-/
module

public import proofs.«01_k».proof.Proof.RMath

@[expose] public section

noncomputable section

namespace Cert.Proof

open Idealize.ShloMosaic

/-- A real number among the extended reals. -/
def Fi (x : EReal) : Prop := ∃ r : ℝ, x = r

/-- A real number is real, -/
theorem Fi.coe (r : ℝ) : Fi r := ⟨r, rfl⟩
/-- so is zero, -/
theorem Fi.zero : Fi 0 := ⟨0, rfl⟩
/-- a sum, -/
theorem Fi.add {x y : EReal} : Fi x → Fi y → Fi (x + y)
  | ⟨r, h⟩, ⟨s, k⟩ => ⟨r + s, by rw [h, k, EReal.coe_add]⟩
/-- a negation, -/
theorem Fi.neg {x : EReal} : Fi x → Fi (-x)
  | ⟨r, h⟩ => ⟨-r, by rw [h, EReal.coe_neg]⟩
/-- a difference, -/
theorem Fi.sub {x y : EReal} (h : Fi x) (k : Fi y) : Fi (x - y) := by
  rw [sub_eq_add_neg]
  exact h.add k.neg
/-- a product, -/
theorem Fi.mul {x y : EReal} : Fi x → Fi y → Fi (x * y)
  | ⟨r, h⟩, ⟨s, k⟩ => ⟨r * s, by rw [h, k, EReal.coe_mul]⟩
/-- a maximum, -/
theorem Fi.max {x y : EReal} (h : Fi x) (k : Fi y) : Fi (max x y) := by
  rcases max_choice x y with e | e <;> rw [e] <;> assumption
/-- an exponential, -/
theorem Fi.exp {x : EReal} : Fi x → Fi (Ideal.exp x)
  | ⟨r, h⟩ => ⟨Real.exp r, by rw [h, Ideal.exp_coe]⟩
/-- A sum of real numbers is one. -/
theorem Fi.sum {n : ℕ} {f : Fin n → EReal} (h : ∀ k, Fi (f k)) : Fi (∑ k, f k) :=
  Finset.sum_induction f Fi (fun _ _ => Fi.add) Fi.zero fun k _ => h k
/-- A quotient of real numbers is one where the divisor is positive. -/
theorem Fi.div {x y : EReal} : Fi x → Fi y → 0 < y → Fi (Ideal.div x y)
  | ⟨r, h⟩, ⟨s, k⟩, p => ⟨r * s⁻¹, by
    unfold Ideal.div
    rw [if_neg p.ne', h, k, EReal.coe_mul, EReal.coe_inv]⟩
/-- The reciprocal square root of a positive real number is real. -/
theorem Fi.rsqrt {x : EReal} : Fi x → 0 < x → Fi (Ideal.rsqrt x)
  | ⟨r, h⟩, p => ⟨(Real.sqrt r)⁻¹, by
    subst h
    have q : 0 < r := by exact_mod_cast p
    show (if r < 0 then (⊥ : EReal) else if r = 0 then ⊤ else ((Real.sqrt r)⁻¹ : ℝ)) = _
    rw [if_neg (by linarith), if_neg q.ne']⟩
/-- The logarithm of a positive real number is real. -/
theorem Fi.log {x : EReal} : Fi x → 0 < x → Fi (Ideal.log x)
  | ⟨r, h⟩, p => ⟨Real.log r, by
    subst h
    have q : 0 < r := by exact_mod_cast p
    show (if r ≤ 0 then (⊥ : EReal) else (Real.log r : EReal)) = _
    rw [if_neg (by linarith)]⟩
/-- and one. -/
theorem Fi.one : Fi 1 := ⟨1, rfl⟩

/-- The word for 384, -/
theorem c384_eq : c384 = ((384 : ℝ) : EReal) := by simp [Ideal.ofBits, Ideal.ieee, -EReal.coe_mul]; norm_num
/-- the word for 768, -/
theorem c768_eq : c768 = ((768 : ℝ) : EReal) := by simp [Ideal.ofBits, Ideal.ieee, -EReal.coe_mul]; norm_num
/-- and that for the norm's guard, a positive real. -/
theorem cEps_eq : ∃ r : ℝ, 0 < r ∧ cEps = (r : EReal) := by
  refine ⟨(10995116 : ℝ) * 2 ^ (-40 : ℤ), by positivity, ?_⟩
  simp [Ideal.ofBits, Ideal.ieee, -EReal.coe_mul]

/-- A product of real rows is real. -/
theorem Fi.dot {K : ℕ} {x w : ℕ → EReal} (hx : ∀ k, Fi (x k)) (hw : ∀ k, Fi (w k)) : Fi (dotS K x w) :=
  Fi.sum fun k => (hx k.val).mul (hw k.val)

/-- A square of a real number is not negative. -/
theorem Fi.sq_nonneg {x : EReal} : Fi x → 0 ≤ x * x
  | ⟨r, h⟩ => by
    rw [h, ← EReal.coe_mul]
    exact_mod_cast mul_self_nonneg r

/-- The norm of a real row is real. -/
theorem Fi.ln {n : ℕ} {cn : EReal} {w b x : ℕ → EReal} (hc : Fi cn) (hp : 0 < cn) (hw : ∀ k, Fi (w k)) (hb : ∀ k, Fi (b k)) (hx : ∀ k, Fi (x k))
    (c : ℕ) : Fi (lnS n cn w b x c) := by
  have hm : Fi (meanS n cn x) := (Fi.sum fun k => hx k.val).div hc hp
  have hd : ∀ k, Fi (x k - meanS n cn x) := fun k => (hx k).sub hm
  have hs : Fi (∑ k : Fin n, (x k.val - meanS n cn x) * (x k.val - meanS n cn x)) := Fi.sum fun k => (hd k.val).mul (hd k.val)
  have hv : Fi (varS n cn x) := hs.div hc hp
  have h0 : 0 ≤ varS n cn x := by
    obtain ⟨s, es⟩ := hs
    obtain ⟨t, et⟩ := hc
    have hn : 0 ≤ ∑ k : Fin n, (x k.val - meanS n cn x) * (x k.val - meanS n cn x) := Finset.sum_nonneg fun k _ => (hd k.val).sq_nonneg
    unfold varS Ideal.div
    rw [if_neg hp.ne', es, et, ← EReal.coe_inv, ← EReal.coe_mul]
    rw [es] at hn
    rw [et] at hp
    have a1 : 0 ≤ s := by exact_mod_cast hn
    have a2 : 0 < t := by exact_mod_cast hp
    exact_mod_cast mul_nonneg a1 (inv_pos.mpr a2).le
  obtain ⟨e, pe, ee⟩ := cEps_eq
  have he : Fi (varS n cn x + cEps) := hv.add ⟨e, ee⟩
  have hq : 0 < varS n cn x + cEps := by
    have : (0 : EReal) < cEps := by rw [ee]; exact_mod_cast pe
    exact lt_of_lt_of_le this (le_add_of_nonneg_left h0)
  exact (((hd c).mul (he.rsqrt hq)).mul (hw c)).add (hb c)

/-- So is the activation, -/
theorem Fi.silu {x : EReal} (h : Fi x) : Fi (siluS x) := h.div (Fi.one.add h.neg.exp) (one_add_exp_pos _)
/-- and the step size's. -/
theorem Fi.softplus {x : EReal} (h : Fi x) : Fi (softplusS x) :=
  (h.max Fi.zero).add ((Fi.one.add (h.max h.neg).neg.exp).log (one_add_exp_pos _))
/-- A shifted row of a real image is real. -/
theorem Fi.tap {X : Mat} (h : ∀ l d, Fi (X l d)) (l i j d : ℕ) : Fi (tapS X l i j d) := by
  unfold tapS
  split_ifs
  · exact h _ _
  · exact Fi.zero
/-- So is its convolution. -/
theorem Fi.conv {X w : Mat} {b : ℕ → EReal} (h : ∀ l d, Fi (X l d)) (hw : ∀ t d, Fi (w t d)) (hb : ∀ d, Fi (b d)) (l d : ℕ) : Fi (convS X w b l d) := by
  unfold convS
  have t : ∀ s i j, Fi (w s d * tapS X l i j d) := fun s i j => (hw s d).mul (Fi.tap h l i j d)
  exact (((((((((hb d).add (t _ _ _)).add (t _ _ _)).add (t _ _ _)).add (t _ _ _)).add (t _ _ _)).add (t _ _ _)).add (t _ _ _)).add (t _ _ _)).add (t _ _ _)
/-- A scan of real decays and gains is real. -/
theorem Fi.state {a g : ℕ → ℕ → ℕ → EReal} (ha : ∀ l n d, Fi (a l n d)) (hg : ∀ l n d, Fi (g l n d)) (l n d : ℕ) : Fi (recS a g (fun _ _ => 0) l n d) := by
  induction l generalizing n d with
  | zero => exact Fi.zero
  | succ l ih => exact ((ha l n d).mul (ih n d)).add (hg l n d)

/-- A scan of real rows is real. -/
theorem Fi.scan {U XW DTW AL : Mat} {DTB : ℕ → EReal} (b : ℕ) (hu : ∀ l d, Fi (U l d)) (hx : ∀ k d, Fi (XW k d)) (hw : ∀ d k, Fi (DTW d k))
    (hb : ∀ d, Fi (DTB d)) (ha : ∀ n d, Fi (AL n d)) (l d : ℕ) : Fi (scanE b U XW DTW DTB AL l d) := by
  have t : ∀ l d, Fi (dtE U XW DTW DTB l d) := fun l d => ((Fi.dot (fun _ => Fi.dot (hu l) (hx _)) (hw d)).add (hb d)).softplus
  unfold scanE
  refine Fi.sum fun n => Fi.mul (Fi.state (fun l n d => ?_) (fun l n d => ?_) _ _ _) (Fi.dot (hu _) (hx _))
  · exact ((t _ _).mul (ha n d).exp.neg).exp
  · exact (Fi.dot (hu _) (hx _)).mul ((t _ _).mul (hu _ _))

/-- Every argument is real. -/
structure AllReal (a : Net) : Prop where
  x : ∀ i j k l, Fi (a.x i j k l)
  skip : ∀ i j k l, Fi (a.skip i j k l)
  pew : ∀ i j, Fi (a.pew i j)
  penw : ∀ i, Fi (a.penw i)
  penb : ∀ i, Fi (a.penb i)
  lpw : ∀ i j, Fi (a.lpw i j)
  lpb : ∀ i, Fi (a.lpb i)
  lnw : ∀ i j, Fi (a.lnw i j)
  lnb : ∀ i j, Fi (a.lnb i j)
  inw : ∀ i j k, Fi (a.inw i j k)
  cw : ∀ i j k l, Fi (a.cw i j k l)
  cb : ∀ i j, Fi (a.cb i j)
  xpw : ∀ i j k l, Fi (a.xpw i j k l)
  dtw : ∀ i j k l, Fi (a.dtw i j k l)
  dtb : ∀ i j k, Fi (a.dtb i j k)
  al : ∀ i j k l, Fi (a.al i j k l)
  ds : ∀ i j k, Fi (a.ds i j k)
  onw : ∀ i j, Fi (a.onw i j)
  onb : ∀ i j, Fi (a.onb i j)
  ow : ∀ i j k, Fi (a.ow i j k)

/-- The width 384 is real, -/
theorem Fi.c384 : Fi c384 := ⟨384, c384_eq⟩
/-- so is 768, -/
theorem Fi.c768 : Fi c768 := ⟨768, c768_eq⟩
/-- the width 384 is positive, -/
theorem c384_pos : 0 < c384 := by rw [c384_eq]; exact_mod_cast (by norm_num : (0 : ℝ) < 384)
/-- so is 768. -/
theorem c768_pos : 0 < c768 := by rw [c768_eq]; exact_mod_cast (by norm_num : (0 : ℝ) < 768)

variable {a : Net} (r : AllReal a)
include r

/-- The first layer's input is real. -/
theorem AllReal.h0 (R c : ℕ) : Fi (h0S a R c) := by
  have q : ∀ S o k, Fi (segS a S o k) := fun S o k => by
    unfold segS
    exact Fi.ln Fi.c384 c384_pos r.penw r.penb (fun _ => Fi.dot (fun _ => r.x _ _ _ _) fun _ => r.pew _ _) k
  have p : ∀ k, Fi (peS a R k) := fun k => by
    unfold peS
    exact q _ _ k
  unfold h0S
  exact ((Fi.dot p fun _ => r.lpw _ _).add (Fi.dot (fun _ => r.skip _ _ _ _) fun _ => r.lpw _ _)).add (r.lpb c)

variable {H : Mat} (h : ∀ R c, Fi (H R c))
include h

/-- A layer's input projection is real, -/
theorem AllReal.inS (L R k : ℕ) : Fi (inS a L H R k) :=
  Fi.dot (fun _ => Fi.ln Fi.c384 c384_pos (r.lnw L) (r.lnb L) (h R) _) fun _ => r.inw _ _ _
/-- its scan input, -/
theorem AllReal.uS (L b l d : ℕ) : Fi (uS a L H b l d) :=
  (Fi.conv (fun _ _ => r.inS h L _ _) (fun _ _ => r.cw _ _ _ _) (r.cb L) l d).silu
/-- its scans -/
theorem AllReal.ysS (L b j l d : ℕ) : Fi (ysS a L H b j l d) := by
  have u : ∀ s l d, Fi (seqS a L H b s l d) := fun s l d => by
    unfold seqS
    split_ifs <;> exact r.uS h L b _ _
  unfold Proof.ysS
  exact Fi.scan _ (u _) (r.xpw _ _) (r.dtw _ _) (r.dtb _ _) (fun n d => r.al _ _ d n) l d
/-- and its result. -/
theorem AllReal.layer (L R c : ℕ) : Fi (layerS a L H R c) := by
  have m : ∀ k, Fi (mergeS a L H R k) := fun k =>
    (((r.ysS h L _ _ _ _).add (r.ysS h L _ _ _ _)).add ((r.ysS h L _ _ _ _).add (r.ysS h L _ _ _ _))).add
      ((Fi.sum fun _ => r.ds _ _ _).mul (r.uS h L _ _ _))
  exact (h R c).add (Fi.dot (fun k => (Fi.ln Fi.c768 c768_pos (r.onw L) (r.onb L) m k).mul (r.inS h L _ _).silu) fun _ => r.ow _ _ _)
/-- The direct terms add up. -/
theorem AllReal.direct (L b l d : ℕ) :
    (∑ k : Fin 4, a.ds L k.val d) * Proof.uS a L H b l d = ∑ k : Fin 4, a.ds L k.val d * Proof.uS a L H b l d := by
  obtain ⟨u, e⟩ := r.uS h L b l d
  have f : ∀ k : Fin 4, ∃ s : ℝ, a.ds L k.val d = s := fun k => r.ds L k.val d
  choose s hs using f
  rw [e]
  simp only [hs, Fin.sum_univ_four, ← EReal.coe_add, ← EReal.coe_mul, add_mul]

end Cert.Proof
-- ==== Proof.Alg.lean ====
/-
  The kernel computes its reference over the extended reals, on finite arguments.
-/
module

public import proofs.«01_k».proof.Defs
public import proofs.«01_k».proof.Proof.KComp
public import proofs.«01_k».proof.Proof.KRun
public import proofs.«01_k».proof.Proof.RComp
public import proofs.«01_k».proof.Proof.Fin

@[expose] public section

set_option maxRecDepth 65536

noncomputable section

namespace Cert.Proof

open Idealize.ShloMosaic
open Idealize.ShloMosaic.TcCoe
open Idealize.SL.Sem

/-- What the precondition's shapes satisfy. -/
theorem pre_facts : Cert.Pre_finite.Facts := by
  constructor <;> decide

/-- A value below infinity in size is a real number. -/
theorem fin_of {S : Shape} (x : FVec Ideal S .f32) (hb : (⟨0, ![]⟩ : Shape).BroadcastsInDim S ![])
    (h : cmpf .olt (Host.absf x) (broadcastInDim S ![] hb (constant (F := Ideal) ⟨0, ![]⟩ .f32 0x7F800000#32)) = fun _ => 1#1) (i : S.Idx) : Fi (x i) := by
  have t := congrFun h i
  have top : Ideal.ofBits .f32 0x7F800000#32 = ⊤ := by simp [Ideal.ofBits, Ideal.ieee]
  change Ideal.cmp .olt (max (x i : EReal) (-(x i : EReal))) (Ideal.ofBits .f32 0x7F800000#32) = 1#1 at t
  rw [top] at t
  have l : max (x i : EReal) (-(x i : EReal)) < ⊤ := by
    by_contra n
    simp [Ideal.cmp, n] at t
  rw [max_lt_iff] at l
  have a : (x i : EReal) ≠ ⊤ := l.1.ne
  have b : (x i : EReal) ≠ ⊥ := fun e => by
    have := l.2
    rw [e] at this
    simp at this
  exact ⟨(x i : EReal).toReal, (EReal.coe_toReal a b).symm⟩

section
variable {n0 n1 n2 n3 : ℕ}

/-- An array's entries by number, zero outside it: one axis, -/
def ext1 (x : (⟨1, ![n0]⟩ : Shape).Idx → EReal) (i : ℕ) : EReal :=
  if h : i < n0 then x (Fin.cons ⟨i, h⟩ finZeroElim) else 0
/-- two, -/
def ext2 (x : (⟨2, ![n0, n1]⟩ : Shape).Idx → EReal) (i j : ℕ) : EReal :=
  if h : i < n0 ∧ j < n1 then x (Fin.cons ⟨i, h.1⟩ (Fin.cons ⟨j, h.2⟩ finZeroElim)) else 0
/-- three, -/
def ext3 (x : (⟨3, ![n0, n1, n2]⟩ : Shape).Idx → EReal) (i j k : ℕ) : EReal :=
  if h : i < n0 ∧ j < n1 ∧ k < n2 then x (Fin.cons ⟨i, h.1⟩ (Fin.cons ⟨j, h.2.1⟩ (Fin.cons ⟨k, h.2.2⟩ finZeroElim))) else 0
/-- four. -/
def ext4 (x : (⟨4, ![n0, n1, n2, n3]⟩ : Shape).Idx → EReal) (i j k l : ℕ) : EReal :=
  if h : i < n0 ∧ j < n1 ∧ k < n2 ∧ l < n3 then
    x (Fin.cons ⟨i, h.1⟩ (Fin.cons ⟨j, h.2.1⟩ (Fin.cons ⟨k, h.2.2.1⟩ (Fin.cons ⟨l, h.2.2.2⟩ finZeroElim)))) else 0

/-- The entry by its numbers, one axis. -/
theorem ext1_at (x : (⟨1, ![n0]⟩ : Shape).Idx → EReal) (i : (⟨1, ![n0]⟩ : Shape).Idx) : x i = ext1 x (i 0).val := by
  unfold ext1
  have l : (i 0).val < n0 := (i 0).isLt
  rw [dif_pos l]
  congr 1
  funext k
  fin_cases k <;> rfl
/-- Real entries stay so by number, one axis. -/
theorem ext1_fi {x : (⟨1, ![n0]⟩ : Shape).Idx → EReal} (h : ∀ i, Fi (x i)) (i : ℕ) : Fi (ext1 x i) := by
  unfold ext1
  split_ifs
  · exact h _
  · exact Fi.zero
/-- The entry by its numbers, two axes. -/
theorem ext2_at (x : (⟨2, ![n0, n1]⟩ : Shape).Idx → EReal) (i : (⟨2, ![n0, n1]⟩ : Shape).Idx) : x i = ext2 x (i 0).val (i 1).val := by
  unfold ext2
  rw [dif_pos ⟨(i 0).isLt, (i 1).isLt⟩]
  congr 1
  funext k
  fin_cases k <;> rfl
/-- Real entries stay so by number, two axes. -/
theorem ext2_fi {x : (⟨2, ![n0, n1]⟩ : Shape).Idx → EReal} (h : ∀ i, Fi (x i)) (i j : ℕ) : Fi (ext2 x i j) := by
  unfold ext2
  split_ifs
  · exact h _
  · exact Fi.zero
/-- The entry by its numbers, three axes. -/
theorem ext3_at (x : (⟨3, ![n0, n1, n2]⟩ : Shape).Idx → EReal) (i : (⟨3, ![n0, n1, n2]⟩ : Shape).Idx) : x i = ext3 x (i 0).val (i 1).val (i 2).val := by
  unfold ext3
  rw [dif_pos ⟨(i 0).isLt, (i 1).isLt, (i 2).isLt⟩]
  congr 1
  funext k
  fin_cases k <;> rfl
/-- Real entries stay so by number, three axes. -/
theorem ext3_fi {x : (⟨3, ![n0, n1, n2]⟩ : Shape).Idx → EReal} (h : ∀ i, Fi (x i)) (i j k : ℕ) : Fi (ext3 x i j k) := by
  unfold ext3
  split_ifs
  · exact h _
  · exact Fi.zero
/-- The entry by its numbers, four axes. -/
theorem ext4_at (x : (⟨4, ![n0, n1, n2, n3]⟩ : Shape).Idx → EReal) (i : (⟨4, ![n0, n1, n2, n3]⟩ : Shape).Idx) : x i = ext4 x (i 0).val (i 1).val (i 2).val (i 3).val := by
  unfold ext4
  rw [dif_pos ⟨(i 0).isLt, (i 1).isLt, (i 2).isLt, (i 3).isLt⟩]
  congr 1
  funext k
  fin_cases k <;> rfl
/-- Real entries stay so by number, four axes. -/
theorem ext4_fi {x : (⟨4, ![n0, n1, n2, n3]⟩ : Shape).Idx → EReal} (h : ∀ i, Fi (x i)) (i j k l : ℕ) : Fi (ext4 x i j k l) := by
  unfold ext4
  split_ifs
  · exact h _
  · exact Fi.zero

/-- An array equal to one is that one by number, one axis. -/
theorem fit1 {f g : (⟨1, ![n0]⟩ : Shape).Idx → EReal} (h : f = g) (i : (⟨1, ![n0]⟩ : Shape).Idx) : f i = ext1 g (i 0).val :=
  (congrFun h i).trans (ext1_at g i)
/-- An array equal to one is that one by number, two axes. -/
theorem fit2 {f g : (⟨2, ![n0, n1]⟩ : Shape).Idx → EReal} (h : f = g) (i : (⟨2, ![n0, n1]⟩ : Shape).Idx) : f i = ext2 g (i 0).val (i 1).val :=
  (congrFun h i).trans (ext2_at g i)
/-- An array equal to one is that one by number, three axes. -/
theorem fit3 {f g : (⟨3, ![n0, n1, n2]⟩ : Shape).Idx → EReal} (h : f = g) (i : (⟨3, ![n0, n1, n2]⟩ : Shape).Idx) : f i = ext3 g (i 0).val (i 1).val (i 2).val :=
  (congrFun h i).trans (ext3_at g i)
/-- An array equal to one is that one by number, four axes. -/
theorem fit4 {f g : (⟨4, ![n0, n1, n2, n3]⟩ : Shape).Idx → EReal} (h : f = g) (i : (⟨4, ![n0, n1, n2, n3]⟩ : Shape).Idx) : f i = ext4 g (i 0).val (i 1).val (i 2).val (i 3).val :=
  (congrFun h i).trans (ext4_at g i)

end

/-- The network of the kernel's arguments. -/
def netOf (m : (ℓ : Loc KernelIdeal.nD KernelIdeal.τ KernelIdeal.sig) → Buf (Elt Ideal) ℓ) (c : Dev KernelIdeal.nD) : Net where
  x := ext4 (m (c.tc.loc KernelIdeal.main_arg0))
  skip := ext4 (m (c.tc.loc KernelIdeal.main_arg1))
  pew := ext2 (m (c.tc.loc KernelIdeal.main_arg2))
  penw := ext1 (m (c.tc.loc KernelIdeal.main_arg3))
  penb := ext1 (m (c.tc.loc KernelIdeal.main_arg4))
  lpw := ext2 (m (c.tc.loc KernelIdeal.main_arg5))
  lpb := ext1 (m (c.tc.loc KernelIdeal.main_arg6))
  lnw := ext2 (m (c.tc.loc KernelIdeal.main_arg7))
  lnb := ext2 (m (c.tc.loc KernelIdeal.main_arg8))
  inw := ext3 (m (c.tc.loc KernelIdeal.main_arg9))
  cw := ext4 (m (c.tc.loc KernelIdeal.main_arg10))
  cb := ext2 (m (c.tc.loc KernelIdeal.main_arg11))
  xpw := ext4 (m (c.tc.loc KernelIdeal.main_arg12))
  dtw := ext4 (m (c.tc.loc KernelIdeal.main_arg13))
  dtb := ext3 (m (c.tc.loc KernelIdeal.main_arg14))
  al := ext4 (m (c.tc.loc KernelIdeal.main_arg15))
  ds := ext3 (m (c.tc.loc KernelIdeal.main_arg16))
  onw := ext2 (m (c.tc.loc KernelIdeal.main_arg17))
  onb := ext2 (m (c.tc.loc KernelIdeal.main_arg18))
  ow := ext3 (m (c.tc.loc KernelIdeal.main_arg19))

section
variable (m : (ℓ : Loc KernelIdeal.nD KernelIdeal.τ KernelIdeal.sig) → Buf (Elt Ideal) ℓ)
  (c : Dev KernelIdeal.nD)

/-- The kernel's memory holds it. -/
theorem ker_fits : Ker.Fits m c (netOf m c) where
  x := fun i => ext4_at _ i
  skip := fun i => ext4_at _ i
  pew := fun i => ext2_at _ i
  penw := fun i => ext1_at _ i
  penb := fun i => ext1_at _ i
  lpw := fun i => ext2_at _ i
  lpb := fun i => ext1_at _ i
  lnw := fun i => ext2_at _ i
  lnb := fun i => ext2_at _ i
  inw := fun i => ext3_at _ i
  cw := fun i => ext4_at _ i
  cb := fun i => ext2_at _ i
  xpw := fun i => ext4_at _ i
  dtw := fun i => ext4_at _ i
  dtb := fun i => ext3_at _ i
  al := fun i => ext4_at _ i
  ds := fun i => ext3_at _ i
  onw := fun i => ext2_at _ i
  onb := fun i => ext2_at _ i
  ow := fun i => ext3_at _ i

/-- Under the precondition its entries are real. -/
theorem net_real (h : Cert.Pre_KernelIdeal_finite (hPre_finite := pre_facts) m) : AllReal (netOf m c) := by
  obtain ⟨h0, h1, h2, h3, h4, h5, h6, h7, h8, h9, h10, h11, h12, h13, h14, h15, h16, h17, h18, h19⟩ := h c
  constructor
  · exact ext4_fi (fin_of _ _ h0)
  · exact ext4_fi (fin_of _ _ h1)
  · exact ext2_fi (fin_of _ _ h2)
  · exact ext1_fi (fin_of _ _ h3)
  · exact ext1_fi (fin_of _ _ h4)
  · exact ext2_fi (fin_of _ _ h5)
  · exact ext1_fi (fin_of _ _ h6)
  · exact ext2_fi (fin_of _ _ h7)
  · exact ext2_fi (fin_of _ _ h8)
  · exact ext3_fi (fin_of _ _ h9)
  · exact ext4_fi (fin_of _ _ h10)
  · exact ext2_fi (fin_of _ _ h11)
  · exact ext4_fi (fin_of _ _ h12)
  · exact ext4_fi (fin_of _ _ h13)
  · exact ext3_fi (fin_of _ _ h14)
  · exact ext4_fi (fin_of _ _ h15)
  · exact ext3_fi (fin_of _ _ h16)
  · exact ext2_fi (fin_of _ _ h17)
  · exact ext2_fi (fin_of _ _ h18)
  · exact ext3_fi (fin_of _ _ h19)

end

/-- Where both hold it, and its entries are real, they end with the same array. -/
theorem same (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD) (g : Dev KernelIdeal.nD → PrngReg)
    (r : AllReal (netOf m c)) (f : Ref.Fits (StableHlo.launchContents m' c) (netOf m c)) (i : (⟨4, ![2, 384, 32, 32]⟩ : Shape).Idx) :
    Ref.E2 m' c (Proc.devRef .tc ReferenceIdeal.main_v473) i = KernelIdeal.Gen.W21 m g c (Proc.devRef .tc KernelIdeal.main_v139) i :=
  (Ref.result m' c _ f (r.direct r.h0 0) (r.direct (r.layer r.h0 0) 1) i).trans (Ker.at21 g (ker_fits m c) i).symm

/-- The kernel runs, and its result is what its last stretch leaves. -/
theorem ker_ends (m : (ℓ : Loc KernelIdeal.nD KernelIdeal.τ KernelIdeal.sig) → Buf (Elt Ideal) ℓ) (ρ : Dev KernelIdeal.nD → PrngReg) :
    θ_run (KernelIdeal.defs (F := Ideal)) (onTc (τ := KernelIdeal.τ) (KernelIdeal.main (F := Ideal))) ⟨m, fun _ => 0, ρ⟩ (fun r => ∀ c : Dev KernelIdeal.nD,
      r.2.mem ((c.tc : Thread KernelIdeal.nD KernelIdeal.τ).loc KernelIdeal.main_v139) = KernelIdeal.Gen.W21 m ρ c (Proc.devRef .tc KernelIdeal.main_v139)
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4)
      ∧ r.2.mem ((c.tc : Thread KernelIdeal.nD KernelIdeal.τ).loc KernelIdeal.main_arg5) = m ((c.tc : Thread KernelIdeal.nD KernelIdeal.τ).loc KernelIdeal.main_arg5)
      ∧ r.2.mem ((c.tc : Thread KernelIdeal.nD KernelIdeal.τ).loc KernelIdeal.main_arg6) = m ((c.tc : Thread KernelIdeal.nD KernelIdeal.τ).loc KernelIdeal.main_arg6)
      ∧ r.2.mem ((c.tc : Thread KernelIdeal.nD KernelIdeal.τ).loc KernelIdeal.main_arg7) = m ((c.tc : Thread KernelIdeal.nD KernelIdeal.τ).loc KernelIdeal.main_arg7)
      ∧ r.2.mem ((c.tc : Thread KernelIdeal.nD KernelIdeal.τ).loc KernelIdeal.main_arg8) = m ((c.tc : Thread KernelIdeal.nD KernelIdeal.τ).loc KernelIdeal.main_arg8)
      ∧ r.2.mem ((c.tc : Thread KernelIdeal.nD KernelIdeal.τ).loc KernelIdeal.main_arg9) = m ((c.tc : Thread KernelIdeal.nD KernelIdeal.τ).loc KernelIdeal.main_arg9)
      ∧ r.2.mem ((c.tc : Thread KernelIdeal.nD KernelIdeal.τ).loc KernelIdeal.main_arg10) = m ((c.tc : Thread KernelIdeal.nD KernelIdeal.τ).loc KernelIdeal.main_arg10)
      ∧ r.2.mem ((c.tc : Thread KernelIdeal.nD KernelIdeal.τ).loc KernelIdeal.main_arg11) = m ((c.tc : Thread KernelIdeal.nD KernelIdeal.τ).loc KernelIdeal.main_arg11)
      ∧ r.2.mem ((c.tc : Thread KernelIdeal.nD KernelIdeal.τ).loc KernelIdeal.main_arg12) = m ((c.tc : Thread KernelIdeal.nD KernelIdeal.τ).loc KernelIdeal.main_arg12)
      ∧ r.2.mem ((c.tc : Thread KernelIdeal.nD KernelIdeal.τ).loc KernelIdeal.main_arg13) = m ((c.tc : Thread KernelIdeal.nD KernelIdeal.τ).loc KernelIdeal.main_arg13)
      ∧ r.2.mem ((c.tc : Thread KernelIdeal.nD KernelIdeal.τ).loc KernelIdeal.main_arg14) = m ((c.tc : Thread KernelIdeal.nD KernelIdeal.τ).loc KernelIdeal.main_arg14)
      ∧ r.2.mem ((c.tc : Thread KernelIdeal.nD KernelIdeal.τ).loc KernelIdeal.main_arg15) = m ((c.tc : Thread KernelIdeal.nD KernelIdeal.τ).loc KernelIdeal.main_arg15)
      ∧ r.2.mem ((c.tc : Thread KernelIdeal.nD KernelIdeal.τ).loc KernelIdeal.main_arg16) = m ((c.tc : Thread KernelIdeal.nD KernelIdeal.τ).loc KernelIdeal.main_arg16)
      ∧ r.2.mem ((c.tc : Thread KernelIdeal.nD KernelIdeal.τ).loc KernelIdeal.main_arg17) = m ((c.tc : Thread KernelIdeal.nD KernelIdeal.τ).loc KernelIdeal.main_arg17)
      ∧ r.2.mem ((c.tc : Thread KernelIdeal.nD KernelIdeal.τ).loc KernelIdeal.main_arg18) = m ((c.tc : Thread KernelIdeal.nD KernelIdeal.τ).loc KernelIdeal.main_arg18)
      ∧ r.2.mem ((c.tc : Thread KernelIdeal.nD KernelIdeal.τ).loc KernelIdeal.main_arg19) = m ((c.tc : Thread KernelIdeal.nD KernelIdeal.τ).loc KernelIdeal.main_arg19)) :=
  (θ_run (KernelIdeal.defs (F := Ideal)) (onTc (τ := KernelIdeal.τ) (KernelIdeal.main (F := Ideal))) _).mono (fun _ h c => ⟨h c _ (KernelIdeal.Gen.mem_uc KernelIdeal.main_v139 (by decide)),
    (h c _ (KernelIdeal.Gen.mem_uc KernelIdeal.main_arg0 (by decide))).trans (KernelIdeal.Gen.W21_main_arg0 m ρ c), (h c _ (KernelIdeal.Gen.mem_uc KernelIdeal.main_arg1 (by decide))).trans (KernelIdeal.Gen.W21_main_arg1 m ρ c), (h c _ (KernelIdeal.Gen.mem_uc KernelIdeal.main_arg2 (by decide))).trans (KernelIdeal.Gen.W21_main_arg2 m ρ c), (h c _ (KernelIdeal.Gen.mem_uc KernelIdeal.main_arg3 (by decide))).trans (KernelIdeal.Gen.W21_main_arg3 m ρ c), (h c _ (KernelIdeal.Gen.mem_uc KernelIdeal.main_arg4 (by decide))).trans (KernelIdeal.Gen.W21_main_arg4 m ρ c), (h c _ (KernelIdeal.Gen.mem_uc KernelIdeal.main_arg5 (by decide))).trans (KernelIdeal.Gen.W21_main_arg5 m ρ c), (h c _ (KernelIdeal.Gen.mem_uc KernelIdeal.main_arg6 (by decide))).trans (KernelIdeal.Gen.W21_main_arg6 m ρ c), (h c _ (KernelIdeal.Gen.mem_uc KernelIdeal.main_arg7 (by decide))).trans (KernelIdeal.Gen.W21_main_arg7 m ρ c), (h c _ (KernelIdeal.Gen.mem_uc KernelIdeal.main_arg8 (by decide))).trans (KernelIdeal.Gen.W21_main_arg8 m ρ c), (h c _ (KernelIdeal.Gen.mem_uc KernelIdeal.main_arg9 (by decide))).trans (KernelIdeal.Gen.W21_main_arg9 m ρ c), (h c _ (KernelIdeal.Gen.mem_uc KernelIdeal.main_arg10 (by decide))).trans (KernelIdeal.Gen.W21_main_arg10 m ρ c), (h c _ (KernelIdeal.Gen.mem_uc KernelIdeal.main_arg11 (by decide))).trans (KernelIdeal.Gen.W21_main_arg11 m ρ c), (h c _ (KernelIdeal.Gen.mem_uc KernelIdeal.main_arg12 (by decide))).trans (KernelIdeal.Gen.W21_main_arg12 m ρ c), (h c _ (KernelIdeal.Gen.mem_uc KernelIdeal.main_arg13 (by decide))).trans (KernelIdeal.Gen.W21_main_arg13 m ρ c), (h c _ (KernelIdeal.Gen.mem_uc KernelIdeal.main_arg14 (by decide))).trans (KernelIdeal.Gen.W21_main_arg14 m ρ c), (h c _ (KernelIdeal.Gen.mem_uc KernelIdeal.main_arg15 (by decide))).trans (KernelIdeal.Gen.W21_main_arg15 m ρ c), (h c _ (KernelIdeal.Gen.mem_uc KernelIdeal.main_arg16 (by decide))).trans (KernelIdeal.Gen.W21_main_arg16 m ρ c), (h c _ (KernelIdeal.Gen.mem_uc KernelIdeal.main_arg17 (by decide))).trans (KernelIdeal.Gen.W21_main_arg17 m ρ c), (h c _ (KernelIdeal.Gen.mem_uc KernelIdeal.main_arg18 (by decide))).trans (KernelIdeal.Gen.W21_main_arg18 m ρ c), (h c _ (KernelIdeal.Gen.mem_uc KernelIdeal.main_arg19 (by decide))).trans (KernelIdeal.Gen.W21_main_arg19 m ρ c)⟩) (Ker.run_main m ρ)

/-- The reference runs, and its result is what its last stretch leaves. -/
theorem ref_ends (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩ (fun r => ∀ c : Dev ReferenceIdeal.nD,
      r.2.mem ((c.tc : Thread ReferenceIdeal.nD ReferenceIdeal.τ).loc ReferenceIdeal.main_v473) = Ref.E2 m c (Proc.devRef .tc ReferenceIdeal.main_v473)
      ∧ r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4)
      ∧ r.2.mem ((c.tc : Thread ReferenceIdeal.nD ReferenceIdeal.τ).loc ReferenceIdeal.main_arg5) = m ((c.tc : Thread ReferenceIdeal.nD ReferenceIdeal.τ).loc ReferenceIdeal.main_arg5)
      ∧ r.2.mem ((c.tc : Thread ReferenceIdeal.nD ReferenceIdeal.τ).loc ReferenceIdeal.main_arg6) = m ((c.tc : Thread ReferenceIdeal.nD ReferenceIdeal.τ).loc ReferenceIdeal.main_arg6)
      ∧ r.2.mem ((c.tc : Thread ReferenceIdeal.nD ReferenceIdeal.τ).loc ReferenceIdeal.main_arg7) = m ((c.tc : Thread ReferenceIdeal.nD ReferenceIdeal.τ).loc ReferenceIdeal.main_arg7)
      ∧ r.2.mem ((c.tc : Thread ReferenceIdeal.nD ReferenceIdeal.τ).loc ReferenceIdeal.main_arg8) = m ((c.tc : Thread ReferenceIdeal.nD ReferenceIdeal.τ).loc ReferenceIdeal.main_arg8)
      ∧ r.2.mem ((c.tc : Thread ReferenceIdeal.nD ReferenceIdeal.τ).loc ReferenceIdeal.main_arg9) = m ((c.tc : Thread ReferenceIdeal.nD ReferenceIdeal.τ).loc ReferenceIdeal.main_arg9)
      ∧ r.2.mem ((c.tc : Thread ReferenceIdeal.nD ReferenceIdeal.τ).loc ReferenceIdeal.main_arg10) = m ((c.tc : Thread ReferenceIdeal.nD ReferenceIdeal.τ).loc ReferenceIdeal.main_arg10)
      ∧ r.2.mem ((c.tc : Thread ReferenceIdeal.nD ReferenceIdeal.τ).loc ReferenceIdeal.main_arg11) = m ((c.tc : Thread ReferenceIdeal.nD ReferenceIdeal.τ).loc ReferenceIdeal.main_arg11)
      ∧ r.2.mem ((c.tc : Thread ReferenceIdeal.nD ReferenceIdeal.τ).loc ReferenceIdeal.main_arg12) = m ((c.tc : Thread ReferenceIdeal.nD ReferenceIdeal.τ).loc ReferenceIdeal.main_arg12)
      ∧ r.2.mem ((c.tc : Thread ReferenceIdeal.nD ReferenceIdeal.τ).loc ReferenceIdeal.main_arg13) = m ((c.tc : Thread ReferenceIdeal.nD ReferenceIdeal.τ).loc ReferenceIdeal.main_arg13)
      ∧ r.2.mem ((c.tc : Thread ReferenceIdeal.nD ReferenceIdeal.τ).loc ReferenceIdeal.main_arg14) = m ((c.tc : Thread ReferenceIdeal.nD ReferenceIdeal.τ).loc ReferenceIdeal.main_arg14)
      ∧ r.2.mem ((c.tc : Thread ReferenceIdeal.nD ReferenceIdeal.τ).loc ReferenceIdeal.main_arg15) = m ((c.tc : Thread ReferenceIdeal.nD ReferenceIdeal.τ).loc ReferenceIdeal.main_arg15)
      ∧ r.2.mem ((c.tc : Thread ReferenceIdeal.nD ReferenceIdeal.τ).loc ReferenceIdeal.main_arg16) = m ((c.tc : Thread ReferenceIdeal.nD ReferenceIdeal.τ).loc ReferenceIdeal.main_arg16)
      ∧ r.2.mem ((c.tc : Thread ReferenceIdeal.nD ReferenceIdeal.τ).loc ReferenceIdeal.main_arg17) = m ((c.tc : Thread ReferenceIdeal.nD ReferenceIdeal.τ).loc ReferenceIdeal.main_arg17)
      ∧ r.2.mem ((c.tc : Thread ReferenceIdeal.nD ReferenceIdeal.τ).loc ReferenceIdeal.main_arg18) = m ((c.tc : Thread ReferenceIdeal.nD ReferenceIdeal.τ).loc ReferenceIdeal.main_arg18)
      ∧ r.2.mem ((c.tc : Thread ReferenceIdeal.nD ReferenceIdeal.τ).loc ReferenceIdeal.main_arg19) = m ((c.tc : Thread ReferenceIdeal.nD ReferenceIdeal.τ).loc ReferenceIdeal.main_arg19)) :=
  (θ_run (ReferenceIdeal.defs (F := Ideal)) (onTc (τ := ReferenceIdeal.τ) (ReferenceIdeal.main (F := Ideal))) _).mono (fun _ h c => ⟨h.1 c _ (Finset.mem_filter.mpr ⟨StableHlo.devRef_mem_tcRefs ReferenceIdeal.main_v473, by rw [Proc.isScoped_devRef]; exact Bool.false_ne_true⟩),
    Ref.arg_end h.1 c ReferenceIdeal.main_arg0 (by decide) rfl, Ref.arg_end h.1 c ReferenceIdeal.main_arg1 (by decide) rfl, Ref.arg_end h.1 c ReferenceIdeal.main_arg2 (by decide) rfl, Ref.arg_end h.1 c ReferenceIdeal.main_arg3 (by decide) rfl, Ref.arg_end h.1 c ReferenceIdeal.main_arg4 (by decide) rfl, Ref.arg_end h.1 c ReferenceIdeal.main_arg5 (by decide) rfl, Ref.arg_end h.1 c ReferenceIdeal.main_arg6 (by decide) rfl, Ref.arg_end h.1 c ReferenceIdeal.main_arg7 (by decide) rfl, Ref.arg_end h.1 c ReferenceIdeal.main_arg8 (by decide) rfl, Ref.arg_end h.1 c ReferenceIdeal.main_arg9 (by decide) rfl, Ref.arg_end h.1 c ReferenceIdeal.main_arg10 (by decide) rfl, Ref.arg_end h.1 c ReferenceIdeal.main_arg11 (by decide) rfl, Ref.arg_end h.1 c ReferenceIdeal.main_arg12 (by decide) rfl, Ref.arg_end h.1 c ReferenceIdeal.main_arg13 (by decide) rfl, Ref.arg_end h.1 c ReferenceIdeal.main_arg14 (by decide) rfl, Ref.arg_end h.1 c ReferenceIdeal.main_arg15 (by decide) rfl, Ref.arg_end h.1 c ReferenceIdeal.main_arg16 (by decide) rfl, Ref.arg_end h.1 c ReferenceIdeal.main_arg17 (by decide) rfl, Ref.arg_end h.1 c ReferenceIdeal.main_arg18 (by decide) rfl, Ref.arg_end h.1 c ReferenceIdeal.main_arg19 (by decide) rfl⟩) (Ref.run_main m ρ)

set_option maxHeartbeats 4000000 in
/-- The two programs end with the same array, the network's. -/
theorem algebra : algebraic_KernelIdeal_ReferenceIdeal_pre_finite (hKernelIdeal := Cert.KernelIdeal.Gen.facts)
    (hReferenceIdeal := Cert.ReferenceIdeal.Gen.facts) (hPre_finite := pre_facts) := fun m g m' g' hp ha =>
  ⟨fun c => KernelIdeal.Gen.W21 m g c (Proc.devRef .tc KernelIdeal.main_v139), ker_ends m g,
    (θ_run (ReferenceIdeal.defs (F := Ideal)) (onTc (τ := ReferenceIdeal.τ) (ReferenceIdeal.main (F := Ideal))) _).mono (fun _ h c =>
      ⟨(h c).1.trans (funext fun i => same m m' c g (net_real m c hp) (
        let p := ha c
        ⟨fun i => fit4 (n0 := 2) (n1 := 768) (n2 := 16) (n3 := 16) p.1 i,
      fun i => fit4 (n0 := 2) (n1 := 384) (n2 := 32) (n3 := 32) p.2.1 i,
      fun i => fit2 (n0 := 1536) (n1 := 768) p.2.2.1 i,
      fun i => fit1 (n0 := 384) p.2.2.2.1 i,
      fun i => fit1 (n0 := 384) p.2.2.2.2.1 i,
      fun i => fit2 (n0 := 384) (n1 := 768) p.2.2.2.2.2.1 i,
      fun i => fit1 (n0 := 384) p.2.2.2.2.2.2.1 i,
      fun i => fit2 (n0 := 2) (n1 := 384) p.2.2.2.2.2.2.2.1 i,
      fun i => fit2 (n0 := 2) (n1 := 384) p.2.2.2.2.2.2.2.2.1 i,
      fun i => fit3 (n0 := 2) (n1 := 1536) (n2 := 384) p.2.2.2.2.2.2.2.2.2.1 i,
      fun i => fit4 (n0 := 2) (n1 := 768) (n2 := 3) (n3 := 3) p.2.2.2.2.2.2.2.2.2.2.1 i,
      fun i => fit2 (n0 := 2) (n1 := 768) p.2.2.2.2.2.2.2.2.2.2.2.1 i,
      fun i => fit4 (n0 := 2) (n1 := 4) (n2 := 56) (n3 := 768) p.2.2.2.2.2.2.2.2.2.2.2.2.1 i,
      fun i => fit4 (n0 := 2) (n1 := 4) (n2 := 768) (n3 := 24) p.2.2.2.2.2.2.2.2.2.2.2.2.2.1 i,
      fun i => fit3 (n0 := 2) (n1 := 4) (n2 := 768) p.2.2.2.2.2.2.2.2.2.2.2.2.2.2.1 i,
      fun i => fit4 (n0 := 2) (n1 := 4) (n2 := 768) (n3 := 16) p.2.2.2.2.2.2.2.2.2.2.2.2.2.2.2.1 i,
      fun i => fit3 (n0 := 2) (n1 := 4) (n2 := 768) p.2.2.2.2.2.2.2.2.2.2.2.2.2.2.2.2.1 i,
      fun i => fit2 (n0 := 2) (n1 := 768) p.2.2.2.2.2.2.2.2.2.2.2.2.2.2.2.2.2.1 i,
      fun i => fit2 (n0 := 2) (n1 := 768) p.2.2.2.2.2.2.2.2.2.2.2.2.2.2.2.2.2.2.1 i,
      fun i => fit3 (n0 := 2) (n1 := 384) (n2 := 768) p.2.2.2.2.2.2.2.2.2.2.2.2.2.2.2.2.2.2.2 i⟩) i), (h c).2⟩) (ref_ends m' g')⟩

end Cert.Proof
-- ==== Proof.lean ====
/-
  The certificate: the kernel and its reference run, keep their arguments and, on finite arguments, end with the same array.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefKeep
public import proofs.«01_k».proof.Proof.Alg
public import Idealize.ShloMosaic.Adequacy
public import Idealize.ShloMosaic.Init

@[expose] public section

noncomputable section

namespace Cert.Proof

open Idealize.ShloMosaic Idealize.SL.Sem Cert.Kernel

/-- The kernel as printed runs, keeps its arguments and leaves the counters at zero. -/
theorem frame_P : quiescent_Kernel (hKernel := Cert.Kernel.Gen.facts) :=
  fun m ρ _ => Cert.Kernel.Gen.frame m ρ

/-- So does the kernel over the extended reals. -/
theorem frame_PI : quiescent_KernelIdeal (hKernelIdeal := Cert.KernelIdeal.Gen.facts) :=
  fun m ρ _ => Cert.KernelIdeal.Gen.frame m ρ

/-- So does the reference. -/
theorem frame_RI : quiescent_ReferenceIdeal (hReferenceIdeal := Cert.ReferenceIdeal.Gen.facts) :=
  fun m ρ _ => Ref.frame m ρ

/-- On finite arguments too, the kernel over the extended reals, -/
theorem frame_PI_finite : quiescent_KernelIdeal_pre_finite (hKernelIdeal := Cert.KernelIdeal.Gen.facts) (hPre_finite := pre_facts) :=
  fun m ρ _ => Cert.KernelIdeal.Gen.frame m ρ

/-- and the reference. -/
theorem frame_RI_finite : quiescent_ReferenceIdeal_pre_finite (hReferenceIdeal := Cert.ReferenceIdeal.Gen.facts) (hPre_finite := pre_facts) :=
  fun m ρ _ => Ref.frame m ρ

/-- The one named constant stands for the word that the kernel holds. -/
theorem named : preserves_Kernel_KernelIdeal :=
  IdealRules.named_const.statement _ _ _ _ _ (by simp [Cert.KernelIdeal.κ])

/-- The frames of the three programs, what the named constant says, and that the kernel and the reference end with the same array. -/
theorem claim : Cert.Claim :=
  ⟨Cert.Kernel.Gen.facts, Cert.KernelIdeal.Gen.facts, Cert.ReferenceIdeal.Gen.facts, pre_facts,
    frame_P, frame_PI, frame_PI_finite, frame_RI, frame_RI_finite, named, algebra⟩

end Cert.Proof

end
